-- ==== Defs.lean ====
def Pre_OutBwd (m : (ℓ : Loc Cert.OutBwd.nD Cert.OutBwd.τ Cert.OutBwd.sig) → Buf (Elt Bits) ℓ) : Prop :=
  True

def Pre_OutBwdIdeal (m : (ℓ : Loc Cert.OutBwdIdeal.nD Cert.OutBwdIdeal.τ Cert.OutBwdIdeal.sig) → Buf (Elt Ideal) ℓ) : Prop :=
  True

def Pre_OutBwdRefIdeal (m : (ℓ : Loc Cert.OutBwdRefIdeal.nD Cert.OutBwdRefIdeal.τ Cert.OutBwdRefIdeal.sig) → Buf (Elt Ideal) ℓ) : Prop :=
  True

def Pre_GluBwd (m : (ℓ : Loc Cert.GluBwd.nD Cert.GluBwd.τ Cert.GluBwd.sig) → Buf (Elt Bits) ℓ) : Prop :=
  True

def Pre_GluBwdIdeal (m : (ℓ : Loc Cert.GluBwdIdeal.nD Cert.GluBwdIdeal.τ Cert.GluBwdIdeal.sig) → Buf (Elt Ideal) ℓ) : Prop :=
  True

def Pre_GluBwdIdeal_glu_finite [hPre_glu_finite : Cert.Pre_glu_finite.Facts] (m : (ℓ : Loc Cert.GluBwdIdeal.nD Cert.GluBwdIdeal.τ Cert.GluBwdIdeal.sig) → Buf (Elt Ideal) ℓ) : Prop :=
  ∀ c : Dev Cert.GluBwdIdeal.nD,
    (Cert.Pre_glu_finite.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4))).1 = (fun _ => 1#1)
    ∧ (Cert.Pre_glu_finite.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4))).2.1 = (fun _ => 1#1)
    ∧ (Cert.Pre_glu_finite.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4))).2.2.1 = (fun _ => 1#1)
    ∧ (Cert.Pre_glu_finite.fn (F := Ideal) (m ((c.tc : Thread Cert.GluBwdIdeal.nD Cert.GluBwdIdeal.τ).loc Cert.GluBwdIdeal.main_arg0)) (m ((c.tc : Thread Cert.GluBwdIdeal.nD Cert.GluBwdIdeal.τ).loc Cert.GluBwdIdeal.main_arg1)) (m ((c.tc : Thread Cert.GluBwdIdeal.nD Cert.GluBwdIdeal.τ).loc Cert.GluBwdIdeal.main_arg2)) (m ((c.tc : Thread Cert.GluBwdIdeal.nD Cert.GluBwdIdeal.τ).loc Cert.GluBwdIdeal.main_arg3)) (m ((c.tc : Thread Cert.GluBwdIdeal.nD Cert.GluBwdIdeal.τ).loc Cert.GluBwdIdeal.main_arg4))).2.2.2 = (fun _ => 1#1)

def Pre_GluBwdRefIdeal (m : (ℓ : Loc Cert.GluBwdRefIdeal.nD Cert.GluBwdRefIdeal.τ Cert.GluBwdRefIdeal.sig) → Buf (Elt Ideal) ℓ) : Prop :=
  True

def Pre_GluBwdRefIdeal_glu_finite [hPre_glu_finite : Cert.Pre_glu_finite.Facts] (m : (ℓ : Loc Cert.GluBwdRefIdeal.nD Cert.GluBwdRefIdeal.τ Cert.GluBwdRefIdeal.sig) → Buf (Elt Ideal) ℓ) : Prop :=
  ∀ c : Dev Cert.GluBwdRefIdeal.nD,
    (Cert.Pre_glu_finite.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3)) (m ((c.tc : Thread Cert.GluBwdRefIdeal.nD Cert.GluBwdRefIdeal.τ).loc Cert.GluBwdRefIdeal.main_arg4))).1 = (fun _ => 1#1)
    ∧ (Cert.Pre_glu_finite.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3)) (m ((c.tc : Thread Cert.GluBwdRefIdeal.nD Cert.GluBwdRefIdeal.τ).loc Cert.GluBwdRefIdeal.main_arg4))).2.1 = (fun _ => 1#1)
    ∧ (Cert.Pre_glu_finite.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3)) (m ((c.tc : Thread Cert.GluBwdRefIdeal.nD Cert.GluBwdRefIdeal.τ).loc Cert.GluBwdRefIdeal.main_arg4))).2.2.1 = (fun _ => 1#1)
    ∧ (Cert.Pre_glu_finite.fn (F := Ideal) (m ((c.tc : Thread Cert.GluBwdRefIdeal.nD Cert.GluBwdRefIdeal.τ).loc Cert.GluBwdRefIdeal.main_arg0)) (m ((c.tc : Thread Cert.GluBwdRefIdeal.nD Cert.GluBwdRefIdeal.τ).loc Cert.GluBwdRefIdeal.main_arg1)) (m ((c.tc : Thread Cert.GluBwdRefIdeal.nD Cert.GluBwdRefIdeal.τ).loc Cert.GluBwdRefIdeal.main_arg2)) (m ((c.tc : Thread Cert.GluBwdRefIdeal.nD Cert.GluBwdRefIdeal.τ).loc Cert.GluBwdRefIdeal.main_arg3)) (m ((c.tc : Thread Cert.GluBwdRefIdeal.nD Cert.GluBwdRefIdeal.τ).loc Cert.GluBwdRefIdeal.main_arg4))).2.2.2 = (fun _ => 1#1)

def Pre_ParamBwd (m : (ℓ : Loc Cert.ParamBwd.nD Cert.ParamBwd.τ Cert.ParamBwd.sig) → Buf (Elt Bits) ℓ) : Prop :=
  True

def Pre_ParamBwdIdeal (m : (ℓ : Loc Cert.ParamBwdIdeal.nD Cert.ParamBwdIdeal.τ Cert.ParamBwdIdeal.sig) → Buf (Elt Ideal) ℓ) : Prop :=
  True

def Pre_ParamBwdIdeal_param_finite [hPre_param_finite : Cert.Pre_param_finite.Facts] (m : (ℓ : Loc Cert.ParamBwdIdeal.nD Cert.ParamBwdIdeal.τ Cert.ParamBwdIdeal.sig) → Buf (Elt Ideal) ℓ) : Prop :=
  ∀ c : Dev Cert.ParamBwdIdeal.nD,
    (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).1 = (fun _ => 1#1)
    ∧ (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).2.1 = (fun _ => 1#1)
    ∧ (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).2.2.1 = (fun _ => 1#1)
    ∧ (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).2.2.2.1 = (fun _ => 1#1)
    ∧ (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).2.2.2.2.1 = (fun _ => 1#1)
    ∧ (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).2.2.2.2.2.1 = (fun _ => 1#1)
    ∧ (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).2.2.2.2.2.2.1 = (fun _ => 1#1)
    ∧ (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).2.2.2.2.2.2.2.1 = (fun _ => 1#1)
    ∧ (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).2.2.2.2.2.2.2.2.1 = (fun _ => 1#1)
    ∧ (Cert.Pre_param_finite.fn (F := Ideal) (m ((c.tc : Thread Cert.ParamBwdIdeal.nD Cert.ParamBwdIdeal.τ).loc Cert.ParamBwdIdeal.main_arg0)) (m ((c.tc : Thread Cert.ParamBwdIdeal.nD Cert.ParamBwdIdeal.τ).loc Cert.ParamBwdIdeal.main_arg1)) (m ((c.tc : Thread Cert.ParamBwdIdeal.nD Cert.ParamBwdIdeal.τ).loc Cert.ParamBwdIdeal.main_arg2)) (m ((c.tc : Thread Cert.ParamBwdIdeal.nD Cert.ParamBwdIdeal.τ).loc Cert.ParamBwdIdeal.main_arg3)) (m ((c.tc : Thread Cert.ParamBwdIdeal.nD Cert.ParamBwdIdeal.τ).loc Cert.ParamBwdIdeal.main_arg4)) (m ((c.tc : Thread Cert.ParamBwdIdeal.nD Cert.ParamBwdIdeal.τ).loc Cert.ParamBwdIdeal.main_arg5)) (m ((c.tc : Thread Cert.ParamBwdIdeal.nD Cert.ParamBwdIdeal.τ).loc Cert.ParamBwdIdeal.main_arg6)) (m ((c.tc : Thread Cert.ParamBwdIdeal.nD Cert.ParamBwdIdeal.τ).loc Cert.ParamBwdIdeal.main_arg7)) (m ((c.tc : Thread Cert.ParamBwdIdeal.nD Cert.ParamBwdIdeal.τ).loc Cert.ParamBwdIdeal.main_arg8))).2.2.2.2.2.2.2.2.2 = (fun _ => 1#1)

def Pre_ParamBwdRefIdeal (m : (ℓ : Loc Cert.ParamBwdRefIdeal.nD Cert.ParamBwdRefIdeal.τ Cert.ParamBwdRefIdeal.sig) → Buf (Elt Ideal) ℓ) : Prop :=
  True

def Pre_ParamBwdRefIdeal_param_finite [hPre_param_finite : Cert.Pre_param_finite.Facts] (m : (ℓ : Loc Cert.ParamBwdRefIdeal.nD Cert.ParamBwdRefIdeal.τ Cert.ParamBwdRefIdeal.sig) → Buf (Elt Ideal) ℓ) : Prop :=
  ∀ c : Dev Cert.ParamBwdRefIdeal.nD,
    (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).1 = (fun _ => 1#1)
    ∧ (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).2.1 = (fun _ => 1#1)
    ∧ (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).2.2.1 = (fun _ => 1#1)
    ∧ (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).2.2.2.1 = (fun _ => 1#1)
    ∧ (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).2.2.2.2.1 = (fun _ => 1#1)
    ∧ (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).2.2.2.2.2.1 = (fun _ => 1#1)
    ∧ (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).2.2.2.2.2.2.1 = (fun _ => 1#1)
    ∧ (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).2.2.2.2.2.2.2.1 = (fun _ => 1#1)
    ∧ (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).2.2.2.2.2.2.2.2.1 = (fun _ => 1#1)
    ∧ (Cert.Pre_param_finite.fn (F := Ideal) (m ((c.tc : Thread Cert.ParamBwdRefIdeal.nD Cert.ParamBwdRefIdeal.τ).loc Cert.ParamBwdRefIdeal.main_arg0)) (m ((c.tc : Thread Cert.ParamBwdRefIdeal.nD Cert.ParamBwdRefIdeal.τ).loc Cert.ParamBwdRefIdeal.main_arg1)) (m ((c.tc : Thread Cert.ParamBwdRefIdeal.nD Cert.ParamBwdRefIdeal.τ).loc Cert.ParamBwdRefIdeal.main_arg2)) (m ((c.tc : Thread Cert.ParamBwdRefIdeal.nD Cert.ParamBwdRefIdeal.τ).loc Cert.ParamBwdRefIdeal.main_arg3)) (m ((c.tc : Thread Cert.ParamBwdRefIdeal.nD Cert.ParamBwdRefIdeal.τ).loc Cert.ParamBwdRefIdeal.main_arg4)) (m ((c.tc : Thread Cert.ParamBwdRefIdeal.nD Cert.ParamBwdRefIdeal.τ).loc Cert.ParamBwdRefIdeal.main_arg5)) (m ((c.tc : Thread Cert.ParamBwdRefIdeal.nD Cert.ParamBwdRefIdeal.τ).loc Cert.ParamBwdRefIdeal.main_arg6)) (m ((c.tc : Thread Cert.ParamBwdRefIdeal.nD Cert.ParamBwdRefIdeal.τ).loc Cert.ParamBwdRefIdeal.main_arg7)) (m ((c.tc : Thread Cert.ParamBwdRefIdeal.nD Cert.ParamBwdRefIdeal.τ).loc Cert.ParamBwdRefIdeal.main_arg8))).2.2.2.2.2.2.2.2.2 = (fun _ => 1#1)

def Pre_InBwd (m : (ℓ : Loc Cert.InBwd.nD Cert.InBwd.τ Cert.InBwd.sig) → Buf (Elt Bits) ℓ) : Prop :=
  True

def Pre_InBwdIdeal (m : (ℓ : Loc Cert.InBwdIdeal.nD Cert.InBwdIdeal.τ Cert.InBwdIdeal.sig) → Buf (Elt Ideal) ℓ) : Prop :=
  True

def Pre_InBwdRefIdeal (m : (ℓ : Loc Cert.InBwdRefIdeal.nD Cert.InBwdRefIdeal.τ Cert.InBwdRefIdeal.sig) → Buf (Elt Ideal) ℓ) : Prop :=
  True

def Pre_Loss (m : (ℓ : Loc Cert.Loss.nD Cert.Loss.τ Cert.Loss.sig) → Buf (Elt Bits) ℓ) : Prop :=
  True

def Pre_LossIdeal (m : (ℓ : Loc Cert.LossIdeal.nD Cert.LossIdeal.τ Cert.LossIdeal.sig) → Buf (Elt Ideal) ℓ) : Prop :=
  True

def Pre_LossRefIdeal (m : (ℓ : Loc Cert.LossRefIdeal.nD Cert.LossRefIdeal.τ Cert.LossRefIdeal.sig) → Buf (Elt Ideal) ℓ) : Prop :=
  True

def Pre_AttnFwd (m : (ℓ : Loc Cert.AttnFwd.nD Cert.AttnFwd.τ Cert.AttnFwd.sig) → Buf (Elt Bits) ℓ) : Prop :=
  True

def Pre_AttnFwdIdeal (m : (ℓ : Loc Cert.AttnFwdIdeal.nD Cert.AttnFwdIdeal.τ Cert.AttnFwdIdeal.sig) → Buf (Elt Ideal) ℓ) : Prop :=
  True

def Pre_AttnFwdIdeal_attn_fwd_finite [hPre_attn_fwd_finite : Cert.Pre_attn_fwd_finite.Facts] (m : (ℓ : Loc Cert.AttnFwdIdeal.nD Cert.AttnFwdIdeal.τ Cert.AttnFwdIdeal.sig) → Buf (Elt Ideal) ℓ) : Prop :=
  ∀ c : Dev Cert.AttnFwdIdeal.nD,
    (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.1 = (fun _ => 1#1)
    ∧ (Cert.Pre_attn_fwd_finite.fn (F := Ideal) (m ((c.tc : Thread Cert.AttnFwdIdeal.nD Cert.AttnFwdIdeal.τ).loc Cert.AttnFwdIdeal.main_arg0)) (m ((c.tc : Thread Cert.AttnFwdIdeal.nD Cert.AttnFwdIdeal.τ).loc Cert.AttnFwdIdeal.main_arg1)) (m ((c.tc : Thread Cert.AttnFwdIdeal.nD Cert.AttnFwdIdeal.τ).loc Cert.AttnFwdIdeal.main_arg2)) (m ((c.tc : Thread Cert.AttnFwdIdeal.nD Cert.AttnFwdIdeal.τ).loc Cert.AttnFwdIdeal.main_arg3)) (m ((c.tc : Thread Cert.AttnFwdIdeal.nD Cert.AttnFwdIdeal.τ).loc Cert.AttnFwdIdeal.main_arg4))).2.2 = (fun _ => 1#1)

def Pre_AttnFwdRefIdeal (m : (ℓ : Loc Cert.AttnFwdRefIdeal.nD Cert.AttnFwdRefIdeal.τ Cert.AttnFwdRefIdeal.sig) → Buf (Elt Ideal) ℓ) : Prop :=
  True

def Pre_AttnFwdRefIdeal_attn_fwd_finite [hPre_attn_fwd_finite : Cert.Pre_attn_fwd_finite.Facts] (m : (ℓ : Loc Cert.AttnFwdRefIdeal.nD Cert.AttnFwdRefIdeal.τ Cert.AttnFwdRefIdeal.sig) → Buf (Elt Ideal) ℓ) : Prop :=
  ∀ c : Dev Cert.AttnFwdRefIdeal.nD,
    (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.1 = (fun _ => 1#1)
    ∧ (Cert.Pre_attn_fwd_finite.fn (F := Ideal) (m ((c.tc : Thread Cert.AttnFwdRefIdeal.nD Cert.AttnFwdRefIdeal.τ).loc Cert.AttnFwdRefIdeal.main_arg0)) (m ((c.tc : Thread Cert.AttnFwdRefIdeal.nD Cert.AttnFwdRefIdeal.τ).loc Cert.AttnFwdRefIdeal.main_arg1)) (m ((c.tc : Thread Cert.AttnFwdRefIdeal.nD Cert.AttnFwdRefIdeal.τ).loc Cert.AttnFwdRefIdeal.main_arg2)) (m ((c.tc : Thread Cert.AttnFwdRefIdeal.nD Cert.AttnFwdRefIdeal.τ).loc Cert.AttnFwdRefIdeal.main_arg3)) (m ((c.tc : Thread Cert.AttnFwdRefIdeal.nD Cert.AttnFwdRefIdeal.τ).loc Cert.AttnFwdRefIdeal.main_arg4))).2.2 = (fun _ => 1#1)

def Pre_Gate (m : (ℓ : Loc Cert.Gate.nD Cert.Gate.τ Cert.Gate.sig) → Buf (Elt Bits) ℓ) : Prop :=
  True

def Pre_GateIdeal (m : (ℓ : Loc Cert.GateIdeal.nD Cert.GateIdeal.τ Cert.GateIdeal.sig) → Buf (Elt Ideal) ℓ) : Prop :=
  True

def Pre_GateRefIdeal (m : (ℓ : Loc Cert.GateRefIdeal.nD Cert.GateRefIdeal.τ Cert.GateRefIdeal.sig) → Buf (Elt Ideal) ℓ) : Prop :=
  True

def Pre_Prep (m : (ℓ : Loc Cert.Prep.nD Cert.Prep.τ Cert.Prep.sig) → Buf (Elt Bits) ℓ) : Prop :=
  True

def Pre_PrepIdeal (m : (ℓ : Loc Cert.PrepIdeal.nD Cert.PrepIdeal.τ Cert.PrepIdeal.sig) → Buf (Elt Ideal) ℓ) : Prop :=
  True

def Pre_PrepIdeal_prep_finite [hPre_prep_finite : Cert.Pre_prep_finite.Facts] (m : (ℓ : Loc Cert.PrepIdeal.nD Cert.PrepIdeal.τ Cert.PrepIdeal.sig) → Buf (Elt Ideal) ℓ) : Prop :=
  ∀ c : Dev Cert.PrepIdeal.nD,
    (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))).1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))).2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))).2.2.1 = (fun _ => 1#1)
    ∧ (Cert.Pre_prep_finite.fn (F := Ideal) (m ((c.tc : Thread Cert.PrepIdeal.nD Cert.PrepIdeal.τ).loc Cert.PrepIdeal.main_arg0)) (m ((c.tc : Thread Cert.PrepIdeal.nD Cert.PrepIdeal.τ).loc Cert.PrepIdeal.main_arg1)) (m ((c.tc : Thread Cert.PrepIdeal.nD Cert.PrepIdeal.τ).loc Cert.PrepIdeal.main_arg2)) (m ((c.tc : Thread Cert.PrepIdeal.nD Cert.PrepIdeal.τ).loc Cert.PrepIdeal.main_arg3)) (m ((c.tc : Thread Cert.PrepIdeal.nD Cert.PrepIdeal.τ).loc Cert.PrepIdeal.main_arg4))).2.2.2 = (fun _ => 1#1)

def Pre_PrepRefIdeal (m : (ℓ : Loc Cert.PrepRefIdeal.nD Cert.PrepRefIdeal.τ Cert.PrepRefIdeal.sig) → Buf (Elt Ideal) ℓ) : Prop :=
  True

def Pre_PrepRefIdeal_prep_finite [hPre_prep_finite : Cert.Pre_prep_finite.Facts] (m : (ℓ : Loc Cert.PrepRefIdeal.nD Cert.PrepRefIdeal.τ Cert.PrepRefIdeal.sig) → Buf (Elt Ideal) ℓ) : Prop :=
  ∀ c : Dev Cert.PrepRefIdeal.nD,
    (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4))).1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4))).2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4))).2.2.1 = (fun _ => 1#1)
    ∧ (Cert.Pre_prep_finite.fn (F := Ideal) (m ((c.tc : Thread Cert.PrepRefIdeal.nD Cert.PrepRefIdeal.τ).loc Cert.PrepRefIdeal.main_arg0)) (m ((c.tc : Thread Cert.PrepRefIdeal.nD Cert.PrepRefIdeal.τ).loc Cert.PrepRefIdeal.main_arg1)) (m ((c.tc : Thread Cert.PrepRefIdeal.nD Cert.PrepRefIdeal.τ).loc Cert.PrepRefIdeal.main_arg2)) (m ((c.tc : Thread Cert.PrepRefIdeal.nD Cert.PrepRefIdeal.τ).loc Cert.PrepRefIdeal.main_arg3)) (m ((c.tc : Thread Cert.PrepRefIdeal.nD Cert.PrepRefIdeal.τ).loc Cert.PrepRefIdeal.main_arg4))).2.2.2 = (fun _ => 1#1)

def Pre_Rope (m : (ℓ : Loc Cert.Rope.nD Cert.Rope.τ Cert.Rope.sig) → Buf (Elt Bits) ℓ) : Prop :=
  True

def Pre_RopeIdeal (m : (ℓ : Loc Cert.RopeIdeal.nD Cert.RopeIdeal.τ Cert.RopeIdeal.sig) → Buf (Elt Ideal) ℓ) : Prop :=
  True

def Pre_RopeRefIdeal (m : (ℓ : Loc Cert.RopeRefIdeal.nD Cert.RopeRefIdeal.τ Cert.RopeRefIdeal.sig) → Buf (Elt Ideal) ℓ) : Prop :=
  True

def Pre_GradIn (m : (ℓ : Loc Cert.GradIn.nD Cert.GradIn.τ Cert.GradIn.sig) → Buf (Elt Bits) ℓ) : Prop :=
  True

def Pre_GradInIdeal (m : (ℓ : Loc Cert.GradInIdeal.nD Cert.GradInIdeal.τ Cert.GradInIdeal.sig) → Buf (Elt Ideal) ℓ) : Prop :=
  True

def Pre_GradInRefIdeal (m : (ℓ : Loc Cert.GradInRefIdeal.nD Cert.GradInRefIdeal.τ Cert.GradInRefIdeal.sig) → Buf (Elt Ideal) ℓ) : Prop :=
  True

def Pre_AdamSmall (m : (ℓ : Loc Cert.AdamSmall.nD Cert.AdamSmall.τ Cert.AdamSmall.sig) → Buf (Elt Bits) ℓ) : Prop :=
  True

def Pre_AdamSmallIdeal (m : (ℓ : Loc Cert.AdamSmallIdeal.nD Cert.AdamSmallIdeal.τ Cert.AdamSmallIdeal.sig) → Buf (Elt Ideal) ℓ) : Prop :=
  True

def Pre_AdamSmallRefIdeal (m : (ℓ : Loc Cert.AdamSmallRefIdeal.nD Cert.AdamSmallRefIdeal.τ Cert.AdamSmallRefIdeal.sig) → Buf (Elt Ideal) ℓ) : Prop :=
  True

def Pre_AdamB (m : (ℓ : Loc Cert.AdamB.nD Cert.AdamB.τ Cert.AdamB.sig) → Buf (Elt Bits) ℓ) : Prop :=
  True

def Pre_AdamBIdeal (m : (ℓ : Loc Cert.AdamBIdeal.nD Cert.AdamBIdeal.τ Cert.AdamBIdeal.sig) → Buf (Elt Ideal) ℓ) : Prop :=
  True

def Pre_AdamBRefIdeal (m : (ℓ : Loc Cert.AdamBRefIdeal.nD Cert.AdamBRefIdeal.τ Cert.AdamBRefIdeal.sig) → Buf (Elt Ideal) ℓ) : Prop :=
  True

def Pre_AdamIn (m : (ℓ : Loc Cert.AdamIn.nD Cert.AdamIn.τ Cert.AdamIn.sig) → Buf (Elt Bits) ℓ) : Prop :=
  True

def Pre_AdamInIdeal (m : (ℓ : Loc Cert.AdamInIdeal.nD Cert.AdamInIdeal.τ Cert.AdamInIdeal.sig) → Buf (Elt Ideal) ℓ) : Prop :=
  True

def Pre_AdamInRefIdeal (m : (ℓ : Loc Cert.AdamInRefIdeal.nD Cert.AdamInRefIdeal.τ Cert.AdamInRefIdeal.sig) → Buf (Elt Ideal) ℓ) : Prop :=
  True

def Pre_PairSum [hPre_a_half : Cert.Pre_a_half.Facts] (m : (ℓ : Loc Cert.PairSum.nD Cert.PairSum.τ Cert.PairSum.sig) → Buf (Elt Bits) ℓ) : Prop :=
  ∀ c : Dev Cert.PairSum.nD,
    (Cert.Pre_a_half.fn (F := Bits) (m ((c.tc : Thread Cert.PairSum.nD Cert.PairSum.τ).loc Cert.PairSum.main_arg0)) (m ((c.tc : Thread Cert.PairSum.nD Cert.PairSum.τ).loc Cert.PairSum.main_arg1)) (m ((c.tc : Thread Cert.PairSum.nD Cert.PairSum.τ).loc Cert.PairSum.main_arg2))) = (fun _ => 1#1)

def Pre_PairSumIdeal [hPre_a_half : Cert.Pre_a_half.Facts] (m : (ℓ : Loc Cert.PairSumIdeal.nD Cert.PairSumIdeal.τ Cert.PairSumIdeal.sig) → Buf (Elt Ideal) ℓ) : Prop :=
  ∀ c : Dev Cert.PairSumIdeal.nD,
    (Cert.Pre_a_half.fn (F := Ideal) (m ((c.tc : Thread Cert.PairSumIdeal.nD Cert.PairSumIdeal.τ).loc Cert.PairSumIdeal.main_arg0)) (m ((c.tc : Thread Cert.PairSumIdeal.nD Cert.PairSumIdeal.τ).loc Cert.PairSumIdeal.main_arg1)) (m ((c.tc : Thread Cert.PairSumIdeal.nD Cert.PairSumIdeal.τ).loc Cert.PairSumIdeal.main_arg2))) = (fun _ => 1#1)

def Pre_PairSumRefIdeal (m : (ℓ : Loc Cert.PairSumRefIdeal.nD Cert.PairSumRefIdeal.τ Cert.PairSumRefIdeal.sig) → Buf (Elt Ideal) ℓ) : Prop :=
  True

def Pre_PairSumRefIdeal_a_half [hPre_a_half : Cert.Pre_a_half.Facts] (m : (ℓ : Loc Cert.PairSumRefIdeal.nD Cert.PairSumRefIdeal.τ Cert.PairSumRefIdeal.sig) → Buf (Elt Ideal) ℓ) : Prop :=
  ∀ c : Dev Cert.PairSumRefIdeal.nD,
    (Cert.Pre_a_half.fn (F := Ideal) (m ((c.tc : Thread Cert.PairSumRefIdeal.nD Cert.PairSumRefIdeal.τ).loc Cert.PairSumRefIdeal.main_arg0)) (m ((c.tc : Thread Cert.PairSumRefIdeal.nD Cert.PairSumRefIdeal.τ).loc Cert.PairSumRefIdeal.main_arg1)) (m ((c.tc : Thread Cert.PairSumRefIdeal.nD Cert.PairSumRefIdeal.τ).loc Cert.PairSumRefIdeal.main_arg2))) = (fun _ => 1#1)

def Pre_PeerSum [hPre_a_chip : Cert.Pre_a_chip.Facts] (m : (ℓ : Loc Cert.PeerSum.nD Cert.PeerSum.τ Cert.PeerSum.sig) → Buf (Elt Bits) ℓ) : Prop :=
  ∀ c : Dev Cert.PeerSum.nD,
    (Cert.Pre_a_chip.fn (F := Bits) (m ((c.tc : Thread Cert.PeerSum.nD Cert.PeerSum.τ).loc Cert.PeerSum.main_arg0)) (m ((c.tc : Thread Cert.PeerSum.nD Cert.PeerSum.τ).loc Cert.PeerSum.main_arg1)) (m ((c.tc : Thread Cert.PeerSum.nD Cert.PeerSum.τ).loc Cert.PeerSum.main_arg2))) = (fun _ => 1#1)

def Pre_PeerSumIdeal [hPre_a_chip : Cert.Pre_a_chip.Facts] (m : (ℓ : Loc Cert.PeerSumIdeal.nD Cert.PeerSumIdeal.τ Cert.PeerSumIdeal.sig) → Buf (Elt Ideal) ℓ) : Prop :=
  ∀ c : Dev Cert.PeerSumIdeal.nD,
    (Cert.Pre_a_chip.fn (F := Ideal) (m ((c.tc : Thread Cert.PeerSumIdeal.nD Cert.PeerSumIdeal.τ).loc Cert.PeerSumIdeal.main_arg0)) (m ((c.tc : Thread Cert.PeerSumIdeal.nD Cert.PeerSumIdeal.τ).loc Cert.PeerSumIdeal.main_arg1)) (m ((c.tc : Thread Cert.PeerSumIdeal.nD Cert.PeerSumIdeal.τ).loc Cert.PeerSumIdeal.main_arg2))) = (fun _ => 1#1)

def Pre_PeerSumRefIdeal (m : (ℓ : Loc Cert.PeerSumRefIdeal.nD Cert.PeerSumRefIdeal.τ Cert.PeerSumRefIdeal.sig) → Buf (Elt Ideal) ℓ) : Prop :=
  True

def Pre_PeerSumRefIdeal_a_chip [hPre_a_chip : Cert.Pre_a_chip.Facts] (m : (ℓ : Loc Cert.PeerSumRefIdeal.nD Cert.PeerSumRefIdeal.τ Cert.PeerSumRefIdeal.sig) → Buf (Elt Ideal) ℓ) : Prop :=
  ∀ c : Dev Cert.PeerSumRefIdeal.nD,
    (Cert.Pre_a_chip.fn (F := Ideal) (m ((c.tc : Thread Cert.PeerSumRefIdeal.nD Cert.PeerSumRefIdeal.τ).loc Cert.PeerSumRefIdeal.main_arg0)) (m ((c.tc : Thread Cert.PeerSumRefIdeal.nD Cert.PeerSumRefIdeal.τ).loc Cert.PeerSumRefIdeal.main_arg1)) (m ((c.tc : Thread Cert.PeerSumRefIdeal.nD Cert.PeerSumRefIdeal.τ).loc Cert.PeerSumRefIdeal.main_arg2))) = (fun _ => 1#1)

def Pre_SlotSum (m : (ℓ : Loc Cert.SlotSum.nD Cert.SlotSum.τ Cert.SlotSum.sig) → Buf (Elt Bits) ℓ) : Prop :=
  True

def Pre_SlotSumIdeal (m : (ℓ : Loc Cert.SlotSumIdeal.nD Cert.SlotSumIdeal.τ Cert.SlotSumIdeal.sig) → Buf (Elt Ideal) ℓ) : Prop :=
  True

def Pre_SlotSumRefIdeal (m : (ℓ : Loc Cert.SlotSumRefIdeal.nD Cert.SlotSumRefIdeal.τ Cert.SlotSumRefIdeal.sig) → Buf (Elt Ideal) ℓ) : Prop :=
  True

def Pre_Pack (m : (ℓ : Loc Cert.Pack.nD Cert.Pack.τ Cert.Pack.sig) → Buf (Elt Bits) ℓ) : Prop :=
  True

def Pre_PackIdeal (m : (ℓ : Loc Cert.PackIdeal.nD Cert.PackIdeal.τ Cert.PackIdeal.sig) → Buf (Elt Ideal) ℓ) : Prop :=
  True

def Pre_PackRefIdeal (m : (ℓ : Loc Cert.PackRefIdeal.nD Cert.PackRefIdeal.τ Cert.PackRefIdeal.sig) → Buf (Elt Ideal) ℓ) : Prop :=
  True

def Pre_Unpack (m : (ℓ : Loc Cert.Unpack.nD Cert.Unpack.τ Cert.Unpack.sig) → Buf (Elt Bits) ℓ) : Prop :=
  True

def Pre_UnpackIdeal (m : (ℓ : Loc Cert.UnpackIdeal.nD Cert.UnpackIdeal.τ Cert.UnpackIdeal.sig) → Buf (Elt Ideal) ℓ) : Prop :=
  True

def Pre_UnpackRefIdeal (m : (ℓ : Loc Cert.UnpackRefIdeal.nD Cert.UnpackRefIdeal.τ Cert.UnpackRefIdeal.sig) → Buf (Elt Ideal) ℓ) : Prop :=
  True

def Pre_AttnBwd (m : (ℓ : Loc Cert.AttnBwd.nD Cert.AttnBwd.τ Cert.AttnBwd.sig) → Buf (Elt Bits) ℓ) : Prop :=
  True

def Pre_AttnBwdIdeal (m : (ℓ : Loc Cert.AttnBwdIdeal.nD Cert.AttnBwdIdeal.τ Cert.AttnBwdIdeal.sig) → Buf (Elt Ideal) ℓ) : Prop :=
  True

def Pre_AttnBwdRefIdeal (m : (ℓ : Loc Cert.AttnBwdRefIdeal.nD Cert.AttnBwdRefIdeal.τ Cert.AttnBwdRefIdeal.sig) → Buf (Elt Ideal) ℓ) : Prop :=
  True

def quiescent_OutBwd [hOutBwd : Cert.OutBwd.Facts] : Prop :=
  ∀ (m : (ℓ : Loc Cert.OutBwd.nD Cert.OutBwd.τ Cert.OutBwd.sig) → Buf (Elt Bits) ℓ) (g : Dev Cert.OutBwd.nD → PrngReg), Pre_OutBwd m →
    θ_run (Cert.OutBwd.defs (F := Bits)) (onTc (τ := Cert.OutBwd.τ) (Cert.OutBwd.main (F := Bits))) ⟨m, fun _ => 0, g⟩ (fun r => (∀ c : Dev Cert.OutBwd.nD,
      r.2.mem ((c.tc : Thread Cert.OutBwd.nD Cert.OutBwd.τ).loc Cert.OutBwd.main_arg0) = m ((c.tc : Thread Cert.OutBwd.nD Cert.OutBwd.τ).loc Cert.OutBwd.main_arg0)
      ∧ r.2.mem ((c.tc : Thread Cert.OutBwd.nD Cert.OutBwd.τ).loc Cert.OutBwd.main_arg1) = m ((c.tc : Thread Cert.OutBwd.nD Cert.OutBwd.τ).loc Cert.OutBwd.main_arg1)
      ∧ r.2.mem ((c.tc : Thread Cert.OutBwd.nD Cert.OutBwd.τ).loc Cert.OutBwd.main_arg2) = m ((c.tc : Thread Cert.OutBwd.nD Cert.OutBwd.τ).loc Cert.OutBwd.main_arg2)
      ∧ r.2.mem ((c.tc : Thread Cert.OutBwd.nD Cert.OutBwd.τ).loc Cert.OutBwd.main_arg3) = m ((c.tc : Thread Cert.OutBwd.nD Cert.OutBwd.τ).loc Cert.OutBwd.main_arg3)
      ∧ r.2.mem ((c.tc : Thread Cert.OutBwd.nD Cert.OutBwd.τ).loc Cert.OutBwd.main_arg4) = m ((c.tc : Thread Cert.OutBwd.nD Cert.OutBwd.τ).loc Cert.OutBwd.main_arg4)
      ∧ r.2.mem ((c.tc : Thread Cert.OutBwd.nD Cert.OutBwd.τ).loc Cert.OutBwd.main_arg5) = m ((c.tc : Thread Cert.OutBwd.nD Cert.OutBwd.τ).loc Cert.OutBwd.main_arg5))
      ∧ r.2.sem = fun _ => 0)

def quiescent_OutBwdIdeal [hOutBwdIdeal : Cert.OutBwdIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg), Pre_OutBwdIdeal m →
    θ_run (Cert.OutBwdIdeal.defs (F := Ideal)) (onTc (τ := Cert.OutBwdIdeal.τ) (Cert.OutBwdIdeal.main (F := Ideal))) ⟨m, fun _ => 0, g⟩ (fun r => (∀ c : Dev Cert.OutBwdIdeal.nD,
      r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
      ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
      ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
      ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
      ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
      ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ r.2.sem = fun _ => 0)

def quiescent_OutBwdRefIdeal [hOutBwdRefIdeal : Cert.OutBwdRefIdeal.Facts] : Prop :=
  ∀ (m : (ℓ : Loc Cert.OutBwdRefIdeal.nD Cert.OutBwdRefIdeal.τ Cert.OutBwdRefIdeal.sig) → Buf (Elt Ideal) ℓ) (g : Dev Cert.OutBwdRefIdeal.nD → PrngReg), Pre_OutBwdRefIdeal m →
    θ_run (Cert.OutBwdRefIdeal.defs (F := Ideal)) (onTc (τ := Cert.OutBwdRefIdeal.τ) (Cert.OutBwdRefIdeal.main (F := Ideal))) ⟨m, fun _ => 0, g⟩ (fun r => (∀ c : Dev Cert.OutBwdRefIdeal.nD,
      r.2.mem ((c.tc : Thread Cert.OutBwdRefIdeal.nD Cert.OutBwdRefIdeal.τ).loc Cert.OutBwdRefIdeal.main_arg0) = m ((c.tc : Thread Cert.OutBwdRefIdeal.nD Cert.OutBwdRefIdeal.τ).loc Cert.OutBwdRefIdeal.main_arg0)
      ∧ r.2.mem ((c.tc : Thread Cert.OutBwdRefIdeal.nD Cert.OutBwdRefIdeal.τ).loc Cert.OutBwdRefIdeal.main_arg1) = m ((c.tc : Thread Cert.OutBwdRefIdeal.nD Cert.OutBwdRefIdeal.τ).loc Cert.OutBwdRefIdeal.main_arg1)
      ∧ r.2.mem ((c.tc : Thread Cert.OutBwdRefIdeal.nD Cert.OutBwdRefIdeal.τ).loc Cert.OutBwdRefIdeal.main_arg2) = m ((c.tc : Thread Cert.OutBwdRefIdeal.nD Cert.OutBwdRefIdeal.τ).loc Cert.OutBwdRefIdeal.main_arg2)
      ∧ r.2.mem ((c.tc : Thread Cert.OutBwdRefIdeal.nD Cert.OutBwdRefIdeal.τ).loc Cert.OutBwdRefIdeal.main_arg3) = m ((c.tc : Thread Cert.OutBwdRefIdeal.nD Cert.OutBwdRefIdeal.τ).loc Cert.OutBwdRefIdeal.main_arg3)
      ∧ r.2.mem ((c.tc : Thread Cert.OutBwdRefIdeal.nD Cert.OutBwdRefIdeal.τ).loc Cert.OutBwdRefIdeal.main_arg4) = m ((c.tc : Thread Cert.OutBwdRefIdeal.nD Cert.OutBwdRefIdeal.τ).loc Cert.OutBwdRefIdeal.main_arg4)
      ∧ r.2.mem ((c.tc : Thread Cert.OutBwdRefIdeal.nD Cert.OutBwdRefIdeal.τ).loc Cert.OutBwdRefIdeal.main_arg5) = m ((c.tc : Thread Cert.OutBwdRefIdeal.nD Cert.OutBwdRefIdeal.τ).loc Cert.OutBwdRefIdeal.main_arg5))
      ∧ r.2.sem = fun _ => 0)

def quiescent_GluBwd [hGluBwd : Cert.GluBwd.Facts] : Prop :=
  ∀ (m : (ℓ : Loc Cert.GluBwd.nD Cert.GluBwd.τ Cert.GluBwd.sig) → Buf (Elt Bits) ℓ) (g : Dev Cert.GluBwd.nD → PrngReg), Pre_GluBwd m →
    θ_run (Cert.GluBwd.defs (F := Bits)) (onTc (τ := Cert.GluBwd.τ) (Cert.GluBwd.main (F := Bits))) ⟨m, fun _ => 0, g⟩ (fun r => (∀ c : Dev Cert.GluBwd.nD,
      r.2.mem ((c.tc : Thread Cert.GluBwd.nD Cert.GluBwd.τ).loc Cert.GluBwd.main_arg0) = m ((c.tc : Thread Cert.GluBwd.nD Cert.GluBwd.τ).loc Cert.GluBwd.main_arg0)
      ∧ r.2.mem ((c.tc : Thread Cert.GluBwd.nD Cert.GluBwd.τ).loc Cert.GluBwd.main_arg1) = m ((c.tc : Thread Cert.GluBwd.nD Cert.GluBwd.τ).loc Cert.GluBwd.main_arg1)
      ∧ r.2.mem ((c.tc : Thread Cert.GluBwd.nD Cert.GluBwd.τ).loc Cert.GluBwd.main_arg2) = m ((c.tc : Thread Cert.GluBwd.nD Cert.GluBwd.τ).loc Cert.GluBwd.main_arg2)
      ∧ r.2.mem ((c.tc : Thread Cert.GluBwd.nD Cert.GluBwd.τ).loc Cert.GluBwd.main_arg3) = m ((c.tc : Thread Cert.GluBwd.nD Cert.GluBwd.τ).loc Cert.GluBwd.main_arg3)
      ∧ r.2.mem ((c.tc : Thread Cert.GluBwd.nD Cert.GluBwd.τ).loc Cert.GluBwd.main_arg4) = m ((c.tc : Thread Cert.GluBwd.nD Cert.GluBwd.τ).loc Cert.GluBwd.main_arg4))
      ∧ r.2.sem = fun _ => 0)

def quiescent_GluBwdIdeal [hGluBwdIdeal : Cert.GluBwdIdeal.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluBwdIdeal_pre_glu_finite [hGluBwdIdeal : Cert.GluBwdIdeal.Facts] [hPre_glu_finite : Cert.Pre_glu_finite.Facts] : Prop :=
  ∀ (m : (ℓ : Loc Cert.GluBwdIdeal.nD Cert.GluBwdIdeal.τ Cert.GluBwdIdeal.sig) → Buf (Elt Ideal) ℓ) (g : Dev Cert.GluBwdIdeal.nD → PrngReg), Pre_GluBwdIdeal_glu_finite m →
    θ_run (Cert.GluBwdIdeal.defs (F := Ideal)) (onTc (τ := Cert.GluBwdIdeal.τ) (Cert.GluBwdIdeal.main (F := Ideal))) ⟨m, fun _ => 0, g⟩ (fun r => (∀ c : Dev Cert.GluBwdIdeal.nD,
      r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
      ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
      ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
      ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
      ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ r.2.sem = fun _ => 0)

def quiescent_GluBwdRefIdeal [hGluBwdRefIdeal : Cert.GluBwdRefIdeal.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4))
      ∧ r.2.sem = fun _ => 0)

def quiescent_GluBwdRefIdeal_pre_glu_finite [hGluBwdRefIdeal : Cert.GluBwdRefIdeal.Facts] [hPre_glu_finite : Cert.Pre_glu_finite.Facts] : Prop :=
  ∀ (m : (ℓ : Loc Cert.GluBwdRefIdeal.nD Cert.GluBwdRefIdeal.τ Cert.GluBwdRefIdeal.sig) → Buf (Elt Ideal) ℓ) (g : Dev Cert.GluBwdRefIdeal.nD → PrngReg), Pre_GluBwdRefIdeal_glu_finite m →
    θ_run (Cert.GluBwdRefIdeal.defs (F := Ideal)) (onTc (τ := Cert.GluBwdRefIdeal.τ) (Cert.GluBwdRefIdeal.main (F := Ideal))) ⟨m, fun _ => 0, g⟩ (fun r => (∀ c : Dev Cert.GluBwdRefIdeal.nD,
      r.2.mem ((c.tc : Thread Cert.GluBwdRefIdeal.nD Cert.GluBwdRefIdeal.τ).loc Cert.GluBwdRefIdeal.main_arg0) = m ((c.tc : Thread Cert.GluBwdRefIdeal.nD Cert.GluBwdRefIdeal.τ).loc Cert.GluBwdRefIdeal.main_arg0)
      ∧ r.2.mem ((c.tc : Thread Cert.GluBwdRefIdeal.nD Cert.GluBwdRefIdeal.τ).loc Cert.GluBwdRefIdeal.main_arg1) = m ((c.tc : Thread Cert.GluBwdRefIdeal.nD Cert.GluBwdRefIdeal.τ).loc Cert.GluBwdRefIdeal.main_arg1)
      ∧ r.2.mem ((c.tc : Thread Cert.GluBwdRefIdeal.nD Cert.GluBwdRefIdeal.τ).loc Cert.GluBwdRefIdeal.main_arg2) = m ((c.tc : Thread Cert.GluBwdRefIdeal.nD Cert.GluBwdRefIdeal.τ).loc Cert.GluBwdRefIdeal.main_arg2)
      ∧ r.2.mem ((c.tc : Thread Cert.GluBwdRefIdeal.nD Cert.GluBwdRefIdeal.τ).loc Cert.GluBwdRefIdeal.main_arg3) = m ((c.tc : Thread Cert.GluBwdRefIdeal.nD Cert.GluBwdRefIdeal.τ).loc Cert.GluBwdRefIdeal.main_arg3)
      ∧ r.2.mem ((c.tc : Thread Cert.GluBwdRefIdeal.nD Cert.GluBwdRefIdeal.τ).loc Cert.GluBwdRefIdeal.main_arg4) = m ((c.tc : Thread Cert.GluBwdRefIdeal.nD Cert.GluBwdRefIdeal.τ).loc Cert.GluBwdRefIdeal.main_arg4))
      ∧ r.2.sem = fun _ => 0)

def quiescent_ParamBwd [hParamBwd : Cert.ParamBwd.Facts] : Prop :=
  ∀ (m : (ℓ : Loc Cert.ParamBwd.nD Cert.ParamBwd.τ Cert.ParamBwd.sig) → Buf (Elt Bits) ℓ) (g : Dev Cert.ParamBwd.nD → PrngReg), Pre_ParamBwd m →
    θ_run (Cert.ParamBwd.defs (F := Bits)) (onTc (τ := Cert.ParamBwd.τ) (Cert.ParamBwd.main (F := Bits))) ⟨m, fun _ => 0, g⟩ (fun r => (∀ c : Dev Cert.ParamBwd.nD,
      r.2.mem ((c.tc : Thread Cert.ParamBwd.nD Cert.ParamBwd.τ).loc Cert.ParamBwd.main_arg0) = m ((c.tc : Thread Cert.ParamBwd.nD Cert.ParamBwd.τ).loc Cert.ParamBwd.main_arg0)
      ∧ r.2.mem ((c.tc : Thread Cert.ParamBwd.nD Cert.ParamBwd.τ).loc Cert.ParamBwd.main_arg1) = m ((c.tc : Thread Cert.ParamBwd.nD Cert.ParamBwd.τ).loc Cert.ParamBwd.main_arg1)
      ∧ r.2.mem ((c.tc : Thread Cert.ParamBwd.nD Cert.ParamBwd.τ).loc Cert.ParamBwd.main_arg2) = m ((c.tc : Thread Cert.ParamBwd.nD Cert.ParamBwd.τ).loc Cert.ParamBwd.main_arg2)
      ∧ r.2.mem ((c.tc : Thread Cert.ParamBwd.nD Cert.ParamBwd.τ).loc Cert.ParamBwd.main_arg3) = m ((c.tc : Thread Cert.ParamBwd.nD Cert.ParamBwd.τ).loc Cert.ParamBwd.main_arg3)
      ∧ r.2.mem ((c.tc : Thread Cert.ParamBwd.nD Cert.ParamBwd.τ).loc Cert.ParamBwd.main_arg4) = m ((c.tc : Thread Cert.ParamBwd.nD Cert.ParamBwd.τ).loc Cert.ParamBwd.main_arg4)
      ∧ r.2.mem ((c.tc : Thread Cert.ParamBwd.nD Cert.ParamBwd.τ).loc Cert.ParamBwd.main_arg5) = m ((c.tc : Thread Cert.ParamBwd.nD Cert.ParamBwd.τ).loc Cert.ParamBwd.main_arg5)
      ∧ r.2.mem ((c.tc : Thread Cert.ParamBwd.nD Cert.ParamBwd.τ).loc Cert.ParamBwd.main_arg6) = m ((c.tc : Thread Cert.ParamBwd.nD Cert.ParamBwd.τ).loc Cert.ParamBwd.main_arg6)
      ∧ r.2.mem ((c.tc : Thread Cert.ParamBwd.nD Cert.ParamBwd.τ).loc Cert.ParamBwd.main_arg7) = m ((c.tc : Thread Cert.ParamBwd.nD Cert.ParamBwd.τ).loc Cert.ParamBwd.main_arg7)
      ∧ r.2.mem ((c.tc : Thread Cert.ParamBwd.nD Cert.ParamBwd.τ).loc Cert.ParamBwd.main_arg8) = m ((c.tc : Thread Cert.ParamBwd.nD Cert.ParamBwd.τ).loc Cert.ParamBwd.main_arg8))
      ∧ r.2.sem = fun _ => 0)

def quiescent_ParamBwdIdeal [hParamBwdIdeal : Cert.ParamBwdIdeal.Facts] : Prop :=
  ∀ (m : (ℓ : Loc Cert.ParamBwdIdeal.nD Cert.ParamBwdIdeal.τ Cert.ParamBwdIdeal.sig) → Buf (Elt Ideal) ℓ) (g : Dev Cert.ParamBwdIdeal.nD → PrngReg), Pre_ParamBwdIdeal m →
    θ_run (Cert.ParamBwdIdeal.defs (F := Ideal)) (onTc (τ := Cert.ParamBwdIdeal.τ) (Cert.ParamBwdIdeal.main (F := Ideal))) ⟨m, fun _ => 0, g⟩ (fun r => (∀ c : Dev Cert.ParamBwdIdeal.nD,
      r.2.mem ((c.tc : Thread Cert.ParamBwdIdeal.nD Cert.ParamBwdIdeal.τ).loc Cert.ParamBwdIdeal.main_arg0) = m ((c.tc : Thread Cert.ParamBwdIdeal.nD Cert.ParamBwdIdeal.τ).loc Cert.ParamBwdIdeal.main_arg0)
      ∧ r.2.mem ((c.tc : Thread Cert.ParamBwdIdeal.nD Cert.ParamBwdIdeal.τ).loc Cert.ParamBwdIdeal.main_arg1) = m ((c.tc : Thread Cert.ParamBwdIdeal.nD Cert.ParamBwdIdeal.τ).loc Cert.ParamBwdIdeal.main_arg1)
      ∧ r.2.mem ((c.tc : Thread Cert.ParamBwdIdeal.nD Cert.ParamBwdIdeal.τ).loc Cert.ParamBwdIdeal.main_arg2) = m ((c.tc : Thread Cert.ParamBwdIdeal.nD Cert.ParamBwdIdeal.τ).loc Cert.ParamBwdIdeal.main_arg2)
      ∧ r.2.mem ((c.tc : Thread Cert.ParamBwdIdeal.nD Cert.ParamBwdIdeal.τ).loc Cert.ParamBwdIdeal.main_arg3) = m ((c.tc : Thread Cert.ParamBwdIdeal.nD Cert.ParamBwdIdeal.τ).loc Cert.ParamBwdIdeal.main_arg3)
      ∧ r.2.mem ((c.tc : Thread Cert.ParamBwdIdeal.nD Cert.ParamBwdIdeal.τ).loc Cert.ParamBwdIdeal.main_arg4) = m ((c.tc : Thread Cert.ParamBwdIdeal.nD Cert.ParamBwdIdeal.τ).loc Cert.ParamBwdIdeal.main_arg4)
      ∧ r.2.mem ((c.tc : Thread Cert.ParamBwdIdeal.nD Cert.ParamBwdIdeal.τ).loc Cert.ParamBwdIdeal.main_arg5) = m ((c.tc : Thread Cert.ParamBwdIdeal.nD Cert.ParamBwdIdeal.τ).loc Cert.ParamBwdIdeal.main_arg5)
      ∧ r.2.mem ((c.tc : Thread Cert.ParamBwdIdeal.nD Cert.ParamBwdIdeal.τ).loc Cert.ParamBwdIdeal.main_arg6) = m ((c.tc : Thread Cert.ParamBwdIdeal.nD Cert.ParamBwdIdeal.τ).loc Cert.ParamBwdIdeal.main_arg6)
      ∧ r.2.mem ((c.tc : Thread Cert.ParamBwdIdeal.nD Cert.ParamBwdIdeal.τ).loc Cert.ParamBwdIdeal.main_arg7) = m ((c.tc : Thread Cert.ParamBwdIdeal.nD Cert.ParamBwdIdeal.τ).loc Cert.ParamBwdIdeal.main_arg7)
      ∧ r.2.mem ((c.tc : Thread Cert.ParamBwdIdeal.nD Cert.ParamBwdIdeal.τ).loc Cert.ParamBwdIdeal.main_arg8) = m ((c.tc : Thread Cert.ParamBwdIdeal.nD Cert.ParamBwdIdeal.τ).loc Cert.ParamBwdIdeal.main_arg8))
      ∧ r.2.sem = fun _ => 0)

def quiescent_ParamBwdIdeal_pre_param_finite [hParamBwdIdeal : Cert.ParamBwdIdeal.Facts] [hPre_param_finite : Cert.Pre_param_finite.Facts] : Prop :=
  ∀ (m : (ℓ : Loc Cert.ParamBwdIdeal.nD Cert.ParamBwdIdeal.τ Cert.ParamBwdIdeal.sig) → Buf (Elt Ideal) ℓ) (g : Dev Cert.ParamBwdIdeal.nD → PrngReg), Pre_ParamBwdIdeal_param_finite m →
    θ_run (Cert.ParamBwdIdeal.defs (F := Ideal)) (onTc (τ := Cert.ParamBwdIdeal.τ) (Cert.ParamBwdIdeal.main (F := Ideal))) ⟨m, fun _ => 0, g⟩ (fun r => (∀ c : Dev Cert.ParamBwdIdeal.nD,
      r.2.mem ((c.tc : Thread Cert.ParamBwdIdeal.nD Cert.ParamBwdIdeal.τ).loc Cert.ParamBwdIdeal.main_arg0) = m ((c.tc : Thread Cert.ParamBwdIdeal.nD Cert.ParamBwdIdeal.τ).loc Cert.ParamBwdIdeal.main_arg0)
      ∧ r.2.mem ((c.tc : Thread Cert.ParamBwdIdeal.nD Cert.ParamBwdIdeal.τ).loc Cert.ParamBwdIdeal.main_arg1) = m ((c.tc : Thread Cert.ParamBwdIdeal.nD Cert.ParamBwdIdeal.τ).loc Cert.ParamBwdIdeal.main_arg1)
      ∧ r.2.mem ((c.tc : Thread Cert.ParamBwdIdeal.nD Cert.ParamBwdIdeal.τ).loc Cert.ParamBwdIdeal.main_arg2) = m ((c.tc : Thread Cert.ParamBwdIdeal.nD Cert.ParamBwdIdeal.τ).loc Cert.ParamBwdIdeal.main_arg2)
      ∧ r.2.mem ((c.tc : Thread Cert.ParamBwdIdeal.nD Cert.ParamBwdIdeal.τ).loc Cert.ParamBwdIdeal.main_arg3) = m ((c.tc : Thread Cert.ParamBwdIdeal.nD Cert.ParamBwdIdeal.τ).loc Cert.ParamBwdIdeal.main_arg3)
      ∧ r.2.mem ((c.tc : Thread Cert.ParamBwdIdeal.nD Cert.ParamBwdIdeal.τ).loc Cert.ParamBwdIdeal.main_arg4) = m ((c.tc : Thread Cert.ParamBwdIdeal.nD Cert.ParamBwdIdeal.τ).loc Cert.ParamBwdIdeal.main_arg4)
      ∧ r.2.mem ((c.tc : Thread Cert.ParamBwdIdeal.nD Cert.ParamBwdIdeal.τ).loc Cert.ParamBwdIdeal.main_arg5) = m ((c.tc : Thread Cert.ParamBwdIdeal.nD Cert.ParamBwdIdeal.τ).loc Cert.ParamBwdIdeal.main_arg5)
      ∧ r.2.mem ((c.tc : Thread Cert.ParamBwdIdeal.nD Cert.ParamBwdIdeal.τ).loc Cert.ParamBwdIdeal.main_arg6) = m ((c.tc : Thread Cert.ParamBwdIdeal.nD Cert.ParamBwdIdeal.τ).loc Cert.ParamBwdIdeal.main_arg6)
      ∧ r.2.mem ((c.tc : Thread Cert.ParamBwdIdeal.nD Cert.ParamBwdIdeal.τ).loc Cert.ParamBwdIdeal.main_arg7) = m ((c.tc : Thread Cert.ParamBwdIdeal.nD Cert.ParamBwdIdeal.τ).loc Cert.ParamBwdIdeal.main_arg7)
      ∧ r.2.mem ((c.tc : Thread Cert.ParamBwdIdeal.nD Cert.ParamBwdIdeal.τ).loc Cert.ParamBwdIdeal.main_arg8) = m ((c.tc : Thread Cert.ParamBwdIdeal.nD Cert.ParamBwdIdeal.τ).loc Cert.ParamBwdIdeal.main_arg8))
      ∧ r.2.sem = fun _ => 0)

def quiescent_ParamBwdRefIdeal [hParamBwdRefIdeal : Cert.ParamBwdRefIdeal.Facts] : Prop :=
  ∀ (m : (ℓ : Loc Cert.ParamBwdRefIdeal.nD Cert.ParamBwdRefIdeal.τ Cert.ParamBwdRefIdeal.sig) → Buf (Elt Ideal) ℓ) (g : Dev Cert.ParamBwdRefIdeal.nD → PrngReg), Pre_ParamBwdRefIdeal m →
    θ_run (Cert.ParamBwdRefIdeal.defs (F := Ideal)) (onTc (τ := Cert.ParamBwdRefIdeal.τ) (Cert.ParamBwdRefIdeal.main (F := Ideal))) ⟨m, fun _ => 0, g⟩ (fun r => (∀ c : Dev Cert.ParamBwdRefIdeal.nD,
      r.2.mem ((c.tc : Thread Cert.ParamBwdRefIdeal.nD Cert.ParamBwdRefIdeal.τ).loc Cert.ParamBwdRefIdeal.main_arg0) = m ((c.tc : Thread Cert.ParamBwdRefIdeal.nD Cert.ParamBwdRefIdeal.τ).loc Cert.ParamBwdRefIdeal.main_arg0)
      ∧ r.2.mem ((c.tc : Thread Cert.ParamBwdRefIdeal.nD Cert.ParamBwdRefIdeal.τ).loc Cert.ParamBwdRefIdeal.main_arg1) = m ((c.tc : Thread Cert.ParamBwdRefIdeal.nD Cert.ParamBwdRefIdeal.τ).loc Cert.ParamBwdRefIdeal.main_arg1)
      ∧ r.2.mem ((c.tc : Thread Cert.ParamBwdRefIdeal.nD Cert.ParamBwdRefIdeal.τ).loc Cert.ParamBwdRefIdeal.main_arg2) = m ((c.tc : Thread Cert.ParamBwdRefIdeal.nD Cert.ParamBwdRefIdeal.τ).loc Cert.ParamBwdRefIdeal.main_arg2)
      ∧ r.2.mem ((c.tc : Thread Cert.ParamBwdRefIdeal.nD Cert.ParamBwdRefIdeal.τ).loc Cert.ParamBwdRefIdeal.main_arg3) = m ((c.tc : Thread Cert.ParamBwdRefIdeal.nD Cert.ParamBwdRefIdeal.τ).loc Cert.ParamBwdRefIdeal.main_arg3)
      ∧ r.2.mem ((c.tc : Thread Cert.ParamBwdRefIdeal.nD Cert.ParamBwdRefIdeal.τ).loc Cert.ParamBwdRefIdeal.main_arg4) = m ((c.tc : Thread Cert.ParamBwdRefIdeal.nD Cert.ParamBwdRefIdeal.τ).loc Cert.ParamBwdRefIdeal.main_arg4)
      ∧ r.2.mem ((c.tc : Thread Cert.ParamBwdRefIdeal.nD Cert.ParamBwdRefIdeal.τ).loc Cert.ParamBwdRefIdeal.main_arg5) = m ((c.tc : Thread Cert.ParamBwdRefIdeal.nD Cert.ParamBwdRefIdeal.τ).loc Cert.ParamBwdRefIdeal.main_arg5)
      ∧ r.2.mem ((c.tc : Thread Cert.ParamBwdRefIdeal.nD Cert.ParamBwdRefIdeal.τ).loc Cert.ParamBwdRefIdeal.main_arg6) = m ((c.tc : Thread Cert.ParamBwdRefIdeal.nD Cert.ParamBwdRefIdeal.τ).loc Cert.ParamBwdRefIdeal.main_arg6)
      ∧ r.2.mem ((c.tc : Thread Cert.ParamBwdRefIdeal.nD Cert.ParamBwdRefIdeal.τ).loc Cert.ParamBwdRefIdeal.main_arg7) = m ((c.tc : Thread Cert.ParamBwdRefIdeal.nD Cert.ParamBwdRefIdeal.τ).loc Cert.ParamBwdRefIdeal.main_arg7)
      ∧ r.2.mem ((c.tc : Thread Cert.ParamBwdRefIdeal.nD Cert.ParamBwdRefIdeal.τ).loc Cert.ParamBwdRefIdeal.main_arg8) = m ((c.tc : Thread Cert.ParamBwdRefIdeal.nD Cert.ParamBwdRefIdeal.τ).loc Cert.ParamBwdRefIdeal.main_arg8))
      ∧ r.2.sem = fun _ => 0)

def quiescent_ParamBwdRefIdeal_pre_param_finite [hParamBwdRefIdeal : Cert.ParamBwdRefIdeal.Facts] [hPre_param_finite : Cert.Pre_param_finite.Facts] : Prop :=
  ∀ (m : (ℓ : Loc Cert.ParamBwdRefIdeal.nD Cert.ParamBwdRefIdeal.τ Cert.ParamBwdRefIdeal.sig) → Buf (Elt Ideal) ℓ) (g : Dev Cert.ParamBwdRefIdeal.nD → PrngReg), Pre_ParamBwdRefIdeal_param_finite m →
    θ_run (Cert.ParamBwdRefIdeal.defs (F := Ideal)) (onTc (τ := Cert.ParamBwdRefIdeal.τ) (Cert.ParamBwdRefIdeal.main (F := Ideal))) ⟨m, fun _ => 0, g⟩ (fun r => (∀ c : Dev Cert.ParamBwdRefIdeal.nD,
      r.2.mem ((c.tc : Thread Cert.ParamBwdRefIdeal.nD Cert.ParamBwdRefIdeal.τ).loc Cert.ParamBwdRefIdeal.main_arg0) = m ((c.tc : Thread Cert.ParamBwdRefIdeal.nD Cert.ParamBwdRefIdeal.τ).loc Cert.ParamBwdRefIdeal.main_arg0)
      ∧ r.2.mem ((c.tc : Thread Cert.ParamBwdRefIdeal.nD Cert.ParamBwdRefIdeal.τ).loc Cert.ParamBwdRefIdeal.main_arg1) = m ((c.tc : Thread Cert.ParamBwdRefIdeal.nD Cert.ParamBwdRefIdeal.τ).loc Cert.ParamBwdRefIdeal.main_arg1)
      ∧ r.2.mem ((c.tc : Thread Cert.ParamBwdRefIdeal.nD Cert.ParamBwdRefIdeal.τ).loc Cert.ParamBwdRefIdeal.main_arg2) = m ((c.tc : Thread Cert.ParamBwdRefIdeal.nD Cert.ParamBwdRefIdeal.τ).loc Cert.ParamBwdRefIdeal.main_arg2)
      ∧ r.2.mem ((c.tc : Thread Cert.ParamBwdRefIdeal.nD Cert.ParamBwdRefIdeal.τ).loc Cert.ParamBwdRefIdeal.main_arg3) = m ((c.tc : Thread Cert.ParamBwdRefIdeal.nD Cert.ParamBwdRefIdeal.τ).loc Cert.ParamBwdRefIdeal.main_arg3)
      ∧ r.2.mem ((c.tc : Thread Cert.ParamBwdRefIdeal.nD Cert.ParamBwdRefIdeal.τ).loc Cert.ParamBwdRefIdeal.main_arg4) = m ((c.tc : Thread Cert.ParamBwdRefIdeal.nD Cert.ParamBwdRefIdeal.τ).loc Cert.ParamBwdRefIdeal.main_arg4)
      ∧ r.2.mem ((c.tc : Thread Cert.ParamBwdRefIdeal.nD Cert.ParamBwdRefIdeal.τ).loc Cert.ParamBwdRefIdeal.main_arg5) = m ((c.tc : Thread Cert.ParamBwdRefIdeal.nD Cert.ParamBwdRefIdeal.τ).loc Cert.ParamBwdRefIdeal.main_arg5)
      ∧ r.2.mem ((c.tc : Thread Cert.ParamBwdRefIdeal.nD Cert.ParamBwdRefIdeal.τ).loc Cert.ParamBwdRefIdeal.main_arg6) = m ((c.tc : Thread Cert.ParamBwdRefIdeal.nD Cert.ParamBwdRefIdeal.τ).loc Cert.ParamBwdRefIdeal.main_arg6)
      ∧ r.2.mem ((c.tc : Thread Cert.ParamBwdRefIdeal.nD Cert.ParamBwdRefIdeal.τ).loc Cert.ParamBwdRefIdeal.main_arg7) = m ((c.tc : Thread Cert.ParamBwdRefIdeal.nD Cert.ParamBwdRefIdeal.τ).loc Cert.ParamBwdRefIdeal.main_arg7)
      ∧ r.2.mem ((c.tc : Thread Cert.ParamBwdRefIdeal.nD Cert.ParamBwdRefIdeal.τ).loc Cert.ParamBwdRefIdeal.main_arg8) = m ((c.tc : Thread Cert.ParamBwdRefIdeal.nD Cert.ParamBwdRefIdeal.τ).loc Cert.ParamBwdRefIdeal.main_arg8))
      ∧ r.2.sem = fun _ => 0)

def quiescent_InBwd [hInBwd : Cert.InBwd.Facts] : Prop :=
  ∀ (m : (ℓ : Loc Cert.InBwd.nD Cert.InBwd.τ Cert.InBwd.sig) → Buf (Elt Bits) ℓ) (g : Dev Cert.InBwd.nD → PrngReg), Pre_InBwd m →
    θ_run (Cert.InBwd.defs (F := Bits)) (onTc (τ := Cert.InBwd.τ) (Cert.InBwd.main (F := Bits))) ⟨m, fun _ => 0, g⟩ (fun r => (∀ c : Dev Cert.InBwd.nD,
      r.2.mem ((c.tc : Thread Cert.InBwd.nD Cert.InBwd.τ).loc Cert.InBwd.main_arg0) = m ((c.tc : Thread Cert.InBwd.nD Cert.InBwd.τ).loc Cert.InBwd.main_arg0)
      ∧ r.2.mem ((c.tc : Thread Cert.InBwd.nD Cert.InBwd.τ).loc Cert.InBwd.main_arg1) = m ((c.tc : Thread Cert.InBwd.nD Cert.InBwd.τ).loc Cert.InBwd.main_arg1)
      ∧ r.2.mem ((c.tc : Thread Cert.InBwd.nD Cert.InBwd.τ).loc Cert.InBwd.main_arg2) = m ((c.tc : Thread Cert.InBwd.nD Cert.InBwd.τ).loc Cert.InBwd.main_arg2)
      ∧ r.2.mem ((c.tc : Thread Cert.InBwd.nD Cert.InBwd.τ).loc Cert.InBwd.main_arg3) = m ((c.tc : Thread Cert.InBwd.nD Cert.InBwd.τ).loc Cert.InBwd.main_arg3)
      ∧ r.2.mem ((c.tc : Thread Cert.InBwd.nD Cert.InBwd.τ).loc Cert.InBwd.main_arg4) = m ((c.tc : Thread Cert.InBwd.nD Cert.InBwd.τ).loc Cert.InBwd.main_arg4))
      ∧ r.2.sem = fun _ => 0)

def quiescent_InBwdIdeal [hInBwdIdeal : Cert.InBwdIdeal.Facts] : Prop :=
  ∀ (m : (ℓ : Loc Cert.InBwdIdeal.nD Cert.InBwdIdeal.τ Cert.InBwdIdeal.sig) → Buf (Elt Ideal) ℓ) (g : Dev Cert.InBwdIdeal.nD → PrngReg), Pre_InBwdIdeal m →
    θ_run (Cert.InBwdIdeal.defs (F := Ideal)) (onTc (τ := Cert.InBwdIdeal.τ) (Cert.InBwdIdeal.main (F := Ideal))) ⟨m, fun _ => 0, g⟩ (fun r => (∀ c : Dev Cert.InBwdIdeal.nD,
      r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
      ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
      ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
      ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
      ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ r.2.sem = fun _ => 0)

def quiescent_InBwdRefIdeal [hInBwdRefIdeal : Cert.InBwdRefIdeal.Facts] : Prop :=
  ∀ (m : (ℓ : Loc Cert.InBwdRefIdeal.nD Cert.InBwdRefIdeal.τ Cert.InBwdRefIdeal.sig) → Buf (Elt Ideal) ℓ) (g : Dev Cert.InBwdRefIdeal.nD → PrngReg), Pre_InBwdRefIdeal m →
    θ_run (Cert.InBwdRefIdeal.defs (F := Ideal)) (onTc (τ := Cert.InBwdRefIdeal.τ) (Cert.InBwdRefIdeal.main (F := Ideal))) ⟨m, fun _ => 0, g⟩ (fun r => (∀ c : Dev Cert.InBwdRefIdeal.nD,
      r.2.mem ((c.tc : Thread Cert.InBwdRefIdeal.nD Cert.InBwdRefIdeal.τ).loc Cert.InBwdRefIdeal.main_arg0) = m ((c.tc : Thread Cert.InBwdRefIdeal.nD Cert.InBwdRefIdeal.τ).loc Cert.InBwdRefIdeal.main_arg0)
      ∧ r.2.mem ((c.tc : Thread Cert.InBwdRefIdeal.nD Cert.InBwdRefIdeal.τ).loc Cert.InBwdRefIdeal.main_arg1) = m ((c.tc : Thread Cert.InBwdRefIdeal.nD Cert.InBwdRefIdeal.τ).loc Cert.InBwdRefIdeal.main_arg1)
      ∧ r.2.mem ((c.tc : Thread Cert.InBwdRefIdeal.nD Cert.InBwdRefIdeal.τ).loc Cert.InBwdRefIdeal.main_arg2) = m ((c.tc : Thread Cert.InBwdRefIdeal.nD Cert.InBwdRefIdeal.τ).loc Cert.InBwdRefIdeal.main_arg2)
      ∧ r.2.mem ((c.tc : Thread Cert.InBwdRefIdeal.nD Cert.InBwdRefIdeal.τ).loc Cert.InBwdRefIdeal.main_arg3) = m ((c.tc : Thread Cert.InBwdRefIdeal.nD Cert.InBwdRefIdeal.τ).loc Cert.InBwdRefIdeal.main_arg3)
      ∧ r.2.mem ((c.tc : Thread Cert.InBwdRefIdeal.nD Cert.InBwdRefIdeal.τ).loc Cert.InBwdRefIdeal.main_arg4) = m ((c.tc : Thread Cert.InBwdRefIdeal.nD Cert.InBwdRefIdeal.τ).loc Cert.InBwdRefIdeal.main_arg4))
      ∧ r.2.sem = fun _ => 0)

def quiescent_Loss [hLoss : Cert.Loss.Facts] : Prop :=
  ∀ (m : (ℓ : Loc Cert.Loss.nD Cert.Loss.τ Cert.Loss.sig) → Buf (Elt Bits) ℓ) (g : Dev Cert.Loss.nD → PrngReg), Pre_Loss m →
    θ_run (Cert.Loss.defs (F := Bits)) (onTc (τ := Cert.Loss.τ) (Cert.Loss.main (F := Bits))) ⟨m, fun _ => 0, g⟩ (fun r => (∀ c : Dev Cert.Loss.nD,
      r.2.mem ((c.tc : Thread Cert.Loss.nD Cert.Loss.τ).loc Cert.Loss.main_arg0) = m ((c.tc : Thread Cert.Loss.nD Cert.Loss.τ).loc Cert.Loss.main_arg0)
      ∧ r.2.mem ((c.tc : Thread Cert.Loss.nD Cert.Loss.τ).loc Cert.Loss.main_arg1) = m ((c.tc : Thread Cert.Loss.nD Cert.Loss.τ).loc Cert.Loss.main_arg1)
      ∧ r.2.mem ((c.tc : Thread Cert.Loss.nD Cert.Loss.τ).loc Cert.Loss.main_arg2) = m ((c.tc : Thread Cert.Loss.nD Cert.Loss.τ).loc Cert.Loss.main_arg2)
      ∧ r.2.mem ((c.tc : Thread Cert.Loss.nD Cert.Loss.τ).loc Cert.Loss.main_arg3) = m ((c.tc : Thread Cert.Loss.nD Cert.Loss.τ).loc Cert.Loss.main_arg3)
      ∧ r.2.mem ((c.tc : Thread Cert.Loss.nD Cert.Loss.τ).loc Cert.Loss.main_arg4) = m ((c.tc : Thread Cert.Loss.nD Cert.Loss.τ).loc Cert.Loss.main_arg4)
      ∧ r.2.mem ((c.tc : Thread Cert.Loss.nD Cert.Loss.τ).loc Cert.Loss.main_arg5) = m ((c.tc : Thread Cert.Loss.nD Cert.Loss.τ).loc Cert.Loss.main_arg5)
      ∧ r.2.mem ((c.tc : Thread Cert.Loss.nD Cert.Loss.τ).loc Cert.Loss.main_arg6) = m ((c.tc : Thread Cert.Loss.nD Cert.Loss.τ).loc Cert.Loss.main_arg6))
      ∧ r.2.sem = fun _ => 0)

def quiescent_LossIdeal [hLossIdeal : Cert.LossIdeal.Facts] : Prop :=
  ∀ (m : (ℓ : Loc Cert.LossIdeal.nD Cert.LossIdeal.τ Cert.LossIdeal.sig) → Buf (Elt Ideal) ℓ) (g : Dev Cert.LossIdeal.nD → PrngReg), Pre_LossIdeal m →
    θ_run (Cert.LossIdeal.defs (F := Ideal)) (onTc (τ := Cert.LossIdeal.τ) (Cert.LossIdeal.main (F := Ideal))) ⟨m, fun _ => 0, g⟩ (fun r => (∀ c : Dev Cert.LossIdeal.nD,
      r.2.mem ((c.tc : Thread Cert.LossIdeal.nD Cert.LossIdeal.τ).loc Cert.LossIdeal.main_arg0) = m ((c.tc : Thread Cert.LossIdeal.nD Cert.LossIdeal.τ).loc Cert.LossIdeal.main_arg0)
      ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
      ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
      ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
      ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
      ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
      ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ r.2.sem = fun _ => 0)

def quiescent_LossRefIdeal [hLossRefIdeal : Cert.LossRefIdeal.Facts] : Prop :=
  ∀ (m : (ℓ : Loc Cert.LossRefIdeal.nD Cert.LossRefIdeal.τ Cert.LossRefIdeal.sig) → Buf (Elt Ideal) ℓ) (g : Dev Cert.LossRefIdeal.nD → PrngReg), Pre_LossRefIdeal m →
    θ_run (Cert.LossRefIdeal.defs (F := Ideal)) (onTc (τ := Cert.LossRefIdeal.τ) (Cert.LossRefIdeal.main (F := Ideal))) ⟨m, fun _ => 0, g⟩ (fun r => (∀ c : Dev Cert.LossRefIdeal.nD,
      r.2.mem ((c.tc : Thread Cert.LossRefIdeal.nD Cert.LossRefIdeal.τ).loc Cert.LossRefIdeal.main_arg0) = m ((c.tc : Thread Cert.LossRefIdeal.nD Cert.LossRefIdeal.τ).loc Cert.LossRefIdeal.main_arg0)
      ∧ r.2.mem ((c.tc : Thread Cert.LossRefIdeal.nD Cert.LossRefIdeal.τ).loc Cert.LossRefIdeal.main_arg1) = m ((c.tc : Thread Cert.LossRefIdeal.nD Cert.LossRefIdeal.τ).loc Cert.LossRefIdeal.main_arg1)
      ∧ r.2.mem ((c.tc : Thread Cert.LossRefIdeal.nD Cert.LossRefIdeal.τ).loc Cert.LossRefIdeal.main_arg2) = m ((c.tc : Thread Cert.LossRefIdeal.nD Cert.LossRefIdeal.τ).loc Cert.LossRefIdeal.main_arg2)
      ∧ r.2.mem ((c.tc : Thread Cert.LossRefIdeal.nD Cert.LossRefIdeal.τ).loc Cert.LossRefIdeal.main_arg3) = m ((c.tc : Thread Cert.LossRefIdeal.nD Cert.LossRefIdeal.τ).loc Cert.LossRefIdeal.main_arg3)
      ∧ r.2.mem ((c.tc : Thread Cert.LossRefIdeal.nD Cert.LossRefIdeal.τ).loc Cert.LossRefIdeal.main_arg4) = m ((c.tc : Thread Cert.LossRefIdeal.nD Cert.LossRefIdeal.τ).loc Cert.LossRefIdeal.main_arg4)
      ∧ r.2.mem ((c.tc : Thread Cert.LossRefIdeal.nD Cert.LossRefIdeal.τ).loc Cert.LossRefIdeal.main_arg5) = m ((c.tc : Thread Cert.LossRefIdeal.nD Cert.LossRefIdeal.τ).loc Cert.LossRefIdeal.main_arg5)
      ∧ r.2.mem ((c.tc : Thread Cert.LossRefIdeal.nD Cert.LossRefIdeal.τ).loc Cert.LossRefIdeal.main_arg6) = m ((c.tc : Thread Cert.LossRefIdeal.nD Cert.LossRefIdeal.τ).loc Cert.LossRefIdeal.main_arg6))
      ∧ r.2.sem = fun _ => 0)

def quiescent_AttnFwd [hAttnFwd : Cert.AttnFwd.Facts] : Prop :=
  ∀ (m : (ℓ : Loc Cert.AttnFwd.nD Cert.AttnFwd.τ Cert.AttnFwd.sig) → Buf (Elt Bits) ℓ) (g : Dev Cert.AttnFwd.nD → PrngReg), Pre_AttnFwd m →
    θ_run (Cert.AttnFwd.defs (F := Bits)) (onTc (τ := Cert.AttnFwd.τ) (Cert.AttnFwd.main (F := Bits))) ⟨m, fun _ => 0, g⟩ (fun r => (∀ c : Dev Cert.AttnFwd.nD,
      r.2.mem ((c.tc : Thread Cert.AttnFwd.nD Cert.AttnFwd.τ).loc Cert.AttnFwd.main_arg0) = m ((c.tc : Thread Cert.AttnFwd.nD Cert.AttnFwd.τ).loc Cert.AttnFwd.main_arg0)
      ∧ r.2.mem ((c.tc : Thread Cert.AttnFwd.nD Cert.AttnFwd.τ).loc Cert.AttnFwd.main_arg1) = m ((c.tc : Thread Cert.AttnFwd.nD Cert.AttnFwd.τ).loc Cert.AttnFwd.main_arg1)
      ∧ r.2.mem ((c.tc : Thread Cert.AttnFwd.nD Cert.AttnFwd.τ).loc Cert.AttnFwd.main_arg2) = m ((c.tc : Thread Cert.AttnFwd.nD Cert.AttnFwd.τ).loc Cert.AttnFwd.main_arg2)
      ∧ r.2.mem ((c.tc : Thread Cert.AttnFwd.nD Cert.AttnFwd.τ).loc Cert.AttnFwd.main_arg3) = m ((c.tc : Thread Cert.AttnFwd.nD Cert.AttnFwd.τ).loc Cert.AttnFwd.main_arg3)
      ∧ r.2.mem ((c.tc : Thread Cert.AttnFwd.nD Cert.AttnFwd.τ).loc Cert.AttnFwd.main_arg4) = m ((c.tc : Thread Cert.AttnFwd.nD Cert.AttnFwd.τ).loc Cert.AttnFwd.main_arg4))
      ∧ r.2.sem = fun _ => 0)

def quiescent_AttnFwdIdeal [hAttnFwdIdeal : Cert.AttnFwdIdeal.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdIdeal_pre_attn_fwd_finite [hAttnFwdIdeal : Cert.AttnFwdIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg), Pre_AttnFwdIdeal_attn_fwd_finite m →
    θ_run (Cert.AttnFwdIdeal.defs (F := Ideal)) (onTc (τ := Cert.AttnFwdIdeal.τ) (Cert.AttnFwdIdeal.main (F := Ideal))) ⟨m, fun _ => 0, g⟩ (fun r => (∀ c : Dev Cert.AttnFwdIdeal.nD,
      r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
      ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
      ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
      ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
      ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ r.2.sem = fun _ => 0)

def quiescent_AttnFwdRefIdeal [hAttnFwdRefIdeal : Cert.AttnFwdRefIdeal.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_AttnFwdRefIdeal_pre_attn_fwd_finite [hAttnFwdRefIdeal : Cert.AttnFwdRefIdeal.Facts] [hPre_attn_fwd_finite : Cert.Pre_attn_fwd_finite.Facts] : Prop :=
  ∀ (m : (ℓ : Loc Cert.AttnFwdRefIdeal.nD Cert.AttnFwdRefIdeal.τ Cert.AttnFwdRefIdeal.sig) → Buf (Elt Ideal) ℓ) (g : Dev Cert.AttnFwdRefIdeal.nD → PrngReg), Pre_AttnFwdRefIdeal_attn_fwd_finite m →
    θ_run (Cert.AttnFwdRefIdeal.defs (F := Ideal)) (onTc (τ := Cert.AttnFwdRefIdeal.τ) (Cert.AttnFwdRefIdeal.main (F := Ideal))) ⟨m, fun _ => 0, g⟩ (fun r => (∀ c : Dev Cert.AttnFwdRefIdeal.nD,
      r.2.mem ((c.tc : Thread Cert.AttnFwdRefIdeal.nD Cert.AttnFwdRefIdeal.τ).loc Cert.AttnFwdRefIdeal.main_arg0) = m ((c.tc : Thread Cert.AttnFwdRefIdeal.nD Cert.AttnFwdRefIdeal.τ).loc Cert.AttnFwdRefIdeal.main_arg0)
      ∧ r.2.mem ((c.tc : Thread Cert.AttnFwdRefIdeal.nD Cert.AttnFwdRefIdeal.τ).loc Cert.AttnFwdRefIdeal.main_arg1) = m ((c.tc : Thread Cert.AttnFwdRefIdeal.nD Cert.AttnFwdRefIdeal.τ).loc Cert.AttnFwdRefIdeal.main_arg1)
      ∧ r.2.mem ((c.tc : Thread Cert.AttnFwdRefIdeal.nD Cert.AttnFwdRefIdeal.τ).loc Cert.AttnFwdRefIdeal.main_arg2) = m ((c.tc : Thread Cert.AttnFwdRefIdeal.nD Cert.AttnFwdRefIdeal.τ).loc Cert.AttnFwdRefIdeal.main_arg2)
      ∧ r.2.mem ((c.tc : Thread Cert.AttnFwdRefIdeal.nD Cert.AttnFwdRefIdeal.τ).loc Cert.AttnFwdRefIdeal.main_arg3) = m ((c.tc : Thread Cert.AttnFwdRefIdeal.nD Cert.AttnFwdRefIdeal.τ).loc Cert.AttnFwdRefIdeal.main_arg3)
      ∧ r.2.mem ((c.tc : Thread Cert.AttnFwdRefIdeal.nD Cert.AttnFwdRefIdeal.τ).loc Cert.AttnFwdRefIdeal.main_arg4) = m ((c.tc : Thread Cert.AttnFwdRefIdeal.nD Cert.AttnFwdRefIdeal.τ).loc Cert.AttnFwdRefIdeal.main_arg4))
      ∧ r.2.sem = fun _ => 0)

def quiescent_Gate [hGate : Cert.Gate.Facts] : Prop :=
  ∀ (m : (ℓ : Loc Cert.Gate.nD Cert.Gate.τ Cert.Gate.sig) → Buf (Elt Bits) ℓ) (g : Dev Cert.Gate.nD → PrngReg), Pre_Gate m →
    θ_run (Cert.Gate.defs (F := Bits)) (onTc (τ := Cert.Gate.τ) (Cert.Gate.main (F := Bits))) ⟨m, fun _ => 0, g⟩ (fun r => (∀ c : Dev Cert.Gate.nD,
      r.2.mem ((c.tc : Thread Cert.Gate.nD Cert.Gate.τ).loc Cert.Gate.main_arg0) = m ((c.tc : Thread Cert.Gate.nD Cert.Gate.τ).loc Cert.Gate.main_arg0)
      ∧ r.2.mem ((c.tc : Thread Cert.Gate.nD Cert.Gate.τ).loc Cert.Gate.main_arg1) = m ((c.tc : Thread Cert.Gate.nD Cert.Gate.τ).loc Cert.Gate.main_arg1)
      ∧ r.2.mem ((c.tc : Thread Cert.Gate.nD Cert.Gate.τ).loc Cert.Gate.main_arg2) = m ((c.tc : Thread Cert.Gate.nD Cert.Gate.τ).loc Cert.Gate.main_arg2)
      ∧ r.2.mem ((c.tc : Thread Cert.Gate.nD Cert.Gate.τ).loc Cert.Gate.main_arg3) = m ((c.tc : Thread Cert.Gate.nD Cert.Gate.τ).loc Cert.Gate.main_arg3))
      ∧ r.2.sem = fun _ => 0)

def quiescent_GateIdeal [hGateIdeal : Cert.GateIdeal.Facts] : Prop :=
  ∀ (m : (ℓ : Loc Cert.GateIdeal.nD Cert.GateIdeal.τ Cert.GateIdeal.sig) → Buf (Elt Ideal) ℓ) (g : Dev Cert.GateIdeal.nD → PrngReg), Pre_GateIdeal m →
    θ_run (Cert.GateIdeal.defs (F := Ideal)) (onTc (τ := Cert.GateIdeal.τ) (Cert.GateIdeal.main (F := Ideal))) ⟨m, fun _ => 0, g⟩ (fun r => (∀ c : Dev Cert.GateIdeal.nD,
      r.2.mem ((c.tc : Thread Cert.GateIdeal.nD Cert.GateIdeal.τ).loc Cert.GateIdeal.main_arg0) = m ((c.tc : Thread Cert.GateIdeal.nD Cert.GateIdeal.τ).loc Cert.GateIdeal.main_arg0)
      ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
      ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
      ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ r.2.sem = fun _ => 0)

def quiescent_GateRefIdeal [hGateRefIdeal : Cert.GateRefIdeal.Facts] : Prop :=
  ∀ (m : (ℓ : Loc Cert.GateRefIdeal.nD Cert.GateRefIdeal.τ Cert.GateRefIdeal.sig) → Buf (Elt Ideal) ℓ) (g : Dev Cert.GateRefIdeal.nD → PrngReg), Pre_GateRefIdeal m →
    θ_run (Cert.GateRefIdeal.defs (F := Ideal)) (onTc (τ := Cert.GateRefIdeal.τ) (Cert.GateRefIdeal.main (F := Ideal))) ⟨m, fun _ => 0, g⟩ (fun r => (∀ c : Dev Cert.GateRefIdeal.nD,
      r.2.mem ((c.tc : Thread Cert.GateRefIdeal.nD Cert.GateRefIdeal.τ).loc Cert.GateRefIdeal.main_arg0) = m ((c.tc : Thread Cert.GateRefIdeal.nD Cert.GateRefIdeal.τ).loc Cert.GateRefIdeal.main_arg0)
      ∧ r.2.mem ((c.tc : Thread Cert.GateRefIdeal.nD Cert.GateRefIdeal.τ).loc Cert.GateRefIdeal.main_arg1) = m ((c.tc : Thread Cert.GateRefIdeal.nD Cert.GateRefIdeal.τ).loc Cert.GateRefIdeal.main_arg1)
      ∧ r.2.mem ((c.tc : Thread Cert.GateRefIdeal.nD Cert.GateRefIdeal.τ).loc Cert.GateRefIdeal.main_arg2) = m ((c.tc : Thread Cert.GateRefIdeal.nD Cert.GateRefIdeal.τ).loc Cert.GateRefIdeal.main_arg2)
      ∧ r.2.mem ((c.tc : Thread Cert.GateRefIdeal.nD Cert.GateRefIdeal.τ).loc Cert.GateRefIdeal.main_arg3) = m ((c.tc : Thread Cert.GateRefIdeal.nD Cert.GateRefIdeal.τ).loc Cert.GateRefIdeal.main_arg3))
      ∧ r.2.sem = fun _ => 0)

def quiescent_Prep [hPrep : Cert.Prep.Facts] : Prop :=
  ∀ (m : (ℓ : Loc Cert.Prep.nD Cert.Prep.τ Cert.Prep.sig) → Buf (Elt Bits) ℓ) (g : Dev Cert.Prep.nD → PrngReg), Pre_Prep m →
    θ_run (Cert.Prep.defs (F := Bits)) (onTc (τ := Cert.Prep.τ) (Cert.Prep.main (F := Bits))) ⟨m, fun _ => 0, g⟩ (fun r => (∀ c : Dev Cert.Prep.nD,
      r.2.mem ((c.tc : Thread Cert.Prep.nD Cert.Prep.τ).loc Cert.Prep.main_arg0) = m ((c.tc : Thread Cert.Prep.nD Cert.Prep.τ).loc Cert.Prep.main_arg0)
      ∧ r.2.mem ((c.tc : Thread Cert.Prep.nD Cert.Prep.τ).loc Cert.Prep.main_arg1) = m ((c.tc : Thread Cert.Prep.nD Cert.Prep.τ).loc Cert.Prep.main_arg1)
      ∧ r.2.mem ((c.tc : Thread Cert.Prep.nD Cert.Prep.τ).loc Cert.Prep.main_arg2) = m ((c.tc : Thread Cert.Prep.nD Cert.Prep.τ).loc Cert.Prep.main_arg2)
      ∧ r.2.mem ((c.tc : Thread Cert.Prep.nD Cert.Prep.τ).loc Cert.Prep.main_arg3) = m ((c.tc : Thread Cert.Prep.nD Cert.Prep.τ).loc Cert.Prep.main_arg3)
      ∧ r.2.mem ((c.tc : Thread Cert.Prep.nD Cert.Prep.τ).loc Cert.Prep.main_arg4) = m ((c.tc : Thread Cert.Prep.nD Cert.Prep.τ).loc Cert.Prep.main_arg4))
      ∧ r.2.sem = fun _ => 0)

def quiescent_PrepIdeal [hPrepIdeal : Cert.PrepIdeal.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepIdeal_pre_prep_finite [hPrepIdeal : Cert.PrepIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg), Pre_PrepIdeal_prep_finite m →
    θ_run (Cert.PrepIdeal.defs (F := Ideal)) (onTc (τ := Cert.PrepIdeal.τ) (Cert.PrepIdeal.main (F := Ideal))) ⟨m, fun _ => 0, g⟩ (fun r => (∀ c : Dev Cert.PrepIdeal.nD,
      r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
      ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
      ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
      ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
      ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ r.2.sem = fun _ => 0)

def quiescent_PrepRefIdeal [hPrepRefIdeal : Cert.PrepRefIdeal.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_PrepRefIdeal_pre_prep_finite [hPrepRefIdeal : Cert.PrepRefIdeal.Facts] [hPre_prep_finite : Cert.Pre_prep_finite.Facts] : Prop :=
  ∀ (m : (ℓ : Loc Cert.PrepRefIdeal.nD Cert.PrepRefIdeal.τ Cert.PrepRefIdeal.sig) → Buf (Elt Ideal) ℓ) (g : Dev Cert.PrepRefIdeal.nD → PrngReg), Pre_PrepRefIdeal_prep_finite m →
    θ_run (Cert.PrepRefIdeal.defs (F := Ideal)) (onTc (τ := Cert.PrepRefIdeal.τ) (Cert.PrepRefIdeal.main (F := Ideal))) ⟨m, fun _ => 0, g⟩ (fun r => (∀ c : Dev Cert.PrepRefIdeal.nD,
      r.2.mem ((c.tc : Thread Cert.PrepRefIdeal.nD Cert.PrepRefIdeal.τ).loc Cert.PrepRefIdeal.main_arg0) = m ((c.tc : Thread Cert.PrepRefIdeal.nD Cert.PrepRefIdeal.τ).loc Cert.PrepRefIdeal.main_arg0)
      ∧ r.2.mem ((c.tc : Thread Cert.PrepRefIdeal.nD Cert.PrepRefIdeal.τ).loc Cert.PrepRefIdeal.main_arg1) = m ((c.tc : Thread Cert.PrepRefIdeal.nD Cert.PrepRefIdeal.τ).loc Cert.PrepRefIdeal.main_arg1)
      ∧ r.2.mem ((c.tc : Thread Cert.PrepRefIdeal.nD Cert.PrepRefIdeal.τ).loc Cert.PrepRefIdeal.main_arg2) = m ((c.tc : Thread Cert.PrepRefIdeal.nD Cert.PrepRefIdeal.τ).loc Cert.PrepRefIdeal.main_arg2)
      ∧ r.2.mem ((c.tc : Thread Cert.PrepRefIdeal.nD Cert.PrepRefIdeal.τ).loc Cert.PrepRefIdeal.main_arg3) = m ((c.tc : Thread Cert.PrepRefIdeal.nD Cert.PrepRefIdeal.τ).loc Cert.PrepRefIdeal.main_arg3)
      ∧ r.2.mem ((c.tc : Thread Cert.PrepRefIdeal.nD Cert.PrepRefIdeal.τ).loc Cert.PrepRefIdeal.main_arg4) = m ((c.tc : Thread Cert.PrepRefIdeal.nD Cert.PrepRefIdeal.τ).loc Cert.PrepRefIdeal.main_arg4))
      ∧ r.2.sem = fun _ => 0)

def quiescent_Rope [hRope : Cert.Rope.Facts] : Prop :=
  ∀ (m : (ℓ : Loc Cert.Rope.nD Cert.Rope.τ Cert.Rope.sig) → Buf (Elt Bits) ℓ) (g : Dev Cert.Rope.nD → PrngReg), Pre_Rope m →
    θ_run (Cert.Rope.defs (F := Bits)) (onTc (τ := Cert.Rope.τ) (Cert.Rope.main (F := Bits))) ⟨m, fun _ => 0, g⟩ (fun r => (∀ c : Dev Cert.Rope.nD,
      r.2.mem ((c.tc : Thread Cert.Rope.nD Cert.Rope.τ).loc Cert.Rope.main_arg0) = m ((c.tc : Thread Cert.Rope.nD Cert.Rope.τ).loc Cert.Rope.main_arg0))
      ∧ r.2.sem = fun _ => 0)

def quiescent_RopeIdeal [hRopeIdeal : Cert.RopeIdeal.Facts] : Prop :=
  ∀ (m : (ℓ : Loc Cert.RopeIdeal.nD Cert.RopeIdeal.τ Cert.RopeIdeal.sig) → Buf (Elt Ideal) ℓ) (g : Dev Cert.RopeIdeal.nD → PrngReg), Pre_RopeIdeal m →
    θ_run (Cert.RopeIdeal.defs (F := Ideal)) (onTc (τ := Cert.RopeIdeal.τ) (Cert.RopeIdeal.main (F := Ideal))) ⟨m, fun _ => 0, g⟩ (fun r => (∀ c : Dev Cert.RopeIdeal.nD,
      r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ r.2.sem = fun _ => 0)

def quiescent_RopeRefIdeal [hRopeRefIdeal : Cert.RopeRefIdeal.Facts] : Prop :=
  ∀ (m : (ℓ : Loc Cert.RopeRefIdeal.nD Cert.RopeRefIdeal.τ Cert.RopeRefIdeal.sig) → Buf (Elt Ideal) ℓ) (g : Dev Cert.RopeRefIdeal.nD → PrngReg), Pre_RopeRefIdeal m →
    θ_run (Cert.RopeRefIdeal.defs (F := Ideal)) (onTc (τ := Cert.RopeRefIdeal.τ) (Cert.RopeRefIdeal.main (F := Ideal))) ⟨m, fun _ => 0, g⟩ (fun r => (∀ c : Dev Cert.RopeRefIdeal.nD,
      r.2.mem ((c.tc : Thread Cert.RopeRefIdeal.nD Cert.RopeRefIdeal.τ).loc Cert.RopeRefIdeal.main_arg0) = m ((c.tc : Thread Cert.RopeRefIdeal.nD Cert.RopeRefIdeal.τ).loc Cert.RopeRefIdeal.main_arg0))
      ∧ r.2.sem = fun _ => 0)

def quiescent_GradIn [hGradIn : Cert.GradIn.Facts] : Prop :=
  ∀ (m : (ℓ : Loc Cert.GradIn.nD Cert.GradIn.τ Cert.GradIn.sig) → Buf (Elt Bits) ℓ) (g : Dev Cert.GradIn.nD → PrngReg), Pre_GradIn m →
    θ_run (Cert.GradIn.defs (F := Bits)) (onTc (τ := Cert.GradIn.τ) (Cert.GradIn.main (F := Bits))) ⟨m, fun _ => 0, g⟩ (fun r => (∀ c : Dev Cert.GradIn.nD,
      r.2.mem ((c.tc : Thread Cert.GradIn.nD Cert.GradIn.τ).loc Cert.GradIn.main_arg0) = m ((c.tc : Thread Cert.GradIn.nD Cert.GradIn.τ).loc Cert.GradIn.main_arg0)
      ∧ r.2.mem ((c.tc : Thread Cert.GradIn.nD Cert.GradIn.τ).loc Cert.GradIn.main_arg1) = m ((c.tc : Thread Cert.GradIn.nD Cert.GradIn.τ).loc Cert.GradIn.main_arg1))
      ∧ r.2.sem = fun _ => 0)

def quiescent_GradInIdeal [hGradInIdeal : Cert.GradInIdeal.Facts] : Prop :=
  ∀ (m : (ℓ : Loc Cert.GradInIdeal.nD Cert.GradInIdeal.τ Cert.GradInIdeal.sig) → Buf (Elt Ideal) ℓ) (g : Dev Cert.GradInIdeal.nD → PrngReg), Pre_GradInIdeal m →
    θ_run (Cert.GradInIdeal.defs (F := Ideal)) (onTc (τ := Cert.GradInIdeal.τ) (Cert.GradInIdeal.main (F := Ideal))) ⟨m, fun _ => 0, g⟩ (fun r => (∀ c : Dev Cert.GradInIdeal.nD,
      r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
      ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ r.2.sem = fun _ => 0)

def quiescent_GradInRefIdeal [hGradInRefIdeal : Cert.GradInRefIdeal.Facts] : Prop :=
  ∀ (m : (ℓ : Loc Cert.GradInRefIdeal.nD Cert.GradInRefIdeal.τ Cert.GradInRefIdeal.sig) → Buf (Elt Ideal) ℓ) (g : Dev Cert.GradInRefIdeal.nD → PrngReg), Pre_GradInRefIdeal m →
    θ_run (Cert.GradInRefIdeal.defs (F := Ideal)) (onTc (τ := Cert.GradInRefIdeal.τ) (Cert.GradInRefIdeal.main (F := Ideal))) ⟨m, fun _ => 0, g⟩ (fun r => (∀ c : Dev Cert.GradInRefIdeal.nD,
      r.2.mem ((c.tc : Thread Cert.GradInRefIdeal.nD Cert.GradInRefIdeal.τ).loc Cert.GradInRefIdeal.main_arg0) = m ((c.tc : Thread Cert.GradInRefIdeal.nD Cert.GradInRefIdeal.τ).loc Cert.GradInRefIdeal.main_arg0)
      ∧ r.2.mem ((c.tc : Thread Cert.GradInRefIdeal.nD Cert.GradInRefIdeal.τ).loc Cert.GradInRefIdeal.main_arg1) = m ((c.tc : Thread Cert.GradInRefIdeal.nD Cert.GradInRefIdeal.τ).loc Cert.GradInRefIdeal.main_arg1))
      ∧ r.2.sem = fun _ => 0)

def quiescent_AdamSmall [hAdamSmall : Cert.AdamSmall.Facts] : Prop :=
  ∀ (m : (ℓ : Loc Cert.AdamSmall.nD Cert.AdamSmall.τ Cert.AdamSmall.sig) → Buf (Elt Bits) ℓ) (g : Dev Cert.AdamSmall.nD → PrngReg), Pre_AdamSmall m →
    θ_run (Cert.AdamSmall.defs (F := Bits)) (onTc (τ := Cert.AdamSmall.τ) (Cert.AdamSmall.main (F := Bits))) ⟨m, fun _ => 0, g⟩ (fun r => (∀ c : Dev Cert.AdamSmall.nD,
      r.2.mem ((c.tc : Thread Cert.AdamSmall.nD Cert.AdamSmall.τ).loc Cert.AdamSmall.main_arg0) = m ((c.tc : Thread Cert.AdamSmall.nD Cert.AdamSmall.τ).loc Cert.AdamSmall.main_arg0)
      ∧ r.2.mem ((c.tc : Thread Cert.AdamSmall.nD Cert.AdamSmall.τ).loc Cert.AdamSmall.main_arg1) = m ((c.tc : Thread Cert.AdamSmall.nD Cert.AdamSmall.τ).loc Cert.AdamSmall.main_arg1)
      ∧ r.2.mem ((c.tc : Thread Cert.AdamSmall.nD Cert.AdamSmall.τ).loc Cert.AdamSmall.main_arg2) = m ((c.tc : Thread Cert.AdamSmall.nD Cert.AdamSmall.τ).loc Cert.AdamSmall.main_arg2)
      ∧ r.2.mem ((c.tc : Thread Cert.AdamSmall.nD Cert.AdamSmall.τ).loc Cert.AdamSmall.main_arg3) = m ((c.tc : Thread Cert.AdamSmall.nD Cert.AdamSmall.τ).loc Cert.AdamSmall.main_arg3))
      ∧ r.2.sem = fun _ => 0)

def quiescent_AdamSmallIdeal [hAdamSmallIdeal : Cert.AdamSmallIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg), Pre_AdamSmallIdeal m →
    θ_run (Cert.AdamSmallIdeal.defs (F := Ideal)) (onTc (τ := Cert.AdamSmallIdeal.τ) (Cert.AdamSmallIdeal.main (F := Ideal))) ⟨m, fun _ => 0, g⟩ (fun r => (∀ c : Dev Cert.AdamSmallIdeal.nD,
      r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
      ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
      ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
      ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ r.2.sem = fun _ => 0)

def quiescent_AdamSmallRefIdeal [hAdamSmallRefIdeal : Cert.AdamSmallRefIdeal.Facts] : Prop :=
  ∀ (m : (ℓ : Loc Cert.AdamSmallRefIdeal.nD Cert.AdamSmallRefIdeal.τ Cert.AdamSmallRefIdeal.sig) → Buf (Elt Ideal) ℓ) (g : Dev Cert.AdamSmallRefIdeal.nD → PrngReg), Pre_AdamSmallRefIdeal m →
    θ_run (Cert.AdamSmallRefIdeal.defs (F := Ideal)) (onTc (τ := Cert.AdamSmallRefIdeal.τ) (Cert.AdamSmallRefIdeal.main (F := Ideal))) ⟨m, fun _ => 0, g⟩ (fun r => (∀ c : Dev Cert.AdamSmallRefIdeal.nD,
      r.2.mem ((c.tc : Thread Cert.AdamSmallRefIdeal.nD Cert.AdamSmallRefIdeal.τ).loc Cert.AdamSmallRefIdeal.main_arg0) = m ((c.tc : Thread Cert.AdamSmallRefIdeal.nD Cert.AdamSmallRefIdeal.τ).loc Cert.AdamSmallRefIdeal.main_arg0)
      ∧ r.2.mem ((c.tc : Thread Cert.AdamSmallRefIdeal.nD Cert.AdamSmallRefIdeal.τ).loc Cert.AdamSmallRefIdeal.main_arg1) = m ((c.tc : Thread Cert.AdamSmallRefIdeal.nD Cert.AdamSmallRefIdeal.τ).loc Cert.AdamSmallRefIdeal.main_arg1)
      ∧ r.2.mem ((c.tc : Thread Cert.AdamSmallRefIdeal.nD Cert.AdamSmallRefIdeal.τ).loc Cert.AdamSmallRefIdeal.main_arg2) = m ((c.tc : Thread Cert.AdamSmallRefIdeal.nD Cert.AdamSmallRefIdeal.τ).loc Cert.AdamSmallRefIdeal.main_arg2)
      ∧ r.2.mem ((c.tc : Thread Cert.AdamSmallRefIdeal.nD Cert.AdamSmallRefIdeal.τ).loc Cert.AdamSmallRefIdeal.main_arg3) = m ((c.tc : Thread Cert.AdamSmallRefIdeal.nD Cert.AdamSmallRefIdeal.τ).loc Cert.AdamSmallRefIdeal.main_arg3))
      ∧ r.2.sem = fun _ => 0)

def quiescent_AdamB [hAdamB : Cert.AdamB.Facts] : Prop :=
  ∀ (m : (ℓ : Loc Cert.AdamB.nD Cert.AdamB.τ Cert.AdamB.sig) → Buf (Elt Bits) ℓ) (g : Dev Cert.AdamB.nD → PrngReg), Pre_AdamB m →
    θ_run (Cert.AdamB.defs (F := Bits)) (onTc (τ := Cert.AdamB.τ) (Cert.AdamB.main (F := Bits))) ⟨m, fun _ => 0, g⟩ (fun r => (∀ c : Dev Cert.AdamB.nD,
      r.2.mem ((c.tc : Thread Cert.AdamB.nD Cert.AdamB.τ).loc Cert.AdamB.main_arg0) = m ((c.tc : Thread Cert.AdamB.nD Cert.AdamB.τ).loc Cert.AdamB.main_arg0)
      ∧ r.2.mem ((c.tc : Thread Cert.AdamB.nD Cert.AdamB.τ).loc Cert.AdamB.main_arg1) = m ((c.tc : Thread Cert.AdamB.nD Cert.AdamB.τ).loc Cert.AdamB.main_arg1)
      ∧ r.2.mem ((c.tc : Thread Cert.AdamB.nD Cert.AdamB.τ).loc Cert.AdamB.main_arg2) = m ((c.tc : Thread Cert.AdamB.nD Cert.AdamB.τ).loc Cert.AdamB.main_arg2)
      ∧ r.2.mem ((c.tc : Thread Cert.AdamB.nD Cert.AdamB.τ).loc Cert.AdamB.main_arg3) = m ((c.tc : Thread Cert.AdamB.nD Cert.AdamB.τ).loc Cert.AdamB.main_arg3))
      ∧ r.2.sem = fun _ => 0)

def quiescent_AdamBIdeal [hAdamBIdeal : Cert.AdamBIdeal.Facts] : Prop :=
  ∀ (m : (ℓ : Loc Cert.AdamBIdeal.nD Cert.AdamBIdeal.τ Cert.AdamBIdeal.sig) → Buf (Elt Ideal) ℓ) (g : Dev Cert.AdamBIdeal.nD → PrngReg), Pre_AdamBIdeal m →
    θ_run (Cert.AdamBIdeal.defs (F := Ideal)) (onTc (τ := Cert.AdamBIdeal.τ) (Cert.AdamBIdeal.main (F := Ideal))) ⟨m, fun _ => 0, g⟩ (fun r => (∀ c : Dev Cert.AdamBIdeal.nD,
      r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
      ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
      ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
      ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ r.2.sem = fun _ => 0)

def quiescent_AdamBRefIdeal [hAdamBRefIdeal : Cert.AdamBRefIdeal.Facts] : Prop :=
  ∀ (m : (ℓ : Loc Cert.AdamBRefIdeal.nD Cert.AdamBRefIdeal.τ Cert.AdamBRefIdeal.sig) → Buf (Elt Ideal) ℓ) (g : Dev Cert.AdamBRefIdeal.nD → PrngReg), Pre_AdamBRefIdeal m →
    θ_run (Cert.AdamBRefIdeal.defs (F := Ideal)) (onTc (τ := Cert.AdamBRefIdeal.τ) (Cert.AdamBRefIdeal.main (F := Ideal))) ⟨m, fun _ => 0, g⟩ (fun r => (∀ c : Dev Cert.AdamBRefIdeal.nD,
      r.2.mem ((c.tc : Thread Cert.AdamBRefIdeal.nD Cert.AdamBRefIdeal.τ).loc Cert.AdamBRefIdeal.main_arg0) = m ((c.tc : Thread Cert.AdamBRefIdeal.nD Cert.AdamBRefIdeal.τ).loc Cert.AdamBRefIdeal.main_arg0)
      ∧ r.2.mem ((c.tc : Thread Cert.AdamBRefIdeal.nD Cert.AdamBRefIdeal.τ).loc Cert.AdamBRefIdeal.main_arg1) = m ((c.tc : Thread Cert.AdamBRefIdeal.nD Cert.AdamBRefIdeal.τ).loc Cert.AdamBRefIdeal.main_arg1)
      ∧ r.2.mem ((c.tc : Thread Cert.AdamBRefIdeal.nD Cert.AdamBRefIdeal.τ).loc Cert.AdamBRefIdeal.main_arg2) = m ((c.tc : Thread Cert.AdamBRefIdeal.nD Cert.AdamBRefIdeal.τ).loc Cert.AdamBRefIdeal.main_arg2)
      ∧ r.2.mem ((c.tc : Thread Cert.AdamBRefIdeal.nD Cert.AdamBRefIdeal.τ).loc Cert.AdamBRefIdeal.main_arg3) = m ((c.tc : Thread Cert.AdamBRefIdeal.nD Cert.AdamBRefIdeal.τ).loc Cert.AdamBRefIdeal.main_arg3))
      ∧ r.2.sem = fun _ => 0)

def quiescent_AdamIn [hAdamIn : Cert.AdamIn.Facts] : Prop :=
  ∀ (m : (ℓ : Loc Cert.AdamIn.nD Cert.AdamIn.τ Cert.AdamIn.sig) → Buf (Elt Bits) ℓ) (g : Dev Cert.AdamIn.nD → PrngReg), Pre_AdamIn m →
    θ_run (Cert.AdamIn.defs (F := Bits)) (onTc (τ := Cert.AdamIn.τ) (Cert.AdamIn.main (F := Bits))) ⟨m, fun _ => 0, g⟩ (fun r => (∀ c : Dev Cert.AdamIn.nD,
      r.2.mem ((c.tc : Thread Cert.AdamIn.nD Cert.AdamIn.τ).loc Cert.AdamIn.main_arg0) = m ((c.tc : Thread Cert.AdamIn.nD Cert.AdamIn.τ).loc Cert.AdamIn.main_arg0)
      ∧ r.2.mem ((c.tc : Thread Cert.AdamIn.nD Cert.AdamIn.τ).loc Cert.AdamIn.main_arg1) = m ((c.tc : Thread Cert.AdamIn.nD Cert.AdamIn.τ).loc Cert.AdamIn.main_arg1)
      ∧ r.2.mem ((c.tc : Thread Cert.AdamIn.nD Cert.AdamIn.τ).loc Cert.AdamIn.main_arg2) = m ((c.tc : Thread Cert.AdamIn.nD Cert.AdamIn.τ).loc Cert.AdamIn.main_arg2)
      ∧ r.2.mem ((c.tc : Thread Cert.AdamIn.nD Cert.AdamIn.τ).loc Cert.AdamIn.main_arg3) = m ((c.tc : Thread Cert.AdamIn.nD Cert.AdamIn.τ).loc Cert.AdamIn.main_arg3)
      ∧ r.2.mem ((c.tc : Thread Cert.AdamIn.nD Cert.AdamIn.τ).loc Cert.AdamIn.main_arg4) = m ((c.tc : Thread Cert.AdamIn.nD Cert.AdamIn.τ).loc Cert.AdamIn.main_arg4)
      ∧ r.2.mem ((c.tc : Thread Cert.AdamIn.nD Cert.AdamIn.τ).loc Cert.AdamIn.main_arg5) = m ((c.tc : Thread Cert.AdamIn.nD Cert.AdamIn.τ).loc Cert.AdamIn.main_arg5))
      ∧ r.2.sem = fun _ => 0)

def quiescent_AdamInIdeal [hAdamInIdeal : Cert.AdamInIdeal.Facts] : Prop :=
  ∀ (m : (ℓ : Loc Cert.AdamInIdeal.nD Cert.AdamInIdeal.τ Cert.AdamInIdeal.sig) → Buf (Elt Ideal) ℓ) (g : Dev Cert.AdamInIdeal.nD → PrngReg), Pre_AdamInIdeal m →
    θ_run (Cert.AdamInIdeal.defs (F := Ideal)) (onTc (τ := Cert.AdamInIdeal.τ) (Cert.AdamInIdeal.main (F := Ideal))) ⟨m, fun _ => 0, g⟩ (fun r => (∀ c : Dev Cert.AdamInIdeal.nD,
      r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
      ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
      ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
      ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
      ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
      ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ r.2.sem = fun _ => 0)

def quiescent_AdamInRefIdeal [hAdamInRefIdeal : Cert.AdamInRefIdeal.Facts] : Prop :=
  ∀ (m : (ℓ : Loc Cert.AdamInRefIdeal.nD Cert.AdamInRefIdeal.τ Cert.AdamInRefIdeal.sig) → Buf (Elt Ideal) ℓ) (g : Dev Cert.AdamInRefIdeal.nD → PrngReg), Pre_AdamInRefIdeal m →
    θ_run (Cert.AdamInRefIdeal.defs (F := Ideal)) (onTc (τ := Cert.AdamInRefIdeal.τ) (Cert.AdamInRefIdeal.main (F := Ideal))) ⟨m, fun _ => 0, g⟩ (fun r => (∀ c : Dev Cert.AdamInRefIdeal.nD,
      r.2.mem ((c.tc : Thread Cert.AdamInRefIdeal.nD Cert.AdamInRefIdeal.τ).loc Cert.AdamInRefIdeal.main_arg0) = m ((c.tc : Thread Cert.AdamInRefIdeal.nD Cert.AdamInRefIdeal.τ).loc Cert.AdamInRefIdeal.main_arg0)
      ∧ r.2.mem ((c.tc : Thread Cert.AdamInRefIdeal.nD Cert.AdamInRefIdeal.τ).loc Cert.AdamInRefIdeal.main_arg1) = m ((c.tc : Thread Cert.AdamInRefIdeal.nD Cert.AdamInRefIdeal.τ).loc Cert.AdamInRefIdeal.main_arg1)
      ∧ r.2.mem ((c.tc : Thread Cert.AdamInRefIdeal.nD Cert.AdamInRefIdeal.τ).loc Cert.AdamInRefIdeal.main_arg2) = m ((c.tc : Thread Cert.AdamInRefIdeal.nD Cert.AdamInRefIdeal.τ).loc Cert.AdamInRefIdeal.main_arg2)
      ∧ r.2.mem ((c.tc : Thread Cert.AdamInRefIdeal.nD Cert.AdamInRefIdeal.τ).loc Cert.AdamInRefIdeal.main_arg3) = m ((c.tc : Thread Cert.AdamInRefIdeal.nD Cert.AdamInRefIdeal.τ).loc Cert.AdamInRefIdeal.main_arg3)
      ∧ r.2.mem ((c.tc : Thread Cert.AdamInRefIdeal.nD Cert.AdamInRefIdeal.τ).loc Cert.AdamInRefIdeal.main_arg4) = m ((c.tc : Thread Cert.AdamInRefIdeal.nD Cert.AdamInRefIdeal.τ).loc Cert.AdamInRefIdeal.main_arg4)
      ∧ r.2.mem ((c.tc : Thread Cert.AdamInRefIdeal.nD Cert.AdamInRefIdeal.τ).loc Cert.AdamInRefIdeal.main_arg5) = m ((c.tc : Thread Cert.AdamInRefIdeal.nD Cert.AdamInRefIdeal.τ).loc Cert.AdamInRefIdeal.main_arg5))
      ∧ r.2.sem = fun _ => 0)

def quiescent_PairSum [hPairSum : Cert.PairSum.Facts] [hPre_a_half : Cert.Pre_a_half.Facts] : Prop :=
  ∀ (m : (ℓ : Loc Cert.PairSum.nD Cert.PairSum.τ Cert.PairSum.sig) → Buf (Elt Bits) ℓ) (g : Dev Cert.PairSum.nD → PrngReg), Pre_PairSum m →
    θ_run (Cert.PairSum.defs (F := Bits)) (onTc (τ := Cert.PairSum.τ) (Cert.PairSum.main (F := Bits))) ⟨m, fun _ => 0, g⟩ (fun r => (∀ c : Dev Cert.PairSum.nD,
      r.2.mem ((c.tc : Thread Cert.PairSum.nD Cert.PairSum.τ).loc Cert.PairSum.main_arg0) = m ((c.tc : Thread Cert.PairSum.nD Cert.PairSum.τ).loc Cert.PairSum.main_arg0)
      ∧ r.2.mem ((c.tc : Thread Cert.PairSum.nD Cert.PairSum.τ).loc Cert.PairSum.main_arg1) = m ((c.tc : Thread Cert.PairSum.nD Cert.PairSum.τ).loc Cert.PairSum.main_arg1)
      ∧ r.2.mem ((c.tc : Thread Cert.PairSum.nD Cert.PairSum.τ).loc Cert.PairSum.main_arg2) = m ((c.tc : Thread Cert.PairSum.nD Cert.PairSum.τ).loc Cert.PairSum.main_arg2))
      ∧ r.2.sem = fun _ => 0)

def quiescent_PairSumIdeal [hPairSumIdeal : Cert.PairSumIdeal.Facts] [hPre_a_half : Cert.Pre_a_half.Facts] : Prop :=
  ∀ (m : (ℓ : Loc Cert.PairSumIdeal.nD Cert.PairSumIdeal.τ Cert.PairSumIdeal.sig) → Buf (Elt Ideal) ℓ) (g : Dev Cert.PairSumIdeal.nD → PrngReg), Pre_PairSumIdeal m →
    θ_run (Cert.PairSumIdeal.defs (F := Ideal)) (onTc (τ := Cert.PairSumIdeal.τ) (Cert.PairSumIdeal.main (F := Ideal))) ⟨m, fun _ => 0, g⟩ (fun r => (∀ c : Dev Cert.PairSumIdeal.nD,
      r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
      ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
      ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ r.2.sem = fun _ => 0)

def quiescent_PairSumRefIdeal [hPairSumRefIdeal : Cert.PairSumRefIdeal.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PairSumRefIdeal_pre_a_half [hPairSumRefIdeal : Cert.PairSumRefIdeal.Facts] [hPre_a_half : Cert.Pre_a_half.Facts] : Prop :=
  ∀ (m : (ℓ : Loc Cert.PairSumRefIdeal.nD Cert.PairSumRefIdeal.τ Cert.PairSumRefIdeal.sig) → Buf (Elt Ideal) ℓ) (g : Dev Cert.PairSumRefIdeal.nD → PrngReg), Pre_PairSumRefIdeal_a_half m →
    θ_run (Cert.PairSumRefIdeal.defs (F := Ideal)) (onTc (τ := Cert.PairSumRefIdeal.τ) (Cert.PairSumRefIdeal.main (F := Ideal))) ⟨m, fun _ => 0, g⟩ (fun r => (∀ c : Dev Cert.PairSumRefIdeal.nD,
      r.2.mem ((c.tc : Thread Cert.PairSumRefIdeal.nD Cert.PairSumRefIdeal.τ).loc Cert.PairSumRefIdeal.main_arg0) = m ((c.tc : Thread Cert.PairSumRefIdeal.nD Cert.PairSumRefIdeal.τ).loc Cert.PairSumRefIdeal.main_arg0)
      ∧ r.2.mem ((c.tc : Thread Cert.PairSumRefIdeal.nD Cert.PairSumRefIdeal.τ).loc Cert.PairSumRefIdeal.main_arg1) = m ((c.tc : Thread Cert.PairSumRefIdeal.nD Cert.PairSumRefIdeal.τ).loc Cert.PairSumRefIdeal.main_arg1)
      ∧ r.2.mem ((c.tc : Thread Cert.PairSumRefIdeal.nD Cert.PairSumRefIdeal.τ).loc Cert.PairSumRefIdeal.main_arg2) = m ((c.tc : Thread Cert.PairSumRefIdeal.nD Cert.PairSumRefIdeal.τ).loc Cert.PairSumRefIdeal.main_arg2))
      ∧ r.2.sem = fun _ => 0)

def quiescent_PeerSum [hPeerSum : Cert.PeerSum.Facts] [hPre_a_chip : Cert.Pre_a_chip.Facts] : Prop :=
  ∀ (m : (ℓ : Loc Cert.PeerSum.nD Cert.PeerSum.τ Cert.PeerSum.sig) → Buf (Elt Bits) ℓ) (g : Dev Cert.PeerSum.nD → PrngReg), Pre_PeerSum m →
    θ_run (Cert.PeerSum.defs (F := Bits)) (onTc (τ := Cert.PeerSum.τ) (Cert.PeerSum.main (F := Bits))) ⟨m, fun _ => 0, g⟩ (fun r => (∀ c : Dev Cert.PeerSum.nD,
      r.2.mem ((c.tc : Thread Cert.PeerSum.nD Cert.PeerSum.τ).loc Cert.PeerSum.main_arg0) = m ((c.tc : Thread Cert.PeerSum.nD Cert.PeerSum.τ).loc Cert.PeerSum.main_arg0)
      ∧ r.2.mem ((c.tc : Thread Cert.PeerSum.nD Cert.PeerSum.τ).loc Cert.PeerSum.main_arg1) = m ((c.tc : Thread Cert.PeerSum.nD Cert.PeerSum.τ).loc Cert.PeerSum.main_arg1)
      ∧ r.2.mem ((c.tc : Thread Cert.PeerSum.nD Cert.PeerSum.τ).loc Cert.PeerSum.main_arg2) = m ((c.tc : Thread Cert.PeerSum.nD Cert.PeerSum.τ).loc Cert.PeerSum.main_arg2))
      ∧ r.2.sem = fun _ => 0)

def quiescent_PeerSumIdeal [hPeerSumIdeal : Cert.PeerSumIdeal.Facts] [hPre_a_chip : Cert.Pre_a_chip.Facts] : Prop :=
  ∀ (m : (ℓ : Loc Cert.PeerSumIdeal.nD Cert.PeerSumIdeal.τ Cert.PeerSumIdeal.sig) → Buf (Elt Ideal) ℓ) (g : Dev Cert.PeerSumIdeal.nD → PrngReg), Pre_PeerSumIdeal m →
    θ_run (Cert.PeerSumIdeal.defs (F := Ideal)) (onTc (τ := Cert.PeerSumIdeal.τ) (Cert.PeerSumIdeal.main (F := Ideal))) ⟨m, fun _ => 0, g⟩ (fun r => (∀ c : Dev Cert.PeerSumIdeal.nD,
      r.2.mem ((c.tc : Thread Cert.PeerSumIdeal.nD Cert.PeerSumIdeal.τ).loc Cert.PeerSumIdeal.main_arg0) = m ((c.tc : Thread Cert.PeerSumIdeal.nD Cert.PeerSumIdeal.τ).loc Cert.PeerSumIdeal.main_arg0)
      ∧ r.2.mem ((c.tc : Thread Cert.PeerSumIdeal.nD Cert.PeerSumIdeal.τ).loc Cert.PeerSumIdeal.main_arg1) = m ((c.tc : Thread Cert.PeerSumIdeal.nD Cert.PeerSumIdeal.τ).loc Cert.PeerSumIdeal.main_arg1)
      ∧ r.2.mem ((c.tc : Thread Cert.PeerSumIdeal.nD Cert.PeerSumIdeal.τ).loc Cert.PeerSumIdeal.main_arg2) = m ((c.tc : Thread Cert.PeerSumIdeal.nD Cert.PeerSumIdeal.τ).loc Cert.PeerSumIdeal.main_arg2))
      ∧ r.2.sem = fun _ => 0)

def quiescent_PeerSumRefIdeal [hPeerSumRefIdeal : Cert.PeerSumRefIdeal.Facts] : Prop :=
  ∀ (m : (ℓ : Loc Cert.PeerSumRefIdeal.nD Cert.PeerSumRefIdeal.τ Cert.PeerSumRefIdeal.sig) → Buf (Elt Ideal) ℓ) (g : Dev Cert.PeerSumRefIdeal.nD → PrngReg), Pre_PeerSumRefIdeal m →
    θ_run (Cert.PeerSumRefIdeal.defs (F := Ideal)) (onTc (τ := Cert.PeerSumRefIdeal.τ) (Cert.PeerSumRefIdeal.main (F := Ideal))) ⟨m, fun _ => 0, g⟩ (fun r => (∀ c : Dev Cert.PeerSumRefIdeal.nD,
      r.2.mem ((c.tc : Thread Cert.PeerSumRefIdeal.nD Cert.PeerSumRefIdeal.τ).loc Cert.PeerSumRefIdeal.main_arg0) = m ((c.tc : Thread Cert.PeerSumRefIdeal.nD Cert.PeerSumRefIdeal.τ).loc Cert.PeerSumRefIdeal.main_arg0)
      ∧ r.2.mem ((c.tc : Thread Cert.PeerSumRefIdeal.nD Cert.PeerSumRefIdeal.τ).loc Cert.PeerSumRefIdeal.main_arg1) = m ((c.tc : Thread Cert.PeerSumRefIdeal.nD Cert.PeerSumRefIdeal.τ).loc Cert.PeerSumRefIdeal.main_arg1)
      ∧ r.2.mem ((c.tc : Thread Cert.PeerSumRefIdeal.nD Cert.PeerSumRefIdeal.τ).loc Cert.PeerSumRefIdeal.main_arg2) = m ((c.tc : Thread Cert.PeerSumRefIdeal.nD Cert.PeerSumRefIdeal.τ).loc Cert.PeerSumRefIdeal.main_arg2))
      ∧ r.2.sem = fun _ => 0)

def quiescent_PeerSumRefIdeal_pre_a_chip [hPeerSumRefIdeal : Cert.PeerSumRefIdeal.Facts] [hPre_a_chip : Cert.Pre_a_chip.Facts] : Prop :=
  ∀ (m : (ℓ : Loc Cert.PeerSumRefIdeal.nD Cert.PeerSumRefIdeal.τ Cert.PeerSumRefIdeal.sig) → Buf (Elt Ideal) ℓ) (g : Dev Cert.PeerSumRefIdeal.nD → PrngReg), Pre_PeerSumRefIdeal_a_chip m →
    θ_run (Cert.PeerSumRefIdeal.defs (F := Ideal)) (onTc (τ := Cert.PeerSumRefIdeal.τ) (Cert.PeerSumRefIdeal.main (F := Ideal))) ⟨m, fun _ => 0, g⟩ (fun r => (∀ c : Dev Cert.PeerSumRefIdeal.nD,
      r.2.mem ((c.tc : Thread Cert.PeerSumRefIdeal.nD Cert.PeerSumRefIdeal.τ).loc Cert.PeerSumRefIdeal.main_arg0) = m ((c.tc : Thread Cert.PeerSumRefIdeal.nD Cert.PeerSumRefIdeal.τ).loc Cert.PeerSumRefIdeal.main_arg0)
      ∧ r.2.mem ((c.tc : Thread Cert.PeerSumRefIdeal.nD Cert.PeerSumRefIdeal.τ).loc Cert.PeerSumRefIdeal.main_arg1) = m ((c.tc : Thread Cert.PeerSumRefIdeal.nD Cert.PeerSumRefIdeal.τ).loc Cert.PeerSumRefIdeal.main_arg1)
      ∧ r.2.mem ((c.tc : Thread Cert.PeerSumRefIdeal.nD Cert.PeerSumRefIdeal.τ).loc Cert.PeerSumRefIdeal.main_arg2) = m ((c.tc : Thread Cert.PeerSumRefIdeal.nD Cert.PeerSumRefIdeal.τ).loc Cert.PeerSumRefIdeal.main_arg2))
      ∧ r.2.sem = fun _ => 0)

def quiescent_SlotSum [hSlotSum : Cert.SlotSum.Facts] : Prop :=
  ∀ (m : (ℓ : Loc Cert.SlotSum.nD Cert.SlotSum.τ Cert.SlotSum.sig) → Buf (Elt Bits) ℓ) (g : Dev Cert.SlotSum.nD → PrngReg), Pre_SlotSum m →
    θ_run (Cert.SlotSum.defs (F := Bits)) (onTc (τ := Cert.SlotSum.τ) (Cert.SlotSum.main (F := Bits))) ⟨m, fun _ => 0, g⟩ (fun r => (∀ c : Dev Cert.SlotSum.nD,
      r.2.mem ((c.tc : Thread Cert.SlotSum.nD Cert.SlotSum.τ).loc Cert.SlotSum.main_arg0) = m ((c.tc : Thread Cert.SlotSum.nD Cert.SlotSum.τ).loc Cert.SlotSum.main_arg0))
      ∧ r.2.sem = fun _ => 0)

def quiescent_SlotSumIdeal [hSlotSumIdeal : Cert.SlotSumIdeal.Facts] : Prop :=
  ∀ (m : (ℓ : Loc Cert.SlotSumIdeal.nD Cert.SlotSumIdeal.τ Cert.SlotSumIdeal.sig) → Buf (Elt Ideal) ℓ) (g : Dev Cert.SlotSumIdeal.nD → PrngReg), Pre_SlotSumIdeal m →
    θ_run (Cert.SlotSumIdeal.defs (F := Ideal)) (onTc (τ := Cert.SlotSumIdeal.τ) (Cert.SlotSumIdeal.main (F := Ideal))) ⟨m, fun _ => 0, g⟩ (fun r => (∀ c : Dev Cert.SlotSumIdeal.nD,
      r.2.mem ((c.tc : Thread Cert.SlotSumIdeal.nD Cert.SlotSumIdeal.τ).loc Cert.SlotSumIdeal.main_arg0) = m ((c.tc : Thread Cert.SlotSumIdeal.nD Cert.SlotSumIdeal.τ).loc Cert.SlotSumIdeal.main_arg0))
      ∧ r.2.sem = fun _ => 0)

def quiescent_SlotSumRefIdeal [hSlotSumRefIdeal : Cert.SlotSumRefIdeal.Facts] : Prop :=
  ∀ (m : (ℓ : Loc Cert.SlotSumRefIdeal.nD Cert.SlotSumRefIdeal.τ Cert.SlotSumRefIdeal.sig) → Buf (Elt Ideal) ℓ) (g : Dev Cert.SlotSumRefIdeal.nD → PrngReg), Pre_SlotSumRefIdeal m →
    θ_run (Cert.SlotSumRefIdeal.defs (F := Ideal)) (onTc (τ := Cert.SlotSumRefIdeal.τ) (Cert.SlotSumRefIdeal.main (F := Ideal))) ⟨m, fun _ => 0, g⟩ (fun r => (∀ c : Dev Cert.SlotSumRefIdeal.nD,
      r.2.mem ((c.tc : Thread Cert.SlotSumRefIdeal.nD Cert.SlotSumRefIdeal.τ).loc Cert.SlotSumRefIdeal.main_arg0) = m ((c.tc : Thread Cert.SlotSumRefIdeal.nD Cert.SlotSumRefIdeal.τ).loc Cert.SlotSumRefIdeal.main_arg0))
      ∧ r.2.sem = fun _ => 0)

def quiescent_Pack [hPack : Cert.Pack.Facts] : Prop :=
  ∀ (m : (ℓ : Loc Cert.Pack.nD Cert.Pack.τ Cert.Pack.sig) → Buf (Elt Bits) ℓ) (g : Dev Cert.Pack.nD → PrngReg), Pre_Pack m →
    θ_run (Cert.Pack.defs (F := Bits)) (onTc (τ := Cert.Pack.τ) (Cert.Pack.main (F := Bits))) ⟨m, fun _ => 0, g⟩ (fun r => (∀ c : Dev Cert.Pack.nD,
      r.2.mem ((c.tc : Thread Cert.Pack.nD Cert.Pack.τ).loc Cert.Pack.main_arg0) = m ((c.tc : Thread Cert.Pack.nD Cert.Pack.τ).loc Cert.Pack.main_arg0)
      ∧ r.2.mem ((c.tc : Thread Cert.Pack.nD Cert.Pack.τ).loc Cert.Pack.main_arg1) = m ((c.tc : Thread Cert.Pack.nD Cert.Pack.τ).loc Cert.Pack.main_arg1)
      ∧ r.2.mem ((c.tc : Thread Cert.Pack.nD Cert.Pack.τ).loc Cert.Pack.main_arg2) = m ((c.tc : Thread Cert.Pack.nD Cert.Pack.τ).loc Cert.Pack.main_arg2)
      ∧ r.2.mem ((c.tc : Thread Cert.Pack.nD Cert.Pack.τ).loc Cert.Pack.main_arg3) = m ((c.tc : Thread Cert.Pack.nD Cert.Pack.τ).loc Cert.Pack.main_arg3)
      ∧ r.2.mem ((c.tc : Thread Cert.Pack.nD Cert.Pack.τ).loc Cert.Pack.main_arg4) = m ((c.tc : Thread Cert.Pack.nD Cert.Pack.τ).loc Cert.Pack.main_arg4)
      ∧ r.2.mem ((c.tc : Thread Cert.Pack.nD Cert.Pack.τ).loc Cert.Pack.main_arg5) = m ((c.tc : Thread Cert.Pack.nD Cert.Pack.τ).loc Cert.Pack.main_arg5)
      ∧ r.2.mem ((c.tc : Thread Cert.Pack.nD Cert.Pack.τ).loc Cert.Pack.main_arg6) = m ((c.tc : Thread Cert.Pack.nD Cert.Pack.τ).loc Cert.Pack.main_arg6)
      ∧ r.2.mem ((c.tc : Thread Cert.Pack.nD Cert.Pack.τ).loc Cert.Pack.main_arg7) = m ((c.tc : Thread Cert.Pack.nD Cert.Pack.τ).loc Cert.Pack.main_arg7)
      ∧ r.2.mem ((c.tc : Thread Cert.Pack.nD Cert.Pack.τ).loc Cert.Pack.main_arg8) = m ((c.tc : Thread Cert.Pack.nD Cert.Pack.τ).loc Cert.Pack.main_arg8)
      ∧ r.2.mem ((c.tc : Thread Cert.Pack.nD Cert.Pack.τ).loc Cert.Pack.main_arg9) = m ((c.tc : Thread Cert.Pack.nD Cert.Pack.τ).loc Cert.Pack.main_arg9)
      ∧ r.2.mem ((c.tc : Thread Cert.Pack.nD Cert.Pack.τ).loc Cert.Pack.main_arg10) = m ((c.tc : Thread Cert.Pack.nD Cert.Pack.τ).loc Cert.Pack.main_arg10)
      ∧ r.2.mem ((c.tc : Thread Cert.Pack.nD Cert.Pack.τ).loc Cert.Pack.main_arg11) = m ((c.tc : Thread Cert.Pack.nD Cert.Pack.τ).loc Cert.Pack.main_arg11)
      ∧ r.2.mem ((c.tc : Thread Cert.Pack.nD Cert.Pack.τ).loc Cert.Pack.main_arg12) = m ((c.tc : Thread Cert.Pack.nD Cert.Pack.τ).loc Cert.Pack.main_arg12)
      ∧ r.2.mem ((c.tc : Thread Cert.Pack.nD Cert.Pack.τ).loc Cert.Pack.main_arg13) = m ((c.tc : Thread Cert.Pack.nD Cert.Pack.τ).loc Cert.Pack.main_arg13)
      ∧ r.2.mem ((c.tc : Thread Cert.Pack.nD Cert.Pack.τ).loc Cert.Pack.main_arg14) = m ((c.tc : Thread Cert.Pack.nD Cert.Pack.τ).loc Cert.Pack.main_arg14))
      ∧ r.2.sem = fun _ => 0)

def quiescent_PackIdeal [hPackIdeal : Cert.PackIdeal.Facts] : Prop :=
  ∀ (m : (ℓ : Loc Cert.PackIdeal.nD Cert.PackIdeal.τ Cert.PackIdeal.sig) → Buf (Elt Ideal) ℓ) (g : Dev Cert.PackIdeal.nD → PrngReg), Pre_PackIdeal m →
    θ_run (Cert.PackIdeal.defs (F := Ideal)) (onTc (τ := Cert.PackIdeal.τ) (Cert.PackIdeal.main (F := Ideal))) ⟨m, fun _ => 0, g⟩ (fun r => (∀ c : Dev Cert.PackIdeal.nD,
      r.2.mem ((c.tc : Thread Cert.PackIdeal.nD Cert.PackIdeal.τ).loc Cert.PackIdeal.main_arg0) = m ((c.tc : Thread Cert.PackIdeal.nD Cert.PackIdeal.τ).loc Cert.PackIdeal.main_arg0)
      ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
      ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
      ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
      ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
      ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
      ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
      ∧ r.2.mem ((c.tc : Thread Cert.PackIdeal.nD Cert.PackIdeal.τ).loc Cert.PackIdeal.main_arg7) = m ((c.tc : Thread Cert.PackIdeal.nD Cert.PackIdeal.τ).loc Cert.PackIdeal.main_arg7)
      ∧ r.2.mem ((c.tc : Thread Cert.PackIdeal.nD Cert.PackIdeal.τ).loc Cert.PackIdeal.main_arg8) = m ((c.tc : Thread Cert.PackIdeal.nD Cert.PackIdeal.τ).loc Cert.PackIdeal.main_arg8)
      ∧ r.2.mem ((c.tc : Thread Cert.PackIdeal.nD Cert.PackIdeal.τ).loc Cert.PackIdeal.main_arg9) = m ((c.tc : Thread Cert.PackIdeal.nD Cert.PackIdeal.τ).loc Cert.PackIdeal.main_arg9)
      ∧ r.2.mem ((c.tc : Thread Cert.PackIdeal.nD Cert.PackIdeal.τ).loc Cert.PackIdeal.main_arg10) = m ((c.tc : Thread Cert.PackIdeal.nD Cert.PackIdeal.τ).loc Cert.PackIdeal.main_arg10)
      ∧ r.2.mem ((c.tc : Thread Cert.PackIdeal.nD Cert.PackIdeal.τ).loc Cert.PackIdeal.main_arg11) = m ((c.tc : Thread Cert.PackIdeal.nD Cert.PackIdeal.τ).loc Cert.PackIdeal.main_arg11)
      ∧ r.2.mem ((c.tc : Thread Cert.PackIdeal.nD Cert.PackIdeal.τ).loc Cert.PackIdeal.main_arg12) = m ((c.tc : Thread Cert.PackIdeal.nD Cert.PackIdeal.τ).loc Cert.PackIdeal.main_arg12)
      ∧ r.2.mem ((c.tc : Thread Cert.PackIdeal.nD Cert.PackIdeal.τ).loc Cert.PackIdeal.main_arg13) = m ((c.tc : Thread Cert.PackIdeal.nD Cert.PackIdeal.τ).loc Cert.PackIdeal.main_arg13)
      ∧ r.2.mem ((c.tc : Thread Cert.PackIdeal.nD Cert.PackIdeal.τ).loc Cert.PackIdeal.main_arg14) = m ((c.tc : Thread Cert.PackIdeal.nD Cert.PackIdeal.τ).loc Cert.PackIdeal.main_arg14))
      ∧ r.2.sem = fun _ => 0)

def quiescent_PackRefIdeal [hPackRefIdeal : Cert.PackRefIdeal.Facts] : Prop :=
  ∀ (m : (ℓ : Loc Cert.PackRefIdeal.nD Cert.PackRefIdeal.τ Cert.PackRefIdeal.sig) → Buf (Elt Ideal) ℓ) (g : Dev Cert.PackRefIdeal.nD → PrngReg), Pre_PackRefIdeal m →
    θ_run (Cert.PackRefIdeal.defs (F := Ideal)) (onTc (τ := Cert.PackRefIdeal.τ) (Cert.PackRefIdeal.main (F := Ideal))) ⟨m, fun _ => 0, g⟩ (fun r => (∀ c : Dev Cert.PackRefIdeal.nD,
      r.2.mem ((c.tc : Thread Cert.PackRefIdeal.nD Cert.PackRefIdeal.τ).loc Cert.PackRefIdeal.main_arg0) = m ((c.tc : Thread Cert.PackRefIdeal.nD Cert.PackRefIdeal.τ).loc Cert.PackRefIdeal.main_arg0)
      ∧ r.2.mem ((c.tc : Thread Cert.PackRefIdeal.nD Cert.PackRefIdeal.τ).loc Cert.PackRefIdeal.main_arg1) = m ((c.tc : Thread Cert.PackRefIdeal.nD Cert.PackRefIdeal.τ).loc Cert.PackRefIdeal.main_arg1)
      ∧ r.2.mem ((c.tc : Thread Cert.PackRefIdeal.nD Cert.PackRefIdeal.τ).loc Cert.PackRefIdeal.main_arg2) = m ((c.tc : Thread Cert.PackRefIdeal.nD Cert.PackRefIdeal.τ).loc Cert.PackRefIdeal.main_arg2)
      ∧ r.2.mem ((c.tc : Thread Cert.PackRefIdeal.nD Cert.PackRefIdeal.τ).loc Cert.PackRefIdeal.main_arg3) = m ((c.tc : Thread Cert.PackRefIdeal.nD Cert.PackRefIdeal.τ).loc Cert.PackRefIdeal.main_arg3)
      ∧ r.2.mem ((c.tc : Thread Cert.PackRefIdeal.nD Cert.PackRefIdeal.τ).loc Cert.PackRefIdeal.main_arg4) = m ((c.tc : Thread Cert.PackRefIdeal.nD Cert.PackRefIdeal.τ).loc Cert.PackRefIdeal.main_arg4)
      ∧ r.2.mem ((c.tc : Thread Cert.PackRefIdeal.nD Cert.PackRefIdeal.τ).loc Cert.PackRefIdeal.main_arg5) = m ((c.tc : Thread Cert.PackRefIdeal.nD Cert.PackRefIdeal.τ).loc Cert.PackRefIdeal.main_arg5)
      ∧ r.2.mem ((c.tc : Thread Cert.PackRefIdeal.nD Cert.PackRefIdeal.τ).loc Cert.PackRefIdeal.main_arg6) = m ((c.tc : Thread Cert.PackRefIdeal.nD Cert.PackRefIdeal.τ).loc Cert.PackRefIdeal.main_arg6)
      ∧ r.2.mem ((c.tc : Thread Cert.PackRefIdeal.nD Cert.PackRefIdeal.τ).loc Cert.PackRefIdeal.main_arg7) = m ((c.tc : Thread Cert.PackRefIdeal.nD Cert.PackRefIdeal.τ).loc Cert.PackRefIdeal.main_arg7)
      ∧ r.2.mem ((c.tc : Thread Cert.PackRefIdeal.nD Cert.PackRefIdeal.τ).loc Cert.PackRefIdeal.main_arg8) = m ((c.tc : Thread Cert.PackRefIdeal.nD Cert.PackRefIdeal.τ).loc Cert.PackRefIdeal.main_arg8)
      ∧ r.2.mem ((c.tc : Thread Cert.PackRefIdeal.nD Cert.PackRefIdeal.τ).loc Cert.PackRefIdeal.main_arg9) = m ((c.tc : Thread Cert.PackRefIdeal.nD Cert.PackRefIdeal.τ).loc Cert.PackRefIdeal.main_arg9)
      ∧ r.2.mem ((c.tc : Thread Cert.PackRefIdeal.nD Cert.PackRefIdeal.τ).loc Cert.PackRefIdeal.main_arg10) = m ((c.tc : Thread Cert.PackRefIdeal.nD Cert.PackRefIdeal.τ).loc Cert.PackRefIdeal.main_arg10)
      ∧ r.2.mem ((c.tc : Thread Cert.PackRefIdeal.nD Cert.PackRefIdeal.τ).loc Cert.PackRefIdeal.main_arg11) = m ((c.tc : Thread Cert.PackRefIdeal.nD Cert.PackRefIdeal.τ).loc Cert.PackRefIdeal.main_arg11)
      ∧ r.2.mem ((c.tc : Thread Cert.PackRefIdeal.nD Cert.PackRefIdeal.τ).loc Cert.PackRefIdeal.main_arg12) = m ((c.tc : Thread Cert.PackRefIdeal.nD Cert.PackRefIdeal.τ).loc Cert.PackRefIdeal.main_arg12)
      ∧ r.2.mem ((c.tc : Thread Cert.PackRefIdeal.nD Cert.PackRefIdeal.τ).loc Cert.PackRefIdeal.main_arg13) = m ((c.tc : Thread Cert.PackRefIdeal.nD Cert.PackRefIdeal.τ).loc Cert.PackRefIdeal.main_arg13)
      ∧ r.2.mem ((c.tc : Thread Cert.PackRefIdeal.nD Cert.PackRefIdeal.τ).loc Cert.PackRefIdeal.main_arg14) = m ((c.tc : Thread Cert.PackRefIdeal.nD Cert.PackRefIdeal.τ).loc Cert.PackRefIdeal.main_arg14))
      ∧ r.2.sem = fun _ => 0)

def quiescent_Unpack [hUnpack : Cert.Unpack.Facts] : Prop :=
  ∀ (m : (ℓ : Loc Cert.Unpack.nD Cert.Unpack.τ Cert.Unpack.sig) → Buf (Elt Bits) ℓ) (g : Dev Cert.Unpack.nD → PrngReg), Pre_Unpack m →
    θ_run (Cert.Unpack.defs (F := Bits)) (onTc (τ := Cert.Unpack.τ) (Cert.Unpack.main (F := Bits))) ⟨m, fun _ => 0, g⟩ (fun r => (∀ c : Dev Cert.Unpack.nD,
      r.2.mem ((c.tc : Thread Cert.Unpack.nD Cert.Unpack.τ).loc Cert.Unpack.main_arg0) = m ((c.tc : Thread Cert.Unpack.nD Cert.Unpack.τ).loc Cert.Unpack.main_arg0))
      ∧ r.2.sem = fun _ => 0)

def quiescent_UnpackIdeal [hUnpackIdeal : Cert.UnpackIdeal.Facts] : Prop :=
  ∀ (m : (ℓ : Loc Cert.UnpackIdeal.nD Cert.UnpackIdeal.τ Cert.UnpackIdeal.sig) → Buf (Elt Ideal) ℓ) (g : Dev Cert.UnpackIdeal.nD → PrngReg), Pre_UnpackIdeal m →
    θ_run (Cert.UnpackIdeal.defs (F := Ideal)) (onTc (τ := Cert.UnpackIdeal.τ) (Cert.UnpackIdeal.main (F := Ideal))) ⟨m, fun _ => 0, g⟩ (fun r => (∀ c : Dev Cert.UnpackIdeal.nD,
      r.2.mem ((c.tc : Thread Cert.UnpackIdeal.nD Cert.UnpackIdeal.τ).loc Cert.UnpackIdeal.main_arg0) = m ((c.tc : Thread Cert.UnpackIdeal.nD Cert.UnpackIdeal.τ).loc Cert.UnpackIdeal.main_arg0))
      ∧ r.2.sem = fun _ => 0)

def quiescent_UnpackRefIdeal [hUnpackRefIdeal : Cert.UnpackRefIdeal.Facts] : Prop :=
  ∀ (m : (ℓ : Loc Cert.UnpackRefIdeal.nD Cert.UnpackRefIdeal.τ Cert.UnpackRefIdeal.sig) → Buf (Elt Ideal) ℓ) (g : Dev Cert.UnpackRefIdeal.nD → PrngReg), Pre_UnpackRefIdeal m →
    θ_run (Cert.UnpackRefIdeal.defs (F := Ideal)) (onTc (τ := Cert.UnpackRefIdeal.τ) (Cert.UnpackRefIdeal.main (F := Ideal))) ⟨m, fun _ => 0, g⟩ (fun r => (∀ c : Dev Cert.UnpackRefIdeal.nD,
      r.2.mem ((c.tc : Thread Cert.UnpackRefIdeal.nD Cert.UnpackRefIdeal.τ).loc Cert.UnpackRefIdeal.main_arg0) = m ((c.tc : Thread Cert.UnpackRefIdeal.nD Cert.UnpackRefIdeal.τ).loc Cert.UnpackRefIdeal.main_arg0))
      ∧ r.2.sem = fun _ => 0)

def quiescent_AttnBwd [hAttnBwd : Cert.AttnBwd.Facts] : Prop :=
  ∀ (m : (ℓ : Loc Cert.AttnBwd.nD Cert.AttnBwd.τ Cert.AttnBwd.sig) → Buf (Elt Bits) ℓ) (g : Dev Cert.AttnBwd.nD → PrngReg), Pre_AttnBwd m →
    θ_run (Cert.AttnBwd.defs (F := Bits)) (onTc (τ := Cert.AttnBwd.τ) (Cert.AttnBwd.main (F := Bits))) ⟨m, fun _ => 0, g⟩ (fun r => (∀ c : Dev Cert.AttnBwd.nD,
      r.2.mem ((c.tc : Thread Cert.AttnBwd.nD Cert.AttnBwd.τ).loc Cert.AttnBwd.main_arg0) = m ((c.tc : Thread Cert.AttnBwd.nD Cert.AttnBwd.τ).loc Cert.AttnBwd.main_arg0)
      ∧ r.2.mem ((c.tc : Thread Cert.AttnBwd.nD Cert.AttnBwd.τ).loc Cert.AttnBwd.main_arg1) = m ((c.tc : Thread Cert.AttnBwd.nD Cert.AttnBwd.τ).loc Cert.AttnBwd.main_arg1)
      ∧ r.2.mem ((c.tc : Thread Cert.AttnBwd.nD Cert.AttnBwd.τ).loc Cert.AttnBwd.main_arg2) = m ((c.tc : Thread Cert.AttnBwd.nD Cert.AttnBwd.τ).loc Cert.AttnBwd.main_arg2)
      ∧ r.2.mem ((c.tc : Thread Cert.AttnBwd.nD Cert.AttnBwd.τ).loc Cert.AttnBwd.main_arg3) = m ((c.tc : Thread Cert.AttnBwd.nD Cert.AttnBwd.τ).loc Cert.AttnBwd.main_arg3)
      ∧ r.2.mem ((c.tc : Thread Cert.AttnBwd.nD Cert.AttnBwd.τ).loc Cert.AttnBwd.main_arg4) = m ((c.tc : Thread Cert.AttnBwd.nD Cert.AttnBwd.τ).loc Cert.AttnBwd.main_arg4)
      ∧ r.2.mem ((c.tc : Thread Cert.AttnBwd.nD Cert.AttnBwd.τ).loc Cert.AttnBwd.main_arg5) = m ((c.tc : Thread Cert.AttnBwd.nD Cert.AttnBwd.τ).loc Cert.AttnBwd.main_arg5)
      ∧ r.2.mem ((c.tc : Thread Cert.AttnBwd.nD Cert.AttnBwd.τ).loc Cert.AttnBwd.main_arg6) = m ((c.tc : Thread Cert.AttnBwd.nD Cert.AttnBwd.τ).loc Cert.AttnBwd.main_arg6)
      ∧ r.2.mem ((c.tc : Thread Cert.AttnBwd.nD Cert.AttnBwd.τ).loc Cert.AttnBwd.main_arg7) = m ((c.tc : Thread Cert.AttnBwd.nD Cert.AttnBwd.τ).loc Cert.AttnBwd.main_arg7))
      ∧ r.2.sem = fun _ => 0)

def quiescent_AttnBwdIdeal [hAttnBwdIdeal : Cert.AttnBwdIdeal.Facts] : Prop :=
  ∀ (m : (ℓ : Loc Cert.AttnBwdIdeal.nD Cert.AttnBwdIdeal.τ Cert.AttnBwdIdeal.sig) → Buf (Elt Ideal) ℓ) (g : Dev Cert.AttnBwdIdeal.nD → PrngReg), Pre_AttnBwdIdeal m →
    θ_run (Cert.AttnBwdIdeal.defs (F := Ideal)) (onTc (τ := Cert.AttnBwdIdeal.τ) (Cert.AttnBwdIdeal.main (F := Ideal))) ⟨m, fun _ => 0, g⟩ (fun r => (∀ c : Dev Cert.AttnBwdIdeal.nD,
      r.2.mem ((c.tc : Thread Cert.AttnBwdIdeal.nD Cert.AttnBwdIdeal.τ).loc Cert.AttnBwdIdeal.main_arg0) = m ((c.tc : Thread Cert.AttnBwdIdeal.nD Cert.AttnBwdIdeal.τ).loc Cert.AttnBwdIdeal.main_arg0)
      ∧ r.2.mem ((c.tc : Thread Cert.AttnBwdIdeal.nD Cert.AttnBwdIdeal.τ).loc Cert.AttnBwdIdeal.main_arg1) = m ((c.tc : Thread Cert.AttnBwdIdeal.nD Cert.AttnBwdIdeal.τ).loc Cert.AttnBwdIdeal.main_arg1)
      ∧ r.2.mem ((c.tc : Thread Cert.AttnBwdIdeal.nD Cert.AttnBwdIdeal.τ).loc Cert.AttnBwdIdeal.main_arg2) = m ((c.tc : Thread Cert.AttnBwdIdeal.nD Cert.AttnBwdIdeal.τ).loc Cert.AttnBwdIdeal.main_arg2)
      ∧ r.2.mem ((c.tc : Thread Cert.AttnBwdIdeal.nD Cert.AttnBwdIdeal.τ).loc Cert.AttnBwdIdeal.main_arg3) = m ((c.tc : Thread Cert.AttnBwdIdeal.nD Cert.AttnBwdIdeal.τ).loc Cert.AttnBwdIdeal.main_arg3)
      ∧ r.2.mem ((c.tc : Thread Cert.AttnBwdIdeal.nD Cert.AttnBwdIdeal.τ).loc Cert.AttnBwdIdeal.main_arg4) = m ((c.tc : Thread Cert.AttnBwdIdeal.nD Cert.AttnBwdIdeal.τ).loc Cert.AttnBwdIdeal.main_arg4)
      ∧ r.2.mem ((c.tc : Thread Cert.AttnBwdIdeal.nD Cert.AttnBwdIdeal.τ).loc Cert.AttnBwdIdeal.main_arg5) = m ((c.tc : Thread Cert.AttnBwdIdeal.nD Cert.AttnBwdIdeal.τ).loc Cert.AttnBwdIdeal.main_arg5)
      ∧ r.2.mem ((c.tc : Thread Cert.AttnBwdIdeal.nD Cert.AttnBwdIdeal.τ).loc Cert.AttnBwdIdeal.main_arg6) = m ((c.tc : Thread Cert.AttnBwdIdeal.nD Cert.AttnBwdIdeal.τ).loc Cert.AttnBwdIdeal.main_arg6)
      ∧ r.2.mem ((c.tc : Thread Cert.AttnBwdIdeal.nD Cert.AttnBwdIdeal.τ).loc Cert.AttnBwdIdeal.main_arg7) = m ((c.tc : Thread Cert.AttnBwdIdeal.nD Cert.AttnBwdIdeal.τ).loc Cert.AttnBwdIdeal.main_arg7))
      ∧ r.2.sem = fun _ => 0)

def quiescent_AttnBwdRefIdeal [hAttnBwdRefIdeal : Cert.AttnBwdRefIdeal.Facts] : Prop :=
  ∀ (m : (ℓ : Loc Cert.AttnBwdRefIdeal.nD Cert.AttnBwdRefIdeal.τ Cert.AttnBwdRefIdeal.sig) → Buf (Elt Ideal) ℓ) (g : Dev Cert.AttnBwdRefIdeal.nD → PrngReg), Pre_AttnBwdRefIdeal m →
    θ_run (Cert.AttnBwdRefIdeal.defs (F := Ideal)) (onTc (τ := Cert.AttnBwdRefIdeal.τ) (Cert.AttnBwdRefIdeal.main (F := Ideal))) ⟨m, fun _ => 0, g⟩ (fun r => (∀ c : Dev Cert.AttnBwdRefIdeal.nD,
      r.2.mem ((c.tc : Thread Cert.AttnBwdRefIdeal.nD Cert.AttnBwdRefIdeal.τ).loc Cert.AttnBwdRefIdeal.main_arg0) = m ((c.tc : Thread Cert.AttnBwdRefIdeal.nD Cert.AttnBwdRefIdeal.τ).loc Cert.AttnBwdRefIdeal.main_arg0)
      ∧ r.2.mem ((c.tc : Thread Cert.AttnBwdRefIdeal.nD Cert.AttnBwdRefIdeal.τ).loc Cert.AttnBwdRefIdeal.main_arg1) = m ((c.tc : Thread Cert.AttnBwdRefIdeal.nD Cert.AttnBwdRefIdeal.τ).loc Cert.AttnBwdRefIdeal.main_arg1)
      ∧ r.2.mem ((c.tc : Thread Cert.AttnBwdRefIdeal.nD Cert.AttnBwdRefIdeal.τ).loc Cert.AttnBwdRefIdeal.main_arg2) = m ((c.tc : Thread Cert.AttnBwdRefIdeal.nD Cert.AttnBwdRefIdeal.τ).loc Cert.AttnBwdRefIdeal.main_arg2)
      ∧ r.2.mem ((c.tc : Thread Cert.AttnBwdRefIdeal.nD Cert.AttnBwdRefIdeal.τ).loc Cert.AttnBwdRefIdeal.main_arg3) = m ((c.tc : Thread Cert.AttnBwdRefIdeal.nD Cert.AttnBwdRefIdeal.τ).loc Cert.AttnBwdRefIdeal.main_arg3)
      ∧ r.2.mem ((c.tc : Thread Cert.AttnBwdRefIdeal.nD Cert.AttnBwdRefIdeal.τ).loc Cert.AttnBwdRefIdeal.main_arg4) = m ((c.tc : Thread Cert.AttnBwdRefIdeal.nD Cert.AttnBwdRefIdeal.τ).loc Cert.AttnBwdRefIdeal.main_arg4)
      ∧ r.2.mem ((c.tc : Thread Cert.AttnBwdRefIdeal.nD Cert.AttnBwdRefIdeal.τ).loc Cert.AttnBwdRefIdeal.main_arg5) = m ((c.tc : Thread Cert.AttnBwdRefIdeal.nD Cert.AttnBwdRefIdeal.τ).loc Cert.AttnBwdRefIdeal.main_arg5)
      ∧ r.2.mem ((c.tc : Thread Cert.AttnBwdRefIdeal.nD Cert.AttnBwdRefIdeal.τ).loc Cert.AttnBwdRefIdeal.main_arg6) = m ((c.tc : Thread Cert.AttnBwdRefIdeal.nD Cert.AttnBwdRefIdeal.τ).loc Cert.AttnBwdRefIdeal.main_arg6)
      ∧ r.2.mem ((c.tc : Thread Cert.AttnBwdRefIdeal.nD Cert.AttnBwdRefIdeal.τ).loc Cert.AttnBwdRefIdeal.main_arg7) = m ((c.tc : Thread Cert.AttnBwdRefIdeal.nD Cert.AttnBwdRefIdeal.τ).loc Cert.AttnBwdRefIdeal.main_arg7))
      ∧ r.2.sem = fun _ => 0)

def preserves_OutBwd_OutBwdIdeal : Prop :=
  True

def algebraic_OutBwdIdeal_OutBwdRefIdeal [hOutBwdIdeal : Cert.OutBwdIdeal.Facts] [hOutBwdRefIdeal : Cert.OutBwdRefIdeal.Facts] : Prop :=
  ∀ (m : (ℓ : Loc Cert.OutBwdIdeal.nD Cert.OutBwdIdeal.τ Cert.OutBwdIdeal.sig) → Buf (Elt Ideal) ℓ) (g : Dev Cert.OutBwdIdeal.nD → PrngReg)
    (m' : (ℓ : Loc Cert.OutBwdRefIdeal.nD Cert.OutBwdRefIdeal.τ Cert.OutBwdRefIdeal.sig) → Buf (Elt Ideal) ℓ) (g' : Dev Cert.OutBwdRefIdeal.nD → PrngReg), Pre_OutBwdIdeal m →
    (∀ c : Dev Cert.OutBwdIdeal.nD,
      m' ((c.tc : Thread Cert.OutBwdRefIdeal.nD Cert.OutBwdRefIdeal.τ).loc Cert.OutBwdRefIdeal.main_arg0) = m ((c.tc : Thread Cert.OutBwdIdeal.nD Cert.OutBwdIdeal.τ).loc Cert.OutBwdIdeal.main_arg0)
      ∧ m' ((c.tc : Thread Cert.OutBwdRefIdeal.nD Cert.OutBwdRefIdeal.τ).loc Cert.OutBwdRefIdeal.main_arg1) = m ((c.tc : Thread Cert.OutBwdIdeal.nD Cert.OutBwdIdeal.τ).loc Cert.OutBwdIdeal.main_arg1)
      ∧ m' ((c.tc : Thread Cert.OutBwdRefIdeal.nD Cert.OutBwdRefIdeal.τ).loc Cert.OutBwdRefIdeal.main_arg2) = m ((c.tc : Thread Cert.OutBwdIdeal.nD Cert.OutBwdIdeal.τ).loc Cert.OutBwdIdeal.main_arg2)
      ∧ m' ((c.tc : Thread Cert.OutBwdRefIdeal.nD Cert.OutBwdRefIdeal.τ).loc Cert.OutBwdRefIdeal.main_arg3) = m ((c.tc : Thread Cert.OutBwdIdeal.nD Cert.OutBwdIdeal.τ).loc Cert.OutBwdIdeal.main_arg3)
      ∧ m' ((c.tc : Thread Cert.OutBwdRefIdeal.nD Cert.OutBwdRefIdeal.τ).loc Cert.OutBwdRefIdeal.main_arg4) = m ((c.tc : Thread Cert.OutBwdIdeal.nD Cert.OutBwdIdeal.τ).loc Cert.OutBwdIdeal.main_arg4)
      ∧ m' ((c.tc : Thread Cert.OutBwdRefIdeal.nD Cert.OutBwdRefIdeal.τ).loc Cert.OutBwdRefIdeal.main_arg5) = m ((c.tc : Thread Cert.OutBwdIdeal.nD Cert.OutBwdIdeal.τ).loc Cert.OutBwdIdeal.main_arg5)) →
    ∃ (v0 : (c : Dev Cert.OutBwdIdeal.nD) → Buf (Elt Ideal) ((c.tc : Thread Cert.OutBwdIdeal.nD Cert.OutBwdIdeal.τ).loc Cert.OutBwdIdeal.main_v3_0)) (v1 : (c : Dev Cert.OutBwdIdeal.nD) → Buf (Elt Ideal) ((c.tc : Thread Cert.OutBwdIdeal.nD Cert.OutBwdIdeal.τ).loc Cert.OutBwdIdeal.main_v3_1)) (v2 : (c : Dev Cert.OutBwdIdeal.nD) → Buf (Elt Ideal) ((c.tc : Thread Cert.OutBwdIdeal.nD Cert.OutBwdIdeal.τ).loc Cert.OutBwdIdeal.main_v3_2)) (v3 : (c : Dev Cert.OutBwdIdeal.nD) → Buf (Elt Ideal) ((c.tc : Thread Cert.OutBwdIdeal.nD Cert.OutBwdIdeal.τ).loc Cert.OutBwdIdeal.main_v3_3)),
      θ_run (Cert.OutBwdIdeal.defs (F := Ideal)) (onTc (τ := Cert.OutBwdIdeal.τ) (Cert.OutBwdIdeal.main (F := Ideal))) ⟨m, fun _ => 0, g⟩ (fun r => ∀ c : Dev Cert.OutBwdIdeal.nD,
          r.2.mem ((c.tc : Thread Cert.OutBwdIdeal.nD Cert.OutBwdIdeal.τ).loc Cert.OutBwdIdeal.main_v3_0) = v0 c
          ∧ r.2.mem ((c.tc : Thread Cert.OutBwdIdeal.nD Cert.OutBwdIdeal.τ).loc Cert.OutBwdIdeal.main_v3_1) = v1 c
          ∧ r.2.mem ((c.tc : Thread Cert.OutBwdIdeal.nD Cert.OutBwdIdeal.τ).loc Cert.OutBwdIdeal.main_v3_2) = v2 c
          ∧ r.2.mem ((c.tc : Thread Cert.OutBwdIdeal.nD Cert.OutBwdIdeal.τ).loc Cert.OutBwdIdeal.main_v3_3) = v3 c
          ∧ r.2.mem ((c.tc : Thread Cert.OutBwdIdeal.nD Cert.OutBwdIdeal.τ).loc Cert.OutBwdIdeal.main_arg0) = m ((c.tc : Thread Cert.OutBwdIdeal.nD Cert.OutBwdIdeal.τ).loc Cert.OutBwdIdeal.main_arg0)
          ∧ r.2.mem ((c.tc : Thread Cert.OutBwdIdeal.nD Cert.OutBwdIdeal.τ).loc Cert.OutBwdIdeal.main_arg1) = m ((c.tc : Thread Cert.OutBwdIdeal.nD Cert.OutBwdIdeal.τ).loc Cert.OutBwdIdeal.main_arg1)
          ∧ r.2.mem ((c.tc : Thread Cert.OutBwdIdeal.nD Cert.OutBwdIdeal.τ).loc Cert.OutBwdIdeal.main_arg2) = m ((c.tc : Thread Cert.OutBwdIdeal.nD Cert.OutBwdIdeal.τ).loc Cert.OutBwdIdeal.main_arg2)
          ∧ r.2.mem ((c.tc : Thread Cert.OutBwdIdeal.nD Cert.OutBwdIdeal.τ).loc Cert.OutBwdIdeal.main_arg3) = m ((c.tc : Thread Cert.OutBwdIdeal.nD Cert.OutBwdIdeal.τ).loc Cert.OutBwdIdeal.main_arg3)
          ∧ r.2.mem ((c.tc : Thread Cert.OutBwdIdeal.nD Cert.OutBwdIdeal.τ).loc Cert.OutBwdIdeal.main_arg4) = m ((c.tc : Thread Cert.OutBwdIdeal.nD Cert.OutBwdIdeal.τ).loc Cert.OutBwdIdeal.main_arg4)
          ∧ r.2.mem ((c.tc : Thread Cert.OutBwdIdeal.nD Cert.OutBwdIdeal.τ).loc Cert.OutBwdIdeal.main_arg5) = m ((c.tc : Thread Cert.OutBwdIdeal.nD Cert.OutBwdIdeal.τ).loc Cert.OutBwdIdeal.main_arg5))
      ∧ θ_run (Cert.OutBwdRefIdeal.defs (F := Ideal)) (onTc (τ := Cert.OutBwdRefIdeal.τ) (Cert.OutBwdRefIdeal.main (F := Ideal))) ⟨m', fun _ => 0, g'⟩ (fun r => ∀ c : Dev Cert.OutBwdRefIdeal.nD,
          r.2.mem ((c.tc : Thread Cert.OutBwdRefIdeal.nD Cert.OutBwdRefIdeal.τ).loc Cert.OutBwdRefIdeal.main_v76) = v0 c
          ∧ r.2.mem ((c.tc : Thread Cert.OutBwdRefIdeal.nD Cert.OutBwdRefIdeal.τ).loc Cert.OutBwdRefIdeal.main_v56) = v1 c
          ∧ r.2.mem ((c.tc : Thread Cert.OutBwdRefIdeal.nD Cert.OutBwdRefIdeal.τ).loc Cert.OutBwdRefIdeal.main_v77) = v2 c
          ∧ r.2.mem ((c.tc : Thread Cert.OutBwdRefIdeal.nD Cert.OutBwdRefIdeal.τ).loc Cert.OutBwdRefIdeal.main_v78) = v3 c
          ∧ r.2.mem ((c.tc : Thread Cert.OutBwdRefIdeal.nD Cert.OutBwdRefIdeal.τ).loc Cert.OutBwdRefIdeal.main_arg0) = m' ((c.tc : Thread Cert.OutBwdRefIdeal.nD Cert.OutBwdRefIdeal.τ).loc Cert.OutBwdRefIdeal.main_arg0)
          ∧ r.2.mem ((c.tc : Thread Cert.OutBwdRefIdeal.nD Cert.OutBwdRefIdeal.τ).loc Cert.OutBwdRefIdeal.main_arg1) = m' ((c.tc : Thread Cert.OutBwdRefIdeal.nD Cert.OutBwdRefIdeal.τ).loc Cert.OutBwdRefIdeal.main_arg1)
          ∧ r.2.mem ((c.tc : Thread Cert.OutBwdRefIdeal.nD Cert.OutBwdRefIdeal.τ).loc Cert.OutBwdRefIdeal.main_arg2) = m' ((c.tc : Thread Cert.OutBwdRefIdeal.nD Cert.OutBwdRefIdeal.τ).loc Cert.OutBwdRefIdeal.main_arg2)
          ∧ r.2.mem ((c.tc : Thread Cert.OutBwdRefIdeal.nD Cert.OutBwdRefIdeal.τ).loc Cert.OutBwdRefIdeal.main_arg3) = m' ((c.tc : Thread Cert.OutBwdRefIdeal.nD Cert.OutBwdRefIdeal.τ).loc Cert.OutBwdRefIdeal.main_arg3)
          ∧ r.2.mem ((c.tc : Thread Cert.OutBwdRefIdeal.nD Cert.OutBwdRefIdeal.τ).loc Cert.OutBwdRefIdeal.main_arg4) = m' ((c.tc : Thread Cert.OutBwdRefIdeal.nD Cert.OutBwdRefIdeal.τ).loc Cert.OutBwdRefIdeal.main_arg4)
          ∧ r.2.mem ((c.tc : Thread Cert.OutBwdRefIdeal.nD Cert.OutBwdRefIdeal.τ).loc Cert.OutBwdRefIdeal.main_arg5) = m' ((c.tc : Thread Cert.OutBwdRefIdeal.nD Cert.OutBwdRefIdeal.τ).loc Cert.OutBwdRefIdeal.main_arg5))

def preserves_GluBwd_GluBwdIdeal : Prop :=
  IdealRules.named_const.Statement Cert.GluBwdIdeal.κ "cube" .f32 0x3D372713#32 ((8943 / 200000 : ℝ) : EReal)
  ∧ IdealRules.named_const.Statement Cert.GluBwdIdeal.κ "cube3" .f32 0x3E095D4F#32 ((26829 / 200000 : ℝ) : EReal)

def algebraic_GluBwdIdeal_GluBwdRefIdeal_pre_glu_finite [hGluBwdIdeal : Cert.GluBwdIdeal.Facts] [hGluBwdRefIdeal : Cert.GluBwdRefIdeal.Facts] [hPre_glu_finite : Cert.Pre_glu_finite.Facts] : Prop :=
  ∀ (m : (ℓ : Loc Cert.GluBwdIdeal.nD Cert.GluBwdIdeal.τ Cert.GluBwdIdeal.sig) → Buf (Elt Ideal) ℓ) (g : Dev Cert.GluBwdIdeal.nD → PrngReg)
    (m' : (ℓ : Loc Cert.GluBwdRefIdeal.nD Cert.GluBwdRefIdeal.τ Cert.GluBwdRefIdeal.sig) → Buf (Elt Ideal) ℓ) (g' : Dev Cert.GluBwdRefIdeal.nD → PrngReg), Pre_GluBwdIdeal_glu_finite m →
    (∀ c : Dev Cert.GluBwdIdeal.nD,
      m' ((c.tc : Thread Cert.GluBwdRefIdeal.nD Cert.GluBwdRefIdeal.τ).loc Cert.GluBwdRefIdeal.main_arg0) = m ((c.tc : Thread Cert.GluBwdIdeal.nD Cert.GluBwdIdeal.τ).loc Cert.GluBwdIdeal.main_arg0)
      ∧ m' ((c.tc : Thread Cert.GluBwdRefIdeal.nD Cert.GluBwdRefIdeal.τ).loc Cert.GluBwdRefIdeal.main_arg1) = m ((c.tc : Thread Cert.GluBwdIdeal.nD Cert.GluBwdIdeal.τ).loc Cert.GluBwdIdeal.main_arg1)
      ∧ m' ((c.tc : Thread Cert.GluBwdRefIdeal.nD Cert.GluBwdRefIdeal.τ).loc Cert.GluBwdRefIdeal.main_arg2) = m ((c.tc : Thread Cert.GluBwdIdeal.nD Cert.GluBwdIdeal.τ).loc Cert.GluBwdIdeal.main_arg2)
      ∧ m' ((c.tc : Thread Cert.GluBwdRefIdeal.nD Cert.GluBwdRefIdeal.τ).loc Cert.GluBwdRefIdeal.main_arg3) = m ((c.tc : Thread Cert.GluBwdIdeal.nD Cert.GluBwdIdeal.τ).loc Cert.GluBwdIdeal.main_arg3)
      ∧ m' ((c.tc : Thread Cert.GluBwdRefIdeal.nD Cert.GluBwdRefIdeal.τ).loc Cert.GluBwdRefIdeal.main_arg4) = m ((c.tc : Thread Cert.GluBwdIdeal.nD Cert.GluBwdIdeal.τ).loc Cert.GluBwdIdeal.main_arg4)) →
    ∃ (v0 : (c : Dev Cert.GluBwdIdeal.nD) → Buf (Elt Ideal) ((c.tc : Thread Cert.GluBwdIdeal.nD Cert.GluBwdIdeal.τ).loc Cert.GluBwdIdeal.main_v2_0)) (v1 : (c : Dev Cert.GluBwdIdeal.nD) → Buf (Elt Ideal) ((c.tc : Thread Cert.GluBwdIdeal.nD Cert.GluBwdIdeal.τ).loc Cert.GluBwdIdeal.main_v2_1)) (v2 : (c : Dev Cert.GluBwdIdeal.nD) → Buf (Elt Ideal) ((c.tc : Thread Cert.GluBwdIdeal.nD Cert.GluBwdIdeal.τ).loc Cert.GluBwdIdeal.main_v2_2)) (v3 : (c : Dev Cert.GluBwdIdeal.nD) → Buf (Elt Ideal) ((c.tc : Thread Cert.GluBwdIdeal.nD Cert.GluBwdIdeal.τ).loc Cert.GluBwdIdeal.main_v2_3)),
      θ_run (Cert.GluBwdIdeal.defs (F := Ideal)) (onTc (τ := Cert.GluBwdIdeal.τ) (Cert.GluBwdIdeal.main (F := Ideal))) ⟨m, fun _ => 0, g⟩ (fun r => ∀ c : Dev Cert.GluBwdIdeal.nD,
          r.2.mem ((c.tc : Thread Cert.GluBwdIdeal.nD Cert.GluBwdIdeal.τ).loc Cert.GluBwdIdeal.main_v2_0) = v0 c
          ∧ r.2.mem ((c.tc : Thread Cert.GluBwdIdeal.nD Cert.GluBwdIdeal.τ).loc Cert.GluBwdIdeal.main_v2_1) = v1 c
          ∧ r.2.mem ((c.tc : Thread Cert.GluBwdIdeal.nD Cert.GluBwdIdeal.τ).loc Cert.GluBwdIdeal.main_v2_2) = v2 c
          ∧ r.2.mem ((c.tc : Thread Cert.GluBwdIdeal.nD Cert.GluBwdIdeal.τ).loc Cert.GluBwdIdeal.main_v2_3) = v3 c
          ∧ r.2.mem ((c.tc : Thread Cert.GluBwdIdeal.nD Cert.GluBwdIdeal.τ).loc Cert.GluBwdIdeal.main_arg0) = m ((c.tc : Thread Cert.GluBwdIdeal.nD Cert.GluBwdIdeal.τ).loc Cert.GluBwdIdeal.main_arg0)
          ∧ r.2.mem ((c.tc : Thread Cert.GluBwdIdeal.nD Cert.GluBwdIdeal.τ).loc Cert.GluBwdIdeal.main_arg1) = m ((c.tc : Thread Cert.GluBwdIdeal.nD Cert.GluBwdIdeal.τ).loc Cert.GluBwdIdeal.main_arg1)
          ∧ r.2.mem ((c.tc : Thread Cert.GluBwdIdeal.nD Cert.GluBwdIdeal.τ).loc Cert.GluBwdIdeal.main_arg2) = m ((c.tc : Thread Cert.GluBwdIdeal.nD Cert.GluBwdIdeal.τ).loc Cert.GluBwdIdeal.main_arg2)
          ∧ r.2.mem ((c.tc : Thread Cert.GluBwdIdeal.nD Cert.GluBwdIdeal.τ).loc Cert.GluBwdIdeal.main_arg3) = m ((c.tc : Thread Cert.GluBwdIdeal.nD Cert.GluBwdIdeal.τ).loc Cert.GluBwdIdeal.main_arg3)
          ∧ r.2.mem ((c.tc : Thread Cert.GluBwdIdeal.nD Cert.GluBwdIdeal.τ).loc Cert.GluBwdIdeal.main_arg4) = m ((c.tc : Thread Cert.GluBwdIdeal.nD Cert.GluBwdIdeal.τ).loc Cert.GluBwdIdeal.main_arg4))
      ∧ θ_run (Cert.GluBwdRefIdeal.defs (F := Ideal)) (onTc (τ := Cert.GluBwdRefIdeal.τ) (Cert.GluBwdRefIdeal.main (F := Ideal))) ⟨m', fun _ => 0, g'⟩ (fun r => ∀ c : Dev Cert.GluBwdRefIdeal.nD,
          r.2.mem ((c.tc : Thread Cert.GluBwdRefIdeal.nD Cert.GluBwdRefIdeal.τ).loc Cert.GluBwdRefIdeal.main_v66) = v0 c
          ∧ r.2.mem ((c.tc : Thread Cert.GluBwdRefIdeal.nD Cert.GluBwdRefIdeal.τ).loc Cert.GluBwdRefIdeal.main_v67) = v1 c
          ∧ r.2.mem ((c.tc : Thread Cert.GluBwdRefIdeal.nD Cert.GluBwdRefIdeal.τ).loc Cert.GluBwdRefIdeal.main_v68) = v2 c
          ∧ r.2.mem ((c.tc : Thread Cert.GluBwdRefIdeal.nD Cert.GluBwdRefIdeal.τ).loc Cert.GluBwdRefIdeal.main_v69) = v3 c
          ∧ r.2.mem ((c.tc : Thread Cert.GluBwdRefIdeal.nD Cert.GluBwdRefIdeal.τ).loc Cert.GluBwdRefIdeal.main_arg0) = m' ((c.tc : Thread Cert.GluBwdRefIdeal.nD Cert.GluBwdRefIdeal.τ).loc Cert.GluBwdRefIdeal.main_arg0)
          ∧ r.2.mem ((c.tc : Thread Cert.GluBwdRefIdeal.nD Cert.GluBwdRefIdeal.τ).loc Cert.GluBwdRefIdeal.main_arg1) = m' ((c.tc : Thread Cert.GluBwdRefIdeal.nD Cert.GluBwdRefIdeal.τ).loc Cert.GluBwdRefIdeal.main_arg1)
          ∧ r.2.mem ((c.tc : Thread Cert.GluBwdRefIdeal.nD Cert.GluBwdRefIdeal.τ).loc Cert.GluBwdRefIdeal.main_arg2) = m' ((c.tc : Thread Cert.GluBwdRefIdeal.nD Cert.GluBwdRefIdeal.τ).loc Cert.GluBwdRefIdeal.main_arg2)
          ∧ r.2.mem ((c.tc : Thread Cert.GluBwdRefIdeal.nD Cert.GluBwdRefIdeal.τ).loc Cert.GluBwdRefIdeal.main_arg3) = m' ((c.tc : Thread Cert.GluBwdRefIdeal.nD Cert.GluBwdRefIdeal.τ).loc Cert.GluBwdRefIdeal.main_arg3)
          ∧ r.2.mem ((c.tc : Thread Cert.GluBwdRefIdeal.nD Cert.GluBwdRefIdeal.τ).loc Cert.GluBwdRefIdeal.main_arg4) = m' ((c.tc : Thread Cert.GluBwdRefIdeal.nD Cert.GluBwdRefIdeal.τ).loc Cert.GluBwdRefIdeal.main_arg4))

def preserves_ParamBwd_ParamBwdIdeal : Prop :=
  True

def algebraic_ParamBwdIdeal_ParamBwdRefIdeal_pre_param_finite [hParamBwdIdeal : Cert.ParamBwdIdeal.Facts] [hParamBwdRefIdeal : Cert.ParamBwdRefIdeal.Facts] [hPre_param_finite : Cert.Pre_param_finite.Facts] : Prop :=
  ∀ (m : (ℓ : Loc Cert.ParamBwdIdeal.nD Cert.ParamBwdIdeal.τ Cert.ParamBwdIdeal.sig) → Buf (Elt Ideal) ℓ) (g : Dev Cert.ParamBwdIdeal.nD → PrngReg)
    (m' : (ℓ : Loc Cert.ParamBwdRefIdeal.nD Cert.ParamBwdRefIdeal.τ Cert.ParamBwdRefIdeal.sig) → Buf (Elt Ideal) ℓ) (g' : Dev Cert.ParamBwdRefIdeal.nD → PrngReg), Pre_ParamBwdIdeal_param_finite m →
    (∀ c : Dev Cert.ParamBwdIdeal.nD,
      m' ((c.tc : Thread Cert.ParamBwdRefIdeal.nD Cert.ParamBwdRefIdeal.τ).loc Cert.ParamBwdRefIdeal.main_arg0) = m ((c.tc : Thread Cert.ParamBwdIdeal.nD Cert.ParamBwdIdeal.τ).loc Cert.ParamBwdIdeal.main_arg0)
      ∧ m' ((c.tc : Thread Cert.ParamBwdRefIdeal.nD Cert.ParamBwdRefIdeal.τ).loc Cert.ParamBwdRefIdeal.main_arg1) = m ((c.tc : Thread Cert.ParamBwdIdeal.nD Cert.ParamBwdIdeal.τ).loc Cert.ParamBwdIdeal.main_arg1)
      ∧ m' ((c.tc : Thread Cert.ParamBwdRefIdeal.nD Cert.ParamBwdRefIdeal.τ).loc Cert.ParamBwdRefIdeal.main_arg2) = m ((c.tc : Thread Cert.ParamBwdIdeal.nD Cert.ParamBwdIdeal.τ).loc Cert.ParamBwdIdeal.main_arg2)
      ∧ m' ((c.tc : Thread Cert.ParamBwdRefIdeal.nD Cert.ParamBwdRefIdeal.τ).loc Cert.ParamBwdRefIdeal.main_arg3) = m ((c.tc : Thread Cert.ParamBwdIdeal.nD Cert.ParamBwdIdeal.τ).loc Cert.ParamBwdIdeal.main_arg3)
      ∧ m' ((c.tc : Thread Cert.ParamBwdRefIdeal.nD Cert.ParamBwdRefIdeal.τ).loc Cert.ParamBwdRefIdeal.main_arg4) = m ((c.tc : Thread Cert.ParamBwdIdeal.nD Cert.ParamBwdIdeal.τ).loc Cert.ParamBwdIdeal.main_arg4)
      ∧ m' ((c.tc : Thread Cert.ParamBwdRefIdeal.nD Cert.ParamBwdRefIdeal.τ).loc Cert.ParamBwdRefIdeal.main_arg5) = m ((c.tc : Thread Cert.ParamBwdIdeal.nD Cert.ParamBwdIdeal.τ).loc Cert.ParamBwdIdeal.main_arg5)
      ∧ m' ((c.tc : Thread Cert.ParamBwdRefIdeal.nD Cert.ParamBwdRefIdeal.τ).loc Cert.ParamBwdRefIdeal.main_arg6) = m ((c.tc : Thread Cert.ParamBwdIdeal.nD Cert.ParamBwdIdeal.τ).loc Cert.ParamBwdIdeal.main_arg6)
      ∧ m' ((c.tc : Thread Cert.ParamBwdRefIdeal.nD Cert.ParamBwdRefIdeal.τ).loc Cert.ParamBwdRefIdeal.main_arg7) = m ((c.tc : Thread Cert.ParamBwdIdeal.nD Cert.ParamBwdIdeal.τ).loc Cert.ParamBwdIdeal.main_arg7)
      ∧ m' ((c.tc : Thread Cert.ParamBwdRefIdeal.nD Cert.ParamBwdRefIdeal.τ).loc Cert.ParamBwdRefIdeal.main_arg8) = m ((c.tc : Thread Cert.ParamBwdIdeal.nD Cert.ParamBwdIdeal.τ).loc Cert.ParamBwdIdeal.main_arg8)) →
    ∃ (v0 : (c : Dev Cert.ParamBwdIdeal.nD) → Buf (Elt Ideal) ((c.tc : Thread Cert.ParamBwdIdeal.nD Cert.ParamBwdIdeal.τ).loc Cert.ParamBwdIdeal.main_v9_0)) (v1 : (c : Dev Cert.ParamBwdIdeal.nD) → Buf (Elt Ideal) ((c.tc : Thread Cert.ParamBwdIdeal.nD Cert.ParamBwdIdeal.τ).loc Cert.ParamBwdIdeal.main_v9_1)) (v2 : (c : Dev Cert.ParamBwdIdeal.nD) → Buf (Elt Ideal) ((c.tc : Thread Cert.ParamBwdIdeal.nD Cert.ParamBwdIdeal.τ).loc Cert.ParamBwdIdeal.main_v9_2)) (v3 : (c : Dev Cert.ParamBwdIdeal.nD) → Buf (Elt Ideal) ((c.tc : Thread Cert.ParamBwdIdeal.nD Cert.ParamBwdIdeal.τ).loc Cert.ParamBwdIdeal.main_v9_3)) (v4 : (c : Dev Cert.ParamBwdIdeal.nD) → Buf (Elt Ideal) ((c.tc : Thread Cert.ParamBwdIdeal.nD Cert.ParamBwdIdeal.τ).loc Cert.ParamBwdIdeal.main_v9_4)),
      θ_run (Cert.ParamBwdIdeal.defs (F := Ideal)) (onTc (τ := Cert.ParamBwdIdeal.τ) (Cert.ParamBwdIdeal.main (F := Ideal))) ⟨m, fun _ => 0, g⟩ (fun r => ∀ c : Dev Cert.ParamBwdIdeal.nD,
          r.2.mem ((c.tc : Thread Cert.ParamBwdIdeal.nD Cert.ParamBwdIdeal.τ).loc Cert.ParamBwdIdeal.main_v9_0) = v0 c
          ∧ r.2.mem ((c.tc : Thread Cert.ParamBwdIdeal.nD Cert.ParamBwdIdeal.τ).loc Cert.ParamBwdIdeal.main_v9_1) = v1 c
          ∧ r.2.mem ((c.tc : Thread Cert.ParamBwdIdeal.nD Cert.ParamBwdIdeal.τ).loc Cert.ParamBwdIdeal.main_v9_2) = v2 c
          ∧ r.2.mem ((c.tc : Thread Cert.ParamBwdIdeal.nD Cert.ParamBwdIdeal.τ).loc Cert.ParamBwdIdeal.main_v9_3) = v3 c
          ∧ r.2.mem ((c.tc : Thread Cert.ParamBwdIdeal.nD Cert.ParamBwdIdeal.τ).loc Cert.ParamBwdIdeal.main_v9_4) = v4 c
          ∧ r.2.mem ((c.tc : Thread Cert.ParamBwdIdeal.nD Cert.ParamBwdIdeal.τ).loc Cert.ParamBwdIdeal.main_arg0) = m ((c.tc : Thread Cert.ParamBwdIdeal.nD Cert.ParamBwdIdeal.τ).loc Cert.ParamBwdIdeal.main_arg0)
          ∧ r.2.mem ((c.tc : Thread Cert.ParamBwdIdeal.nD Cert.ParamBwdIdeal.τ).loc Cert.ParamBwdIdeal.main_arg1) = m ((c.tc : Thread Cert.ParamBwdIdeal.nD Cert.ParamBwdIdeal.τ).loc Cert.ParamBwdIdeal.main_arg1)
          ∧ r.2.mem ((c.tc : Thread Cert.ParamBwdIdeal.nD Cert.ParamBwdIdeal.τ).loc Cert.ParamBwdIdeal.main_arg2) = m ((c.tc : Thread Cert.ParamBwdIdeal.nD Cert.ParamBwdIdeal.τ).loc Cert.ParamBwdIdeal.main_arg2)
          ∧ r.2.mem ((c.tc : Thread Cert.ParamBwdIdeal.nD Cert.ParamBwdIdeal.τ).loc Cert.ParamBwdIdeal.main_arg3) = m ((c.tc : Thread Cert.ParamBwdIdeal.nD Cert.ParamBwdIdeal.τ).loc Cert.ParamBwdIdeal.main_arg3)
          ∧ r.2.mem ((c.tc : Thread Cert.ParamBwdIdeal.nD Cert.ParamBwdIdeal.τ).loc Cert.ParamBwdIdeal.main_arg4) = m ((c.tc : Thread Cert.ParamBwdIdeal.nD Cert.ParamBwdIdeal.τ).loc Cert.ParamBwdIdeal.main_arg4)
          ∧ r.2.mem ((c.tc : Thread Cert.ParamBwdIdeal.nD Cert.ParamBwdIdeal.τ).loc Cert.ParamBwdIdeal.main_arg5) = m ((c.tc : Thread Cert.ParamBwdIdeal.nD Cert.ParamBwdIdeal.τ).loc Cert.ParamBwdIdeal.main_arg5)
          ∧ r.2.mem ((c.tc : Thread Cert.ParamBwdIdeal.nD Cert.ParamBwdIdeal.τ).loc Cert.ParamBwdIdeal.main_arg6) = m ((c.tc : Thread Cert.ParamBwdIdeal.nD Cert.ParamBwdIdeal.τ).loc Cert.ParamBwdIdeal.main_arg6)
          ∧ r.2.mem ((c.tc : Thread Cert.ParamBwdIdeal.nD Cert.ParamBwdIdeal.τ).loc Cert.ParamBwdIdeal.main_arg7) = m ((c.tc : Thread Cert.ParamBwdIdeal.nD Cert.ParamBwdIdeal.τ).loc Cert.ParamBwdIdeal.main_arg7)
          ∧ r.2.mem ((c.tc : Thread Cert.ParamBwdIdeal.nD Cert.ParamBwdIdeal.τ).loc Cert.ParamBwdIdeal.main_arg8) = m ((c.tc : Thread Cert.ParamBwdIdeal.nD Cert.ParamBwdIdeal.τ).loc Cert.ParamBwdIdeal.main_arg8))
      ∧ θ_run (Cert.ParamBwdRefIdeal.defs (F := Ideal)) (onTc (τ := Cert.ParamBwdRefIdeal.τ) (Cert.ParamBwdRefIdeal.main (F := Ideal))) ⟨m', fun _ => 0, g'⟩ (fun r => ∀ c : Dev Cert.ParamBwdRefIdeal.nD,
          r.2.mem ((c.tc : Thread Cert.ParamBwdRefIdeal.nD Cert.ParamBwdRefIdeal.τ).loc Cert.ParamBwdRefIdeal.main_v138) = v0 c
          ∧ r.2.mem ((c.tc : Thread Cert.ParamBwdRefIdeal.nD Cert.ParamBwdRefIdeal.τ).loc Cert.ParamBwdRefIdeal.main_v130) = v1 c
          ∧ r.2.mem ((c.tc : Thread Cert.ParamBwdRefIdeal.nD Cert.ParamBwdRefIdeal.τ).loc Cert.ParamBwdRefIdeal.main_v141) = v2 c
          ∧ r.2.mem ((c.tc : Thread Cert.ParamBwdRefIdeal.nD Cert.ParamBwdRefIdeal.τ).loc Cert.ParamBwdRefIdeal.main_v142) = v3 c
          ∧ r.2.mem ((c.tc : Thread Cert.ParamBwdRefIdeal.nD Cert.ParamBwdRefIdeal.τ).loc Cert.ParamBwdRefIdeal.main_v143) = v4 c
          ∧ r.2.mem ((c.tc : Thread Cert.ParamBwdRefIdeal.nD Cert.ParamBwdRefIdeal.τ).loc Cert.ParamBwdRefIdeal.main_arg0) = m' ((c.tc : Thread Cert.ParamBwdRefIdeal.nD Cert.ParamBwdRefIdeal.τ).loc Cert.ParamBwdRefIdeal.main_arg0)
          ∧ r.2.mem ((c.tc : Thread Cert.ParamBwdRefIdeal.nD Cert.ParamBwdRefIdeal.τ).loc Cert.ParamBwdRefIdeal.main_arg1) = m' ((c.tc : Thread Cert.ParamBwdRefIdeal.nD Cert.ParamBwdRefIdeal.τ).loc Cert.ParamBwdRefIdeal.main_arg1)
          ∧ r.2.mem ((c.tc : Thread Cert.ParamBwdRefIdeal.nD Cert.ParamBwdRefIdeal.τ).loc Cert.ParamBwdRefIdeal.main_arg2) = m' ((c.tc : Thread Cert.ParamBwdRefIdeal.nD Cert.ParamBwdRefIdeal.τ).loc Cert.ParamBwdRefIdeal.main_arg2)
          ∧ r.2.mem ((c.tc : Thread Cert.ParamBwdRefIdeal.nD Cert.ParamBwdRefIdeal.τ).loc Cert.ParamBwdRefIdeal.main_arg3) = m' ((c.tc : Thread Cert.ParamBwdRefIdeal.nD Cert.ParamBwdRefIdeal.τ).loc Cert.ParamBwdRefIdeal.main_arg3)
          ∧ r.2.mem ((c.tc : Thread Cert.ParamBwdRefIdeal.nD Cert.ParamBwdRefIdeal.τ).loc Cert.ParamBwdRefIdeal.main_arg4) = m' ((c.tc : Thread Cert.ParamBwdRefIdeal.nD Cert.ParamBwdRefIdeal.τ).loc Cert.ParamBwdRefIdeal.main_arg4)
          ∧ r.2.mem ((c.tc : Thread Cert.ParamBwdRefIdeal.nD Cert.ParamBwdRefIdeal.τ).loc Cert.ParamBwdRefIdeal.main_arg5) = m' ((c.tc : Thread Cert.ParamBwdRefIdeal.nD Cert.ParamBwdRefIdeal.τ).loc Cert.ParamBwdRefIdeal.main_arg5)
          ∧ r.2.mem ((c.tc : Thread Cert.ParamBwdRefIdeal.nD Cert.ParamBwdRefIdeal.τ).loc Cert.ParamBwdRefIdeal.main_arg6) = m' ((c.tc : Thread Cert.ParamBwdRefIdeal.nD Cert.ParamBwdRefIdeal.τ).loc Cert.ParamBwdRefIdeal.main_arg6)
          ∧ r.2.mem ((c.tc : Thread Cert.ParamBwdRefIdeal.nD Cert.ParamBwdRefIdeal.τ).loc Cert.ParamBwdRefIdeal.main_arg7) = m' ((c.tc : Thread Cert.ParamBwdRefIdeal.nD Cert.ParamBwdRefIdeal.τ).loc Cert.ParamBwdRefIdeal.main_arg7)
          ∧ r.2.mem ((c.tc : Thread Cert.ParamBwdRefIdeal.nD Cert.ParamBwdRefIdeal.τ).loc Cert.ParamBwdRefIdeal.main_arg8) = m' ((c.tc : Thread Cert.ParamBwdRefIdeal.nD Cert.ParamBwdRefIdeal.τ).loc Cert.ParamBwdRefIdeal.main_arg8))

def preserves_InBwd_InBwdIdeal : Prop :=
  True

def algebraic_InBwdIdeal_InBwdRefIdeal [hInBwdIdeal : Cert.InBwdIdeal.Facts] [hInBwdRefIdeal : Cert.InBwdRefIdeal.Facts] : Prop :=
  ∀ (m : (ℓ : Loc Cert.InBwdIdeal.nD Cert.InBwdIdeal.τ Cert.InBwdIdeal.sig) → Buf (Elt Ideal) ℓ) (g : Dev Cert.InBwdIdeal.nD → PrngReg)
    (m' : (ℓ : Loc Cert.InBwdRefIdeal.nD Cert.InBwdRefIdeal.τ Cert.InBwdRefIdeal.sig) → Buf (Elt Ideal) ℓ) (g' : Dev Cert.InBwdRefIdeal.nD → PrngReg), Pre_InBwdIdeal m →
    (∀ c : Dev Cert.InBwdIdeal.nD,
      m' ((c.tc : Thread Cert.InBwdRefIdeal.nD Cert.InBwdRefIdeal.τ).loc Cert.InBwdRefIdeal.main_arg0) = m ((c.tc : Thread Cert.InBwdIdeal.nD Cert.InBwdIdeal.τ).loc Cert.InBwdIdeal.main_arg0)
      ∧ m' ((c.tc : Thread Cert.InBwdRefIdeal.nD Cert.InBwdRefIdeal.τ).loc Cert.InBwdRefIdeal.main_arg1) = m ((c.tc : Thread Cert.InBwdIdeal.nD Cert.InBwdIdeal.τ).loc Cert.InBwdIdeal.main_arg1)
      ∧ m' ((c.tc : Thread Cert.InBwdRefIdeal.nD Cert.InBwdRefIdeal.τ).loc Cert.InBwdRefIdeal.main_arg2) = m ((c.tc : Thread Cert.InBwdIdeal.nD Cert.InBwdIdeal.τ).loc Cert.InBwdIdeal.main_arg2)
      ∧ m' ((c.tc : Thread Cert.InBwdRefIdeal.nD Cert.InBwdRefIdeal.τ).loc Cert.InBwdRefIdeal.main_arg3) = m ((c.tc : Thread Cert.InBwdIdeal.nD Cert.InBwdIdeal.τ).loc Cert.InBwdIdeal.main_arg3)
      ∧ m' ((c.tc : Thread Cert.InBwdRefIdeal.nD Cert.InBwdRefIdeal.τ).loc Cert.InBwdRefIdeal.main_arg4) = m ((c.tc : Thread Cert.InBwdIdeal.nD Cert.InBwdIdeal.τ).loc Cert.InBwdIdeal.main_arg4)) →
    ∃ (v0 : (c : Dev Cert.InBwdIdeal.nD) → Buf (Elt Ideal) ((c.tc : Thread Cert.InBwdIdeal.nD Cert.InBwdIdeal.τ).loc Cert.InBwdIdeal.main_v5_0)) (v1 : (c : Dev Cert.InBwdIdeal.nD) → Buf (Elt Ideal) ((c.tc : Thread Cert.InBwdIdeal.nD Cert.InBwdIdeal.τ).loc Cert.InBwdIdeal.main_v5_1)),
      θ_run (Cert.InBwdIdeal.defs (F := Ideal)) (onTc (τ := Cert.InBwdIdeal.τ) (Cert.InBwdIdeal.main (F := Ideal))) ⟨m, fun _ => 0, g⟩ (fun r => ∀ c : Dev Cert.InBwdIdeal.nD,
          r.2.mem ((c.tc : Thread Cert.InBwdIdeal.nD Cert.InBwdIdeal.τ).loc Cert.InBwdIdeal.main_v5_0) = v0 c
          ∧ r.2.mem ((c.tc : Thread Cert.InBwdIdeal.nD Cert.InBwdIdeal.τ).loc Cert.InBwdIdeal.main_v5_1) = v1 c
          ∧ r.2.mem ((c.tc : Thread Cert.InBwdIdeal.nD Cert.InBwdIdeal.τ).loc Cert.InBwdIdeal.main_arg0) = m ((c.tc : Thread Cert.InBwdIdeal.nD Cert.InBwdIdeal.τ).loc Cert.InBwdIdeal.main_arg0)
          ∧ r.2.mem ((c.tc : Thread Cert.InBwdIdeal.nD Cert.InBwdIdeal.τ).loc Cert.InBwdIdeal.main_arg1) = m ((c.tc : Thread Cert.InBwdIdeal.nD Cert.InBwdIdeal.τ).loc Cert.InBwdIdeal.main_arg1)
          ∧ r.2.mem ((c.tc : Thread Cert.InBwdIdeal.nD Cert.InBwdIdeal.τ).loc Cert.InBwdIdeal.main_arg2) = m ((c.tc : Thread Cert.InBwdIdeal.nD Cert.InBwdIdeal.τ).loc Cert.InBwdIdeal.main_arg2)
          ∧ r.2.mem ((c.tc : Thread Cert.InBwdIdeal.nD Cert.InBwdIdeal.τ).loc Cert.InBwdIdeal.main_arg3) = m ((c.tc : Thread Cert.InBwdIdeal.nD Cert.InBwdIdeal.τ).loc Cert.InBwdIdeal.main_arg3)
          ∧ r.2.mem ((c.tc : Thread Cert.InBwdIdeal.nD Cert.InBwdIdeal.τ).loc Cert.InBwdIdeal.main_arg4) = m ((c.tc : Thread Cert.InBwdIdeal.nD Cert.InBwdIdeal.τ).loc Cert.InBwdIdeal.main_arg4))
      ∧ θ_run (Cert.InBwdRefIdeal.defs (F := Ideal)) (onTc (τ := Cert.InBwdRefIdeal.τ) (Cert.InBwdRefIdeal.main (F := Ideal))) ⟨m', fun _ => 0, g'⟩ (fun r => ∀ c : Dev Cert.InBwdRefIdeal.nD,
          r.2.mem ((c.tc : Thread Cert.InBwdRefIdeal.nD Cert.InBwdRefIdeal.τ).loc Cert.InBwdRefIdeal.main_v38) = v0 c
          ∧ r.2.mem ((c.tc : Thread Cert.InBwdRefIdeal.nD Cert.InBwdRefIdeal.τ).loc Cert.InBwdRefIdeal.main_v39) = v1 c
          ∧ r.2.mem ((c.tc : Thread Cert.InBwdRefIdeal.nD Cert.InBwdRefIdeal.τ).loc Cert.InBwdRefIdeal.main_arg0) = m' ((c.tc : Thread Cert.InBwdRefIdeal.nD Cert.InBwdRefIdeal.τ).loc Cert.InBwdRefIdeal.main_arg0)
          ∧ r.2.mem ((c.tc : Thread Cert.InBwdRefIdeal.nD Cert.InBwdRefIdeal.τ).loc Cert.InBwdRefIdeal.main_arg1) = m' ((c.tc : Thread Cert.InBwdRefIdeal.nD Cert.InBwdRefIdeal.τ).loc Cert.InBwdRefIdeal.main_arg1)
          ∧ r.2.mem ((c.tc : Thread Cert.InBwdRefIdeal.nD Cert.InBwdRefIdeal.τ).loc Cert.InBwdRefIdeal.main_arg2) = m' ((c.tc : Thread Cert.InBwdRefIdeal.nD Cert.InBwdRefIdeal.τ).loc Cert.InBwdRefIdeal.main_arg2)
          ∧ r.2.mem ((c.tc : Thread Cert.InBwdRefIdeal.nD Cert.InBwdRefIdeal.τ).loc Cert.InBwdRefIdeal.main_arg3) = m' ((c.tc : Thread Cert.InBwdRefIdeal.nD Cert.InBwdRefIdeal.τ).loc Cert.InBwdRefIdeal.main_arg3)
          ∧ r.2.mem ((c.tc : Thread Cert.InBwdRefIdeal.nD Cert.InBwdRefIdeal.τ).loc Cert.InBwdRefIdeal.main_arg4) = m' ((c.tc : Thread Cert.InBwdRefIdeal.nD Cert.InBwdRefIdeal.τ).loc Cert.InBwdRefIdeal.main_arg4))

def preserves_Loss_LossIdeal : Prop :=
  True

def algebraic_LossIdeal_LossRefIdeal [hLossIdeal : Cert.LossIdeal.Facts] [hLossRefIdeal : Cert.LossRefIdeal.Facts] : Prop :=
  ∀ (m : (ℓ : Loc Cert.LossIdeal.nD Cert.LossIdeal.τ Cert.LossIdeal.sig) → Buf (Elt Ideal) ℓ) (g : Dev Cert.LossIdeal.nD → PrngReg)
    (m' : (ℓ : Loc Cert.LossRefIdeal.nD Cert.LossRefIdeal.τ Cert.LossRefIdeal.sig) → Buf (Elt Ideal) ℓ) (g' : Dev Cert.LossRefIdeal.nD → PrngReg), Pre_LossIdeal m →
    (∀ c : Dev Cert.LossIdeal.nD,
      m' ((c.tc : Thread Cert.LossRefIdeal.nD Cert.LossRefIdeal.τ).loc Cert.LossRefIdeal.main_arg0) = m ((c.tc : Thread Cert.LossIdeal.nD Cert.LossIdeal.τ).loc Cert.LossIdeal.main_arg0)
      ∧ m' ((c.tc : Thread Cert.LossRefIdeal.nD Cert.LossRefIdeal.τ).loc Cert.LossRefIdeal.main_arg1) = m ((c.tc : Thread Cert.LossIdeal.nD Cert.LossIdeal.τ).loc Cert.LossIdeal.main_arg1)
      ∧ m' ((c.tc : Thread Cert.LossRefIdeal.nD Cert.LossRefIdeal.τ).loc Cert.LossRefIdeal.main_arg2) = m ((c.tc : Thread Cert.LossIdeal.nD Cert.LossIdeal.τ).loc Cert.LossIdeal.main_arg2)
      ∧ m' ((c.tc : Thread Cert.LossRefIdeal.nD Cert.LossRefIdeal.τ).loc Cert.LossRefIdeal.main_arg3) = m ((c.tc : Thread Cert.LossIdeal.nD Cert.LossIdeal.τ).loc Cert.LossIdeal.main_arg3)
      ∧ m' ((c.tc : Thread Cert.LossRefIdeal.nD Cert.LossRefIdeal.τ).loc Cert.LossRefIdeal.main_arg4) = m ((c.tc : Thread Cert.LossIdeal.nD Cert.LossIdeal.τ).loc Cert.LossIdeal.main_arg4)
      ∧ m' ((c.tc : Thread Cert.LossRefIdeal.nD Cert.LossRefIdeal.τ).loc Cert.LossRefIdeal.main_arg5) = m ((c.tc : Thread Cert.LossIdeal.nD Cert.LossIdeal.τ).loc Cert.LossIdeal.main_arg5)
      ∧ m' ((c.tc : Thread Cert.LossRefIdeal.nD Cert.LossRefIdeal.τ).loc Cert.LossRefIdeal.main_arg6) = m ((c.tc : Thread Cert.LossIdeal.nD Cert.LossIdeal.τ).loc Cert.LossIdeal.main_arg6)) →
    ∃ (v0 : (c : Dev Cert.LossIdeal.nD) → Buf (Elt Ideal) ((c.tc : Thread Cert.LossIdeal.nD Cert.LossIdeal.τ).loc Cert.LossIdeal.main_v3_0)) (v1 : (c : Dev Cert.LossIdeal.nD) → Buf (Elt Ideal) ((c.tc : Thread Cert.LossIdeal.nD Cert.LossIdeal.τ).loc Cert.LossIdeal.main_v3_1)) (v2 : (c : Dev Cert.LossIdeal.nD) → Buf (Elt Ideal) ((c.tc : Thread Cert.LossIdeal.nD Cert.LossIdeal.τ).loc Cert.LossIdeal.main_v3_2)),
      θ_run (Cert.LossIdeal.defs (F := Ideal)) (onTc (τ := Cert.LossIdeal.τ) (Cert.LossIdeal.main (F := Ideal))) ⟨m, fun _ => 0, g⟩ (fun r => ∀ c : Dev Cert.LossIdeal.nD,
          r.2.mem ((c.tc : Thread Cert.LossIdeal.nD Cert.LossIdeal.τ).loc Cert.LossIdeal.main_v3_0) = v0 c
          ∧ r.2.mem ((c.tc : Thread Cert.LossIdeal.nD Cert.LossIdeal.τ).loc Cert.LossIdeal.main_v3_1) = v1 c
          ∧ r.2.mem ((c.tc : Thread Cert.LossIdeal.nD Cert.LossIdeal.τ).loc Cert.LossIdeal.main_v3_2) = v2 c
          ∧ r.2.mem ((c.tc : Thread Cert.LossIdeal.nD Cert.LossIdeal.τ).loc Cert.LossIdeal.main_arg0) = m ((c.tc : Thread Cert.LossIdeal.nD Cert.LossIdeal.τ).loc Cert.LossIdeal.main_arg0)
          ∧ r.2.mem ((c.tc : Thread Cert.LossIdeal.nD Cert.LossIdeal.τ).loc Cert.LossIdeal.main_arg1) = m ((c.tc : Thread Cert.LossIdeal.nD Cert.LossIdeal.τ).loc Cert.LossIdeal.main_arg1)
          ∧ r.2.mem ((c.tc : Thread Cert.LossIdeal.nD Cert.LossIdeal.τ).loc Cert.LossIdeal.main_arg2) = m ((c.tc : Thread Cert.LossIdeal.nD Cert.LossIdeal.τ).loc Cert.LossIdeal.main_arg2)
          ∧ r.2.mem ((c.tc : Thread Cert.LossIdeal.nD Cert.LossIdeal.τ).loc Cert.LossIdeal.main_arg3) = m ((c.tc : Thread Cert.LossIdeal.nD Cert.LossIdeal.τ).loc Cert.LossIdeal.main_arg3)
          ∧ r.2.mem ((c.tc : Thread Cert.LossIdeal.nD Cert.LossIdeal.τ).loc Cert.LossIdeal.main_arg4) = m ((c.tc : Thread Cert.LossIdeal.nD Cert.LossIdeal.τ).loc Cert.LossIdeal.main_arg4)
          ∧ r.2.mem ((c.tc : Thread Cert.LossIdeal.nD Cert.LossIdeal.τ).loc Cert.LossIdeal.main_arg5) = m ((c.tc : Thread Cert.LossIdeal.nD Cert.LossIdeal.τ).loc Cert.LossIdeal.main_arg5)
          ∧ r.2.mem ((c.tc : Thread Cert.LossIdeal.nD Cert.LossIdeal.τ).loc Cert.LossIdeal.main_arg6) = m ((c.tc : Thread Cert.LossIdeal.nD Cert.LossIdeal.τ).loc Cert.LossIdeal.main_arg6))
      ∧ θ_run (Cert.LossRefIdeal.defs (F := Ideal)) (onTc (τ := Cert.LossRefIdeal.τ) (Cert.LossRefIdeal.main (F := Ideal))) ⟨m', fun _ => 0, g'⟩ (fun r => ∀ c : Dev Cert.LossRefIdeal.nD,
          r.2.mem ((c.tc : Thread Cert.LossRefIdeal.nD Cert.LossRefIdeal.τ).loc Cert.LossRefIdeal.main_v44) = v0 c
          ∧ r.2.mem ((c.tc : Thread Cert.LossRefIdeal.nD Cert.LossRefIdeal.τ).loc Cert.LossRefIdeal.main_v43) = v1 c
          ∧ r.2.mem ((c.tc : Thread Cert.LossRefIdeal.nD Cert.LossRefIdeal.τ).loc Cert.LossRefIdeal.main_v48) = v2 c
          ∧ r.2.mem ((c.tc : Thread Cert.LossRefIdeal.nD Cert.LossRefIdeal.τ).loc Cert.LossRefIdeal.main_arg0) = m' ((c.tc : Thread Cert.LossRefIdeal.nD Cert.LossRefIdeal.τ).loc Cert.LossRefIdeal.main_arg0)
          ∧ r.2.mem ((c.tc : Thread Cert.LossRefIdeal.nD Cert.LossRefIdeal.τ).loc Cert.LossRefIdeal.main_arg1) = m' ((c.tc : Thread Cert.LossRefIdeal.nD Cert.LossRefIdeal.τ).loc Cert.LossRefIdeal.main_arg1)
          ∧ r.2.mem ((c.tc : Thread Cert.LossRefIdeal.nD Cert.LossRefIdeal.τ).loc Cert.LossRefIdeal.main_arg2) = m' ((c.tc : Thread Cert.LossRefIdeal.nD Cert.LossRefIdeal.τ).loc Cert.LossRefIdeal.main_arg2)
          ∧ r.2.mem ((c.tc : Thread Cert.LossRefIdeal.nD Cert.LossRefIdeal.τ).loc Cert.LossRefIdeal.main_arg3) = m' ((c.tc : Thread Cert.LossRefIdeal.nD Cert.LossRefIdeal.τ).loc Cert.LossRefIdeal.main_arg3)
          ∧ r.2.mem ((c.tc : Thread Cert.LossRefIdeal.nD Cert.LossRefIdeal.τ).loc Cert.LossRefIdeal.main_arg4) = m' ((c.tc : Thread Cert.LossRefIdeal.nD Cert.LossRefIdeal.τ).loc Cert.LossRefIdeal.main_arg4)
          ∧ r.2.mem ((c.tc : Thread Cert.LossRefIdeal.nD Cert.LossRefIdeal.τ).loc Cert.LossRefIdeal.main_arg5) = m' ((c.tc : Thread Cert.LossRefIdeal.nD Cert.LossRefIdeal.τ).loc Cert.LossRefIdeal.main_arg5)
          ∧ r.2.mem ((c.tc : Thread Cert.LossRefIdeal.nD Cert.LossRefIdeal.τ).loc Cert.LossRefIdeal.main_arg6) = m' ((c.tc : Thread Cert.LossRefIdeal.nD Cert.LossRefIdeal.τ).loc Cert.LossRefIdeal.main_arg6))

def preserves_AttnFwd_AttnFwdIdeal : Prop :=
  IdealRules.named_const.Statement Cert.AttnFwdIdeal.κ "mask" .f32 0xF149F2CA#32 ⊥

def algebraic_AttnFwdIdeal_AttnFwdRefIdeal_pre_attn_fwd_finite [hAttnFwdIdeal : Cert.AttnFwdIdeal.Facts] [hAttnFwdRefIdeal : Cert.AttnFwdRefIdeal.Facts] [hPre_attn_fwd_finite : Cert.Pre_attn_fwd_finite.Facts] : Prop :=
  ∀ (m : (ℓ : Loc Cert.AttnFwdIdeal.nD Cert.AttnFwdIdeal.τ Cert.AttnFwdIdeal.sig) → Buf (Elt Ideal) ℓ) (g : Dev Cert.AttnFwdIdeal.nD → PrngReg)
    (m' : (ℓ : Loc Cert.AttnFwdRefIdeal.nD Cert.AttnFwdRefIdeal.τ Cert.AttnFwdRefIdeal.sig) → Buf (Elt Ideal) ℓ) (g' : Dev Cert.AttnFwdRefIdeal.nD → PrngReg), Pre_AttnFwdIdeal_attn_fwd_finite m →
    (∀ c : Dev Cert.AttnFwdIdeal.nD,
      m' ((c.tc : Thread Cert.AttnFwdRefIdeal.nD Cert.AttnFwdRefIdeal.τ).loc Cert.AttnFwdRefIdeal.main_arg0) = m ((c.tc : Thread Cert.AttnFwdIdeal.nD Cert.AttnFwdIdeal.τ).loc Cert.AttnFwdIdeal.main_arg0)
      ∧ m' ((c.tc : Thread Cert.AttnFwdRefIdeal.nD Cert.AttnFwdRefIdeal.τ).loc Cert.AttnFwdRefIdeal.main_arg1) = m ((c.tc : Thread Cert.AttnFwdIdeal.nD Cert.AttnFwdIdeal.τ).loc Cert.AttnFwdIdeal.main_arg1)
      ∧ m' ((c.tc : Thread Cert.AttnFwdRefIdeal.nD Cert.AttnFwdRefIdeal.τ).loc Cert.AttnFwdRefIdeal.main_arg2) = m ((c.tc : Thread Cert.AttnFwdIdeal.nD Cert.AttnFwdIdeal.τ).loc Cert.AttnFwdIdeal.main_arg2)
      ∧ m' ((c.tc : Thread Cert.AttnFwdRefIdeal.nD Cert.AttnFwdRefIdeal.τ).loc Cert.AttnFwdRefIdeal.main_arg3) = m ((c.tc : Thread Cert.AttnFwdIdeal.nD Cert.AttnFwdIdeal.τ).loc Cert.AttnFwdIdeal.main_arg3)
      ∧ m' ((c.tc : Thread Cert.AttnFwdRefIdeal.nD Cert.AttnFwdRefIdeal.τ).loc Cert.AttnFwdRefIdeal.main_arg4) = m ((c.tc : Thread Cert.AttnFwdIdeal.nD Cert.AttnFwdIdeal.τ).loc Cert.AttnFwdIdeal.main_arg4)) →
    ∃ (v0 : (c : Dev Cert.AttnFwdIdeal.nD) → Buf (Elt Ideal) ((c.tc : Thread Cert.AttnFwdIdeal.nD Cert.AttnFwdIdeal.τ).loc Cert.AttnFwdIdeal.main_v34)),
      θ_run (Cert.AttnFwdIdeal.defs (F := Ideal)) (onTc (τ := Cert.AttnFwdIdeal.τ) (Cert.AttnFwdIdeal.main (F := Ideal))) ⟨m, fun _ => 0, g⟩ (fun r => ∀ c : Dev Cert.AttnFwdIdeal.nD,
          r.2.mem ((c.tc : Thread Cert.AttnFwdIdeal.nD Cert.AttnFwdIdeal.τ).loc Cert.AttnFwdIdeal.main_v34) = v0 c
          ∧ r.2.mem ((c.tc : Thread Cert.AttnFwdIdeal.nD Cert.AttnFwdIdeal.τ).loc Cert.AttnFwdIdeal.main_arg0) = m ((c.tc : Thread Cert.AttnFwdIdeal.nD Cert.AttnFwdIdeal.τ).loc Cert.AttnFwdIdeal.main_arg0)
          ∧ r.2.mem ((c.tc : Thread Cert.AttnFwdIdeal.nD Cert.AttnFwdIdeal.τ).loc Cert.AttnFwdIdeal.main_arg1) = m ((c.tc : Thread Cert.AttnFwdIdeal.nD Cert.AttnFwdIdeal.τ).loc Cert.AttnFwdIdeal.main_arg1)
          ∧ r.2.mem ((c.tc : Thread Cert.AttnFwdIdeal.nD Cert.AttnFwdIdeal.τ).loc Cert.AttnFwdIdeal.main_arg2) = m ((c.tc : Thread Cert.AttnFwdIdeal.nD Cert.AttnFwdIdeal.τ).loc Cert.AttnFwdIdeal.main_arg2)
          ∧ r.2.mem ((c.tc : Thread Cert.AttnFwdIdeal.nD Cert.AttnFwdIdeal.τ).loc Cert.AttnFwdIdeal.main_arg3) = m ((c.tc : Thread Cert.AttnFwdIdeal.nD Cert.AttnFwdIdeal.τ).loc Cert.AttnFwdIdeal.main_arg3)
          ∧ r.2.mem ((c.tc : Thread Cert.AttnFwdIdeal.nD Cert.AttnFwdIdeal.τ).loc Cert.AttnFwdIdeal.main_arg4) = m ((c.tc : Thread Cert.AttnFwdIdeal.nD Cert.AttnFwdIdeal.τ).loc Cert.AttnFwdIdeal.main_arg4))
      ∧ θ_run (Cert.AttnFwdRefIdeal.defs (F := Ideal)) (onTc (τ := Cert.AttnFwdRefIdeal.τ) (Cert.AttnFwdRefIdeal.main (F := Ideal))) ⟨m', fun _ => 0, g'⟩ (fun r => ∀ c : Dev Cert.AttnFwdRefIdeal.nD,
          r.2.mem ((c.tc : Thread Cert.AttnFwdRefIdeal.nD Cert.AttnFwdRefIdeal.τ).loc Cert.AttnFwdRefIdeal.main_v144) = v0 c
          ∧ r.2.mem ((c.tc : Thread Cert.AttnFwdRefIdeal.nD Cert.AttnFwdRefIdeal.τ).loc Cert.AttnFwdRefIdeal.main_arg0) = m' ((c.tc : Thread Cert.AttnFwdRefIdeal.nD Cert.AttnFwdRefIdeal.τ).loc Cert.AttnFwdRefIdeal.main_arg0)
          ∧ r.2.mem ((c.tc : Thread Cert.AttnFwdRefIdeal.nD Cert.AttnFwdRefIdeal.τ).loc Cert.AttnFwdRefIdeal.main_arg1) = m' ((c.tc : Thread Cert.AttnFwdRefIdeal.nD Cert.AttnFwdRefIdeal.τ).loc Cert.AttnFwdRefIdeal.main_arg1)
          ∧ r.2.mem ((c.tc : Thread Cert.AttnFwdRefIdeal.nD Cert.AttnFwdRefIdeal.τ).loc Cert.AttnFwdRefIdeal.main_arg2) = m' ((c.tc : Thread Cert.AttnFwdRefIdeal.nD Cert.AttnFwdRefIdeal.τ).loc Cert.AttnFwdRefIdeal.main_arg2)
          ∧ r.2.mem ((c.tc : Thread Cert.AttnFwdRefIdeal.nD Cert.AttnFwdRefIdeal.τ).loc Cert.AttnFwdRefIdeal.main_arg3) = m' ((c.tc : Thread Cert.AttnFwdRefIdeal.nD Cert.AttnFwdRefIdeal.τ).loc Cert.AttnFwdRefIdeal.main_arg3)
          ∧ r.2.mem ((c.tc : Thread Cert.AttnFwdRefIdeal.nD Cert.AttnFwdRefIdeal.τ).loc Cert.AttnFwdRefIdeal.main_arg4) = m' ((c.tc : Thread Cert.AttnFwdRefIdeal.nD Cert.AttnFwdRefIdeal.τ).loc Cert.AttnFwdRefIdeal.main_arg4))

def preserves_Gate_GateIdeal : Prop :=
  IdealRules.named_const.Statement Cert.GateIdeal.κ "cube" .f32 0x3D372713#32 ((8943 / 200000 : ℝ) : EReal)

def algebraic_GateIdeal_GateRefIdeal [hGateIdeal : Cert.GateIdeal.Facts] [hGateRefIdeal : Cert.GateRefIdeal.Facts] : Prop :=
  ∀ (m : (ℓ : Loc Cert.GateIdeal.nD Cert.GateIdeal.τ Cert.GateIdeal.sig) → Buf (Elt Ideal) ℓ) (g : Dev Cert.GateIdeal.nD → PrngReg)
    (m' : (ℓ : Loc Cert.GateRefIdeal.nD Cert.GateRefIdeal.τ Cert.GateRefIdeal.sig) → Buf (Elt Ideal) ℓ) (g' : Dev Cert.GateRefIdeal.nD → PrngReg), Pre_GateIdeal m →
    (∀ c : Dev Cert.GateIdeal.nD,
      m' ((c.tc : Thread Cert.GateRefIdeal.nD Cert.GateRefIdeal.τ).loc Cert.GateRefIdeal.main_arg0) = m ((c.tc : Thread Cert.GateIdeal.nD Cert.GateIdeal.τ).loc Cert.GateIdeal.main_arg0)
      ∧ m' ((c.tc : Thread Cert.GateRefIdeal.nD Cert.GateRefIdeal.τ).loc Cert.GateRefIdeal.main_arg1) = m ((c.tc : Thread Cert.GateIdeal.nD Cert.GateIdeal.τ).loc Cert.GateIdeal.main_arg1)
      ∧ m' ((c.tc : Thread Cert.GateRefIdeal.nD Cert.GateRefIdeal.τ).loc Cert.GateRefIdeal.main_arg2) = m ((c.tc : Thread Cert.GateIdeal.nD Cert.GateIdeal.τ).loc Cert.GateIdeal.main_arg2)
      ∧ m' ((c.tc : Thread Cert.GateRefIdeal.nD Cert.GateRefIdeal.τ).loc Cert.GateRefIdeal.main_arg3) = m ((c.tc : Thread Cert.GateIdeal.nD Cert.GateIdeal.τ).loc Cert.GateIdeal.main_arg3)) →
    ∃ (v0 : (c : Dev Cert.GateIdeal.nD) → Buf (Elt Ideal) ((c.tc : Thread Cert.GateIdeal.nD Cert.GateIdeal.τ).loc Cert.GateIdeal.main_v2_0)) (v1 : (c : Dev Cert.GateIdeal.nD) → Buf (Elt Ideal) ((c.tc : Thread Cert.GateIdeal.nD Cert.GateIdeal.τ).loc Cert.GateIdeal.main_v2_1)),
      θ_run (Cert.GateIdeal.defs (F := Ideal)) (onTc (τ := Cert.GateIdeal.τ) (Cert.GateIdeal.main (F := Ideal))) ⟨m, fun _ => 0, g⟩ (fun r => ∀ c : Dev Cert.GateIdeal.nD,
          r.2.mem ((c.tc : Thread Cert.GateIdeal.nD Cert.GateIdeal.τ).loc Cert.GateIdeal.main_v2_0) = v0 c
          ∧ r.2.mem ((c.tc : Thread Cert.GateIdeal.nD Cert.GateIdeal.τ).loc Cert.GateIdeal.main_v2_1) = v1 c
          ∧ r.2.mem ((c.tc : Thread Cert.GateIdeal.nD Cert.GateIdeal.τ).loc Cert.GateIdeal.main_arg0) = m ((c.tc : Thread Cert.GateIdeal.nD Cert.GateIdeal.τ).loc Cert.GateIdeal.main_arg0)
          ∧ r.2.mem ((c.tc : Thread Cert.GateIdeal.nD Cert.GateIdeal.τ).loc Cert.GateIdeal.main_arg1) = m ((c.tc : Thread Cert.GateIdeal.nD Cert.GateIdeal.τ).loc Cert.GateIdeal.main_arg1)
          ∧ r.2.mem ((c.tc : Thread Cert.GateIdeal.nD Cert.GateIdeal.τ).loc Cert.GateIdeal.main_arg2) = m ((c.tc : Thread Cert.GateIdeal.nD Cert.GateIdeal.τ).loc Cert.GateIdeal.main_arg2)
          ∧ r.2.mem ((c.tc : Thread Cert.GateIdeal.nD Cert.GateIdeal.τ).loc Cert.GateIdeal.main_arg3) = m ((c.tc : Thread Cert.GateIdeal.nD Cert.GateIdeal.τ).loc Cert.GateIdeal.main_arg3))
      ∧ θ_run (Cert.GateRefIdeal.defs (F := Ideal)) (onTc (τ := Cert.GateRefIdeal.τ) (Cert.GateRefIdeal.main (F := Ideal))) ⟨m', fun _ => 0, g'⟩ (fun r => ∀ c : Dev Cert.GateRefIdeal.nD,
          r.2.mem ((c.tc : Thread Cert.GateRefIdeal.nD Cert.GateRefIdeal.τ).loc Cert.GateRefIdeal.main_v28) = v0 c
          ∧ r.2.mem ((c.tc : Thread Cert.GateRefIdeal.nD Cert.GateRefIdeal.τ).loc Cert.GateRefIdeal.main_v29) = v1 c
          ∧ r.2.mem ((c.tc : Thread Cert.GateRefIdeal.nD Cert.GateRefIdeal.τ).loc Cert.GateRefIdeal.main_arg0) = m' ((c.tc : Thread Cert.GateRefIdeal.nD Cert.GateRefIdeal.τ).loc Cert.GateRefIdeal.main_arg0)
          ∧ r.2.mem ((c.tc : Thread Cert.GateRefIdeal.nD Cert.GateRefIdeal.τ).loc Cert.GateRefIdeal.main_arg1) = m' ((c.tc : Thread Cert.GateRefIdeal.nD Cert.GateRefIdeal.τ).loc Cert.GateRefIdeal.main_arg1)
          ∧ r.2.mem ((c.tc : Thread Cert.GateRefIdeal.nD Cert.GateRefIdeal.τ).loc Cert.GateRefIdeal.main_arg2) = m' ((c.tc : Thread Cert.GateRefIdeal.nD Cert.GateRefIdeal.τ).loc Cert.GateRefIdeal.main_arg2)
          ∧ r.2.mem ((c.tc : Thread Cert.GateRefIdeal.nD Cert.GateRefIdeal.τ).loc Cert.GateRefIdeal.main_arg3) = m' ((c.tc : Thread Cert.GateRefIdeal.nD Cert.GateRefIdeal.τ).loc Cert.GateRefIdeal.main_arg3))

def preserves_Prep_PrepIdeal : Prop :=
  True

def algebraic_PrepIdeal_PrepRefIdeal_pre_prep_finite [hPrepIdeal : Cert.PrepIdeal.Facts] [hPrepRefIdeal : Cert.PrepRefIdeal.Facts] [hPre_prep_finite : Cert.Pre_prep_finite.Facts] : Prop :=
  ∀ (m : (ℓ : Loc Cert.PrepIdeal.nD Cert.PrepIdeal.τ Cert.PrepIdeal.sig) → Buf (Elt Ideal) ℓ) (g : Dev Cert.PrepIdeal.nD → PrngReg)
    (m' : (ℓ : Loc Cert.PrepRefIdeal.nD Cert.PrepRefIdeal.τ Cert.PrepRefIdeal.sig) → Buf (Elt Ideal) ℓ) (g' : Dev Cert.PrepRefIdeal.nD → PrngReg), Pre_PrepIdeal_prep_finite m →
    (∀ c : Dev Cert.PrepIdeal.nD,
      m' ((c.tc : Thread Cert.PrepRefIdeal.nD Cert.PrepRefIdeal.τ).loc Cert.PrepRefIdeal.main_arg0) = m ((c.tc : Thread Cert.PrepIdeal.nD Cert.PrepIdeal.τ).loc Cert.PrepIdeal.main_arg0)
      ∧ m' ((c.tc : Thread Cert.PrepRefIdeal.nD Cert.PrepRefIdeal.τ).loc Cert.PrepRefIdeal.main_arg1) = m ((c.tc : Thread Cert.PrepIdeal.nD Cert.PrepIdeal.τ).loc Cert.PrepIdeal.main_arg1)
      ∧ m' ((c.tc : Thread Cert.PrepRefIdeal.nD Cert.PrepRefIdeal.τ).loc Cert.PrepRefIdeal.main_arg2) = m ((c.tc : Thread Cert.PrepIdeal.nD Cert.PrepIdeal.τ).loc Cert.PrepIdeal.main_arg2)
      ∧ m' ((c.tc : Thread Cert.PrepRefIdeal.nD Cert.PrepRefIdeal.τ).loc Cert.PrepRefIdeal.main_arg3) = m ((c.tc : Thread Cert.PrepIdeal.nD Cert.PrepIdeal.τ).loc Cert.PrepIdeal.main_arg3)
      ∧ m' ((c.tc : Thread Cert.PrepRefIdeal.nD Cert.PrepRefIdeal.τ).loc Cert.PrepRefIdeal.main_arg4) = m ((c.tc : Thread Cert.PrepIdeal.nD Cert.PrepIdeal.τ).loc Cert.PrepIdeal.main_arg4)) →
    ∃ (v0 : (c : Dev Cert.PrepIdeal.nD) → Buf (Elt Ideal) ((c.tc : Thread Cert.PrepIdeal.nD Cert.PrepIdeal.τ).loc Cert.PrepIdeal.main_v7_0)) (v1 : (c : Dev Cert.PrepIdeal.nD) → Buf (Elt Ideal) ((c.tc : Thread Cert.PrepIdeal.nD Cert.PrepIdeal.τ).loc Cert.PrepIdeal.main_v7_1)) (v2 : (c : Dev Cert.PrepIdeal.nD) → Buf (Elt Ideal) ((c.tc : Thread Cert.PrepIdeal.nD Cert.PrepIdeal.τ).loc Cert.PrepIdeal.main_v7_2)) (v3 : (c : Dev Cert.PrepIdeal.nD) → Buf (Elt Ideal) ((c.tc : Thread Cert.PrepIdeal.nD Cert.PrepIdeal.τ).loc Cert.PrepIdeal.main_v7_3)) (v4 : (c : Dev Cert.PrepIdeal.nD) → Buf (Elt Ideal) ((c.tc : Thread Cert.PrepIdeal.nD Cert.PrepIdeal.τ).loc Cert.PrepIdeal.main_v7_4)) (v5 : (c : Dev Cert.PrepIdeal.nD) → Buf (Elt Ideal) ((c.tc : Thread Cert.PrepIdeal.nD Cert.PrepIdeal.τ).loc Cert.PrepIdeal.main_v7_5)),
      θ_run (Cert.PrepIdeal.defs (F := Ideal)) (onTc (τ := Cert.PrepIdeal.τ) (Cert.PrepIdeal.main (F := Ideal))) ⟨m, fun _ => 0, g⟩ (fun r => ∀ c : Dev Cert.PrepIdeal.nD,
          r.2.mem ((c.tc : Thread Cert.PrepIdeal.nD Cert.PrepIdeal.τ).loc Cert.PrepIdeal.main_v7_0) = v0 c
          ∧ r.2.mem ((c.tc : Thread Cert.PrepIdeal.nD Cert.PrepIdeal.τ).loc Cert.PrepIdeal.main_v7_1) = v1 c
          ∧ r.2.mem ((c.tc : Thread Cert.PrepIdeal.nD Cert.PrepIdeal.τ).loc Cert.PrepIdeal.main_v7_2) = v2 c
          ∧ r.2.mem ((c.tc : Thread Cert.PrepIdeal.nD Cert.PrepIdeal.τ).loc Cert.PrepIdeal.main_v7_3) = v3 c
          ∧ r.2.mem ((c.tc : Thread Cert.PrepIdeal.nD Cert.PrepIdeal.τ).loc Cert.PrepIdeal.main_v7_4) = v4 c
          ∧ r.2.mem ((c.tc : Thread Cert.PrepIdeal.nD Cert.PrepIdeal.τ).loc Cert.PrepIdeal.main_v7_5) = v5 c
          ∧ r.2.mem ((c.tc : Thread Cert.PrepIdeal.nD Cert.PrepIdeal.τ).loc Cert.PrepIdeal.main_arg0) = m ((c.tc : Thread Cert.PrepIdeal.nD Cert.PrepIdeal.τ).loc Cert.PrepIdeal.main_arg0)
          ∧ r.2.mem ((c.tc : Thread Cert.PrepIdeal.nD Cert.PrepIdeal.τ).loc Cert.PrepIdeal.main_arg1) = m ((c.tc : Thread Cert.PrepIdeal.nD Cert.PrepIdeal.τ).loc Cert.PrepIdeal.main_arg1)
          ∧ r.2.mem ((c.tc : Thread Cert.PrepIdeal.nD Cert.PrepIdeal.τ).loc Cert.PrepIdeal.main_arg2) = m ((c.tc : Thread Cert.PrepIdeal.nD Cert.PrepIdeal.τ).loc Cert.PrepIdeal.main_arg2)
          ∧ r.2.mem ((c.tc : Thread Cert.PrepIdeal.nD Cert.PrepIdeal.τ).loc Cert.PrepIdeal.main_arg3) = m ((c.tc : Thread Cert.PrepIdeal.nD Cert.PrepIdeal.τ).loc Cert.PrepIdeal.main_arg3)
          ∧ r.2.mem ((c.tc : Thread Cert.PrepIdeal.nD Cert.PrepIdeal.τ).loc Cert.PrepIdeal.main_arg4) = m ((c.tc : Thread Cert.PrepIdeal.nD Cert.PrepIdeal.τ).loc Cert.PrepIdeal.main_arg4))
      ∧ θ_run (Cert.PrepRefIdeal.defs (F := Ideal)) (onTc (τ := Cert.PrepRefIdeal.τ) (Cert.PrepRefIdeal.main (F := Ideal))) ⟨m', fun _ => 0, g'⟩ (fun r => ∀ c : Dev Cert.PrepRefIdeal.nD,
          r.2.mem ((c.tc : Thread Cert.PrepRefIdeal.nD Cert.PrepRefIdeal.τ).loc Cert.PrepRefIdeal.main_v12) = v0 c
          ∧ r.2.mem ((c.tc : Thread Cert.PrepRefIdeal.nD Cert.PrepRefIdeal.τ).loc Cert.PrepRefIdeal.main_v18) = v1 c
          ∧ r.2.mem ((c.tc : Thread Cert.PrepRefIdeal.nD Cert.PrepRefIdeal.τ).loc Cert.PrepRefIdeal.main_v56) = v2 c
          ∧ r.2.mem ((c.tc : Thread Cert.PrepRefIdeal.nD Cert.PrepRefIdeal.τ).loc Cert.PrepRefIdeal.main_v62) = v3 c
          ∧ r.2.mem ((c.tc : Thread Cert.PrepRefIdeal.nD Cert.PrepRefIdeal.τ).loc Cert.PrepRefIdeal.main_v63) = v4 c
          ∧ r.2.mem ((c.tc : Thread Cert.PrepRefIdeal.nD Cert.PrepRefIdeal.τ).loc Cert.PrepRefIdeal.main_v64) = v5 c
          ∧ r.2.mem ((c.tc : Thread Cert.PrepRefIdeal.nD Cert.PrepRefIdeal.τ).loc Cert.PrepRefIdeal.main_arg0) = m' ((c.tc : Thread Cert.PrepRefIdeal.nD Cert.PrepRefIdeal.τ).loc Cert.PrepRefIdeal.main_arg0)
          ∧ r.2.mem ((c.tc : Thread Cert.PrepRefIdeal.nD Cert.PrepRefIdeal.τ).loc Cert.PrepRefIdeal.main_arg1) = m' ((c.tc : Thread Cert.PrepRefIdeal.nD Cert.PrepRefIdeal.τ).loc Cert.PrepRefIdeal.main_arg1)
          ∧ r.2.mem ((c.tc : Thread Cert.PrepRefIdeal.nD Cert.PrepRefIdeal.τ).loc Cert.PrepRefIdeal.main_arg2) = m' ((c.tc : Thread Cert.PrepRefIdeal.nD Cert.PrepRefIdeal.τ).loc Cert.PrepRefIdeal.main_arg2)
          ∧ r.2.mem ((c.tc : Thread Cert.PrepRefIdeal.nD Cert.PrepRefIdeal.τ).loc Cert.PrepRefIdeal.main_arg3) = m' ((c.tc : Thread Cert.PrepRefIdeal.nD Cert.PrepRefIdeal.τ).loc Cert.PrepRefIdeal.main_arg3)
          ∧ r.2.mem ((c.tc : Thread Cert.PrepRefIdeal.nD Cert.PrepRefIdeal.τ).loc Cert.PrepRefIdeal.main_arg4) = m' ((c.tc : Thread Cert.PrepRefIdeal.nD Cert.PrepRefIdeal.τ).loc Cert.PrepRefIdeal.main_arg4))

def preserves_Rope_RopeIdeal : Prop :=
  True

def algebraic_RopeIdeal_RopeRefIdeal [hRopeIdeal : Cert.RopeIdeal.Facts] [hRopeRefIdeal : Cert.RopeRefIdeal.Facts] : Prop :=
  ∀ (m : (ℓ : Loc Cert.RopeIdeal.nD Cert.RopeIdeal.τ Cert.RopeIdeal.sig) → Buf (Elt Ideal) ℓ) (g : Dev Cert.RopeIdeal.nD → PrngReg)
    (m' : (ℓ : Loc Cert.RopeRefIdeal.nD Cert.RopeRefIdeal.τ Cert.RopeRefIdeal.sig) → Buf (Elt Ideal) ℓ) (g' : Dev Cert.RopeRefIdeal.nD → PrngReg), Pre_RopeIdeal m →
    (∀ c : Dev Cert.RopeIdeal.nD,
      m' ((c.tc : Thread Cert.RopeRefIdeal.nD Cert.RopeRefIdeal.τ).loc Cert.RopeRefIdeal.main_arg0) = m ((c.tc : Thread Cert.RopeIdeal.nD Cert.RopeIdeal.τ).loc Cert.RopeIdeal.main_arg0)) →
    ∃ (v0 : (c : Dev Cert.RopeIdeal.nD) → Buf (Elt Ideal) ((c.tc : Thread Cert.RopeIdeal.nD Cert.RopeIdeal.τ).loc Cert.RopeIdeal.main_v16)),
      θ_run (Cert.RopeIdeal.defs (F := Ideal)) (onTc (τ := Cert.RopeIdeal.τ) (Cert.RopeIdeal.main (F := Ideal))) ⟨m, fun _ => 0, g⟩ (fun r => ∀ c : Dev Cert.RopeIdeal.nD,
          r.2.mem ((c.tc : Thread Cert.RopeIdeal.nD Cert.RopeIdeal.τ).loc Cert.RopeIdeal.main_v16) = v0 c
          ∧ r.2.mem ((c.tc : Thread Cert.RopeIdeal.nD Cert.RopeIdeal.τ).loc Cert.RopeIdeal.main_arg0) = m ((c.tc : Thread Cert.RopeIdeal.nD Cert.RopeIdeal.τ).loc Cert.RopeIdeal.main_arg0))
      ∧ θ_run (Cert.RopeRefIdeal.defs (F := Ideal)) (onTc (τ := Cert.RopeRefIdeal.τ) (Cert.RopeRefIdeal.main (F := Ideal))) ⟨m', fun _ => 0, g'⟩ (fun r => ∀ c : Dev Cert.RopeRefIdeal.nD,
          r.2.mem ((c.tc : Thread Cert.RopeRefIdeal.nD Cert.RopeRefIdeal.τ).loc Cert.RopeRefIdeal.main_v24) = v0 c
          ∧ r.2.mem ((c.tc : Thread Cert.RopeRefIdeal.nD Cert.RopeRefIdeal.τ).loc Cert.RopeRefIdeal.main_arg0) = m' ((c.tc : Thread Cert.RopeRefIdeal.nD Cert.RopeRefIdeal.τ).loc Cert.RopeRefIdeal.main_arg0))

def preserves_GradIn_GradInIdeal : Prop :=
  True

def algebraic_GradInIdeal_GradInRefIdeal [hGradInIdeal : Cert.GradInIdeal.Facts] [hGradInRefIdeal : Cert.GradInRefIdeal.Facts] : Prop :=
  ∀ (m : (ℓ : Loc Cert.GradInIdeal.nD Cert.GradInIdeal.τ Cert.GradInIdeal.sig) → Buf (Elt Ideal) ℓ) (g : Dev Cert.GradInIdeal.nD → PrngReg)
    (m' : (ℓ : Loc Cert.GradInRefIdeal.nD Cert.GradInRefIdeal.τ Cert.GradInRefIdeal.sig) → Buf (Elt Ideal) ℓ) (g' : Dev Cert.GradInRefIdeal.nD → PrngReg), Pre_GradInIdeal m →
    (∀ c : Dev Cert.GradInIdeal.nD,
      m' ((c.tc : Thread Cert.GradInRefIdeal.nD Cert.GradInRefIdeal.τ).loc Cert.GradInRefIdeal.main_arg0) = m ((c.tc : Thread Cert.GradInIdeal.nD Cert.GradInIdeal.τ).loc Cert.GradInIdeal.main_arg0)
      ∧ m' ((c.tc : Thread Cert.GradInRefIdeal.nD Cert.GradInRefIdeal.τ).loc Cert.GradInRefIdeal.main_arg1) = m ((c.tc : Thread Cert.GradInIdeal.nD Cert.GradInIdeal.τ).loc Cert.GradInIdeal.main_arg1)) →
    ∃ (v0 : (c : Dev Cert.GradInIdeal.nD) → Buf (Elt Ideal) ((c.tc : Thread Cert.GradInIdeal.nD Cert.GradInIdeal.τ).loc Cert.GradInIdeal.main_v0_0)) (v1 : (c : Dev Cert.GradInIdeal.nD) → Buf (Elt Ideal) ((c.tc : Thread Cert.GradInIdeal.nD Cert.GradInIdeal.τ).loc Cert.GradInIdeal.main_v0_1)),
      θ_run (Cert.GradInIdeal.defs (F := Ideal)) (onTc (τ := Cert.GradInIdeal.τ) (Cert.GradInIdeal.main (F := Ideal))) ⟨m, fun _ => 0, g⟩ (fun r => ∀ c : Dev Cert.GradInIdeal.nD,
          r.2.mem ((c.tc : Thread Cert.GradInIdeal.nD Cert.GradInIdeal.τ).loc Cert.GradInIdeal.main_v0_0) = v0 c
          ∧ r.2.mem ((c.tc : Thread Cert.GradInIdeal.nD Cert.GradInIdeal.τ).loc Cert.GradInIdeal.main_v0_1) = v1 c
          ∧ r.2.mem ((c.tc : Thread Cert.GradInIdeal.nD Cert.GradInIdeal.τ).loc Cert.GradInIdeal.main_arg0) = m ((c.tc : Thread Cert.GradInIdeal.nD Cert.GradInIdeal.τ).loc Cert.GradInIdeal.main_arg0)
          ∧ r.2.mem ((c.tc : Thread Cert.GradInIdeal.nD Cert.GradInIdeal.τ).loc Cert.GradInIdeal.main_arg1) = m ((c.tc : Thread Cert.GradInIdeal.nD Cert.GradInIdeal.τ).loc Cert.GradInIdeal.main_arg1))
      ∧ θ_run (Cert.GradInRefIdeal.defs (F := Ideal)) (onTc (τ := Cert.GradInRefIdeal.τ) (Cert.GradInRefIdeal.main (F := Ideal))) ⟨m', fun _ => 0, g'⟩ (fun r => ∀ c : Dev Cert.GradInRefIdeal.nD,
          r.2.mem ((c.tc : Thread Cert.GradInRefIdeal.nD Cert.GradInRefIdeal.τ).loc Cert.GradInRefIdeal.main_v7) = v0 c
          ∧ r.2.mem ((c.tc : Thread Cert.GradInRefIdeal.nD Cert.GradInRefIdeal.τ).loc Cert.GradInRefIdeal.main_v8) = v1 c
          ∧ r.2.mem ((c.tc : Thread Cert.GradInRefIdeal.nD Cert.GradInRefIdeal.τ).loc Cert.GradInRefIdeal.main_arg0) = m' ((c.tc : Thread Cert.GradInRefIdeal.nD Cert.GradInRefIdeal.τ).loc Cert.GradInRefIdeal.main_arg0)
          ∧ r.2.mem ((c.tc : Thread Cert.GradInRefIdeal.nD Cert.GradInRefIdeal.τ).loc Cert.GradInRefIdeal.main_arg1) = m' ((c.tc : Thread Cert.GradInRefIdeal.nD Cert.GradInRefIdeal.τ).loc Cert.GradInRefIdeal.main_arg1))

def preserves_AdamSmall_AdamSmallIdeal : Prop :=
  True

def algebraic_AdamSmallIdeal_AdamSmallRefIdeal [hAdamSmallIdeal : Cert.AdamSmallIdeal.Facts] [hAdamSmallRefIdeal : Cert.AdamSmallRefIdeal.Facts] : Prop :=
  ∀ (m : (ℓ : Loc Cert.AdamSmallIdeal.nD Cert.AdamSmallIdeal.τ Cert.AdamSmallIdeal.sig) → Buf (Elt Ideal) ℓ) (g : Dev Cert.AdamSmallIdeal.nD → PrngReg)
    (m' : (ℓ : Loc Cert.AdamSmallRefIdeal.nD Cert.AdamSmallRefIdeal.τ Cert.AdamSmallRefIdeal.sig) → Buf (Elt Ideal) ℓ) (g' : Dev Cert.AdamSmallRefIdeal.nD → PrngReg), Pre_AdamSmallIdeal m →
    (∀ c : Dev Cert.AdamSmallIdeal.nD,
      m' ((c.tc : Thread Cert.AdamSmallRefIdeal.nD Cert.AdamSmallRefIdeal.τ).loc Cert.AdamSmallRefIdeal.main_arg0) = m ((c.tc : Thread Cert.AdamSmallIdeal.nD Cert.AdamSmallIdeal.τ).loc Cert.AdamSmallIdeal.main_arg0)
      ∧ m' ((c.tc : Thread Cert.AdamSmallRefIdeal.nD Cert.AdamSmallRefIdeal.τ).loc Cert.AdamSmallRefIdeal.main_arg1) = m ((c.tc : Thread Cert.AdamSmallIdeal.nD Cert.AdamSmallIdeal.τ).loc Cert.AdamSmallIdeal.main_arg1)
      ∧ m' ((c.tc : Thread Cert.AdamSmallRefIdeal.nD Cert.AdamSmallRefIdeal.τ).loc Cert.AdamSmallRefIdeal.main_arg2) = m ((c.tc : Thread Cert.AdamSmallIdeal.nD Cert.AdamSmallIdeal.τ).loc Cert.AdamSmallIdeal.main_arg2)
      ∧ m' ((c.tc : Thread Cert.AdamSmallRefIdeal.nD Cert.AdamSmallRefIdeal.τ).loc Cert.AdamSmallRefIdeal.main_arg3) = m ((c.tc : Thread Cert.AdamSmallIdeal.nD Cert.AdamSmallIdeal.τ).loc Cert.AdamSmallIdeal.main_arg3)) →
    ∃ (v0 : (c : Dev Cert.AdamSmallIdeal.nD) → Buf (Elt Ideal) ((c.tc : Thread Cert.AdamSmallIdeal.nD Cert.AdamSmallIdeal.τ).loc Cert.AdamSmallIdeal.main_v0_0)) (v1 : (c : Dev Cert.AdamSmallIdeal.nD) → Buf (Elt Ideal) ((c.tc : Thread Cert.AdamSmallIdeal.nD Cert.AdamSmallIdeal.τ).loc Cert.AdamSmallIdeal.main_v0_1)) (v2 : (c : Dev Cert.AdamSmallIdeal.nD) → Buf (Elt Ideal) ((c.tc : Thread Cert.AdamSmallIdeal.nD Cert.AdamSmallIdeal.τ).loc Cert.AdamSmallIdeal.main_v0_2)),
      θ_run (Cert.AdamSmallIdeal.defs (F := Ideal)) (onTc (τ := Cert.AdamSmallIdeal.τ) (Cert.AdamSmallIdeal.main (F := Ideal))) ⟨m, fun _ => 0, g⟩ (fun r => ∀ c : Dev Cert.AdamSmallIdeal.nD,
          r.2.mem ((c.tc : Thread Cert.AdamSmallIdeal.nD Cert.AdamSmallIdeal.τ).loc Cert.AdamSmallIdeal.main_v0_0) = v0 c
          ∧ r.2.mem ((c.tc : Thread Cert.AdamSmallIdeal.nD Cert.AdamSmallIdeal.τ).loc Cert.AdamSmallIdeal.main_v0_1) = v1 c
          ∧ r.2.mem ((c.tc : Thread Cert.AdamSmallIdeal.nD Cert.AdamSmallIdeal.τ).loc Cert.AdamSmallIdeal.main_v0_2) = v2 c
          ∧ r.2.mem ((c.tc : Thread Cert.AdamSmallIdeal.nD Cert.AdamSmallIdeal.τ).loc Cert.AdamSmallIdeal.main_arg0) = m ((c.tc : Thread Cert.AdamSmallIdeal.nD Cert.AdamSmallIdeal.τ).loc Cert.AdamSmallIdeal.main_arg0)
          ∧ r.2.mem ((c.tc : Thread Cert.AdamSmallIdeal.nD Cert.AdamSmallIdeal.τ).loc Cert.AdamSmallIdeal.main_arg1) = m ((c.tc : Thread Cert.AdamSmallIdeal.nD Cert.AdamSmallIdeal.τ).loc Cert.AdamSmallIdeal.main_arg1)
          ∧ r.2.mem ((c.tc : Thread Cert.AdamSmallIdeal.nD Cert.AdamSmallIdeal.τ).loc Cert.AdamSmallIdeal.main_arg2) = m ((c.tc : Thread Cert.AdamSmallIdeal.nD Cert.AdamSmallIdeal.τ).loc Cert.AdamSmallIdeal.main_arg2)
          ∧ r.2.mem ((c.tc : Thread Cert.AdamSmallIdeal.nD Cert.AdamSmallIdeal.τ).loc Cert.AdamSmallIdeal.main_arg3) = m ((c.tc : Thread Cert.AdamSmallIdeal.nD Cert.AdamSmallIdeal.τ).loc Cert.AdamSmallIdeal.main_arg3))
      ∧ θ_run (Cert.AdamSmallRefIdeal.defs (F := Ideal)) (onTc (τ := Cert.AdamSmallRefIdeal.τ) (Cert.AdamSmallRefIdeal.main (F := Ideal))) ⟨m', fun _ => 0, g'⟩ (fun r => ∀ c : Dev Cert.AdamSmallRefIdeal.nD,
          r.2.mem ((c.tc : Thread Cert.AdamSmallRefIdeal.nD Cert.AdamSmallRefIdeal.τ).loc Cert.AdamSmallRefIdeal.main_v23) = v0 c
          ∧ r.2.mem ((c.tc : Thread Cert.AdamSmallRefIdeal.nD Cert.AdamSmallRefIdeal.τ).loc Cert.AdamSmallRefIdeal.main_v4) = v1 c
          ∧ r.2.mem ((c.tc : Thread Cert.AdamSmallRefIdeal.nD Cert.AdamSmallRefIdeal.τ).loc Cert.AdamSmallRefIdeal.main_v10) = v2 c
          ∧ r.2.mem ((c.tc : Thread Cert.AdamSmallRefIdeal.nD Cert.AdamSmallRefIdeal.τ).loc Cert.AdamSmallRefIdeal.main_arg0) = m' ((c.tc : Thread Cert.AdamSmallRefIdeal.nD Cert.AdamSmallRefIdeal.τ).loc Cert.AdamSmallRefIdeal.main_arg0)
          ∧ r.2.mem ((c.tc : Thread Cert.AdamSmallRefIdeal.nD Cert.AdamSmallRefIdeal.τ).loc Cert.AdamSmallRefIdeal.main_arg1) = m' ((c.tc : Thread Cert.AdamSmallRefIdeal.nD Cert.AdamSmallRefIdeal.τ).loc Cert.AdamSmallRefIdeal.main_arg1)
          ∧ r.2.mem ((c.tc : Thread Cert.AdamSmallRefIdeal.nD Cert.AdamSmallRefIdeal.τ).loc Cert.AdamSmallRefIdeal.main_arg2) = m' ((c.tc : Thread Cert.AdamSmallRefIdeal.nD Cert.AdamSmallRefIdeal.τ).loc Cert.AdamSmallRefIdeal.main_arg2)
          ∧ r.2.mem ((c.tc : Thread Cert.AdamSmallRefIdeal.nD Cert.AdamSmallRefIdeal.τ).loc Cert.AdamSmallRefIdeal.main_arg3) = m' ((c.tc : Thread Cert.AdamSmallRefIdeal.nD Cert.AdamSmallRefIdeal.τ).loc Cert.AdamSmallRefIdeal.main_arg3))

def preserves_AdamB_AdamBIdeal : Prop :=
  True

def algebraic_AdamBIdeal_AdamBRefIdeal [hAdamBIdeal : Cert.AdamBIdeal.Facts] [hAdamBRefIdeal : Cert.AdamBRefIdeal.Facts] : Prop :=
  ∀ (m : (ℓ : Loc Cert.AdamBIdeal.nD Cert.AdamBIdeal.τ Cert.AdamBIdeal.sig) → Buf (Elt Ideal) ℓ) (g : Dev Cert.AdamBIdeal.nD → PrngReg)
    (m' : (ℓ : Loc Cert.AdamBRefIdeal.nD Cert.AdamBRefIdeal.τ Cert.AdamBRefIdeal.sig) → Buf (Elt Ideal) ℓ) (g' : Dev Cert.AdamBRefIdeal.nD → PrngReg), Pre_AdamBIdeal m →
    (∀ c : Dev Cert.AdamBIdeal.nD,
      m' ((c.tc : Thread Cert.AdamBRefIdeal.nD Cert.AdamBRefIdeal.τ).loc Cert.AdamBRefIdeal.main_arg0) = m ((c.tc : Thread Cert.AdamBIdeal.nD Cert.AdamBIdeal.τ).loc Cert.AdamBIdeal.main_arg0)
      ∧ m' ((c.tc : Thread Cert.AdamBRefIdeal.nD Cert.AdamBRefIdeal.τ).loc Cert.AdamBRefIdeal.main_arg1) = m ((c.tc : Thread Cert.AdamBIdeal.nD Cert.AdamBIdeal.τ).loc Cert.AdamBIdeal.main_arg1)
      ∧ m' ((c.tc : Thread Cert.AdamBRefIdeal.nD Cert.AdamBRefIdeal.τ).loc Cert.AdamBRefIdeal.main_arg2) = m ((c.tc : Thread Cert.AdamBIdeal.nD Cert.AdamBIdeal.τ).loc Cert.AdamBIdeal.main_arg2)
      ∧ m' ((c.tc : Thread Cert.AdamBRefIdeal.nD Cert.AdamBRefIdeal.τ).loc Cert.AdamBRefIdeal.main_arg3) = m ((c.tc : Thread Cert.AdamBIdeal.nD Cert.AdamBIdeal.τ).loc Cert.AdamBIdeal.main_arg3)) →
    ∃ (v0 : (c : Dev Cert.AdamBIdeal.nD) → Buf (Elt Ideal) ((c.tc : Thread Cert.AdamBIdeal.nD Cert.AdamBIdeal.τ).loc Cert.AdamBIdeal.main_v0_0)) (v1 : (c : Dev Cert.AdamBIdeal.nD) → Buf (Elt Ideal) ((c.tc : Thread Cert.AdamBIdeal.nD Cert.AdamBIdeal.τ).loc Cert.AdamBIdeal.main_v0_1)) (v2 : (c : Dev Cert.AdamBIdeal.nD) → Buf (Elt Ideal) ((c.tc : Thread Cert.AdamBIdeal.nD Cert.AdamBIdeal.τ).loc Cert.AdamBIdeal.main_v0_2)),
      θ_run (Cert.AdamBIdeal.defs (F := Ideal)) (onTc (τ := Cert.AdamBIdeal.τ) (Cert.AdamBIdeal.main (F := Ideal))) ⟨m, fun _ => 0, g⟩ (fun r => ∀ c : Dev Cert.AdamBIdeal.nD,
          r.2.mem ((c.tc : Thread Cert.AdamBIdeal.nD Cert.AdamBIdeal.τ).loc Cert.AdamBIdeal.main_v0_0) = v0 c
          ∧ r.2.mem ((c.tc : Thread Cert.AdamBIdeal.nD Cert.AdamBIdeal.τ).loc Cert.AdamBIdeal.main_v0_1) = v1 c
          ∧ r.2.mem ((c.tc : Thread Cert.AdamBIdeal.nD Cert.AdamBIdeal.τ).loc Cert.AdamBIdeal.main_v0_2) = v2 c
          ∧ r.2.mem ((c.tc : Thread Cert.AdamBIdeal.nD Cert.AdamBIdeal.τ).loc Cert.AdamBIdeal.main_arg0) = m ((c.tc : Thread Cert.AdamBIdeal.nD Cert.AdamBIdeal.τ).loc Cert.AdamBIdeal.main_arg0)
          ∧ r.2.mem ((c.tc : Thread Cert.AdamBIdeal.nD Cert.AdamBIdeal.τ).loc Cert.AdamBIdeal.main_arg1) = m ((c.tc : Thread Cert.AdamBIdeal.nD Cert.AdamBIdeal.τ).loc Cert.AdamBIdeal.main_arg1)
          ∧ r.2.mem ((c.tc : Thread Cert.AdamBIdeal.nD Cert.AdamBIdeal.τ).loc Cert.AdamBIdeal.main_arg2) = m ((c.tc : Thread Cert.AdamBIdeal.nD Cert.AdamBIdeal.τ).loc Cert.AdamBIdeal.main_arg2)
          ∧ r.2.mem ((c.tc : Thread Cert.AdamBIdeal.nD Cert.AdamBIdeal.τ).loc Cert.AdamBIdeal.main_arg3) = m ((c.tc : Thread Cert.AdamBIdeal.nD Cert.AdamBIdeal.τ).loc Cert.AdamBIdeal.main_arg3))
      ∧ θ_run (Cert.AdamBRefIdeal.defs (F := Ideal)) (onTc (τ := Cert.AdamBRefIdeal.τ) (Cert.AdamBRefIdeal.main (F := Ideal))) ⟨m', fun _ => 0, g'⟩ (fun r => ∀ c : Dev Cert.AdamBRefIdeal.nD,
          r.2.mem ((c.tc : Thread Cert.AdamBRefIdeal.nD Cert.AdamBRefIdeal.τ).loc Cert.AdamBRefIdeal.main_v23) = v0 c
          ∧ r.2.mem ((c.tc : Thread Cert.AdamBRefIdeal.nD Cert.AdamBRefIdeal.τ).loc Cert.AdamBRefIdeal.main_v4) = v1 c
          ∧ r.2.mem ((c.tc : Thread Cert.AdamBRefIdeal.nD Cert.AdamBRefIdeal.τ).loc Cert.AdamBRefIdeal.main_v10) = v2 c
          ∧ r.2.mem ((c.tc : Thread Cert.AdamBRefIdeal.nD Cert.AdamBRefIdeal.τ).loc Cert.AdamBRefIdeal.main_arg0) = m' ((c.tc : Thread Cert.AdamBRefIdeal.nD Cert.AdamBRefIdeal.τ).loc Cert.AdamBRefIdeal.main_arg0)
          ∧ r.2.mem ((c.tc : Thread Cert.AdamBRefIdeal.nD Cert.AdamBRefIdeal.τ).loc Cert.AdamBRefIdeal.main_arg1) = m' ((c.tc : Thread Cert.AdamBRefIdeal.nD Cert.AdamBRefIdeal.τ).loc Cert.AdamBRefIdeal.main_arg1)
          ∧ r.2.mem ((c.tc : Thread Cert.AdamBRefIdeal.nD Cert.AdamBRefIdeal.τ).loc Cert.AdamBRefIdeal.main_arg2) = m' ((c.tc : Thread Cert.AdamBRefIdeal.nD Cert.AdamBRefIdeal.τ).loc Cert.AdamBRefIdeal.main_arg2)
          ∧ r.2.mem ((c.tc : Thread Cert.AdamBRefIdeal.nD Cert.AdamBRefIdeal.τ).loc Cert.AdamBRefIdeal.main_arg3) = m' ((c.tc : Thread Cert.AdamBRefIdeal.nD Cert.AdamBRefIdeal.τ).loc Cert.AdamBRefIdeal.main_arg3))

def preserves_AdamIn_AdamInIdeal : Prop :=
  True

def algebraic_AdamInIdeal_AdamInRefIdeal [hAdamInIdeal : Cert.AdamInIdeal.Facts] [hAdamInRefIdeal : Cert.AdamInRefIdeal.Facts] : Prop :=
  ∀ (m : (ℓ : Loc Cert.AdamInIdeal.nD Cert.AdamInIdeal.τ Cert.AdamInIdeal.sig) → Buf (Elt Ideal) ℓ) (g : Dev Cert.AdamInIdeal.nD → PrngReg)
    (m' : (ℓ : Loc Cert.AdamInRefIdeal.nD Cert.AdamInRefIdeal.τ Cert.AdamInRefIdeal.sig) → Buf (Elt Ideal) ℓ) (g' : Dev Cert.AdamInRefIdeal.nD → PrngReg), Pre_AdamInIdeal m →
    (∀ c : Dev Cert.AdamInIdeal.nD,
      m' ((c.tc : Thread Cert.AdamInRefIdeal.nD Cert.AdamInRefIdeal.τ).loc Cert.AdamInRefIdeal.main_arg0) = m ((c.tc : Thread Cert.AdamInIdeal.nD Cert.AdamInIdeal.τ).loc Cert.AdamInIdeal.main_arg0)
      ∧ m' ((c.tc : Thread Cert.AdamInRefIdeal.nD Cert.AdamInRefIdeal.τ).loc Cert.AdamInRefIdeal.main_arg1) = m ((c.tc : Thread Cert.AdamInIdeal.nD Cert.AdamInIdeal.τ).loc Cert.AdamInIdeal.main_arg1)
      ∧ m' ((c.tc : Thread Cert.AdamInRefIdeal.nD Cert.AdamInRefIdeal.τ).loc Cert.AdamInRefIdeal.main_arg2) = m ((c.tc : Thread Cert.AdamInIdeal.nD Cert.AdamInIdeal.τ).loc Cert.AdamInIdeal.main_arg2)
      ∧ m' ((c.tc : Thread Cert.AdamInRefIdeal.nD Cert.AdamInRefIdeal.τ).loc Cert.AdamInRefIdeal.main_arg3) = m ((c.tc : Thread Cert.AdamInIdeal.nD Cert.AdamInIdeal.τ).loc Cert.AdamInIdeal.main_arg3)
      ∧ m' ((c.tc : Thread Cert.AdamInRefIdeal.nD Cert.AdamInRefIdeal.τ).loc Cert.AdamInRefIdeal.main_arg4) = m ((c.tc : Thread Cert.AdamInIdeal.nD Cert.AdamInIdeal.τ).loc Cert.AdamInIdeal.main_arg4)
      ∧ m' ((c.tc : Thread Cert.AdamInRefIdeal.nD Cert.AdamInRefIdeal.τ).loc Cert.AdamInRefIdeal.main_arg5) = m ((c.tc : Thread Cert.AdamInIdeal.nD Cert.AdamInIdeal.τ).loc Cert.AdamInIdeal.main_arg5)) →
    ∃ (v0 : (c : Dev Cert.AdamInIdeal.nD) → Buf (Elt Ideal) ((c.tc : Thread Cert.AdamInIdeal.nD Cert.AdamInIdeal.τ).loc Cert.AdamInIdeal.main_v0_0)) (v1 : (c : Dev Cert.AdamInIdeal.nD) → Buf (Elt Ideal) ((c.tc : Thread Cert.AdamInIdeal.nD Cert.AdamInIdeal.τ).loc Cert.AdamInIdeal.main_v0_1)) (v2 : (c : Dev Cert.AdamInIdeal.nD) → Buf (Elt Ideal) ((c.tc : Thread Cert.AdamInIdeal.nD Cert.AdamInIdeal.τ).loc Cert.AdamInIdeal.main_v0_2)) (v3 : (c : Dev Cert.AdamInIdeal.nD) → Buf (Elt Ideal) ((c.tc : Thread Cert.AdamInIdeal.nD Cert.AdamInIdeal.τ).loc Cert.AdamInIdeal.main_v0_3)),
      θ_run (Cert.AdamInIdeal.defs (F := Ideal)) (onTc (τ := Cert.AdamInIdeal.τ) (Cert.AdamInIdeal.main (F := Ideal))) ⟨m, fun _ => 0, g⟩ (fun r => ∀ c : Dev Cert.AdamInIdeal.nD,
          r.2.mem ((c.tc : Thread Cert.AdamInIdeal.nD Cert.AdamInIdeal.τ).loc Cert.AdamInIdeal.main_v0_0) = v0 c
          ∧ r.2.mem ((c.tc : Thread Cert.AdamInIdeal.nD Cert.AdamInIdeal.τ).loc Cert.AdamInIdeal.main_v0_1) = v1 c
          ∧ r.2.mem ((c.tc : Thread Cert.AdamInIdeal.nD Cert.AdamInIdeal.τ).loc Cert.AdamInIdeal.main_v0_2) = v2 c
          ∧ r.2.mem ((c.tc : Thread Cert.AdamInIdeal.nD Cert.AdamInIdeal.τ).loc Cert.AdamInIdeal.main_v0_3) = v3 c
          ∧ r.2.mem ((c.tc : Thread Cert.AdamInIdeal.nD Cert.AdamInIdeal.τ).loc Cert.AdamInIdeal.main_arg0) = m ((c.tc : Thread Cert.AdamInIdeal.nD Cert.AdamInIdeal.τ).loc Cert.AdamInIdeal.main_arg0)
          ∧ r.2.mem ((c.tc : Thread Cert.AdamInIdeal.nD Cert.AdamInIdeal.τ).loc Cert.AdamInIdeal.main_arg1) = m ((c.tc : Thread Cert.AdamInIdeal.nD Cert.AdamInIdeal.τ).loc Cert.AdamInIdeal.main_arg1)
          ∧ r.2.mem ((c.tc : Thread Cert.AdamInIdeal.nD Cert.AdamInIdeal.τ).loc Cert.AdamInIdeal.main_arg2) = m ((c.tc : Thread Cert.AdamInIdeal.nD Cert.AdamInIdeal.τ).loc Cert.AdamInIdeal.main_arg2)
          ∧ r.2.mem ((c.tc : Thread Cert.AdamInIdeal.nD Cert.AdamInIdeal.τ).loc Cert.AdamInIdeal.main_arg3) = m ((c.tc : Thread Cert.AdamInIdeal.nD Cert.AdamInIdeal.τ).loc Cert.AdamInIdeal.main_arg3)
          ∧ r.2.mem ((c.tc : Thread Cert.AdamInIdeal.nD Cert.AdamInIdeal.τ).loc Cert.AdamInIdeal.main_arg4) = m ((c.tc : Thread Cert.AdamInIdeal.nD Cert.AdamInIdeal.τ).loc Cert.AdamInIdeal.main_arg4)
          ∧ r.2.mem ((c.tc : Thread Cert.AdamInIdeal.nD Cert.AdamInIdeal.τ).loc Cert.AdamInIdeal.main_arg5) = m ((c.tc : Thread Cert.AdamInIdeal.nD Cert.AdamInIdeal.τ).loc Cert.AdamInIdeal.main_arg5))
      ∧ θ_run (Cert.AdamInRefIdeal.defs (F := Ideal)) (onTc (τ := Cert.AdamInRefIdeal.τ) (Cert.AdamInRefIdeal.main (F := Ideal))) ⟨m', fun _ => 0, g'⟩ (fun r => ∀ c : Dev Cert.AdamInRefIdeal.nD,
          r.2.mem ((c.tc : Thread Cert.AdamInRefIdeal.nD Cert.AdamInRefIdeal.τ).loc Cert.AdamInRefIdeal.main_v6) = v0 c
          ∧ r.2.mem ((c.tc : Thread Cert.AdamInRefIdeal.nD Cert.AdamInRefIdeal.τ).loc Cert.AdamInRefIdeal.main_v30) = v1 c
          ∧ r.2.mem ((c.tc : Thread Cert.AdamInRefIdeal.nD Cert.AdamInRefIdeal.τ).loc Cert.AdamInRefIdeal.main_v11) = v2 c
          ∧ r.2.mem ((c.tc : Thread Cert.AdamInRefIdeal.nD Cert.AdamInRefIdeal.τ).loc Cert.AdamInRefIdeal.main_v17) = v3 c
          ∧ r.2.mem ((c.tc : Thread Cert.AdamInRefIdeal.nD Cert.AdamInRefIdeal.τ).loc Cert.AdamInRefIdeal.main_arg0) = m' ((c.tc : Thread Cert.AdamInRefIdeal.nD Cert.AdamInRefIdeal.τ).loc Cert.AdamInRefIdeal.main_arg0)
          ∧ r.2.mem ((c.tc : Thread Cert.AdamInRefIdeal.nD Cert.AdamInRefIdeal.τ).loc Cert.AdamInRefIdeal.main_arg1) = m' ((c.tc : Thread Cert.AdamInRefIdeal.nD Cert.AdamInRefIdeal.τ).loc Cert.AdamInRefIdeal.main_arg1)
          ∧ r.2.mem ((c.tc : Thread Cert.AdamInRefIdeal.nD Cert.AdamInRefIdeal.τ).loc Cert.AdamInRefIdeal.main_arg2) = m' ((c.tc : Thread Cert.AdamInRefIdeal.nD Cert.AdamInRefIdeal.τ).loc Cert.AdamInRefIdeal.main_arg2)
          ∧ r.2.mem ((c.tc : Thread Cert.AdamInRefIdeal.nD Cert.AdamInRefIdeal.τ).loc Cert.AdamInRefIdeal.main_arg3) = m' ((c.tc : Thread Cert.AdamInRefIdeal.nD Cert.AdamInRefIdeal.τ).loc Cert.AdamInRefIdeal.main_arg3)
          ∧ r.2.mem ((c.tc : Thread Cert.AdamInRefIdeal.nD Cert.AdamInRefIdeal.τ).loc Cert.AdamInRefIdeal.main_arg4) = m' ((c.tc : Thread Cert.AdamInRefIdeal.nD Cert.AdamInRefIdeal.τ).loc Cert.AdamInRefIdeal.main_arg4)
          ∧ r.2.mem ((c.tc : Thread Cert.AdamInRefIdeal.nD Cert.AdamInRefIdeal.τ).loc Cert.AdamInRefIdeal.main_arg5) = m' ((c.tc : Thread Cert.AdamInRefIdeal.nD Cert.AdamInRefIdeal.τ).loc Cert.AdamInRefIdeal.main_arg5))

def preserves_PairSum_PairSumIdeal : Prop :=
  True

def algebraic_PairSumIdeal_PairSumRefIdeal [hPairSumIdeal : Cert.PairSumIdeal.Facts] [hPairSumRefIdeal : Cert.PairSumRefIdeal.Facts] [hPre_a_half : Cert.Pre_a_half.Facts] : Prop :=
  ∀ (m : (ℓ : Loc Cert.PairSumIdeal.nD Cert.PairSumIdeal.τ Cert.PairSumIdeal.sig) → Buf (Elt Ideal) ℓ) (g : Dev Cert.PairSumIdeal.nD → PrngReg)
    (m' : (ℓ : Loc Cert.PairSumRefIdeal.nD Cert.PairSumRefIdeal.τ Cert.PairSumRefIdeal.sig) → Buf (Elt Ideal) ℓ) (g' : Dev Cert.PairSumRefIdeal.nD → PrngReg), Pre_PairSumIdeal m →
    (∀ c : Dev Cert.PairSumIdeal.nD,
      m' ((c.tc : Thread Cert.PairSumRefIdeal.nD Cert.PairSumRefIdeal.τ).loc Cert.PairSumRefIdeal.main_arg0) = m ((c.tc : Thread Cert.PairSumIdeal.nD Cert.PairSumIdeal.τ).loc Cert.PairSumIdeal.main_arg0)
      ∧ m' ((c.tc : Thread Cert.PairSumRefIdeal.nD Cert.PairSumRefIdeal.τ).loc Cert.PairSumRefIdeal.main_arg1) = m ((c.tc : Thread Cert.PairSumIdeal.nD Cert.PairSumIdeal.τ).loc Cert.PairSumIdeal.main_arg1)
      ∧ m' ((c.tc : Thread Cert.PairSumRefIdeal.nD Cert.PairSumRefIdeal.τ).loc Cert.PairSumRefIdeal.main_arg2) = m ((c.tc : Thread Cert.PairSumIdeal.nD Cert.PairSumIdeal.τ).loc Cert.PairSumIdeal.main_arg2)) →
    ∃ (v0 : (c : Dev Cert.PairSumIdeal.nD) → Buf (Elt Ideal) ((c.tc : Thread Cert.PairSumIdeal.nD Cert.PairSumIdeal.τ).loc Cert.PairSumIdeal.main_v0)),
      θ_run (Cert.PairSumIdeal.defs (F := Ideal)) (onTc (τ := Cert.PairSumIdeal.τ) (Cert.PairSumIdeal.main (F := Ideal))) ⟨m, fun _ => 0, g⟩ (fun r => ∀ c : Dev Cert.PairSumIdeal.nD,
          r.2.mem ((c.tc : Thread Cert.PairSumIdeal.nD Cert.PairSumIdeal.τ).loc Cert.PairSumIdeal.main_v0) = v0 c
          ∧ r.2.mem ((c.tc : Thread Cert.PairSumIdeal.nD Cert.PairSumIdeal.τ).loc Cert.PairSumIdeal.main_arg0) = m ((c.tc : Thread Cert.PairSumIdeal.nD Cert.PairSumIdeal.τ).loc Cert.PairSumIdeal.main_arg0)
          ∧ r.2.mem ((c.tc : Thread Cert.PairSumIdeal.nD Cert.PairSumIdeal.τ).loc Cert.PairSumIdeal.main_arg1) = m ((c.tc : Thread Cert.PairSumIdeal.nD Cert.PairSumIdeal.τ).loc Cert.PairSumIdeal.main_arg1)
          ∧ r.2.mem ((c.tc : Thread Cert.PairSumIdeal.nD Cert.PairSumIdeal.τ).loc Cert.PairSumIdeal.main_arg2) = m ((c.tc : Thread Cert.PairSumIdeal.nD Cert.PairSumIdeal.τ).loc Cert.PairSumIdeal.main_arg2))
      ∧ θ_run (Cert.PairSumRefIdeal.defs (F := Ideal)) (onTc (τ := Cert.PairSumRefIdeal.τ) (Cert.PairSumRefIdeal.main (F := Ideal))) ⟨m', fun _ => 0, g'⟩ (fun r => ∀ c : Dev Cert.PairSumRefIdeal.nD,
          r.2.mem ((c.tc : Thread Cert.PairSumRefIdeal.nD Cert.PairSumRefIdeal.τ).loc Cert.PairSumRefIdeal.main_v9) = v0 c
          ∧ r.2.mem ((c.tc : Thread Cert.PairSumRefIdeal.nD Cert.PairSumRefIdeal.τ).loc Cert.PairSumRefIdeal.main_arg0) = m' ((c.tc : Thread Cert.PairSumRefIdeal.nD Cert.PairSumRefIdeal.τ).loc Cert.PairSumRefIdeal.main_arg0)
          ∧ r.2.mem ((c.tc : Thread Cert.PairSumRefIdeal.nD Cert.PairSumRefIdeal.τ).loc Cert.PairSumRefIdeal.main_arg1) = m' ((c.tc : Thread Cert.PairSumRefIdeal.nD Cert.PairSumRefIdeal.τ).loc Cert.PairSumRefIdeal.main_arg1)
          ∧ r.2.mem ((c.tc : Thread Cert.PairSumRefIdeal.nD Cert.PairSumRefIdeal.τ).loc Cert.PairSumRefIdeal.main_arg2) = m' ((c.tc : Thread Cert.PairSumRefIdeal.nD Cert.PairSumRefIdeal.τ).loc Cert.PairSumRefIdeal.main_arg2))

def preserves_PeerSum_PeerSumIdeal : Prop :=
  True

def algebraic_PeerSumIdeal_PeerSumRefIdeal [hPeerSumIdeal : Cert.PeerSumIdeal.Facts] [hPeerSumRefIdeal : Cert.PeerSumRefIdeal.Facts] [hPre_a_chip : Cert.Pre_a_chip.Facts] : Prop :=
  ∀ (m : (ℓ : Loc Cert.PeerSumIdeal.nD Cert.PeerSumIdeal.τ Cert.PeerSumIdeal.sig) → Buf (Elt Ideal) ℓ) (g : Dev Cert.PeerSumIdeal.nD → PrngReg)
    (m' : (ℓ : Loc Cert.PeerSumRefIdeal.nD Cert.PeerSumRefIdeal.τ Cert.PeerSumRefIdeal.sig) → Buf (Elt Ideal) ℓ) (g' : Dev Cert.PeerSumRefIdeal.nD → PrngReg), Pre_PeerSumIdeal m →
    (∀ c : Dev Cert.PeerSumIdeal.nD,
      m' ((c.tc : Thread Cert.PeerSumRefIdeal.nD Cert.PeerSumRefIdeal.τ).loc Cert.PeerSumRefIdeal.main_arg0) = m ((c.tc : Thread Cert.PeerSumIdeal.nD Cert.PeerSumIdeal.τ).loc Cert.PeerSumIdeal.main_arg0)
      ∧ m' ((c.tc : Thread Cert.PeerSumRefIdeal.nD Cert.PeerSumRefIdeal.τ).loc Cert.PeerSumRefIdeal.main_arg1) = m ((c.tc : Thread Cert.PeerSumIdeal.nD Cert.PeerSumIdeal.τ).loc Cert.PeerSumIdeal.main_arg1)
      ∧ m' ((c.tc : Thread Cert.PeerSumRefIdeal.nD Cert.PeerSumRefIdeal.τ).loc Cert.PeerSumRefIdeal.main_arg2) = m ((c.tc : Thread Cert.PeerSumIdeal.nD Cert.PeerSumIdeal.τ).loc Cert.PeerSumIdeal.main_arg2)) →
    ∃ (v0 : (c : Dev Cert.PeerSumIdeal.nD) → Buf (Elt Ideal) ((c.tc : Thread Cert.PeerSumIdeal.nD Cert.PeerSumIdeal.τ).loc Cert.PeerSumIdeal.main_v0)),
      θ_run (Cert.PeerSumIdeal.defs (F := Ideal)) (onTc (τ := Cert.PeerSumIdeal.τ) (Cert.PeerSumIdeal.main (F := Ideal))) ⟨m, fun _ => 0, g⟩ (fun r => ∀ c : Dev Cert.PeerSumIdeal.nD,
          r.2.mem ((c.tc : Thread Cert.PeerSumIdeal.nD Cert.PeerSumIdeal.τ).loc Cert.PeerSumIdeal.main_v0) = v0 c
          ∧ r.2.mem ((c.tc : Thread Cert.PeerSumIdeal.nD Cert.PeerSumIdeal.τ).loc Cert.PeerSumIdeal.main_arg0) = m ((c.tc : Thread Cert.PeerSumIdeal.nD Cert.PeerSumIdeal.τ).loc Cert.PeerSumIdeal.main_arg0)
          ∧ r.2.mem ((c.tc : Thread Cert.PeerSumIdeal.nD Cert.PeerSumIdeal.τ).loc Cert.PeerSumIdeal.main_arg1) = m ((c.tc : Thread Cert.PeerSumIdeal.nD Cert.PeerSumIdeal.τ).loc Cert.PeerSumIdeal.main_arg1)
          ∧ r.2.mem ((c.tc : Thread Cert.PeerSumIdeal.nD Cert.PeerSumIdeal.τ).loc Cert.PeerSumIdeal.main_arg2) = m ((c.tc : Thread Cert.PeerSumIdeal.nD Cert.PeerSumIdeal.τ).loc Cert.PeerSumIdeal.main_arg2))
      ∧ θ_run (Cert.PeerSumRefIdeal.defs (F := Ideal)) (onTc (τ := Cert.PeerSumRefIdeal.τ) (Cert.PeerSumRefIdeal.main (F := Ideal))) ⟨m', fun _ => 0, g'⟩ (fun r => ∀ c : Dev Cert.PeerSumRefIdeal.nD,
          r.2.mem ((c.tc : Thread Cert.PeerSumRefIdeal.nD Cert.PeerSumRefIdeal.τ).loc Cert.PeerSumRefIdeal.main_v7) = v0 c
          ∧ r.2.mem ((c.tc : Thread Cert.PeerSumRefIdeal.nD Cert.PeerSumRefIdeal.τ).loc Cert.PeerSumRefIdeal.main_arg0) = m' ((c.tc : Thread Cert.PeerSumRefIdeal.nD Cert.PeerSumRefIdeal.τ).loc Cert.PeerSumRefIdeal.main_arg0)
          ∧ r.2.mem ((c.tc : Thread Cert.PeerSumRefIdeal.nD Cert.PeerSumRefIdeal.τ).loc Cert.PeerSumRefIdeal.main_arg1) = m' ((c.tc : Thread Cert.PeerSumRefIdeal.nD Cert.PeerSumRefIdeal.τ).loc Cert.PeerSumRefIdeal.main_arg1)
          ∧ r.2.mem ((c.tc : Thread Cert.PeerSumRefIdeal.nD Cert.PeerSumRefIdeal.τ).loc Cert.PeerSumRefIdeal.main_arg2) = m' ((c.tc : Thread Cert.PeerSumRefIdeal.nD Cert.PeerSumRefIdeal.τ).loc Cert.PeerSumRefIdeal.main_arg2))

def preserves_SlotSum_SlotSumIdeal : Prop :=
  True

def algebraic_SlotSumIdeal_SlotSumRefIdeal [hSlotSumIdeal : Cert.SlotSumIdeal.Facts] [hSlotSumRefIdeal : Cert.SlotSumRefIdeal.Facts] : Prop :=
  ∀ (m : (ℓ : Loc Cert.SlotSumIdeal.nD Cert.SlotSumIdeal.τ Cert.SlotSumIdeal.sig) → Buf (Elt Ideal) ℓ) (g : Dev Cert.SlotSumIdeal.nD → PrngReg)
    (m' : (ℓ : Loc Cert.SlotSumRefIdeal.nD Cert.SlotSumRefIdeal.τ Cert.SlotSumRefIdeal.sig) → Buf (Elt Ideal) ℓ) (g' : Dev Cert.SlotSumRefIdeal.nD → PrngReg), Pre_SlotSumIdeal m →
    (∀ c : Dev Cert.SlotSumIdeal.nD,
      m' ((c.tc : Thread Cert.SlotSumRefIdeal.nD Cert.SlotSumRefIdeal.τ).loc Cert.SlotSumRefIdeal.main_arg0) = m ((c.tc : Thread Cert.SlotSumIdeal.nD Cert.SlotSumIdeal.τ).loc Cert.SlotSumIdeal.main_arg0)) →
    ∃ (v0 : (c : Dev Cert.SlotSumIdeal.nD) → Buf (Elt Ideal) ((c.tc : Thread Cert.SlotSumIdeal.nD Cert.SlotSumIdeal.τ).loc Cert.SlotSumIdeal.main_v0)),
      θ_run (Cert.SlotSumIdeal.defs (F := Ideal)) (onTc (τ := Cert.SlotSumIdeal.τ) (Cert.SlotSumIdeal.main (F := Ideal))) ⟨m, fun _ => 0, g⟩ (fun r => ∀ c : Dev Cert.SlotSumIdeal.nD,
          r.2.mem ((c.tc : Thread Cert.SlotSumIdeal.nD Cert.SlotSumIdeal.τ).loc Cert.SlotSumIdeal.main_v0) = v0 c
          ∧ r.2.mem ((c.tc : Thread Cert.SlotSumIdeal.nD Cert.SlotSumIdeal.τ).loc Cert.SlotSumIdeal.main_arg0) = m ((c.tc : Thread Cert.SlotSumIdeal.nD Cert.SlotSumIdeal.τ).loc Cert.SlotSumIdeal.main_arg0))
      ∧ θ_run (Cert.SlotSumRefIdeal.defs (F := Ideal)) (onTc (τ := Cert.SlotSumRefIdeal.τ) (Cert.SlotSumRefIdeal.main (F := Ideal))) ⟨m', fun _ => 0, g'⟩ (fun r => ∀ c : Dev Cert.SlotSumRefIdeal.nD,
          r.2.mem ((c.tc : Thread Cert.SlotSumRefIdeal.nD Cert.SlotSumRefIdeal.τ).loc Cert.SlotSumRefIdeal.main_v0) = v0 c
          ∧ r.2.mem ((c.tc : Thread Cert.SlotSumRefIdeal.nD Cert.SlotSumRefIdeal.τ).loc Cert.SlotSumRefIdeal.main_arg0) = m' ((c.tc : Thread Cert.SlotSumRefIdeal.nD Cert.SlotSumRefIdeal.τ).loc Cert.SlotSumRefIdeal.main_arg0))

def preserves_Pack_PackIdeal : Prop :=
  True

def algebraic_PackIdeal_PackRefIdeal [hPackIdeal : Cert.PackIdeal.Facts] [hPackRefIdeal : Cert.PackRefIdeal.Facts] : Prop :=
  ∀ (m : (ℓ : Loc Cert.PackIdeal.nD Cert.PackIdeal.τ Cert.PackIdeal.sig) → Buf (Elt Ideal) ℓ) (g : Dev Cert.PackIdeal.nD → PrngReg)
    (m' : (ℓ : Loc Cert.PackRefIdeal.nD Cert.PackRefIdeal.τ Cert.PackRefIdeal.sig) → Buf (Elt Ideal) ℓ) (g' : Dev Cert.PackRefIdeal.nD → PrngReg), Pre_PackIdeal m →
    (∀ c : Dev Cert.PackIdeal.nD,
      m' ((c.tc : Thread Cert.PackRefIdeal.nD Cert.PackRefIdeal.τ).loc Cert.PackRefIdeal.main_arg0) = m ((c.tc : Thread Cert.PackIdeal.nD Cert.PackIdeal.τ).loc Cert.PackIdeal.main_arg0)
      ∧ m' ((c.tc : Thread Cert.PackRefIdeal.nD Cert.PackRefIdeal.τ).loc Cert.PackRefIdeal.main_arg1) = m ((c.tc : Thread Cert.PackIdeal.nD Cert.PackIdeal.τ).loc Cert.PackIdeal.main_arg1)
      ∧ m' ((c.tc : Thread Cert.PackRefIdeal.nD Cert.PackRefIdeal.τ).loc Cert.PackRefIdeal.main_arg2) = m ((c.tc : Thread Cert.PackIdeal.nD Cert.PackIdeal.τ).loc Cert.PackIdeal.main_arg2)
      ∧ m' ((c.tc : Thread Cert.PackRefIdeal.nD Cert.PackRefIdeal.τ).loc Cert.PackRefIdeal.main_arg3) = m ((c.tc : Thread Cert.PackIdeal.nD Cert.PackIdeal.τ).loc Cert.PackIdeal.main_arg3)
      ∧ m' ((c.tc : Thread Cert.PackRefIdeal.nD Cert.PackRefIdeal.τ).loc Cert.PackRefIdeal.main_arg4) = m ((c.tc : Thread Cert.PackIdeal.nD Cert.PackIdeal.τ).loc Cert.PackIdeal.main_arg4)
      ∧ m' ((c.tc : Thread Cert.PackRefIdeal.nD Cert.PackRefIdeal.τ).loc Cert.PackRefIdeal.main_arg5) = m ((c.tc : Thread Cert.PackIdeal.nD Cert.PackIdeal.τ).loc Cert.PackIdeal.main_arg5)
      ∧ m' ((c.tc : Thread Cert.PackRefIdeal.nD Cert.PackRefIdeal.τ).loc Cert.PackRefIdeal.main_arg6) = m ((c.tc : Thread Cert.PackIdeal.nD Cert.PackIdeal.τ).loc Cert.PackIdeal.main_arg6)
      ∧ m' ((c.tc : Thread Cert.PackRefIdeal.nD Cert.PackRefIdeal.τ).loc Cert.PackRefIdeal.main_arg7) = m ((c.tc : Thread Cert.PackIdeal.nD Cert.PackIdeal.τ).loc Cert.PackIdeal.main_arg7)
      ∧ m' ((c.tc : Thread Cert.PackRefIdeal.nD Cert.PackRefIdeal.τ).loc Cert.PackRefIdeal.main_arg8) = m ((c.tc : Thread Cert.PackIdeal.nD Cert.PackIdeal.τ).loc Cert.PackIdeal.main_arg8)
      ∧ m' ((c.tc : Thread Cert.PackRefIdeal.nD Cert.PackRefIdeal.τ).loc Cert.PackRefIdeal.main_arg9) = m ((c.tc : Thread Cert.PackIdeal.nD Cert.PackIdeal.τ).loc Cert.PackIdeal.main_arg9)
      ∧ m' ((c.tc : Thread Cert.PackRefIdeal.nD Cert.PackRefIdeal.τ).loc Cert.PackRefIdeal.main_arg10) = m ((c.tc : Thread Cert.PackIdeal.nD Cert.PackIdeal.τ).loc Cert.PackIdeal.main_arg10)
      ∧ m' ((c.tc : Thread Cert.PackRefIdeal.nD Cert.PackRefIdeal.τ).loc Cert.PackRefIdeal.main_arg11) = m ((c.tc : Thread Cert.PackIdeal.nD Cert.PackIdeal.τ).loc Cert.PackIdeal.main_arg11)
      ∧ m' ((c.tc : Thread Cert.PackRefIdeal.nD Cert.PackRefIdeal.τ).loc Cert.PackRefIdeal.main_arg12) = m ((c.tc : Thread Cert.PackIdeal.nD Cert.PackIdeal.τ).loc Cert.PackIdeal.main_arg12)
      ∧ m' ((c.tc : Thread Cert.PackRefIdeal.nD Cert.PackRefIdeal.τ).loc Cert.PackRefIdeal.main_arg13) = m ((c.tc : Thread Cert.PackIdeal.nD Cert.PackIdeal.τ).loc Cert.PackIdeal.main_arg13)
      ∧ m' ((c.tc : Thread Cert.PackRefIdeal.nD Cert.PackRefIdeal.τ).loc Cert.PackRefIdeal.main_arg14) = m ((c.tc : Thread Cert.PackIdeal.nD Cert.PackIdeal.τ).loc Cert.PackIdeal.main_arg14)) →
    ∃ (v0 : (c : Dev Cert.PackIdeal.nD) → Buf (Elt Ideal) ((c.tc : Thread Cert.PackIdeal.nD Cert.PackIdeal.τ).loc Cert.PackIdeal.main_v8)),
      θ_run (Cert.PackIdeal.defs (F := Ideal)) (onTc (τ := Cert.PackIdeal.τ) (Cert.PackIdeal.main (F := Ideal))) ⟨m, fun _ => 0, g⟩ (fun r => ∀ c : Dev Cert.PackIdeal.nD,
          r.2.mem ((c.tc : Thread Cert.PackIdeal.nD Cert.PackIdeal.τ).loc Cert.PackIdeal.main_v8) = v0 c
          ∧ r.2.mem ((c.tc : Thread Cert.PackIdeal.nD Cert.PackIdeal.τ).loc Cert.PackIdeal.main_arg0) = m ((c.tc : Thread Cert.PackIdeal.nD Cert.PackIdeal.τ).loc Cert.PackIdeal.main_arg0)
          ∧ r.2.mem ((c.tc : Thread Cert.PackIdeal.nD Cert.PackIdeal.τ).loc Cert.PackIdeal.main_arg1) = m ((c.tc : Thread Cert.PackIdeal.nD Cert.PackIdeal.τ).loc Cert.PackIdeal.main_arg1)
          ∧ r.2.mem ((c.tc : Thread Cert.PackIdeal.nD Cert.PackIdeal.τ).loc Cert.PackIdeal.main_arg2) = m ((c.tc : Thread Cert.PackIdeal.nD Cert.PackIdeal.τ).loc Cert.PackIdeal.main_arg2)
          ∧ r.2.mem ((c.tc : Thread Cert.PackIdeal.nD Cert.PackIdeal.τ).loc Cert.PackIdeal.main_arg3) = m ((c.tc : Thread Cert.PackIdeal.nD Cert.PackIdeal.τ).loc Cert.PackIdeal.main_arg3)
          ∧ r.2.mem ((c.tc : Thread Cert.PackIdeal.nD Cert.PackIdeal.τ).loc Cert.PackIdeal.main_arg4) = m ((c.tc : Thread Cert.PackIdeal.nD Cert.PackIdeal.τ).loc Cert.PackIdeal.main_arg4)
          ∧ r.2.mem ((c.tc : Thread Cert.PackIdeal.nD Cert.PackIdeal.τ).loc Cert.PackIdeal.main_arg5) = m ((c.tc : Thread Cert.PackIdeal.nD Cert.PackIdeal.τ).loc Cert.PackIdeal.main_arg5)
          ∧ r.2.mem ((c.tc : Thread Cert.PackIdeal.nD Cert.PackIdeal.τ).loc Cert.PackIdeal.main_arg6) = m ((c.tc : Thread Cert.PackIdeal.nD Cert.PackIdeal.τ).loc Cert.PackIdeal.main_arg6)
          ∧ r.2.mem ((c.tc : Thread Cert.PackIdeal.nD Cert.PackIdeal.τ).loc Cert.PackIdeal.main_arg7) = m ((c.tc : Thread Cert.PackIdeal.nD Cert.PackIdeal.τ).loc Cert.PackIdeal.main_arg7)
          ∧ r.2.mem ((c.tc : Thread Cert.PackIdeal.nD Cert.PackIdeal.τ).loc Cert.PackIdeal.main_arg8) = m ((c.tc : Thread Cert.PackIdeal.nD Cert.PackIdeal.τ).loc Cert.PackIdeal.main_arg8)
          ∧ r.2.mem ((c.tc : Thread Cert.PackIdeal.nD Cert.PackIdeal.τ).loc Cert.PackIdeal.main_arg9) = m ((c.tc : Thread Cert.PackIdeal.nD Cert.PackIdeal.τ).loc Cert.PackIdeal.main_arg9)
          ∧ r.2.mem ((c.tc : Thread Cert.PackIdeal.nD Cert.PackIdeal.τ).loc Cert.PackIdeal.main_arg10) = m ((c.tc : Thread Cert.PackIdeal.nD Cert.PackIdeal.τ).loc Cert.PackIdeal.main_arg10)
          ∧ r.2.mem ((c.tc : Thread Cert.PackIdeal.nD Cert.PackIdeal.τ).loc Cert.PackIdeal.main_arg11) = m ((c.tc : Thread Cert.PackIdeal.nD Cert.PackIdeal.τ).loc Cert.PackIdeal.main_arg11)
          ∧ r.2.mem ((c.tc : Thread Cert.PackIdeal.nD Cert.PackIdeal.τ).loc Cert.PackIdeal.main_arg12) = m ((c.tc : Thread Cert.PackIdeal.nD Cert.PackIdeal.τ).loc Cert.PackIdeal.main_arg12)
          ∧ r.2.mem ((c.tc : Thread Cert.PackIdeal.nD Cert.PackIdeal.τ).loc Cert.PackIdeal.main_arg13) = m ((c.tc : Thread Cert.PackIdeal.nD Cert.PackIdeal.τ).loc Cert.PackIdeal.main_arg13)
          ∧ r.2.mem ((c.tc : Thread Cert.PackIdeal.nD Cert.PackIdeal.τ).loc Cert.PackIdeal.main_arg14) = m ((c.tc : Thread Cert.PackIdeal.nD Cert.PackIdeal.τ).loc Cert.PackIdeal.main_arg14))
      ∧ θ_run (Cert.PackRefIdeal.defs (F := Ideal)) (onTc (τ := Cert.PackRefIdeal.τ) (Cert.PackRefIdeal.main (F := Ideal))) ⟨m', fun _ => 0, g'⟩ (fun r => ∀ c : Dev Cert.PackRefIdeal.nD,
          r.2.mem ((c.tc : Thread Cert.PackRefIdeal.nD Cert.PackRefIdeal.τ).loc Cert.PackRefIdeal.main_v8) = v0 c
          ∧ r.2.mem ((c.tc : Thread Cert.PackRefIdeal.nD Cert.PackRefIdeal.τ).loc Cert.PackRefIdeal.main_arg0) = m' ((c.tc : Thread Cert.PackRefIdeal.nD Cert.PackRefIdeal.τ).loc Cert.PackRefIdeal.main_arg0)
          ∧ r.2.mem ((c.tc : Thread Cert.PackRefIdeal.nD Cert.PackRefIdeal.τ).loc Cert.PackRefIdeal.main_arg1) = m' ((c.tc : Thread Cert.PackRefIdeal.nD Cert.PackRefIdeal.τ).loc Cert.PackRefIdeal.main_arg1)
          ∧ r.2.mem ((c.tc : Thread Cert.PackRefIdeal.nD Cert.PackRefIdeal.τ).loc Cert.PackRefIdeal.main_arg2) = m' ((c.tc : Thread Cert.PackRefIdeal.nD Cert.PackRefIdeal.τ).loc Cert.PackRefIdeal.main_arg2)
          ∧ r.2.mem ((c.tc : Thread Cert.PackRefIdeal.nD Cert.PackRefIdeal.τ).loc Cert.PackRefIdeal.main_arg3) = m' ((c.tc : Thread Cert.PackRefIdeal.nD Cert.PackRefIdeal.τ).loc Cert.PackRefIdeal.main_arg3)
          ∧ r.2.mem ((c.tc : Thread Cert.PackRefIdeal.nD Cert.PackRefIdeal.τ).loc Cert.PackRefIdeal.main_arg4) = m' ((c.tc : Thread Cert.PackRefIdeal.nD Cert.PackRefIdeal.τ).loc Cert.PackRefIdeal.main_arg4)
          ∧ r.2.mem ((c.tc : Thread Cert.PackRefIdeal.nD Cert.PackRefIdeal.τ).loc Cert.PackRefIdeal.main_arg5) = m' ((c.tc : Thread Cert.PackRefIdeal.nD Cert.PackRefIdeal.τ).loc Cert.PackRefIdeal.main_arg5)
          ∧ r.2.mem ((c.tc : Thread Cert.PackRefIdeal.nD Cert.PackRefIdeal.τ).loc Cert.PackRefIdeal.main_arg6) = m' ((c.tc : Thread Cert.PackRefIdeal.nD Cert.PackRefIdeal.τ).loc Cert.PackRefIdeal.main_arg6)
          ∧ r.2.mem ((c.tc : Thread Cert.PackRefIdeal.nD Cert.PackRefIdeal.τ).loc Cert.PackRefIdeal.main_arg7) = m' ((c.tc : Thread Cert.PackRefIdeal.nD Cert.PackRefIdeal.τ).loc Cert.PackRefIdeal.main_arg7)
          ∧ r.2.mem ((c.tc : Thread Cert.PackRefIdeal.nD Cert.PackRefIdeal.τ).loc Cert.PackRefIdeal.main_arg8) = m' ((c.tc : Thread Cert.PackRefIdeal.nD Cert.PackRefIdeal.τ).loc Cert.PackRefIdeal.main_arg8)
          ∧ r.2.mem ((c.tc : Thread Cert.PackRefIdeal.nD Cert.PackRefIdeal.τ).loc Cert.PackRefIdeal.main_arg9) = m' ((c.tc : Thread Cert.PackRefIdeal.nD Cert.PackRefIdeal.τ).loc Cert.PackRefIdeal.main_arg9)
          ∧ r.2.mem ((c.tc : Thread Cert.PackRefIdeal.nD Cert.PackRefIdeal.τ).loc Cert.PackRefIdeal.main_arg10) = m' ((c.tc : Thread Cert.PackRefIdeal.nD Cert.PackRefIdeal.τ).loc Cert.PackRefIdeal.main_arg10)
          ∧ r.2.mem ((c.tc : Thread Cert.PackRefIdeal.nD Cert.PackRefIdeal.τ).loc Cert.PackRefIdeal.main_arg11) = m' ((c.tc : Thread Cert.PackRefIdeal.nD Cert.PackRefIdeal.τ).loc Cert.PackRefIdeal.main_arg11)
          ∧ r.2.mem ((c.tc : Thread Cert.PackRefIdeal.nD Cert.PackRefIdeal.τ).loc Cert.PackRefIdeal.main_arg12) = m' ((c.tc : Thread Cert.PackRefIdeal.nD Cert.PackRefIdeal.τ).loc Cert.PackRefIdeal.main_arg12)
          ∧ r.2.mem ((c.tc : Thread Cert.PackRefIdeal.nD Cert.PackRefIdeal.τ).loc Cert.PackRefIdeal.main_arg13) = m' ((c.tc : Thread Cert.PackRefIdeal.nD Cert.PackRefIdeal.τ).loc Cert.PackRefIdeal.main_arg13)
          ∧ r.2.mem ((c.tc : Thread Cert.PackRefIdeal.nD Cert.PackRefIdeal.τ).loc Cert.PackRefIdeal.main_arg14) = m' ((c.tc : Thread Cert.PackRefIdeal.nD Cert.PackRefIdeal.τ).loc Cert.PackRefIdeal.main_arg14))

def preserves_Unpack_UnpackIdeal : Prop :=
  True

def algebraic_UnpackIdeal_UnpackRefIdeal [hUnpackIdeal : Cert.UnpackIdeal.Facts] [hUnpackRefIdeal : Cert.UnpackRefIdeal.Facts] : Prop :=
  ∀ (m : (ℓ : Loc Cert.UnpackIdeal.nD Cert.UnpackIdeal.τ Cert.UnpackIdeal.sig) → Buf (Elt Ideal) ℓ) (g : Dev Cert.UnpackIdeal.nD → PrngReg)
    (m' : (ℓ : Loc Cert.UnpackRefIdeal.nD Cert.UnpackRefIdeal.τ Cert.UnpackRefIdeal.sig) → Buf (Elt Ideal) ℓ) (g' : Dev Cert.UnpackRefIdeal.nD → PrngReg), Pre_UnpackIdeal m →
    (∀ c : Dev Cert.UnpackIdeal.nD,
      m' ((c.tc : Thread Cert.UnpackRefIdeal.nD Cert.UnpackRefIdeal.τ).loc Cert.UnpackRefIdeal.main_arg0) = m ((c.tc : Thread Cert.UnpackIdeal.nD Cert.UnpackIdeal.τ).loc Cert.UnpackIdeal.main_arg0)) →
    ∃ (v0 : (c : Dev Cert.UnpackIdeal.nD) → Buf (Elt Ideal) ((c.tc : Thread Cert.UnpackIdeal.nD Cert.UnpackIdeal.τ).loc Cert.UnpackIdeal.main_v2)) (v1 : (c : Dev Cert.UnpackIdeal.nD) → Buf (Elt Ideal) ((c.tc : Thread Cert.UnpackIdeal.nD Cert.UnpackIdeal.τ).loc Cert.UnpackIdeal.main_v4)) (v2 : (c : Dev Cert.UnpackIdeal.nD) → Buf (Elt Ideal) ((c.tc : Thread Cert.UnpackIdeal.nD Cert.UnpackIdeal.τ).loc Cert.UnpackIdeal.main_v6)) (v3 : (c : Dev Cert.UnpackIdeal.nD) → Buf (Elt Ideal) ((c.tc : Thread Cert.UnpackIdeal.nD Cert.UnpackIdeal.τ).loc Cert.UnpackIdeal.main_v8)) (v4 : (c : Dev Cert.UnpackIdeal.nD) → Buf (Elt Ideal) ((c.tc : Thread Cert.UnpackIdeal.nD Cert.UnpackIdeal.τ).loc Cert.UnpackIdeal.main_v9)) (v5 : (c : Dev Cert.UnpackIdeal.nD) → Buf (Elt Ideal) ((c.tc : Thread Cert.UnpackIdeal.nD Cert.UnpackIdeal.τ).loc Cert.UnpackIdeal.main_v10)) (v6 : (c : Dev Cert.UnpackIdeal.nD) → Buf (Elt Ideal) ((c.tc : Thread Cert.UnpackIdeal.nD Cert.UnpackIdeal.τ).loc Cert.UnpackIdeal.main_v11)) (v7 : (c : Dev Cert.UnpackIdeal.nD) → Buf (Elt Ideal) ((c.tc : Thread Cert.UnpackIdeal.nD Cert.UnpackIdeal.τ).loc Cert.UnpackIdeal.main_v12)) (v8 : (c : Dev Cert.UnpackIdeal.nD) → Buf (Elt Ideal) ((c.tc : Thread Cert.UnpackIdeal.nD Cert.UnpackIdeal.τ).loc Cert.UnpackIdeal.main_v14)) (v9 : (c : Dev Cert.UnpackIdeal.nD) → Buf (Elt Ideal) ((c.tc : Thread Cert.UnpackIdeal.nD Cert.UnpackIdeal.τ).loc Cert.UnpackIdeal.main_v16)) (v10 : (c : Dev Cert.UnpackIdeal.nD) → Buf (Elt Ideal) ((c.tc : Thread Cert.UnpackIdeal.nD Cert.UnpackIdeal.τ).loc Cert.UnpackIdeal.main_v17)) (v11 : (c : Dev Cert.UnpackIdeal.nD) → Buf (Elt Ideal) ((c.tc : Thread Cert.UnpackIdeal.nD Cert.UnpackIdeal.τ).loc Cert.UnpackIdeal.main_v18)) (v12 : (c : Dev Cert.UnpackIdeal.nD) → Buf (Elt Ideal) ((c.tc : Thread Cert.UnpackIdeal.nD Cert.UnpackIdeal.τ).loc Cert.UnpackIdeal.main_v19)) (v13 : (c : Dev Cert.UnpackIdeal.nD) → Buf (Elt Ideal) ((c.tc : Thread Cert.UnpackIdeal.nD Cert.UnpackIdeal.τ).loc Cert.UnpackIdeal.main_v20)) (v14 : (c : Dev Cert.UnpackIdeal.nD) → Buf (Elt Ideal) ((c.tc : Thread Cert.UnpackIdeal.nD Cert.UnpackIdeal.τ).loc Cert.UnpackIdeal.main_v21)),
      θ_run (Cert.UnpackIdeal.defs (F := Ideal)) (onTc (τ := Cert.UnpackIdeal.τ) (Cert.UnpackIdeal.main (F := Ideal))) ⟨m, fun _ => 0, g⟩ (fun r => ∀ c : Dev Cert.UnpackIdeal.nD,
          r.2.mem ((c.tc : Thread Cert.UnpackIdeal.nD Cert.UnpackIdeal.τ).loc Cert.UnpackIdeal.main_v2) = v0 c
          ∧ r.2.mem ((c.tc : Thread Cert.UnpackIdeal.nD Cert.UnpackIdeal.τ).loc Cert.UnpackIdeal.main_v4) = v1 c
          ∧ r.2.mem ((c.tc : Thread Cert.UnpackIdeal.nD Cert.UnpackIdeal.τ).loc Cert.UnpackIdeal.main_v6) = v2 c
          ∧ r.2.mem ((c.tc : Thread Cert.UnpackIdeal.nD Cert.UnpackIdeal.τ).loc Cert.UnpackIdeal.main_v8) = v3 c
          ∧ r.2.mem ((c.tc : Thread Cert.UnpackIdeal.nD Cert.UnpackIdeal.τ).loc Cert.UnpackIdeal.main_v9) = v4 c
          ∧ r.2.mem ((c.tc : Thread Cert.UnpackIdeal.nD Cert.UnpackIdeal.τ).loc Cert.UnpackIdeal.main_v10) = v5 c
          ∧ r.2.mem ((c.tc : Thread Cert.UnpackIdeal.nD Cert.UnpackIdeal.τ).loc Cert.UnpackIdeal.main_v11) = v6 c
          ∧ r.2.mem ((c.tc : Thread Cert.UnpackIdeal.nD Cert.UnpackIdeal.τ).loc Cert.UnpackIdeal.main_v12) = v7 c
          ∧ r.2.mem ((c.tc : Thread Cert.UnpackIdeal.nD Cert.UnpackIdeal.τ).loc Cert.UnpackIdeal.main_v14) = v8 c
          ∧ r.2.mem ((c.tc : Thread Cert.UnpackIdeal.nD Cert.UnpackIdeal.τ).loc Cert.UnpackIdeal.main_v16) = v9 c
          ∧ r.2.mem ((c.tc : Thread Cert.UnpackIdeal.nD Cert.UnpackIdeal.τ).loc Cert.UnpackIdeal.main_v17) = v10 c
          ∧ r.2.mem ((c.tc : Thread Cert.UnpackIdeal.nD Cert.UnpackIdeal.τ).loc Cert.UnpackIdeal.main_v18) = v11 c
          ∧ r.2.mem ((c.tc : Thread Cert.UnpackIdeal.nD Cert.UnpackIdeal.τ).loc Cert.UnpackIdeal.main_v19) = v12 c
          ∧ r.2.mem ((c.tc : Thread Cert.UnpackIdeal.nD Cert.UnpackIdeal.τ).loc Cert.UnpackIdeal.main_v20) = v13 c
          ∧ r.2.mem ((c.tc : Thread Cert.UnpackIdeal.nD Cert.UnpackIdeal.τ).loc Cert.UnpackIdeal.main_v21) = v14 c
          ∧ r.2.mem ((c.tc : Thread Cert.UnpackIdeal.nD Cert.UnpackIdeal.τ).loc Cert.UnpackIdeal.main_arg0) = m ((c.tc : Thread Cert.UnpackIdeal.nD Cert.UnpackIdeal.τ).loc Cert.UnpackIdeal.main_arg0))
      ∧ θ_run (Cert.UnpackRefIdeal.defs (F := Ideal)) (onTc (τ := Cert.UnpackRefIdeal.τ) (Cert.UnpackRefIdeal.main (F := Ideal))) ⟨m', fun _ => 0, g'⟩ (fun r => ∀ c : Dev Cert.UnpackRefIdeal.nD,
          r.2.mem ((c.tc : Thread Cert.UnpackRefIdeal.nD Cert.UnpackRefIdeal.τ).loc Cert.UnpackRefIdeal.main_v17) = v0 c
          ∧ r.2.mem ((c.tc : Thread Cert.UnpackRefIdeal.nD Cert.UnpackRefIdeal.τ).loc Cert.UnpackRefIdeal.main_v18) = v1 c
          ∧ r.2.mem ((c.tc : Thread Cert.UnpackRefIdeal.nD Cert.UnpackRefIdeal.τ).loc Cert.UnpackRefIdeal.main_v19) = v2 c
          ∧ r.2.mem ((c.tc : Thread Cert.UnpackRefIdeal.nD Cert.UnpackRefIdeal.τ).loc Cert.UnpackRefIdeal.main_v20) = v3 c
          ∧ r.2.mem ((c.tc : Thread Cert.UnpackRefIdeal.nD Cert.UnpackRefIdeal.τ).loc Cert.UnpackRefIdeal.main_v5) = v4 c
          ∧ r.2.mem ((c.tc : Thread Cert.UnpackRefIdeal.nD Cert.UnpackRefIdeal.τ).loc Cert.UnpackRefIdeal.main_v6) = v5 c
          ∧ r.2.mem ((c.tc : Thread Cert.UnpackRefIdeal.nD Cert.UnpackRefIdeal.τ).loc Cert.UnpackRefIdeal.main_v7) = v6 c
          ∧ r.2.mem ((c.tc : Thread Cert.UnpackRefIdeal.nD Cert.UnpackRefIdeal.τ).loc Cert.UnpackRefIdeal.main_v8) = v7 c
          ∧ r.2.mem ((c.tc : Thread Cert.UnpackRefIdeal.nD Cert.UnpackRefIdeal.τ).loc Cert.UnpackRefIdeal.main_v21) = v8 c
          ∧ r.2.mem ((c.tc : Thread Cert.UnpackRefIdeal.nD Cert.UnpackRefIdeal.τ).loc Cert.UnpackRefIdeal.main_v22) = v9 c
          ∧ r.2.mem ((c.tc : Thread Cert.UnpackRefIdeal.nD Cert.UnpackRefIdeal.τ).loc Cert.UnpackRefIdeal.main_v11) = v10 c
          ∧ r.2.mem ((c.tc : Thread Cert.UnpackRefIdeal.nD Cert.UnpackRefIdeal.τ).loc Cert.UnpackRefIdeal.main_v12) = v11 c
          ∧ r.2.mem ((c.tc : Thread Cert.UnpackRefIdeal.nD Cert.UnpackRefIdeal.τ).loc Cert.UnpackRefIdeal.main_v13) = v12 c
          ∧ r.2.mem ((c.tc : Thread Cert.UnpackRefIdeal.nD Cert.UnpackRefIdeal.τ).loc Cert.UnpackRefIdeal.main_v14) = v13 c
          ∧ r.2.mem ((c.tc : Thread Cert.UnpackRefIdeal.nD Cert.UnpackRefIdeal.τ).loc Cert.UnpackRefIdeal.main_v15) = v14 c
          ∧ r.2.mem ((c.tc : Thread Cert.UnpackRefIdeal.nD Cert.UnpackRefIdeal.τ).loc Cert.UnpackRefIdeal.main_arg0) = m' ((c.tc : Thread Cert.UnpackRefIdeal.nD Cert.UnpackRefIdeal.τ).loc Cert.UnpackRefIdeal.main_arg0))

def preserves_AttnBwd_AttnBwdIdeal : Prop :=
  IdealRules.named_const.Statement Cert.AttnBwdIdeal.κ "mask" .f32 0xF149F2CA#32 ⊥

def Claim : Prop :=
  ∃ (hOutBwd : Cert.OutBwd.Facts) (hOutBwdIdeal : Cert.OutBwdIdeal.Facts) (hOutBwdRefIdeal : Cert.OutBwdRefIdeal.Facts) (hGluBwd : Cert.GluBwd.Facts) (hGluBwdIdeal : Cert.GluBwdIdeal.Facts) (hGluBwdRefIdeal : Cert.GluBwdRefIdeal.Facts) (hParamBwd : Cert.ParamBwd.Facts) (hParamBwdIdeal : Cert.ParamBwdIdeal.Facts) (hParamBwdRefIdeal : Cert.ParamBwdRefIdeal.Facts) (hInBwd : Cert.InBwd.Facts) (hInBwdIdeal : Cert.InBwdIdeal.Facts) (hInBwdRefIdeal : Cert.InBwdRefIdeal.Facts) (hLoss : Cert.Loss.Facts) (hLossIdeal : Cert.LossIdeal.Facts) (hLossRefIdeal : Cert.LossRefIdeal.Facts) (hAttnFwd : Cert.AttnFwd.Facts) (hAttnFwdIdeal : Cert.AttnFwdIdeal.Facts) (hAttnFwdRefIdeal : Cert.AttnFwdRefIdeal.Facts) (hGate : Cert.Gate.Facts) (hGateIdeal : Cert.GateIdeal.Facts) (hGateRefIdeal : Cert.GateRefIdeal.Facts) (hPrep : Cert.Prep.Facts) (hPrepIdeal : Cert.PrepIdeal.Facts) (hPrepRefIdeal : Cert.PrepRefIdeal.Facts) (hRope : Cert.Rope.Facts) (hRopeIdeal : Cert.RopeIdeal.Facts) (hRopeRefIdeal : Cert.RopeRefIdeal.Facts) (hGradIn : Cert.GradIn.Facts) (hGradInIdeal : Cert.GradInIdeal.Facts) (hGradInRefIdeal : Cert.GradInRefIdeal.Facts) (hAdamSmall : Cert.AdamSmall.Facts) (hAdamSmallIdeal : Cert.AdamSmallIdeal.Facts) (hAdamSmallRefIdeal : Cert.AdamSmallRefIdeal.Facts) (hAdamB : Cert.AdamB.Facts) (hAdamBIdeal : Cert.AdamBIdeal.Facts) (hAdamBRefIdeal : Cert.AdamBRefIdeal.Facts) (hAdamIn : Cert.AdamIn.Facts) (hAdamInIdeal : Cert.AdamInIdeal.Facts) (hAdamInRefIdeal : Cert.AdamInRefIdeal.Facts) (hPairSum : Cert.PairSum.Facts) (hPairSumIdeal : Cert.PairSumIdeal.Facts) (hPairSumRefIdeal : Cert.PairSumRefIdeal.Facts) (hPeerSum : Cert.PeerSum.Facts) (hPeerSumIdeal : Cert.PeerSumIdeal.Facts) (hPeerSumRefIdeal : Cert.PeerSumRefIdeal.Facts) (hSlotSum : Cert.SlotSum.Facts) (hSlotSumIdeal : Cert.SlotSumIdeal.Facts) (hSlotSumRefIdeal : Cert.SlotSumRefIdeal.Facts) (hPack : Cert.Pack.Facts) (hPackIdeal : Cert.PackIdeal.Facts) (hPackRefIdeal : Cert.PackRefIdeal.Facts) (hUnpack : Cert.Unpack.Facts) (hUnpackIdeal : Cert.UnpackIdeal.Facts) (hUnpackRefIdeal : Cert.UnpackRefIdeal.Facts) (hAttnBwd : Cert.AttnBwd.Facts) (hAttnBwdIdeal : Cert.AttnBwdIdeal.Facts) (hAttnBwdRefIdeal : Cert.AttnBwdRefIdeal.Facts) (hPre_glu_finite : Cert.Pre_glu_finite.Facts) (hPre_param_finite : Cert.Pre_param_finite.Facts) (hPre_attn_fwd_finite : Cert.Pre_attn_fwd_finite.Facts) (hPre_prep_finite : Cert.Pre_prep_finite.Facts) (hPre_a_half : Cert.Pre_a_half.Facts) (hPre_a_chip : Cert.Pre_a_chip.Facts),
    quiescent_OutBwd (hOutBwd := hOutBwd)
    ∧ quiescent_OutBwdIdeal (hOutBwdIdeal := hOutBwdIdeal)
    ∧ quiescent_OutBwdRefIdeal (hOutBwdRefIdeal := hOutBwdRefIdeal)
    ∧ quiescent_GluBwd (hGluBwd := hGluBwd)
    ∧ quiescent_GluBwdIdeal (hGluBwdIdeal := hGluBwdIdeal)
    ∧ quiescent_GluBwdIdeal_pre_glu_finite (hGluBwdIdeal := hGluBwdIdeal) (hPre_glu_finite := hPre_glu_finite)
    ∧ quiescent_GluBwdRefIdeal (hGluBwdRefIdeal := hGluBwdRefIdeal)
    ∧ quiescent_GluBwdRefIdeal_pre_glu_finite (hGluBwdRefIdeal := hGluBwdRefIdeal) (hPre_glu_finite := hPre_glu_finite)
    ∧ quiescent_ParamBwd (hParamBwd := hParamBwd)
    ∧ quiescent_ParamBwdIdeal (hParamBwdIdeal := hParamBwdIdeal)
    ∧ quiescent_ParamBwdIdeal_pre_param_finite (hParamBwdIdeal := hParamBwdIdeal) (hPre_param_finite := hPre_param_finite)
    ∧ quiescent_ParamBwdRefIdeal (hParamBwdRefIdeal := hParamBwdRefIdeal)
    ∧ quiescent_ParamBwdRefIdeal_pre_param_finite (hParamBwdRefIdeal := hParamBwdRefIdeal) (hPre_param_finite := hPre_param_finite)
    ∧ quiescent_InBwd (hInBwd := hInBwd)
    ∧ quiescent_InBwdIdeal (hInBwdIdeal := hInBwdIdeal)
    ∧ quiescent_InBwdRefIdeal (hInBwdRefIdeal := hInBwdRefIdeal)
    ∧ quiescent_Loss (hLoss := hLoss)
    ∧ quiescent_LossIdeal (hLossIdeal := hLossIdeal)
    ∧ quiescent_LossRefIdeal (hLossRefIdeal := hLossRefIdeal)
    ∧ quiescent_AttnFwd (hAttnFwd := hAttnFwd)
    ∧ quiescent_AttnFwdIdeal (hAttnFwdIdeal := hAttnFwdIdeal)
    ∧ quiescent_AttnFwdIdeal_pre_attn_fwd_finite (hAttnFwdIdeal := hAttnFwdIdeal) (hPre_attn_fwd_finite := hPre_attn_fwd_finite)
    ∧ quiescent_AttnFwdRefIdeal (hAttnFwdRefIdeal := hAttnFwdRefIdeal)
    ∧ quiescent_AttnFwdRefIdeal_pre_attn_fwd_finite (hAttnFwdRefIdeal := hAttnFwdRefIdeal) (hPre_attn_fwd_finite := hPre_attn_fwd_finite)
    ∧ quiescent_Gate (hGate := hGate)
    ∧ quiescent_GateIdeal (hGateIdeal := hGateIdeal)
    ∧ quiescent_GateRefIdeal (hGateRefIdeal := hGateRefIdeal)
    ∧ quiescent_Prep (hPrep := hPrep)
    ∧ quiescent_PrepIdeal (hPrepIdeal := hPrepIdeal)
    ∧ quiescent_PrepIdeal_pre_prep_finite (hPrepIdeal := hPrepIdeal) (hPre_prep_finite := hPre_prep_finite)
    ∧ quiescent_PrepRefIdeal (hPrepRefIdeal := hPrepRefIdeal)
    ∧ quiescent_PrepRefIdeal_pre_prep_finite (hPrepRefIdeal := hPrepRefIdeal) (hPre_prep_finite := hPre_prep_finite)
    ∧ quiescent_Rope (hRope := hRope)
    ∧ quiescent_RopeIdeal (hRopeIdeal := hRopeIdeal)
    ∧ quiescent_RopeRefIdeal (hRopeRefIdeal := hRopeRefIdeal)
    ∧ quiescent_GradIn (hGradIn := hGradIn)
    ∧ quiescent_GradInIdeal (hGradInIdeal := hGradInIdeal)
    ∧ quiescent_GradInRefIdeal (hGradInRefIdeal := hGradInRefIdeal)
    ∧ quiescent_AdamSmall (hAdamSmall := hAdamSmall)
    ∧ quiescent_AdamSmallIdeal (hAdamSmallIdeal := hAdamSmallIdeal)
    ∧ quiescent_AdamSmallRefIdeal (hAdamSmallRefIdeal := hAdamSmallRefIdeal)
    ∧ quiescent_AdamB (hAdamB := hAdamB)
    ∧ quiescent_AdamBIdeal (hAdamBIdeal := hAdamBIdeal)
    ∧ quiescent_AdamBRefIdeal (hAdamBRefIdeal := hAdamBRefIdeal)
    ∧ quiescent_AdamIn (hAdamIn := hAdamIn)
    ∧ quiescent_AdamInIdeal (hAdamInIdeal := hAdamInIdeal)
    ∧ quiescent_AdamInRefIdeal (hAdamInRefIdeal := hAdamInRefIdeal)
    ∧ quiescent_PairSum (hPairSum := hPairSum) (hPre_a_half := hPre_a_half)
    ∧ quiescent_PairSumIdeal (hPairSumIdeal := hPairSumIdeal) (hPre_a_half := hPre_a_half)
    ∧ quiescent_PairSumRefIdeal (hPairSumRefIdeal := hPairSumRefIdeal)
    ∧ quiescent_PairSumRefIdeal_pre_a_half (hPairSumRefIdeal := hPairSumRefIdeal) (hPre_a_half := hPre_a_half)
    ∧ quiescent_PeerSum (hPeerSum := hPeerSum) (hPre_a_chip := hPre_a_chip)
    ∧ quiescent_PeerSumIdeal (hPeerSumIdeal := hPeerSumIdeal) (hPre_a_chip := hPre_a_chip)
    ∧ quiescent_PeerSumRefIdeal (hPeerSumRefIdeal := hPeerSumRefIdeal)
    ∧ quiescent_PeerSumRefIdeal_pre_a_chip (hPeerSumRefIdeal := hPeerSumRefIdeal) (hPre_a_chip := hPre_a_chip)
    ∧ quiescent_SlotSum (hSlotSum := hSlotSum)
    ∧ quiescent_SlotSumIdeal (hSlotSumIdeal := hSlotSumIdeal)
    ∧ quiescent_SlotSumRefIdeal (hSlotSumRefIdeal := hSlotSumRefIdeal)
    ∧ quiescent_Pack (hPack := hPack)
    ∧ quiescent_PackIdeal (hPackIdeal := hPackIdeal)
    ∧ quiescent_PackRefIdeal (hPackRefIdeal := hPackRefIdeal)
    ∧ quiescent_Unpack (hUnpack := hUnpack)
    ∧ quiescent_UnpackIdeal (hUnpackIdeal := hUnpackIdeal)
    ∧ quiescent_UnpackRefIdeal (hUnpackRefIdeal := hUnpackRefIdeal)
    ∧ quiescent_AttnBwd (hAttnBwd := hAttnBwd)
    ∧ quiescent_AttnBwdIdeal (hAttnBwdIdeal := hAttnBwdIdeal)
    ∧ quiescent_AttnBwdRefIdeal (hAttnBwdRefIdeal := hAttnBwdRefIdeal)
    ∧ preserves_OutBwd_OutBwdIdeal
    ∧ algebraic_OutBwdIdeal_OutBwdRefIdeal (hOutBwdIdeal := hOutBwdIdeal) (hOutBwdRefIdeal := hOutBwdRefIdeal)
    ∧ preserves_GluBwd_GluBwdIdeal
    ∧ algebraic_GluBwdIdeal_GluBwdRefIdeal_pre_glu_finite (hGluBwdIdeal := hGluBwdIdeal) (hGluBwdRefIdeal := hGluBwdRefIdeal) (hPre_glu_finite := hPre_glu_finite)
    ∧ preserves_ParamBwd_ParamBwdIdeal
    ∧ algebraic_ParamBwdIdeal_ParamBwdRefIdeal_pre_param_finite (hParamBwdIdeal := hParamBwdIdeal) (hParamBwdRefIdeal := hParamBwdRefIdeal) (hPre_param_finite := hPre_param_finite)
    ∧ preserves_InBwd_InBwdIdeal
    ∧ algebraic_InBwdIdeal_InBwdRefIdeal (hInBwdIdeal := hInBwdIdeal) (hInBwdRefIdeal := hInBwdRefIdeal)
    ∧ preserves_Loss_LossIdeal
    ∧ algebraic_LossIdeal_LossRefIdeal (hLossIdeal := hLossIdeal) (hLossRefIdeal := hLossRefIdeal)
    ∧ preserves_AttnFwd_AttnFwdIdeal
    ∧ algebraic_AttnFwdIdeal_AttnFwdRefIdeal_pre_attn_fwd_finite (hAttnFwdIdeal := hAttnFwdIdeal) (hAttnFwdRefIdeal := hAttnFwdRefIdeal) (hPre_attn_fwd_finite := hPre_attn_fwd_finite)
    ∧ preserves_Gate_GateIdeal
    ∧ algebraic_GateIdeal_GateRefIdeal (hGateIdeal := hGateIdeal) (hGateRefIdeal := hGateRefIdeal)
    ∧ preserves_Prep_PrepIdeal
    ∧ algebraic_PrepIdeal_PrepRefIdeal_pre_prep_finite (hPrepIdeal := hPrepIdeal) (hPrepRefIdeal := hPrepRefIdeal) (hPre_prep_finite := hPre_prep_finite)
    ∧ preserves_Rope_RopeIdeal
    ∧ algebraic_RopeIdeal_RopeRefIdeal (hRopeIdeal := hRopeIdeal) (hRopeRefIdeal := hRopeRefIdeal)
    ∧ preserves_GradIn_GradInIdeal
    ∧ algebraic_GradInIdeal_GradInRefIdeal (hGradInIdeal := hGradInIdeal) (hGradInRefIdeal := hGradInRefIdeal)
    ∧ preserves_AdamSmall_AdamSmallIdeal
    ∧ algebraic_AdamSmallIdeal_AdamSmallRefIdeal (hAdamSmallIdeal := hAdamSmallIdeal) (hAdamSmallRefIdeal := hAdamSmallRefIdeal)
    ∧ preserves_AdamB_AdamBIdeal
    ∧ algebraic_AdamBIdeal_AdamBRefIdeal (hAdamBIdeal := hAdamBIdeal) (hAdamBRefIdeal := hAdamBRefIdeal)
    ∧ preserves_AdamIn_AdamInIdeal
    ∧ algebraic_AdamInIdeal_AdamInRefIdeal (hAdamInIdeal := hAdamInIdeal) (hAdamInRefIdeal := hAdamInRefIdeal)
    ∧ preserves_PairSum_PairSumIdeal
    ∧ algebraic_PairSumIdeal_PairSumRefIdeal (hPairSumIdeal := hPairSumIdeal) (hPairSumRefIdeal := hPairSumRefIdeal) (hPre_a_half := hPre_a_half)
    ∧ preserves_PeerSum_PeerSumIdeal
    ∧ algebraic_PeerSumIdeal_PeerSumRefIdeal (hPeerSumIdeal := hPeerSumIdeal) (hPeerSumRefIdeal := hPeerSumRefIdeal) (hPre_a_chip := hPre_a_chip)
    ∧ preserves_SlotSum_SlotSumIdeal
    ∧ algebraic_SlotSumIdeal_SlotSumRefIdeal (hSlotSumIdeal := hSlotSumIdeal) (hSlotSumRefIdeal := hSlotSumRefIdeal)
    ∧ preserves_Pack_PackIdeal
    ∧ algebraic_PackIdeal_PackRefIdeal (hPackIdeal := hPackIdeal) (hPackRefIdeal := hPackRefIdeal)
    ∧ preserves_Unpack_UnpackIdeal
    ∧ algebraic_UnpackIdeal_UnpackRefIdeal (hUnpackIdeal := hUnpackIdeal) (hUnpackRefIdeal := hUnpackRefIdeal)
    ∧ preserves_AttnBwd_AttnBwdIdeal
-- ==== Pre_a_chip.lean ====
abbrev S1 : Shape := ⟨1, ![1]⟩
abbrev S4x1024x1152 : Shape := ⟨3, ![4, 1024, 1152]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x1024x1152 .bf16) (main_arg2 : FVec F S4x1024x1152 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 4#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_a_half.lean ====
abbrev S1 : Shape := ⟨1, ![1]⟩
abbrev S4x2x1024x1152 : Shape := ⟨4, ![4, 2, 1024, 1152]⟩
abbrev S4x1024x1152 : Shape := ⟨3, ![4, 1024, 1152]⟩
abbrev S_ : Shape := ⟨0, ![]⟩

class Facts : Prop where
  bcast_S_S1 : S_.BroadcastsInDim S1 (![] : Fin 0 → Fin S1.rank)

variable [Facts]

def fn {F : FTy → Type} [FloatOps F] (main_arg0 : IVec S1 32) (main_arg1 : FVec F S4x2x1024x1152 .f32) (main_arg2 : FVec F S4x1024x1152 .bf16) : IVec S1 1 :=
  let main_c : IVec S_ 32 := constantI S_ 32 0#32
  let main_v0 : IVec S1 32 := broadcastInDim S1 ![] bcast_S_S1 main_c
  let main_v1 : IVec S1 1 := cmpi .sge main_arg0 main_v0
  let main_c_0 : IVec S_ 32 := constantI S_ 32 2#32
  let main_v2 : IVec S1 32 := broadcastInDim S1 ![] bcast_S_S1 main_c_0
  let main_v3 : IVec S1 1 := cmpi .slt main_arg0 main_v2
  let main_v4 : IVec S1 1 := andi main_v1 main_v3
  main_v4
-- ==== Pre_attn_fwd_finite.lean ====
abbrev S4096x4608 : Shape := ⟨2, ![4096, 4608]⟩
abbrev S4096 : Shape := ⟨1, ![4096]⟩
abbrev S64 : Shape := ⟨1, ![64]⟩
abbrev S16 : Shape := ⟨1, ![16]⟩
abbrev S_ : Shape := ⟨0, ![]⟩

class Facts : Prop where
  bcast_S_S64 : S_.BroadcastsInDim S64 (![] : Fin 0 → Fin S64.rank)
  bcast_S_S16 : S_.BroadcastsInDim S16 (![] : Fin 0 → Fin S16.rank)

variable [Facts]

def fn {F : FTy → Type} [FloatOps F] (main_arg0 : FVec F S4096x4608 .f32) (main_arg1 : IVec S4096 32) (main_arg2 : FVec F S64 .f32) (main_arg3 : FVec F S64 .f32) (main_arg4 : FVec F S16 .f32) : IVec S64 1 × IVec S64 1 × IVec S16 1 :=
  let main_v0 : FVec F S64 .f32 := Host.absf main_arg2
  let main_cst : FVec F S_ .f32 := constant S_ .f32 0x7F800000#32
  let main_v1 : FVec F S64 .f32 := broadcastInDim S64 ![] bcast_S_S64 main_cst
  let main_v2 : IVec S64 1 := cmpf .olt main_v0 main_v1
  let main_v3 : FVec F S64 .f32 := Host.absf main_arg3
  let main_cst_0 : FVec F S_ .f32 := constant S_ .f32 0x7F800000#32
  let main_v4 : FVec F S64 .f32 := broadcastInDim S64 ![] bcast_S_S64 main_cst_0
  let main_v5 : IVec S64 1 := cmpf .olt main_v3 main_v4
  let main_v6 : FVec F S16 .f32 := Host.absf main_arg4
  let main_cst_1 : FVec F S_ .f32 := constant S_ .f32 0x7F800000#32
  let main_v7 : FVec F S16 .f32 := broadcastInDim S16 ![] bcast_S_S16 main_cst_1
  let main_v8 : IVec S16 1 := cmpf .olt main_v6 main_v7
  (main_v2, main_v5, main_v8)
-- ==== Pre_glu_finite.lean ====
abbrev S4096x1024 : Shape := ⟨2, ![4096, 1024]⟩
abbrev S4096x4608 : Shape := ⟨2, ![4096, 4608]⟩
abbrev S1024x1024 : Shape := ⟨2, ![1024, 1024]⟩
abbrev S1024 : Shape := ⟨1, ![1024]⟩
abbrev S_ : Shape := ⟨0, ![]⟩

class Facts : Prop where
  bcast_S_S4096x1024 : S_.BroadcastsInDim S4096x1024 (![] : Fin 0 → Fin S4096x1024.rank)
  slices_S4096x4608_S4096x1024_0_3584 : S4096x4608.Slices ![0, 3584] S4096x1024
  bcast_S_S1024x1024 : S_.BroadcastsInDim S1024x1024 (![] : Fin 0 → Fin S1024x1024.rank)

variable [Facts]

def fn {F : FTy → Type} [FloatOps F] (main_arg0 : FVec F S4096x1024 .f32) (main_arg1 : FVec F S4096x4608 .f32) (main_arg2 : FVec F S1024x1024 .f32) (main_arg3 : FVec F S1024 .f32) (main_arg4 : FVec F S4096x1024 .f32) : IVec S4096x1024 1 × IVec S4096x1024 1 × IVec S1024x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S4096x1024 .f32 := (extractStridedSlice S4096x1024 ![0, 3584] · slices_S4096x4608_S4096x1024_0_3584) main_arg1
  let main_v4 : FVec F S4096x1024 .f32 := Host.absf main_v3
  let main_cst_0 : FVec F S_ .f32 := constant S_ .f32 0x7F800000#32
  let main_v5 : FVec F S4096x1024 .f32 := broadcastInDim S4096x1024 ![] bcast_S_S4096x1024 main_cst_0
  let main_v6 : IVec S4096x1024 1 := cmpf .olt main_v4 main_v5
  let main_v7 : FVec F S1024x1024 .f32 := Host.absf main_arg2
  let main_cst_1 : FVec F S_ .f32 := constant S_ .f32 0x7F800000#32
  let main_v8 : FVec F S1024x1024 .f32 := broadcastInDim S1024x1024 ![] bcast_S_S1024x1024 main_cst_1
  let main_v9 : IVec S1024x1024 1 := cmpf .olt main_v7 main_v8
  let main_v10 : FVec F S4096x1024 .f32 := Host.absf main_arg4
  let main_cst_2 : FVec F S_ .f32 := constant S_ .f32 0x7F800000#32
  let main_v11 : FVec F S4096x1024 .f32 := broadcastInDim S4096x1024 ![] bcast_S_S4096x1024 main_cst_2
  let main_v12 : IVec S4096x1024 1 := cmpf .olt main_v10 main_v11
  (main_v2, main_v6, main_v9, main_v12)
-- ==== Pre_param_finite.lean ====
abbrev S64x64 : Shape := ⟨2, ![64, 64]⟩
abbrev S64 : Shape := ⟨1, ![64]⟩
abbrev S64x64x16 : Shape := ⟨3, ![64, 64, 16]⟩
abbrev S_ : Shape := ⟨0, ![]⟩

class Facts : Prop where
  bcast_S_S64x64 : S_.BroadcastsInDim S64x64 (![] : Fin 0 → Fin S64x64.rank)
  bcast_S_S64 : S_.BroadcastsInDim S64 (![] : Fin 0 → Fin S64.rank)
  bcast_S_S64x64x16 : S_.BroadcastsInDim S64x64x16 (![] : Fin 0 → Fin S64x64x16.rank)

variable [Facts]

def fn_part1 {F : FTy → Type} [FloatOps F] (main_arg0 : FVec F S64x64 .f32) (main_arg1 : FVec F S64x64 .f32) (main_arg6 : FVec F S64x64 .f32) (main_arg7 : FVec F S64x64x16 .f32) (main_arg8 : FVec F S64x64x16 .f32) (main_v2 : IVec S64x64 1) (main_v5 : IVec S64x64 1) (main_v8 : IVec S64 1) (main_v11 : IVec S64x64x16 1) (main_v14 : IVec S64x64x16 1) (main_v17 : IVec S64x64 1) : IVec S64x64 1 × IVec S64x64 1 × IVec S64 1 × IVec S64x64x16 1 × IVec S64x64x16 1 × IVec S64x64 1 × IVec S64x64 1 × IVec S64x64x16 1 × IVec S64x64x16 1 × IVec S64x64 1 :=
  let main_v18 : FVec F S64x64 .f32 := Host.absf main_arg6
  let main_cst_5 : FVec F S_ .f32 := constant S_ .f32 0x7F800000#32
  let main_v19 : FVec F S64x64 .f32 := broadcastInDim S64x64 ![] bcast_S_S64x64 main_cst_5
  let main_v20 : IVec S64x64 1 := cmpf .olt main_v18 main_v19
  let main_v21 : FVec F S64x64x16 .f32 := Host.absf main_arg7
  let main_cst_6 : FVec F S_ .f32 := constant S_ .f32 0x7F800000#32
  let main_v22 : FVec F S64x64x16 .f32 := broadcastInDim S64x64x16 ![] bcast_S_S64x64x16 main_cst_6
  let main_v23 : IVec S64x64x16 1 := cmpf .olt main_v21 main_v22
  let main_v24 : FVec F S64x64x16 .f32 := Host.absf main_arg8
  let main_cst_7 : FVec F S_ .f32 := constant S_ .f32 0x7F800000#32
  let main_v25 : FVec F S64x64x16 .f32 := broadcastInDim S64x64x16 ![] bcast_S_S64x64x16 main_cst_7
  let main_v26 : IVec S64x64x16 1 := cmpf .olt main_v24 main_v25
  let main_v27 : FVec F S64x64 .f32 := mulf main_arg0 main_arg0
  let main_v28 : FVec F S64x64 .f32 := mulf main_arg1 main_arg1
  let main_v29 : FVec F S64x64 .f32 := addf main_v27 main_v28
  let main_cst_8 : FVec F S_ .f32 := constant S_ .f32 0x00000000#32
  let main_v30 : FVec F S64x64 .f32 := broadcastInDim S64x64 ![] bcast_S_S64x64 main_cst_8
  let main_v31 : IVec S64x64 1 := cmpf .ogt main_v29 main_v30
  (main_v2, main_v5, main_v8, main_v11, main_v14, main_v17, main_v20, main_v23, main_v26, main_v31)

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) (main_arg5 : FVec F S64x64 .f32) (main_arg6 : FVec F S64x64 .f32) (main_arg7 : FVec F S64x64x16 .f32) (main_arg8 : FVec F S64x64x16 .f32) : IVec S64x64 1 × IVec S64x64 1 × IVec S64 1 × IVec S64x64x16 1 × IVec S64x64x16 1 × IVec S64x64 1 × IVec S64x64 1 × IVec S64x64x16 1 × IVec S64x64x16 1 × IVec S64x64 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_v3 : FVec F S64x64 .f32 := Host.absf main_arg1
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64x64x16 .f32 := Host.absf main_arg3
  let main_cst_2 : FVec F S_ .f32 := constant S_ .f32 0x7F800000#32
  let main_v10 : FVec F S64x64x16 .f32 := broadcastInDim S64x64x16 ![] bcast_S_S64x64x16 main_cst_2
  let main_v11 : IVec S64x64x16 1 := cmpf .olt main_v9 main_v10
  let main_v12 : FVec F S64x64x16 .f32 := Host.absf main_arg4
  let main_cst_3 : FVec F S_ .f32 := constant S_ .f32 0x7F800000#32
  let main_v13 : FVec F S64x64x16 .f32 := broadcastInDim S64x64x16 ![] bcast_S_S64x64x16 main_cst_3
  let main_v14 : IVec S64x64x16 1 := cmpf .olt main_v12 main_v13
  let main_v15 : FVec F S64x64 .f32 := Host.absf main_arg5
  let main_cst_4 : FVec F S_ .f32 := constant S_ .f32 0x7F800000#32
  let main_v16 : FVec F S64x64 .f32 := broadcastInDim S64x64 ![] bcast_S_S64x64 main_cst_4
  let main_v17 : IVec S64x64 1 := cmpf .olt main_v15 main_v16
  fn_part1 (F := F) main_arg0 main_arg1 main_arg6 main_arg7 main_arg8 main_v2 main_v5 main_v8 main_v11 main_v14 main_v17
-- ==== Pre_prep_finite.lean ====
abbrev S64x64 : Shape := ⟨2, ![64, 64]⟩
abbrev S64 : Shape := ⟨1, ![64]⟩
abbrev S64x64x16 : Shape := ⟨3, ![64, 64, 16]⟩
abbrev S_ : Shape := ⟨0, ![]⟩

class Facts : Prop where
  bcast_S_S64x64 : S_.BroadcastsInDim S64x64 (![] : Fin 0 → Fin S64x64.rank)
  bcast_S_S64 : S_.BroadcastsInDim S64 (![] : Fin 0 → Fin S64.rank)

variable [Facts]

def fn {F : FTy → Type} [FloatOps F] (main_arg0 : FVec F S64x64 .f32) (main_arg1 : FVec F S64x64 .f32) (main_arg2 : FVec F S64 .f32) (main_arg3 : FVec F S64x64x16 .f32) (main_arg4 : FVec F S64x64x16 .f32) : IVec S64x64 1 × IVec S64x64 1 × IVec S64 1 × IVec S64x64 1 :=
  let main_v0 : FVec F S64x64 .f32 := Host.absf main_arg0
  let main_cst : FVec F S_ .f32 := constant S_ .f32 0x7F800000#32
  let main_v1 : FVec F S64x64 .f32 := broadcastInDim S64x64 ![] bcast_S_S64x64 main_cst
  let main_v2 : IVec S64x64 1 := cmpf .olt main_v0 main_v1
  let main_v3 : FVec F S64x64 .f32 := Host.absf main_arg1
  let main_cst_0 : FVec F S_ .f32 := constant S_ .f32 0x7F800000#32
  let main_v4 : FVec F S64x64 .f32 := broadcastInDim S64x64 ![] bcast_S_S64x64 main_cst_0
  let main_v5 : IVec S64x64 1 := cmpf .olt main_v3 main_v4
  let main_v6 : FVec F S64 .f32 := Host.absf main_arg2
  let main_cst_1 : FVec F S_ .f32 := constant S_ .f32 0x7F800000#32
  let main_v7 : FVec F S64 .f32 := broadcastInDim S64 ![] bcast_S_S64 main_cst_1
  let main_v8 : IVec S64 1 := cmpf .olt main_v6 main_v7
  let main_v9 : FVec F S64x64 .f32 := mulf main_arg0 main_arg0
  let main_v10 : FVec F S64x64 .f32 := mulf main_arg1 main_arg1
  let main_v11 : FVec F S64x64 .f32 := addf main_v9 main_v10
  let main_cst_2 : FVec F S_ .f32 := constant S_ .f32 0x00000000#32
  let main_v12 : FVec F S64x64 .f32 := broadcastInDim S64x64 ![] bcast_S_S64x64 main_cst_2
  let main_v13 : IVec S64x64 1 := cmpf .ogt main_v11 main_v12
  (main_v2, main_v5, main_v8, main_v13)
-- ==== OutBwd.lean ====
abbrev S4096x1024 : Shape := ⟨2, ![4096, 1024]⟩
abbrev S1024 : Shape := ⟨1, ![1024]⟩
abbrev S2048x2048 : Shape := ⟨2, ![2048, 2048]⟩
abbrev S4096x2048 : Shape := ⟨2, ![4096, 2048]⟩
abbrev S1x1024 : Shape := ⟨2, ![1, 1024]⟩
abbrev S256x2048 : Shape := ⟨2, ![256, 2048]⟩
abbrev S256x1024 : Shape := ⟨2, ![256, 1024]⟩
abbrev S256 : Shape := ⟨1, ![256]⟩
abbrev S256x1 : Shape := ⟨2, ![256, 1]⟩

abbrev nBuf : Space → Nat
  | .hbm => 13
  | .vmem => 15
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S2048x2048, .f32⟩
  | .hbm, ⟨5, _⟩ => ⟨S4096x2048, .f32⟩
  | .hbm, ⟨6, _⟩ => ⟨S1x1024, .f32⟩
  | .hbm, ⟨7, _⟩ => ⟨S1x1024, .f32⟩
  | .hbm, ⟨8, _⟩ => ⟨S2048x2048, .bf16⟩
  | .hbm, ⟨9, _⟩ => ⟨S4096x1024, .f32⟩
  | .hbm, ⟨10, _⟩ => ⟨S4096x1024, .f32⟩
  | .hbm, ⟨11, _⟩ => ⟨S1x1024, .f32⟩
  | .hbm, ⟨12, _⟩ => ⟨S1x1024, .f32⟩
  | .local _ .vmem, ⟨0, _⟩ => ⟨S256x2048, .f32⟩
  | .local _ .vmem, ⟨1, _⟩ => ⟨S256x2048, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S1x1024, .f32⟩
  | .local _ .vmem, ⟨7, _⟩ => ⟨S1x1024, .f32⟩
  | .local _ .vmem, ⟨8, _⟩ => ⟨S2048x2048, .bf16⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .f32⟩
  | .local _ .vmem, ⟨13, _⟩ => ⟨S1x1024, .f32⟩
  | .local _ .vmem, ⟨14, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev main_v3_2 : Ref sig .tc := ⟨.hbm, 11, rfl⟩
abbrev main_v3_3 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== OutBwdRefIdeal.lean ====
abbrev S4096x1024 : Shape := ⟨2, ![4096, 1024]⟩
abbrev S1024 : Shape := ⟨1, ![1024]⟩
abbrev S2048x2048 : Shape := ⟨2, ![2048, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩

abbrev nBuf : Space → Nat
  | .hbm => 103
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S2048x2048, .f32⟩
  | .hbm, ⟨5, _⟩ => ⟨S4096x2048, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S_, .f32⟩
  | .hbm, ⟨19, _⟩ => ⟨S4096x1, .f32⟩
  | .hbm, ⟨20, _⟩ => ⟨S4096x1, .f32⟩
  | .hbm, ⟨21, _⟩ => ⟨S4096x1024, .f32⟩
  | .hbm, ⟨22, _⟩ => ⟨S4096x1024, .f32⟩
  | .hbm, ⟨23, _⟩ => ⟨S1x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S_, .f32⟩
  | .hbm, ⟨28, _⟩ => ⟨S4096, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S_, .f32⟩
  | .hbm, ⟨34, _⟩ => ⟨S4096x1, .f32⟩
  | .hbm, ⟨35, _⟩ => ⟨S4096x1, .f32⟩
  | .hbm, ⟨36, _⟩ => ⟨S4096x1, .f32⟩
  | .hbm, ⟨37, _⟩ => ⟨S4096x1, .f32⟩
  | .hbm, ⟨38, _⟩ => ⟨S_, .f32⟩
  | .hbm, ⟨39, _⟩ => ⟨S4096x1, .f32⟩
  | .hbm, ⟨40, _⟩ => ⟨S4096x1, .f32⟩
  | .hbm, ⟨41, _⟩ => ⟨S4096x1024, .f32⟩
  | .hbm, ⟨42, _⟩ => ⟨S4096x1024, .f32⟩
  | .hbm, ⟨43, _⟩ => ⟨S1x1024, .f32⟩
  | .hbm, ⟨44, _⟩ => ⟨S4096x1024, .f32⟩
  | .hbm, ⟨45, _⟩ => ⟨S4096x1024, .f32⟩
  | .hbm, ⟨46, _⟩ => ⟨S4096x2048, .f32⟩
  | .hbm, ⟨47, _⟩ => ⟨S4096x2048, .f32⟩
  | .hbm, ⟨48, _⟩ => ⟨S4096x2048, .f32⟩
  | .hbm, ⟨49, _⟩ => ⟨S4096x1024, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S4096x1024, .f32⟩
  | .hbm, ⟨56, _⟩ => ⟨S4096x1024, .f32⟩
  | .hbm, ⟨57, _⟩ => ⟨S_, .f32⟩
  | .hbm, ⟨58, _⟩ => ⟨S1024, .f32⟩
  | .hbm, ⟨59, _⟩ => ⟨S4096x1024, .f32⟩
  | .hbm, ⟨60, _⟩ => ⟨S_, .f32⟩
  | .hbm, ⟨61, _⟩ => ⟨S4096, .f32⟩
  | .hbm, ⟨62, _⟩ => ⟨S4096x1, .f32⟩
  | .hbm, ⟨63, _⟩ => ⟨S4096x1024, .f32⟩
  | .hbm, ⟨64, _⟩ => ⟨S4096x1024, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S_, .f32⟩
  | .hbm, ⟨70, _⟩ => ⟨S4096, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S_, .f32⟩
  | .hbm, ⟨78, _⟩ => ⟨S1024, .f32⟩
  | .hbm, ⟨79, _⟩ => ⟨S1x1024, .f32⟩
  | .hbm, ⟨80, _⟩ => ⟨S4096x1024, .f32⟩
  | .hbm, ⟨81, _⟩ => ⟨S4096x1024, .f32⟩
  | .hbm, ⟨82, _⟩ => ⟨S_, .f32⟩
  | .hbm, ⟨83, _⟩ => ⟨S1024, .f32⟩
  | .hbm, ⟨84, _⟩ => ⟨S4096x1024, .f32⟩
  | .hbm, ⟨85, _⟩ => ⟨S_, .f32⟩
  | .hbm, ⟨86, _⟩ => ⟨S4096, .f32⟩
  | .hbm, ⟨87, _⟩ => ⟨S4096x1, .f32⟩
  | .hbm, ⟨88, _⟩ => ⟨S4096x1024, .f32⟩
  | .hbm, ⟨89, _⟩ => ⟨S4096x1024, .f32⟩
  | .hbm, ⟨90, _⟩ => ⟨S4096x1, .f32⟩
  | .hbm, ⟨91, _⟩ => ⟨S_, .f32⟩
  | .hbm, ⟨92, _⟩ => ⟨S4096x1, .f32⟩
  | .hbm, ⟨93, _⟩ => ⟨S4096x1, .f32⟩
  | .hbm, ⟨94, _⟩ => ⟨S_, .f32⟩
  | .hbm, ⟨95, _⟩ => ⟨S4096, .f32⟩
  | .hbm, ⟨96, _⟩ => ⟨S4096x1024, .f32⟩
  | .hbm, ⟨97, _⟩ => ⟨S4096x1024, .f32⟩
  | .hbm, ⟨98, _⟩ => ⟨S4096x1024, .f32⟩
  | .hbm, ⟨99, _⟩ => ⟨S4096x1024, .f32⟩
  | .hbm, ⟨100, _⟩ => ⟨S4096x1024, .f32⟩
  | .hbm, ⟨101, _⟩ => ⟨S1x1024, .f32⟩
  | .hbm, ⟨102, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_v18 : Ref sig .tc := ⟨.hbm, 29, rfl⟩
abbrev main_cst_4 : Ref sig .tc := ⟨.hbm, 30, rfl⟩
abbrev main_v19 : Ref sig .tc := ⟨.hbm, 31, rfl⟩
abbrev main_v20 : Ref sig .tc := ⟨.hbm, 32, rfl⟩
abbrev main_cst_5 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_6 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_8 : Ref sig .tc := ⟨.hbm, 57, rfl⟩
abbrev main_v42 : Ref sig .tc := ⟨.hbm, 58, rfl⟩
abbrev main_v43 : Ref sig .tc := ⟨.hbm, 59, rfl⟩
abbrev main_cst_9 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_10 : Ref sig .tc := ⟨.hbm, 66, rfl⟩
abbrev main_v49 : Ref sig .tc := ⟨.hbm, 67, rfl⟩
abbrev main_v50 : Ref sig .tc := ⟨.hbm, 68, rfl⟩
abbrev main_cst_11 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_cst_12 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_13 : Ref sig .tc := ⟨.hbm, 82, rfl⟩
abbrev main_v62 : Ref sig .tc := ⟨.hbm, 83, rfl⟩
abbrev main_v63 : Ref sig .tc := ⟨.hbm, 84, rfl⟩
abbrev main_cst_14 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_cst_15 : Ref sig .tc := ⟨.hbm, 91, rfl⟩
abbrev main_v69 : Ref sig .tc := ⟨.hbm, 92, rfl⟩
abbrev main_v70 : Ref sig .tc := ⟨.hbm, 93, rfl⟩
abbrev main_cst_16 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_v78 : Ref sig .tc := ⟨.hbm, 102, rfl⟩

abbrev nD : Nat := 1
abbrev τ : Topo := Topo.v7x

variable {F : FTy → Type} [FloatOps F]
-- ==== GluBwd.lean ====
abbrev S4096x1024 : Shape := ⟨2, ![4096, 1024]⟩
abbrev S4096x4608 : Shape := ⟨2, ![4096, 4608]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩

abbrev nBuf : Space → Nat
  | .hbm => 11
  | .vmem => 17
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S1024x1024, .bf16⟩
  | .hbm, ⟨6, _⟩ => ⟨S1x1024, .f32⟩
  | .hbm, ⟨7, _⟩ => ⟨S4096x1024, .f32⟩
  | .hbm, ⟨8, _⟩ => ⟨S4096x1024, .bf16⟩
  | .hbm, ⟨9, _⟩ => ⟨S4096x1024, .bf16⟩
  | .hbm, ⟨10, _⟩ => ⟨S1x1024, .f32⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x1024, .f32⟩
  | .local _ .vmem, ⟨7, _⟩ => ⟨S512x1024, .f32⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .vmem, ⟨12, _⟩ => ⟨S512x1024, .bf16⟩
  | .local _ .vmem, ⟨13, _⟩ => ⟨S512x1024, .bf16⟩
  | .local _ .vmem, ⟨14, _⟩ => ⟨S512x1024, .bf16⟩
  | .local _ .vmem, ⟨15, _⟩ => ⟨S512x1024, .bf16⟩
  | .local _ .vmem, ⟨16, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2_0 : Ref sig .tc := ⟨.hbm, 7, rfl⟩
abbrev main_v2_1 : Ref sig .tc := ⟨.hbm, 8, rfl⟩
abbrev main_v2_2 : Ref sig .tc := ⟨.hbm, 9, rfl⟩
abbrev main_v2_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== GluBwdIdeal.lean ====
variable {F : FTy → Type} [FloatOps F] [Named F]
def κ : String → Option EReal := fun
  | "cube" => some ((8943 / 200000 : ℝ) : EReal)
  | "cube3" => some ((26829 / 200000 : ℝ) : EReal)
  | _ => none
-- ==== GluBwdRefIdeal.lean ====
abbrev S4096x1024 : Shape := ⟨2, ![4096, 1024]⟩
abbrev S4096x4608 : Shape := ⟨2, ![4096, 4608]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 108
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S4096x1024, .f32⟩
  | .hbm, ⟨10, _⟩ => ⟨S4096x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S_, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S_, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S_, .f32⟩
  | .hbm, ⟨29, _⟩ => ⟨S4096x1024, .f32⟩
  | .hbm, ⟨30, _⟩ => ⟨S4096x1024, .f32⟩
  | .hbm, ⟨31, _⟩ => ⟨S4096x1024, .f32⟩
  | .hbm, ⟨32, _⟩ => ⟨S_, .f32⟩
  | .hbm, ⟨33, _⟩ => ⟨S4096x1024, .f32⟩
  | .hbm, ⟨34, _⟩ => ⟨S4096x1024, .f32⟩
  | .hbm, ⟨35, _⟩ => ⟨S_, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S1x1024, .f32⟩
  | .hbm, ⟨41, _⟩ => ⟨S4096x1024, .f32⟩
  | .hbm, ⟨42, _⟩ => ⟨S4096x1024, .f32⟩
  | .hbm, ⟨43, _⟩ => ⟨S4096x1024, .f32⟩
  | .hbm, ⟨44, _⟩ => ⟨S4096x1024, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S_, .f32⟩
  | .hbm, ⟨50, _⟩ => ⟨S4096x1024, .f32⟩
  | .hbm, ⟨51, _⟩ => ⟨S4096x1024, .f32⟩
  | .hbm, ⟨52, _⟩ => ⟨S_, .f32⟩
  | .hbm, ⟨53, _⟩ => ⟨S4096x1024, .f32⟩
  | .hbm, ⟨54, _⟩ => ⟨S4096x1024, .f32⟩
  | .hbm, ⟨55, _⟩ => ⟨S4096x1024, .f32⟩
  | .hbm, ⟨56, _⟩ => ⟨S4096x1024, .f32⟩
  | .hbm, ⟨57, _⟩ => ⟨S4096x1024, .f32⟩
  | .hbm, ⟨58, _⟩ => ⟨S4096x1024, .f32⟩
  | .hbm, ⟨59, _⟩ => ⟨S_, .f32⟩
  | .hbm, ⟨60, _⟩ => ⟨S4096x1024, .f32⟩
  | .hbm, ⟨61, _⟩ => ⟨S4096x1024, .f32⟩
  | .hbm, ⟨62, _⟩ => ⟨S_, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S4096x1024, .f32⟩
  | .hbm, ⟨67, _⟩ => ⟨S4096x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S4096x1024, .f32⟩
  | .hbm, ⟨72, _⟩ => ⟨S4096x1024, .f32⟩
  | .hbm, ⟨73, _⟩ => ⟨S4096x1024, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1024, .f32⟩
  | .hbm, ⟨78, _⟩ => ⟨S4096x1024, .f32⟩
  | .hbm, ⟨79, _⟩ => ⟨S4096x1024, .f32⟩
  | .hbm, ⟨80, _⟩ => ⟨S_, .f32⟩
  | .hbm, ⟨81, _⟩ => ⟨S1024, .f32⟩
  | .hbm, ⟨82, _⟩ => ⟨S1x1024, .f32⟩
  | .hbm, ⟨83, _⟩ => ⟨S_, .f32⟩
  | .hbm, ⟨84, _⟩ => ⟨S1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x1024, .f32⟩
  | .hbm, ⟨89, _⟩ => ⟨S_, .f32⟩
  | .hbm, ⟨90, _⟩ => ⟨S4096x1024, .f32⟩
  | .hbm, ⟨91, _⟩ => ⟨S4096x1024, .f32⟩
  | .hbm, ⟨92, _⟩ => ⟨S4096x1024, .f32⟩
  | .hbm, ⟨93, _⟩ => ⟨S_, .f32⟩
  | .hbm, ⟨94, _⟩ => ⟨S4096x1024, .f32⟩
  | .hbm, ⟨95, _⟩ => ⟨S4096x1024, .f32⟩
  | .hbm, ⟨96, _⟩ => ⟨S4096x1024, .f32⟩
  | .hbm, ⟨97, _⟩ => ⟨S_, .f32⟩
  | .hbm, ⟨98, _⟩ => ⟨S4096x1024, .f32⟩
  | .hbm, ⟨99, _⟩ => ⟨S4096x1024, .f32⟩
  | .hbm, ⟨100, _⟩ => ⟨S_, .f32⟩
  | .hbm, ⟨101, _⟩ => ⟨S4096x1024, .f32⟩
  | .hbm, ⟨102, _⟩ => ⟨S4096x1024, .f32⟩
  | .hbm, ⟨103, _⟩ => ⟨S4096x1024, .f32⟩
  | .hbm, ⟨104, _⟩ => ⟨S4096x1024, .f32⟩
  | .hbm, ⟨105, _⟩ => ⟨S4096x1024, .bf16⟩
  | .hbm, ⟨106, _⟩ => ⟨S4096x1024, .bf16⟩
  | .hbm, ⟨107, _⟩ => ⟨S1x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_3 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_4 : Ref sig .tc := ⟨.hbm, 25, rfl⟩
abbrev main_v15 : Ref sig .tc := ⟨.hbm, 26, rfl⟩
abbrev main_v16 : Ref sig .tc := ⟨.hbm, 27, rfl⟩
abbrev main_cst_5 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_6 : Ref sig .tc := ⟨.hbm, 32, rfl⟩
abbrev main_v20 : Ref sig .tc := ⟨.hbm, 33, rfl⟩
abbrev main_v21 : Ref sig .tc := ⟨.hbm, 34, rfl⟩
abbrev main_cst_7 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_8 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_cst_10 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_call0_v0 : Ref sig .tc := ⟨.hbm, 57, rfl⟩
abbrev main_call0_v1 : Ref sig .tc := ⟨.hbm, 58, rfl⟩
abbrev main_call0_cst : Ref sig .tc := ⟨.hbm, 59, rfl⟩
abbrev main_call0_v2 : Ref sig .tc := ⟨.hbm, 60, rfl⟩
abbrev main_call0_v3 : Ref sig .tc := ⟨.hbm, 61, rfl⟩
abbrev main_call0_cst_0 : Ref sig .tc := ⟨.hbm, 62, rfl⟩
abbrev main_call0_v4 : Ref sig .tc := ⟨.hbm, 63, rfl⟩
abbrev main_v40_2 : Ref sig .tc := ⟨.hbm, 64, rfl⟩
abbrev main_call0_cst_1 : Ref sig .tc := ⟨.hbm, 65, rfl⟩
abbrev main_call0_v6 : Ref sig .tc := ⟨.hbm, 66, rfl⟩
abbrev main_call0_v7 : Ref sig .tc := ⟨.hbm, 67, rfl⟩
abbrev main_v40_1 : Ref sig .tc := ⟨.hbm, 68, rfl⟩
abbrev main_v40_0 : Ref sig .tc := ⟨.hbm, 69, rfl⟩
abbrev main_v41 : Ref sig .tc := ⟨.hbm, 70, rfl⟩
abbrev main_v42 : Ref sig .tc := ⟨.hbm, 71, rfl⟩
abbrev main_v43 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_cst_11 : Ref sig .tc := ⟨.hbm, 80, rfl⟩
abbrev main_v48 : Ref sig .tc := ⟨.hbm, 81, rfl⟩
abbrev main_v49 : Ref sig .tc := ⟨.hbm, 82, rfl⟩
abbrev main_cst_12 : Ref sig .tc := ⟨.hbm, 83, rfl⟩
abbrev main_v50 : Ref sig .tc := ⟨.hbm, 84, rfl⟩
abbrev main_v51 : Ref sig .tc := ⟨.hbm, 85, rfl⟩
abbrev main_v52 : Ref sig .tc := ⟨.hbm, 86, rfl⟩
abbrev main_v53 : Ref sig .tc := ⟨.hbm, 87, rfl⟩
abbrev main_v54 : Ref sig .tc := ⟨.hbm, 88, rfl⟩
abbrev main_cst_13 : Ref sig .tc := ⟨.hbm, 89, rfl⟩
abbrev main_v55 : Ref sig .tc := ⟨.hbm, 90, rfl⟩
abbrev main_v56 : Ref sig .tc := ⟨.hbm, 91, rfl⟩
abbrev main_v57 : Ref sig .tc := ⟨.hbm, 92, rfl⟩
abbrev main_cst_14 : Ref sig .tc := ⟨.hbm, 93, rfl⟩
abbrev main_v58 : Ref sig .tc := ⟨.hbm, 94, rfl⟩
abbrev main_v59 : Ref sig .tc := ⟨.hbm, 95, rfl⟩
abbrev main_v60 : Ref sig .tc := ⟨.hbm, 96, rfl⟩
abbrev main_cst_15 : Ref sig .tc := ⟨.hbm, 97, rfl⟩
abbrev main_v61 : Ref sig .tc := ⟨.hbm, 98, rfl⟩
abbrev main_v62 : Ref sig .tc := ⟨.hbm, 99, rfl⟩
abbrev main_cst_16 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66 : Ref sig .tc := ⟨.hbm, 104, rfl⟩
abbrev main_v67 : Ref sig .tc := ⟨.hbm, 105, rfl⟩
abbrev main_v68 : Ref sig .tc := ⟨.hbm, 106, rfl⟩
abbrev main_v69 : Ref sig .tc := ⟨.hbm, 107, rfl⟩

abbrev nD : Nat := 1
abbrev τ : Topo := Topo.v7x

variable {F : FTy → Type} [FloatOps F]
-- ==== ParamBwd.lean ====
abbrev S64x64 : Shape := ⟨2, ![64, 64]⟩
abbrev S64 : Shape := ⟨1, ![64]⟩
abbrev S64x64x16 : Shape := ⟨3, ![64, 64, 16]⟩
abbrev S64x1024 : Shape := ⟨2, ![64, 1024]⟩
abbrev S64x1 : Shape := ⟨2, ![64, 1]⟩
abbrev S1024x64 : Shape := ⟨2, ![1024, 64]⟩

abbrev nBuf : Space → Nat
  | .hbm => 23
  | .vmem => 16
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x64, .f32⟩
  | .hbm, ⟨6, _⟩ => ⟨S64x64, .f32⟩
  | .hbm, ⟨7, _⟩ => ⟨S64x64x16, .f32⟩
  | .hbm, ⟨8, _⟩ => ⟨S64x64x16, .f32⟩
  | .hbm, ⟨9, _⟩ => ⟨S64x1024, .f32⟩
  | .hbm, ⟨10, _⟩ => ⟨S64x1024, .f32⟩
  | .hbm, ⟨11, _⟩ => ⟨S64x1, .f32⟩
  | .hbm, ⟨12, _⟩ => ⟨S64x64x16, .f32⟩
  | .hbm, ⟨13, _⟩ => ⟨S64x1024, .f32⟩
  | .hbm, ⟨14, _⟩ => ⟨S64x64x16, .f32⟩
  | .hbm, ⟨15, _⟩ => ⟨S64x1024, .f32⟩
  | .hbm, ⟨16, _⟩ => ⟨S64x1024, .f32⟩
  | .hbm, ⟨17, _⟩ => ⟨S64x1024, .f32⟩
  | .hbm, ⟨18, _⟩ => ⟨S64x64, .f32⟩
  | .hbm, ⟨19, _⟩ => ⟨S64x64, .f32⟩
  | .hbm, ⟨20, _⟩ => ⟨S64x1, .f32⟩
  | .hbm, ⟨21, _⟩ => ⟨S64x1024, .f32⟩
  | .hbm, ⟨22, _⟩ => ⟨S64x1024, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x64, .f32⟩
  | .local _ .vmem, ⟨8, _⟩ => ⟨S64x64, .f32⟩
  | .local _ .vmem, ⟨9, _⟩ => ⟨S64x1024, .f32⟩
  | .local _ .vmem, ⟨10, _⟩ => ⟨S64x1024, .f32⟩
  | .local _ .vmem, ⟨11, _⟩ => ⟨S64x64, .f32⟩
  | .local _ .vmem, ⟨12, _⟩ => ⟨S64x64, .f32⟩
  | .local _ .vmem, ⟨13, _⟩ => ⟨S64x1, .f32⟩
  | .local _ .vmem, ⟨14, _⟩ => ⟨S64x1024, .f32⟩
  | .local _ .vmem, ⟨15, _⟩ => ⟨S64x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev main_v9_2 : Ref sig .tc := ⟨.hbm, 20, rfl⟩
abbrev main_v9_3 : Ref sig .tc := ⟨.hbm, 21, rfl⟩
abbrev main_v9_4 : Ref sig .tc := ⟨.hbm, 22, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x64 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S64x1024 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S64x1024 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
-- ==== ParamBwdRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x1024 : Shape := ⟨2, ![64, 1024]⟩

abbrev nBuf : Space → Nat
  | .hbm => 167
  | .vmem => 0
  | .smem => 0
  | _ => 0

abbrev hbmTy0_0 (i : Nat) : BufTy := match i % 128 with
  | 0 => ⟨S64x64, .f32⟩
  | 1 => ⟨S64x64, .f32⟩
  | 2 => ⟨S64, .f32⟩
  | 3 => ⟨S64x64x16, .f32⟩
  | 4 => ⟨S64x64x16, .f32⟩
  | 5 => ⟨S64x64, .f32⟩
  | 6 => ⟨S64x64, .f32⟩
  | 7 => ⟨S64x64x16, .f32⟩
  | 8 => ⟨S64x64x16, .f32⟩
  | 9 => ⟨S64, .f32⟩
  | 10 => ⟨S64x1, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S64x64, .f32⟩
  | 18 => ⟨S64x64, .f32⟩
  | 19 => ⟨S64x64, .f32⟩
  | 20 => ⟨S64x64, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S64x64, .f32⟩
  | 27 => ⟨S_, .f32⟩
  | 28 => ⟨S64x64, .f32⟩
  | 29 => ⟨S64x64, .f32⟩
  | 30 => ⟨S64x64, .f32⟩
  | 31 => ⟨S64x64, .f32⟩
  | 32 => ⟨S64x64, .f32⟩
  | 33 => ⟨S64x64, .f32⟩
  | 34 => ⟨S64x64, .f32⟩
  | 35 => ⟨S_, .f32⟩
  | 36 => ⟨S64x64, .f32⟩
  | 37 => ⟨S64x64, .f32⟩
  | 38 => ⟨S64x64x1, .f32⟩
  | 39 => ⟨S64x64, .f32⟩
  | 40 => ⟨S_, .f32⟩
  | 41 => ⟨S64x64, .f32⟩
  | 42 => ⟨S64x64, .f32⟩
  | 43 => ⟨S64x64, .f32⟩
  | 44 => ⟨S64x64, .f32⟩
  | 45 => ⟨S64x64, .f32⟩
  | 46 => ⟨S64x64, .f32⟩
  | 47 => ⟨S_, .f32⟩
  | 48 => ⟨S64x64, .f32⟩
  | 49 => ⟨S64x64, .f32⟩
  | 50 => ⟨S64x64x1, .f32⟩
  | 51 => ⟨S64x64x16, .f32⟩
  | 52 => ⟨S64x64x16, .f32⟩
  | 53 => ⟨S64x64x16, .f32⟩
  | 54 => ⟨S64x64x16, .f32⟩
  | 55 => ⟨S64x64x16, .f32⟩
  | 56 => ⟨S64x64x16, .f32⟩
  | 57 => ⟨S64x64x16, .f32⟩
  | 58 => ⟨S64x64x16, .f32⟩
  | 59 => ⟨S64x64x16, .f32⟩
  | 60 => ⟨S64x64x16, .f32⟩
  | 61 => ⟨S64x64x16, .f32⟩
  | 62 => ⟨S64x64x16, .f32⟩
  | 63 => ⟨S64x64x16, .f32⟩
  | 64 => ⟨S64x64x16, .f32⟩
  | 65 => ⟨S64x64x16, .f32⟩
  | 66 => ⟨S_, .f32⟩
  | 67 => ⟨S64x64, .f32⟩
  | 68 => ⟨S64x64x1, .f32⟩
  | 69 => ⟨S64x64x16, .f32⟩
  | 70 => ⟨S64x64x16, .f32⟩
  | 71 => ⟨S64x64x16, .f32⟩
  | 72 => ⟨S_, .f32⟩
  | 73 => ⟨S64x64, .f32⟩
  | 74 => ⟨S64x64x1, .f32⟩
  | 75 => ⟨S64x64x16, .f32⟩
  | 76 => ⟨S64x64x16, .f32⟩
  | 77 => ⟨S64x64x16, .f32⟩
  | 78 => ⟨S64x64x16, .f32⟩
  | 79 => ⟨S64x64x16, .f32⟩
  | 80 => ⟨S64x64x16, .f32⟩
  | 81 => ⟨S_, .f32⟩
  | 82 => ⟨S64x64, .f32⟩
  | 83 => ⟨S64x64x1, .f32⟩
  | 84 => ⟨S64x64x1, .f32⟩
  | 85 => ⟨S64x64x16, .f32⟩
  | 86 => ⟨S64x64x16, .f32⟩
  | 87 => ⟨S64x64x16, .f32⟩
  | 88 => ⟨S64x64x16, .f32⟩
  | 89 => ⟨S_, .f32⟩
  | 90 => ⟨S64x64, .f32⟩
  | 91 => ⟨S64x64x1, .f32⟩
  | 92 => ⟨S64x64x1, .f32⟩
  | 93 => ⟨S_, .f32⟩
  | 94 => ⟨S64x64, .f32⟩
  | 95 => ⟨S64x64, .f32⟩
  | 96 => ⟨S64x64, .f32⟩
  | 97 => ⟨S64x64, .f32⟩
  | 98 => ⟨S64x64, .f32⟩
  | 99 => ⟨S64x64, .f32⟩
  | 100 => ⟨S64x64, .f32⟩
  | 101 => ⟨S64x64, .f32⟩
  | 102 => ⟨S64x64, .f32⟩
  | 103 => ⟨S64x64, .f32⟩
  | 104 => ⟨S64x64, .f32⟩
  | 105 => ⟨S64x64, .f32⟩
  | 106 => ⟨S_, .f32⟩
  | 107 => ⟨S64x64, .f32⟩
  | 108 => ⟨S64x64, .f32⟩
  | 109 => ⟨S64x64, .f32⟩
  | 110 => ⟨S64x64, .f32⟩
  | 111 => ⟨S64x64, .f32⟩
  | 112 => ⟨S64x64, .f32⟩
  | 113 => ⟨S64x64, .f32⟩
  | 114 => ⟨S64x64, .f32⟩
  | 115 => ⟨S64x64, .f32⟩
  | 116 => ⟨S64x64, .f32⟩
  | 117 => ⟨S64x64, .f32⟩
  | 118 => ⟨S64x64, .f32⟩
  | 119 => ⟨S64x64, .f32⟩
  | 120 => ⟨S64x64, .f32⟩
  | 121 => ⟨S64x64, .f32⟩
  | 122 => ⟨S64x64, .f32⟩
  | 123 => ⟨S64x64, .f32⟩
  | 124 => ⟨S64x64, .f32⟩
  | 125 => ⟨S64x64, .f32⟩
  | 126 => ⟨S64x64, .f32⟩
  | 127 => ⟨S64x64, .f32⟩
  | _ => ⟨S64x64, .f32⟩

abbrev hbmTy0_1 (i : Nat) : BufTy := match i % 128 with
  | 0 => ⟨S64x64, .f32⟩
  | 1 => ⟨S64x64, .f32⟩
  | 2 => ⟨S64x64, .f32⟩
  | 3 => ⟨S64x64, .f32⟩
  | 4 => ⟨S64x64, .f32⟩
  | 5 => ⟨S_, .f32⟩
  | 6 => ⟨S64, .f32⟩
  | 7 => ⟨S64x1, .f32⟩
  | 8 => ⟨S64x64, .f32⟩
  | 9 => ⟨S64x64, .f32⟩
  | 10 => ⟨S64x64, .f32⟩
  | 11 => ⟨S64x64, .f32⟩
  | 12 => ⟨S64x64, .f32⟩
  | 13 => ⟨S64x64, .f32⟩
  | 14 => ⟨S64x64, .f32⟩
  | 15 => ⟨S64x64, .f32⟩
  | 16 => ⟨S64x64, .f32⟩
  | 17 => ⟨S_, .f32⟩
  | 18 => ⟨S64, .f32⟩
  | 19 => ⟨S64x1, .f32⟩
  | 20 => ⟨S64x1, .f32⟩
  | 21 => ⟨S64x64, .f32⟩
  | 22 => ⟨S64x64, .f32⟩
  | 23 => ⟨S64x64, .f32⟩
  | 24 => ⟨S64x64, .f32⟩
  | 25 => ⟨S64x64, .f32⟩
  | 26 => ⟨S_, .f32⟩
  | 27 => ⟨S64, .f32⟩
  | 28 => ⟨S64x1, .f32⟩
  | 29 => ⟨S64x1, .f32⟩
  | 30 => ⟨S64x64, .f32⟩
  | 31 => ⟨S64x64, .f32⟩
  | 32 => ⟨S64x64, .f32⟩
  | 33 => ⟨S_, .f32⟩
  | 34 => ⟨S64, .f32⟩
  | 35 => ⟨S64, .f32⟩
  | 36 => ⟨S64x1, .f32⟩
  | 37 => ⟨S64x1024, .f32⟩
  | 38 => ⟨S64x1024, .f32⟩
  | _ => ⟨S64x64, .f32⟩

abbrev hbmTy (i : Nat) : BufTy := match i / 128 with
  | 0 => hbmTy0_0 i
  | 1 => hbmTy0_1 i
  | _ => ⟨S64x64, .f32⟩

abbrev bufTy : (tb : Table) → Fin (tcTables nBuf tb) → BufTy
  | .hbm, ⟨i, _⟩ => hbmTy i
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_0 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_1 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_v52 : Ref sig .tc := ⟨.hbm, 65, rfl⟩
abbrev main_cst_3 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_cst_4 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_cst_5 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_v72 : Ref sig .tc := ⟨.hbm, 88, rfl⟩
abbrev main_cst_6 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_cst_7 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_cst_8 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_v92 : Ref sig .tc := ⟨.hbm, 111, rfl⟩
abbrev main_v93 : Ref sig .tc := ⟨.hbm, 112, rfl⟩
abbrev main_v94 : Ref sig .tc := ⟨.hbm, 113, rfl⟩
abbrev main_v95 : Ref sig .tc := ⟨.hbm, 114, rfl⟩
abbrev main_v96 : Ref sig .tc := ⟨.hbm, 115, rfl⟩
abbrev main_v97 : Ref sig .tc := ⟨.hbm, 116, rfl⟩
abbrev main_v98 : Ref sig .tc := ⟨.hbm, 117, rfl⟩
abbrev main_v99 : Ref sig .tc := ⟨.hbm, 118, rfl⟩
abbrev main_v100 : Ref sig .tc := ⟨.hbm, 119, rfl⟩
abbrev main_v101 : Ref sig .tc := ⟨.hbm, 120, rfl⟩
abbrev main_v102 : Ref sig .tc := ⟨.hbm, 121, rfl⟩
abbrev main_v103 : Ref sig .tc := ⟨.hbm, 122, rfl⟩
abbrev main_v104 : Ref sig .tc := ⟨.hbm, 123, rfl⟩
abbrev main_v105 : Ref sig .tc := ⟨.hbm, 124, rfl⟩
abbrev main_v106 : Ref sig .tc := ⟨.hbm, 125, rfl⟩
abbrev main_v107 : Ref sig .tc := ⟨.hbm, 126, rfl⟩
abbrev main_v108 : Ref sig .tc := ⟨.hbm, 127, rfl⟩
abbrev main_v109 : Ref sig .tc := ⟨.hbm, 128, rfl⟩
abbrev main_v110 : Ref sig .tc := ⟨.hbm, 129, rfl⟩
abbrev main_v111 : Ref sig .tc := ⟨.hbm, 130, rfl⟩
abbrev main_v112 : Ref sig .tc := ⟨.hbm, 131, rfl⟩
abbrev main_v113 : Ref sig .tc := ⟨.hbm, 132, rfl⟩
abbrev main_cst_9 : Ref sig .tc := ⟨.hbm, 133, rfl⟩
abbrev main_v114 : Ref sig .tc := ⟨.hbm, 134, rfl⟩
abbrev main_v115 : Ref sig .tc := ⟨.hbm, 135, rfl⟩
abbrev main_v116 : Ref sig .tc := ⟨.hbm, 136, rfl⟩
abbrev main_v117 : Ref sig .tc := ⟨.hbm, 137, rfl⟩
abbrev main_v118 : Ref sig .tc := ⟨.hbm, 138, rfl⟩
abbrev main_v119 : Ref sig .tc := ⟨.hbm, 139, rfl⟩
abbrev main_v120 : Ref sig .tc := ⟨.hbm, 140, rfl⟩
abbrev main_v121 : Ref sig .tc := ⟨.hbm, 141, rfl⟩
abbrev main_v122 : Ref sig .tc := ⟨.hbm, 142, rfl⟩
abbrev main_v123 : Ref sig .tc := ⟨.hbm, 143, rfl⟩
abbrev main_v124 : Ref sig .tc := ⟨.hbm, 144, rfl⟩
abbrev main_cst_10 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_cst_11 : Ref sig .tc := ⟨.hbm, 154, rfl⟩
abbrev main_v133 : Ref sig .tc := ⟨.hbm, 155, rfl⟩
abbrev main_v134 : Ref sig .tc := ⟨.hbm, 156, rfl⟩
abbrev main_v135 : Ref sig .tc := ⟨.hbm, 157, rfl⟩
abbrev main_v136 : Ref sig .tc := ⟨.hbm, 158, rfl⟩
abbrev main_v137 : Ref sig .tc := ⟨.hbm, 159, rfl⟩
abbrev main_v138 : Ref sig .tc := ⟨.hbm, 160, rfl⟩
abbrev main_cst_12 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩

abbrev nD : Nat := 1
abbrev τ : Topo := Topo.v7x

variable {F : FTy → Type} [FloatOps F]
-- ==== InBwd.lean ====
abbrev S4096x2048 : Shape := ⟨2, ![4096, 2048]⟩
abbrev S2048 : Shape := ⟨1, ![2048]⟩
abbrev S2048x4608 : Shape := ⟨2, ![2048, 4608]⟩
abbrev S4096x4608 : Shape := ⟨2, ![4096, 4608]⟩
abbrev S2048x4x1152 : Shape := ⟨3, ![2048, 4, 1152]⟩
abbrev S4x2048x1152 : Shape := ⟨3, ![4, 2048, 1152]⟩
abbrev S1x2048 : Shape := ⟨2, ![1, 2048]⟩
abbrev S512x1152 : Shape := ⟨2, ![512, 1152]⟩
abbrev S1x2048x1152 : Shape := ⟨3, ![1, 2048, 1152]⟩
abbrev S512x2048 : Shape := ⟨2, ![512, 2048]⟩
abbrev S2048x1152 : Shape := ⟨2, ![2048, 1152]⟩
abbrev S512 : Shape := ⟨1, ![512]⟩
abbrev S512x1 : Shape := ⟨2, ![512, 1]⟩

abbrev nBuf : Space → Nat
  | .hbm => 12
  | .vmem => 13
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x4608, .f32⟩
  | .hbm, ⟨3, _⟩ => ⟨S4096x4608, .f32⟩
  | .hbm, ⟨4, _⟩ => ⟨S4096x2048, .f32⟩
  | .hbm, ⟨5, _⟩ => ⟨S2048x4608, .bf16⟩
  | .hbm, ⟨6, _⟩ => ⟨S2048x4x1152, .bf16⟩
  | .hbm, ⟨7, _⟩ => ⟨S4x2048x1152, .bf16⟩
  | .hbm, ⟨8, _⟩ => ⟨S4096x4608, .bf16⟩
  | .hbm, ⟨9, _⟩ => ⟨S1x2048, .f32⟩
  | .hbm, ⟨10, _⟩ => ⟨S4096x2048, .f32⟩
  | .hbm, ⟨11, _⟩ => ⟨S1x2048, .f32⟩
  | .local _ .vmem, ⟨0, _⟩ => ⟨S512x1152, .bf16⟩
  | .local _ .vmem, ⟨1, _⟩ => ⟨S512x1152, .bf16⟩
  | .local _ .vmem, ⟨2, _⟩ => ⟨S1x2048x1152, .bf16⟩
  | .local _ .vmem, ⟨3, _⟩ => ⟨S1x2048x1152, .bf16⟩
  | .local _ .vmem, ⟨4, _⟩ => ⟨S512x2048, .f32⟩
  | .local _ .vmem, ⟨5, _⟩ => ⟨S512x2048, .f32⟩
  | .local _ .vmem, ⟨6, _⟩ => ⟨S1x2048, .f32⟩
  | .local _ .vmem, ⟨7, _⟩ => ⟨S512x2048, .f32⟩
  | .local _ .vmem, ⟨8, _⟩ => ⟨S512x2048, .f32⟩
  | .local _ .vmem, ⟨9, _⟩ => ⟨S512x2048, .f32⟩
  | .local _ .vmem, ⟨10, _⟩ => ⟨S512x2048, .f32⟩
  | .local _ .vmem, ⟨11, _⟩ => ⟨S1x2048, .f32⟩
  | .local _ .vmem, ⟨12, _⟩ => ⟨S512x2048, .f32⟩
  | _, _ => ⟨S4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11

abbrev nD : Nat := 1
abbrev τ : Topo := Topo.v7x

variable {F : FTy → Type} [FloatOps F]

abbrev grid0 : Pipeline.Grid := ⟨2, ![8, 4], ![false, false]⟩

def k0_cond3 (i : grid0.Coords) : BitVec 1 :=
  let arg1 : BitVec 32 := BitVec.ofNat 32 (i 1).val
  let c3_i32 : BitVec 32 := 3#32
  let v18 : BitVec 1 := Scalar.cmpi .eq arg1 c3_i32
  let v19 : BitVec 32 := Scalar.extui v18
  let c0_i32_12 : BitVec 32 := 0#32
  let v20 : BitVec 1 := Scalar.cmpi .ne v19 c0_i32_12
  v20

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let arg1 : BitVec 32 := BitVec.ofNat 32 (i 1).val
  let c0_i32_0 : BitVec 32 := 0#32
  let v1 : BitVec 1 := Scalar.cmpi .eq arg1 c0_i32_0
  let v2 : BitVec 1 := Scalar.andi v0 v1
  let v3 : BitVec 32 := Scalar.extui v2
  let c0_i32_1 : BitVec 32 := 0#32
  let v4 : BitVec 1 := Scalar.cmpi .ne v3 c0_i32_1
  v4

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2048x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]
-- ==== InBwdRefIdeal.lean ====
abbrev S4096x2048 : Shape := ⟨2, ![4096, 2048]⟩
abbrev S2048 : Shape := ⟨1, ![2048]⟩
abbrev S2048x4608 : Shape := ⟨2, ![2048, 4608]⟩
abbrev S4096x4608 : Shape := ⟨2, ![4096, 4608]⟩
abbrev S_ : Shape := ⟨0, ![]⟩
abbrev S4096 : Shape := ⟨1, ![4096]⟩
abbrev S4096x1 : Shape := ⟨2, ![4096, 1]⟩
abbrev S1x2048 : Shape := ⟨2, ![1, 2048]⟩

abbrev nBuf : Space → Nat
  | .hbm => 54
  | .vmem => 0
  | .smem => 0
  | _ => 0

abbrev bufTy : (tb : Table) → Fin (tcTables nBuf tb) → BufTy
  | .hbm, ⟨0, _⟩ => ⟨S4096x2048, .f32⟩
  | .hbm, ⟨1, _⟩ => ⟨S2048, .f32⟩
  | .hbm, ⟨2, _⟩ => ⟨S2048x4608, .f32⟩
  | .hbm, ⟨3, _⟩ => ⟨S4096x4608, .f32⟩
  | .hbm, ⟨4, _⟩ => ⟨S4096x2048, .f32⟩
  | .hbm, ⟨5, _⟩ => ⟨S4096x2048, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x2048, .f32⟩
  | .hbm, ⟨21, _⟩ => ⟨S4096x2048, .f32⟩
  | .hbm, ⟨22, _⟩ => ⟨S1x2048, .f32⟩
  | .hbm, ⟨23, _⟩ => ⟨S4096x2048, .f32⟩
  | .hbm, ⟨24, _⟩ => ⟨S4096x2048, .f32⟩
  | .hbm, ⟨25, _⟩ => ⟨S4096x4608, .f32⟩
  | .hbm, ⟨26, _⟩ => ⟨S4096x2048, .f32⟩
  | .hbm, ⟨27, _⟩ => ⟨S4096x2048, .f32⟩
  | .hbm, ⟨28, _⟩ => ⟨S_, .f32⟩
  | .hbm, ⟨29, _⟩ => ⟨S2048, .f32⟩
  | .hbm, ⟨30, _⟩ => ⟨S1x2048, .f32⟩
  | .hbm, ⟨31, _⟩ => ⟨S4096x2048, .f32⟩
  | .hbm, ⟨32, _⟩ => ⟨S4096x2048, .f32⟩
  | .hbm, ⟨33, _⟩ => ⟨S_, .f32⟩
  | .hbm, ⟨34, _⟩ => ⟨S2048, .f32⟩
  | .hbm, ⟨35, _⟩ => ⟨S4096x2048, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S4096x2048, .f32⟩
  | .hbm, ⟨52, _⟩ => ⟨S4096x2048, .f32⟩
  | .hbm, ⟨53, _⟩ => ⟨S1x2048, .f32⟩
  | _, _ => ⟨S4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_cst_3 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_4 : Ref sig .tc := ⟨.hbm, 33, rfl⟩
abbrev main_v23 : Ref sig .tc := ⟨.hbm, 34, rfl⟩
abbrev main_v24 : Ref sig .tc := ⟨.hbm, 35, rfl⟩
abbrev main_cst_5 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_cst_6 : Ref sig .tc := ⟨.hbm, 43, rfl⟩
abbrev main_v31 : Ref sig .tc := ⟨.hbm, 44, rfl⟩
abbrev main_v32 : Ref sig .tc := ⟨.hbm, 45, rfl⟩
abbrev main_cst_7 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩

abbrev nD : Nat := 1
abbrev τ : Topo := Topo.v7x

variable {F : FTy → Type} [FloatOps F]
-- ==== Loss.lean ====
abbrev S4096x1024 : Shape := ⟨2, ![4096, 1024]⟩
abbrev S1024 : Shape := ⟨1, ![1024]⟩
abbrev S2048x2048 : Shape := ⟨2, ![2048, 2048]⟩
abbrev S4096x2048 : Shape := ⟨2, ![4096, 2048]⟩
abbrev S1x1024 : Shape := ⟨2, ![1, 1024]⟩
abbrev S8x128 : Shape := ⟨2, ![8, 128]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩
abbrev S1x256x2048 : Shape := ⟨3, ![1, 256, 2048]⟩
abbrev S1 : Shape := ⟨1, ![1]⟩
abbrev S1x1x1 : Shape := ⟨3, ![1, 1, 1]⟩

abbrev nBuf : Space → Nat
  | .hbm => 13
  | .vmem => 16
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S1x1024, .f32⟩
  | .hbm, ⟨8, _⟩ => ⟨S1x1024, .f32⟩
  | .hbm, ⟨9, _⟩ => ⟨S2048x2048, .bf16⟩
  | .hbm, ⟨10, _⟩ => ⟨S4096x2048, .bf16⟩
  | .hbm, ⟨11, _⟩ => ⟨S4096x2048, .f32⟩
  | .hbm, ⟨12, _⟩ => ⟨S8x128, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S1x1024, .f32⟩
  | .local _ .vmem, ⟨5, _⟩ => ⟨S1x1024, .f32⟩
  | .local _ .vmem, ⟨6, _⟩ => ⟨S2048x2048, .bf16⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .bf16⟩
  | .local _ .vmem, ⟨12, _⟩ => ⟨S256x2048, .bf16⟩
  | .local _ .vmem, ⟨13, _⟩ => ⟨S256x2048, .f32⟩
  | .local _ .vmem, ⟨14, _⟩ => ⟨S256x2048, .f32⟩
  | .local _ .vmem, ⟨15, _⟩ => ⟨S8x128, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2048 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S8x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== LossRefIdeal.lean ====
abbrev S4096x1024 : Shape := ⟨2, ![4096, 1024]⟩
abbrev S1024 : Shape := ⟨1, ![1024]⟩
abbrev S2048x2048 : Shape := ⟨2, ![2048, 2048]⟩
abbrev S4096x2048 : Shape := ⟨2, ![4096, 2048]⟩
abbrev S_ : Shape := ⟨0, ![]⟩
abbrev S4096 : Shape := ⟨1, ![4096]⟩
abbrev S4096x1 : Shape := ⟨2, ![4096, 1]⟩
abbrev S1x1024 : Shape := ⟨2, ![1, 1024]⟩
abbrev S8x128 : Shape := ⟨2, ![8, 128]⟩

abbrev nBuf : Space → Nat
  | .hbm => 71
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x1024, .f32⟩
  | .hbm, ⟨2, _⟩ => ⟨S1024, .f32⟩
  | .hbm, ⟨3, _⟩ => ⟨S1024, .f32⟩
  | .hbm, ⟨4, _⟩ => ⟨S2048x2048, .f32⟩
  | .hbm, ⟨5, _⟩ => ⟨S4096x2048, .f32⟩
  | .hbm, ⟨6, _⟩ => ⟨S4096x2048, .f32⟩
  | .hbm, ⟨7, _⟩ => ⟨S4096x1024, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1024, .f32⟩
  | .hbm, ⟨19, _⟩ => ⟨S4096x1024, .f32⟩
  | .hbm, ⟨20, _⟩ => ⟨S1x1024, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x1024, .f32⟩
  | .hbm, ⟨35, _⟩ => ⟨S4096x1024, .f32⟩
  | .hbm, ⟨36, _⟩ => ⟨S1x1024, .f32⟩
  | .hbm, ⟨37, _⟩ => ⟨S4096x1024, .f32⟩
  | .hbm, ⟨38, _⟩ => ⟨S4096x1024, .f32⟩
  | .hbm, ⟨39, _⟩ => ⟨S4096x2048, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S4096x2048, .f32⟩
  | .hbm, ⟨44, _⟩ => ⟨S_, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096, .f32⟩
  | .hbm, ⟨49, _⟩ => ⟨S_, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S_, .f32⟩
  | .hbm, ⟨58, _⟩ => ⟨S_, .f32⟩
  | .hbm, ⟨59, _⟩ => ⟨S4096, .f32⟩
  | .hbm, ⟨60, _⟩ => ⟨S_, .f32⟩
  | .hbm, ⟨61, _⟩ => ⟨S4096, .f32⟩
  | .hbm, ⟨62, _⟩ => ⟨S4096, .f32⟩
  | .hbm, ⟨63, _⟩ => ⟨S4096x2048, .f32⟩
  | .hbm, ⟨64, _⟩ => ⟨S4096x2048, .f32⟩
  | .hbm, ⟨65, _⟩ => ⟨S4096x2048, .bf16⟩
  | .hbm, ⟨66, _⟩ => ⟨S4096x2048, .f32⟩
  | .hbm, ⟨67, _⟩ => ⟨S4096x2048, .f32⟩
  | .hbm, ⟨68, _⟩ => ⟨S_, .f32⟩
  | .hbm, ⟨69, _⟩ => ⟨S_, .f32⟩
  | .hbm, ⟨70, _⟩ => ⟨S8x128, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_5 : Ref sig .tc := ⟨.hbm, 44, rfl⟩
abbrev main_v31 : Ref sig .tc := ⟨.hbm, 45, rfl⟩
abbrev main_v32 : Ref sig .tc := ⟨.hbm, 46, rfl⟩
abbrev main_cst_6 : Ref sig .tc := ⟨.hbm, 47, rfl⟩
abbrev main_v33 : Ref sig .tc := ⟨.hbm, 48, rfl⟩
abbrev main_cst_7 : Ref sig .tc := ⟨.hbm, 49, rfl⟩
abbrev main_v34 : Ref sig .tc := ⟨.hbm, 50, rfl⟩
abbrev main_v35 : Ref sig .tc := ⟨.hbm, 51, rfl⟩
abbrev main_cst_8 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_cst_10 : Ref sig .tc := ⟨.hbm, 56, rfl⟩
abbrev main_cst_11 : Ref sig .tc := ⟨.hbm, 57, rfl⟩
abbrev main_v38 : Ref sig .tc := ⟨.hbm, 58, rfl⟩
abbrev main_v39 : Ref sig .tc := ⟨.hbm, 59, rfl⟩
abbrev main_cst_12 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_cst_13 : Ref sig .tc := ⟨.hbm, 68, rfl⟩
abbrev main_v47 : Ref sig .tc := ⟨.hbm, 69, rfl⟩
abbrev main_v48 : Ref sig .tc := ⟨.hbm, 70, rfl⟩

abbrev nD : Nat := 1
abbrev τ : Topo := Topo.v7x

variable {F : FTy → Type} [FloatOps F]
-- ==== AttnFwd.lean ====
abbrev S4096x4608 : Shape := ⟨2, ![4096, 4608]⟩
abbrev S4096 : Shape := ⟨1, ![4096]⟩
abbrev S64 : Shape := ⟨1, ![64]⟩
abbrev S16 : Shape := ⟨1, ![16]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x256 : Shape := ⟨2, ![4096, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x16 : Shape := ⟨2, ![1, 16]⟩
abbrev S4096x1024 : Shape := ⟨2, ![4096, 1024]⟩
abbrev S128x1024 : Shape := ⟨2, ![128, 1024]⟩
abbrev S128x256 : Shape := ⟨2, ![128, 256]⟩
abbrev S128x512 : Shape := ⟨2, ![128, 512]⟩
abbrev S128x128 : Shape := ⟨2, ![128, 128]⟩
abbrev S256x128 : Shape := ⟨2, ![256, 128]⟩
abbrev S256x256 : Shape := ⟨2, ![256, 256]⟩
abbrev S256 : Shape := ⟨1, ![256]⟩
abbrev S256x1 : Shape := ⟨2, ![256, 1]⟩
abbrev S128x1 : Shape := ⟨2, ![128, 1]⟩
abbrev S512x256 : Shape := ⟨2, ![512, 256]⟩
abbrev S2048x256 : Shape := ⟨2, ![2048, 256]⟩
abbrev S512x128 : Shape := ⟨2, ![512, 128]⟩
abbrev S1x1 : Shape := ⟨2, ![1, 1]⟩
abbrev S512x1 : Shape := ⟨2, ![512, 1]⟩
abbrev S2048x1 : Shape := ⟨2, ![2048, 1]⟩
abbrev S2048 : Shape := ⟨1, ![2048]⟩

abbrev nBuf : Space → Nat
  | .hbm => 44
  | .vmem => 23
  | .smem => 0
  | _ => 0

abbrev bufTy : (tb : Table) → Fin (tcTables nBuf tb) → BufTy
  | .hbm, ⟨0, _⟩ => ⟨S4096x4608, .f32⟩
  | .hbm, ⟨1, _⟩ => ⟨S4096, .i32⟩
  | .hbm, ⟨2, _⟩ => ⟨S64, .f32⟩
  | .hbm, ⟨3, _⟩ => ⟨S64, .f32⟩
  | .hbm, ⟨4, _⟩ => ⟨S16, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S4096, .f32⟩
  | .hbm, ⟨20, _⟩ => ⟨S4096x1, .f32⟩
  | .hbm, ⟨21, _⟩ => ⟨S1x32, .f32⟩
  | .hbm, ⟨22, _⟩ => ⟨S4096x32, .f32⟩
  | .hbm, ⟨23, _⟩ => ⟨S4096x32, .f32⟩
  | .hbm, ⟨24, _⟩ => ⟨S4096x32, .f32⟩
  | .hbm, ⟨25, _⟩ => ⟨S4096x32, .f32⟩
  | .hbm, ⟨26, _⟩ => ⟨S4096x32, .f32⟩
  | .hbm, ⟨27, _⟩ => ⟨S1x4096x1x32, .f32⟩
  | .hbm, ⟨28, _⟩ => ⟨S1x4096x4x32, .f32⟩
  | .hbm, ⟨29, _⟩ => ⟨S4096x128, .f32⟩
  | .hbm, ⟨30, _⟩ => ⟨S1x4096x1x32, .f32⟩
  | .hbm, ⟨31, _⟩ => ⟨S1x4096x4x32, .f32⟩
  | .hbm, ⟨32, _⟩ => ⟨S4096x128, .f32⟩
  | .hbm, ⟨33, _⟩ => ⟨S4096x256, .f32⟩
  | .hbm, ⟨34, _⟩ => ⟨S1x64, .f32⟩
  | .hbm, ⟨35, _⟩ => ⟨S2x64, .f32⟩
  | .hbm, ⟨36, _⟩ => ⟨S128, .f32⟩
  | .hbm, ⟨37, _⟩ => ⟨S1x128, .f32⟩
  | .hbm, ⟨38, _⟩ => ⟨S1x64, .f32⟩
  | .hbm, ⟨39, _⟩ => ⟨S2x64, .f32⟩
  | .hbm, ⟨40, _⟩ => ⟨S128, .f32⟩
  | .hbm, ⟨41, _⟩ => ⟨S1x128, .f32⟩
  | .hbm, ⟨42, _⟩ => ⟨S1x16, .f32⟩
  | .hbm, ⟨43, _⟩ => ⟨S4096x1024, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S1x128, .f32⟩
  | .local _ .vmem, ⟨19, _⟩ => ⟨S1x128, .f32⟩
  | .local _ .vmem, ⟨20, _⟩ => ⟨S1x16, .f32⟩
  | .local _ .vmem, ⟨21, _⟩ => ⟨S128x1024, .f32⟩
  | .local _ .vmem, ⟨22, _⟩ => ⟨S128x1024, .f32⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_cst_2 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c3_i32 : BitVec 32 := 3#32
  let c0_i32 : BitVec 32 := 0#32
  ![v0.toNat, c3_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]
-- ==== AttnFwdIdeal.lean ====
variable {F : FTy → Type} [FloatOps F] [Named F]
def κ : String → Option EReal := fun
  | "mask" => some ⊥
  | _ => none
-- ==== AttnFwdRefIdeal.lean ====
abbrev S4096x4608 : Shape := ⟨2, ![4096, 4608]⟩
abbrev S4096 : Shape := ⟨1, ![4096]⟩
abbrev S64 : Shape := ⟨1, ![64]⟩
abbrev S16 : Shape := ⟨1, ![16]⟩
abbrev S4096x1024 : Shape := ⟨2, ![4096, 1024]⟩
abbrev S4096x256 : Shape := ⟨2, ![4096, 256]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x16x64 : Shape := ⟨3, ![4096, 16, 64]⟩
abbrev S4096x16 : Shape := ⟨2, ![4096, 16]⟩
abbrev S4096x16x1 : Shape := ⟨3, ![4096, 16, 1]⟩
abbrev S1x1x64 : Shape := ⟨3, ![1, 1, 64]⟩
abbrev S4096x1x32 : Shape := ⟨3, ![4096, 1, 32]⟩
abbrev S4096x16x32 : Shape := ⟨3, ![4096, 16, 32]⟩
abbrev S4096x4x64 : Shape := ⟨3, ![4096, 4, 64]⟩
abbrev S4096x4 : Shape := ⟨2, ![4096, 4]⟩
abbrev S4096x4x1 : Shape := ⟨3, ![4096, 4, 1]⟩
abbrev S4096x4x32 : Shape := ⟨3, ![4096, 4, 32]⟩
abbrev S32x128x4x4x64 : Shape := ⟨5, ![32, 128, 4, 4, 64]⟩
abbrev S32x128x4x64 : Shape := ⟨4, ![32, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S1x4x4x1x1 : Shape := ⟨5, ![1, 4, 4, 1, 1]⟩
abbrev S32x4x4x128x1 : Shape := ⟨5, ![32, 4, 4, 128, 1]⟩
abbrev S32x4x4x128x257 : Shape := ⟨5, ![32, 4, 4, 128, 257]⟩
abbrev S32x4x4x128 : Shape := ⟨4, ![32, 4, 4, 128]⟩
abbrev S32x4x64x4x128 : Shape := ⟨5, ![32, 4, 64, 4, 128]⟩

abbrev nBuf : Space → Nat
  | .hbm => 185
  | .vmem => 0
  | .smem => 0
  | _ => 0

abbrev hbmTy0_0 (i : Nat) : BufTy := match i % 128 with
  | 0 => ⟨S4096x4608, .f32⟩
  | 1 => ⟨S4096, .i32⟩
  | 2 => ⟨S64, .f32⟩
  | 3 => ⟨S64, .f32⟩
  | 4 => ⟨S16, .f32⟩
  | 5 => ⟨S4096x1024, .f32⟩
  | 6 => ⟨S4096x256, .f32⟩
  | 7 => ⟨S4096x256, .f32⟩
  | 8 => ⟨S4096x1024, .f32⟩
  | 9 => ⟨S32, .f32⟩
  | 10 => ⟨S_, .f32⟩
  | 11 => ⟨S32, .f32⟩
  | 12 => ⟨S32, .f32⟩
  | 13 => ⟨S_, .f32⟩
  | 14 => ⟨S32, .f32⟩
  | 15 => ⟨S32, .f32⟩
  | 16 => ⟨S32, .f32⟩
  | 17 => ⟨S_, .f32⟩
  | 18 => ⟨S32, .f32⟩
  | 19 => ⟨S32, .f32⟩
  | 20 => ⟨S_, .f32⟩
  | 21 => ⟨S32, .f32⟩
  | 22 => ⟨S32, .f32⟩
  | 23 => ⟨S4096, .f32⟩
  | 24 => ⟨S4096x1, .f32⟩
  | 25 => ⟨S1x32, .f32⟩
  | 26 => ⟨S4096x32, .f32⟩
  | 27 => ⟨S4096x32, .f32⟩
  | 28 => ⟨S4096x32, .f32⟩
  | 29 => ⟨S4096x32, .f32⟩
  | 30 => ⟨S4096x32, .f32⟩
  | 31 => ⟨S4096x16x64, .f32⟩
  | 32 => ⟨S4096x16x64, .f32⟩
  | 33 => ⟨S_, .f32⟩
  | 34 => ⟨S4096x16, .f32⟩
  | 35 => ⟨S4096x16x1, .f32⟩
  | 36 => ⟨S_, .f32⟩
  | 37 => ⟨S4096x16x1, .f32⟩
  | 38 => ⟨S4096x16x1, .f32⟩
  | 39 => ⟨S_, .f32⟩
  | 40 => ⟨S4096x16x1, .f32⟩
  | 41 => ⟨S4096x16x1, .f32⟩
  | 42 => ⟨S4096x16x1, .f32⟩
  | 43 => ⟨S4096x16x64, .f32⟩
  | 44 => ⟨S4096x16x64, .f32⟩
  | 45 => ⟨S1x1x64, .f32⟩
  | 46 => ⟨S4096x16x64, .f32⟩
  | 47 => ⟨S4096x16x64, .f32⟩
  | 48 => ⟨S4096x1x32, .f32⟩
  | 49 => ⟨S4096x1x32, .f32⟩
  | 50 => ⟨S4096x16x32, .f32⟩
  | 51 => ⟨S4096x16x32, .f32⟩
  | 52 => ⟨S4096x16x32, .f32⟩
  | 53 => ⟨S4096x16x32, .f32⟩
  | 54 => ⟨S4096x16x32, .f32⟩
  | 55 => ⟨S4096x16x32, .f32⟩
  | 56 => ⟨S4096x16x32, .f32⟩
  | 57 => ⟨S4096x16x32, .f32⟩
  | 58 => ⟨S4096x16x32, .f32⟩
  | 59 => ⟨S4096x16x32, .f32⟩
  | 60 => ⟨S4096x16x32, .f32⟩
  | 61 => ⟨S4096x16x32, .f32⟩
  | 62 => ⟨S4096x16x64, .f32⟩
  | 63 => ⟨S4096x4x64, .f32⟩
  | 64 => ⟨S4096x4x64, .f32⟩
  | 65 => ⟨S_, .f32⟩
  | 66 => ⟨S4096x4, .f32⟩
  | 67 => ⟨S4096x4x1, .f32⟩
  | 68 => ⟨S_, .f32⟩
  | 69 => ⟨S4096x4x1, .f32⟩
  | 70 => ⟨S4096x4x1, .f32⟩
  | 71 => ⟨S_, .f32⟩
  | 72 => ⟨S4096x4x1, .f32⟩
  | 73 => ⟨S4096x4x1, .f32⟩
  | 74 => ⟨S4096x4x1, .f32⟩
  | 75 => ⟨S4096x4x64, .f32⟩
  | 76 => ⟨S4096x4x64, .f32⟩
  | 77 => ⟨S1x1x64, .f32⟩
  | 78 => ⟨S4096x4x64, .f32⟩
  | 79 => ⟨S4096x4x64, .f32⟩
  | 80 => ⟨S4096x1x32, .f32⟩
  | 81 => ⟨S4096x1x32, .f32⟩
  | 82 => ⟨S4096x4x32, .f32⟩
  | 83 => ⟨S4096x4x32, .f32⟩
  | 84 => ⟨S4096x4x32, .f32⟩
  | 85 => ⟨S4096x4x32, .f32⟩
  | 86 => ⟨S4096x4x32, .f32⟩
  | 87 => ⟨S4096x4x32, .f32⟩
  | 88 => ⟨S4096x4x32, .f32⟩
  | 89 => ⟨S4096x4x32, .f32⟩
  | 90 => ⟨S4096x4x32, .f32⟩
  | 91 => ⟨S4096x4x32, .f32⟩
  | 92 => ⟨S4096x4x32, .f32⟩
  | 93 => ⟨S4096x4x32, .f32⟩
  | 94 => ⟨S4096x4x64, .f32⟩
  | 95 => ⟨S4096x4x64, .f32⟩
  | 96 => ⟨S32x128x4x4x64, .f32⟩
  | 97 => ⟨S32x128x4x64, .f32⟩
  | 98 => ⟨S31x128x4x64, .f32⟩
  | 99 => ⟨S_, .i32⟩
  | 100 => ⟨S_, .f32⟩
  | 101 => ⟨S32x128x4x64, .f32⟩
  | 102 => ⟨S32x256x4x64, .f32⟩
  | 103 => ⟨S32x128x4x64, .f32⟩
  | 104 => ⟨S31x128x4x64, .f32⟩
  | 105 => ⟨S_, .i32⟩
  | 106 => ⟨S_, .f32⟩
  | 107 => ⟨S32x128x4x64, .f32⟩
  | 108 => ⟨S32x256x4x64, .f32⟩
  | 109 => ⟨S32x4x256x128x4, .f32⟩
  | 110 => ⟨S32x4x4x128x256, .f32⟩
  | 111 => ⟨S_, .f32⟩
  | 112 => ⟨S32x4x4x128x256, .f32⟩
  | 113 => ⟨S32x4x4x128x256, .f32⟩
  | 114 => ⟨S128, .i32⟩
  | 115 => ⟨S128x1, .i32⟩
  | 116 => ⟨S_, .i32⟩
  | 117 => ⟨S128x1, .i32⟩
  | 118 => ⟨S128x1, .i32⟩
  | 119 => ⟨S256, .i32⟩
  | 120 => ⟨S1x256, .i32⟩
  | 121 => ⟨S128x256, .i32⟩
  | 122 => ⟨S128x256, .i32⟩
  | 123 => ⟨S128x256, .i32⟩
  | 124 => ⟨S_, .i32⟩
  | 125 => ⟨S128x256, .i32⟩
  | 126 => ⟨S128x256, .i1⟩
  | 127 => ⟨S_, .i32⟩
  | _ => ⟨S4096x4608, .f32⟩

abbrev hbmTy0_1 (i : Nat) : BufTy := match i % 128 with
  | 0 => ⟨S128x256, .i32⟩
  | 1 => ⟨S128x256, .i1⟩
  | 2 => ⟨S128x256, .i1⟩
  | 3 => ⟨S32, .i32⟩
  | 4 => ⟨S32x1x1, .i32⟩
  | 5 => ⟨S_, .i32⟩
  | 6 => ⟨S32x1x1, .i32⟩
  | 7 => ⟨S32x1x1, .i1⟩
  | 8 => ⟨S256, .i32⟩
  | 9 => ⟨S_, .i32⟩
  | 10 => ⟨S256, .i32⟩
  | 11 => ⟨S256, .i1⟩
  | 12 => ⟨S1x1x256, .i1⟩
  | 13 => ⟨S32x1x256, .i1⟩
  | 14 => ⟨S32x1x256, .i1⟩
  | 15 => ⟨S32x1x256, .i1⟩
  | 16 => ⟨S1x128x256, .i1⟩
  | 17 => ⟨S32x128x256, .i1⟩
  | 18 => ⟨S32x128x256, .i1⟩
  | 19 => ⟨S32x128x256, .i1⟩
  | 20 => ⟨S32x1x1x128x256, .i1⟩
  | 21 => ⟨S_, .f32⟩
  | 22 => ⟨S_, .f32⟩
  | 23 => ⟨S32x4x4x128x256, .i1⟩
  | 24 => ⟨S32x4x4x128x256, .f32⟩
  | 25 => ⟨S32x4x4x128x256, .f32⟩
  | 26 => ⟨S1x4x4x1x1, .f32⟩
  | 27 => ⟨S32x4x4x128x1, .f32⟩
  | 28 => ⟨S32x4x4x128x257, .f32⟩
  | 29 => ⟨S_, .f32⟩
  | 30 => ⟨S32x4x4x128, .f32⟩
  | 31 => ⟨S_, .f32⟩
  | 32 => ⟨S32x4x4x128, .f32⟩
  | 33 => ⟨S32x4x4x128, .f32⟩
  | 34 => ⟨S32x4x4x128x1, .f32⟩
  | 35 => ⟨S32x4x4x128x257, .f32⟩
  | 36 => ⟨S32x4x4x128x257, .f32⟩
  | 37 => ⟨S32x4x4x128x257, .f32⟩
  | 38 => ⟨S_, .f32⟩
  | 39 => ⟨S32x4x4x128, .f32⟩
  | 40 => ⟨S32x4x4x128x1, .f32⟩
  | 41 => ⟨S32x4x4x128x257, .f32⟩
  | 42 => ⟨S32x4x4x128x257, .f32⟩
  | 43 => ⟨S32x4x4x128x256, .f32⟩
  | 44 => ⟨S32x4x64x4x128, .f32⟩
  | 45 => ⟨S32x128x4x4x64, .f32⟩
  | 46 => ⟨S4096x1024, .f32⟩
  | 47 => ⟨S4096x1024, .f32⟩
  | 48 => ⟨S4096x1024, .f32⟩
  | 49 => ⟨S_, .f32⟩
  | 50 => ⟨S4096x1024, .f32⟩
  | 51 => ⟨S4096x1024, .f32⟩
  | 52 => ⟨S_, .f32⟩
  | 53 => ⟨S4096x1024, .f32⟩
  | 54 => ⟨S4096x1024, .f32⟩
  | 55 => ⟨S4096x1024, .f32⟩
  | 56 => ⟨S4096x1024, .f32⟩
  | _ => ⟨S4096x4608, .f32⟩

abbrev hbmTy (i : Nat) : BufTy := match i / 128 with
  | 0 => hbmTy0_0 i
  | 1 => hbmTy0_1 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_3 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_cst_6 : Ref sig .tc := ⟨.hbm, 65, rfl⟩
abbrev main_v53 : Ref sig .tc := ⟨.hbm, 66, rfl⟩
abbrev main_v54 : Ref sig .tc := ⟨.hbm, 67, rfl⟩
abbrev main_cst_7 : Ref sig .tc := ⟨.hbm, 68, rfl⟩
abbrev main_v55 : Ref sig .tc := ⟨.hbm, 69, rfl⟩
abbrev main_v56 : Ref sig .tc := ⟨.hbm, 70, rfl⟩
abbrev main_cst_8 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩
abbrev main_v74 : Ref sig .tc := ⟨.hbm, 89, rfl⟩
abbrev main_v75 : Ref sig .tc := ⟨.hbm, 90, rfl⟩
abbrev main_v76 : Ref sig .tc := ⟨.hbm, 91, rfl⟩
abbrev main_v77 : Ref sig .tc := ⟨.hbm, 92, rfl⟩
abbrev main_v78 : Ref sig .tc := ⟨.hbm, 93, rfl⟩
abbrev main_v79 : Ref sig .tc := ⟨.hbm, 94, rfl⟩
abbrev main_v80 : Ref sig .tc := ⟨.hbm, 95, rfl⟩
abbrev main_v81 : Ref sig .tc := ⟨.hbm, 96, rfl⟩
abbrev main_v82 : Ref sig .tc := ⟨.hbm, 97, rfl⟩
abbrev main_v83 : Ref sig .tc := ⟨.hbm, 98, rfl⟩
abbrev main_c : Ref sig .tc := ⟨.hbm, 99, rfl⟩
abbrev main_call0_v0 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_c_9 : Ref sig .tc := ⟨.hbm, 105, rfl⟩
abbrev main_call1_v0 : Ref sig .tc := ⟨.hbm, 106, rfl⟩
abbrev main_v88 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_10 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_c_11 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_c_12 : Ref sig .tc := ⟨.hbm, 124, rfl⟩
abbrev main_v103 : Ref sig .tc := ⟨.hbm, 125, rfl⟩
abbrev main_v104 : Ref sig .tc := ⟨.hbm, 126, rfl⟩
abbrev main_c_13 : Ref sig .tc := ⟨.hbm, 127, rfl⟩
abbrev main_v105 : Ref sig .tc := ⟨.hbm, 128, rfl⟩
abbrev main_v106 : Ref sig .tc := ⟨.hbm, 129, rfl⟩
abbrev main_v107 : Ref sig .tc := ⟨.hbm, 130, rfl⟩
abbrev main_v108 : Ref sig .tc := ⟨.hbm, 131, rfl⟩
abbrev main_v109 : Ref sig .tc := ⟨.hbm, 132, rfl⟩
abbrev main_c_14 : Ref sig .tc := ⟨.hbm, 133, rfl⟩
abbrev main_v110 : Ref sig .tc := ⟨.hbm, 134, rfl⟩
abbrev main_v111 : Ref sig .tc := ⟨.hbm, 135, rfl⟩
abbrev main_v112 : Ref sig .tc := ⟨.hbm, 136, rfl⟩
abbrev main_c_15 : Ref sig .tc := ⟨.hbm, 137, rfl⟩
abbrev main_v113 : Ref sig .tc := ⟨.hbm, 138, rfl⟩
abbrev main_v114 : Ref sig .tc := ⟨.hbm, 139, rfl⟩
abbrev main_v115 : Ref sig .tc := ⟨.hbm, 140, rfl⟩
abbrev main_v116 : Ref sig .tc := ⟨.hbm, 141, rfl⟩
abbrev main_v117 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_v121 : Ref sig .tc := ⟨.hbm, 146, rfl⟩
abbrev main_v122 : Ref sig .tc := ⟨.hbm, 147, rfl⟩
abbrev main_v123 : Ref sig .tc := ⟨.hbm, 148, rfl⟩
abbrev main_cst_16 : Ref sig .tc := ⟨.hbm, 149, rfl⟩
abbrev main_call2_v0 : Ref sig .tc := ⟨.hbm, 150, rfl⟩
abbrev main_call2_v1 : Ref sig .tc := ⟨.hbm, 151, rfl⟩
abbrev main_call2_v2 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_cst_17 : Ref sig .tc := ⟨.hbm, 157, rfl⟩
abbrev main_v128 : Ref sig .tc := ⟨.hbm, 158, rfl⟩
abbrev main_cst_18 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_cst_19 : Ref sig .tc := ⟨.hbm, 166, rfl⟩
abbrev main_v135 : Ref sig .tc := ⟨.hbm, 167, rfl⟩
abbrev main_v136 : Ref sig .tc := ⟨.hbm, 168, rfl⟩
abbrev main_v137 : Ref sig .tc := ⟨.hbm, 169, rfl⟩
abbrev main_v138 : Ref sig .tc := ⟨.hbm, 170, rfl⟩
abbrev main_v139 : Ref sig .tc := ⟨.hbm, 171, rfl⟩
abbrev main_v140 : Ref sig .tc := ⟨.hbm, 172, rfl⟩
abbrev main_v141 : Ref sig .tc := ⟨.hbm, 173, rfl⟩
abbrev main_v142 : Ref sig .tc := ⟨.hbm, 174, rfl⟩
abbrev main_call3_v0 : Ref sig .tc := ⟨.hbm, 175, rfl⟩
abbrev main_call3_v1 : Ref sig .tc := ⟨.hbm, 176, rfl⟩
abbrev main_call3_cst : Ref sig .tc := ⟨.hbm, 177, rfl⟩
abbrev main_call3_v2 : Ref sig .tc := ⟨.hbm, 178, rfl⟩
abbrev main_call3_v3 : Ref sig .tc := ⟨.hbm, 179, rfl⟩
abbrev main_call3_cst_0 : Ref sig .tc := ⟨.hbm, 180, rfl⟩
abbrev main_call3_v4 : Ref sig .tc := ⟨.hbm, 181, rfl⟩
abbrev main_call3_v5 : Ref sig .tc := ⟨.hbm, 182, rfl⟩
abbrev main_v143 : Ref sig .tc := ⟨.hbm, 183, rfl⟩
abbrev main_v144 : Ref sig .tc := ⟨.hbm, 184, rfl⟩

abbrev nD : Nat := 1
abbrev τ : Topo := Topo.v7x

variable {F : FTy → Type} [FloatOps F]
-- ==== Gate.lean ====
abbrev S4096x1024 : Shape := ⟨2, ![4096, 1024]⟩
abbrev S4096x4608 : Shape := ⟨2, ![4096, 4608]⟩
abbrev S1024x1024 : Shape := ⟨2, ![1024, 1024]⟩
abbrev S1024 : Shape := ⟨1, ![1024]⟩
abbrev S1x1024 : Shape := ⟨2, ![1, 1024]⟩
abbrev S512x1024 : Shape := ⟨2, ![512, 1024]⟩
abbrev S512x512 : Shape := ⟨2, ![512, 512]⟩

abbrev nBuf : Space → Nat
  | .hbm => 8
  | .vmem => 12
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S1024x1024, .f32⟩
  | .hbm, ⟨3, _⟩ => ⟨S1024, .f32⟩
  | .hbm, ⟨4, _⟩ => ⟨S1024x1024, .bf16⟩
  | .hbm, ⟨5, _⟩ => ⟨S1x1024, .f32⟩
  | .hbm, ⟨6, _⟩ => ⟨S4096x1024, .f32⟩
  | .hbm, ⟨7, _⟩ => ⟨S4096x1024, .bf16⟩
  | .local _ .vmem, ⟨0, _⟩ => ⟨S512x1024, .f32⟩
  | .local _ .vmem, ⟨1, _⟩ => ⟨S512x1024, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S1024x1024, .bf16⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .bf16⟩
  | .local _ .vmem, ⟨11, _⟩ => ⟨S512x1024, .bf16⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_2 (i : grid0.Coords) : Fin 2 → Nat :=
  let arg0 : BitVec 32 := BitVec.ofNat 32 (i 0).val
  let c8_i32 : BitVec 32 := 8#32
  let c0_i32 : BitVec 32 := 0#32
  ![arg0.toNat, c8_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== GateIdeal.lean ====
variable {F : FTy → Type} [FloatOps F] [Named F]
def κ : String → Option EReal := fun
  | "cube" => some ((8943 / 200000 : ℝ) : EReal)
  | _ => none
-- ==== GateRefIdeal.lean ====
abbrev S4096x1024 : Shape := ⟨2, ![4096, 1024]⟩
abbrev S4096x4608 : Shape := ⟨2, ![4096, 4608]⟩
abbrev S1024x1024 : Shape := ⟨2, ![1024, 1024]⟩
abbrev S1024 : Shape := ⟨1, ![1024]⟩
abbrev S_ : Shape := ⟨0, ![]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S4096x4608, .f32⟩
  | .hbm, ⟨2, _⟩ => ⟨S1024x1024, .f32⟩
  | .hbm, ⟨3, _⟩ => ⟨S1024, .f32⟩
  | .hbm, ⟨4, _⟩ => ⟨S4096x1024, .f32⟩
  | .hbm, ⟨5, _⟩ => ⟨S4096x1024, .f32⟩
  | .hbm, ⟨6, _⟩ => ⟨S_, .f32⟩
  | .hbm, ⟨7, _⟩ => ⟨S4096x1024, .f32⟩
  | .hbm, ⟨8, _⟩ => ⟨S4096x1024, .f32⟩
  | .hbm, ⟨9, _⟩ => ⟨S_, .f32⟩
  | .hbm, ⟨10, _⟩ => ⟨S4096x1024, .f32⟩
  | .hbm, ⟨11, _⟩ => ⟨S4096x1024, .f32⟩
  | .hbm, ⟨12, _⟩ => ⟨S4096x1024, .f32⟩
  | .hbm, ⟨13, _⟩ => ⟨S_, .f32⟩
  | .hbm, ⟨14, _⟩ => ⟨S4096x1024, .f32⟩
  | .hbm, ⟨15, _⟩ => ⟨S4096x1024, .f32⟩
  | .hbm, ⟨16, _⟩ => ⟨S4096x1024, .f32⟩
  | .hbm, ⟨17, _⟩ => ⟨S_, .f32⟩
  | .hbm, ⟨18, _⟩ => ⟨S4096x1024, .f32⟩
  | .hbm, ⟨19, _⟩ => ⟨S4096x1024, .f32⟩
  | .hbm, ⟨20, _⟩ => ⟨S_, .f32⟩
  | .hbm, ⟨21, _⟩ => ⟨S4096x1024, .f32⟩
  | .hbm, ⟨22, _⟩ => ⟨S4096x1024, .f32⟩
  | .hbm, ⟨23, _⟩ => ⟨S4096x1024, .f32⟩
  | .hbm, ⟨24, _⟩ => ⟨S4096x1024, .f32⟩
  | .hbm, ⟨25, _⟩ => ⟨S1x1024, .f32⟩
  | .hbm, ⟨26, _⟩ => ⟨S4096x1024, .f32⟩
  | .hbm, ⟨27, _⟩ => ⟨S4096x1024, .f32⟩
  | .hbm, ⟨28, _⟩ => ⟨S4096x1024, .f32⟩
  | .hbm, ⟨29, _⟩ => ⟨S4096x1024, .f32⟩
  | .hbm, ⟨30, _⟩ => ⟨S_, .f32⟩
  | .hbm, ⟨31, _⟩ => ⟨S4096x1024, .f32⟩
  | .hbm, ⟨32, _⟩ => ⟨S4096x1024, .f32⟩
  | .hbm, ⟨33, _⟩ => ⟨S_, .f32⟩
  | .hbm, ⟨34, _⟩ => ⟨S4096x1024, .f32⟩
  | .hbm, ⟨35, _⟩ => ⟨S4096x1024, .f32⟩
  | .hbm, ⟨36, _⟩ => ⟨S4096x1024, .f32⟩
  | .hbm, ⟨37, _⟩ => ⟨S4096x1024, .f32⟩
  | .hbm, ⟨38, _⟩ => ⟨S4096x1024, .f32⟩
  | .hbm, ⟨39, _⟩ => ⟨S4096x1024, .f32⟩
  | .hbm, ⟨40, _⟩ => ⟨S_, .f32⟩
  | .hbm, ⟨41, _⟩ => ⟨S4096x1024, .f32⟩
  | .hbm, ⟨42, _⟩ => ⟨S4096x1024, .f32⟩
  | .hbm, ⟨43, _⟩ => ⟨S_, .f32⟩
  | .hbm, ⟨44, _⟩ => ⟨S4096x1024, .f32⟩
  | .hbm, ⟨45, _⟩ => ⟨S4096x1024, .f32⟩
  | .hbm, ⟨46, _⟩ => ⟨S4096x1024, .f32⟩
  | .hbm, ⟨47, _⟩ => ⟨S4096x1024, .f32⟩
  | .hbm, ⟨48, _⟩ => ⟨S4096x1024, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_call0_v0 : Ref sig .tc := ⟨.hbm, 38, rfl⟩
abbrev main_call0_v1 : Ref sig .tc := ⟨.hbm, 39, rfl⟩
abbrev main_call0_cst : Ref sig .tc := ⟨.hbm, 40, rfl⟩
abbrev main_call0_v2 : Ref sig .tc := ⟨.hbm, 41, rfl⟩
abbrev main_call0_v3 : Ref sig .tc := ⟨.hbm, 42, rfl⟩
abbrev main_call0_cst_0 : Ref sig .tc := ⟨.hbm, 43, rfl⟩
abbrev main_call0_v4 : Ref sig .tc := ⟨.hbm, 44, rfl⟩
abbrev main_call0_v5 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩

abbrev nD : Nat := 1
abbrev τ : Topo := Topo.v7x

variable {F : FTy → Type} [FloatOps F]
-- ==== Prep.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S64x1024 : Shape := ⟨2, ![64, 1024]⟩

abbrev nBuf : Space → Nat
  | .hbm => 18
  | .vmem => 13
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64x1, .f32⟩
  | .hbm, ⟨6, _⟩ => ⟨S64x64x16, .f32⟩
  | .hbm, ⟨7, _⟩ => ⟨S64x1024, .f32⟩
  | .hbm, ⟨8, _⟩ => ⟨S64x64x16, .f32⟩
  | .hbm, ⟨9, _⟩ => ⟨S64x1024, .f32⟩
  | .hbm, ⟨10, _⟩ => ⟨S64x1024, .f32⟩
  | .hbm, ⟨11, _⟩ => ⟨S64x1024, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S64x64, .f32⟩
  | .hbm, ⟨16, _⟩ => ⟨S64x1024, .f32⟩
  | .hbm, ⟨17, _⟩ => ⟨S64x1024, .f32⟩
  | .local _ .vmem, ⟨0, _⟩ => ⟨S64x64, .f32⟩
  | .local _ .vmem, ⟨1, _⟩ => ⟨S64x64, .f32⟩
  | .local _ .vmem, ⟨2, _⟩ => ⟨S64x1, .f32⟩
  | .local _ .vmem, ⟨3, _⟩ => ⟨S64x1024, .f32⟩
  | .local _ .vmem, ⟨4, _⟩ => ⟨S64x1024, .f32⟩
  | .local _ .vmem, ⟨5, _⟩ => ⟨S64x1024, .f32⟩
  | .local _ .vmem, ⟨6, _⟩ => ⟨S64x1024, .f32⟩
  | .local _ .vmem, ⟨7, _⟩ => ⟨S64x64, .f32⟩
  | .local _ .vmem, ⟨8, _⟩ => ⟨S64x64, .f32⟩
  | .local _ .vmem, ⟨9, _⟩ => ⟨S64x64, .f32⟩
  | .local _ .vmem, ⟨10, _⟩ => ⟨S64x64, .f32⟩
  | .local _ .vmem, ⟨11, _⟩ => ⟨S64x1024, .f32⟩
  | .local _ .vmem, ⟨12, _⟩ => ⟨S64x1024, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7_0 : Ref sig .tc := ⟨.hbm, 12, rfl⟩
abbrev main_v7_1 : Ref sig .tc := ⟨.hbm, 13, rfl⟩
abbrev main_v7_2 : Ref sig .tc := ⟨.hbm, 14, rfl⟩
abbrev main_v7_3 : Ref sig .tc := ⟨.hbm, 15, rfl⟩
abbrev main_v7_4 : Ref sig .tc := ⟨.hbm, 16, rfl⟩
abbrev main_v7_5 : Ref sig .tc := ⟨.hbm, 17, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12

abbrev nD : Nat := 1
abbrev τ : Topo := Topo.v7x

variable {F : FTy → Type} [FloatOps F]

abbrev grid0 : Pipeline.Grid := .none

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S64x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S64x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S64x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S64x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S64x1024 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
-- ==== PrepRefIdeal.lean ====
abbrev S64x64 : Shape := ⟨2, ![64, 64]⟩
abbrev S64 : Shape := ⟨1, ![64]⟩
abbrev S64x64x16 : Shape := ⟨3, ![64, 64, 16]⟩
abbrev S64x1 : Shape := ⟨2, ![64, 1]⟩
abbrev S_ : Shape := ⟨0, ![]⟩
abbrev S64x64x1 : Shape := ⟨3, ![64, 64, 1]⟩
abbrev S64x1024 : Shape := ⟨2, ![64, 1024]⟩

abbrev nBuf : Space → Nat
  | .hbm => 78
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S64x64, .f32⟩
  | .hbm, ⟨2, _⟩ => ⟨S64, .f32⟩
  | .hbm, ⟨3, _⟩ => ⟨S64x64x16, .f32⟩
  | .hbm, ⟨4, _⟩ => ⟨S64x64x16, .f32⟩
  | .hbm, ⟨5, _⟩ => ⟨S64, .f32⟩
  | .hbm, ⟨6, _⟩ => ⟨S64x1, .f32⟩
  | .hbm, ⟨7, _⟩ => ⟨S64x64, .f32⟩
  | .hbm, ⟨8, _⟩ => ⟨S64x64, .f32⟩
  | .hbm, ⟨9, _⟩ => ⟨S_, .f32⟩
  | .hbm, ⟨10, _⟩ => ⟨S64x64, .f32⟩
  | .hbm, ⟨11, _⟩ => ⟨S64x64, .f32⟩
  | .hbm, ⟨12, _⟩ => ⟨S64x64, .f32⟩
  | .hbm, ⟨13, _⟩ => ⟨S64x64, .f32⟩
  | .hbm, ⟨14, _⟩ => ⟨S64x64, .f32⟩
  | .hbm, ⟨15, _⟩ => ⟨S_, .f32⟩
  | .hbm, ⟨16, _⟩ => ⟨S64x64, .f32⟩
  | .hbm, ⟨17, _⟩ => ⟨S64x64, .f32⟩
  | .hbm, ⟨18, _⟩ => ⟨S64x64, .f32⟩
  | .hbm, ⟨19, _⟩ => ⟨S64x64, .f32⟩
  | .hbm, ⟨20, _⟩ => ⟨S64x64, .f32⟩
  | .hbm, ⟨21, _⟩ => ⟨S64x64, .f32⟩
  | .hbm, ⟨22, _⟩ => ⟨S_, .f32⟩
  | .hbm, ⟨23, _⟩ => ⟨S64x64, .f32⟩
  | .hbm, ⟨24, _⟩ => ⟨S64x64, .f32⟩
  | .hbm, ⟨25, _⟩ => ⟨S64x64, .f32⟩
  | .hbm, ⟨26, _⟩ => ⟨S64x64, .f32⟩
  | .hbm, ⟨27, _⟩ => ⟨S64x64, .f32⟩
  | .hbm, ⟨28, _⟩ => ⟨S64x64, .f32⟩
  | .hbm, ⟨29, _⟩ => ⟨S64x64, .f32⟩
  | .hbm, ⟨30, _⟩ => ⟨S_, .f32⟩
  | .hbm, ⟨31, _⟩ => ⟨S64x64, .f32⟩
  | .hbm, ⟨32, _⟩ => ⟨S64x64, .f32⟩
  | .hbm, ⟨33, _⟩ => ⟨S64x64, .f32⟩
  | .hbm, ⟨34, _⟩ => ⟨S64x64, .f32⟩
  | .hbm, ⟨35, _⟩ => ⟨S64x64, .f32⟩
  | .hbm, ⟨36, _⟩ => ⟨S64x64, .f32⟩
  | .hbm, ⟨37, _⟩ => ⟨S64x64x1, .f32⟩
  | .hbm, ⟨38, _⟩ => ⟨S64x64, .f32⟩
  | .hbm, ⟨39, _⟩ => ⟨S_, .f32⟩
  | .hbm, ⟨40, _⟩ => ⟨S64x64, .f32⟩
  | .hbm, ⟨41, _⟩ => ⟨S64x64, .f32⟩
  | .hbm, ⟨42, _⟩ => ⟨S64x64, .f32⟩
  | .hbm, ⟨43, _⟩ => ⟨S64x64, .f32⟩
  | .hbm, ⟨44, _⟩ => ⟨S64x64, .f32⟩
  | .hbm, ⟨45, _⟩ => ⟨S64x64x1, .f32⟩
  | .hbm, ⟨46, _⟩ => ⟨S64x64x16, .f32⟩
  | .hbm, ⟨47, _⟩ => ⟨S64x64x16, .f32⟩
  | .hbm, ⟨48, _⟩ => ⟨S64x64x16, .f32⟩
  | .hbm, ⟨49, _⟩ => ⟨S64x64x16, .f32⟩
  | .hbm, ⟨50, _⟩ => ⟨S64x64x16, .f32⟩
  | .hbm, ⟨51, _⟩ => ⟨S64x64x16, .f32⟩
  | .hbm, ⟨52, _⟩ => ⟨S64x64x16, .f32⟩
  | .hbm, ⟨53, _⟩ => ⟨S64x64x16, .f32⟩
  | .hbm, ⟨54, _⟩ => ⟨S64x64x16, .f32⟩
  | .hbm, ⟨55, _⟩ => ⟨S64x64x16, .f32⟩
  | .hbm, ⟨56, _⟩ => ⟨S64x64, .f32⟩
  | .hbm, ⟨57, _⟩ => ⟨S64x64, .f32⟩
  | .hbm, ⟨58, _⟩ => ⟨S_, .f32⟩
  | .hbm, ⟨59, _⟩ => ⟨S64x64, .f32⟩
  | .hbm, ⟨60, _⟩ => ⟨S64x64, .f32⟩
  | .hbm, ⟨61, _⟩ => ⟨S64x64, .f32⟩
  | .hbm, ⟨62, _⟩ => ⟨S64x64, .f32⟩
  | .hbm, ⟨63, _⟩ => ⟨S64x64, .f32⟩
  | .hbm, ⟨64, _⟩ => ⟨S_, .f32⟩
  | .hbm, ⟨65, _⟩ => ⟨S64x64, .f32⟩
  | .hbm, ⟨66, _⟩ => ⟨S64x64, .f32⟩
  | .hbm, ⟨67, _⟩ => ⟨S64x64, .f32⟩
  | .hbm, ⟨68, _⟩ => ⟨S64x64, .f32⟩
  | .hbm, ⟨69, _⟩ => ⟨S64x64, .f32⟩
  | .hbm, ⟨70, _⟩ => ⟨S64x64, .f32⟩
  | .hbm, ⟨71, _⟩ => ⟨S_, .f32⟩
  | .hbm, ⟨72, _⟩ => ⟨S64x64, .f32⟩
  | .hbm, ⟨73, _⟩ => ⟨S64x64, .f32⟩
  | .hbm, ⟨74, _⟩ => ⟨S64x64, .f32⟩
  | .hbm, ⟨75, _⟩ => ⟨S64x64, .f32⟩
  | .hbm, ⟨76, _⟩ => ⟨S64x1024, .f32⟩
  | .hbm, ⟨77, _⟩ => ⟨S64x1024, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_cst_2 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_cst_3 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_cst_4 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_cst_6 : Ref sig .tc := ⟨.hbm, 71, rfl⟩
abbrev main_v59 : Ref sig .tc := ⟨.hbm, 72, rfl⟩
abbrev main_v60 : Ref sig .tc := ⟨.hbm, 73, rfl⟩
abbrev main_v61 : Ref sig .tc := ⟨.hbm, 74, rfl⟩
abbrev main_v62 : Ref sig .tc := ⟨.hbm, 75, rfl⟩
abbrev main_v63 : Ref sig .tc := ⟨.hbm, 76, rfl⟩
abbrev main_v64 : Ref sig .tc := ⟨.hbm, 77, rfl⟩

abbrev nD : Nat := 1
abbrev τ : Topo := Topo.v7x

variable {F : FTy → Type} [FloatOps F]
-- ==== Rope.lean ====
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4x32 : Shape := ⟨2, ![4, 32]⟩
abbrev S128 : Shape := ⟨1, ![128]⟩
abbrev S1x128 : Shape := ⟨2, ![1, 128]⟩
abbrev S4096x256 : Shape := ⟨2, ![4096, 256]⟩
abbrev S512x1 : Shape := ⟨2, ![512, 1]⟩
abbrev S512x256 : Shape := ⟨2, ![512, 256]⟩
abbrev S512x128 : Shape := ⟨2, ![512, 128]⟩

abbrev nBuf : Space → Nat
  | .hbm => 22
  | .vmem => 5
  | .smem => 0
  | _ => 0

abbrev bufTy : (tb : Table) → Fin (tcTables nBuf tb) → BufTy
  | .hbm, ⟨0, _⟩ => ⟨S4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4096, .f32⟩
  | .hbm, ⟨16, _⟩ => ⟨S4096x1, .f32⟩
  | .hbm, ⟨17, _⟩ => ⟨S1x32, .f32⟩
  | .hbm, ⟨18, _⟩ => ⟨S4x32, .f32⟩
  | .hbm, ⟨19, _⟩ => ⟨S128, .f32⟩
  | .hbm, ⟨20, _⟩ => ⟨S1x128, .f32⟩
  | .hbm, ⟨21, _⟩ => ⟨S4096x256, .f32⟩
  | .local _ .vmem, ⟨0, _⟩ => ⟨S512x1, .f32⟩
  | .local _ .vmem, ⟨1, _⟩ => ⟨S512x1, .f32⟩
  | .local _ .vmem, ⟨2, _⟩ => ⟨S1x128, .f32⟩
  | .local _ .vmem, ⟨3, _⟩ => ⟨S512x256, .f32⟩
  | .local _ .vmem, ⟨4, _⟩ => ⟨S512x256, .f32⟩
  | _, _ => ⟨S4096, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== RopeRefIdeal.lean ====
abbrev S4096 : Shape := ⟨1, ![4096]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x256 : Shape := ⟨2, ![4096, 256]⟩

abbrev nBuf : Space → Nat
  | .hbm => 30
  | .vmem => 0
  | .smem => 0
  | _ => 0

abbrev bufTy : (tb : Table) → Fin (tcTables nBuf tb) → BufTy
  | .hbm, ⟨0, _⟩ => ⟨S4096, .i32⟩
  | .hbm, ⟨1, _⟩ => ⟨S32, .f32⟩
  | .hbm, ⟨2, _⟩ => ⟨S_, .f32⟩
  | .hbm, ⟨3, _⟩ => ⟨S32, .f32⟩
  | .hbm, ⟨4, _⟩ => ⟨S32, .f32⟩
  | .hbm, ⟨5, _⟩ => ⟨S_, .f32⟩
  | .hbm, ⟨6, _⟩ => ⟨S32, .f32⟩
  | .hbm, ⟨7, _⟩ => ⟨S32, .f32⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S4096, .f32⟩
  | .hbm, ⟨16, _⟩ => ⟨S4096x1, .f32⟩
  | .hbm, ⟨17, _⟩ => ⟨S1x32, .f32⟩
  | .hbm, ⟨18, _⟩ => ⟨S4096x32, .f32⟩
  | .hbm, ⟨19, _⟩ => ⟨S4096x32, .f32⟩
  | .hbm, ⟨20, _⟩ => ⟨S4096x32, .f32⟩
  | .hbm, ⟨21, _⟩ => ⟨S4096x32, .f32⟩
  | .hbm, ⟨22, _⟩ => ⟨S4096x32, .f32⟩
  | .hbm, ⟨23, _⟩ => ⟨S1x4096x1x32, .f32⟩
  | .hbm, ⟨24, _⟩ => ⟨S1x4096x4x32, .f32⟩
  | .hbm, ⟨25, _⟩ => ⟨S4096x128, .f32⟩
  | .hbm, ⟨26, _⟩ => ⟨S1x4096x1x32, .f32⟩
  | .hbm, ⟨27, _⟩ => ⟨S1x4096x4x32, .f32⟩
  | .hbm, ⟨28, _⟩ => ⟨S4096x128, .f32⟩
  | .hbm, ⟨29, _⟩ => ⟨S4096x256, .f32⟩
  | _, _ => ⟨S4096, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_cst : Ref sig .tc := ⟨.hbm, 2, rfl⟩
abbrev main_v1 : Ref sig .tc := ⟨.hbm, 3, rfl⟩
abbrev main_v2 : Ref sig .tc := ⟨.hbm, 4, rfl⟩
abbrev main_cst_0 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_1 : Ref sig .tc := ⟨.hbm, 9, rfl⟩
abbrev main_v6 : Ref sig .tc := ⟨.hbm, 10, rfl⟩
abbrev main_v7 : Ref sig .tc := ⟨.hbm, 11, rfl⟩
abbrev main_cst_2 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩

abbrev nD : Nat := 1
abbrev τ : Topo := Topo.v7x

variable {F : FTy → Type} [FloatOps F]
-- ==== GradIn.lean ====
abbrev S4096x2048 : Shape := ⟨2, ![4096, 2048]⟩
abbrev S4096x4608 : Shape := ⟨2, ![4096, 4608]⟩
abbrev S4x2048x1152 : Shape := ⟨3, ![4, 2048, 1152]⟩
abbrev S4096x512 : Shape := ⟨2, ![4096, 512]⟩
abbrev S4096x1152 : Shape := ⟨2, ![4096, 1152]⟩
abbrev S1x512x1152 : Shape := ⟨3, ![1, 512, 1152]⟩
abbrev S512x1152 : Shape := ⟨2, ![512, 1152]⟩

abbrev nBuf : Space → Nat
  | .hbm => 4
  | .vmem => 8
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S4x2048x1152, .f32⟩
  | .hbm, ⟨3, _⟩ => ⟨S4x2048x1152, .bf16⟩
  | .local _ .vmem, ⟨0, _⟩ => ⟨S4096x512, .bf16⟩
  | .local _ .vmem, ⟨1, _⟩ => ⟨S4096x512, .bf16⟩
  | .local _ .vmem, ⟨2, _⟩ => ⟨S4096x1152, .bf16⟩
  | .local _ .vmem, ⟨3, _⟩ => ⟨S4096x1152, .bf16⟩
  | .local _ .vmem, ⟨4, _⟩ => ⟨S1x512x1152, .f32⟩
  | .local _ .vmem, ⟨5, _⟩ => ⟨S1x512x1152, .f32⟩
  | .local _ .vmem, ⟨6, _⟩ => ⟨S1x512x1152, .bf16⟩
  | .local _ .vmem, ⟨7, _⟩ => ⟨S1x512x1152, .bf16⟩
  | _, _ => ⟨S4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0_0 : Ref sig .tc := ⟨.hbm, 2, rfl⟩
abbrev main_v0_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S4096x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S4096x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x512x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== GradInRefIdeal.lean ====
abbrev S4096x2048 : Shape := ⟨2, ![4096, 2048]⟩
abbrev S4096x4608 : Shape := ⟨2, ![4096, 4608]⟩
abbrev S_ : Shape := ⟨0, ![]⟩
abbrev S2048x4608 : Shape := ⟨2, ![2048, 4608]⟩
abbrev S4608x2048 : Shape := ⟨2, ![4608, 2048]⟩
abbrev S2048x4x1152 : Shape := ⟨3, ![2048, 4, 1152]⟩
abbrev S4x2048x1152 : Shape := ⟨3, ![4, 2048, 1152]⟩

abbrev nBuf : Space → Nat
  | .hbm => 12
  | .vmem => 0
  | .smem => 0
  | _ => 0

abbrev bufTy : (tb : Table) → Fin (tcTables nBuf tb) → BufTy
  | .hbm, ⟨0, _⟩ => ⟨S4096x2048, .bf16⟩
  | .hbm, ⟨1, _⟩ => ⟨S4096x4608, .bf16⟩
  | .hbm, ⟨2, _⟩ => ⟨S_, .f32⟩
  | .hbm, ⟨3, _⟩ => ⟨S2048x4608, .f32⟩
  | .hbm, ⟨4, _⟩ => ⟨S4096x2048, .f32⟩
  | .hbm, ⟨5, _⟩ => ⟨S4096x4608, .f32⟩
  | .hbm, ⟨6, _⟩ => ⟨S4096x4608, .f32⟩
  | .hbm, ⟨7, _⟩ => ⟨S4608x2048, .f32⟩
  | .hbm, ⟨8, _⟩ => ⟨S2048x4608, .f32⟩
  | .hbm, ⟨9, _⟩ => ⟨S2048x4x1152, .f32⟩
  | .hbm, ⟨10, _⟩ => ⟨S4x2048x1152, .f32⟩
  | .hbm, ⟨11, _⟩ => ⟨S4x2048x1152, .bf16⟩
  | _, _ => ⟨S4096x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== AdamSmall.lean ====
abbrev S120x128 : Shape := ⟨2, ![120, 128]⟩

abbrev nBuf : Space → Nat
  | .hbm => 7
  | .vmem => 7
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S120x128, .f32⟩
  | .hbm, ⟨5, _⟩ => ⟨S120x128, .f32⟩
  | .hbm, ⟨6, _⟩ => ⟨S120x128, .f32⟩
  | .local _ .vmem, ⟨0, _⟩ => ⟨S120x128, .f32⟩
  | .local _ .vmem, ⟨1, _⟩ => ⟨S120x128, .f32⟩
  | .local _ .vmem, ⟨2, _⟩ => ⟨S120x128, .f32⟩
  | .local _ .vmem, ⟨3, _⟩ => ⟨S120x128, .f32⟩
  | .local _ .vmem, ⟨4, _⟩ => ⟨S120x128, .f32⟩
  | .local _ .vmem, ⟨5, _⟩ => ⟨S120x128, .f32⟩
  | .local _ .vmem, ⟨6, _⟩ => ⟨S120x128, .f32⟩
  | _, _ => ⟨S120x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S120x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S120x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S120x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S120x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S120x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S120x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S120x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== AdamSmallRefIdeal.lean ====
abbrev S120x128 : Shape := ⟨2, ![120, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S120x128, .f32⟩
  | .hbm, ⟨1, _⟩ => ⟨S120x128, .f32⟩
  | .hbm, ⟨2, _⟩ => ⟨S120x128, .f32⟩
  | .hbm, ⟨3, _⟩ => ⟨S120x128, .f32⟩
  | .hbm, ⟨4, _⟩ => ⟨S_, .f32⟩
  | .hbm, ⟨5, _⟩ => ⟨S120x128, .f32⟩
  | .hbm, ⟨6, _⟩ => ⟨S120x128, .f32⟩
  | .hbm, ⟨7, _⟩ => ⟨S_, .f32⟩
  | .hbm, ⟨8, _⟩ => ⟨S120x128, .f32⟩
  | .hbm, ⟨9, _⟩ => ⟨S120x128, .f32⟩
  | .hbm, ⟨10, _⟩ => ⟨S120x128, .f32⟩
  | .hbm, ⟨11, _⟩ => ⟨S_, .f32⟩
  | .hbm, ⟨12, _⟩ => ⟨S120x128, .f32⟩
  | .hbm, ⟨13, _⟩ => ⟨S120x128, .f32⟩
  | .hbm, ⟨14, _⟩ => ⟨S120x128, .f32⟩
  | .hbm, ⟨15, _⟩ => ⟨S_, .f32⟩
  | .hbm, ⟨16, _⟩ => ⟨S120x128, .f32⟩
  | .hbm, ⟨17, _⟩ => ⟨S120x128, .f32⟩
  | .hbm, ⟨18, _⟩ => ⟨S120x128, .f32⟩
  | .hbm, ⟨19, _⟩ => ⟨S_, .f32⟩
  | .hbm, ⟨20, _⟩ => ⟨S120x128, .f32⟩
  | .hbm, ⟨21, _⟩ => ⟨S120x128, .f32⟩
  | .hbm, ⟨22, _⟩ => ⟨S_, .f32⟩
  | .hbm, ⟨23, _⟩ => ⟨S120x128, .f32⟩
  | .hbm, ⟨24, _⟩ => ⟨S120x128, .f32⟩
  | .hbm, ⟨25, _⟩ => ⟨S120x128, .f32⟩
  | .hbm, ⟨26, _⟩ => ⟨S_, .f32⟩
  | .hbm, ⟨27, _⟩ => ⟨S120x128, .f32⟩
  | .hbm, ⟨28, _⟩ => ⟨S120x128, .f32⟩
  | .hbm, ⟨29, _⟩ => ⟨S120x128, .f32⟩
  | .hbm, ⟨30, _⟩ => ⟨S_, .f32⟩
  | .hbm, ⟨31, _⟩ => ⟨S120x128, .f32⟩
  | .hbm, ⟨32, _⟩ => ⟨S120x128, .f32⟩
  | .hbm, ⟨33, _⟩ => ⟨S120x128, .f32⟩
  | .hbm, ⟨34, _⟩ => ⟨S_, .f32⟩
  | .hbm, ⟨35, _⟩ => ⟨S120x128, .f32⟩
  | .hbm, ⟨36, _⟩ => ⟨S120x128, .f32⟩
  | _, _ => ⟨S120x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamB.lean ====
abbrev S64x64x16 : Shape := ⟨3, ![64, 64, 16]⟩
abbrev S8x64x16 : Shape := ⟨3, ![8, 64, 16]⟩

abbrev nBuf : Space → Nat
  | .hbm => 7
  | .vmem => 14
  | .smem => 0
  | _ => 0

abbrev bufTy : (tb : Table) → Fin (tcTables nBuf tb) → BufTy
  | .hbm, ⟨0, _⟩ => ⟨S64x64x16, .f32⟩
  | .hbm, ⟨1, _⟩ => ⟨S64x64x16, .f32⟩
  | .hbm, ⟨2, _⟩ => ⟨S64x64x16, .f32⟩
  | .hbm, ⟨3, _⟩ => ⟨S64x64x16, .f32⟩
  | .hbm, ⟨4, _⟩ => ⟨S64x64x16, .f32⟩
  | .hbm, ⟨5, _⟩ => ⟨S64x64x16, .f32⟩
  | .hbm, ⟨6, _⟩ => ⟨S64x64x16, .f32⟩
  | .local _ .vmem, ⟨0, _⟩ => ⟨S8x64x16, .f32⟩
  | .local _ .vmem, ⟨1, _⟩ => ⟨S8x64x16, .f32⟩
  | .local _ .vmem, ⟨2, _⟩ => ⟨S8x64x16, .f32⟩
  | .local _ .vmem, ⟨3, _⟩ => ⟨S8x64x16, .f32⟩
  | .local _ .vmem, ⟨4, _⟩ => ⟨S8x64x16, .f32⟩
  | .local _ .vmem, ⟨5, _⟩ => ⟨S8x64x16, .f32⟩
  | .local _ .vmem, ⟨6, _⟩ => ⟨S8x64x16, .f32⟩
  | .local _ .vmem, ⟨7, _⟩ => ⟨S8x64x16, .f32⟩
  | .local _ .vmem, ⟨8, _⟩ => ⟨S8x64x16, .f32⟩
  | .local _ .vmem, ⟨9, _⟩ => ⟨S8x64x16, .f32⟩
  | .local _ .vmem, ⟨10, _⟩ => ⟨S8x64x16, .f32⟩
  | .local _ .vmem, ⟨11, _⟩ => ⟨S8x64x16, .f32⟩
  | .local _ .vmem, ⟨12, _⟩ => ⟨S8x64x16, .f32⟩
  | .local _ .vmem, ⟨13, _⟩ => ⟨S8x64x16, .f32⟩
  | _, _ => ⟨S64x64x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S8x64x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x64x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x64x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x64x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x64x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x64x16 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x64x16 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamBRefIdeal.lean ====
abbrev S64x64x16 : Shape := ⟨3, ![64, 64, 16]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S64x64x16, .f32⟩
  | .hbm, ⟨1, _⟩ => ⟨S64x64x16, .f32⟩
  | .hbm, ⟨2, _⟩ => ⟨S64x64x16, .f32⟩
  | .hbm, ⟨3, _⟩ => ⟨S64x64x16, .f32⟩
  | .hbm, ⟨4, _⟩ => ⟨S_, .f32⟩
  | .hbm, ⟨5, _⟩ => ⟨S64x64x16, .f32⟩
  | .hbm, ⟨6, _⟩ => ⟨S64x64x16, .f32⟩
  | .hbm, ⟨7, _⟩ => ⟨S_, .f32⟩
  | .hbm, ⟨8, _⟩ => ⟨S64x64x16, .f32⟩
  | .hbm, ⟨9, _⟩ => ⟨S64x64x16, .f32⟩
  | .hbm, ⟨10, _⟩ => ⟨S64x64x16, .f32⟩
  | .hbm, ⟨11, _⟩ => ⟨S_, .f32⟩
  | .hbm, ⟨12, _⟩ => ⟨S64x64x16, .f32⟩
  | .hbm, ⟨13, _⟩ => ⟨S64x64x16, .f32⟩
  | .hbm, ⟨14, _⟩ => ⟨S64x64x16, .f32⟩
  | .hbm, ⟨15, _⟩ => ⟨S_, .f32⟩
  | .hbm, ⟨16, _⟩ => ⟨S64x64x16, .f32⟩
  | .hbm, ⟨17, _⟩ => ⟨S64x64x16, .f32⟩
  | .hbm, ⟨18, _⟩ => ⟨S64x64x16, .f32⟩
  | .hbm, ⟨19, _⟩ => ⟨S_, .f32⟩
  | .hbm, ⟨20, _⟩ => ⟨S64x64x16, .f32⟩
  | .hbm, ⟨21, _⟩ => ⟨S64x64x16, .f32⟩
  | .hbm, ⟨22, _⟩ => ⟨S_, .f32⟩
  | .hbm, ⟨23, _⟩ => ⟨S64x64x16, .f32⟩
  | .hbm, ⟨24, _⟩ => ⟨S64x64x16, .f32⟩
  | .hbm, ⟨25, _⟩ => ⟨S64x64x16, .f32⟩
  | .hbm, ⟨26, _⟩ => ⟨S_, .f32⟩
  | .hbm, ⟨27, _⟩ => ⟨S64x64x16, .f32⟩
  | .hbm, ⟨28, _⟩ => ⟨S64x64x16, .f32⟩
  | .hbm, ⟨29, _⟩ => ⟨S64x64x16, .f32⟩
  | .hbm, ⟨30, _⟩ => ⟨S_, .f32⟩
  | .hbm, ⟨31, _⟩ => ⟨S64x64x16, .f32⟩
  | .hbm, ⟨32, _⟩ => ⟨S64x64x16, .f32⟩
  | .hbm, ⟨33, _⟩ => ⟨S64x64x16, .f32⟩
  | .hbm, ⟨34, _⟩ => ⟨S_, .f32⟩
  | .hbm, ⟨35, _⟩ => ⟨S64x64x16, .f32⟩
  | .hbm, ⟨36, _⟩ => ⟨S64x64x16, .f32⟩
  | _, _ => ⟨S64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamIn.lean ====
abbrev S1 : Shape := ⟨1, ![1]⟩
abbrev S2048x1152 : Shape := ⟨2, ![2048, 1152]⟩
abbrev S1024x1152 : Shape := ⟨2, ![1024, 1152]⟩
abbrev S256x1152 : Shape := ⟨2, ![256, 1152]⟩

abbrev nBuf : Space → Nat
  | .hbm => 9
  | .vmem => 18
  | .smem => 1
  | _ => 0

abbrev bufTy : (tb : Table) → Fin (tcTables nBuf tb) → BufTy
  | .hbm, ⟨0, _⟩ => ⟨S2048x1152, .f32⟩
  | .hbm, ⟨1, _⟩ => ⟨S1024x1152, .f32⟩
  | .hbm, ⟨2, _⟩ => ⟨S1024x1152, .f32⟩
  | .hbm, ⟨3, _⟩ => ⟨S2048x1152, .f32⟩
  | .hbm, ⟨4, _⟩ => ⟨S2048x1152, .f32⟩
  | .hbm, ⟨5, _⟩ => ⟨S2048x1152, .f32⟩
  | .hbm, ⟨6, _⟩ => ⟨S2048x1152, .f32⟩
  | .hbm, ⟨7, _⟩ => ⟨S2048x1152, .f32⟩
  | .hbm, ⟨8, _⟩ => ⟨S2048x1152, .f32⟩
  | .local _ .vmem, ⟨0, _⟩ => ⟨S256x1152, .f32⟩
  | .local _ .vmem, ⟨1, _⟩ => ⟨S256x1152, .f32⟩
  | .local _ .vmem, ⟨2, _⟩ => ⟨S256x1152, .f32⟩
  | .local _ .vmem, ⟨3, _⟩ => ⟨S256x1152, .f32⟩
  | .local _ .vmem, ⟨4, _⟩ => ⟨S256x1152, .f32⟩
  | .local _ .vmem, ⟨5, _⟩ => ⟨S256x1152, .f32⟩
  | .local _ .vmem, ⟨6, _⟩ => ⟨S256x1152, .f32⟩
  | .local _ .vmem, ⟨7, _⟩ => ⟨S256x1152, .f32⟩
  | .local _ .vmem, ⟨8, _⟩ => ⟨S256x1152, .f32⟩
  | .local _ .vmem, ⟨9, _⟩ => ⟨S256x1152, .f32⟩
  | .local _ .vmem, ⟨10, _⟩ => ⟨S256x1152, .f32⟩
  | .local _ .vmem, ⟨11, _⟩ => ⟨S256x1152, .f32⟩
  | .local _ .vmem, ⟨12, _⟩ => ⟨S256x1152, .f32⟩
  | .local _ .vmem, ⟨13, _⟩ => ⟨S256x1152, .f32⟩
  | .local _ .vmem, ⟨14, _⟩ => ⟨S256x1152, .f32⟩
  | .local _ .vmem, ⟨15, _⟩ => ⟨S256x1152, .f32⟩
  | .local _ .vmem, ⟨16, _⟩ => ⟨S256x1152, .f32⟩
  | .local _ .vmem, ⟨17, _⟩ => ⟨S256x1152, .f32⟩
  | .local _ .smem, ⟨0, _⟩ => ⟨S1, .i32⟩
  | _, _ => ⟨S2048x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![2, 4], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_4 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_5 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_6 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

def cc0_transform_8 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S256x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1152 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S256x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x1152 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1152 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1152 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S256x1152 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S256x1152 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== AdamInRefIdeal.lean ====
abbrev S1 : Shape := ⟨1, ![1]⟩
abbrev S2048x1152 : Shape := ⟨2, ![2048, 1152]⟩
abbrev S1024x1152 : Shape := ⟨2, ![1024, 1152]⟩
abbrev S_ : Shape := ⟨0, ![]⟩

abbrev nBuf : Space → Nat
  | .hbm => 48
  | .vmem => 0
  | .smem => 0
  | _ => 0

abbrev bufTy : (tb : Table) → Fin (tcTables nBuf tb) → BufTy
  | .hbm, ⟨0, _⟩ => ⟨S1, .i32⟩
  | .hbm, ⟨1, _⟩ => ⟨S2048x1152, .f32⟩
  | .hbm, ⟨2, _⟩ => ⟨S1024x1152, .f32⟩
  | .hbm, ⟨3, _⟩ => ⟨S1024x1152, .f32⟩
  | .hbm, ⟨4, _⟩ => ⟨S2048x1152, .f32⟩
  | .hbm, ⟨5, _⟩ => ⟨S2048x1152, .f32⟩
  | .hbm, ⟨6, _⟩ => ⟨S_, .i32⟩
  | .hbm, ⟨7, _⟩ => ⟨S_, .i32⟩
  | .hbm, ⟨8, _⟩ => ⟨S_, .i1⟩
  | .hbm, ⟨9, _⟩ => ⟨S1024x1152, .f32⟩
  | .hbm, ⟨10, _⟩ => ⟨S_, .i32⟩
  | .hbm, ⟨11, _⟩ => ⟨S_, .i32⟩
  | .hbm, ⟨12, _⟩ => ⟨S_, .i1⟩
  | .hbm, ⟨13, _⟩ => ⟨S1024x1152, .f32⟩
  | .hbm, ⟨14, _⟩ => ⟨S2048x1152, .f32⟩
  | .hbm, ⟨15, _⟩ => ⟨S_, .f32⟩
  | .hbm, ⟨16, _⟩ => ⟨S2048x1152, .f32⟩
  | .hbm, ⟨17, _⟩ => ⟨S2048x1152, .f32⟩
  | .hbm, ⟨18, _⟩ => ⟨S_, .f32⟩
  | .hbm, ⟨19, _⟩ => ⟨S2048x1152, .f32⟩
  | .hbm, ⟨20, _⟩ => ⟨S2048x1152, .f32⟩
  | .hbm, ⟨21, _⟩ => ⟨S2048x1152, .f32⟩
  | .hbm, ⟨22, _⟩ => ⟨S_, .f32⟩
  | .hbm, ⟨23, _⟩ => ⟨S2048x1152, .f32⟩
  | .hbm, ⟨24, _⟩ => ⟨S2048x1152, .f32⟩
  | .hbm, ⟨25, _⟩ => ⟨S2048x1152, .f32⟩
  | .hbm, ⟨26, _⟩ => ⟨S_, .f32⟩
  | .hbm, ⟨27, _⟩ => ⟨S2048x1152, .f32⟩
  | .hbm, ⟨28, _⟩ => ⟨S2048x1152, .f32⟩
  | .hbm, ⟨29, _⟩ => ⟨S2048x1152, .f32⟩
  | .hbm, ⟨30, _⟩ => ⟨S_, .f32⟩
  | .hbm, ⟨31, _⟩ => ⟨S2048x1152, .f32⟩
  | .hbm, ⟨32, _⟩ => ⟨S2048x1152, .f32⟩
  | .hbm, ⟨33, _⟩ => ⟨S_, .f32⟩
  | .hbm, ⟨34, _⟩ => ⟨S2048x1152, .f32⟩
  | .hbm, ⟨35, _⟩ => ⟨S2048x1152, .f32⟩
  | .hbm, ⟨36, _⟩ => ⟨S2048x1152, .f32⟩
  | .hbm, ⟨37, _⟩ => ⟨S_, .f32⟩
  | .hbm, ⟨38, _⟩ => ⟨S2048x1152, .f32⟩
  | .hbm, ⟨39, _⟩ => ⟨S2048x1152, .f32⟩
  | .hbm, ⟨40, _⟩ => ⟨S2048x1152, .f32⟩
  | .hbm, ⟨41, _⟩ => ⟨S_, .f32⟩
  | .hbm, ⟨42, _⟩ => ⟨S2048x1152, .f32⟩
  | .hbm, ⟨43, _⟩ => ⟨S2048x1152, .f32⟩
  | .hbm, ⟨44, _⟩ => ⟨S2048x1152, .f32⟩
  | .hbm, ⟨45, _⟩ => ⟨S_, .f32⟩
  | .hbm, ⟨46, _⟩ => ⟨S2048x1152, .f32⟩
  | .hbm, ⟨47, _⟩ => ⟨S2048x1152, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_1 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_3 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_4 : Ref sig .tc := ⟨.hbm, 30, rfl⟩
abbrev main_v18 : Ref sig .tc := ⟨.hbm, 31, rfl⟩
abbrev main_v19 : Ref sig .tc := ⟨.hbm, 32, rfl⟩
abbrev main_cst_5 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_6 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_7 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_cst_8 : Ref sig .tc := ⟨.hbm, 45, rfl⟩
abbrev main_v29 : Ref sig .tc := ⟨.hbm, 46, rfl⟩
abbrev main_v30 : Ref sig .tc := ⟨.hbm, 47, rfl⟩

abbrev nD : Nat := 1
abbrev τ : Topo := Topo.v7x

variable {F : FTy → Type} [FloatOps F]
-- ==== PairSum.lean ====
abbrev S1 : Shape := ⟨1, ![1]⟩
abbrev S4x2x1024x1152 : Shape := ⟨4, ![4, 2, 1024, 1152]⟩
abbrev S4x1024x1152 : Shape := ⟨3, ![4, 1024, 1152]⟩
abbrev S1x1x512x1152 : Shape := ⟨4, ![1, 1, 512, 1152]⟩
abbrev S1x512x1152 : Shape := ⟨3, ![1, 512, 1152]⟩
abbrev S512x1152 : Shape := ⟨2, ![512, 1152]⟩

abbrev nBuf : Space → Nat
  | .hbm => 3
  | .vmem => 6
  | .smem => 1
  | _ => 0

abbrev bufTy : (tb : Table) → Fin (tcTables nBuf tb) → BufTy
  | .hbm, ⟨0, _⟩ => ⟨S4x2x1024x1152, .f32⟩
  | .hbm, ⟨1, _⟩ => ⟨S4x1024x1152, .bf16⟩
  | .hbm, ⟨2, _⟩ => ⟨S4x1024x1152, .bf16⟩
  | .local _ .vmem, ⟨0, _⟩ => ⟨S1x1x512x1152, .f32⟩
  | .local _ .vmem, ⟨1, _⟩ => ⟨S1x1x512x1152, .f32⟩
  | .local _ .vmem, ⟨2, _⟩ => ⟨S1x512x1152, .bf16⟩
  | .local _ .vmem, ⟨3, _⟩ => ⟨S1x512x1152, .bf16⟩
  | .local _ .vmem, ⟨4, _⟩ => ⟨S1x512x1152, .bf16⟩
  | .local _ .vmem, ⟨5, _⟩ => ⟨S1x512x1152, .bf16⟩
  | .local _ .smem, ⟨0, _⟩ => ⟨S1, .i32⟩
  | _, _ => ⟨S4x2x1024x1152, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 2], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![arg0.toNat, v0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x512x1152 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== PairSumRefIdeal.lean ====
abbrev S1 : Shape := ⟨1, ![1]⟩
abbrev S4x2x1024x1152 : Shape := ⟨4, ![4, 2, 1024, 1152]⟩
abbrev S4x1024x1152 : Shape := ⟨3, ![4, 1024, 1152]⟩
abbrev S_ : Shape := ⟨0, ![]⟩
abbrev S4x1x1024x1152 : Shape := ⟨4, ![4, 1, 1024, 1152]⟩

abbrev nBuf : Space → Nat
  | .hbm => 14
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x2x1024x1152, .f32⟩
  | .hbm, ⟨2, _⟩ => ⟨S4x1024x1152, .bf16⟩
  | .hbm, ⟨3, _⟩ => ⟨S_, .i32⟩
  | .hbm, ⟨4, _⟩ => ⟨S_, .i32⟩
  | .hbm, ⟨5, _⟩ => ⟨S_, .i1⟩
  | .hbm, ⟨6, _⟩ => ⟨S4x1x1024x1152, .f32⟩
  | .hbm, ⟨7, _⟩ => ⟨S4x1024x1152, .f32⟩
  | .hbm, ⟨8, _⟩ => ⟨S4x1x1024x1152, .f32⟩
  | .hbm, ⟨9, _⟩ => ⟨S4x1024x1152, .f32⟩
  | .hbm, ⟨10, _⟩ => ⟨S4x1024x1152, .f32⟩
  | .hbm, ⟨11, _⟩ => ⟨S4x1024x1152, .f32⟩
  | .hbm, ⟨12, _⟩ => ⟨S4x1024x1152, .f32⟩
  | .hbm, ⟨13, _⟩ => ⟨S4x1024x1152, .bf16⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== PeerSum.lean ====
abbrev S1 : Shape := ⟨1, ![1]⟩
abbrev S4x1024x1152 : Shape := ⟨3, ![4, 1024, 1152]⟩
abbrev S1024x1152 : Shape := ⟨2, ![1024, 1152]⟩
abbrev S1x512x1152 : Shape := ⟨3, ![1, 512, 1152]⟩
abbrev S512x1152 : Shape := ⟨2, ![512, 1152]⟩

abbrev nBuf : Space → Nat
  | .hbm => 3
  | .vmem => 12
  | .smem => 1
  | _ => 0

abbrev bufTy : (tb : Table) → Fin (tcTables nBuf tb) → BufTy
  | .hbm, ⟨0, _⟩ => ⟨S4x1024x1152, .bf16⟩
  | .hbm, ⟨1, _⟩ => ⟨S4x1024x1152, .bf16⟩
  | .hbm, ⟨2, _⟩ => ⟨S1024x1152, .f32⟩
  | .local _ .vmem, ⟨0, _⟩ => ⟨S1x512x1152, .bf16⟩
  | .local _ .vmem, ⟨1, _⟩ => ⟨S1x512x1152, .bf16⟩
  | .local _ .vmem, ⟨2, _⟩ => ⟨S1x512x1152, .bf16⟩
  | .local _ .vmem, ⟨3, _⟩ => ⟨S1x512x1152, .bf16⟩
  | .local _ .vmem, ⟨4, _⟩ => ⟨S1x512x1152, .bf16⟩
  | .local _ .vmem, ⟨5, _⟩ => ⟨S1x512x1152, .bf16⟩
  | .local _ .vmem, ⟨6, _⟩ => ⟨S1x512x1152, .bf16⟩
  | .local _ .vmem, ⟨7, _⟩ => ⟨S1x512x1152, .bf16⟩
  | .local _ .vmem, ⟨8, _⟩ => ⟨S1x512x1152, .bf16⟩
  | .local _ .vmem, ⟨9, _⟩ => ⟨S1x512x1152, .bf16⟩
  | .local _ .vmem, ⟨10, _⟩ => ⟨S512x1152, .f32⟩
  | .local _ .vmem, ⟨11, _⟩ => ⟨S512x1152, .f32⟩
  | .local _ .smem, ⟨0, _⟩ => ⟨S1, .i32⟩
  | _, _ => ⟨S4x1024x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![2], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let v1 : BitVec 1 := Scalar.cmpi .eq v0 c0_i32
  let c1_i32 : BitVec 32 := 1#32
  let c0_i32_0 : BitVec 32 := 0#32
  let v2 : BitVec 32 := Scalar.select v1 c1_i32 c0_i32_0
  let c0_i32_1 : BitVec 32 := 0#32
  let c0_i32_2 : BitVec 32 := 0#32
  ![v2.toNat, arg0.toNat, c0_i32_1.toNat]

def cc0_transform_1 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c1_i32 : BitVec 32 := 1#32
  let v1 : BitVec 1 := Scalar.cmpi .eq v0 c1_i32
  let c2_i32 : BitVec 32 := 2#32
  let c1_i32_0 : BitVec 32 := 1#32
  let v2 : BitVec 32 := Scalar.select v1 c2_i32 c1_i32_0
  let c0_i32 : BitVec 32 := 0#32
  let c0_i32_1 : BitVec 32 := 0#32
  ![v2.toNat, arg0.toNat, c0_i32.toNat]

def cc0_transform_2 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c2_i32 : BitVec 32 := 2#32
  let v1 : BitVec 1 := Scalar.cmpi .eq v0 c2_i32
  let c3_i32 : BitVec 32 := 3#32
  let c2_i32_0 : BitVec 32 := 2#32
  let v2 : BitVec 32 := Scalar.select v1 c3_i32 c2_i32_0
  let c0_i32 : BitVec 32 := 0#32
  let c0_i32_1 : BitVec 32 := 0#32
  ![v2.toNat, arg0.toNat, c0_i32.toNat]

def cc0_transform_3 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c3_i32 : BitVec 32 := 3#32
  let v1 : BitVec 1 := Scalar.cmpi .eq v0 c3_i32
  let c0_i32 : BitVec 32 := 0#32
  let c3_i32_0 : BitVec 32 := 3#32
  let v2 : BitVec 32 := Scalar.select v1 c0_i32 c3_i32_0
  let c0_i32_1 : BitVec 32 := 0#32
  let c0_i32_2 : BitVec 32 := 0#32
  ![v2.toNat, arg0.toNat, c0_i32_1.toNat]

def cc0_transform_4 (inb_S1_S1_0 : ∀ a, (![0] : Fin 1 → Nat) a + S1.size a ≤ S1.size a) (numel1_S1 : S1.numel = 1) (pf : pre0.Contents (Elt F)) (i : grid0.Coords) : Fin 3 → Nat :=
  let arg0 : BitVec 32 := BitVec.ofNat 32 (i 0).val
  let c0 : Index := 0#32
  let v0 : BitVec 32 := pf.at 0 (Rect.unit (s := S1) ![0] S1.size inb_S1_S1_0) numel1_S1
  let c0_i32 : BitVec 32 := 0#32
  let c0_i32_0 : BitVec 32 := 0#32
  ![v0.toNat, arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x512x1152 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x512x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x1152 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1152 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x512x1152 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1152 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PeerSumRefIdeal.lean ====
abbrev S1 : Shape := ⟨1, ![1]⟩
abbrev S4x1024x1152 : Shape := ⟨3, ![4, 1024, 1152]⟩
abbrev S_ : Shape := ⟨0, ![]⟩
abbrev S4 : Shape := ⟨1, ![4]⟩
abbrev S4x1x1 : Shape := ⟨3, ![4, 1, 1]⟩
abbrev S1024x1152 : Shape := ⟨2, ![1024, 1152]⟩

abbrev nBuf : Space → Nat
  | .hbm => 13
  | .vmem => 0
  | .smem => 0
  | _ => 0

abbrev bufTy : (tb : Table) → Fin (tcTables nBuf tb) → BufTy
  | .hbm, ⟨0, _⟩ => ⟨S1, .i32⟩
  | .hbm, ⟨1, _⟩ => ⟨S4x1024x1152, .bf16⟩
  | .hbm, ⟨2, _⟩ => ⟨S4x1024x1152, .bf16⟩
  | .hbm, ⟨3, _⟩ => ⟨S_, .i32⟩
  | .hbm, ⟨4, _⟩ => ⟨S4, .i32⟩
  | .hbm, ⟨5, _⟩ => ⟨S4, .i32⟩
  | .hbm, ⟨6, _⟩ => ⟨S4, .i1⟩
  | .hbm, ⟨7, _⟩ => ⟨S4x1x1, .i1⟩
  | .hbm, ⟨8, _⟩ => ⟨S4x1024x1152, .i1⟩
  | .hbm, ⟨9, _⟩ => ⟨S4x1024x1152, .bf16⟩
  | .hbm, ⟨10, _⟩ => ⟨S4x1024x1152, .f32⟩
  | .hbm, ⟨11, _⟩ => ⟨S_, .f32⟩
  | .hbm, ⟨12, _⟩ => ⟨S1024x1152, .f32⟩
  | _, _ => ⟨S1, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== SlotSum.lean ====
abbrev S8x272x128 : Shape := ⟨3, ![8, 272, 128]⟩
abbrev S272x128 : Shape := ⟨2, ![272, 128]⟩
abbrev S1x272x128 : Shape := ⟨3, ![1, 272, 128]⟩

abbrev nBuf : Space → Nat
  | .hbm => 2
  | .vmem => 2
  | .smem => 0
  | _ => 0

abbrev bufTy : (tb : Table) → Fin (tcTables nBuf tb) → BufTy
  | .hbm, ⟨0, _⟩ => ⟨S8x272x128, .f32⟩
  | .hbm, ⟨1, _⟩ => ⟨S272x128, .f32⟩
  | .local _ .vmem, ⟨0, _⟩ => ⟨S8x272x128, .f32⟩
  | .local _ .vmem, ⟨1, _⟩ => ⟨S272x128, .f32⟩
  | _, _ => ⟨S8x272x128, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8x272x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S272x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SlotSumRefIdeal.lean ====
abbrev S8x272x128 : Shape := ⟨3, ![8, 272, 128]⟩
abbrev S_ : Shape := ⟨0, ![]⟩
abbrev S272x128 : Shape := ⟨2, ![272, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x272x128, .f32⟩
  | .hbm, ⟨1, _⟩ => ⟨S_, .f32⟩
  | .hbm, ⟨2, _⟩ => ⟨S272x128, .f32⟩
  | _, _ => ⟨S8x272x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Pack.lean ====
abbrev S64x64x16 : Shape := ⟨3, ![64, 64, 16]⟩
abbrev S64x16x64 : Shape := ⟨3, ![64, 16, 64]⟩
abbrev S2048 : Shape := ⟨1, ![2048]⟩
abbrev S64 : Shape := ⟨1, ![64]⟩
abbrev S16 : Shape := ⟨1, ![16]⟩
abbrev S64x64 : Shape := ⟨2, ![64, 64]⟩
abbrev S1024 : Shape := ⟨1, ![1024]⟩
abbrev S65536 : Shape := ⟨1, ![65536]⟩
abbrev S4096 : Shape := ⟨1, ![4096]⟩
abbrev S276688 : Shape := ⟨1, ![276688]⟩
abbrev S_ : Shape := ⟨0, ![]⟩
abbrev S278528 : Shape := ⟨1, ![278528]⟩
abbrev S2176x128 : Shape := ⟨2, ![2176, 128]⟩

abbrev nBuf : Space → Nat
  | .hbm => 26
  | .vmem => 0
  | .smem => 0
  | _ => 0

abbrev bufTy : (tb : Table) → Fin (tcTables nBuf tb) → BufTy
  | .hbm, ⟨0, _⟩ => ⟨S64x64x16, .f32⟩
  | .hbm, ⟨1, _⟩ => ⟨S64x64x16, .f32⟩
  | .hbm, ⟨2, _⟩ => ⟨S64x16x64, .f32⟩
  | .hbm, ⟨3, _⟩ => ⟨S64x16x64, .f32⟩
  | .hbm, ⟨4, _⟩ => ⟨S2048, .f32⟩
  | .hbm, ⟨5, _⟩ => ⟨S64, .f32⟩
  | .hbm, ⟨6, _⟩ => ⟨S64, .f32⟩
  | .hbm, ⟨7, _⟩ => ⟨S16, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S65536, .f32⟩
  | .hbm, ⟨16, _⟩ => ⟨S65536, .f32⟩
  | .hbm, ⟨17, _⟩ => ⟨S65536, .f32⟩
  | .hbm, ⟨18, _⟩ => ⟨S65536, .f32⟩
  | .hbm, ⟨19, _⟩ => ⟨S4096, .f32⟩
  | .hbm, ⟨20, _⟩ => ⟨S4096, .f32⟩
  | .hbm, ⟨21, _⟩ => ⟨S276688, .f32⟩
  | .hbm, ⟨22, _⟩ => ⟨S_, .i32⟩
  | .hbm, ⟨23, _⟩ => ⟨S_, .f32⟩
  | .hbm, ⟨24, _⟩ => ⟨S278528, .f32⟩
  | .hbm, ⟨25, _⟩ => ⟨S2176x128, .f32⟩
  | _, _ => ⟨S64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_c : Ref sig .tc := ⟨.hbm, 22, rfl⟩
abbrev main_call0_v0 : Ref sig .tc := ⟨.hbm, 23, rfl⟩
abbrev main_v7 : Ref sig .tc := ⟨.hbm, 24, rfl⟩
abbrev main_v8 : Ref sig .tc := ⟨.hbm, 25, rfl⟩

abbrev nD : Nat := 1
abbrev τ : Topo := Topo.v7x

variable {F : FTy → Type} [FloatOps F]
-- ==== PackRefIdeal.lean ====
abbrev S64x64x16 : Shape := ⟨3, ![64, 64, 16]⟩
abbrev S64x16x64 : Shape := ⟨3, ![64, 16, 64]⟩
abbrev S2048 : Shape := ⟨1, ![2048]⟩
abbrev S64 : Shape := ⟨1, ![64]⟩
abbrev S16 : Shape := ⟨1, ![16]⟩
abbrev S64x64 : Shape := ⟨2, ![64, 64]⟩
abbrev S1024 : Shape := ⟨1, ![1024]⟩
abbrev S65536 : Shape := ⟨1, ![65536]⟩
abbrev S4096 : Shape := ⟨1, ![4096]⟩
abbrev S_ : Shape := ⟨0, ![]⟩
abbrev S1840 : Shape := ⟨1, ![1840]⟩
abbrev S278528 : Shape := ⟨1, ![278528]⟩
abbrev S2176x128 : Shape := ⟨2, ![2176, 128]⟩

abbrev nBuf : Space → Nat
  | .hbm => 25
  | .vmem => 0
  | .smem => 0
  | _ => 0

abbrev bufTy : (tb : Table) → Fin (tcTables nBuf tb) → BufTy
  | .hbm, ⟨0, _⟩ => ⟨S64x64x16, .f32⟩
  | .hbm, ⟨1, _⟩ => ⟨S64x64x16, .f32⟩
  | .hbm, ⟨2, _⟩ => ⟨S64x16x64, .f32⟩
  | .hbm, ⟨3, _⟩ => ⟨S64x16x64, .f32⟩
  | .hbm, ⟨4, _⟩ => ⟨S2048, .f32⟩
  | .hbm, ⟨5, _⟩ => ⟨S64, .f32⟩
  | .hbm, ⟨6, _⟩ => ⟨S64, .f32⟩
  | .hbm, ⟨7, _⟩ => ⟨S16, .f32⟩
  | .hbm, ⟨8, _⟩ => ⟨S64x64, .f32⟩
  | .hbm, ⟨9, _⟩ => ⟨S64x64, .f32⟩
  | .hbm, ⟨10, _⟩ => ⟨S64, .f32⟩
  | .hbm, ⟨11, _⟩ => ⟨S1024, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S65536, .f32⟩
  | .hbm, ⟨16, _⟩ => ⟨S65536, .f32⟩
  | .hbm, ⟨17, _⟩ => ⟨S65536, .f32⟩
  | .hbm, ⟨18, _⟩ => ⟨S65536, .f32⟩
  | .hbm, ⟨19, _⟩ => ⟨S4096, .f32⟩
  | .hbm, ⟨20, _⟩ => ⟨S4096, .f32⟩
  | .hbm, ⟨21, _⟩ => ⟨S_, .f32⟩
  | .hbm, ⟨22, _⟩ => ⟨S1840, .f32⟩
  | .hbm, ⟨23, _⟩ => ⟨S278528, .f32⟩
  | .hbm, ⟨24, _⟩ => ⟨S2176x128, .f32⟩
  | _, _ => ⟨S64x64x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_cst : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩

abbrev nD : Nat := 1
abbrev τ : Topo := Topo.v7x

variable {F : FTy → Type} [FloatOps F]
-- ==== Unpack.lean ====
abbrev S2176x128 : Shape := ⟨2, ![2176, 128]⟩
abbrev S278528 : Shape := ⟨1, ![278528]⟩
abbrev S65536 : Shape := ⟨1, ![65536]⟩
abbrev S64x64x16 : Shape := ⟨3, ![64, 64, 16]⟩
abbrev S64x16x64 : Shape := ⟨3, ![64, 16, 64]⟩
abbrev S2048 : Shape := ⟨1, ![2048]⟩
abbrev S64 : Shape := ⟨1, ![64]⟩
abbrev S16 : Shape := ⟨1, ![16]⟩
abbrev S4096 : Shape := ⟨1, ![4096]⟩
abbrev S64x64 : Shape := ⟨2, ![64, 64]⟩
abbrev S1024 : Shape := ⟨1, ![1024]⟩

abbrev nBuf : Space → Nat
  | .hbm => 23
  | .vmem => 0
  | .smem => 0
  | _ => 0

abbrev bufTy : (tb : Table) → Fin (tcTables nBuf tb) → BufTy
  | .hbm, ⟨0, _⟩ => ⟨S2176x128, .f32⟩
  | .hbm, ⟨1, _⟩ => ⟨S278528, .f32⟩
  | .hbm, ⟨2, _⟩ => ⟨S65536, .f32⟩
  | .hbm, ⟨3, _⟩ => ⟨S64x64x16, .f32⟩
  | .hbm, ⟨4, _⟩ => ⟨S65536, .f32⟩
  | .hbm, ⟨5, _⟩ => ⟨S64x64x16, .f32⟩
  | .hbm, ⟨6, _⟩ => ⟨S65536, .f32⟩
  | .hbm, ⟨7, _⟩ => ⟨S64x16x64, .f32⟩
  | .hbm, ⟨8, _⟩ => ⟨S65536, .f32⟩
  | .hbm, ⟨9, _⟩ => ⟨S64x16x64, .f32⟩
  | .hbm, ⟨10, _⟩ => ⟨S2048, .f32⟩
  | .hbm, ⟨11, _⟩ => ⟨S64, .f32⟩
  | .hbm, ⟨12, _⟩ => ⟨S64, .f32⟩
  | .hbm, ⟨13, _⟩ => ⟨S16, .f32⟩
  | .hbm, ⟨14, _⟩ => ⟨S4096, .f32⟩
  | .hbm, ⟨15, _⟩ => ⟨S64x64, .f32⟩
  | .hbm, ⟨16, _⟩ => ⟨S4096, .f32⟩
  | .hbm, ⟨17, _⟩ => ⟨S64x64, .f32⟩
  | .hbm, ⟨18, _⟩ => ⟨S64, .f32⟩
  | .hbm, ⟨19, _⟩ => ⟨S1024, .f32⟩
  | .hbm, ⟨20, _⟩ => ⟨S1024, .f32⟩
  | .hbm, ⟨21, _⟩ => ⟨S1024, .f32⟩
  | .hbm, ⟨22, _⟩ => ⟨S1024, .f32⟩
  | _, _ => ⟨S2176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩

abbrev nD : Nat := 1
abbrev τ : Topo := Topo.v7x

variable {F : FTy → Type} [FloatOps F]
-- ==== UnpackRefIdeal.lean ====
abbrev S2176x128 : Shape := ⟨2, ![2176, 128]⟩
abbrev S278528 : Shape := ⟨1, ![278528]⟩
abbrev S65536 : Shape := ⟨1, ![65536]⟩
abbrev S2048 : Shape := ⟨1, ![2048]⟩
abbrev S64 : Shape := ⟨1, ![64]⟩
abbrev S16 : Shape := ⟨1, ![16]⟩
abbrev S4096 : Shape := ⟨1, ![4096]⟩
abbrev S1024 : Shape := ⟨1, ![1024]⟩
abbrev S1840 : Shape := ⟨1, ![1840]⟩
abbrev S64x64x16 : Shape := ⟨3, ![64, 64, 16]⟩
abbrev S64x16x64 : Shape := ⟨3, ![64, 16, 64]⟩
abbrev S64x64 : Shape := ⟨2, ![64, 64]⟩

abbrev nBuf : Space → Nat
  | .hbm => 24
  | .vmem => 0
  | .smem => 0
  | _ => 0

abbrev bufTy : (tb : Table) → Fin (tcTables nBuf tb) → BufTy
  | .hbm, ⟨0, _⟩ => ⟨S2176x128, .f32⟩
  | .hbm, ⟨1, _⟩ => ⟨S278528, .f32⟩
  | .hbm, ⟨2, _⟩ => ⟨S65536, .f32⟩
  | .hbm, ⟨3, _⟩ => ⟨S65536, .f32⟩
  | .hbm, ⟨4, _⟩ => ⟨S65536, .f32⟩
  | .hbm, ⟨5, _⟩ => ⟨S65536, .f32⟩
  | .hbm, ⟨6, _⟩ => ⟨S2048, .f32⟩
  | .hbm, ⟨7, _⟩ => ⟨S64, .f32⟩
  | .hbm, ⟨8, _⟩ => ⟨S64, .f32⟩
  | .hbm, ⟨9, _⟩ => ⟨S16, .f32⟩
  | .hbm, ⟨10, _⟩ => ⟨S4096, .f32⟩
  | .hbm, ⟨11, _⟩ => ⟨S4096, .f32⟩
  | .hbm, ⟨12, _⟩ => ⟨S64, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024, .f32⟩
  | .hbm, ⟨17, _⟩ => ⟨S1840, .f32⟩
  | .hbm, ⟨18, _⟩ => ⟨S64x64x16, .f32⟩
  | .hbm, ⟨19, _⟩ => ⟨S64x64x16, .f32⟩
  | .hbm, ⟨20, _⟩ => ⟨S64x16x64, .f32⟩
  | .hbm, ⟨21, _⟩ => ⟨S64x16x64, .f32⟩
  | .hbm, ⟨22, _⟩ => ⟨S64x64, .f32⟩
  | .hbm, ⟨23, _⟩ => ⟨S64x64, .f32⟩
  | _, _ => ⟨S2176x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_v10 : Ref sig .tc := ⟨.hbm, 11, rfl⟩
abbrev main_v11 : Ref sig .tc := ⟨.hbm, 12, rfl⟩
abbrev main_v12 : Ref sig .tc := ⟨.hbm, 13, rfl⟩
abbrev main_v13 : Ref sig .tc := ⟨.hbm, 14, rfl⟩
abbrev main_v14 : Ref sig .tc := ⟨.hbm, 15, rfl⟩
abbrev main_v15 : Ref sig .tc := ⟨.hbm, 16, rfl⟩
abbrev main_v16 : Ref sig .tc := ⟨.hbm, 17, rfl⟩
abbrev main_v17 : Ref sig .tc := ⟨.hbm, 18, rfl⟩
abbrev main_v18 : Ref sig .tc := ⟨.hbm, 19, rfl⟩
abbrev main_v19 : Ref sig .tc := ⟨.hbm, 20, rfl⟩
abbrev main_v20 : Ref sig .tc := ⟨.hbm, 21, rfl⟩
abbrev main_v21 : Ref sig .tc := ⟨.hbm, 22, rfl⟩
abbrev main_v22 : Ref sig .tc := ⟨.hbm, 23, rfl⟩

abbrev nD : Nat := 1
abbrev τ : Topo := Topo.v7x

variable {F : FTy → Type} [FloatOps F]
-- ==== AttnBwd.lean ====
abbrev S4096x4608 : Shape := ⟨2, ![4096, 4608]⟩
abbrev S4096 : Shape := ⟨1, ![4096]⟩
abbrev S64 : Shape := ⟨1, ![64]⟩
abbrev S16 : Shape := ⟨1, ![16]⟩
abbrev S4096x1024 : Shape := ⟨2, ![4096, 1024]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S1x4096x1x32 : Shape := ⟨4, ![1, 4096, 1, 32]⟩
abbrev S1x4096x4x32 : Shape := ⟨4, ![1, 4096, 4, 32]⟩
abbrev S4096x128 : Shape := ⟨2, ![4096, 128]⟩
abbrev S4096x256 : Shape := ⟨2, ![4096, 256]⟩
abbrev S1x64 : Shape := ⟨2, ![1, 64]⟩
abbrev S2x64 : Shape := ⟨2, ![2, 64]⟩
abbrev S128 : Shape := ⟨1, ![128]⟩
abbrev S1x128 : Shape := ⟨2, ![1, 128]⟩
abbrev S1x16 : Shape := ⟨2, ![1, 16]⟩
abbrev S128x1024 : Shape := ⟨2, ![128, 1024]⟩
abbrev S128x256 : Shape := ⟨2, ![128, 256]⟩
abbrev S128x512 : Shape := ⟨2, ![128, 512]⟩
abbrev S128x4608 : Shape := ⟨2, ![128, 4608]⟩
abbrev S256x256 : Shape := ⟨2, ![256, 256]⟩
abbrev S128x128 : Shape := ⟨2, ![128, 128]⟩
abbrev S256x128 : Shape := ⟨2, ![256, 128]⟩
abbrev S256 : Shape := ⟨1, ![256]⟩
abbrev S256x1 : Shape := ⟨2, ![256, 1]⟩
abbrev S128x1 : Shape := ⟨2, ![128, 1]⟩
abbrev S512x256 : Shape := ⟨2, ![512, 256]⟩
abbrev S2048x256 : Shape := ⟨2, ![2048, 256]⟩
abbrev S512x128 : Shape := ⟨2, ![512, 128]⟩
abbrev S1x1 : Shape := ⟨2, ![1, 1]⟩
abbrev S512x1 : Shape := ⟨2, ![512, 1]⟩
abbrev S2048x1 : Shape := ⟨2, ![2048, 1]⟩
abbrev S2048 : Shape := ⟨1, ![2048]⟩
abbrev S1x128x1 : Shape := ⟨3, ![1, 128, 1]⟩
abbrev S1 : Shape := ⟨1, ![1]⟩
abbrev S1x1x1 : Shape := ⟨3, ![1, 1, 1]⟩

abbrev nBuf : Space → Nat
  | .hbm => 50
  | .vmem => 38
  | .smem => 0
  | _ => 0

abbrev bufTy : (tb : Table) → Fin (tcTables nBuf tb) → BufTy
  | .hbm, ⟨0, _⟩ => ⟨S4096x4608, .f32⟩
  | .hbm, ⟨1, _⟩ => ⟨S4096, .i32⟩
  | .hbm, ⟨2, _⟩ => ⟨S64, .f32⟩
  | .hbm, ⟨3, _⟩ => ⟨S64, .f32⟩
  | .hbm, ⟨4, _⟩ => ⟨S16, .f32⟩
  | .hbm, ⟨5, _⟩ => ⟨S4096x1024, .f32⟩
  | .hbm, ⟨6, _⟩ => ⟨S4096x1024, .bf16⟩
  | .hbm, ⟨7, _⟩ => ⟨S4096x1024, .bf16⟩
  | .hbm, ⟨8, _⟩ => ⟨S32, .f32⟩
  | .hbm, ⟨9, _⟩ => ⟨S_, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S4096, .f32⟩
  | .hbm, ⟨23, _⟩ => ⟨S4096x1, .f32⟩
  | .hbm, ⟨24, _⟩ => ⟨S1x32, .f32⟩
  | .hbm, ⟨25, _⟩ => ⟨S4096x32, .f32⟩
  | .hbm, ⟨26, _⟩ => ⟨S4096x32, .f32⟩
  | .hbm, ⟨27, _⟩ => ⟨S4096x32, .f32⟩
  | .hbm, ⟨28, _⟩ => ⟨S4096x32, .f32⟩
  | .hbm, ⟨29, _⟩ => ⟨S4096x32, .f32⟩
  | .hbm, ⟨30, _⟩ => ⟨S1x4096x1x32, .f32⟩
  | .hbm, ⟨31, _⟩ => ⟨S1x4096x4x32, .f32⟩
  | .hbm, ⟨32, _⟩ => ⟨S4096x128, .f32⟩
  | .hbm, ⟨33, _⟩ => ⟨S1x4096x1x32, .f32⟩
  | .hbm, ⟨34, _⟩ => ⟨S1x4096x4x32, .f32⟩
  | .hbm, ⟨35, _⟩ => ⟨S4096x128, .f32⟩
  | .hbm, ⟨36, _⟩ => ⟨S4096x256, .f32⟩
  | .hbm, ⟨37, _⟩ => ⟨S1x64, .f32⟩
  | .hbm, ⟨38, _⟩ => ⟨S2x64, .f32⟩
  | .hbm, ⟨39, _⟩ => ⟨S128, .f32⟩
  | .hbm, ⟨40, _⟩ => ⟨S1x128, .f32⟩
  | .hbm, ⟨41, _⟩ => ⟨S1x64, .f32⟩
  | .hbm, ⟨42, _⟩ => ⟨S2x64, .f32⟩
  | .hbm, ⟨43, _⟩ => ⟨S128, .f32⟩
  | .hbm, ⟨44, _⟩ => ⟨S1x128, .f32⟩
  | .hbm, ⟨45, _⟩ => ⟨S1x16, .f32⟩
  | .hbm, ⟨46, _⟩ => ⟨S4096x4608, .bf16⟩
  | .hbm, ⟨47, _⟩ => ⟨S1x128, .f32⟩
  | .hbm, ⟨48, _⟩ => ⟨S1x128, .f32⟩
  | .hbm, ⟨49, _⟩ => ⟨S1x128, .f32⟩
  | .local _ .vmem, ⟨0, _⟩ => ⟨S128x1024, .f32⟩
  | .local _ .vmem, ⟨1, _⟩ => ⟨S128x1024, .f32⟩
  | .local _ .vmem, ⟨2, _⟩ => ⟨S128x256, .f32⟩
  | .local _ .vmem, ⟨3, _⟩ => ⟨S128x256, .f32⟩
  | .local _ .vmem, ⟨4, _⟩ => ⟨S128x256, .f32⟩
  | .local _ .vmem, ⟨5, _⟩ => ⟨S128x256, .f32⟩
  | .local _ .vmem, ⟨6, _⟩ => ⟨S128x256, .f32⟩
  | .local _ .vmem, ⟨7, _⟩ => ⟨S128x256, .f32⟩
  | .local _ .vmem, ⟨8, _⟩ => ⟨S128x256, .f32⟩
  | .local _ .vmem, ⟨9, _⟩ => ⟨S128x256, .f32⟩
  | .local _ .vmem, ⟨10, _⟩ => ⟨S128x512, .f32⟩
  | .local _ .vmem, ⟨11, _⟩ => ⟨S128x512, .f32⟩
  | .local _ .vmem, ⟨12, _⟩ => ⟨S128x512, .f32⟩
  | .local _ .vmem, ⟨13, _⟩ => ⟨S128x512, .f32⟩
  | .local _ .vmem, ⟨14, _⟩ => ⟨S128x256, .f32⟩
  | .local _ .vmem, ⟨15, _⟩ => ⟨S128x256, .f32⟩
  | .local _ .vmem, ⟨16, _⟩ => ⟨S128x256, .f32⟩
  | .local _ .vmem, ⟨17, _⟩ => ⟨S128x256, .f32⟩
  | .local _ .vmem, ⟨18, _⟩ => ⟨S1x128, .f32⟩
  | .local _ .vmem, ⟨19, _⟩ => ⟨S1x128, .f32⟩
  | .local _ .vmem, ⟨20, _⟩ => ⟨S1x16, .f32⟩
  | .local _ .vmem, ⟨21, _⟩ => ⟨S128x1024, .f32⟩
  | .local _ .vmem, ⟨22, _⟩ => ⟨S128x1024, .f32⟩
  | .local _ .vmem, ⟨23, _⟩ => ⟨S128x1024, .bf16⟩
  | .local _ .vmem, ⟨24, _⟩ => ⟨S128x1024, .bf16⟩
  | .local _ .vmem, ⟨25, _⟩ => ⟨S128x1024, .bf16⟩
  | .local _ .vmem, ⟨26, _⟩ => ⟨S128x1024, .bf16⟩
  | .local _ .vmem, ⟨27, _⟩ => ⟨S128x4608, .bf16⟩
  | .local _ .vmem, ⟨28, _⟩ => ⟨S128x4608, .bf16⟩
  | .local _ .vmem, ⟨29, _⟩ => ⟨S1x128, .f32⟩
  | .local _ .vmem, ⟨30, _⟩ => ⟨S1x128, .f32⟩
  | .local _ .vmem, ⟨31, _⟩ => ⟨S1x128, .f32⟩
  | .local _ .vmem, ⟨32, _⟩ => ⟨S256x256, .f32⟩
  | .local _ .vmem, ⟨33, _⟩ => ⟨S256x256, .f32⟩
  | .local _ .vmem, ⟨34, _⟩ => ⟨S128x256, .f32⟩
  | .local _ .vmem, ⟨35, _⟩ => ⟨S128x256, .f32⟩
  | .local _ .vmem, ⟨36, _⟩ => ⟨S128x1024, .bf16⟩
  | .local _ .vmem, ⟨37, _⟩ => ⟨S128x1024, .bf16⟩
  | _, _ => ⟨S4096x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_cst_1 : Ref sig .tc := ⟨.hbm, 16, rfl⟩
abbrev main_v6 : Ref sig .tc := ⟨.hbm, 17, rfl⟩
abbrev main_v7 : Ref sig .tc := ⟨.hbm, 18, rfl⟩
abbrev main_cst_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34_0 : Ref sig .tc := ⟨.hbm, 46, rfl⟩
abbrev main_v34_1 : Ref sig .tc := ⟨.hbm, 47, rfl⟩
abbrev main_v34_2 : Ref sig .tc := ⟨.hbm, 48, rfl⟩
abbrev main_v34_3 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg11_0 : Ref sig .tc := ⟨.vmem, 20, rfl⟩
abbrev cc0_stg12_0 : Ref sig .tc := ⟨.vmem, 21, rfl⟩
abbrev cc0_stg12_1 : Ref sig .tc := ⟨.vmem, 22, rfl⟩
abbrev cc0_stg13_0 : Ref sig .tc := ⟨.vmem, 23, rfl⟩
abbrev cc0_stg13_1 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg17_0 : Ref sig .tc := ⟨.vmem, 30, rfl⟩
abbrev cc0_stg18_0 : Ref sig .tc := ⟨.vmem, 31, rfl⟩
abbrev cc0_scratch0 : Ref sig .tc := ⟨.vmem, 32, rfl⟩
abbrev cc0_scratch1 : Ref sig .tc := ⟨.vmem, 33, rfl⟩
abbrev cc0_scratch2 : Ref sig .tc := ⟨.vmem, 34, rfl⟩
abbrev cc0_scratch3 : Ref sig .tc := ⟨.vmem, 35, rfl⟩
abbrev cc0_scratch4 : Ref sig .tc := ⟨.vmem, 36, rfl⟩
abbrev cc0_scratch5 : Ref sig .tc := ⟨.vmem, 37, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem11_0 : DmaSem sig := 20
abbrev cc0_sem12_0 : DmaSem sig := 21
abbrev cc0_sem12_1 : DmaSem sig := 22
abbrev cc0_sem13_0 : DmaSem sig := 23
abbrev cc0_sem13_1 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem17_0 : DmaSem sig := 30
abbrev cc0_sem18_0 : DmaSem sig := 31

abbrev nD : Nat := 1
abbrev τ : Topo := Topo.v7x

variable {F : FTy → Type} [FloatOps F]

abbrev grid0 : Pipeline.Grid := ⟨1, ![33], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond3 (i : grid0.Coords) : BitVec 1 :=
  let arg0 : BitVec 32 := BitVec.ofNat 32 (i 0).val
  let c32_i32_14 : BitVec 32 := 32#32
  let v14 : BitVec 1 := Scalar.cmpi .slt arg0 c32_i32_14
  let v15 : BitVec 32 := Scalar.extui v14
  let c0_i32_15 : BitVec 32 := 0#32
  let v16 : BitVec 1 := Scalar.cmpi .ne v15 c0_i32_15
  v16

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_2 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c4_i32 : BitVec 32 := 4#32
  let c0_i32_0 : BitVec 32 := 0#32
  ![v1.toNat, c4_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c5_i32 : BitVec 32 := 5#32
  let c0_i32 : BitVec 32 := 0#32
  ![v0.toNat, c5_i32.toNat]

def cc0_transform_4 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c5_i32 : BitVec 32 := 5#32
  let c0_i32_0 : BitVec 32 := 0#32
  ![v1.toNat, c5_i32.toNat]

def cc0_transform_5 (i : grid0.Coords) : Fin 2 → Nat :=
  let arg0 : BitVec 32 := BitVec.ofNat 32 (i 0).val
  let c31_i32 : BitVec 32 := 31#32
  let v0 : BitVec 32 := Scalar.minsi arg0 c31_i32
  let c3_i32 : BitVec 32 := 3#32
  let c0_i32 : BitVec 32 := 0#32
  ![v0.toNat, c3_i32.toNat]

def cc0_transform_6 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let c0_i32 : BitVec 32 := 0#32
  ![v0.toNat, c4_i32.toNat]

def cc0_transform_7 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c31_i32 : BitVec 32 := 31#32
  let v0 : BitVec 32 := Scalar.minsi arg0 c31_i32
  let c0_i32 : BitVec 32 := 0#32
  let c0_i32_0 : BitVec 32 := 0#32
  ![v0.toNat, c0_i32.toNat]

def cc0_transform_13 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_14 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_15 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_16 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S128x1024 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S128x1024 .bf16 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S128x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S128x4608 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 1 → Memref sig .tc .vmem S1x128 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))
abbrev reads0_16 : Fin grid0.rank → Bool := ![false]

abbrev stage0_17 : Fin 1 → Memref sig .tc .vmem S1x128 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))
abbrev reads0_17 : Fin grid0.rank → Bool := ![false]

abbrev stage0_18 : Fin 1 → Memref sig .tc .vmem S1x128 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== AttnBwdIdeal.lean ====
variable {F : FTy → Type} [FloatOps F] [Named F]
def κ : String → Option EReal := fun
  | "mask" => some ⊥
  | _ => none
-- ==== AttnBwdRefIdeal.lean ====
abbrev S4096x4608 : Shape := ⟨2, ![4096, 4608]⟩
abbrev S4096 : Shape := ⟨1, ![4096]⟩
abbrev S64 : Shape := ⟨1, ![64]⟩
abbrev S16 : Shape := ⟨1, ![16]⟩
abbrev S4096x1024 : Shape := ⟨2, ![4096, 1024]⟩
abbrev S4096x256 : Shape := ⟨2, ![4096, 256]⟩
abbrev S2x64 : Shape := ⟨2, ![2, 64]⟩
abbrev S32 : Shape := ⟨1, ![32]⟩
abbrev S_ : Shape := ⟨0, ![]⟩
abbrev S4096x1 : Shape := ⟨2, ![4096, 1]⟩
abbrev S1x32 : Shape := ⟨2, ![1, 32]⟩
abbrev S4096x32 : Shape := ⟨2, ![4096, 32]⟩
abbrev S4096x8x2x64 : Shape := ⟨4, ![4096, 8, 2, 64]⟩
abbrev S4096x8x2 : Shape := ⟨3, ![4096, 8, 2]⟩
abbrev S4096x8x2x1 : Shape := ⟨4, ![4096, 8, 2, 1]⟩
abbrev S1x1x2x64 : Shape := ⟨4, ![1, 1, 2, 64]⟩
abbrev S4096x16x64 : Shape := ⟨3, ![4096, 16, 64]⟩
abbrev S4096x2x2x64 : Shape := ⟨4, ![4096, 2, 2, 64]⟩
abbrev S4096x2x2 : Shape := ⟨3, ![4096, 2, 2]⟩
abbrev S4096x2x2x1 : Shape := ⟨4, ![4096, 2, 2, 1]⟩
abbrev S4096x4x64 : Shape := ⟨3, ![4096, 4, 64]⟩
abbrev S4096x1x32 : Shape := ⟨3, ![4096, 1, 32]⟩
abbrev S4096x16x32 : Shape := ⟨3, ![4096, 16, 32]⟩
abbrev S4096x4x32 : Shape := ⟨3, ![4096, 4, 32]⟩
abbrev S32x128x4x4x64 : Shape := ⟨5, ![32, 128, 4, 4, 64]⟩
abbrev S32x128x4x64 : Shape := ⟨4, ![32, 128, 4, 64]⟩
abbrev S1x128x4x64 : Shape := ⟨4, ![1, 128, 4, 64]⟩
abbrev S31x128x4x64 : Shape := ⟨4, ![31, 128, 4, 64]⟩
abbrev S32x256x4x64 : Shape := ⟨4, ![32, 256, 4, 64]⟩
abbrev S32x4x256x128x4 : Shape := ⟨5, ![32, 4, 256, 128, 4]⟩
abbrev S32x4x4x128x256 : Shape := ⟨5, ![32, 4, 4, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S32x1x1 : Shape := ⟨3, ![32, 1, 1]⟩
abbrev S1x1x256 : Shape := ⟨3, ![1, 1, 256]⟩
abbrev S32x1x256 : Shape := ⟨3, ![32, 1, 256]⟩
abbrev S1x128x256 : Shape := ⟨3, ![1, 128, 256]⟩
abbrev S32x128x256 : Shape := ⟨3, ![32, 128, 256]⟩
abbrev S32x1x1x128x256 : Shape := ⟨5, ![32, 1, 1, 128, 256]⟩
abbrev S1x4x4x1x1 : Shape := ⟨5, ![1, 4, 4, 1, 1]⟩
abbrev S32x4x4x128x1 : Shape := ⟨5, ![32, 4, 4, 128, 1]⟩
abbrev S32x4x4x128x257 : Shape := ⟨5, ![32, 4, 4, 128, 257]⟩
abbrev S32x4x4x128 : Shape := ⟨4, ![32, 4, 4, 128]⟩
abbrev S32x4x64x4x128 : Shape := ⟨5, ![32, 4, 64, 4, 128]⟩
abbrev S32x4x64x256 : Shape := ⟨4, ![32, 4, 64, 256]⟩
abbrev S4x4 : Shape := ⟨2, ![4, 4]⟩
abbrev S32x4x128x4x64 : Shape := ⟨5, ![32, 4, 128, 4, 64]⟩
abbrev S32x4x256x64 : Shape := ⟨4, ![32, 4, 256, 64]⟩
abbrev S1x128 : Shape := ⟨2, ![1, 128]⟩

abbrev nBuf : Space → Nat
  | .hbm => 397
  | .vmem => 0
  | .smem => 0
  | _ => 0

abbrev hbmTy0_0 (i : Nat) : BufTy := match i % 128 with
  | 0 => ⟨S4096x4608, .f32⟩
  | 1 => ⟨S4096, .i32⟩
  | 2 => ⟨S64, .f32⟩
  | 3 => ⟨S64, .f32⟩
  | 4 => ⟨S16, .f32⟩
  | 5 => ⟨S4096x1024, .f32⟩
  | 6 => ⟨S4096x1024, .bf16⟩
  | 7 => ⟨S4096x1024, .bf16⟩
  | 8 => ⟨S4096x1024, .f32⟩
  | 9 => ⟨S4096x256, .f32⟩
  | 10 => ⟨S4096x256, .f32⟩
  | 11 => ⟨S4096x1024, .f32⟩
  | 12 => ⟨S2x64, .f32⟩
  | 13 => ⟨S2x64, .f32⟩
  | 14 => ⟨S32, .f32⟩
  | 15 => ⟨S_, .f32⟩
  | 16 => ⟨S32, .f32⟩
  | 17 => ⟨S32, .f32⟩
  | 18 => ⟨S_, .f32⟩
  | 19 => ⟨S32, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S4096, .f32⟩
  | 29 => ⟨S4096x1, .f32⟩
  | 30 => ⟨S1x32, .f32⟩
  | 31 => ⟨S4096x32, .f32⟩
  | 32 => ⟨S4096x32, .f32⟩
  | 33 => ⟨S4096x32, .f32⟩
  | 34 => ⟨S4096x32, .f32⟩
  | 35 => ⟨S4096x32, .f32⟩
  | 36 => ⟨S4096x8x2x64, .f32⟩
  | 37 => ⟨S4096x8x2x64, .f32⟩
  | 38 => ⟨S_, .f32⟩
  | 39 => ⟨S4096x8x2, .f32⟩
  | 40 => ⟨S4096x8x2x1, .f32⟩
  | 41 => ⟨S_, .f32⟩
  | 42 => ⟨S4096x8x2x1, .f32⟩
  | 43 => ⟨S4096x8x2x1, .f32⟩
  | 44 => ⟨S_, .f32⟩
  | 45 => ⟨S4096x8x2x1, .f32⟩
  | 46 => ⟨S4096x8x2x1, .f32⟩
  | 47 => ⟨S4096x8x2x1, .f32⟩
  | 48 => ⟨S4096x8x2x1, .f32⟩
  | 49 => ⟨S_, .f32⟩
  | 50 => ⟨S4096x8x2x1, .f32⟩
  | 51 => ⟨S4096x8x2x1, .f32⟩
  | 52 => ⟨S4096x8x2x64, .f32⟩
  | 53 => ⟨S4096x8x2x64, .f32⟩
  | 54 => ⟨S1x1x2x64, .f32⟩
  | 55 => ⟨S4096x8x2x64, .f32⟩
  | 56 => ⟨S4096x8x2x64, .f32⟩
  | 57 => ⟨S4096x16x64, .f32⟩
  | 58 => ⟨S4096x2x2x64, .f32⟩
  | 59 => ⟨S4096x2x2x64, .f32⟩
  | 60 => ⟨S_, .f32⟩
  | 61 => ⟨S4096x2x2, .f32⟩
  | 62 => ⟨S4096x2x2x1, .f32⟩
  | 63 => ⟨S_, .f32⟩
  | 64 => ⟨S4096x2x2x1, .f32⟩
  | 65 => ⟨S4096x2x2x1, .f32⟩
  | 66 => ⟨S_, .f32⟩
  | 67 => ⟨S4096x2x2x1, .f32⟩
  | 68 => ⟨S4096x2x2x1, .f32⟩
  | 69 => ⟨S4096x2x2x1, .f32⟩
  | 70 => ⟨S4096x2x2x1, .f32⟩
  | 71 => ⟨S_, .f32⟩
  | 72 => ⟨S4096x2x2x1, .f32⟩
  | 73 => ⟨S4096x2x2x1, .f32⟩
  | 74 => ⟨S4096x2x2x64, .f32⟩
  | 75 => ⟨S4096x2x2x64, .f32⟩
  | 76 => ⟨S1x1x2x64, .f32⟩
  | 77 => ⟨S4096x2x2x64, .f32⟩
  | 78 => ⟨S4096x2x2x64, .f32⟩
  | 79 => ⟨S4096x4x64, .f32⟩
  | 80 => ⟨S4096x4x64, .f32⟩
  | 81 => ⟨S4096x1x32, .f32⟩
  | 82 => ⟨S4096x1x32, .f32⟩
  | 83 => ⟨S4096x16x32, .f32⟩
  | 84 => ⟨S4096x16x32, .f32⟩
  | 85 => ⟨S4096x16x32, .f32⟩
  | 86 => ⟨S4096x16x32, .f32⟩
  | 87 => ⟨S4096x16x32, .f32⟩
  | 88 => ⟨S4096x16x32, .f32⟩
  | 89 => ⟨S4096x16x32, .f32⟩
  | 90 => ⟨S4096x16x32, .f32⟩
  | 91 => ⟨S4096x16x32, .f32⟩
  | 92 => ⟨S4096x16x32, .f32⟩
  | 93 => ⟨S4096x16x32, .f32⟩
  | 94 => ⟨S4096x16x32, .f32⟩
  | 95 => ⟨S4096x16x64, .f32⟩
  | 96 => ⟨S4096x1x32, .f32⟩
  | 97 => ⟨S4096x1x32, .f32⟩
  | 98 => ⟨S4096x4x32, .f32⟩
  | 99 => ⟨S4096x4x32, .f32⟩
  | 100 => ⟨S4096x4x32, .f32⟩
  | 101 => ⟨S4096x4x32, .f32⟩
  | 102 => ⟨S4096x4x32, .f32⟩
  | 103 => ⟨S4096x4x32, .f32⟩
  | 104 => ⟨S4096x4x32, .f32⟩
  | 105 => ⟨S4096x4x32, .f32⟩
  | 106 => ⟨S4096x4x32, .f32⟩
  | 107 => ⟨S4096x4x32, .f32⟩
  | 108 => ⟨S4096x4x32, .f32⟩
  | 109 => ⟨S4096x4x32, .f32⟩
  | 110 => ⟨S4096x4x64, .f32⟩
  | 111 => ⟨S32x128x4x4x64, .f32⟩
  | 112 => ⟨S32x128x4x64, .f32⟩
  | 113 => ⟨S_, .f32⟩
  | 114 => ⟨S1x128x4x64, .f32⟩
  | 115 => ⟨S31x128x4x64, .f32⟩
  | 116 => ⟨S32x128x4x64, .f32⟩
  | 117 => ⟨S_, .f32⟩
  | 118 => ⟨S1x128x4x64, .f32⟩
  | 119 => ⟨S32x256x4x64, .f32⟩
  | 120 => ⟨S32x128x4x64, .f32⟩
  | 121 => ⟨S_, .f32⟩
  | 122 => ⟨S1x128x4x64, .f32⟩
  | 123 => ⟨S31x128x4x64, .f32⟩
  | 124 => ⟨S32x128x4x64, .f32⟩
  | 125 => ⟨S_, .f32⟩
  | 126 => ⟨S1x128x4x64, .f32⟩
  | 127 => ⟨S32x256x4x64, .f32⟩
  | _ => ⟨S4096x4608, .f32⟩

abbrev hbmTy0_1 (i : Nat) : BufTy := match i % 128 with
  | 0 => ⟨S32x4x256x128x4, .f32⟩
  | 1 => ⟨S32x4x4x128x256, .f32⟩
  | 2 => ⟨S_, .f32⟩
  | 3 => ⟨S32x4x4x128x256, .f32⟩
  | 4 => ⟨S32x4x4x128x256, .f32⟩
  | 5 => ⟨S128, .i32⟩
  | 6 => ⟨S128x1, .i32⟩
  | 7 => ⟨S_, .i32⟩
  | 8 => ⟨S128x1, .i32⟩
  | 9 => ⟨S128x1, .i32⟩
  | 10 => ⟨S256, .i32⟩
  | 11 => ⟨S1x256, .i32⟩
  | 12 => ⟨S128x256, .i32⟩
  | 13 => ⟨S128x256, .i32⟩
  | 14 => ⟨S128x256, .i32⟩
  | 15 => ⟨S_, .i32⟩
  | 16 => ⟨S128x256, .i32⟩
  | 17 => ⟨S128x256, .i1⟩
  | 18 => ⟨S_, .i32⟩
  | 19 => ⟨S128x256, .i32⟩
  | 20 => ⟨S128x256, .i1⟩
  | 21 => ⟨S128x256, .i1⟩
  | 22 => ⟨S32, .i32⟩
  | 23 => ⟨S32x1x1, .i32⟩
  | 24 => ⟨S_, .i32⟩
  | 25 => ⟨S32x1x1, .i32⟩
  | 26 => ⟨S32x1x1, .i1⟩
  | 27 => ⟨S256, .i32⟩
  | 28 => ⟨S_, .i32⟩
  | 29 => ⟨S256, .i32⟩
  | 30 => ⟨S256, .i1⟩
  | 31 => ⟨S1x1x256, .i1⟩
  | 32 => ⟨S32x1x256, .i1⟩
  | 33 => ⟨S32x1x256, .i1⟩
  | 34 => ⟨S32x1x256, .i1⟩
  | 35 => ⟨S1x128x256, .i1⟩
  | 36 => ⟨S32x128x256, .i1⟩
  | 37 => ⟨S32x128x256, .i1⟩
  | 38 => ⟨S32x128x256, .i1⟩
  | 39 => ⟨S32x1x1x128x256, .i1⟩
  | 40 => ⟨S_, .f32⟩
  | 41 => ⟨S_, .f32⟩
  | 42 => ⟨S32x4x4x128x256, .i1⟩
  | 43 => ⟨S32x4x4x128x256, .f32⟩
  | 44 => ⟨S32x4x4x128x256, .f32⟩
  | 45 => ⟨S_, .f32⟩
  | 46 => ⟨S32x4x4x128x256, .f32⟩
  | 47 => ⟨S1x4x4x1x1, .f32⟩
  | 48 => ⟨S32x4x4x128x1, .f32⟩
  | 49 => ⟨S32x4x4x128x257, .f32⟩
  | 50 => ⟨S_, .f32⟩
  | 51 => ⟨S32x4x4x128, .f32⟩
  | 52 => ⟨S32x4x4x128x1, .f32⟩
  | 53 => ⟨S32x4x4x128x257, .f32⟩
  | 54 => ⟨S32x4x4x128x257, .i1⟩
  | 55 => ⟨S32x4x4x128x257, .f32⟩
  | 56 => ⟨S_, .f32⟩
  | 57 => ⟨S32x4x4x128, .f32⟩
  | 58 => ⟨S_, .f32⟩
  | 59 => ⟨S32x4x4x128, .f32⟩
  | 60 => ⟨S32x4x4x128, .f32⟩
  | 61 => ⟨S_, .f32⟩
  | 62 => ⟨S32x4x4x128, .f32⟩
  | 63 => ⟨S32x4x4x128, .i1⟩
  | 64 => ⟨S_, .f32⟩
  | 65 => ⟨S32x4x4x128, .f32⟩
  | 66 => ⟨S32x4x4x128, .i1⟩
  | 67 => ⟨S_, .f32⟩
  | 68 => ⟨S32x4x4x128, .f32⟩
  | 69 => ⟨S_, .f32⟩
  | 70 => ⟨S32x4x4x128, .f32⟩
  | 71 => ⟨S_, .f32⟩
  | 72 => ⟨S32x4x4x128, .f32⟩
  | 73 => ⟨S32x4x4x128, .f32⟩
  | 74 => ⟨S32x4x4x128, .f32⟩
  | 75 => ⟨S32x4x4x128x1, .f32⟩
  | 76 => ⟨S32x4x4x128x257, .f32⟩
  | 77 => ⟨S32x4x4x128x257, .f32⟩
  | 78 => ⟨S32x4x4x128x257, .f32⟩
  | 79 => ⟨S_, .f32⟩
  | 80 => ⟨S32x4x4x128, .f32⟩
  | 81 => ⟨S32x4x4x128x1, .f32⟩
  | 82 => ⟨S32x4x4x128x257, .f32⟩
  | 83 => ⟨S32x4x4x128x257, .f32⟩
  | 84 => ⟨S32x4x4x128x1, .f32⟩
  | 85 => ⟨S_, .f32⟩
  | 86 => ⟨S32x4x4x128x1, .f32⟩
  | 87 => ⟨S32x4x4x128x1, .f32⟩
  | 88 => ⟨S32x4x4x128x256, .f32⟩
  | 89 => ⟨S32x4x64x4x128, .f32⟩
  | 90 => ⟨S32x128x4x4x64, .f32⟩
  | 91 => ⟨S4096x1024, .f32⟩
  | 92 => ⟨S4096x1024, .f32⟩
  | 93 => ⟨S4096x1024, .f32⟩
  | 94 => ⟨S_, .f32⟩
  | 95 => ⟨S4096x1024, .f32⟩
  | 96 => ⟨S4096x1024, .f32⟩
  | 97 => ⟨S_, .f32⟩
  | 98 => ⟨S4096x1024, .f32⟩
  | 99 => ⟨S4096x1024, .f32⟩
  | 100 => ⟨S_, .f32⟩
  | 101 => ⟨S4096x1024, .f32⟩
  | 102 => ⟨S4096x1024, .f32⟩
  | 103 => ⟨S4096x1024, .f32⟩
  | 104 => ⟨S4096x1024, .f32⟩
  | 105 => ⟨S4096x1024, .f32⟩
  | 106 => ⟨S4096x1024, .f32⟩
  | 107 => ⟨S4096x1024, .f32⟩
  | 108 => ⟨S4096x1024, .f32⟩
  | 109 => ⟨S4096x1024, .f32⟩
  | 110 => ⟨S4096x1024, .f32⟩
  | 111 => ⟨S4096x1024, .f32⟩
  | 112 => ⟨S32x128x4x4x64, .f32⟩
  | 113 => ⟨S32x4x64x4x128, .f32⟩
  | 114 => ⟨S32x4x4x128x256, .f32⟩
  | 115 => ⟨S32x4x64x256, .f32⟩
  | 116 => ⟨S32x256x4x64, .f32⟩
  | 117 => ⟨S_, .f32⟩
  | 118 => ⟨S32x4x4x128x257, .f32⟩
  | 119 => ⟨S32x4x4x128x257, .f32⟩
  | 120 => ⟨S32x4x4x128x257, .f32⟩
  | 121 => ⟨S32x4x4x128x257, .f32⟩
  | 122 => ⟨S_, .f32⟩
  | 123 => ⟨S32x4x4x128, .f32⟩
  | 124 => ⟨S32x4x4x128x1, .f32⟩
  | 125 => ⟨S32x4x4x128x1, .f32⟩
  | 126 => ⟨S32x4x4x128x257, .f32⟩
  | 127 => ⟨S32x4x4x128x257, .f32⟩
  | _ => ⟨S4096x4608, .f32⟩

abbrev hbmTy0_2 (i : Nat) : BufTy := match i % 128 with
  | 0 => ⟨S_, .f32⟩
  | 1 => ⟨S32x4x4x128, .f32⟩
  | 2 => ⟨S32x4x4x128x257, .f32⟩
  | 3 => ⟨S32x4x4x128x257, .f32⟩
  | 4 => ⟨S32x4x4x128x257, .f32⟩
  | 5 => ⟨S32x4x4x128x256, .f32⟩
  | 6 => ⟨S32x4x4x128x1, .f32⟩
  | 7 => ⟨S_, .f32⟩
  | 8 => ⟨S4x4, .f32⟩
  | 9 => ⟨S1x4x4x1x1, .f32⟩
  | 10 => ⟨S16, .f32⟩
  | 11 => ⟨S_, .f32⟩
  | 12 => ⟨S32x4x4x128x256, .f32⟩
  | 13 => ⟨S32x4x4x128x256, .f32⟩
  | 14 => ⟨S_, .f32⟩
  | 15 => ⟨S32x4x4x128x256, .f32⟩
  | 16 => ⟨S32x4x4x128x256, .f32⟩
  | 17 => ⟨S32x4x256x128x4, .f32⟩
  | 18 => ⟨S32x4x128x4x64, .f32⟩
  | 19 => ⟨S32x128x4x4x64, .f32⟩
  | 20 => ⟨S32x4x256x64, .f32⟩
  | 21 => ⟨S32x256x4x64, .f32⟩
  | 22 => ⟨S32x128x4x64, .f32⟩
  | 23 => ⟨S32x128x4x64, .f32⟩
  | 24 => ⟨S1x128x4x64, .f32⟩
  | 25 => ⟨S31x128x4x64, .f32⟩
  | 26 => ⟨S_, .f32⟩
  | 27 => ⟨S32x128x4x64, .f32⟩
  | 28 => ⟨S32x128x4x64, .f32⟩
  | 29 => ⟨S4096x4x64, .f32⟩
  | 30 => ⟨S32x128x4x64, .f32⟩
  | 31 => ⟨S32x128x4x64, .f32⟩
  | 32 => ⟨S1x128x4x64, .f32⟩
  | 33 => ⟨S31x128x4x64, .f32⟩
  | 34 => ⟨S_, .f32⟩
  | 35 => ⟨S32x128x4x64, .f32⟩
  | 36 => ⟨S32x128x4x64, .f32⟩
  | 37 => ⟨S4096x4x64, .f32⟩
  | 38 => ⟨S4096x16x64, .f32⟩
  | 39 => ⟨S4096x4x32, .f32⟩
  | 40 => ⟨S4096x4x32, .f32⟩
  | 41 => ⟨S4096x4x32, .f32⟩
  | 42 => ⟨S4096x4x32, .f32⟩
  | 43 => ⟨S4096x4x32, .f32⟩
  | 44 => ⟨S4096x4x32, .f32⟩
  | 45 => ⟨S4096x4x32, .f32⟩
  | 46 => ⟨S4096x4x32, .f32⟩
  | 47 => ⟨S4096x4x32, .f32⟩
  | 48 => ⟨S4096x4x32, .f32⟩
  | 49 => ⟨S4096x4x32, .f32⟩
  | 50 => ⟨S4096x4x32, .f32⟩
  | 51 => ⟨S4096x4x32, .f32⟩
  | 52 => ⟨S_, .f32⟩
  | 53 => ⟨S4096x4x64, .f32⟩
  | 54 => ⟨S_, .f32⟩
  | 55 => ⟨S4096x4x64, .f32⟩
  | 56 => ⟨S4096x4x64, .f32⟩
  | 57 => ⟨S4096x16x32, .f32⟩
  | 58 => ⟨S4096x16x32, .f32⟩
  | 59 => ⟨S4096x16x32, .f32⟩
  | 60 => ⟨S4096x16x32, .f32⟩
  | 61 => ⟨S4096x16x32, .f32⟩
  | 62 => ⟨S4096x16x32, .f32⟩
  | 63 => ⟨S4096x16x32, .f32⟩
  | 64 => ⟨S4096x16x32, .f32⟩
  | 65 => ⟨S4096x16x32, .f32⟩
  | 66 => ⟨S4096x16x32, .f32⟩
  | 67 => ⟨S4096x16x32, .f32⟩
  | 68 => ⟨S4096x16x32, .f32⟩
  | 69 => ⟨S4096x16x32, .f32⟩
  | 70 => ⟨S_, .f32⟩
  | 71 => ⟨S4096x16x64, .f32⟩
  | 72 => ⟨S_, .f32⟩
  | 73 => ⟨S4096x16x64, .f32⟩
  | 74 => ⟨S4096x16x64, .f32⟩
  | 75 => ⟨S4096x256, .f32⟩
  | 76 => ⟨S4096x2x2x64, .f32⟩
  | 77 => ⟨S4096x2x2x64, .f32⟩
  | 78 => ⟨S_, .f32⟩
  | 79 => ⟨S2x64, .f32⟩
  | 80 => ⟨S1x1x2x64, .f32⟩
  | 81 => ⟨S4096x2x2x64, .f32⟩
  | 82 => ⟨S4096x2x2x64, .f32⟩
  | 83 => ⟨S_, .f32⟩
  | 84 => ⟨S2x64, .f32⟩
  | 85 => ⟨S4096x2x2x64, .f32⟩
  | 86 => ⟨S_, .f32⟩
  | 87 => ⟨S4096x2x2, .f32⟩
  | 88 => ⟨S4096x2x2x1, .f32⟩
  | 89 => ⟨S4096x2x2x64, .f32⟩
  | 90 => ⟨S4096x2x2x64, .f32⟩
  | 91 => ⟨S4096x2x2x1, .f32⟩
  | 92 => ⟨S_, .f32⟩
  | 93 => ⟨S4096x2x2x1, .f32⟩
  | 94 => ⟨S4096x2x2x1, .f32⟩
  | 95 => ⟨S_, .f32⟩
  | 96 => ⟨S4096x2x2, .f32⟩
  | 97 => ⟨S4096x2x2x64, .f32⟩
  | 98 => ⟨S4096x2x2x64, .f32⟩
  | 99 => ⟨S4096x2x2x64, .f32⟩
  | 100 => ⟨S4096x2x2x64, .f32⟩
  | 101 => ⟨S4096x2x2x64, .f32⟩
  | 102 => ⟨S4096x256, .f32⟩
  | 103 => ⟨S4096x8x2x64, .f32⟩
  | 104 => ⟨S4096x8x2x64, .f32⟩
  | 105 => ⟨S_, .f32⟩
  | 106 => ⟨S2x64, .f32⟩
  | 107 => ⟨S1x1x2x64, .f32⟩
  | 108 => ⟨S4096x8x2x64, .f32⟩
  | 109 => ⟨S4096x8x2x64, .f32⟩
  | 110 => ⟨S_, .f32⟩
  | 111 => ⟨S2x64, .f32⟩
  | 112 => ⟨S4096x8x2x64, .f32⟩
  | 113 => ⟨S_, .f32⟩
  | 114 => ⟨S4096x8x2, .f32⟩
  | 115 => ⟨S4096x8x2x1, .f32⟩
  | 116 => ⟨S4096x8x2x64, .f32⟩
  | 117 => ⟨S4096x8x2x64, .f32⟩
  | 118 => ⟨S4096x8x2x1, .f32⟩
  | 119 => ⟨S_, .f32⟩
  | 120 => ⟨S4096x8x2x1, .f32⟩
  | 121 => ⟨S4096x8x2x1, .f32⟩
  | 122 => ⟨S_, .f32⟩
  | 123 => ⟨S4096x8x2, .f32⟩
  | 124 => ⟨S4096x8x2x64, .f32⟩
  | 125 => ⟨S4096x8x2x64, .f32⟩
  | 126 => ⟨S4096x8x2x64, .f32⟩
  | 127 => ⟨S4096x8x2x64, .f32⟩
  | _ => ⟨S4096x4608, .f32⟩

abbrev hbmTy0_3 (i : Nat) : BufTy := match i % 128 with
  | 0 => ⟨S4096x8x2x64, .f32⟩
  | 1 => ⟨S4096x1024, .f32⟩
  | 2 => ⟨S4096x1024, .bf16⟩
  | 3 => ⟨S4096x256, .bf16⟩
  | 4 => ⟨S4096x256, .bf16⟩
  | 5 => ⟨S4096x1024, .bf16⟩
  | 6 => ⟨S4096x4608, .bf16⟩
  | 7 => ⟨S1x128, .f32⟩
  | 8 => ⟨S1x128, .f32⟩
  | 9 => ⟨S_, .i32⟩
  | 10 => ⟨S_, .f32⟩
  | 11 => ⟨S128, .f32⟩
  | 12 => ⟨S1x128, .f32⟩
  | _ => ⟨S4096x4608, .f32⟩

abbrev hbmTy (i : Nat) : BufTy := match i / 128 with
  | 0 => hbmTy0_0 i
  | 1 => hbmTy0_1 i
  | 2 => hbmTy0_2 i
  | 3 => hbmTy0_3 i
  | _ => ⟨S4096x4608, .f32⟩

abbrev bufTy : (tb : Table) → Fin (tcTables nBuf tb) → BufTy
  | .hbm, ⟨i, _⟩ => hbmTy i
  | _, _ => ⟨S4096x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_v8 : Ref sig .tc := ⟨.hbm, 17, rfl⟩
abbrev main_cst_0 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_1 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_3 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_v28 : Ref sig .tc := ⟨.hbm, 42, rfl⟩
abbrev main_v29 : Ref sig .tc := ⟨.hbm, 43, rfl⟩
abbrev main_cst_5 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_6 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_7 : Ref sig .tc := ⟨.hbm, 60, rfl⟩
abbrev main_v44 : Ref sig .tc := ⟨.hbm, 61, rfl⟩
abbrev main_v45 : Ref sig .tc := ⟨.hbm, 62, rfl⟩
abbrev main_cst_8 : Ref sig .tc := ⟨.hbm, 63, rfl⟩
abbrev main_v46 : Ref sig .tc := ⟨.hbm, 64, rfl⟩
abbrev main_v47 : Ref sig .tc := ⟨.hbm, 65, rfl⟩
abbrev main_cst_9 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_10 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩
abbrev main_v82 : Ref sig .tc := ⟨.hbm, 102, rfl⟩
abbrev main_v83 : Ref sig .tc := ⟨.hbm, 103, rfl⟩
abbrev main_v84 : Ref sig .tc := ⟨.hbm, 104, rfl⟩
abbrev main_v85 : Ref sig .tc := ⟨.hbm, 105, rfl⟩
abbrev main_v86 : Ref sig .tc := ⟨.hbm, 106, rfl⟩
abbrev main_v87 : Ref sig .tc := ⟨.hbm, 107, rfl⟩
abbrev main_v88 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_cst_11 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_cst_12 : Ref sig .tc := ⟨.hbm, 117, rfl⟩
abbrev main_v96 : Ref sig .tc := ⟨.hbm, 118, rfl⟩
abbrev main_v97 : Ref sig .tc := ⟨.hbm, 119, rfl⟩
abbrev main_v98 : Ref sig .tc := ⟨.hbm, 120, rfl⟩
abbrev main_cst_13 : Ref sig .tc := ⟨.hbm, 121, rfl⟩
abbrev main_v99 : Ref sig .tc := ⟨.hbm, 122, rfl⟩
abbrev main_v100 : Ref sig .tc := ⟨.hbm, 123, rfl⟩
abbrev main_v101 : Ref sig .tc := ⟨.hbm, 124, rfl⟩
abbrev main_cst_14 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_cst_15 : Ref sig .tc := ⟨.hbm, 130, rfl⟩
abbrev main_v106 : Ref sig .tc := ⟨.hbm, 131, rfl⟩
abbrev main_v107 : Ref sig .tc := ⟨.hbm, 132, rfl⟩
abbrev main_v108 : Ref sig .tc := ⟨.hbm, 133, rfl⟩
abbrev main_v109 : Ref sig .tc := ⟨.hbm, 134, rfl⟩
abbrev main_c : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_c_16 : Ref sig .tc := ⟨.hbm, 143, rfl⟩
abbrev main_v117 : Ref sig .tc := ⟨.hbm, 144, rfl⟩
abbrev main_v118 : Ref sig .tc := ⟨.hbm, 145, rfl⟩
abbrev main_c_17 : Ref sig .tc := ⟨.hbm, 146, rfl⟩
abbrev main_v119 : Ref sig .tc := ⟨.hbm, 147, rfl⟩
abbrev main_v120 : Ref sig .tc := ⟨.hbm, 148, rfl⟩
abbrev main_v121 : Ref sig .tc := ⟨.hbm, 149, rfl⟩
abbrev main_v122 : Ref sig .tc := ⟨.hbm, 150, rfl⟩
abbrev main_v123 : Ref sig .tc := ⟨.hbm, 151, rfl⟩
abbrev main_c_18 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_c_19 : Ref sig .tc := ⟨.hbm, 156, rfl⟩
abbrev main_v127 : Ref sig .tc := ⟨.hbm, 157, rfl⟩
abbrev main_v128 : Ref sig .tc := ⟨.hbm, 158, rfl⟩
abbrev main_v129 : Ref sig .tc := ⟨.hbm, 159, rfl⟩
abbrev main_v130 : Ref sig .tc := ⟨.hbm, 160, rfl⟩
abbrev main_v131 : Ref sig .tc := ⟨.hbm, 161, rfl⟩
abbrev main_v132 : Ref sig .tc := ⟨.hbm, 162, rfl⟩
abbrev main_v133 : Ref sig .tc := ⟨.hbm, 163, rfl⟩
abbrev main_v134 : Ref sig .tc := ⟨.hbm, 164, rfl⟩
abbrev main_v135 : Ref sig .tc := ⟨.hbm, 165, rfl⟩
abbrev main_v136 : Ref sig .tc := ⟨.hbm, 166, rfl⟩
abbrev main_v137 : Ref sig .tc := ⟨.hbm, 167, rfl⟩
abbrev main_cst_20 : Ref sig .tc := ⟨.hbm, 168, rfl⟩
abbrev main_call0_v0 : Ref sig .tc := ⟨.hbm, 169, rfl⟩
abbrev main_v138_1 : Ref sig .tc := ⟨.hbm, 170, rfl⟩
abbrev main_call0_v2 : Ref sig .tc := ⟨.hbm, 171, rfl⟩
abbrev main_v138_0 : Ref sig .tc := ⟨.hbm, 172, rfl⟩
abbrev main_call0_cst : Ref sig .tc := ⟨.hbm, 173, rfl⟩
abbrev main_v138_2 : Ref sig .tc := ⟨.hbm, 174, rfl⟩
abbrev main_v139 : Ref sig .tc := ⟨.hbm, 175, rfl⟩
abbrev main_v140 : Ref sig .tc := ⟨.hbm, 176, rfl⟩
abbrev main_v141 : Ref sig .tc := ⟨.hbm, 177, rfl⟩
abbrev main_cst_21 : Ref sig .tc := ⟨.hbm, 178, rfl⟩
abbrev main_v142 : Ref sig .tc := ⟨.hbm, 179, rfl⟩
abbrev main_v143 : Ref sig .tc := ⟨.hbm, 180, rfl⟩
abbrev main_v144 : Ref sig .tc := ⟨.hbm, 181, rfl⟩
abbrev main_v145 : Ref sig .tc := ⟨.hbm, 182, rfl⟩
abbrev main_v146 : Ref sig .tc := ⟨.hbm, 183, rfl⟩
abbrev main_cst_22 : Ref sig .tc := ⟨.hbm, 184, rfl⟩
abbrev main_v147 : Ref sig .tc := ⟨.hbm, 185, rfl⟩
abbrev main_cst_23 : Ref sig .tc := ⟨.hbm, 186, rfl⟩
abbrev main_v148 : Ref sig .tc := ⟨.hbm, 187, rfl⟩
abbrev main_v149 : Ref sig .tc := ⟨.hbm, 188, rfl⟩
abbrev main_cst_24 : Ref sig .tc := ⟨.hbm, 189, rfl⟩
abbrev main_v150 : Ref sig .tc := ⟨.hbm, 190, rfl⟩
abbrev main_v151 : Ref sig .tc := ⟨.hbm, 191, rfl⟩
abbrev main_cst_25 : Ref sig .tc := ⟨.hbm, 192, rfl⟩
abbrev main_v152 : Ref sig .tc := ⟨.hbm, 193, rfl⟩
abbrev main_v153 : Ref sig .tc := ⟨.hbm, 194, rfl⟩
abbrev main_cst_26 : Ref sig .tc := ⟨.hbm, 195, rfl⟩
abbrev main_v154 : Ref sig .tc := ⟨.hbm, 196, rfl⟩
abbrev main_cst_27 : Ref sig .tc := ⟨.hbm, 197, rfl⟩
abbrev main_v155 : Ref sig .tc := ⟨.hbm, 198, rfl⟩
abbrev main_cst_28 : Ref sig .tc := ⟨.hbm, 199, rfl⟩
abbrev main_v156 : Ref sig .tc := ⟨.hbm, 200, rfl⟩
abbrev main_v157 : Ref sig .tc := ⟨.hbm, 201, rfl⟩
abbrev main_v158 : Ref sig .tc := ⟨.hbm, 202, rfl⟩
abbrev main_v159 : Ref sig .tc := ⟨.hbm, 203, rfl⟩
abbrev main_v160 : Ref sig .tc := ⟨.hbm, 204, rfl⟩
abbrev main_v161 : Ref sig .tc := ⟨.hbm, 205, rfl⟩
abbrev main_v162 : Ref sig .tc := ⟨.hbm, 206, rfl⟩
abbrev main_cst_29 : Ref sig .tc := ⟨.hbm, 207, rfl⟩
abbrev main_v163 : Ref sig .tc := ⟨.hbm, 208, rfl⟩
abbrev main_v164 : Ref sig .tc := ⟨.hbm, 209, rfl⟩
abbrev main_v165 : Ref sig .tc := ⟨.hbm, 210, rfl⟩
abbrev main_v166 : Ref sig .tc := ⟨.hbm, 211, rfl⟩
abbrev main_v167 : Ref sig .tc := ⟨.hbm, 212, rfl⟩
abbrev main_cst_30 : Ref sig .tc := ⟨.hbm, 213, rfl⟩
abbrev main_v168 : Ref sig .tc := ⟨.hbm, 214, rfl⟩
abbrev main_v169 : Ref sig .tc := ⟨.hbm, 215, rfl⟩
abbrev main_v170 : Ref sig .tc := ⟨.hbm, 216, rfl⟩
abbrev main_v171 : Ref sig .tc := ⟨.hbm, 217, rfl⟩
abbrev main_v172 : Ref sig .tc := ⟨.hbm, 218, rfl⟩
abbrev main_v173 : Ref sig .tc := ⟨.hbm, 219, rfl⟩
abbrev main_call1_v0 : Ref sig .tc := ⟨.hbm, 220, rfl⟩
abbrev main_call1_v1 : Ref sig .tc := ⟨.hbm, 221, rfl⟩
abbrev main_call1_cst : Ref sig .tc := ⟨.hbm, 222, rfl⟩
abbrev main_call1_v2 : Ref sig .tc := ⟨.hbm, 223, rfl⟩
abbrev main_call1_v3 : Ref sig .tc := ⟨.hbm, 224, rfl⟩
abbrev main_call1_cst_0 : Ref sig .tc := ⟨.hbm, 225, rfl⟩
abbrev main_call1_v4 : Ref sig .tc := ⟨.hbm, 226, rfl⟩
abbrev main_v174_2 : Ref sig .tc := ⟨.hbm, 227, rfl⟩
abbrev main_call1_cst_1 : Ref sig .tc := ⟨.hbm, 228, rfl⟩
abbrev main_call1_v6 : Ref sig .tc := ⟨.hbm, 229, rfl⟩
abbrev main_call1_v7 : Ref sig .tc := ⟨.hbm, 230, rfl⟩
abbrev main_v174_1 : Ref sig .tc := ⟨.hbm, 231, rfl⟩
abbrev main_v174_0 : Ref sig .tc := ⟨.hbm, 232, rfl⟩
abbrev main_v175 : Ref sig .tc := ⟨.hbm, 233, rfl⟩
abbrev main_v176 : Ref sig .tc := ⟨.hbm, 234, rfl⟩
abbrev main_v177 : Ref sig .tc := ⟨.hbm, 235, rfl⟩
abbrev main_call2_v0 : Ref sig .tc := ⟨.hbm, 236, rfl⟩
abbrev main_call2_v1 : Ref sig .tc := ⟨.hbm, 237, rfl⟩
abbrev main_call2_v2 : Ref sig .tc := ⟨.hbm, 238, rfl⟩
abbrev main_v178 : Ref sig .tc := ⟨.hbm, 239, rfl⟩
abbrev main_v179 : Ref sig .tc := ⟨.hbm, 240, rfl⟩
abbrev main_v180 : Ref sig .tc := ⟨.hbm, 241, rfl⟩
abbrev main_v181 : Ref sig .tc := ⟨.hbm, 242, rfl⟩
abbrev main_v182 : Ref sig .tc := ⟨.hbm, 243, rfl⟩
abbrev main_v183 : Ref sig .tc := ⟨.hbm, 244, rfl⟩
abbrev main_cst_31 : Ref sig .tc := ⟨.hbm, 245, rfl⟩
abbrev main_v184 : Ref sig .tc := ⟨.hbm, 246, rfl⟩
abbrev main_v185 : Ref sig .tc := ⟨.hbm, 247, rfl⟩
abbrev main_v186 : Ref sig .tc := ⟨.hbm, 248, rfl⟩
abbrev main_v187 : Ref sig .tc := ⟨.hbm, 249, rfl⟩
abbrev main_cst_32 : Ref sig .tc := ⟨.hbm, 250, rfl⟩
abbrev main_v188 : Ref sig .tc := ⟨.hbm, 251, rfl⟩
abbrev main_v189 : Ref sig .tc := ⟨.hbm, 252, rfl⟩
abbrev main_v190 : Ref sig .tc := ⟨.hbm, 253, rfl⟩
abbrev main_v191 : Ref sig .tc := ⟨.hbm, 254, rfl⟩
abbrev main_v192 : Ref sig .tc := ⟨.hbm, 255, rfl⟩
abbrev main_cst_33 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_cst_34 : Ref sig .tc := ⟨.hbm, 263, rfl⟩
abbrev main_v199 : Ref sig .tc := ⟨.hbm, 264, rfl⟩
abbrev main_v200 : Ref sig .tc := ⟨.hbm, 265, rfl⟩
abbrev main_v201 : Ref sig .tc := ⟨.hbm, 266, rfl⟩
abbrev main_call3_cst : Ref sig .tc := ⟨.hbm, 267, rfl⟩
abbrev main_call3_v0 : Ref sig .tc := ⟨.hbm, 268, rfl⟩
abbrev main_v202 : Ref sig .tc := ⟨.hbm, 269, rfl⟩
abbrev main_cst_35 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_v209 : Ref sig .tc := ⟨.hbm, 277, rfl⟩
abbrev main_v210 : Ref sig .tc := ⟨.hbm, 278, rfl⟩
abbrev main_v211 : Ref sig .tc := ⟨.hbm, 279, rfl⟩
abbrev main_v212 : Ref sig .tc := ⟨.hbm, 280, rfl⟩
abbrev main_v213 : Ref sig .tc := ⟨.hbm, 281, rfl⟩
abbrev main_cst_36 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218 : Ref sig .tc := ⟨.hbm, 287, rfl⟩
abbrev main_v219 : Ref sig .tc := ⟨.hbm, 288, rfl⟩
abbrev main_v220 : Ref sig .tc := ⟨.hbm, 289, rfl⟩
abbrev main_cst_37 : Ref sig .tc := ⟨.hbm, 290, rfl⟩
abbrev main_v221 : Ref sig .tc := ⟨.hbm, 291, rfl⟩
abbrev main_v222 : Ref sig .tc := ⟨.hbm, 292, rfl⟩
abbrev main_v223 : Ref sig .tc := ⟨.hbm, 293, rfl⟩
abbrev main_v224 : Ref sig .tc := ⟨.hbm, 294, rfl⟩
abbrev main_v225 : Ref sig .tc := ⟨.hbm, 295, rfl⟩
abbrev main_v226 : Ref sig .tc := ⟨.hbm, 296, rfl⟩
abbrev main_v227 : Ref sig .tc := ⟨.hbm, 297, rfl⟩
abbrev main_v228 : Ref sig .tc := ⟨.hbm, 298, rfl⟩
abbrev main_v229 : Ref sig .tc := ⟨.hbm, 299, rfl⟩
abbrev main_v230 : Ref sig .tc := ⟨.hbm, 300, rfl⟩
abbrev main_v231 : Ref sig .tc := ⟨.hbm, 301, rfl⟩
abbrev main_v232 : Ref sig .tc := ⟨.hbm, 302, rfl⟩
abbrev main_v233 : Ref sig .tc := ⟨.hbm, 303, rfl⟩
abbrev main_v234 : Ref sig .tc := ⟨.hbm, 304, rfl⟩
abbrev main_v235 : Ref sig .tc := ⟨.hbm, 305, rfl⟩
abbrev main_v236 : Ref sig .tc := ⟨.hbm, 306, rfl⟩
abbrev main_v237 : Ref sig .tc := ⟨.hbm, 307, rfl⟩
abbrev main_cst_38 : Ref sig .tc := ⟨.hbm, 308, rfl⟩
abbrev main_v238 : Ref sig .tc := ⟨.hbm, 309, rfl⟩
abbrev main_cst_39 : Ref sig .tc := ⟨.hbm, 310, rfl⟩
abbrev main_v239 : Ref sig .tc := ⟨.hbm, 311, rfl⟩
abbrev main_v240 : Ref sig .tc := ⟨.hbm, 312, rfl⟩
abbrev main_v241 : Ref sig .tc := ⟨.hbm, 313, rfl⟩
abbrev main_v242 : Ref sig .tc := ⟨.hbm, 314, rfl⟩
abbrev main_v243 : Ref sig .tc := ⟨.hbm, 315, rfl⟩
abbrev main_v244 : Ref sig .tc := ⟨.hbm, 316, rfl⟩
abbrev main_v245 : Ref sig .tc := ⟨.hbm, 317, rfl⟩
abbrev main_v246 : Ref sig .tc := ⟨.hbm, 318, rfl⟩
abbrev main_v247 : Ref sig .tc := ⟨.hbm, 319, rfl⟩
abbrev main_v248 : Ref sig .tc := ⟨.hbm, 320, rfl⟩
abbrev main_v249 : Ref sig .tc := ⟨.hbm, 321, rfl⟩
abbrev main_v250 : Ref sig .tc := ⟨.hbm, 322, rfl⟩
abbrev main_v251 : Ref sig .tc := ⟨.hbm, 323, rfl⟩
abbrev main_v252 : Ref sig .tc := ⟨.hbm, 324, rfl⟩
abbrev main_v253 : Ref sig .tc := ⟨.hbm, 325, rfl⟩
abbrev main_cst_40 : Ref sig .tc := ⟨.hbm, 326, rfl⟩
abbrev main_v254 : Ref sig .tc := ⟨.hbm, 327, rfl⟩
abbrev main_cst_41 : Ref sig .tc := ⟨.hbm, 328, rfl⟩
abbrev main_v255 : Ref sig .tc := ⟨.hbm, 329, rfl⟩
abbrev main_v256 : Ref sig .tc := ⟨.hbm, 330, rfl⟩
abbrev main_v257 : Ref sig .tc := ⟨.hbm, 331, rfl⟩
abbrev main_v258 : Ref sig .tc := ⟨.hbm, 332, rfl⟩
abbrev main_v259 : Ref sig .tc := ⟨.hbm, 333, rfl⟩
abbrev main_cst_42 : Ref sig .tc := ⟨.hbm, 334, rfl⟩
abbrev main_v260 : Ref sig .tc := ⟨.hbm, 335, rfl⟩
abbrev main_v261 : Ref sig .tc := ⟨.hbm, 336, rfl⟩
abbrev main_v262 : Ref sig .tc := ⟨.hbm, 337, rfl⟩
abbrev main_v263 : Ref sig .tc := ⟨.hbm, 338, rfl⟩
abbrev main_cst_43 : Ref sig .tc := ⟨.hbm, 339, rfl⟩
abbrev main_v264 : Ref sig .tc := ⟨.hbm, 340, rfl⟩
abbrev main_v265 : Ref sig .tc := ⟨.hbm, 341, rfl⟩
abbrev main_cst_44 : Ref sig .tc := ⟨.hbm, 342, rfl⟩
abbrev main_v266 : Ref sig .tc := ⟨.hbm, 343, rfl⟩
abbrev main_v267 : Ref sig .tc := ⟨.hbm, 344, rfl⟩
abbrev main_v268 : Ref sig .tc := ⟨.hbm, 345, rfl⟩
abbrev main_v269 : Ref sig .tc := ⟨.hbm, 346, rfl⟩
abbrev main_v270 : Ref sig .tc := ⟨.hbm, 347, rfl⟩
abbrev main_cst_45 : Ref sig .tc := ⟨.hbm, 348, rfl⟩
abbrev main_v271 : Ref sig .tc := ⟨.hbm, 349, rfl⟩
abbrev main_v272 : Ref sig .tc := ⟨.hbm, 350, rfl⟩
abbrev main_cst_46 : Ref sig .tc := ⟨.hbm, 351, rfl⟩
abbrev main_v273 : Ref sig .tc := ⟨.hbm, 352, rfl⟩
abbrev main_v274 : Ref sig .tc := ⟨.hbm, 353, rfl⟩
abbrev main_v275 : Ref sig .tc := ⟨.hbm, 354, rfl⟩
abbrev main_v276 : Ref sig .tc := ⟨.hbm, 355, rfl⟩
abbrev main_v277 : Ref sig .tc := ⟨.hbm, 356, rfl⟩
abbrev main_v278 : Ref sig .tc := ⟨.hbm, 357, rfl⟩
abbrev main_v279 : Ref sig .tc := ⟨.hbm, 358, rfl⟩
abbrev main_v280 : Ref sig .tc := ⟨.hbm, 359, rfl⟩
abbrev main_v281 : Ref sig .tc := ⟨.hbm, 360, rfl⟩
abbrev main_cst_47 : Ref sig .tc := ⟨.hbm, 361, rfl⟩
abbrev main_v282 : Ref sig .tc := ⟨.hbm, 362, rfl⟩
abbrev main_v283 : Ref sig .tc := ⟨.hbm, 363, rfl⟩
abbrev main_v284 : Ref sig .tc := ⟨.hbm, 364, rfl⟩
abbrev main_v285 : Ref sig .tc := ⟨.hbm, 365, rfl⟩
abbrev main_cst_48 : Ref sig .tc := ⟨.hbm, 366, rfl⟩
abbrev main_v286 : Ref sig .tc := ⟨.hbm, 367, rfl⟩
abbrev main_v287 : Ref sig .tc := ⟨.hbm, 368, rfl⟩
abbrev main_cst_49 : Ref sig .tc := ⟨.hbm, 369, rfl⟩
abbrev main_v288 : Ref sig .tc := ⟨.hbm, 370, rfl⟩
abbrev main_v289 : Ref sig .tc := ⟨.hbm, 371, rfl⟩
abbrev main_v290 : Ref sig .tc := ⟨.hbm, 372, rfl⟩
abbrev main_v291 : Ref sig .tc := ⟨.hbm, 373, rfl⟩
abbrev main_v292 : Ref sig .tc := ⟨.hbm, 374, rfl⟩
abbrev main_cst_50 : Ref sig .tc := ⟨.hbm, 375, rfl⟩
abbrev main_v293 : Ref sig .tc := ⟨.hbm, 376, rfl⟩
abbrev main_v294 : Ref sig .tc := ⟨.hbm, 377, rfl⟩
abbrev main_cst_51 : Ref sig .tc := ⟨.hbm, 378, rfl⟩
abbrev main_v295 : Ref sig .tc := ⟨.hbm, 379, rfl⟩
abbrev main_v296 : Ref sig .tc := ⟨.hbm, 380, rfl⟩
abbrev main_v297 : Ref sig .tc := ⟨.hbm, 381, rfl⟩
abbrev main_v298 : Ref sig .tc := ⟨.hbm, 382, rfl⟩
abbrev main_v299 : Ref sig .tc := ⟨.hbm, 383, rfl⟩
abbrev main_v300 : Ref sig .tc := ⟨.hbm, 384, rfl⟩
abbrev main_v301 : Ref sig .tc := ⟨.hbm, 385, rfl⟩
abbrev main_v302 : Ref sig .tc := ⟨.hbm, 386, rfl⟩
abbrev main_v303 : Ref sig .tc := ⟨.hbm, 387, rfl⟩
abbrev main_v304 : Ref sig .tc := ⟨.hbm, 388, rfl⟩
abbrev main_v305 : Ref sig .tc := ⟨.hbm, 389, rfl⟩
abbrev main_v306 : Ref sig .tc := ⟨.hbm, 390, rfl⟩
abbrev main_v307 : Ref sig .tc := ⟨.hbm, 391, rfl⟩
abbrev main_v308 : Ref sig .tc := ⟨.hbm, 392, rfl⟩
abbrev main_c_52 : Ref sig .tc := ⟨.hbm, 393, rfl⟩
abbrev main_call4_v0 : Ref sig .tc := ⟨.hbm, 394, rfl⟩
abbrev main_v309 : Ref sig .tc := ⟨.hbm, 395, rfl⟩
abbrev main_v310 : Ref sig .tc := ⟨.hbm, 396, rfl⟩

abbrev nD : Nat := 1
abbrev τ : Topo := Topo.v7x

variable {F : FTy → Type} [FloatOps F]
-- ==== Proof.Norm.lean ====
/-
  The gradient of a root-mean-square norm, row by row, over the extended reals.

  A row `x` of `n` values is scaled by `r = rsqrt (mean x² + e)`. Two ways to write the gradient of that row for the
  scaled cotangent `g` are compared: the one by hand, `r (g − x r mean(g x r))`, and the one that differentiation of
  the mean, the reciprocal root and the two factors of the square gives. They agree at every extended real: where an
  entry of the row is infinite, `r` is zero and both are zero; where none is, `r` is a positive real and scaling by it
  distributes over every sum.
-/
module

public import Idealize.ShloMosaic.PureOps.Ideal.Laws
public import Idealize.ShloMosaic.Lib.IdealHost

@[expose] public section

noncomputable section

open Idealize.ShloMosaic

namespace NormGrad

/-- A nonnegative real factor goes into a finite sum of extended reals. -/
theorem mul_sum {ι : Type} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, ← ih,
      EReal.left_distrib_of_nonneg_of_ne_top (by exact_mod_cast hr) (EReal.coe_ne_top r)]

/-- A square is nonnegative. -/
theorem mul_self_nonneg (a : EReal) : 0 ≤ a * a := by
  rcases le_total 0 a with h | h
  · exact mul_nonneg h h
  · have := mul_nonneg (EReal.neg_nonneg.mpr h) (EReal.neg_nonneg.mpr h)
    rwa [neg_mul_neg] at this

/-- A finite sum of nonnegative terms one of which is `⊤` is `⊤`. -/
theorem sum_eq_top {ι : Type} [Fintype ι] (f : ι → EReal) (h0 : ∀ i, 0 ≤ f i) (k : ι) (hk : f k = ⊤) : ∑ i, f i = ⊤ := by
  classical
  rw [← Finset.add_sum_erase _ _ (Finset.mem_univ k), hk]
  exact EReal.top_add_of_ne_bot (ne_of_gt (lt_of_lt_of_le EReal.bot_lt_zero (Finset.sum_nonneg fun i _ => h0 i)))

/-- An extended real added to itself is its double. -/
theorem add_self_eq (t : EReal) : t + t = t * ((2 : ℝ) : EReal) := by
  induction t with
  | bot => rw [EReal.bot_mul_coe_of_pos two_pos]; rfl
  | top => rw [EReal.top_mul_coe_of_pos two_pos]; rfl
  | coe a => rw [← EReal.coe_add, ← EReal.coe_mul]; congr 1; ring

/-- The square of an infinite value is `⊤`. -/
theorem mul_self_eq_top {a : EReal} (h : a = ⊥ ∨ a = ⊤) : a * a = ⊤ := by
  rcases h with rfl | rfl <;> simp

/-- A row with an infinite entry has the factor zero. -/
theorem rsqrt_eq_zero {n : ℕ} (c e : ℝ) (hc : 0 < c) (x : Fin n → EReal) (k : Fin n) (hk : x k = ⊥ ∨ x k = ⊤) :
    Ideal.div (∑ k, x k * x k) (c : EReal) + (e : EReal) = ⊤ := by
  rw [sum_eq_top _ (fun i => mul_self_nonneg _) k (mul_self_eq_top hk), Ideal.div_coe hc.ne',
    EReal.top_mul_coe_of_pos (by positivity), EReal.top_add_coe]

/-- A row of reals has a positive real mean square, and a positive real factor. -/
theorem meanSq_coe {n : ℕ} (c e : ℝ) (hc : 0 < c) (he : 0 < e) (X : Fin n → ℝ) :
    ∃ M : ℝ, 0 < M ∧ Ideal.div (∑ k, (X k : EReal) * (X k : EReal)) (c : EReal) + (e : EReal) = (M : EReal) := by
  refine ⟨(∑ k, X k * X k) * (1 / c) + e, ?_, ?_⟩
  · have : 0 ≤ ∑ k, X k * X k := Finset.sum_nonneg fun k _ => _root_.mul_self_nonneg _
    positivity
  · rw [Ideal.div_coe hc.ne', EReal.coe_add, EReal.coe_mul]
    congr 2
    simp only [← EReal.coe_mul]
    exact (map_sum (⟨⟨Real.toEReal, EReal.coe_zero⟩, EReal.coe_add⟩ : ℝ →+ EReal) _ _).symm

/-- The factor of a positive real mean square. -/
theorem rsqrt_pos {M : ℝ} (hM : 0 < M) : Ideal.rsqrt (M : EReal) = (((Real.sqrt M)⁻¹ : ℝ) : EReal) := by
  show (if M < 0 then ⊥ else if M = 0 then ⊤ else ((Real.sqrt M)⁻¹ : ℝ) : EReal) = _
  rw [if_neg hM.not_gt, if_neg hM.ne']

/-- THE GRADIENT OF THE NORM. By hand (left): `r (g − x r mean(g x r))`. By differentiation (right): through the factor
    `r`, and twice through the square under the mean. -/
theorem grad_eq {n : ℕ} (c e h : ℝ) (hc : 0 < c) (he : 0 < e) (hh : h = -(1 / 2)) (x g : Fin n → EReal) (l : Fin n)
    (ms r : EReal) (hms : ms = Ideal.div (∑ k, x k * x k) (c : EReal) + (e : EReal)) (hr : r = Ideal.rsqrt ms) :
    r * (g l - (x l * r) * Ideal.div (∑ k, g k * (x k * r)) (c : EReal))
      = g l * r + x l * Ideal.div ((∑ k, x k * g k) * ((h : EReal) * Ideal.div r ms)) (c : EReal)
        + Ideal.div ((∑ k, x k * g k) * ((h : EReal) * Ideal.div r ms)) (c : EReal) * x l := by
  by_cases hx : ∃ k, x k = ⊥ ∨ x k = ⊤
  · obtain ⟨k, hk⟩ := hx
    have h1 : ms = ⊤ := hms.trans (rsqrt_eq_zero c e hc x k hk)
    have h2 : r = 0 := by rw [hr, h1]; rfl
    have h3 : Ideal.div r ms = 0 := by rw [h1, h2]; simp [Ideal.div]
    rw [h3, h2]
    simp [Ideal.div_coe hc.ne']
  · push Not at hx
    obtain ⟨X, rfl⟩ : ∃ X : Fin n → ℝ, x = fun k => (X k : EReal) :=
      ⟨fun k => (x k).toReal, funext fun k => (EReal.coe_toReal (hx k).2 (hx k).1).symm⟩
    obtain ⟨M, hM, hMe⟩ := meanSq_coe c e hc he X
    have h1 : ms = (M : EReal) := hms.trans hMe
    have h2 : r = (((Real.sqrt M)⁻¹ : ℝ) : EReal) := by rw [hr, h1, rsqrt_pos hM]
    have hR : 0 < (Real.sqrt M)⁻¹ := inv_pos.mpr (Real.sqrt_pos.mpr hM)
    have hRM : (Real.sqrt M)⁻¹ * (1 / M) = (Real.sqrt M)⁻¹ * (Real.sqrt M)⁻¹ * (Real.sqrt M)⁻¹ := by
      rw [mul_assoc, ← mul_inv, Real.mul_self_sqrt hM.le, one_div]
    generalize (Real.sqrt M)⁻¹ = R at h2 hR hRM
    have hS : ∑ k, g k * ((X k : EReal) * r) = r * ∑ k, (X k : EReal) * g k := by
      rw [h2, mul_sum _ R hR.le]
      exact Finset.sum_congr rfl fun k _ => by ac_rfl
    rw [hS, h1, h2]
    generalize ∑ k, (X k : EReal) * g k = S
    rw [Ideal.div_coe hc.ne', Ideal.div_coe hc.ne', Ideal.div_coe hM.ne', sub_eq_add_neg,
      EReal.left_distrib_of_nonneg_of_ne_top (by exact_mod_cast hR.le) (EReal.coe_ne_top R), add_assoc]
    refine congrArg₂ (· + ·) (mul_comm _ _) ?_
    rw [mul_comm (S * _ * _) (X l : EReal), add_self_eq]
    have hl : (R : EReal) * -((X l : EReal) * R * ((R : EReal) * S * ((1 / c : ℝ) : EReal)))
        = S * ((-(R * X l * R * R * (1 / c)) : ℝ) : EReal) := by
      rw [EReal.coe_neg, mul_neg, mul_neg]
      simp only [EReal.coe_mul]
      congr 1
      ac_rfl
    have hr' : (X l : EReal) * (S * ((h : EReal) * ((R : EReal) * ((1 / M : ℝ) : EReal))) * ((1 / c : ℝ) : EReal)) * ((2 : ℝ) : EReal)
        = S * ((X l * (h * (R * (1 / M))) * (1 / c) * 2 : ℝ) : EReal) := by
      simp only [EReal.coe_mul]
      ac_rfl
    rw [hl, hr', hRM, hh]
    congr 2
    ring

/-! ## The printed constants -/

theorem ofBits_1024 : Ideal.ofBits .f32 0x44800000#32 = ((1024 : ℝ) : EReal) := by
  simp [Ideal.ofBits, Ideal.ieee, -EReal.coe_mul]; norm_num

theorem ofBits_2048 : Ideal.ofBits .f32 0x45000000#32 = ((2048 : ℝ) : EReal) := by
  simp [Ideal.ofBits, Ideal.ieee, -EReal.coe_mul]; norm_num

theorem ofBits_neg_half : Ideal.ofBits .f32 0xBF000000#32 = ((-(1 / 2) : ℝ) : EReal) := by
  simp [Ideal.ofBits, Ideal.ieee, -EReal.coe_mul]; norm_num

/-- The norm's small constant is a positive real. -/
theorem ofBits_eps : ∃ e : ℝ, 0 < e ∧ Ideal.ofBits .f32 0x358637BD#32 = (e : EReal) := by
  refine ⟨8796093 / 8796093022208, by norm_num, ?_⟩
  simp [Ideal.ofBits, Ideal.ieee, -EReal.coe_mul]
  norm_num

end NormGrad
-- ==== Proof.AttnMath.lean ====
/-
  The mathematics of one row of sliding-window attention with a sink, on extended reals.

  A query or key row of 64 values is scaled by its reciprocal root mean square and rotated by its position. The two
  programs lay such rows out differently: two heads in a tile of 128 lanes, or one head to a row.
-/
module

public import proofs.«01_k».proof.Proof.Norm
public import Idealize.ShloMosaic.Lib.Pointwise

@[expose] public section

set_option maxRecDepth 16384

noncomputable section

open Idealize.ShloMosaic

namespace AttnMath

abbrev inv64 : EReal := Ideal.ofBits .f32 1015021568#32
abbrev n64 : EReal := Ideal.ofBits .f32 1115684864#32
abbrev epsv : EReal := Ideal.ofBits .f32 897988541#32
abbrev eighth : EReal := Ideal.ofBits .f32 1040187392#32

theorem inv64_eq : inv64 = ((1 / 64 : ℝ) : EReal) := by
  simp [inv64, Ideal.ofBits, Ideal.ieee, -EReal.coe_mul]; norm_num
theorem n64_eq : n64 = ((64 : ℝ) : EReal) := by
  simp [n64, Ideal.ofBits, Ideal.ieee, -EReal.coe_mul]; norm_num
theorem eighth_eq : eighth = ((1 / 8 : ℝ) : EReal) := by
  simp [eighth, Ideal.ofBits, Ideal.ieee, -EReal.coe_mul]; norm_num
theorem eps_eq : ∃ e : ℝ, 0 < e ∧ epsv = (e : EReal) := by
  refine ⟨(8796093 : ℝ) / 8796093022208, by norm_num, ?_⟩
  simp [epsv, Ideal.ofBits, Ideal.ieee, -EReal.coe_mul]; norm_num

/-- The reciprocal root mean square of a row of 64. -/
def rs (x : Fin 64 → EReal) : EReal := Ideal.rsqrt (Ideal.div (∑ d, x d * x d) n64 + epsv)

/-- A row scaled by its reciprocal root mean square and by the weights. -/
def nrm (x w : Fin 64 → EReal) (d : Fin 64) : EReal := x d * rs x * w d

/-- The scaled row rotated by the angles whose cosines and sines are given. -/
def rot (x w : Fin 64 → EReal) (C S : Fin 32 → EReal) (d : Fin 64) : EReal :=
  if h : d.val < 32 then nrm x w d * C ⟨d.val, h⟩ - nrm x w ⟨32 + d.val, by omega⟩ * S ⟨d.val, h⟩
  else nrm x w ⟨32 + (d.val - 32), by omega⟩ * C ⟨d.val - 32, by omega⟩ + nrm x w ⟨d.val - 32, by omega⟩ * S ⟨d.val - 32, by omega⟩

theorem sel_if (p : Prop) [Decidable p] (a b : EReal) : Scalar.select (if p then 1#1 else 0#1) a b = if p then a else b := by
  split_ifs <;> rfl

theorem lo_eq : ∀ l : Fin 128, IntOp.cmpi .slt (BitVec.ofNat 32 l.val) 64#32 = if l.val < 64 then 1#1 else 0#1 := by decide +kernel

/-- The lane's place within its head, as the program computes it. -/
abbrev place (l : ℕ) : BitVec 32 := IntOp.remsi ArithUnit.vector (BitVec.ofNat 32 l) (Scalar.select (Scalar.cmpi .eq 64#32 0#32) 1#32 64#32)

/-- The first half of a head, as the program tells it. -/
abbrev firstHalf (l : ℕ) : BitVec 1 :=
  IntOp.cmpi .slt (Scalar.select (IntOp.andi (IntOp.xori (IntOp.cmpi .slt (place l) 0#32)
      (Scalar.cmpi .slt (Scalar.select (Scalar.cmpi .eq 64#32 0#32) 1#32 64#32) 0#32)) (IntOp.cmpi .ne (place l) 0#32))
    (IntOp.addi (place l) (Scalar.select (Scalar.cmpi .eq 64#32 0#32) 1#32 64#32)) (place l)) 32#32

theorem first_eq : ∀ l : Fin 128, firstHalf l.val = if l.val % 64 < 32 then 1#1 else 0#1 := by decide +kernel

/-- The sum over the half of a tile a lane lies in, as the program takes it. -/
def halfSum (t : Fin 128 → EReal) (l : Fin 128) : EReal :=
  Scalar.select (IntOp.cmpi .slt (BitVec.ofNat 32 l.val) 64#32)
    (∑ x : Fin 128, Scalar.select (IntOp.cmpi .slt (BitVec.ofNat 32 x.val) 64#32) (t x * t x) 0)
    (∑ x : Fin 128, Scalar.select (IntOp.cmpi .slt (BitVec.ofNat 32 x.val) 64#32) 0 (t x * t x))

/-- One row of a tile of two heads, scaled. -/
def tnrm (t w : Fin 128 → EReal) (l : Fin 128) : EReal := t l * Ideal.rsqrt (halfSum t l * inv64 + epsv) * w l

/-- One row of a tile of two heads, scaled and rotated. -/
def tile (t w c s : Fin 128 → EReal) (l : Fin 128) : EReal :=
  tnrm t w l * c l + Scalar.select (firstHalf l.val)
    (0 - tnrm t w ⟨(l.val + 128 - 96) % 128, Nat.mod_lt _ (by norm_num)⟩) (tnrm t w ⟨(l.val + 128 - 32) % 128, Nat.mod_lt _ (by norm_num)⟩) * s l

theorem halfSum_eq (t : Fin 128 → EReal) (a : Fin 2) (d : Fin 64) :
    halfSum t ⟨64 * a.val + d.val, by omega⟩ = ∑ e : Fin 64, t ⟨64 * a.val + e.val, by omega⟩ * t ⟨64 * a.val + e.val, by omega⟩ := by
  unfold halfSum
  rw [lo_eq, sel_if]
  simp only [lo_eq, sel_if]
  rw [Fin.sum_univ_two_halves 64 64 rfl, Fin.sum_univ_two_halves 64 64 rfl]
  have hd := d.isLt
  match a with
  | 0 =>
    rw [if_pos (by simp)]
    simp
  | 1 =>
    rw [if_neg (by simp)]
    simp

theorem tnrm_eq (t w : Fin 128 → EReal) (a : Fin 2) (d : Fin 64) :
    tnrm t w ⟨64 * a.val + d.val, by omega⟩ = nrm (fun d => t ⟨64 * a.val + d.val, by omega⟩) (fun d => w ⟨64 * a.val + d.val, by omega⟩) d := by
  unfold tnrm nrm rs
  rw [halfSum_eq, n64_eq, Ideal.div_coe (by norm_num), inv64_eq]

/-- Each half of the tile is one head. -/
theorem tile_eq (t w c s : Fin 128 → EReal) (C S : Fin 32 → EReal) (hc : ∀ l : Fin 128, c l = C ⟨l.val % 32, Nat.mod_lt _ (by norm_num)⟩)
    (hs : ∀ l : Fin 128, s l = S ⟨l.val % 32, Nat.mod_lt _ (by norm_num)⟩) (a : Fin 2) (d : Fin 64) :
    tile t w c s ⟨64 * a.val + d.val, by omega⟩
      = rot (fun d => t ⟨64 * a.val + d.val, by omega⟩) (fun d => w ⟨64 * a.val + d.val, by omega⟩) C S d := by
  unfold tile rot
  rw [first_eq, sel_if, hc, hs, tnrm_eq]
  have hd := d.isLt
  have ha := a.isLt
  by_cases h : d.val < 32
  · rw [dif_pos h, if_pos (by simp only; omega)]
    have e1 : (⟨(64 * a.val + d.val + 128 - 96) % 128, Nat.mod_lt _ (by norm_num)⟩ : Fin 128)
        = ⟨64 * a.val + (⟨32 + d.val, by omega⟩ : Fin 64).val, by simp only; omega⟩ := by ext; simp only; omega
    have e2 : (⟨(64 * a.val + d.val) % 32, Nat.mod_lt _ (by norm_num)⟩ : Fin 32) = ⟨d.val, h⟩ := by ext; simp only; omega
    rw [e1, tnrm_eq, e2, zero_sub, sub_eq_add_neg, EReal.neg_mul]
  · rw [dif_neg h, if_neg (by simp only; omega)]
    have e1 : (⟨(64 * a.val + d.val + 128 - 32) % 128, Nat.mod_lt _ (by norm_num)⟩ : Fin 128)
        = ⟨64 * a.val + (⟨d.val - 32, by omega⟩ : Fin 64).val, by simp only; omega⟩ := by ext; simp only; omega
    have e2 : (⟨(64 * a.val + d.val) % 32, Nat.mod_lt _ (by norm_num)⟩ : Fin 32) = ⟨d.val - 32, by omega⟩ := by ext; simp only; omega
    have e3 : (⟨32 + (d.val - 32), by omega⟩ : Fin 64) = d := by ext; simp only; omega
    rw [e1, tnrm_eq, e2, e3]

/-- A scaled value is finite where the weight is, whatever the row. -/
theorem nrm_real (x w : Fin 64 → EReal) (d : Fin 64) (hw : ∃ r : ℝ, w d = (r : EReal)) : ∃ r : ℝ, nrm x w d = (r : EReal) := by
  obtain ⟨e, he, hee⟩ := eps_eq
  obtain ⟨wr, hw⟩ := hw
  unfold nrm rs
  rw [n64_eq, hee, hw]
  by_cases h : ∃ k, x k = ⊥ ∨ x k = ⊤
  · obtain ⟨k, hk⟩ := h
    rw [NormGrad.rsqrt_eq_zero 64 e (by norm_num) x k hk]
    exact ⟨0, by rw [show Ideal.rsqrt ⊤ = 0 from rfl]; simp⟩
  · have hX : ∀ k, x k = ((x k).toReal : EReal) := fun k =>
      (EReal.coe_toReal (fun h' => h ⟨k, .inr h'⟩) (fun h' => h ⟨k, .inl h'⟩)).symm
    obtain ⟨M, hM, hMe⟩ := NormGrad.meanSq_coe 64 e (by norm_num) he (fun k => (x k).toReal)
    have : x = fun k => ((x k).toReal : EReal) := funext hX
    rw [this]
    simp only [EReal.toReal_coe]
    rw [hMe, NormGrad.rsqrt_pos hM]
    exact ⟨(x d).toReal * (Real.sqrt M)⁻¹ * wr, by push_cast; rfl⟩

theorem rot_real (x w : Fin 64 → EReal) (C S : Fin 32 → EReal) (d : Fin 64) (hw : ∀ d, ∃ r : ℝ, w d = (r : EReal))
    (hC : ∀ i, ∃ r : ℝ, C i = (r : EReal)) (hS : ∀ i, ∃ r : ℝ, S i = (r : EReal)) : ∃ r : ℝ, rot x w C S d = (r : EReal) := by
  choose n hn using fun d => nrm_real x w d (hw d)
  choose c hc using hC
  choose s hs using hS
  unfold rot
  split_ifs with h
  · exact ⟨n d * c ⟨d.val, h⟩ - n ⟨32 + d.val, by omega⟩ * s ⟨d.val, h⟩, by rw [hn, hn, hc, hs]; push_cast; rfl⟩
  · exact ⟨n ⟨32 + (d.val - 32), by omega⟩ * c ⟨d.val - 32, by omega⟩ + n ⟨d.val - 32, by omega⟩ * s ⟨d.val - 32, by omega⟩, by
      rw [hn, hn, hc, hs]; push_cast; rfl⟩

/-- A finite sum of reals is real. -/
theorem sum_real {ι : Type} [Fintype ι] (f : ι → EReal) (h : ∀ i, ∃ r : ℝ, f i = (r : EReal)) : ∃ r : ℝ, ∑ i, f i = (r : EReal) := by
  choose g hg using h
  exact ⟨∑ i, g i, by simp only [hg]; exact (map_sum (⟨⟨Real.toEReal, EReal.coe_zero⟩, EReal.coe_add⟩ : ℝ →+ EReal) _ _).symm⟩

theorem exp_nonneg (x : EReal) : 0 ≤ Ideal.exp x := by
  induction x using EReal.rec with
  | bot => exact le_refl _
  | top => exact le_top
  | coe r =>
    rw [show Ideal.exp (r : EReal) = ((Real.exp r : ℝ) : EReal) from rfl]
    exact_mod_cast (Real.exp_pos r).le

theorem fold_max_lt {ι : Type} (s : Finset ι) (f : ι → EReal) (b : EReal) (hb : b ≠ ⊤) (h : ∀ i, f i ≠ ⊤) : Finset.fold max b f s ≠ ⊤ := by
  classical
  rw [← lt_top_iff_ne_top, Finset.fold_max_lt]
  exact ⟨lt_top_iff_ne_top.mpr hb, fun i _ => lt_top_iff_ne_top.mpr (h i)⟩

theorem div_mul (p D : EReal) (hD : D ≠ 0) : p * Ideal.div 1 D = Ideal.div p D := by
  unfold Ideal.div
  rw [if_neg hD, if_neg hD, one_mul]

theorem bot_exp (m : EReal) : Ideal.exp (⊥ - m) = 0 := by
  rw [sub_eq_add_neg, EReal.bot_add]; rfl

/-- The weights of a row with a sink: with the largest value taken off and the sink's weight in the sum, the product with
the reciprocal of the sum is the quotient. -/
def rowMax (s : Fin 256 → EReal) (k : EReal) : EReal := max (Finset.fold max ⊥ s Finset.univ) k
def rowSum (s : Fin 256 → EReal) (k : EReal) : EReal :=
  ∑ j, Ideal.exp (s j - rowMax s k) + Ideal.exp (k - rowMax s k)
def weight (s : Fin 256 → EReal) (k : EReal) (j : Fin 256) : EReal := Ideal.div (Ideal.exp (s j - rowMax s k)) (rowSum s k)

theorem rowSum_ne (s : Fin 256 → EReal) (k : ℝ) (hs : ∀ j, s j ≠ ⊤) : rowSum s k ≠ 0 := by
  have hm : rowMax s k ≠ ⊤ := by
    unfold rowMax
    exact ne_of_lt (max_lt (lt_top_iff_ne_top.mpr (fold_max_lt _ _ _ (by simp) hs)) (EReal.coe_lt_top k))
  have hb : rowMax s k ≠ ⊥ := ne_of_gt (lt_of_lt_of_le (EReal.bot_lt_coe k) (le_max_right _ _))
  obtain ⟨M, hM⟩ : ∃ M : ℝ, rowMax s k = (M : EReal) := ⟨_, (EReal.coe_toReal hm hb).symm⟩
  unfold rowSum
  rw [hM]
  refine ne_of_gt (lt_of_lt_of_le ?_ (le_add_of_nonneg_left (Finset.sum_nonneg fun j _ => exp_nonneg _)))
  rw [← EReal.coe_sub, show Ideal.exp ((k - M : ℝ) : EReal) = ((Real.exp (k - M) : ℝ) : EReal) from rfl]
  exact_mod_cast Real.exp_pos _

theorem rowMax_eq (s : Fin 256 → EReal) (k : EReal) :
    max ⊥ (Finset.fold max ⊥ (fun j : Fin 257 => if h : j.val < 256 then s ⟨j.val, h⟩ else k) Finset.univ) = rowMax s k := by
  rw [bot_sup_eq]
  unfold rowMax
  apply le_antisymm
  · rw [Finset.fold_max_le]
    refine ⟨bot_le, fun j _ => ?_⟩
    split_ifs with h
    · exact le_max_of_le_left (Finset.le_fold_max _ |>.mpr (.inr ⟨_, Finset.mem_univ _, le_refl _⟩))
    · exact le_max_right _ _
  · refine max_le ?_ ?_
    · rw [Finset.fold_max_le]
      exact ⟨bot_le, fun j _ => (Finset.le_fold_max _).mpr (.inr ⟨⟨j.val, by omega⟩, Finset.mem_univ _, by rw [dif_pos j.isLt]⟩)⟩
    · exact (Finset.le_fold_max _).mpr (.inr ⟨⟨256, by omega⟩, Finset.mem_univ _, by rw [dif_neg (by simp)]⟩)

theorem rowSum_eq (s : Fin 256 → EReal) (k m : EReal) :
    ∑ j : Fin 257, Ideal.exp ((if h : j.val < 256 then s ⟨j.val, h⟩ else k) - m) = ∑ j, Ideal.exp (s j - m) + Ideal.exp (k - m) := by
  rw [Fin.sum_univ_castSucc]
  congr 1

end AttnMath
-- ==== Proof.AttnFwdTile.lean ====
module

public import proofs.«01_k».proof.Proof.AttnMath
public import proofs.«01_k».proof.Proof.Gen.AttnFwdIdeal.Skeleton

@[expose] public section

set_option maxRecDepth 16384

noncomputable section

open Idealize.ShloMosaic

/-! The tiles of queries and keys the forward kernel builds, read row by row. -/

namespace AttnFwdPure

open Cert.AttnFwdIdeal Cert.AttnFwdIdeal.Gen AttnMath

/-- The reciprocal root mean square of each half of a tile of 128 lanes, as a tile. -/
def rstdQ (t : FVec Ideal S128x128 .f32) : FVec Ideal S128x128 .f32 :=
  k0_pay36 (mulf t t) k0_pay34 (select (broadcastTo S128x128 (shapeCast S1x128 k0_pay34 shapeCasts_S1x128_S1x128) broadcasts_S1x128_S128x128)
    (mulf t t) (broadcast S128x128 (Scalar.ofBits .f32 0x00000000#32)))

/-- A tile of queries, normalised and rotated. -/
def prepQ (c s t : FVec Ideal S128x128 .f32) (w : FVec Ideal S1x128 .f32) : FVec Ideal S128x128 .f32 := k0_pay67 c s (rstdQ t) t w

/-- A tile of keys, normalised and rotated. -/
def prepK (c s t : FVec Ideal S256x128 .f32) (w : FVec Ideal S1x128 .f32) : FVec Ideal S256x128 .bf16 :=
  k0_pay20 s (k0_pay15 t w) (k0_pay16 c t w) (Scalar.select (Scalar.cmpi .eq 64#32 0#32) 1#32 64#32) k0_pay17 k0_pay18 k0_pay19

theorem prepQ_apply (c s t : FVec Ideal S128x128 .f32) (w : FVec Ideal S1x128 .f32) (r l : Fin 128) :
    prepQ c s t w (ix2 r l) = tile (fun l => t (ix2 r l)) (fun l => w (ix2 0 l)) (fun l => c (ix2 r l)) (fun l => s (ix2 r l)) l := by
  pointwise [prepQ, k0_pay67, rstdQ, k0_pay36, k0_pay34]
  rfl

theorem prepK_apply (c s t : FVec Ideal S256x128 .f32) (w : FVec Ideal S1x128 .f32) (r : Fin 256) (l : Fin 128) :
    prepK c s t w (ix2 r l) = tile (fun l => t (ix2 r l)) (fun l => w (ix2 0 l)) (fun l => c (ix2 r l)) (fun l => s (ix2 r l)) l := by
  pointwise [prepK, k0_pay15, k0_pay16, k0_pay17, k0_pay18, k0_pay19, k0_pay20]
  rfl

theorem sel_not (p : Prop) [Decidable p] (a b : EReal) :
    Scalar.select (IntOp.xori (if p then 1#1 else 0#1) 1#1) a b = if p then b else a := by
  split_ifs <;> rfl

/-- The lanes of the first head of a tile, the others zero. -/
def keepLo (t : FVec Ideal S128x128 .f32) : FVec Ideal S128x128 .f32 :=
  select (broadcastTo S128x128 (shapeCast S1x128 (cmpi .slt (iota .tc S1x128 32 [1] iota_S1x128_d1_w32) (broadcast S1x128 64#32)) shapeCasts_S1x128_S1x128)
    broadcasts_S1x128_S128x128) t (broadcast S128x128 (Scalar.ofBits .f32 0x00000000#32))

/-- The lanes of the second head of a tile, the others zero. -/
def keepHi (t : FVec Ideal S128x128 .f32) : FVec Ideal S128x128 .f32 :=
  select (broadcastTo S128x128 (shapeCast S1x128 (xori (cmpi .slt (iota .tc S1x128 32 [1] iota_S1x128_d1_w32) (broadcast S1x128 64#32))
    (constantI S1x128 1 1#1)) shapeCasts_S1x128_S1x128) broadcasts_S1x128_S128x128) t (broadcast S128x128 (Scalar.ofBits .f32 0x00000000#32))

/-- The two heads of a tile exchanged. -/
def turn (t : FVec Ideal S128x128 .f32) : FVec Ideal S128x128 .f32 := dynamicRotate 1 64#32 none t rotates_S128x128_d1

theorem keepLo_apply (t : FVec Ideal S128x128 .f32) (r l : Fin 128) : keepLo t (ix2 r l) = if l.val < 64 then t (ix2 r l) else 0 := by
  pointwise [keepLo]
  rw [lo_eq, sel_if]

theorem keepHi_apply (t : FVec Ideal S128x128 .f32) (r l : Fin 128) : keepHi t (ix2 r l) = if l.val < 64 then 0 else t (ix2 r l) := by
  pointwise [keepHi]
  rw [lo_eq, sel_not]

theorem turn_apply (t : FVec Ideal S128x128 .f32) (r l : Fin 128) :
    turn t (ix2 r l) = t (ix2 r ⟨(l.val + 128 - 64) % 128, Nat.mod_lt _ (by norm_num)⟩) := by
  pointwise [turn]

/-- Four tiles below each other. -/
def cat4 (a b c d : FVec Ideal S128x128 .f32) : FVec Ideal S512x128 .f32 :=
  concatenate S512x128 0 [⟨S128x128, a⟩, ⟨S128x128, b⟩, ⟨S128x128, c⟩, ⟨S128x128, d⟩] concatenates_S128x128_S128x128_S128x128_S128x128_S512x128_d0

theorem cat4_apply (a : Fin 4 → FVec Ideal S128x128 .f32) (u : Fin 4) (r l : Fin 128) :
    cat4 (a 0) (a 1) (a 2) (a 3) (ix2 ⟨128 * u.val + r.val, by omega⟩ l) = a u (ix2 r l) := by
  match u with
  | 0 => pointwise [cat4]
  | 1 => pointwise [cat4]
  | 2 =>
    pointwise [cat4]
    rw [dif_neg (by omega), dif_neg (by omega), dif_pos (by omega)]
    exact congrArg (a 2) (congrArg₂ ix2 (Fin.ext (by simp only; omega)) rfl)
  | 3 =>
    pointwise [cat4]
    rw [dif_neg (by omega), dif_neg (by omega), dif_neg (by omega)]
    exact congrArg (a 3) (congrArg₂ ix2 (Fin.ext (by simp only; omega)) rfl)

/-- Four groups below each other. -/
def grp4 (a b c d : FVec Ideal S512x256 .f32) : FVec Ideal S2048x256 .f32 :=
  concatenate S2048x256 0 [⟨S512x256, a⟩, ⟨S512x256, b⟩, ⟨S512x256, c⟩, ⟨S512x256, d⟩] concatenates_S512x256_S512x256_S512x256_S512x256_S2048x256_d0

theorem grp4_apply (a : Fin 4 → FVec Ideal S512x256 .f32) (u : Fin 4) (r : Fin 512) (l : Fin 256) :
    grp4 (a 0) (a 1) (a 2) (a 3) (ix2 ⟨512 * u.val + r.val, by omega⟩ l) = a u (ix2 r l) := by
  match u with
  | 0 => pointwise [grp4]
  | 1 => pointwise [grp4]
  | 2 =>
    pointwise [grp4]
    rw [dif_neg (by omega), dif_neg (by omega), dif_pos (by omega)]
    exact congrArg (a 2) (congrArg₂ ix2 (Fin.ext (by simp only; omega)) rfl)
  | 3 =>
    pointwise [grp4]
    rw [dif_neg (by omega), dif_neg (by omega), dif_neg (by omega)]
    exact congrArg (a 3) (congrArg₂ ix2 (Fin.ext (by simp only; omega)) rfl)

/-- A tile beside zeros, and zeros beside a tile. -/
def atLeft (a : FVec Ideal S512x128 .f32) : FVec Ideal S512x256 .f32 :=
  concatenate S512x256 1 [⟨S512x128, a⟩, ⟨S512x128, k0_pay73⟩] concatenates_S512x128_S512x128_S512x256_d1
def atRight (a : FVec Ideal S512x128 .f32) : FVec Ideal S512x256 .f32 :=
  concatenate S512x256 1 [⟨S512x128, k0_pay73⟩, ⟨S512x128, a⟩] concatenates_S512x128_S512x128_S512x256_d1

theorem atLeft_apply (a : FVec Ideal S512x128 .f32) (r : Fin 512) (l : Fin 256) :
    atLeft a (ix2 r l) = if h : l.val < 128 then a (ix2 r ⟨l.val, h⟩) else 0 := by
  pointwise [atLeft, k0_pay73]

theorem atRight_apply (a : FVec Ideal S512x128 .f32) (r : Fin 512) (l : Fin 256) :
    atRight a (ix2 r l) = if h : l.val < 128 then 0 else a (ix2 r ⟨l.val - 128, by omega⟩) := by
  pointwise [atRight, k0_pay73]

/-- The place, in a tile of two heads, of lane `l` of head `u`. -/
abbrev inTile (u l : ℕ) : Fin 128 := ⟨64 * (u % 2) + l % 64, by omega⟩

/-- The stacked queries: one head to 128 rows, in the 64 lanes of its group of keys, scaled by one eighth. -/
def stackQ (q : Fin 8 → FVec Ideal S128x128 .f32) : FVec Ideal S2048x256 .bf16 :=
  truncf .bf16 (mulf (grp4
    (atLeft (cat4 (keepLo (q 0)) (turn (keepHi (q 0))) (keepLo (q 1)) (turn (keepHi (q 1)))))
    (atLeft (cat4 (turn (keepLo (q 2))) (keepHi (q 2)) (turn (keepLo (q 3))) (keepHi (q 3))))
    (atRight (cat4 (keepLo (q 4)) (turn (keepHi (q 4))) (keepLo (q 5)) (turn (keepHi (q 5)))))
    (atRight (cat4 (turn (keepLo (q 6))) (keepHi (q 6)) (turn (keepLo (q 7))) (keepHi (q 7)))))
    (broadcast S2048x256 (Scalar.ofBits .f32 0x3E000000#32))) bitsLt_bf16_f32

theorem stackQ_eq (q : Fin 8 → FVec Ideal S128x128 .f32) :
    k0_pay87 (q 7) k0_pay73 (k0_pay74 (q 0) (q 1) k0_pay73 (iota .tc S1x128 32 [1] iota_S1x128_d1_w32))
      (k0_pay77 (q 2) (q 3) k0_pay73 (k0_pay75 (q 2)) k0_pay76)
      (k0_pay81 (q 5) k0_pay73 (k0_pay78 (q 4)) (k0_pay79 (q 4)) (Scalar.ofBits .f32 0x00000000#32) k0_pay80) (k0_pay82 (q 6)) (k0_pay83 (q 6))
      (k0_pay84 (q 7)) k0_pay85 k0_pay86 = stackQ q := rfl

theorem even_apply (a b : FVec Ideal S128x128 .f32) (u : Fin 4) (r l : Fin 128) :
    cat4 (keepLo a) (turn (keepHi a)) (keepLo b) (turn (keepHi b)) (ix2 ⟨128 * u.val + r.val, by omega⟩ l)
      = if l.val < 64 then (if u.val < 2 then a else b) (ix2 r (inTile u.val l.val)) else 0 := by
  refine (cat4_apply ![keepLo a, turn (keepHi a), keepLo b, turn (keepHi b)] u r l).trans ?_
  match u with
  | 0 | 2 =>
    refine (keepLo_apply _ r l).trans ?_
    by_cases h : l.val < 64
    · rw [if_pos h, if_pos h]
      exact congrArg _ (congrArg₂ ix2 rfl (Fin.ext (by simp [inTile]; omega)))
    · rw [if_neg h, if_neg h]
  | 1 | 3 =>
    refine (turn_apply _ r l).trans ((keepHi_apply _ r _).trans ?_)
    by_cases h : l.val < 64
    · rw [if_neg (by simp only; omega), if_pos h]
      exact congrArg _ (congrArg₂ ix2 rfl (Fin.ext (by simp [inTile]; omega)))
    · rw [if_pos (by simp only; omega), if_neg h]

theorem odd_apply (a b : FVec Ideal S128x128 .f32) (u : Fin 4) (r l : Fin 128) :
    cat4 (turn (keepLo a)) (keepHi a) (turn (keepLo b)) (keepHi b) (ix2 ⟨128 * u.val + r.val, by omega⟩ l)
      = if l.val < 64 then 0 else (if u.val < 2 then a else b) (ix2 r (inTile u.val l.val)) := by
  refine (cat4_apply ![turn (keepLo a), keepHi a, turn (keepLo b), keepHi b] u r l).trans ?_
  match u with
  | 1 | 3 =>
    refine (keepHi_apply _ r l).trans ?_
    by_cases h : l.val < 64
    · rw [if_pos h, if_pos h]
    · rw [if_neg h, if_neg h]
      exact congrArg _ (congrArg₂ ix2 rfl (Fin.ext (by simp [inTile]; omega)))
  | 0 | 2 =>
    refine (turn_apply _ r l).trans ((keepLo_apply _ r _).trans ?_)
    by_cases h : l.val < 64
    · rw [if_neg (by simp only; omega), if_pos h]
    · rw [if_pos (by simp only; omega), if_neg h]
      exact congrArg _ (congrArg₂ ix2 rfl (Fin.ext (by simp [inTile]; omega)))

/-- The stacked queries, read: head `4 g + u` at row `r`. -/
theorem stackQ_apply (q : Fin 8 → FVec Ideal S128x128 .f32) (g u : Fin 4) (r : Fin 128) (l : Fin 256) :
    stackQ q (ix2 ⟨512 * g.val + (128 * u.val + r.val), by omega⟩ l)
      = (if l.val / 64 = g.val then q ⟨2 * g.val + u.val / 2, by omega⟩ (ix2 r (inTile u.val l.val)) else 0) * eighth := by
  have e := grp4_apply ![atLeft (cat4 (keepLo (q 0)) (turn (keepHi (q 0))) (keepLo (q 1)) (turn (keepHi (q 1)))),
    atLeft (cat4 (turn (keepLo (q 2))) (keepHi (q 2)) (turn (keepLo (q 3))) (keepHi (q 3))),
    atRight (cat4 (keepLo (q 4)) (turn (keepHi (q 4))) (keepLo (q 5)) (turn (keepHi (q 5)))),
    atRight (cat4 (turn (keepLo (q 6))) (keepHi (q 6)) (turn (keepLo (q 7))) (keepHi (q 7)))] g ⟨128 * u.val + r.val, by omega⟩ l
  refine congrArg (· * eighth) (e.trans ?_)
  have hu := u.isLt
  have hl := l.isLt
  have pick : ∀ (a b c : FVec Ideal S128x128 .f32) (l' : Fin 128), (u.val < 2 → a = c) → (¬u.val < 2 → b = c) → l'.val % 64 = l.val % 64 →
      (if u.val < 2 then a else b) (ix2 r (inTile u.val l'.val)) = c (ix2 r (inTile u.val l.val)) := by
    intro a b c l' h1 h2 h3
    have : inTile u.val l'.val = inTile u.val l.val := Fin.ext (by simp only [inTile]; rw [h3])
    rw [this]
    split_ifs with h
    · rw [h1 h]
    · rw [h2 h]
  have q2 : ∀ g : Fin 4, (u.val < 2 → q ⟨2 * g.val, by omega⟩ = q ⟨2 * g.val + u.val / 2, by omega⟩)
      ∧ (¬u.val < 2 → q ⟨2 * g.val + 1, by omega⟩ = q ⟨2 * g.val + u.val / 2, by omega⟩) := fun g =>
    ⟨fun h => congrArg q (Fin.ext (by first | omega | (simp only; omega) | (simp; omega))), fun h => congrArg q (Fin.ext (by first | omega | (simp only; omega) | (simp; omega)))⟩
  match g with
  | 0 =>
    refine (atLeft_apply _ _ _).trans ?_
    by_cases h : l.val < 128
    · rw [dif_pos h, even_apply]
      by_cases h' : l.val < 64
      · rw [if_pos h']
        exact (pick _ _ _ ⟨l.val, h⟩ (q2 0).1 (q2 0).2 rfl).trans (if_pos (by first | omega | (simp only; omega) | (simp; omega))).symm
      · rw [if_neg h', if_neg (by first | omega | (simp only; omega) | (simp; omega))]
    · rw [dif_neg h, if_neg (by first | omega | (simp only; omega) | (simp; omega))]
  | 1 =>
    refine (atLeft_apply _ _ _).trans ?_
    by_cases h : l.val < 128
    · rw [dif_pos h, odd_apply]
      by_cases h' : l.val < 64
      · rw [if_pos h', if_neg (by first | omega | (simp only; omega) | (simp; omega))]
      · rw [if_neg h']
        exact (pick _ _ _ ⟨l.val, h⟩ (q2 1).1 (q2 1).2 rfl).trans (if_pos (by first | omega | (simp only; omega) | (simp; omega))).symm
    · rw [dif_neg h, if_neg (by first | omega | (simp only; omega) | (simp; omega))]
  | 2 =>
    refine (atRight_apply _ _ _).trans ?_
    by_cases h : l.val < 128
    · rw [dif_pos h, if_neg (by first | omega | (simp only; omega) | (simp; omega))]
    · rw [dif_neg h, even_apply]
      by_cases h' : l.val - 128 < 64
      · rw [if_pos h']
        exact (pick _ _ _ ⟨l.val - 128, by omega⟩ (q2 2).1 (q2 2).2 (by simp only; omega)).trans (if_pos (by first | omega | (simp only; omega) | (simp; omega))).symm
      · rw [if_neg h', if_neg (by first | omega | (simp only; omega) | (simp; omega))]
  | 3 =>
    refine (atRight_apply _ _ _).trans ?_
    by_cases h : l.val < 128
    · rw [dif_pos h, if_neg (by first | omega | (simp only; omega) | (simp; omega))]
    · rw [dif_neg h, odd_apply]
      by_cases h' : l.val - 128 < 64
      · rw [if_pos h', if_neg (by first | omega | (simp only; omega) | (simp; omega))]
      · rw [if_neg h']
        exact (pick _ _ _ ⟨l.val - 128, by omega⟩ (q2 3).1 (q2 3).2 (by simp only; omega)).trans (if_pos (by first | omega | (simp only; omega) | (simp; omega))).symm

/-- The outputs of two heads put side by side: heads lying in the first, or in the second, 64 lanes. -/
def pairLo (a b : FVec Ideal S128x128 .f32) : FVec Ideal S128x128 .f32 := addf (keepLo a) (turn (keepLo b))
def pairHi (a b : FVec Ideal S128x128 .f32) : FVec Ideal S128x128 .f32 := addf (turn (keepHi a)) (keepHi b)

theorem pairLo_apply (a b : FVec Ideal S128x128 .f32) (r l : Fin 128) :
    pairLo a b (ix2 r l) = (if l.val < 64 then a else b) (ix2 r ⟨l.val % 64, by omega⟩) := by
  have e : pairLo a b (ix2 r l) = keepLo a (ix2 r l) + turn (keepLo b) (ix2 r l) := rfl
  rw [e, turn_apply, keepLo_apply, keepLo_apply]
  have hl := l.isLt
  by_cases h : l.val < 64
  · rw [if_pos h, if_neg (by simp only; omega), if_pos h, add_zero]
    exact congrArg a (congrArg₂ ix2 rfl (Fin.ext (by simp only; omega)))
  · rw [if_neg h, if_pos (by simp only; omega), if_neg h, zero_add]
    exact congrArg b (congrArg₂ ix2 rfl (Fin.ext (by simp only; omega)))

theorem pairHi_apply (a b : FVec Ideal S128x128 .f32) (r l : Fin 128) :
    pairHi a b (ix2 r l) = (if l.val < 64 then a else b) (ix2 r ⟨64 + l.val % 64, by omega⟩) := by
  have e : pairHi a b (ix2 r l) = turn (keepHi a) (ix2 r l) + keepHi b (ix2 r l) := rfl
  rw [e, turn_apply, keepHi_apply, keepHi_apply]
  have hl := l.isLt
  by_cases h : l.val < 64
  · rw [if_neg (by simp only; omega), if_pos h, if_pos h, add_zero]
    exact congrArg a (congrArg₂ ix2 rfl (Fin.ext (by simp only; omega)))
  · rw [if_pos (by simp only; omega), if_neg h, if_neg h, zero_add]
    exact congrArg b (congrArg₂ ix2 rfl (Fin.ext (by simp only; omega)))

/-- The rows of group 0. -/
def grp0 (o : FVec Ideal S2048x256 .f32) : FVec Ideal S512x128 .f32 := extractStridedSlice S512x128 ![0, 0] o slices_S2048x256_o0_0_S512x128
/-- The rows of group 1. -/
def grp1 (o : FVec Ideal S2048x256 .f32) : FVec Ideal S512x128 .f32 := extractStridedSlice S512x128 ![512, 0] o slices_S2048x256_o512_0_S512x128
/-- The rows of group 2. -/
def grp2 (o : FVec Ideal S2048x256 .f32) : FVec Ideal S512x128 .f32 := extractStridedSlice S512x128 ![1024, 128] o slices_S2048x256_o1024_128_S512x128
/-- The rows of group 3. -/
def grp3 (o : FVec Ideal S2048x256 .f32) : FVec Ideal S512x128 .f32 := extractStridedSlice S512x128 ![1536, 128] o slices_S2048x256_o1536_128_S512x128
/-- The rows of the head 0 of a group. -/
def hd0 (o : FVec Ideal S512x128 .f32) : FVec Ideal S128x128 .f32 := extractStridedSlice S128x128 ![0, 0] o slices_S512x128_o0_0_S128x128
/-- The rows of the head 1 of a group. -/
def hd1 (o : FVec Ideal S512x128 .f32) : FVec Ideal S128x128 .f32 := extractStridedSlice S128x128 ![128, 0] o slices_S512x128_o128_0_S128x128
/-- The rows of the head 2 of a group. -/
def hd2 (o : FVec Ideal S512x128 .f32) : FVec Ideal S128x128 .f32 := extractStridedSlice S128x128 ![256, 0] o slices_S512x128_o256_0_S128x128
/-- The rows of the head 3 of a group. -/
def hd3 (o : FVec Ideal S512x128 .f32) : FVec Ideal S128x128 .f32 := extractStridedSlice S128x128 ![384, 0] o slices_S512x128_o384_0_S128x128

/-- The tile of the two heads `2 i` and `2 i + 1`, cut from the stacked outputs. -/
def untile (o : FVec Ideal S2048x256 .f32) : Fin 8 → FVec Ideal S128x128 .f32
  | 0 => pairLo (hd0 (grp0 o)) (hd1 (grp0 o))
  | 1 => pairLo (hd2 (grp0 o)) (hd3 (grp0 o))
  | 2 => pairHi (hd0 (grp1 o)) (hd1 (grp1 o))
  | 3 => pairHi (hd2 (grp1 o)) (hd3 (grp1 o))
  | 4 => pairLo (hd0 (grp2 o)) (hd1 (grp2 o))
  | 5 => pairLo (hd2 (grp2 o)) (hd3 (grp2 o))
  | 6 => pairHi (hd0 (grp3 o)) (hd1 (grp3 o))
  | 7 => pairHi (hd2 (grp3 o)) (hd3 (grp3 o))

theorem untile_apply (o : FVec Ideal S2048x256 .f32) (i : Fin 8) (r l : Fin 128) :
    untile o i (ix2 r l) = o (ix2 ⟨512 * (i.val / 2) + (128 * (2 * (i.val % 2) + l.val / 64) + r.val), by omega⟩ ⟨64 * (i.val / 2) + l.val % 64, by omega⟩) := by
  have hl := l.isLt
  match i with
  | 0 =>
    refine (pairLo_apply _ _ r l).trans ?_
    split_ifs with h
    · pointwise [hd0, grp0]
      exact congrArg o (congrArg₂ ix2 (Fin.ext (by first | rfl | omega | (simp only; omega) | (simp; omega))) (Fin.ext (by first | rfl | omega | (simp only; omega) | (simp; omega))))
    · pointwise [hd1, grp0]
      exact congrArg o (congrArg₂ ix2 (Fin.ext (by first | rfl | omega | (simp only; omega) | (simp; omega))) (Fin.ext (by first | rfl | omega | (simp only; omega) | (simp; omega))))
  | 1 =>
    refine (pairLo_apply _ _ r l).trans ?_
    split_ifs with h
    · pointwise [hd2, grp0]
      exact congrArg o (congrArg₂ ix2 (Fin.ext (by first | rfl | omega | (simp only; omega) | (simp; omega))) (Fin.ext (by first | rfl | omega | (simp only; omega) | (simp; omega))))
    · pointwise [hd3, grp0]
      exact congrArg o (congrArg₂ ix2 (Fin.ext (by first | rfl | omega | (simp only; omega) | (simp; omega))) (Fin.ext (by first | rfl | omega | (simp only; omega) | (simp; omega))))
  | 2 =>
    refine (pairHi_apply _ _ r l).trans ?_
    split_ifs with h
    · pointwise [hd0, grp1]
      exact congrArg o (congrArg₂ ix2 (Fin.ext (by first | rfl | omega | (simp only; omega) | (simp; omega))) (Fin.ext (by first | rfl | omega | (simp only; omega) | (simp; omega))))
    · pointwise [hd1, grp1]
      exact congrArg o (congrArg₂ ix2 (Fin.ext (by first | rfl | omega | (simp only; omega) | (simp; omega))) (Fin.ext (by first | rfl | omega | (simp only; omega) | (simp; omega))))
  | 3 =>
    refine (pairHi_apply _ _ r l).trans ?_
    split_ifs with h
    · pointwise [hd2, grp1]
      exact congrArg o (congrArg₂ ix2 (Fin.ext (by first | rfl | omega | (simp only; omega) | (simp; omega))) (Fin.ext (by first | rfl | omega | (simp only; omega) | (simp; omega))))
    · pointwise [hd3, grp1]
      exact congrArg o (congrArg₂ ix2 (Fin.ext (by first | rfl | omega | (simp only; omega) | (simp; omega))) (Fin.ext (by first | rfl | omega | (simp only; omega) | (simp; omega))))
  | 4 =>
    refine (pairLo_apply _ _ r l).trans ?_
    split_ifs with h
    · pointwise [hd0, grp2]
      exact congrArg o (congrArg₂ ix2 (Fin.ext (by first | rfl | omega | (simp only; omega) | (simp; omega))) (Fin.ext (by first | rfl | omega | (simp only; omega) | (simp; omega))))
    · pointwise [hd1, grp2]
      exact congrArg o (congrArg₂ ix2 (Fin.ext (by first | rfl | omega | (simp only; omega) | (simp; omega))) (Fin.ext (by first | rfl | omega | (simp only; omega) | (simp; omega))))
  | 5 =>
    refine (pairLo_apply _ _ r l).trans ?_
    split_ifs with h
    · pointwise [hd2, grp2]
      exact congrArg o (congrArg₂ ix2 (Fin.ext (by first | rfl | omega | (simp only; omega) | (simp; omega))) (Fin.ext (by first | rfl | omega | (simp only; omega) | (simp; omega))))
    · pointwise [hd3, grp2]
      exact congrArg o (congrArg₂ ix2 (Fin.ext (by first | rfl | omega | (simp only; omega) | (simp; omega))) (Fin.ext (by first | rfl | omega | (simp only; omega) | (simp; omega))))
  | 6 =>
    refine (pairHi_apply _ _ r l).trans ?_
    split_ifs with h
    · pointwise [hd0, grp3]
      exact congrArg o (congrArg₂ ix2 (Fin.ext (by first | rfl | omega | (simp only; omega) | (simp; omega))) (Fin.ext (by first | rfl | omega | (simp only; omega) | (simp; omega))))
    · pointwise [hd1, grp3]
      exact congrArg o (congrArg₂ ix2 (Fin.ext (by first | rfl | omega | (simp only; omega) | (simp; omega))) (Fin.ext (by first | rfl | omega | (simp only; omega) | (simp; omega))))
  | 7 =>
    refine (pairHi_apply _ _ r l).trans ?_
    split_ifs with h
    · pointwise [hd2, grp3]
      exact congrArg o (congrArg₂ ix2 (Fin.ext (by first | rfl | omega | (simp only; omega) | (simp; omega))) (Fin.ext (by first | rfl | omega | (simp only; omega) | (simp; omega))))
    · pointwise [hd3, grp3]
      exact congrArg o (congrArg₂ ix2 (Fin.ext (by first | rfl | omega | (simp only; omega) | (simp; omega))) (Fin.ext (by first | rfl | omega | (simp only; omega) | (simp; omega))))

/-- The eight tiles side by side. -/
def wide (t : Fin 8 → FVec Ideal S128x128 .f32) : FVec Ideal S128x1024 .f32 :=
  concatenate S128x1024 1 [⟨S128x128, t 0⟩, ⟨S128x128, t 1⟩, ⟨S128x128, t 2⟩, ⟨S128x128, t 3⟩, ⟨S128x128, t 4⟩, ⟨S128x128, t 5⟩, ⟨S128x128, t 6⟩,
    ⟨S128x128, t 7⟩] concatenates_S128x128_S128x128_S128x128_S128x128_S128x128_S128x128_S128x128_S128x128_S128x1024_d1

theorem wide_apply (t : Fin 8 → FVec Ideal S128x128 .f32) (r : Fin 128) (l : Fin 1024) :
    wide t (ix2 r l) = t ⟨l.val / 128, by omega⟩ (ix2 r ⟨l.val % 128, Nat.mod_lt _ (by norm_num)⟩) := by
  have hl := l.isLt
  have key : ∀ (i : Fin 8) (x : Fin 128), l.val = 128 * i.val + x.val →
      t i (ix2 r x) = t ⟨l.val / 128, by omega⟩ (ix2 r ⟨l.val % 128, Nat.mod_lt _ (by norm_num)⟩) := by
    intro i x h
    have h1 : i = ⟨l.val / 128, by omega⟩ := Fin.ext (by simp only; omega)
    have h2 : x = ⟨l.val % 128, Nat.mod_lt _ (by norm_num)⟩ := Fin.ext (by simp only; omega)
    exact congrArg₂ (fun i x => t i (ix2 r x)) h1 h2
  pointwise [wide]
  split_ifs <;> first
    | exact key 0 _ (by first | rfl | omega | (simp only; omega) | (simp; omega))
    | exact key 1 _ (by first | rfl | omega | (simp only; omega) | (simp; omega))
    | exact key 2 _ (by first | rfl | omega | (simp only; omega) | (simp; omega))
    | exact key 3 _ (by first | rfl | omega | (simp only; omega) | (simp; omega))
    | exact key 4 _ (by first | rfl | omega | (simp only; omega) | (simp; omega))
    | exact key 5 _ (by first | rfl | omega | (simp only; omega) | (simp; omega))
    | exact key 6 _ (by first | rfl | omega | (simp only; omega) | (simp; omega))
    | exact key 7 _ (by first | rfl | omega | (simp only; omega) | (simp; omega))

/-- The gate's two halves side by side. -/
def gateCat (z0 z1 : FVec Ideal S128x512 .f32) : FVec Ideal S128x1024 .f32 :=
  concatenate S128x1024 1 [⟨S128x512, z0⟩, ⟨S128x512, z1⟩] concatenates_S128x512_S128x512_S128x1024_d1

theorem gateCat_apply (z0 z1 : FVec Ideal S128x512 .f32) (r : Fin 128) (l : Fin 1024) :
    gateCat z0 z1 (ix2 r l) = if h : l.val < 512 then z0 (ix2 r ⟨l.val, h⟩) else z1 (ix2 r ⟨l.val - 512, by omega⟩) := by
  pointwise [gateCat]

/-- The gated output. -/
def gated (a z : FVec Ideal S128x1024 .f32) : FVec Ideal S128x1024 .f32 :=
  mulf a (mulf z (divf (broadcast S128x1024 (Scalar.ofBits .f32 0x3F800000#32)) (addf (broadcast S128x1024 (Scalar.ofBits .f32 0x3F800000#32))
    (exp (subf (broadcast S128x1024 (Scalar.ofBits .f32 0x00000000#32)) z)))))

theorem gated_apply (a z : FVec Ideal S128x1024 .f32) (r : Fin 128) (l : Fin 1024) :
    gated a z (ix2 r l) = a (ix2 r l) * (z (ix2 r l) * Ideal.div 1 (1 + Ideal.exp (-z (ix2 r l)))) := by
  pointwise [gated]
  try rw [zero_sub]

theorem pay110_eq (v145 v146 : FVec Ideal S256x128 .bf16) (v890 v896 : FVec Ideal S2048x1 .f32) (v899 : FVec Ideal S2048x256 .f32)
    (z0 z1 : FVec Ideal S128x512 .f32) :
    k0_pay110 (k0_pay96 v145 v146 v890 v896 v899) (k0_pay99 (k0_pay97 v145 v146 v890 v896 v899) (k0_pay98 v145 v146 v890 v896 v899) 64#32)
      (k0_pay101 (k0_pay94 v145 v146 v890 v896 v899)) (k0_pay102 (k0_pay94 v145 v146 v890 v896 v899))
      (k0_pay105 (k0_pay103 (k0_pay94 v145 v146 v890 v896 v899)) (k0_pay104 (k0_pay94 v145 v146 v890 v896 v899)) (iota .tc S1x128 32 [1] iota_S1x128_d1_w32))
      (k0_pay106 (k0_pay103 (k0_pay94 v145 v146 v890 v896 v899))) (k0_pay107 (k0_pay94 v145 v146 v890 v896 v899))
      (k0_pay108 (k0_pay94 v145 v146 v890 v896 v899)) (k0_pay109 (k0_pay94 v145 v146 v890 v896 v899)) z0 z1
      = gated (wide (untile (k0_pay94 v145 v146 v890 v896 v899))) (gateCat z0 z1) := rfl

end AttnFwdPure
-- ==== Proof.AttnFwdCore.lean ====
module

public import proofs.«01_k».proof.Proof.AttnFwdTile

@[expose] public section

set_option maxRecDepth 16384

noncomputable section

open Idealize.ShloMosaic

/-! The stacked scores, weights and outputs of the forward kernel, read row by row. -/

namespace AttnFwdPure

open Cert.AttnFwdIdeal Cert.AttnFwdIdeal.Gen AttnMath

/-- One sink down a tile. -/
def spread (x : FVec Ideal S1x1 .f32) : FVec Ideal S128x1 .f32 :=
  broadcastTo S128x1 (shapeCast S1x1 (shapeCast S1x1 x shapeCasts_S1x1_S1x1) shapeCasts_S1x1_S1x1) broadcasts_S1x1_S128x1

theorem spread_apply (x : FVec Ideal S1x1 .f32) (r : Fin 128) : spread x (ix2 r 0) = x (ix2 0 0) := by pointwise [spread]

def col4 (a b c d : FVec Ideal S128x1 .f32) : FVec Ideal S512x1 .f32 :=
  concatenate S512x1 0 [⟨S128x1, a⟩, ⟨S128x1, b⟩, ⟨S128x1, c⟩, ⟨S128x1, d⟩] concatenates_S128x1_S128x1_S128x1_S128x1_S512x1_d0

theorem col4_apply (a : Fin 4 → FVec Ideal S128x1 .f32) (u : Fin 4) (r : Fin 128) :
    col4 (a 0) (a 1) (a 2) (a 3) (ix2 ⟨128 * u.val + r.val, by omega⟩ 0) = a u (ix2 r 0) := by
  match u with
  | 0 => pointwise [col4]
  | 1 => pointwise [col4]
  | 2 =>
    pointwise [col4]
    rw [dif_neg (by omega), dif_neg (by omega), dif_pos (by omega)]
    exact congrArg (a 2) (congrArg₂ ix2 (Fin.ext (by simp only; omega)) rfl)
  | 3 =>
    pointwise [col4]
    rw [dif_neg (by omega), dif_neg (by omega), dif_neg (by omega)]
    exact congrArg (a 3) (congrArg₂ ix2 (Fin.ext (by simp only; omega)) rfl)

def col16 (a b c d : FVec Ideal S512x1 .f32) : FVec Ideal S2048x1 .f32 :=
  concatenate S2048x1 0 [⟨S512x1, a⟩, ⟨S512x1, b⟩, ⟨S512x1, c⟩, ⟨S512x1, d⟩] concatenates_S512x1_S512x1_S512x1_S512x1_S2048x1_d0

theorem col16_apply (a : Fin 4 → FVec Ideal S512x1 .f32) (u : Fin 4) (r : Fin 512) :
    col16 (a 0) (a 1) (a 2) (a 3) (ix2 ⟨512 * u.val + r.val, by omega⟩ 0) = a u (ix2 r 0) := by
  match u with
  | 0 => pointwise [col16]
  | 1 => pointwise [col16]
  | 2 =>
    pointwise [col16]
    rw [dif_neg (by omega), dif_neg (by omega), dif_pos (by omega)]
    exact congrArg (a 2) (congrArg₂ ix2 (Fin.ext (by simp only; omega)) rfl)
  | 3 =>
    pointwise [col16]
    rw [dif_neg (by omega), dif_neg (by omega), dif_neg (by omega)]
    exact congrArg (a 3) (congrArg₂ ix2 (Fin.ext (by simp only; omega)) rfl)

/-- The sinks of the heads, each down its rows. -/
def sinkCol (a : Fin 16 → FVec Ideal S1x1 .f32) : FVec Ideal S2048x1 .f32 :=
  k0_pay90 (k0_pay88 (a 0) (a 1) (a 2) (a 3)) (k0_pay89 (a 4) (a 5) (a 6) (a 7)) (a 8) (a 9) (a 10) (a 11) (a 12) (a 13) (a 14) (a 15)

theorem sinkCol_apply (a : Fin 16 → FVec Ideal S1x1 .f32) (g u : Fin 4) (r : Fin 128) :
    sinkCol a (ix2 ⟨512 * g.val + (128 * u.val + r.val), by omega⟩ 0) = a ⟨4 * g.val + u.val, by omega⟩ (ix2 0 0) := by
  have e : sinkCol a = col16
      (col4 (spread (a 0)) (spread (a 1)) (spread (a 2)) (spread (a 3))) (col4 (spread (a 4)) (spread (a 5)) (spread (a 6)) (spread (a 7)))
      (col4 (spread (a 8)) (spread (a 9)) (spread (a 10)) (spread (a 11))) (col4 (spread (a 12)) (spread (a 13)) (spread (a 14)) (spread (a 15))) := rfl
  rw [e]
  refine (col16_apply (fun g => col4 (spread (a ⟨4 * g.val, by omega⟩)) (spread (a ⟨4 * g.val + 1, by omega⟩))
    (spread (a ⟨4 * g.val + 2, by omega⟩)) (spread (a ⟨4 * g.val + 3, by omega⟩))) g ⟨128 * u.val + r.val, by omega⟩).trans ?_
  exact (col4_apply (fun u => spread (a ⟨4 * g.val + u.val, by omega⟩)) u r).trans (spread_apply _ r)

/-- Whether key `j` of the two blocks is seen from row `r` of block `n`, as the programs tell it. -/
abbrev seen (n r j : ℕ) : BitVec 1 :=
  IntOp.andi (IntOp.andi (IntOp.cmpi .sge (IntOp.subi (IntOp.addi (BitVec.ofNat 32 r) 128#32) (BitVec.ofNat 32 j)) 0#32)
      (IntOp.cmpi .slt (IntOp.subi (IntOp.addi (BitVec.ofNat 32 r) 128#32) (BitVec.ofNat 32 j)) 128#32))
    (IntOp.ori (IntOp.cmpi .sgt (BitVec.ofNat 32 n) 0#32) (IntOp.cmpi .sge (BitVec.ofNat 32 j) 128#32))

/-- The mask added to one head's scores. -/
def bias1 (n : BitVec 32) : FVec Ideal S128x256 .f32 :=
  select (andi (andi
      (cmpi .sge (subi (addi (iota .tc S128x256 32 [0] iota_S128x256_d0_w32) (broadcast S128x256 128#32)) (iota .tc S128x256 32 [1] iota_S128x256_d1_w32))
        (broadcast S128x256 0#32))
      (cmpi .slt (subi (addi (iota .tc S128x256 32 [0] iota_S128x256_d0_w32) (broadcast S128x256 128#32)) (iota .tc S128x256 32 [1] iota_S128x256_d1_w32))
        (broadcast S128x256 128#32)))
    (ori (broadcast S128x256 (Scalar.cmpi .sgt n 0#32)) (cmpi .sge (iota .tc S128x256 32 [1] iota_S128x256_d1_w32) (broadcast S128x256 128#32))))
    (broadcast S128x256 (Scalar.ofBits .f32 0x00000000#32)) (broadcast S128x256 (Named.named κ "mask" 0xF149F2CA#32))

theorem mask_eq : (Named.named κ "mask" 0xF149F2CA#32 : Ideal .f32) = ⊥ := IdealRules.named_const.ideal_named_scalar _ _ _ _ rfl

theorem bias1_apply (n : ℕ) (r : Fin 128) (j : Fin 256) :
    bias1 (BitVec.ofNat 32 n) (ix2 r j) = Scalar.select (seen n r.val j.val) (0 : EReal) ⊥ := by
  pointwise [bias1]
  rw [mask_eq]
  rfl

def bcat4 (a b c d : FVec Ideal S128x256 .f32) : FVec Ideal S512x256 .f32 :=
  concatenate S512x256 0 [⟨S128x256, a⟩, ⟨S128x256, b⟩, ⟨S128x256, c⟩, ⟨S128x256, d⟩] concatenates_S128x256_S128x256_S128x256_S128x256_S512x256_d0

theorem bcat4_apply (a : FVec Ideal S128x256 .f32) (u : Fin 4) (r : Fin 128) (l : Fin 256) :
    bcat4 a a a a (ix2 ⟨128 * u.val + r.val, by omega⟩ l) = a (ix2 r l) := by
  have hu := u.isLt
  pointwise [bcat4]
  match u with
  | 0 => rw [dif_pos (by simp)]; exact congrArg a (congrArg₂ ix2 (Fin.ext (by simp)) rfl)
  | 1 => rw [dif_neg (by simp), dif_pos (by simp)]; exact congrArg a (congrArg₂ ix2 (Fin.ext (by simp)) rfl)
  | 2 =>
    rw [dif_neg (by simp; omega), dif_neg (by simp; omega), dif_pos (by simp; omega)]
    exact congrArg a (congrArg₂ ix2 (Fin.ext (by simp; omega)) rfl)
  | 3 =>
    rw [dif_neg (by simp; omega), dif_neg (by simp; omega), dif_neg (by simp; omega)]
    exact congrArg a (congrArg₂ ix2 (Fin.ext (by simp; omega)) rfl)

theorem bias_apply (n : ℕ) (g u : Fin 4) (r : Fin 128) (j : Fin 256) :
    k0_pay72 (F := Ideal) (BitVec.ofNat 32 n) (ix2 ⟨512 * g.val + (128 * u.val + r.val), by omega⟩ j) = Scalar.select (seen n r.val j.val) (0 : EReal) ⊥ := by
  have e : k0_pay72 (F := Ideal) (BitVec.ofNat 32 n) = grp4 (bcat4 (bias1 (BitVec.ofNat 32 n)) (bias1 (BitVec.ofNat 32 n)) (bias1 (BitVec.ofNat 32 n)) (bias1 (BitVec.ofNat 32 n)))
    (bcat4 (bias1 (BitVec.ofNat 32 n)) (bias1 (BitVec.ofNat 32 n)) (bias1 (BitVec.ofNat 32 n)) (bias1 (BitVec.ofNat 32 n)))
    (bcat4 (bias1 (BitVec.ofNat 32 n)) (bias1 (BitVec.ofNat 32 n)) (bias1 (BitVec.ofNat 32 n)) (bias1 (BitVec.ofNat 32 n)))
    (bcat4 (bias1 (BitVec.ofNat 32 n)) (bias1 (BitVec.ofNat 32 n)) (bias1 (BitVec.ofNat 32 n)) (bias1 (BitVec.ofNat 32 n))) := rfl
  rw [e]
  refine (grp4_apply (fun _ => _) g ⟨128 * u.val + r.val, by omega⟩ j).trans ?_
  rw [bcat4_apply, bias1_apply]

/-- Lane `l` of two tiles of keys or values side by side. -/
def lane (a b : FVec Ideal S256x128 .bf16) (j : Fin 256) (l : Fin 256) : EReal :=
  if h : l.val < 128 then a (ix2 j ⟨l.val, h⟩) else b (ix2 j ⟨l.val - 128, by omega⟩)

theorem sum_lanes (f : Fin 256 → EReal) :
    ∑ x : Fin 128, f ⟨x.val, by omega⟩ + ∑ x : Fin 128, f ⟨128 + x.val, by omega⟩ = ∑ c : Fin 4, ∑ d : Fin 64, f ⟨64 * c.val + d.val, by omega⟩ := by
  rw [Fin.sum_univ_two_halves 64 64 rfl, Fin.sum_univ_two_halves 64 64 rfl, Fin.sum_univ_four, ← add_assoc]
  refine congrArg₂ (· + ·) (congrArg₂ (· + ·) (congrArg₂ (· + ·) ?_ ?_) ?_) ?_ <;>
    exact Finset.sum_congr rfl fun d _ => congrArg f (Fin.ext (by first | rfl | omega | (simp only; omega) | (simp; omega) | simp))

theorem score_apply (q : Fin 8 → FVec Ideal S128x128 .f32) (k0 k1 : FVec Ideal S256x128 .bf16) (n : ℕ) (g u : Fin 4) (r : Fin 128) (j : Fin 256) :
    k0_pay91 k0 k1 (k0_pay72 (BitVec.ofNat 32 n)) (stackQ q) (ix2 ⟨512 * g.val + (128 * u.val + r.val), by omega⟩ j)
      = Scalar.select (seen n r.val j.val)
          ((∑ d : Fin 64, lane k0 k1 j ⟨64 * g.val + d.val, by omega⟩ * q ⟨2 * g.val + u.val / 2, by omega⟩ (ix2 r (inTile u.val d.val))) * eighth) (⊥ : EReal) := by
  have e : k0_pay91 k0 k1 (k0_pay72 (BitVec.ofNat 32 n)) (stackQ q) (ix2 ⟨512 * g.val + (128 * u.val + r.val), by omega⟩ j)
      = (∑ x : Fin 128, (fun l : Fin 256 => stackQ q (ix2 ⟨512 * g.val + (128 * u.val + r.val), by omega⟩ l) * lane k0 k1 j l) ⟨x.val, by omega⟩
        + ∑ x : Fin 128, (fun l : Fin 256 => stackQ q (ix2 ⟨512 * g.val + (128 * u.val + r.val), by omega⟩ l) * lane k0 k1 j l) ⟨128 + x.val, by omega⟩)
        + k0_pay72 (BitVec.ofNat 32 n) (ix2 ⟨512 * g.val + (128 * u.val + r.val), by omega⟩ j) := by
    pointwise [k0_pay91]
    refine congrArg (· + _) (congrArg₂ (· + ·) (Finset.sum_congr rfl fun x _ => ?_) (Finset.sum_congr rfl fun x _ => ?_))
    · unfold lane
      rw [dif_pos (by simp)]
    · unfold lane
      rw [dif_neg (by simp)]
      exact congrArg (_ * ·) (congrArg k1 (congrArg₂ ix2 rfl (Fin.ext (by simp))))
  rw [e, sum_lanes (fun l : Fin 256 => stackQ q (ix2 ⟨512 * g.val + (128 * u.val + r.val), by omega⟩ l) * lane k0 k1 j l), bias_apply,
    Finset.sum_eq_single g]
  · have e2 : ∀ d : Fin 64, stackQ q (ix2 ⟨512 * g.val + (128 * u.val + r.val), by omega⟩ ⟨64 * g.val + d.val, by omega⟩)
        = q ⟨2 * g.val + u.val / 2, by omega⟩ (ix2 r (inTile u.val d.val)) * eighth := by
      intro d
      rw [stackQ_apply, if_pos (by simp only; omega)]
      exact congrArg (· * eighth) (congrArg _ (congrArg₂ ix2 rfl (Fin.ext (by simp only [inTile]; omega))))
    have e3 : ∑ d : Fin 64, stackQ q (ix2 ⟨512 * g.val + (128 * u.val + r.val), by omega⟩ ⟨64 * g.val + d.val, by omega⟩)
          * lane k0 k1 j ⟨64 * g.val + d.val, by omega⟩
        = (∑ d : Fin 64, lane k0 k1 j ⟨64 * g.val + d.val, by omega⟩ * q ⟨2 * g.val + u.val / 2, by omega⟩ (ix2 r (inTile u.val d.val))) * eighth := by
      rw [eighth_eq, mul_comm _ (((1 / 8 : ℝ) : ℝ) : EReal), NormGrad.mul_sum _ _ (by norm_num)]
      refine Finset.sum_congr rfl fun d _ => ?_
      rw [e2, eighth_eq, mul_comm (q _ _), mul_assoc, mul_comm (q _ _)]
    rw [e3]
    unfold Scalar.select
    split_ifs
    · rw [add_zero]
    · rw [EReal.add_bot]
  · intro c _ hc
    refine Finset.sum_eq_zero fun d _ => ?_
    rw [stackQ_apply, if_neg (fun h => hc (Fin.ext (by simp only at h; omega))), zero_mul, zero_mul]
  · exact fun h => absurd (Finset.mem_univ _) h

/-- The largest score of each row, its sink included. -/
def mx (sc : FVec Ideal S2048x256 .f32) (sk : FVec Ideal S2048x1 .f32) : FVec Ideal S2048x1 .f32 :=
  maximumf (shapeCast S2048x1 (multiReduction .maximumf [1] S2048 sc 0xFF800000#32 reduces_S2048x256_S2048 (.inl rfl) rfl) shapeCasts_S2048_S2048x1) sk

/-- The weights before they are divided by their sum. -/
def ex (sc : FVec Ideal S2048x256 .f32) (m : FVec Ideal S2048x1 .f32) : FVec Ideal S2048x256 .f32 :=
  exp (subf sc (broadcastTo S2048x256 m broadcasts_S2048x1_S2048x256))

theorem neg_inf : (Ideal.ofBits .f32 4286578688#32 : EReal) = ⊥ := by simp [Ideal.ofBits, Ideal.ieee]

theorem mx_apply (sc : FVec Ideal S2048x256 .f32) (sk : FVec Ideal S2048x1 .f32) (r : Fin 2048) :
    mx sc sk (ix2 r 0) = rowMax (fun j => sc (ix2 r j)) (sk (ix2 r 0)) := by
  pointwise [mx]
  rw [neg_inf]
  rfl

theorem ex_apply (sc : FVec Ideal S2048x256 .f32) (m : FVec Ideal S2048x1 .f32) (r : Fin 2048) (j : Fin 256) :
    ex sc m (ix2 r j) = Ideal.exp (sc (ix2 r j) - m (ix2 r 0)) := by
  pointwise [ex]

/-- A row of outputs, from the scores, the sink and the values. -/
def outRow (s : Fin 256 → EReal) (k : EReal) (v : Fin 256 → EReal) : EReal := ∑ j, v j * weight s k j

theorem out_apply (v0 v1 : FVec Ideal S256x128 .bf16) (sc : FVec Ideal S2048x256 .f32) (sk : FVec Ideal S2048x1 .f32) (r : Fin 2048) (l : Fin 256)
    (h : rowSum (fun j => sc (ix2 r j)) (sk (ix2 r 0)) ≠ 0) :
    k0_pay94 v0 v1 sk (mx sc sk) (ex sc (mx sc sk)) (ix2 r l) = outRow (fun j => sc (ix2 r j)) (sk (ix2 r 0)) (fun j => lane v0 v1 j l) := by
  pointwise [k0_pay94]
  unfold outRow
  refine Finset.sum_congr rfl fun j _ => ?_
  simp only [ex_apply, mx_apply]
  rw [mul_comm]
  refine congrArg₂ (· * ·) rfl ?_
  exact div_mul _ _ h

/-- A row where some scores are minus infinity does not see the values there. -/
theorem outRow_congr (s s' : Fin 256 → EReal) (k : EReal) (v v' : Fin 256 → EReal) (hs : ∀ j, s j = s' j) (h : rowSum s k ≠ 0)
    (hv : ∀ j, s j = ⊥ ∨ v j = v' j) : outRow s k v = outRow s' k v' := by
  obtain rfl : s = s' := funext hs
  unfold outRow
  refine Finset.sum_congr rfl fun j _ => ?_
  rcases hv j with hj | hj
  · have : weight s k j = 0 := by
      unfold weight
      rw [hj, bot_exp, Ideal.div, if_neg h, zero_mul]
    rw [this, mul_zero, mul_zero]
  · rw [hj]

end AttnFwdPure
-- ==== Proof.AttnFwdRef.lean ====
module

public import proofs.«01_k».proof.Proof.AttnFwdCore
public import proofs.«01_k».proof.Proof.Gen.AttnFwdRefIdeal
public import proofs.«01_k».proof.Proof.Gen.AttnFwdRefIdeal.Read

@[expose] public section

set_option maxRecDepth 16384

noncomputable section

open Idealize.ShloMosaic

/-! The forward reference, read element by element. -/

namespace AttnFwdPure

open Cert.AttnFwdRefIdeal Cert.AttnFwdRefIdeal.Read AttnMath

variable (x0 : FVec Ideal S4096x4608 .f32) (x1 : IVec S4096 32) (x2 x3 : FVec Ideal S64 .f32) (x4 : FVec Ideal S16 .f32)

/-- The angle by which the pair `i` of the row `r` is rotated. -/
def ang (r : Fin 4096) (i : Fin 32) : EReal :=
  FloatOps.sitofp (F := Ideal) .f32 (x1 (ix1 r)) * Ideal.pow (Ideal.ofBits .f32 1176256512#32)
    (Ideal.div (-(Ideal.ofBits .f32 1073741824#32 * FloatOps.sitofp (F := Ideal) .f32 (BitVec.ofNat 32 i.val))) (Ideal.ofBits .f32 1115684864#32))

/-- A query head of a row, and a key head. -/
def qrow (r : Fin 4096) (h : Fin 16) : Fin 64 → EReal :=
  rot (fun d => x0 (ix2 r ⟨h.val * 64 + d.val, by omega⟩)) (fun d => x2 (ix1 d)) (fun i => Ideal.cos (ang x1 r i)) (fun i => Ideal.sin (ang x1 r i))
def krow (r : Fin 4096) (g : Fin 4) : Fin 64 → EReal :=
  rot (fun d => x0 (ix2 r ⟨1024 + (g.val * 64 + d.val), by omega⟩)) (fun d => x3 (ix1 d)) (fun i => Ideal.cos (ang x1 r i)) (fun i => Ideal.sin (ang x1 r i))
def vrow (r : Fin 4096) (g : Fin 4) : Fin 64 → EReal := fun d => x0 (ix2 r ⟨1280 + (g.val * 64 + d.val), by omega⟩)

/-- The key rows a block sees: those of the block before it, zeros before the first, and its own. -/
def twoBlocks (f : Fin 4096 → Fin 64 → EReal) (n : Fin 32) (j : Fin 256) (d : Fin 64) : EReal :=
  if h : j.val < 128 then if 1 ≤ n.val then f ⟨(n.val - 1) * 128 + j.val, by omega⟩ d else 0 else f ⟨n.val * 128 + (j.val - 128), by omega⟩ d

theorem cosR (r : Fin 4096) (i : Fin 32) : val_main_v20 (F := Ideal) x1 (ix2 r i) = Ideal.cos (ang x1 r i) := by
  pointwise [val_main_v20, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2]
  rfl

theorem sinR (r : Fin 4096) (i : Fin 32) : val_main_v21 (F := Ideal) x1 (ix2 r i) = Ideal.sin (ang x1 r i) := by
  pointwise [val_main_v21, val_main_v19, val_main_v18, val_main_v17, val_main_v16, val_main_v15, val_main_v14, val_main_v13, val_main_v12, val_main_v11, val_main_v10, val_main_v9, val_main_v8, val_main_v7, val_main_v6, val_main_v5, val_main_v4, val_main_cst, val_main_cst_0, val_main_cst_1, val_main_cst_2]
  rfl

theorem qnR (r : Fin 4096) (h : Fin 16) (d : Fin 64) :
    val_main_v35 (F := Ideal) x0 x2 (ix3 r h d) = nrm (fun d => x0 (ix2 r ⟨h.val * 64 + d.val, by omega⟩)) (fun d => x2 (ix1 d)) d := by
  pointwise [val_main_v35, val_main_v34, val_main_v33, val_main_v32, val_main_v31, val_main_v30, val_main_v29, val_main_v28, val_main_v27, val_main_v26, val_main_v25, val_main_v24, val_main_v23, val_main_v22, val_main_v0, val_main_cst_3, val_main_cst_4, val_main_cst_5]
  rfl

theorem knR (r : Fin 4096) (h : Fin 4) (d : Fin 64) :
    val_main_v64 (F := Ideal) x0 x3 (ix3 r h d) = nrm (fun d => x0 (ix2 r ⟨1024 + (h.val * 64 + d.val), by omega⟩)) (fun d => x3 (ix1 d)) d := by
  pointwise [val_main_v64, val_main_v63, val_main_v62, val_main_v61, val_main_v60, val_main_v59, val_main_v58, val_main_v57, val_main_v56, val_main_v55, val_main_v54, val_main_v53, val_main_v52, val_main_v51, val_main_v1, val_main_cst_6, val_main_cst_7, val_main_cst_8]
  rfl

theorem qR (r : Fin 4096) (h : Fin 16) (d : Fin 64) : val_main_v50 (F := Ideal) x0 x1 x2 (ix3 r h d) = qrow x0 x1 x2 r h d := by
  pointwise [val_main_v50, val_main_v49, val_main_v48, val_main_v47, val_main_v46, val_main_v45, val_main_v44, val_main_v43, val_main_v42, val_main_v41, val_main_v40, val_main_v39, val_main_v38, val_main_v37, val_main_v36]
  unfold qrow rot
  simp only [cosR, sinR, qnR]

theorem kR (r : Fin 4096) (h : Fin 4) (d : Fin 64) : val_main_v79 (F := Ideal) x0 x1 x3 (ix3 r h d) = krow x0 x1 x3 r h d := by
  pointwise [val_main_v79, val_main_v78, val_main_v77, val_main_v76, val_main_v75, val_main_v74, val_main_v73, val_main_v72, val_main_v71, val_main_v70, val_main_v69, val_main_v68, val_main_v67, val_main_v66, val_main_v65]
  unfold krow rot
  simp only [cosR, sinR, knR]

theorem sitofp0 : (FloatOps.sitofp (F := Ideal) .f32 0#32 : EReal) = 0 := by
  show ((((0#32 : BitVec 32).toInt : ℤ) : ℝ) : EReal) = 0
  simp

theorem kbR (n : Fin 32) (j : Fin 256) (g : Fin 4) (d : Fin 64) :
    val_main_v85 (F := Ideal) x0 x1 x3 (ix4 n j g d) = twoBlocks (fun r => krow x0 x1 x3 r g) n j d := by
  pointwise [val_main_v85, val_main_v84, val_main_v83, val_main_v82, val_main_call0_v0, val_main_c]
  simp only [kR]
  unfold twoBlocks
  split_ifs <;> first | omega | with_reducible rfl | exact sitofp0 | rfl

theorem vbR (n : Fin 32) (j : Fin 256) (g : Fin 4) (d : Fin 64) :
    val_main_v89 (F := Ideal) x0 (ix4 n j g d) = twoBlocks (fun r => vrow x0 r g) n j d := by
  pointwise [val_main_v89, val_main_v88, val_main_v87, val_main_v86, val_main_v80, val_main_v2, val_main_call1_v0, val_main_c_9]
  unfold twoBlocks
  split_ifs <;> first | omega | with_reducible rfl | exact sitofp0 | rfl

theorem seenR (n : Fin 32) (r : Fin 128) (j : Fin 256) : val_main_v123 (F := Ideal) (ix5 n 0 0 r j) = seen n.val r.val j.val := by
  pointwise [val_main_v123, val_main_v122, val_main_v121, val_main_v120, val_main_v119, val_main_v118, val_main_v117, val_main_v116, val_main_v115, val_main_v114, val_main_v113, val_main_v112, val_main_v111, val_main_v110, val_main_v109, val_main_v108, val_main_v107, val_main_v106, val_main_v105, val_main_v104, val_main_v103, val_main_v102, val_main_v101, val_main_v100, val_main_v99, val_main_v98, val_main_v97, val_main_v96, val_main_v95, val_main_v94, val_main_c_11, val_main_c_12, val_main_c_13, val_main_c_14, val_main_c_15]

/-- The score of key `j` of the two blocks at row `r` of block `n`, for head `u` of group `g`. -/
def score (n : Fin 32) (g u : Fin 4) (r : Fin 128) (j : Fin 256) : EReal :=
  Scalar.select (seen n.val r.val j.val) ((∑ d : Fin 64, twoBlocks (fun r => krow x0 x1 x3 r g) n j d
    * qrow x0 x1 x2 ⟨n.val * 128 + r.val, by omega⟩ ⟨g.val * 4 + u.val, by omega⟩ d) * eighth) ⊥

/-- The sink of a head. -/
def sinkOf (g u : Fin 4) : EReal := x4 (ix1 ⟨g.val * 4 + u.val, by omega⟩)

theorem scoreR (n : Fin 32) (g u : Fin 4) (r : Fin 128) (j : Fin 256) :
    val_main_v124 (F := Ideal) x0 x1 x2 x3 (ix5 n g u r j) = score x0 x1 x2 x3 n g u r j := by
  pointwise [val_main_v124, val_main_v93, val_main_v92, val_main_v91, val_main_v90, val_main_v81, val_main_cst_10, val_main_call2_v0, val_main_call2_v1,
    val_main_call2_v2, val_main_cst_16]
  unfold score
  simp only [kbR, qR]
  rw [seenR]
  exact congrArg (Scalar.select _ _) neg_inf

theorem withSinkR (n : Fin 32) (g u : Fin 4) (r : Fin 128) (j : Fin 257) :
    val_main_v127 (F := Ideal) x0 x1 x2 x3 x4 (ix5 n g u r j)
      = if h : j.val < 256 then score x0 x1 x2 x3 n g u r ⟨j.val, h⟩ else sinkOf x4 g u := by
  pointwise [val_main_v127, val_main_v126, val_main_v125]
  simp only [scoreR]
  rfl

theorem foldR (n : Fin 32) (g u : Fin 4) (r : Fin 128) :
    val_main_v128 (F := Ideal) x0 x1 x2 x3 x4 (ix4 n g u r)
      = Finset.fold max (Ideal.ofBits .f32 4286578688#32) (fun j : Fin 257 => val_main_v127 (F := Ideal) x0 x1 x2 x3 x4 (ix5 n g u r j)) Finset.univ := by
  pointwise [val_main_v128, val_main_cst_17]

theorem max_const (y : FVec Ideal S32x4x4x128 .f32) (n : Fin 32) (g u : Fin 4) (r : Fin 128) :
    maximumf (val_main_v129 (F := Ideal)) y (ix4 n g u r) = max (Ideal.ofBits .f32 4286578688#32) (y (ix4 n g u r)) := by
  pointwise [val_main_v129, val_main_cst_18]

theorem maxR (n : Fin 32) (g u : Fin 4) (r : Fin 128) :
    val_main_v130 (F := Ideal) x0 x1 x2 x3 x4 (ix4 n g u r) = rowMax (score x0 x1 x2 x3 n g u r) (sinkOf x4 g u) := by
  have e : val_main_v130 (F := Ideal) x0 x1 x2 x3 x4 (ix4 n g u r)
      = max (Ideal.ofBits .f32 4286578688#32) (val_main_v128 (F := Ideal) x0 x1 x2 x3 x4 (ix4 n g u r)) :=
    max_const (val_main_v128 (F := Ideal) x0 x1 x2 x3 x4) n g u r
  rw [e, foldR, neg_inf, ← rowMax_eq]
  simp only [withSinkR]

theorem expR (n : Fin 32) (g u : Fin 4) (r : Fin 128) (j : Fin 257) :
    val_main_v134 (F := Ideal) x0 x1 x2 x3 x4 (ix5 n g u r j)
      = Ideal.exp ((if h : j.val < 256 then score x0 x1 x2 x3 n g u r ⟨j.val, h⟩ else sinkOf x4 g u)
        - rowMax (score x0 x1 x2 x3 n g u r) (sinkOf x4 g u)) := by
  pointwise [val_main_v134, val_main_v133, val_main_v132, val_main_v131]
  rw [withSinkR, maxR]

theorem weightR (n : Fin 32) (g u : Fin 4) (r : Fin 128) (j : Fin 256) :
    val_main_v138 (F := Ideal) x0 x1 x2 x3 x4 (ix5 n g u r ⟨j.val, by omega⟩) = weight (score x0 x1 x2 x3 n g u r) (sinkOf x4 g u) j := by
  pointwise [val_main_v138, val_main_v137, val_main_v136, val_main_v135, val_main_cst_19]
  simp only [expR]
  rw [rowSum_eq, dif_pos j.isLt]
  rfl

theorem outR (r : Fin 4096) (l : Fin 1024) :
    val_main_v144 (F := Ideal) x0 x1 x2 x3 x4 (ix2 r l)
      = outRow (score x0 x1 x2 x3 ⟨r.val / 128, by omega⟩ ⟨l.val / 256, by omega⟩ ⟨l.val / 64 % 4, by omega⟩ ⟨r.val % 128, by omega⟩)
          (sinkOf x4 ⟨l.val / 256, by omega⟩ ⟨l.val / 64 % 4, by omega⟩)
          (fun j => twoBlocks (fun r => vrow x0 r ⟨l.val / 256, by omega⟩) ⟨r.val / 128, by omega⟩ j ⟨l.val % 64, by omega⟩)
        * (x0 (ix2 r ⟨1536 + l.val, by omega⟩) * Ideal.div 1 (1 + Ideal.exp (-x0 (ix2 r ⟨1536 + l.val, by omega⟩)))) := by
  pointwise [val_main_v144, val_main_v143, val_main_call3_v5, val_main_call3_v4, val_main_call3_v3, val_main_call3_v2, val_main_call3_v1,
    val_main_call3_v0, val_main_call3_cst, val_main_call3_cst_0, val_main_v142, val_main_v141, val_main_v140, val_main_v139, val_main_v3]
  refine congrArg (· * _) ?_
  unfold outRow
  refine Finset.sum_congr rfl fun j _ => ?_
  rw [vbR, weightR]

/-- The scores are finite or minus infinity, and the sink's weight keeps the sum from vanishing. -/
theorem pow_real (i : Fin 32) : ∃ p : ℝ, Ideal.pow (Ideal.ofBits .f32 1176256512#32)
    (Ideal.div (-(Ideal.ofBits .f32 1073741824#32 * FloatOps.sitofp (F := Ideal) .f32 (BitVec.ofNat 32 i.val))) (Ideal.ofBits .f32 1115684864#32)) = (p : EReal) := by
  have e1 : (Ideal.ofBits .f32 1176256512#32 : EReal) = ((10000 : ℝ) : EReal) := by
    simp [Ideal.ofBits, Ideal.ieee, -EReal.coe_mul]; norm_num
  have e2 : (Ideal.ofBits .f32 1073741824#32 : EReal) = ((2 : ℝ) : EReal) := by
    simp [Ideal.ofBits, Ideal.ieee, -EReal.coe_mul]; try norm_num
  have e3 : ∃ s : ℝ, (FloatOps.sitofp (F := Ideal) .f32 (BitVec.ofNat 32 i.val) : EReal) = (s : EReal) := ⟨_, rfl⟩
  obtain ⟨s, e3⟩ := e3
  rw [e1, e2, e3, show (Ideal.ofBits .f32 1115684864#32 : EReal) = _ from n64_eq, Ideal.div_coe (by norm_num), ← EReal.coe_mul, ← EReal.coe_neg, ← EReal.coe_mul]
  exact ⟨_, rfl⟩

theorem ang_real (r : Fin 4096) (i : Fin 32) : ∃ a : ℝ, ang x1 r i = (a : EReal) := by
  obtain ⟨p, hp⟩ := pow_real i
  refine ⟨((x1 (ix1 r)).toInt : ℝ) * p, ?_⟩
  unfold ang
  rw [hp, EReal.coe_mul]
  rfl

theorem cos_real {x : EReal} (h : ∃ a : ℝ, x = (a : EReal)) : ∃ a : ℝ, Ideal.cos x = (a : EReal) := by
  obtain ⟨a, rfl⟩ := h
  exact ⟨_, rfl⟩

theorem sin_real {x : EReal} (h : ∃ a : ℝ, x = (a : EReal)) : ∃ a : ℝ, Ideal.sin x = (a : EReal) := by
  obtain ⟨a, rfl⟩ := h
  exact ⟨_, rfl⟩

theorem score_ne (h2 : ∀ d, ∃ a : ℝ, x2 d = (a : EReal)) (h3 : ∀ d, ∃ a : ℝ, x3 d = (a : EReal)) (n : Fin 32) (g u : Fin 4) (r : Fin 128) (j : Fin 256) :
    score x0 x1 x2 x3 n g u r j ≠ ⊤ := by
  have hk : ∀ r g d, ∃ a : ℝ, krow x0 x1 x3 r g d = (a : EReal) := fun r g d =>
    rot_real _ _ _ _ d (fun d => h3 _) (fun i => cos_real (ang_real x1 r i)) (fun i => sin_real (ang_real x1 r i))
  have hq : ∀ r h d, ∃ a : ℝ, qrow x0 x1 x2 r h d = (a : EReal) := fun r h d =>
    rot_real _ _ _ _ d (fun d => h2 _) (fun i => cos_real (ang_real x1 r i)) (fun i => sin_real (ang_real x1 r i))
  have hb : ∀ d, ∃ a : ℝ, twoBlocks (fun r => krow x0 x1 x3 r g) n j d = (a : EReal) := by
    intro d
    unfold twoBlocks
    split_ifs
    · exact hk _ _ _
    · exact ⟨0, rfl⟩
    · exact hk _ _ _
  obtain ⟨s, hs⟩ := sum_real (fun d : Fin 64 => twoBlocks (fun r => krow x0 x1 x3 r g) n j d
    * qrow x0 x1 x2 ⟨n.val * 128 + r.val, by omega⟩ ⟨g.val * 4 + u.val, by omega⟩ d) (fun d => by
      obtain ⟨a, ha⟩ := hb d
      obtain ⟨b, hb⟩ := hq ⟨n.val * 128 + r.val, by omega⟩ ⟨g.val * 4 + u.val, by omega⟩ d
      exact ⟨a * b, by rw [ha, hb, EReal.coe_mul]⟩)
  unfold score
  rw [hs, eighth_eq, ← EReal.coe_mul]
  unfold Scalar.select
  split_ifs
  · exact EReal.coe_ne_top _
  · exact bot_ne_top

theorem rowSum_score (h2 : ∀ d, ∃ a : ℝ, x2 d = (a : EReal)) (h3 : ∀ d, ∃ a : ℝ, x3 d = (a : EReal)) (h4 : ∀ d, ∃ a : ℝ, x4 d = (a : EReal))
    (n : Fin 32) (g u : Fin 4) (r : Fin 128) : rowSum (score x0 x1 x2 x3 n g u r) (sinkOf x4 g u) ≠ 0 := by
  obtain ⟨k, hk⟩ := h4 (ix1 ⟨g.val * 4 + u.val, by omega⟩)
  rw [show sinkOf x4 g u = (k : EReal) from hk]
  exact rowSum_ne _ _ fun j => score_ne x0 x1 x2 x3 h2 h3 n g u r j

/-- Before the first block nothing is seen. -/
theorem not_seen (n r : ℕ) (j : Fin 256) (hn : n = 0) (hj : j.val < 128) : seen n r j.val = 0#1 := by
  subst hn
  have e : ∀ j : Fin 128, IntOp.ori (IntOp.cmpi .sgt (BitVec.ofNat 32 0) 0#32) (IntOp.cmpi .sge (BitVec.ofNat 32 j.val) 128#32) = 0#1 := by decide +kernel
  have e2 : ∀ b : BitVec 1, IntOp.andi b 0#1 = 0#1 := by decide
  unfold seen
  rw [e ⟨j.val, hj⟩, e2]

end AttnFwdPure
-- ==== Proof.AttnFwdBody.lean ====
module

public import proofs.«01_k».proof.Proof.AttnFwdRef
public import proofs.«01_k».proof.Proof.AttnFwdCore
public import Idealize.ShloMosaic.Lib.Pipeline.ValueKit

@[expose] public section

set_option maxRecDepth 16384

noncomputable section

open Idealize.ShloMosaic Idealize.ShloMosaic.TcCoe Idealize.SL.Sem

/-! The attention forward kernel's body as one function of its blocks, and its value at an index. -/

namespace AttnFwdPure

open Cert.AttnFwdIdeal Cert.AttnFwdIdeal.Gen AttnMath

variable (A0 : FVec Ideal S128x1024 .f32) (A1 A2 A3 A4 : FVec Ideal S128x256 .f32) (A5 A6 : FVec Ideal S128x512 .f32)
  (A7 A8 : FVec Ideal S128x256 .f32) (A9 A10 : FVec Ideal S1x128 .f32) (A11 : FVec Ideal S1x16 .f32)

/-- The cosines and the sines of a block's rows. -/
def cosT (A : FVec Ideal S128x256 .f32) : FVec Ideal S128x128 .f32   :=
  View.ld (Val := Elt Ideal) (e' := .f32) (A : S128x256.Idx → Elt Ideal .f32) (Rect.unit ![0, 0] ![128, 128] inb_S128x256_S128x128_0_0)
def sinT (A : FVec Ideal S128x256 .f32) : FVec Ideal S128x128 .f32   :=
  View.ld (Val := Elt Ideal) (e' := .f32) (A : S128x256.Idx → Elt Ideal .f32) (Rect.unit ![0, 128] ![128, 128] inb_S128x256_S128x128_0_128)

/-- The eight tiles of queries, before they are normalised. -/
def rawQ : Fin 8 → FVec Ideal S128x128 .f32
  | 0 => extractStridedSlice S128x128 ![0, 0] A0 slices_S128x1024_o0_0_S128x128
  | 1 => extractStridedSlice S128x128 ![0, 128] A0 slices_S128x1024_o0_128_S128x128
  | 2 => extractStridedSlice S128x128 ![0, 256] A0 slices_S128x1024_o0_256_S128x128
  | 3 => extractStridedSlice S128x128 ![0, 384] A0 slices_S128x1024_o0_384_S128x128
  | 4 => extractStridedSlice S128x128 ![0, 512] A0 slices_S128x1024_o0_512_S128x128
  | 5 => extractStridedSlice S128x128 ![0, 640] A0 slices_S128x1024_o0_640_S128x128
  | 6 => extractStridedSlice S128x128 ![0, 768] A0 slices_S128x1024_o0_768_S128x128
  | 7 => extractStridedSlice S128x128 ![0, 896] A0 slices_S128x1024_o0_896_S128x128

theorem rawQ_apply (i : Fin 8) (r l : Fin 128) : rawQ A0 i (ix2 r l) = A0 (ix2 r ⟨128 * i.val + l.val, by omega⟩) := by
  match i with
  | 0 | 1 | 2 | 3 | 4 | 5 | 6 | 7 =>
    pointwise [rawQ]
    try exact congrArg A0 (congrArg₂ ix2 rfl (Fin.ext (by first | rfl | omega | (simp only; omega) | (simp; omega))))

/-- The eight tiles of queries. -/
def tileQ (i : Fin 8) : FVec Ideal S128x128 .f32 := prepQ (k0_pay1 (cosT A7)) (k0_pay2 (sinT A7)) (rawQ A0 i) (k0_pay66 A9)

/-- The two tiles of keys. -/
def tileK0 : FVec Ideal S256x128 .bf16 := prepK (k0_pay3 (cosT A7) (cosT A8)) (k0_pay4 (sinT A7) (sinT A8))
  (extractStridedSlice S256x128 ![0, 0] (k0_pay5 A2 A1) slices_S256x256_o0_0_S256x128) A10
def tileK1 : FVec Ideal S256x128 .bf16 := prepK (k0_pay3 (cosT A7) (cosT A8)) (k0_pay4 (sinT A7) (sinT A8))
  (extractStridedSlice S256x128 ![0, 128] (k0_pay5 A2 A1) slices_S256x256_o0_128_S256x128) A10

/-- One entry of a row of sixteen. -/
abbrev pick (A : FVec Ideal S1x16 .f32) (R : Rect S1x16) : FVec Ideal R.shape .f32 := View.ld (Val := Elt Ideal) (e' := .f32) (A : S1x16.Idx → Elt Ideal .f32) R

/-- The sixteen sinks. -/
def sinkAt : Fin 16 → FVec Ideal S1x1 .f32 :=
  ![pick A11 (Rect.unit ![0, 0] ![1, 1] inb_S1x16_S1x1_0_0), pick A11 (Rect.unit ![0, 1] ![1, 1] inb_S1x16_S1x1_0_1), pick A11 (Rect.unit ![0, 2] ![1, 1] inb_S1x16_S1x1_0_2), pick A11 (Rect.unit ![0, 3] ![1, 1] inb_S1x16_S1x1_0_3), pick A11 (Rect.unit ![0, 4] ![1, 1] inb_S1x16_S1x1_0_4), pick A11 (Rect.unit ![0, 5] ![1, 1] inb_S1x16_S1x1_0_5), pick A11 (Rect.unit ![0, 6] ![1, 1] inb_S1x16_S1x1_0_6), pick A11 (Rect.unit ![0, 7] ![1, 1] inb_S1x16_S1x1_0_7),
    pick A11 (Rect.unit ![0, 8] ![1, 1] inb_S1x16_S1x1_0_8), pick A11 (Rect.unit ![0, 9] ![1, 1] inb_S1x16_S1x1_0_9), pick A11 (Rect.unit ![0, 10] ![1, 1] inb_S1x16_S1x1_0_10), pick A11 (Rect.unit ![0, 11] ![1, 1] inb_S1x16_S1x1_0_11), pick A11 (Rect.unit ![0, 12] ![1, 1] inb_S1x16_S1x1_0_12), pick A11 (Rect.unit ![0, 13] ![1, 1] inb_S1x16_S1x1_0_13), pick A11 (Rect.unit ![0, 14] ![1, 1] inb_S1x16_S1x1_0_14), pick A11 (Rect.unit ![0, 15] ![1, 1] inb_S1x16_S1x1_0_15)]

/-- The scores of a block. -/
def scores (n : BitVec 32) : FVec Ideal S2048x256 .f32 :=
  k0_pay91 (tileK0 A1 A2 A7 A8 A10) (tileK1 A1 A2 A7 A8 A10) (k0_pay72 n) (stackQ (tileQ A0 A7 A9))

/-- The body's output block. -/
def body (n : BitVec 32) : FVec Ideal S128x1024 .f32 :=
  gated (wide (untile (k0_pay94 (k0_pay21 (k0_pay6 A4 A3)) (k0_pay22 (k0_pay6 A4 A3)) (sinkCol (sinkAt A11))
    (mx (scores A0 A1 A2 A7 A8 A9 A10 n) (sinkCol (sinkAt A11)))
    (ex (scores A0 A1 A2 A7 A8 A9 A10 n) (mx (scores A0 A1 A2 A7 A8 A9 A10 n) (sinkCol (sinkAt A11))))))) (gateCat A5 A6)

theorem stack_of {q0 q1 q2 q3 q4 q5 q6 q7 : FVec Ideal S128x128 .f32} (q : Fin 8 → FVec Ideal S128x128 .f32) (h0 : q0 = q 0) (h1 : q1 = q 1)
    (h2 : q2 = q 2) (h3 : q3 = q 3) (h4 : q4 = q 4) (h5 : q5 = q 5) (h6 : q6 = q 6) (h7 : q7 = q 7) :
    k0_pay87 q7 k0_pay73 (k0_pay74 q0 q1 k0_pay73 (iota .tc S1x128 32 [1] iota_S1x128_d1_w32)) (k0_pay77 q2 q3 k0_pay73 (k0_pay75 q2) k0_pay76)
      (k0_pay81 q5 k0_pay73 (k0_pay78 q4) (k0_pay79 q4) (Scalar.ofBits .f32 0x00000000#32) k0_pay80) (k0_pay82 q6) (k0_pay83 q6)
      (k0_pay84 q7) k0_pay85 k0_pay86 = stackQ q := by
  rw [h0, h1, h2, h3, h4, h5, h6, h7]
  exact stackQ_eq q

theorem soft_of {v0 v1 k0 k1 : FVec Ideal S256x128 .bf16} {b : FVec Ideal S2048x256 .f32} {q : FVec Ideal S2048x256 .bf16} (a : Fin 16 → FVec Ideal S1x1 .f32)
    {k0' k1' : FVec Ideal S256x128 .bf16} {q' : FVec Ideal S2048x256 .bf16} (h0 : k0 = k0') (h1 : k1 = k1') (hq : q = q') :
    k0_pay94 v0 v1 (k0_pay90 (k0_pay88 (a 0) (a 1) (a 2) (a 3)) (k0_pay89 (a 4) (a 5) (a 6) (a 7)) (a 8) (a 9) (a 10) (a 11) (a 12) (a 13) (a 14) (a 15))
      (k0_pay92 k0 k1 b q (k0_pay88 (a 0) (a 1) (a 2) (a 3)) (k0_pay89 (a 4) (a 5) (a 6) (a 7)) (a 8) (a 9) (a 10) (a 11) (a 12) (a 13) (a 14) (a 15))
      (k0_pay93 k0 k1 b q (k0_pay88 (a 0) (a 1) (a 2) (a 3)) (k0_pay89 (a 4) (a 5) (a 6) (a 7)) (a 8) (a 9) (a 10) (a 11) (a 12) (a 13) (a 14) (a 15))
      = k0_pay94 v0 v1 (sinkCol a) (mx (k0_pay91 k0' k1' b q') (sinkCol a)) (ex (k0_pay91 k0' k1' b q') (mx (k0_pay91 k0' k1' b q') (sinkCol a))) := by
  rw [h0, h1, hq]
  rfl

theorem cosT_apply (A : FVec Ideal S128x256 .f32) (r l : Fin 128) : cosT A (ix2 r l) = A (ix2 r ⟨l.val, by omega⟩) := by
  pointwise [cosT]

theorem sinT_apply (A : FVec Ideal S128x256 .f32) (r l : Fin 128) : sinT A (ix2 r l) = A (ix2 r ⟨128 + l.val, by omega⟩) := by
  pointwise [sinT]

theorem sinkAt_apply (h : Fin 16) : sinkAt A11 h (ix2 0 0) = A11 (ix2 0 h) := by
  fin_cases h <;> (pointwise [sinkAt, pick])

/-! ## The blocks as rows of the arrays -/

theorem sel_zero (a b : EReal) : Scalar.select 0#1 a b = b := rfl
theorem sel_congr (p : BitVec 1) {a a' : EReal} (h : a = a') : Scalar.select p (a * eighth) (⊥ : EReal) = Scalar.select p (a' * eighth) ⊥ := by rw [h]

/-- The row of the array that key `j` of block `n` is. -/
def keyAt (n : Fin 32) (j : Fin 256) : Fin 4096 := ⟨if j.val < 128 then (n.val - 1) * 128 + j.val else n.val * 128 + (j.val - 128), by split_ifs <;> omega⟩

theorem key_lo (n : Fin 32) (j : Fin 256) (h : j.val < 128) : keyAt n j = ⟨(n.val - 1) * 128 + j.val, by omega⟩ := Fin.ext (if_pos h)
theorem key_hi (n : Fin 32) (j : Fin 256) (h : ¬j.val < 128) : keyAt n j = ⟨n.val * 128 + (j.val - 128), by omega⟩ := Fin.ext (if_neg h)

theorem twoBlocks_eq (f : Fin 4096 → Fin 64 → EReal) (n : Fin 32) (j : Fin 256) (d : Fin 64) (h : ¬(n.val = 0 ∧ j.val < 128)) :
    twoBlocks f n j d = f (keyAt n j) d := by
  unfold twoBlocks
  by_cases hj : j.val < 128
  · rw [dif_pos hj, if_pos (by omega), key_lo n j hj]
  · rw [dif_neg hj, key_hi n j hj]

/-- Two halves of a block below each other. -/
theorem pay3_apply (a b : FVec Ideal S128x128 .f32) (j : Fin 256) (l : Fin 128) :
    k0_pay3 a b (ix2 j l) = if h : j.val < 128 then b (ix2 ⟨j.val, h⟩ l) else a (ix2 ⟨j.val - 128, by omega⟩ l) := by
  pointwise [k0_pay3, k0_pay1]
theorem pay4_apply (a b : FVec Ideal S128x128 .f32) (j : Fin 256) (l : Fin 128) :
    k0_pay4 a b (ix2 j l) = if h : j.val < 128 then b (ix2 ⟨j.val, h⟩ l) else a (ix2 ⟨j.val - 128, by omega⟩ l) := by
  pointwise [k0_pay4, k0_pay2]
theorem pay5_apply (a b : FVec Ideal S128x256 .f32) (j : Fin 256) (l : Fin 256) :
    k0_pay5 a b (ix2 j l) = if h : j.val < 128 then a (ix2 ⟨j.val, h⟩ l) else b (ix2 ⟨j.val - 128, by omega⟩ l) := by
  pointwise [k0_pay5]
theorem pay6_apply (a b : FVec Ideal S128x256 .f32) (j : Fin 256) (l : Fin 256) :
    (k0_pay6 (F := Ideal) a b (ix2 j l) : EReal) = if h : j.val < 128 then a (ix2 ⟨j.val, h⟩ l) else b (ix2 ⟨j.val - 128, by omega⟩ l) := by
  pointwise [k0_pay6]

theorem slice0_apply (a : FVec Ideal S256x256 .f32) (j : Fin 256) (l : Fin 128) :
    extractStridedSlice S256x128 ![0, 0] a slices_S256x256_o0_0_S256x128 (ix2 j l) = a (ix2 j ⟨l.val, by omega⟩) := by
  pointwise []
theorem slice1_apply (a : FVec Ideal S256x256 .f32) (j : Fin 256) (l : Fin 128) :
    extractStridedSlice S256x128 ![0, 128] a slices_S256x256_o0_128_S256x128 (ix2 j l) = a (ix2 j ⟨128 + l.val, by omega⟩) := by
  pointwise []

section
variable (x0 : FVec Ideal S4096x4608 .f32) (x1 : IVec S4096 32) (x2 x3 : FVec Ideal S64 .f32) (x4 : FVec Ideal S16 .f32) (n : Fin 32)

/-- What the blocks hold, as rows of the arguments. -/
structure Blocks : Prop where
  h0 : ∀ (r : Fin 128) (k : Fin 1024), A0 (ix2 r k) = x0 (ix2 ⟨n.val * 128 + r.val, by omega⟩ ⟨k.val, by omega⟩)
  h1 : ∀ (r : Fin 128) (k : Fin 256), A1 (ix2 r k) = x0 (ix2 ⟨n.val * 128 + r.val, by omega⟩ ⟨1024 + k.val, by omega⟩)
  h2 : ∀ (r : Fin 128) (k : Fin 256), A2 (ix2 r k) = x0 (ix2 ⟨(n.val - 1) * 128 + r.val, by omega⟩ ⟨1024 + k.val, by omega⟩)
  h3 : ∀ (r : Fin 128) (k : Fin 256), A3 (ix2 r k) = x0 (ix2 ⟨n.val * 128 + r.val, by omega⟩ ⟨1280 + k.val, by omega⟩)
  h4 : ∀ (r : Fin 128) (k : Fin 256), A4 (ix2 r k) = x0 (ix2 ⟨(n.val - 1) * 128 + r.val, by omega⟩ ⟨1280 + k.val, by omega⟩)
  h5 : ∀ (r : Fin 128) (k : Fin 512), A5 (ix2 r k) = x0 (ix2 ⟨n.val * 128 + r.val, by omega⟩ ⟨1536 + k.val, by omega⟩)
  h6 : ∀ (r : Fin 128) (k : Fin 512), A6 (ix2 r k) = x0 (ix2 ⟨n.val * 128 + r.val, by omega⟩ ⟨2048 + k.val, by omega⟩)
  h7c : ∀ r l : Fin 128, A7 (ix2 r ⟨l.val, by omega⟩) = Ideal.cos (ang x1 ⟨n.val * 128 + r.val, by omega⟩ ⟨l.val % 32, by omega⟩)
  h7s : ∀ r l : Fin 128, A7 (ix2 r ⟨128 + l.val, by omega⟩) = Ideal.sin (ang x1 ⟨n.val * 128 + r.val, by omega⟩ ⟨l.val % 32, by omega⟩)
  h8c : ∀ r l : Fin 128, A8 (ix2 r ⟨l.val, by omega⟩) = Ideal.cos (ang x1 ⟨(n.val - 1) * 128 + r.val, by omega⟩ ⟨l.val % 32, by omega⟩)
  h8s : ∀ r l : Fin 128, A8 (ix2 r ⟨128 + l.val, by omega⟩) = Ideal.sin (ang x1 ⟨(n.val - 1) * 128 + r.val, by omega⟩ ⟨l.val % 32, by omega⟩)
  h9 : ∀ l : Fin 128, A9 (ix2 0 l) = x2 (ix1 ⟨l.val % 64, by omega⟩)
  h10 : ∀ l : Fin 128, A10 (ix2 0 l) = x3 (ix1 ⟨l.val % 64, by omega⟩)
  h11 : ∀ h : Fin 16, A11 (ix2 0 h) = x4 (ix1 h)

variable {A0 A1 A2 A3 A4 A5 A6 A7 A8 A9 A10 A11 x0 x1 x2 x3 x4 n} (B : Blocks A0 A1 A2 A3 A4 A5 A6 A7 A8 A9 A10 A11 x0 x1 x2 x3 x4 n)
include B

theorem query (g u : Fin 4) (r : Fin 128) (d : Fin 64) :
    tileQ A0 A7 A9 ⟨2 * g.val + u.val / 2, by omega⟩ (ix2 r (inTile u.val d.val))
      = qrow x0 x1 x2 ⟨n.val * 128 + r.val, by omega⟩ ⟨g.val * 4 + u.val, by omega⟩ d := by
  have e : inTile u.val d.val = ⟨64 * (⟨u.val % 2, by omega⟩ : Fin 2).val + d.val, by simp only; omega⟩ := Fin.ext (by simp only [inTile]; omega)
  unfold tileQ
  rw [prepQ_apply, e, tile_eq _ _ _ _ (fun i => Ideal.cos (ang x1 ⟨n.val * 128 + r.val, by omega⟩ i))
    (fun i => Ideal.sin (ang x1 ⟨n.val * 128 + r.val, by omega⟩ i))
    (fun l => (show _ = _ by pointwise [k0_pay1]; rw [cosT_apply, B.h7c]))
    (fun l => (show _ = _ by pointwise [k0_pay2]; rw [sinT_apply, B.h7s]))]
  unfold qrow
  refine congrArg₂ (fun a b => rot a b _ _ d) (funext fun d => ?_) (funext fun d => ?_)
  · rw [rawQ_apply, B.h0]
    exact congrArg x0 (congrArg₂ ix2 rfl (Fin.ext (by simp only; omega)))
  · refine Eq.trans (b := A9 (ix2 0 ⟨64 * (u.val % 2) + d.val, by omega⟩)) (by pointwise [k0_pay66]) ?_
    rw [B.h9]
    exact congrArg x2 (congrArg ix1 (Fin.ext (by simp only; omega)))

theorem cosK_row (j : Fin 256) (l : Fin 128) :
    k0_pay3 (F := Ideal) (cosT A7) (cosT A8) (ix2 j l) = Ideal.cos (ang x1 (keyAt n j) ⟨l.val % 32, by omega⟩) := by
  rw [pay3_apply]
  by_cases h : j.val < 128
  · rw [dif_pos h, cosT_apply, B.h8c, key_lo n j h]
  · rw [dif_neg h, cosT_apply, B.h7c, key_hi n j h]

theorem sinK_row (j : Fin 256) (l : Fin 128) :
    k0_pay4 (F := Ideal) (sinT A7) (sinT A8) (ix2 j l) = Ideal.sin (ang x1 (keyAt n j) ⟨l.val % 32, by omega⟩) := by
  rw [pay4_apply]
  by_cases h : j.val < 128
  · rw [dif_pos h, sinT_apply, B.h8s, key_lo n j h]
  · rw [dif_neg h, sinT_apply, B.h7s, key_hi n j h]

theorem rawK (j : Fin 256) (k : Fin 256) : k0_pay5 A2 A1 (ix2 j k) = x0 (ix2 (keyAt n j) ⟨1024 + k.val, by omega⟩) := by
  rw [pay5_apply]
  by_cases h : j.val < 128
  · rw [dif_pos h, B.h2, key_lo n j h]
  · rw [dif_neg h, B.h1, key_hi n j h]

theorem rawV (j : Fin 256) (k : Fin 256) : (k0_pay6 (F := Ideal) A4 A3 (ix2 j k) : EReal) = x0 (ix2 (keyAt n j) ⟨1280 + k.val, by omega⟩) := by
  rw [pay6_apply]
  by_cases h : j.val < 128
  · rw [dif_pos h, B.h4, key_lo n j h]
  · rw [dif_neg h, B.h3, key_hi n j h]

theorem key (j : Fin 256) (g : Fin 4) (d : Fin 64) :
    lane (tileK0 A1 A2 A7 A8 A10) (tileK1 A1 A2 A7 A8 A10) j ⟨64 * g.val + d.val, by omega⟩ = krow x0 x1 x3 (keyAt n j) g d := by
  unfold lane krow
  by_cases h : 64 * g.val + d.val < 128
  · rw [dif_pos h]
    have e : (⟨64 * g.val + d.val, h⟩ : Fin 128) = ⟨64 * (⟨g.val, by omega⟩ : Fin 2).val + d.val, by simp only; omega⟩ := rfl
    unfold tileK0
    rw [prepK_apply, e, tile_eq _ _ _ _ (fun i => Ideal.cos (ang x1 (keyAt n j) i)) (fun i => Ideal.sin (ang x1 (keyAt n j) i))
      (fun l => cosK_row B j l) (fun l => sinK_row B j l)]
    refine congrArg₂ (fun a b => rot a b _ _ d) (funext fun d => ?_) (funext fun d => ?_)
    · rw [slice0_apply, rawK B]
      exact congrArg x0 (congrArg₂ ix2 rfl (Fin.ext (by simp only; omega)))
    · rw [B.h10]
      exact congrArg x3 (congrArg ix1 (Fin.ext (by simp only; omega)))
  · rw [dif_neg h]
    have e : (⟨64 * g.val + d.val - 128, by omega⟩ : Fin 128) = ⟨64 * (⟨g.val - 2, by omega⟩ : Fin 2).val + d.val, by simp only; omega⟩ :=
      Fin.ext (by simp only; omega)
    unfold tileK1
    rw [prepK_apply, e, tile_eq _ _ _ _ (fun i => Ideal.cos (ang x1 (keyAt n j) i)) (fun i => Ideal.sin (ang x1 (keyAt n j) i))
      (fun l => cosK_row B j l) (fun l => sinK_row B j l)]
    refine congrArg₂ (fun a b => rot a b _ _ d) (funext fun d => ?_) (funext fun d => ?_)
    · rw [slice1_apply, rawK B]
      exact congrArg x0 (congrArg₂ ix2 rfl (Fin.ext (by simp only; omega)))
    · rw [B.h10]
      exact congrArg x3 (congrArg ix1 (Fin.ext (by simp only; omega)))

theorem value (j : Fin 256) (g : Fin 4) (d : Fin 64) :
    lane (k0_pay21 (k0_pay6 A4 A3)) (k0_pay22 (k0_pay6 A4 A3)) j ⟨64 * g.val + d.val, by omega⟩ = vrow x0 (keyAt n j) g d := by
  unfold lane vrow
  by_cases h : 64 * g.val + d.val < 128
  · rw [dif_pos h]
    refine Eq.trans (b := k0_pay6 (F := Ideal) A4 A3 (ix2 j ⟨64 * g.val + d.val, by omega⟩)) (by pointwise [k0_pay21]) ?_
    rw [rawV B]
    exact congrArg x0 (congrArg₂ ix2 rfl (Fin.ext (by simp only; omega)))
  · rw [dif_neg h]
    refine Eq.trans (b := k0_pay6 (F := Ideal) A4 A3 (ix2 j ⟨128 + (64 * g.val + d.val - 128), by omega⟩)) (by pointwise [k0_pay22]) ?_
    rw [rawV B]
    exact congrArg x0 (congrArg₂ ix2 rfl (Fin.ext (by simp only; omega)))

theorem scores_row (g u : Fin 4) (r : Fin 128) (j : Fin 256) :
    scores A0 A1 A2 A7 A8 A9 A10 (BitVec.ofNat 32 n.val) (ix2 ⟨512 * g.val + (128 * u.val + r.val), by omega⟩ j) = score x0 x1 x2 x3 n g u r j := by
  unfold scores score
  rw [score_apply]
  by_cases h : n.val = 0 ∧ j.val < 128
  · rw [not_seen n.val r.val j h.1 h.2, sel_zero, sel_zero]
  · refine sel_congr _ (Finset.sum_congr rfl fun d _ => ?_)
    rw [twoBlocks_eq _ n j d h, query B, key B]

theorem sinks_row (g u : Fin 4) (r : Fin 128) :
    sinkCol (sinkAt A11) (ix2 ⟨512 * g.val + (128 * u.val + r.val), by omega⟩ 0) = sinkOf x4 g u := by
  rw [sinkCol_apply, sinkAt_apply, B.h11]
  exact congrArg x4 (congrArg ix1 (Fin.ext (by simp only; omega)))

theorem soft_row (h2 : ∀ d, ∃ a : ℝ, x2 d = (a : EReal)) (h3 : ∀ d, ∃ a : ℝ, x3 d = (a : EReal)) (h4 : ∀ d, ∃ a : ℝ, x4 d = (a : EReal))
    (g u : Fin 4) (r : Fin 128) (d : Fin 64) :
    k0_pay94 (k0_pay21 (k0_pay6 A4 A3)) (k0_pay22 (k0_pay6 A4 A3)) (sinkCol (sinkAt A11))
        (mx (scores A0 A1 A2 A7 A8 A9 A10 (BitVec.ofNat 32 n.val)) (sinkCol (sinkAt A11)))
        (ex (scores A0 A1 A2 A7 A8 A9 A10 (BitVec.ofNat 32 n.val)) (mx (scores A0 A1 A2 A7 A8 A9 A10 (BitVec.ofNat 32 n.val)) (sinkCol (sinkAt A11))))
        (ix2 ⟨512 * g.val + (128 * u.val + r.val), by omega⟩ ⟨64 * g.val + d.val, by omega⟩)
      = outRow (score x0 x1 x2 x3 n g u r) (sinkOf x4 g u) (fun j => twoBlocks (fun r => vrow x0 r g) n j d) := by
  have hs : (fun j => scores A0 A1 A2 A7 A8 A9 A10 (BitVec.ofNat 32 n.val) (ix2 ⟨512 * g.val + (128 * u.val + r.val), by omega⟩ j))
      = score x0 x1 x2 x3 n g u r := funext fun j => scores_row B g u r j
  have hk := sinks_row B g u r
  have hne := rowSum_score x0 x1 x2 x3 x4 h2 h3 h4 n g u r
  rw [out_apply _ _ _ _ _ _ (by rw [hs, hk]; exact hne), hs, hk]
  refine outRow_congr _ _ _ _ _ (fun j => rfl) hne fun j => ?_
  by_cases h : n.val = 0 ∧ j.val < 128
  · left
    unfold score
    rw [not_seen n.val r.val j h.1 h.2, sel_zero]
  · right
    rw [value B, twoBlocks_eq _ n j d h]

/-- The body's output block, at an index. -/
theorem body_apply (h2 : ∀ d, ∃ a : ℝ, x2 d = (a : EReal)) (h3 : ∀ d, ∃ a : ℝ, x3 d = (a : EReal)) (h4 : ∀ d, ∃ a : ℝ, x4 d = (a : EReal))
    (r : Fin 128) (l : Fin 1024) :
    body A0 A1 A2 A3 A4 A5 A6 A7 A8 A9 A10 A11 (BitVec.ofNat 32 n.val) (ix2 r l)
      = Cert.AttnFwdRefIdeal.Read.val_main_v144 (F := Ideal) x0 x1 x2 x3 x4 (ix2 ⟨n.val * 128 + r.val, by omega⟩ l) := by
  have hn : (⟨(n.val * 128 + r.val) / 128, by omega⟩ : Fin 32) = n := Fin.ext (by simp only; omega)
  have hr : (⟨(n.val * 128 + r.val) % 128, by omega⟩ : Fin 128) = r := Fin.ext (by simp only; omega)
  rw [outR]
  simp only [hn, hr]
  unfold body
  rw [gated_apply, wide_apply, untile_apply, gateCat_apply]
  have hg : (if h : l.val < 512 then A5 (ix2 r ⟨l.val, h⟩) else A6 (ix2 r ⟨l.val - 512, by omega⟩))
      = x0 (ix2 ⟨n.val * 128 + r.val, by omega⟩ ⟨1536 + l.val, by omega⟩) := by
    split_ifs with h
    · rw [B.h5]
    · rw [B.h6]
      exact congrArg x0 (congrArg₂ ix2 rfl (Fin.ext (by simp only; omega)))
  rw [hg]
  refine congrArg (· * _) ?_
  have hi : (⟨512 * (l.val / 128 / 2) + (128 * (2 * (l.val / 128 % 2) + l.val % 128 / 64) + r.val), by omega⟩ : Fin 2048)
      = ⟨512 * (⟨l.val / 256, by omega⟩ : Fin 4).val + (128 * (⟨l.val / 64 % 4, by omega⟩ : Fin 4).val + r.val), by simp only; omega⟩ :=
    Fin.ext (by simp only; omega)
  have hl : (⟨64 * (l.val / 128 / 2) + l.val % 128 % 64, by omega⟩ : Fin 256)
      = ⟨64 * (⟨l.val / 256, by omega⟩ : Fin 4).val + (⟨l.val % 64, by omega⟩ : Fin 64).val, by simp only; omega⟩ := Fin.ext (by simp only; omega)
  refine (congrArg _ (congrArg₂ ix2 hi hl)).trans ?_
  exact soft_row B h2 h3 h4 _ _ r _
end

end AttnFwdPure
-- ==== Proof.Finite.lean ====
module

public import Idealize.ShloMosaic.Lib.Pointwise

@[expose] public section

noncomputable section

open Idealize.ShloMosaic Idealize.ShloMosaic.TcCoe Idealize.SL.Sem

/-! How a precondition "the magnitude is below infinity" is read: such a number is a real one. -/

namespace Finite

theorem real_of_abs_lt {x : EReal} (h : max x (-x) < ⊤) : ∃ r : ℝ, x = (r : EReal) := by
  have h1 : x ≠ ⊤ := fun e => by simp [e] at h
  have h2 : x ≠ ⊥ := fun e => by simp [e] at h
  exact ⟨x.toReal, (EReal.coe_toReal h1 h2).symm⟩

theorem ofBits_inf : (Ideal.ofBits .f32 0x7F800000#32 : EReal) = ⊤ := by
  simp [Ideal.ofBits, Ideal.ieee]

/-- The comparison of one element, as a program prints it. -/
theorem real_of_cmp {x : EReal} (h : Ideal.cmp .olt (max x (-x)) (Ideal.ofBits .f32 0x7F800000#32) = 1#1) :
    ∃ r : ℝ, x = (r : EReal) := by
  rw [ofBits_inf, show (1#1 : BitVec 1) = 1 from rfl, Ideal.cmp_olt_eq_one] at h
  exact real_of_abs_lt h

end Finite
-- ==== Proof.AttnFwd.lean ====
module

public import proofs.«01_k».proof.Defs
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Run
public import proofs.«01_k».proof.Proof.Gen.AttnFwdRefIdeal.Read
public import proofs.«01_k».proof.Proof.AttnFwdBody
public import Idealize.ShloMosaic.Lib.Pipeline.ValueKit
public import Idealize.ShloMosaic.Lib.Pointwise
public import Idealize.ShloMosaic.Lib.StableHlo.ReadAt
public import proofs.«01_k».proof.Proof.Finite
public import proofs.«01_k».proof.Proof.Gen.Pre_attn_fwd_finite

@[expose] public section

set_option maxRecDepth 16384

noncomputable section

open Idealize.ShloMosaic Idealize.ShloMosaic.TcCoe Idealize.SL.Sem
open Idealize.ShloMosaic.Pipeline (Dat)

namespace AttnFwd

open Cert.AttnFwdIdeal Cert.AttnFwdIdeal.Gen AttnFwdPure

variable (m : (ℓ : Loc nD τ sig) → Buf (Elt Ideal) ℓ)

theorem idx : ∀ t : Fin cfg0.N, win0_0.index t = ![t.val, 0] ∧ win0_1.index t = ![t.val, 4] ∧ win0_2.index t = ![t.val - 1, 4]
    ∧ win0_3.index t = ![t.val, 5] ∧ win0_4.index t = ![t.val - 1, 5] ∧ win0_5.index t = ![t.val, 3] ∧ win0_6.index t = ![t.val, 4]
    ∧ win0_7.index t = ![t.val, 0] ∧ win0_8.index t = ![t.val - 1, 0] ∧ win0_9.index t = ![0, 0] ∧ win0_10.index t = ![0, 0]
    ∧ win0_11.index t = ![0, 0] ∧ win0_12.index t = ![t.val, 0] :=
  (by decide +kernel : ∀ t : Fin grid0.N, _)

abbrev arg0 (c : Dev nD) : FVec Ideal S4096x4608 .f32 := m ((c : Thread nD τ).loc main_arg0)
abbrev arg1 (c : Dev nD) : IVec S4096 32 := m ((c : Thread nD τ).loc main_arg1)
abbrev arg2 (c : Dev nD) : FVec Ideal S64 .f32 := m ((c : Thread nD τ).loc main_arg2)
abbrev arg3 (c : Dev nD) : FVec Ideal S64 .f32 := m ((c : Thread nD τ).loc main_arg3)
abbrev arg4 (c : Dev nD) : FVec Ideal S16 .f32 := m ((c : Thread nD τ).loc main_arg4)

/-- What the precondition says: the two weight vectors and the sinks are real. -/
theorem reals_of_pre (h : Cert.Pre_AttnFwdIdeal_attn_fwd_finite m) (c : Dev nD) :
    (∀ d, ∃ a : ℝ, arg2 m c d = (a : EReal)) ∧ (∀ d, ∃ a : ℝ, arg3 m c d = (a : EReal)) ∧ (∀ d, ∃ a : ℝ, arg4 m c d = (a : EReal)) := by
  obtain ⟨h0, h1, h2⟩ := h c
  refine ⟨fun d => ?_, fun d => ?_, fun d => ?_⟩ <;> idx_vars d
  · exact Finite.real_of_cmp ((show _ = _ by pointwise [Cert.Pre_attn_fwd_finite.fn]; rfl).trans (congrFun h0 (ix1 d0)))
  · exact Finite.real_of_cmp ((show _ = _ by pointwise [Cert.Pre_attn_fwd_finite.fn]; rfl).trans (congrFun h1 (ix1 d0)))
  · exact Finite.real_of_cmp ((show _ = _ by pointwise [Cert.Pre_attn_fwd_finite.fn]; rfl).trans (congrFun h2 (ix1 d0)))

theorem coord : ∀ t : Fin cfg0.N, (grid0.coords t 0).val = t.val := (by decide +kernel : ∀ t : Fin grid0.N, _)

theorem row_lt (t : Fin cfg0.N) (r : Fin 128) : t.val * 128 + r.val < 4096 := by
  have := t.isLt.trans_eq N_0; omega

theorem row_lt' (t : Fin cfg0.N) (r : Fin 128) : (t.val - 1) * 128 + r.val < 4096 := by
  have := t.isLt.trans_eq N_0; omega

/-! ## The arrays computed before the launch -/

section
variable (c : Dev nD)

/-- The cosines, then the sines, of a row's angles, each four times. -/
theorem tab (R : Fin 4096) (l : Fin 256) : (V m c main_v24 : FVec Ideal S4096x256 .f32) (ix2 R l)
    = if l.val < 128 then Ideal.cos (ang (arg1 m c) R ⟨l.val % 32, by omega⟩) else Ideal.sin (ang (arg1 m c) R ⟨(l.val - 128) % 32, by omega⟩) := by
  unfold V
  after_reads_at
  by_cases h : l.val < 128
  · rw [dif_pos h, if_pos h]; rfl
  · rw [dif_neg h, if_neg h]; rfl

theorem tabC (R : Fin 4096) (l : Fin 128) : (V m c main_v24 : FVec Ideal S4096x256 .f32) (ix2 R ⟨l.val, by omega⟩)
    = Ideal.cos (ang (arg1 m c) R ⟨l.val % 32, by omega⟩) :=
  (tab m c R _).trans (if_pos l.isLt)

theorem tabS (R : Fin 4096) (l : Fin 128) : (V m c main_v24 : FVec Ideal S4096x256 .f32) (ix2 R ⟨128 + l.val, by omega⟩)
    = Ideal.sin (ang (arg1 m c) R ⟨l.val % 32, by omega⟩) :=
  (tab m c R _).trans ((if_neg (by simp only; omega)).trans (congrArg (fun i => Ideal.sin (ang (arg1 m c) R i)) (Fin.ext (by simp only; omega))))

theorem qw (l : Fin 128) : (V m c main_v28 : FVec Ideal S1x128 .f32) (ix2 0 l) = arg2 m c (ix1 ⟨l.val % 64, by omega⟩) := by
  unfold V
  after_reads_at

theorem kw (l : Fin 128) : (V m c main_v32 : FVec Ideal S1x128 .f32) (ix2 0 l) = arg3 m c (ix1 ⟨l.val % 64, by omega⟩) := by
  unfold V
  after_reads_at

theorem sk (h : Fin 16) : (V m c main_v33 : FVec Ideal S1x16 .f32) (ix2 0 h) = arg4 m c (ix1 h) := by
  unfold V
  after_reads_at
end

/-! ## The blocks -/

theorem blocks (c : Dev nD) (t : Fin cfg0.N) : Blocks (X0_0 m c t) (iblk m c 1 t) (iblk m c 2 t) (iblk m c 3 t) (iblk m c 4 t) (iblk m c 5 t)
    (iblk m c 6 t) (iblk m c 7 t) (iblk m c 8 t) (iblk m c 9 t) (iblk m c 10 t) (iblk m c 11 t)
    (arg0 m c) (arg1 m c) (arg2 m c) (arg3 m c) (arg4 m c) ⟨t.val, t.isLt.trans_eq N_0⟩ where
  h0 r k := by
    unfold X0_0 Pipeline.Window.fill
    rw [dif_pos (moved0_0 t _)]
    blk_point [iblk, V, idx t]
  h1 r k := by blk_point [iblk, V, idx t]
  h2 r k := by blk_point [iblk, V, idx t]
  h3 r k := by blk_point [iblk, V, idx t]
  h4 r k := by blk_point [iblk, V, idx t]
  h5 r k := by blk_point [iblk, V, idx t]
  h6 r k := by blk_point [iblk, V, idx t]
  h7c r l := by
    refine Eq.trans ?_ (tabC m c ⟨t.val * 128 + r.val, row_lt t r⟩ l)
    blk_point [iblk, idx t]
  h7s r l := by
    refine Eq.trans ?_ (tabS m c ⟨t.val * 128 + r.val, row_lt t r⟩ l)
    blk_point [iblk, idx t]
  h8c r l := by
    refine Eq.trans ?_ (tabC m c ⟨(t.val - 1) * 128 + r.val, row_lt' t r⟩ l)
    blk_point [iblk, idx t]
  h8s r l := by
    refine Eq.trans ?_ (tabS m c ⟨(t.val - 1) * 128 + r.val, row_lt' t r⟩ l)
    blk_point [iblk, idx t]
  h9 l := by
    refine Eq.trans ?_ (qw m c l)
    blk_point [iblk, idx t]
  h10 l := by
    refine Eq.trans ?_ (kw m c l)
    blk_point [iblk, idx t]
  h11 h := by
    refine Eq.trans ?_ (sk m c h)
    blk_point [iblk, idx t]

theorem final12 (c : Dev nD) (h2 : ∀ d, ∃ a : ℝ, arg2 m c d = (a : EReal)) (h3 : ∀ d, ∃ a : ℝ, arg3 m c d = (a : EReal))
    (h4 : ∀ d, ∃ a : ℝ, arg4 m c d = (a : EReal)) : (dats m 0 c).arrAt 12 (cfgs 0).N
    = Cert.AttnFwdRefIdeal.Read.val_main_v144 (F := Ideal) (arg0 m c) (arg1 m c) (arg2 m c) (arg3 m c) (arg4 m c) := by
  refine (dats m 0 c).arrAt_eq_of_covers 12 _ (by decide +kernel) fun t _ y => ?_
  blk_simp
  rw [after0_12]
  unfold outsAt0 out0_A_12
  frame_out
  refine Eq.trans (b := AttnFwdPure.body (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (BitVec.ofNat 32 (grid0.coords t 0).val) y) ?_ ?_
  · generalize X0_0 m c t = A0, iblk m c 1 t = A1, iblk m c 2 t = A2, iblk m c 3 t = A3, iblk m c 4 t = A4, iblk m c 5 t = A5, iblk m c 6 t = A6, iblk m c 7 t = A7, iblk m c 8 t = A8, iblk m c 9 t = A9, iblk m c 10 t = A10, iblk m c 11 t = A11
    refine congrFun ((pay110_eq _ _ _ _ _ _ _).trans (congrArg₂ gated (congrArg wide (congrArg untile ?_)) rfl)) y
    refine soft_of (v0 := k0_pay21 (k0_pay6 A4 A3)) (v1 := k0_pay22 (k0_pay6 A4 A3)) (sinkAt A11) ?_ ?_ ?_
    · rfl
    · rfl
    · refine stack_of (tileQ A0 A7 A9) ?_ ?_ ?_ ?_ ?_ ?_ ?_ ?_ <;> rfl
  · idx_vars y
    have hc : (grid0.coords t 0).val = t.val := coord t
    have e : ((cfg0.win 12).blk t).view.emb (ix2 y0 y1) = ix2 ⟨_, row_lt t y0⟩ y1 := by
      refine (eq_ix2 _).trans (congrArg₂ ix2 (Fin.ext ?_) (Fin.ext ?_)) <;> blk_simp [idx t]
    rw [e, hc]
    exact body_apply (blocks m c t) h2 h3 h4 y0 y1

/-- What the kernel leaves in its result is what the reference computes. -/
theorem algebraic : Cert.algebraic_AttnFwdIdeal_AttnFwdRefIdeal_pre_attn_fwd_finite := by
  intro m g m' g' hpre hagree
  have hR := reals_of_pre m hpre
  refine ⟨fun c => Cert.AttnFwdRefIdeal.Read.val_main_v144 (F := Ideal) (arg0 m c) (arg1 m c) (arg2 m c) (arg3 m c) (arg4 m c), ?_, ?_⟩
  · run_from Cert.AttnFwdIdeal.Gen.run_main m g
    exact final12 m c (hR c).1 (hR c).2.1 (hR c).2.2
  · refine (θ_run Cert.AttnFwdRefIdeal.defs _ _).mono (fun r h c => ?_) (Cert.AttnFwdRefIdeal.Value.run (F := Ideal) m' g')
    obtain ⟨h144, hr⟩ := h c
    obtain ⟨e0, e1, e2, e3, e4⟩ := hagree c
    have e := congr (congr (congr (congr (congrArg (Cert.AttnFwdRefIdeal.Read.val_main_v144 (F := Ideal)) e0) e1) e2) e3) e4
    exact ⟨h144.trans e, hr⟩

end AttnFwd
-- ==== Proof.AttnIBase.lean ====
/- What the three kinds of point of the attention gradient share. -/
module

public import proofs.«01_k».proof.Proof.Gen.AttnBwdIdeal.Frame
public import proofs.«01_k».proof.Proof.Gen.AttnBwdIdeal.Skeleton
public import Idealize.ShloMosaic.Lib.Pipeline.TableIdle

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's second branch: the point is the last. -/
def cond2 (i : grid0.Coords) : Prop :=
  Scalar.cmpi .ne (Scalar.extui (Scalar.cmpi .eq (BitVec.ofNat 32 (i 0).val) (32#32 : BitVec 32)) : BitVec 32) 0#32 = 1#1

end Cert.AttnBwdIdeal.Gen

end
-- ==== Proof.AttnIC.lean ====
/- The attention gradient's body at the last point. -/
module

public import proofs.«01_k».proof.Proof.AttnIBase

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- The body at the last point, on whole staging buffers and scratch: each buffer it stores into ends with
    the pieces `L·`, every other buffer as it was found. -/
noncomputable def runC (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x16 .f32) (harg12 : arg12.IsWhole) (arg13 : Memref sig .tc .vmem S128x1024 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x4608 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S128x256 .f32) (harg22 : arg22.IsWhole) (arg23 : Memref sig .tc .vmem S128x256 .f32) (harg23 : arg23.IsWhole) (arg24 : Memref sig .tc .vmem S128x1024 .bf16) (harg24 : arg24.IsWhole) (arg25 : Memref sig .tc .vmem S128x1024 .bf16) (harg25 : arg25.IsWhole)
    (hc1 : ¬k0_cond1 i = 1#1) (hc2 : cond2 i) (hc3 : ¬k0_cond3 i = 1#1)
    (x0 : Vec F S128x1024 .f32) (x1 : Vec F S128x256 .f32) (x2 : Vec F S128x256 .f32) (x3 : Vec F S128x256 .f32) (x4 : Vec F S128x256 .f32) (x5 : Vec F S128x512 .f32) (x6 : Vec F S128x512 .f32) (x7 : Vec F S128x256 .f32) (x8 : Vec F S128x256 .f32) (x9 : Vec F S1x128 .f32) (x10 : Vec F S1x128 .f32) (x11 : Vec F S1x16 .f32) (x12 : Vec F S128x1024 .f32) (x13 : Vec F S128x1024 .bf16) (x14 : Vec F S128x1024 .bf16) (x16 : Vec F S1x128 .f32) (x17 : Vec F S1x128 .f32) (x18 : Vec F S1x128 .f32) (x21 : Vec F S128x256 .f32) (x22 : Vec F S128x256 .f32) (x23 : Vec F S128x1024 .bf16) (x24 : Vec F S128x1024 .bf16) :
    Σ' (L15 : List (View.Piece (Elt F) S128x4608 .bf16)), Σ' (L17 : List (View.Piece (Elt F) S1x128 .f32)), Σ' (L19 : List (View.Piece (Elt F) S256x256 .f32)), Σ' (L20 : List (View.Piece (Elt F) S256x256 .f32)), Σ' (L21 : List (View.Piece (Elt F) S128x256 .f32)), { L22 : List (View.Piece (Elt F) S128x256 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ owns (c : Thread nD τ) arg22 fullShare x21 ∗ owns (c : Thread nD τ) arg23 fullShare x22 ∗ owns (c : Thread nD τ) arg24 fullShare x23 ∗ owns (c : Thread nD τ) arg25 fullShare x24
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ owns (c : Thread nD τ) arg17 fullShare x16 ∗ (∃ f, arg18.view.loc (c : Thread nD τ) ↦[arg18.view.set]{fullShare} arg18.view.writes (Elt F) f L17) ∗ owns (c : Thread nD τ) arg19 fullShare x18 ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ owns (c : Thread nD τ) arg24 fullShare x23 ∗ owns (c : Thread nD τ) arg25 fullShare x24) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, ⟨%d19, %f19, -, H19⟩, ⟨%d20, %f20, -, H20⟩, ⟨%f21, %hf21, H21⟩, ⟨%f22, %hf22, H22⟩, ⟨%f23, %hf23, H23⟩, ⟨%f24, %hf24, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg18.eq_unread hf17; obtain rfl := harg19.eq_unread hf18; obtain rfl := harg22.eq_unread hf21; obtain rfl := harg23.eq_unread hf22; obtain rfl := harg24.eq_unread hf23; obtain rfl := harg25.eq_unread hf24
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]
    · iexists _; isplitr; · ipureintro; exact harg17.read_unread _
      iexact H16
    isplitl [H17]; · iexists _; iexact H17
    isplitl [H18]
    · iexists _; isplitr; · ipureintro; exact harg19.read_unread _
      iexact H18
    isplitl [H19]; · iexists _; iexact H19
    isplitl [H20]; · iexists _; iexact H20
    isplitl [H21]; · iexists _; iexact H21
    isplitl [H22]; · iexists _; iexact H22
    isplitl [H23]
    · iexists _; isplitr; · ipureintro; exact harg24.read_unread _
      iexact H23
    iexists _; isplitr; · ipureintro; exact harg25.read_unread _
    iexact H24

end Cert.AttnBwdIdeal.Gen

end
-- ==== Proof.AttnIA.lean ====
/- The attention gradient's body at the first point. -/
module

public import proofs.«01_k».proof.Proof.AttnIC

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- The body at the first point, on whole staging buffers and scratch: each buffer it stores into ends with
    the pieces `L·`, every other buffer as it was found. -/
noncomputable def runA (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x16 .f32) (harg12 : arg12.IsWhole) (arg13 : Memref sig .tc .vmem S128x1024 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x4608 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S128x256 .f32) (harg22 : arg22.IsWhole) (arg23 : Memref sig .tc .vmem S128x256 .f32) (harg23 : arg23.IsWhole) (arg24 : Memref sig .tc .vmem S128x1024 .bf16) (harg24 : arg24.IsWhole) (arg25 : Memref sig .tc .vmem S128x1024 .bf16) (harg25 : arg25.IsWhole)
    (hc1 : k0_cond1 i = 1#1) (hc2 : ¬cond2 i) (hc3 : k0_cond3 i = 1#1)
    (x0 : Vec F S128x1024 .f32) (x1 : Vec F S128x256 .f32) (x2 : Vec F S128x256 .f32) (x3 : Vec F S128x256 .f32) (x4 : Vec F S128x256 .f32) (x5 : Vec F S128x512 .f32) (x6 : Vec F S128x512 .f32) (x7 : Vec F S128x256 .f32) (x8 : Vec F S128x256 .f32) (x9 : Vec F S1x128 .f32) (x10 : Vec F S1x128 .f32) (x11 : Vec F S1x16 .f32) (x12 : Vec F S128x1024 .f32) (x13 : Vec F S128x1024 .bf16) (x14 : Vec F S128x1024 .bf16) :
    Σ' (L15 : List (View.Piece (Elt F) S128x4608 .bf16)), Σ' (L16 : List (View.Piece (Elt F) S1x128 .f32)), Σ' (L17 : List (View.Piece (Elt F) S1x128 .f32)), Σ' (L18 : List (View.Piece (Elt F) S1x128 .f32)), Σ' (L19 : List (View.Piece (Elt F) S256x256 .f32)), Σ' (L20 : List (View.Piece (Elt F) S256x256 .f32)), Σ' (L21 : List (View.Piece (Elt F) S128x256 .f32)), Σ' (L22 : List (View.Piece (Elt F) S128x256 .f32)), Σ' (L23 : List (View.Piece (Elt F) S128x1024 .bf16)), { L24 : List (View.Piece (Elt F) S128x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d) ∗ (∃ d, owns (c : Thread nD τ) arg25 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, ⟨%d23, %f23, -, H23⟩, ⟨%d24, %f24, -, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.AttnBwdIdeal.Gen

end
-- ==== Proof.AttnIB.lean ====
/- The attention gradient's body at a point between the first and the last. -/
module

public import proofs.«01_k».proof.Proof.AttnIA

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 0 in
/-- The body at a point between the first and the last, on whole staging buffers and scratch: each buffer it stores into ends with
    the pieces `L·`, every other buffer as it was found. -/
noncomputable def runB (c : Dev nD) (i : grid0.Coords) (arg1 : Memref sig .tc .vmem S128x1024 .f32) (harg1 : arg1.IsWhole) (arg2 : Memref sig .tc .vmem S128x256 .f32) (harg2 : arg2.IsWhole) (arg3 : Memref sig .tc .vmem S128x256 .f32) (harg3 : arg3.IsWhole) (arg4 : Memref sig .tc .vmem S128x256 .f32) (harg4 : arg4.IsWhole) (arg5 : Memref sig .tc .vmem S128x256 .f32) (harg5 : arg5.IsWhole) (arg6 : Memref sig .tc .vmem S128x512 .f32) (harg6 : arg6.IsWhole) (arg7 : Memref sig .tc .vmem S128x512 .f32) (harg7 : arg7.IsWhole) (arg8 : Memref sig .tc .vmem S128x256 .f32) (harg8 : arg8.IsWhole) (arg9 : Memref sig .tc .vmem S128x256 .f32) (harg9 : arg9.IsWhole) (arg10 : Memref sig .tc .vmem S1x128 .f32) (harg10 : arg10.IsWhole) (arg11 : Memref sig .tc .vmem S1x128 .f32) (harg11 : arg11.IsWhole) (arg12 : Memref sig .tc .vmem S1x16 .f32) (harg12 : arg12.IsWhole) (arg13 : Memref sig .tc .vmem S128x1024 .f32) (harg13 : arg13.IsWhole) (arg14 : Memref sig .tc .vmem S128x1024 .bf16) (harg14 : arg14.IsWhole) (arg15 : Memref sig .tc .vmem S128x1024 .bf16) (harg15 : arg15.IsWhole) (arg16 : Memref sig .tc .vmem S128x4608 .bf16) (harg16 : arg16.IsWhole) (arg17 : Memref sig .tc .vmem S1x128 .f32) (harg17 : arg17.IsWhole) (arg18 : Memref sig .tc .vmem S1x128 .f32) (harg18 : arg18.IsWhole) (arg19 : Memref sig .tc .vmem S1x128 .f32) (harg19 : arg19.IsWhole) (arg20 : Memref sig .tc .vmem S256x256 .f32) (harg20 : arg20.IsWhole) (arg21 : Memref sig .tc .vmem S256x256 .f32) (harg21 : arg21.IsWhole) (arg22 : Memref sig .tc .vmem S128x256 .f32) (harg22 : arg22.IsWhole) (arg23 : Memref sig .tc .vmem S128x256 .f32) (harg23 : arg23.IsWhole) (arg24 : Memref sig .tc .vmem S128x1024 .bf16) (harg24 : arg24.IsWhole) (arg25 : Memref sig .tc .vmem S128x1024 .bf16) (harg25 : arg25.IsWhole)
    (hc1 : ¬k0_cond1 i = 1#1) (hc2 : ¬cond2 i) (hc3 : k0_cond3 i = 1#1)
    (x0 : Vec F S128x1024 .f32) (x1 : Vec F S128x256 .f32) (x2 : Vec F S128x256 .f32) (x3 : Vec F S128x256 .f32) (x4 : Vec F S128x256 .f32) (x5 : Vec F S128x512 .f32) (x6 : Vec F S128x512 .f32) (x7 : Vec F S128x256 .f32) (x8 : Vec F S128x256 .f32) (x9 : Vec F S1x128 .f32) (x10 : Vec F S1x128 .f32) (x11 : Vec F S1x16 .f32) (x12 : Vec F S128x1024 .f32) (x13 : Vec F S128x1024 .bf16) (x14 : Vec F S128x1024 .bf16) (x16 : Vec F S1x128 .f32) (x17 : Vec F S1x128 .f32) (x18 : Vec F S1x128 .f32) (x21 : Vec F S128x256 .f32) (x22 : Vec F S128x256 .f32) (x23 : Vec F S128x1024 .bf16) (x24 : Vec F S128x1024 .bf16) :
    Σ' (L15 : List (View.Piece (Elt F) S128x4608 .bf16)), Σ' (L16 : List (View.Piece (Elt F) S1x128 .f32)), Σ' (L17 : List (View.Piece (Elt F) S1x128 .f32)), Σ' (L18 : List (View.Piece (Elt F) S1x128 .f32)), Σ' (L19 : List (View.Piece (Elt F) S256x256 .f32)), Σ' (L20 : List (View.Piece (Elt F) S256x256 .f32)), Σ' (L21 : List (View.Piece (Elt F) S128x256 .f32)), Σ' (L22 : List (View.Piece (Elt F) S128x256 .f32)), Σ' (L23 : List (View.Piece (Elt F) S128x1024 .bf16)), { L24 : List (View.Piece (Elt F) S128x1024 .bf16) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ d, owns (c : Thread nD τ) arg16 fullShare d) ∗ owns (c : Thread nD τ) arg17 fullShare x16 ∗ owns (c : Thread nD τ) arg18 fullShare x17 ∗ owns (c : Thread nD τ) arg19 fullShare x18 ∗ (∃ d, owns (c : Thread nD τ) arg20 fullShare d) ∗ (∃ d, owns (c : Thread nD τ) arg21 fullShare d) ∗ owns (c : Thread nD τ) arg22 fullShare x21 ∗ owns (c : Thread nD τ) arg23 fullShare x22 ∗ owns (c : Thread nD τ) arg24 fullShare x23 ∗ owns (c : Thread nD τ) arg25 fullShare x24
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ owns (c : Thread nD τ) arg15 fullShare x14 ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22) ∗ (∃ f, arg24.view.loc (c : Thread nD τ) ↦[arg24.view.set]{fullShare} arg24.view.writes (Elt F) f L23) ∗ (∃ f, arg25.view.loc (c : Thread nD τ) ↦[arg25.view.set]{fullShare} arg25.view.writes (Elt F) f L24)) -∗ K ⟨⟩))
          ⊢ wp frame (wpE (defs₀ (F := F)) Variants.none c none) E (cc0_attn_bwd i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25) K } := by
  refine ⟨?_, ?_, ?_, ?_, ?_, ?_, ?_, ?_, ?_, ?_, fun E K => ?run⟩
  case run =>
    simp only [cc0_attn_bwd_eq_skeleton]; unfold cc0_attn_bwd_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%d15, %f15, -, H15⟩, ⟨%f16, %hf16, H16⟩, ⟨%f17, %hf17, H17⟩, ⟨%f18, %hf18, H18⟩, ⟨%d19, %f19, -, H19⟩, ⟨%d20, %f20, -, H20⟩, ⟨%f21, %hf21, H21⟩, ⟨%f22, %hf22, H22⟩, ⟨%f23, %hf23, H23⟩, ⟨%f24, %hf24, H24⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13; obtain rfl := harg15.eq_unread hf14; obtain rfl := harg17.eq_unread hf16; obtain rfl := harg18.eq_unread hf17; obtain rfl := harg19.eq_unread hf18; obtain rfl := harg22.eq_unread hf21; obtain rfl := harg23.eq_unread hf22; obtain rfl := harg24.eq_unread hf23; obtain rfl := harg25.eq_unread hf24
    sl_exec (disch := first | sl_exact hc1 | sl_exact hc2 | sl_exact hc3)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]
    · iexists _; isplitr; · ipureintro; exact harg15.read_unread _
      iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    isplitl [H22]; · iexists _; iexact H22
    isplitl [H23]; · iexists _; iexact H23
    iexists _; iexact H24

end Cert.AttnBwdIdeal.Gen

end
-- ==== Proof.AttnIStep.lean ====
/- What one point of the attention gradient leaves, given what the point before it left. -/
module

public import proofs.«01_k».proof.Proof.AttnIB

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The buffers the body is called on -/

abbrev ms0_0 (t : Fin cfg0.N) : Memref sig .tc .vmem S128x1024 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S128x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S128x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x256 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S128x256 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S128x512 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S128x512 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S128x256 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S128x256 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x128 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S1x128 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S1x16 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S128x1024 .f32 := win0_12.stage (cfg0.slots t 12)
abbrev hs0_12 (t : Fin cfg0.N) : (ms0_12 t).IsWhole := hstage0_12 ((cfg0.slots t 12).cast nbuf0_12)
abbrev ms0_13 (t : Fin cfg0.N) : Memref sig .tc .vmem S128x1024 .bf16 := win0_13.stage (cfg0.slots t 13)
abbrev hs0_13 (t : Fin cfg0.N) : (ms0_13 t).IsWhole := hstage0_13 ((cfg0.slots t 13).cast nbuf0_13)
abbrev ms0_14 (t : Fin cfg0.N) : Memref sig .tc .vmem S128x1024 .bf16 := win0_14.stage (cfg0.slots t 14)
abbrev hs0_14 (t : Fin cfg0.N) : (ms0_14 t).IsWhole := hstage0_14 ((cfg0.slots t 14).cast nbuf0_14)
abbrev ms0_15 (t : Fin cfg0.N) : Memref sig .tc .vmem S128x4608 .bf16 := win0_15.stage (cfg0.slots t 15)
abbrev hs0_15 (t : Fin cfg0.N) : (ms0_15 t).IsWhole := hstage0_15 ((cfg0.slots t 15).cast nbuf0_15)
abbrev ms0_16 (t : Fin cfg0.N) : Memref sig .tc .vmem S1x128 .f32 := win0_16.stage (cfg0.slots t 16)
abbrev hs0_16 (t : Fin cfg0.N) : (ms0_16 t).IsWhole := hstage0_16 ((cfg0.slots t 16).cast nbuf0_16)
abbrev ms0_17 (t : Fin cfg0.N) : Memref sig .tc .vmem S1x128 .f32 := win0_17.stage (cfg0.slots t 17)
abbrev hs0_17 (t : Fin cfg0.N) : (ms0_17 t).IsWhole := hstage0_17 ((cfg0.slots t 17).cast nbuf0_17)
abbrev ms0_18 (t : Fin cfg0.N) : Memref sig .tc .vmem S1x128 .f32 := win0_18.stage (cfg0.slots t 18)
abbrev hs0_18 (t : Fin cfg0.N) : (ms0_18 t).IsWhole := hstage0_18 ((cfg0.slots t 18).cast nbuf0_18)
abbrev scM0_0 : Memref sig .tc .vmem S256x256 .f32 := Memref.whole cc0_scratch0
abbrev scM0_1 : Memref sig .tc .vmem S256x256 .f32 := Memref.whole cc0_scratch1
abbrev scM0_2 : Memref sig .tc .vmem S128x256 .f32 := Memref.whole cc0_scratch2
abbrev scM0_3 : Memref sig .tc .vmem S128x256 .f32 := Memref.whole cc0_scratch3
abbrev scM0_4 : Memref sig .tc .vmem S128x1024 .bf16 := Memref.whole cc0_scratch4
abbrev scM0_5 : Memref sig .tc .vmem S128x1024 .bf16 := Memref.whole cc0_scratch5

/-- What one point hands to the next: the three running sums and the four carried scratch buffers. -/
structure St (F : FTy → Type) where
  gq : Vec F S1x128 .f32
  gk : Vec F S1x128 .f32
  gs : Vec F S1x128 .f32
  ck : Vec F S128x256 .f32
  cv : Vec F S128x256 .f32
  dq : Vec F S128x1024 .bf16
  dza : Vec F S128x1024 .bf16

variable (m : (ℓ : Loc nD τ sig) → Buf (Elt F) ℓ) (ρ : Dev nD → PrngReg)

/-- The body at point `t`, the carried buffers at `b` before it: it leaves the carried buffers at `s`, its block of
    the packed gradient at `y`, and every input buffer as it was. -/
def BodyAt (c : Dev nD) (t : Fin cfg0.N) (b : St F) (y : Vec F S128x4608 .bf16) (s : St F) : Prop :=
  ∀ (E : Set ℕ) (K : PUnit → sProp 𝕄),
    iprop(owns (c : Thread nD τ) (ms0_0 t) fullShare (X0_0 m c t) ∗ owns (c : Thread nD τ) (ms0_1 t) fullShare (iblk m c 1 t) ∗ owns (c : Thread nD τ) (ms0_2 t) fullShare (iblk m c 2 t)
        ∗ owns (c : Thread nD τ) (ms0_3 t) fullShare (iblk m c 3 t) ∗ owns (c : Thread nD τ) (ms0_4 t) fullShare (iblk m c 4 t) ∗ owns (c : Thread nD τ) (ms0_5 t) fullShare (iblk m c 5 t)
        ∗ owns (c : Thread nD τ) (ms0_6 t) fullShare (iblk m c 6 t) ∗ owns (c : Thread nD τ) (ms0_7 t) fullShare (iblk m c 7 t) ∗ owns (c : Thread nD τ) (ms0_8 t) fullShare (iblk m c 8 t)
        ∗ owns (c : Thread nD τ) (ms0_9 t) fullShare (iblk m c 9 t) ∗ owns (c : Thread nD τ) (ms0_10 t) fullShare (iblk m c 10 t) ∗ owns (c : Thread nD τ) (ms0_11 t) fullShare (iblk m c 11 t)
        ∗ owns (c : Thread nD τ) (ms0_12 t) fullShare (iblk m c 12 t) ∗ owns (c : Thread nD τ) (ms0_13 t) fullShare (iblk m c 13 t) ∗ owns (c : Thread nD τ) (ms0_14 t) fullShare (iblk m c 14 t)
        ∗ (∃ d, owns (c : Thread nD τ) (ms0_15 t) fullShare d) ∗ owns (c : Thread nD τ) (ms0_16 t) fullShare b.gq ∗ owns (c : Thread nD τ) (ms0_17 t) fullShare b.gk
        ∗ owns (c : Thread nD τ) (ms0_18 t) fullShare b.gs ∗ (∃ d, owns (c : Thread nD τ) scM0_0 fullShare d) ∗ (∃ d, owns (c : Thread nD τ) scM0_1 fullShare d)
        ∗ owns (c : Thread nD τ) scM0_2 fullShare b.ck ∗ owns (c : Thread nD τ) scM0_3 fullShare b.cv ∗ owns (c : Thread nD τ) scM0_4 fullShare b.dq
        ∗ owns (c : Thread nD τ) scM0_5 fullShare b.dza
        ∗ (iprop(owns (c : Thread nD τ) (ms0_0 t) fullShare (X0_0 m c t) ∗ owns (c : Thread nD τ) (ms0_1 t) fullShare (iblk m c 1 t) ∗ owns (c : Thread nD τ) (ms0_2 t) fullShare (iblk m c 2 t)
        ∗ owns (c : Thread nD τ) (ms0_3 t) fullShare (iblk m c 3 t) ∗ owns (c : Thread nD τ) (ms0_4 t) fullShare (iblk m c 4 t) ∗ owns (c : Thread nD τ) (ms0_5 t) fullShare (iblk m c 5 t)
        ∗ owns (c : Thread nD τ) (ms0_6 t) fullShare (iblk m c 6 t) ∗ owns (c : Thread nD τ) (ms0_7 t) fullShare (iblk m c 7 t) ∗ owns (c : Thread nD τ) (ms0_8 t) fullShare (iblk m c 8 t)
        ∗ owns (c : Thread nD τ) (ms0_9 t) fullShare (iblk m c 9 t) ∗ owns (c : Thread nD τ) (ms0_10 t) fullShare (iblk m c 10 t) ∗ owns (c : Thread nD τ) (ms0_11 t) fullShare (iblk m c 11 t)
        ∗ owns (c : Thread nD τ) (ms0_12 t) fullShare (iblk m c 12 t) ∗ owns (c : Thread nD τ) (ms0_13 t) fullShare (iblk m c 13 t) ∗ owns (c : Thread nD τ) (ms0_14 t) fullShare (iblk m c 14 t)
        ∗ owns (c : Thread nD τ) (ms0_15 t) fullShare y ∗ owns (c : Thread nD τ) (ms0_16 t) fullShare s.gq ∗ owns (c : Thread nD τ) (ms0_17 t) fullShare s.gk
        ∗ owns (c : Thread nD τ) (ms0_18 t) fullShare s.gs ∗ (∃ d, owns (c : Thread nD τ) scM0_0 fullShare d) ∗ (∃ d, owns (c : Thread nD τ) scM0_1 fullShare d)
        ∗ owns (c : Thread nD τ) scM0_2 fullShare s.ck ∗ owns (c : Thread nD τ) scM0_3 fullShare s.cv ∗ owns (c : Thread nD τ) scM0_4 fullShare s.dq
        ∗ owns (c : Thread nD τ) scM0_5 fullShare s.dza) -∗ K ⟨⟩))
      ⊢ wp frame (wpE (defs₀ (F := F)) Variants.none c none) E (bodyAt0 t) K

set_option maxHeartbeats 0 in
/-- The body at the first point: what it leaves. -/
theorem caseA (c : Dev nD) (t : Fin cfg0.N) (hc1 : k0_cond1 (grid0.coords t) = 1#1) (hc2 : ¬cond2 (grid0.coords t)) (hc3 : k0_cond3 (grid0.coords t) = 1#1) :
    ∃ (y : Vec F S128x4608 .bf16) (s' : St F), ∀ b, BodyAt m c t b y s' := by
  let R := runA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc1 hc2 hc3 (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t)
  refine ⟨(ms0_15 t).view.read (Elt F) ((ms0_15 t).view.writes (Elt F) (ms0_15 t).view.junk R.1),
    ⟨(ms0_16 t).view.read (Elt F) ((ms0_16 t).view.writes (Elt F) (ms0_16 t).view.junk R.2.1),
      (ms0_17 t).view.read (Elt F) ((ms0_17 t).view.writes (Elt F) (ms0_17 t).view.junk R.2.2.1),
      (ms0_18 t).view.read (Elt F) ((ms0_18 t).view.writes (Elt F) (ms0_18 t).view.junk R.2.2.2.1),
      scM0_2.view.read (Elt F) (scM0_2.view.writes (Elt F) scM0_2.view.junk R.2.2.2.2.2.2.1),
      scM0_3.view.read (Elt F) (scM0_3.view.writes (Elt F) scM0_3.view.junk R.2.2.2.2.2.2.2.1),
      scM0_4.view.read (Elt F) (scM0_4.view.writes (Elt F) scM0_4.view.junk R.2.2.2.2.2.2.2.2.1),
      scM0_5.view.read (Elt F) (scM0_5.view.writes (Elt F) scM0_5.view.junk R.2.2.2.2.2.2.2.2.2.1)⟩, fun b E K => ?_⟩
  iintro ⟨H0, H1, H2, H3, H4, H5, H6, H7, H8, H9, H10, H11, H12, H13, H14, H15, H16, H17, H18, H19, H20, H21, H22, H23, H24, Hk⟩
  iapply (R.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexists _; iexact H16
  isplitl [H17]; · iexists _; iexact H17
  isplitl [H18]; · iexists _; iexact H18
  isplitl [H19]; · iexact H19
  isplitl [H20]; · iexact H20
  isplitl [H21]; · iexists _; iexact H21
  isplitl [H22]; · iexists _; iexact H22
  isplitl [H23]; · iexists _; iexact H23
  isplitl [H24]; · iexists _; iexact H24
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ fun y => View.cover_of_tiledBy R.1 ![128, 256] (by sl_kernel_rfl) y
  isplitl [H16]
  · unfold owns; iexists _; isplitr
    swap; · iexact H16
    ipureintro; dsimp only
    exact View.read_writes_of_cover _ _ _ _ _ fun y => View.cover_of_tiledL R.2.1 S1x128.size (by sl_kernel_rfl) y
  isplitl [H17]
  · unfold owns; iexists _; isplitr
    swap; · iexact H17
    ipureintro; dsimp only
    exact View.read_writes_of_cover _ _ _ _ _ fun y => View.cover_of_tiledL R.2.2.1 S1x128.size (by sl_kernel_rfl) y
  isplitl [H18]
  · unfold owns; iexists _; isplitr
    swap; · iexact H18
    ipureintro; dsimp only
    exact View.read_writes_of_cover _ _ _ _ _ fun y => View.cover_of_tiledL R.2.2.2.1 S1x128.size (by sl_kernel_rfl) y
  isplitl [H19]
  · unfold owns; iexists _; iexists _; isplitr
    swap; · iexact H19
    ipureintro; rfl
  isplitl [H20]
  · unfold owns; iexists _; iexists _; isplitr
    swap; · iexact H20
    ipureintro; rfl
  isplitl [H21]
  · unfold owns; iexists _; isplitr
    swap; · iexact H21
    ipureintro; dsimp only
    exact View.read_writes_of_cover _ _ _ _ _ fun y => View.cover_of_tiledL R.2.2.2.2.2.2.1 S128x256.size (by sl_kernel_rfl) y
  isplitl [H22]
  · unfold owns; iexists _; isplitr
    swap; · iexact H22
    ipureintro; dsimp only
    exact View.read_writes_of_cover _ _ _ _ _ fun y => View.cover_of_tiledL R.2.2.2.2.2.2.2.1 S128x256.size (by sl_kernel_rfl) y
  isplitl [H23]
  · unfold owns; iexists _; isplitr
    swap; · iexact H23
    ipureintro; dsimp only
    exact View.read_writes_of_cover _ _ _ _ _ fun y => View.cover_of_tiledL R.2.2.2.2.2.2.2.2.1 S128x1024.size (by sl_kernel_rfl) y
  unfold owns; iexists _; isplitr
  swap; · iexact H24
  ipureintro; dsimp only
  exact View.read_writes_of_cover _ _ _ _ _ fun y => View.cover_of_tiledL R.2.2.2.2.2.2.2.2.2.1 S128x1024.size (by sl_kernel_rfl) y

set_option maxHeartbeats 0 in
/-- The body at a point between the first and the last: what it leaves. -/
theorem caseB (c : Dev nD) (t : Fin cfg0.N) (hc1 : ¬k0_cond1 (grid0.coords t) = 1#1) (hc2 : ¬cond2 (grid0.coords t)) (hc3 : k0_cond3 (grid0.coords t) = 1#1) (s : St F) :
    ∃ (y : Vec F S128x4608 .bf16) (s' : St F), BodyAt m c t s y s' := by
  let R := runB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc1 hc2 hc3 (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) s.gq s.gk s.gs s.ck s.cv s.dq s.dza
  refine ⟨(ms0_15 t).view.read (Elt F) ((ms0_15 t).view.writes (Elt F) (ms0_15 t).view.junk R.1),
    ⟨(ms0_16 t).view.read (Elt F) ((ms0_16 t).view.writes (Elt F) (ms0_16 t).view.junk R.2.1),
      (ms0_17 t).view.read (Elt F) ((ms0_17 t).view.writes (Elt F) (ms0_17 t).view.junk R.2.2.1),
      (ms0_18 t).view.read (Elt F) ((ms0_18 t).view.writes (Elt F) (ms0_18 t).view.junk R.2.2.2.1),
      scM0_2.view.read (Elt F) (scM0_2.view.writes (Elt F) scM0_2.view.junk R.2.2.2.2.2.2.1),
      scM0_3.view.read (Elt F) (scM0_3.view.writes (Elt F) scM0_3.view.junk R.2.2.2.2.2.2.2.1),
      scM0_4.view.read (Elt F) (scM0_4.view.writes (Elt F) scM0_4.view.junk R.2.2.2.2.2.2.2.2.1),
      scM0_5.view.read (Elt F) (scM0_5.view.writes (Elt F) scM0_5.view.junk R.2.2.2.2.2.2.2.2.2.1)⟩, fun E K => ?_⟩
  iintro ⟨H0, H1, H2, H3, H4, H5, H6, H7, H8, H9, H10, H11, H12, H13, H14, H15, H16, H17, H18, H19, H20, H21, H22, H23, H24, Hk⟩
  iapply (R.2.2.2.2.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iintro ⟨H0, H1, H2, H3, H4, H5, H6, H7, H8, H9, H10, H11, H12, H13, H14, ⟨%e15, H15⟩, ⟨%e16, H16⟩, ⟨%e17, H17⟩, ⟨%e18, H18⟩, ⟨%e19, H19⟩, ⟨%e20, H20⟩, ⟨%e21, H21⟩, ⟨%e22, H22⟩, ⟨%e23, H23⟩, ⟨%e24, H24⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ fun y => View.cover_of_tiledBy R.1 ![128, 256] (by sl_kernel_rfl) y
  isplitl [H16]
  · unfold owns; iexists _; isplitr
    swap; · iexact H16
    ipureintro; dsimp only
    exact View.read_writes_of_cover _ _ _ _ _ fun y => View.cover_of_tiledL R.2.1 S1x128.size (by sl_kernel_rfl) y
  isplitl [H17]
  · unfold owns; iexists _; isplitr
    swap; · iexact H17
    ipureintro; dsimp only
    exact View.read_writes_of_cover _ _ _ _ _ fun y => View.cover_of_tiledL R.2.2.1 S1x128.size (by sl_kernel_rfl) y
  isplitl [H18]
  · unfold owns; iexists _; isplitr
    swap; · iexact H18
    ipureintro; dsimp only
    exact View.read_writes_of_cover _ _ _ _ _ fun y => View.cover_of_tiledL R.2.2.2.1 S1x128.size (by sl_kernel_rfl) y
  isplitl [H19]
  · unfold owns; iexists _; iexists _; isplitr
    swap; · iexact H19
    ipureintro; rfl
  isplitl [H20]
  · unfold owns; iexists _; iexists _; isplitr
    swap; · iexact H20
    ipureintro; rfl
  isplitl [H21]
  · unfold owns; iexists _; isplitr
    swap; · iexact H21
    ipureintro; dsimp only
    exact View.read_writes_of_cover _ _ _ _ _ fun y => View.cover_of_tiledL R.2.2.2.2.2.2.1 S128x256.size (by sl_kernel_rfl) y
  isplitl [H22]
  · unfold owns; iexists _; isplitr
    swap; · iexact H22
    ipureintro; dsimp only
    exact View.read_writes_of_cover _ _ _ _ _ fun y => View.cover_of_tiledL R.2.2.2.2.2.2.2.1 S128x256.size (by sl_kernel_rfl) y
  isplitl [H23]
  · unfold owns; iexists _; isplitr
    swap; · iexact H23
    ipureintro; dsimp only
    exact View.read_writes_of_cover _ _ _ _ _ fun y => View.cover_of_tiledL R.2.2.2.2.2.2.2.2.1 S128x1024.size (by sl_kernel_rfl) y
  unfold owns; iexists _; isplitr
  swap; · iexact H24
  ipureintro; dsimp only
  exact View.read_writes_of_cover _ _ _ _ _ fun y => View.cover_of_tiledL R.2.2.2.2.2.2.2.2.2.1 S128x1024.size (by sl_kernel_rfl) y

set_option maxHeartbeats 0 in
/-- The body at the last point: what it leaves. -/
theorem caseC (c : Dev nD) (t : Fin cfg0.N) (hc1 : ¬k0_cond1 (grid0.coords t) = 1#1) (hc2 : cond2 (grid0.coords t)) (hc3 : ¬k0_cond3 (grid0.coords t) = 1#1) (s : St F) :
    ∃ (y : Vec F S128x4608 .bf16) (s' : St F), s'.gq = s.gq ∧ s'.gs = s.gs ∧ BodyAt m c t s y s' := by
  let R := runC c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) scM0_0 (Memref.isWhole_whole _) scM0_1 (Memref.isWhole_whole _) scM0_2 (Memref.isWhole_whole _) scM0_3 (Memref.isWhole_whole _) scM0_4 (Memref.isWhole_whole _) scM0_5 (Memref.isWhole_whole _) hc1 hc2 hc3 (X0_0 m c t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) s.gq s.gk s.gs s.ck s.cv s.dq s.dza
  refine ⟨(ms0_15 t).view.read (Elt F) ((ms0_15 t).view.writes (Elt F) (ms0_15 t).view.junk R.1),
    ⟨s.gq,
      (ms0_17 t).view.read (Elt F) ((ms0_17 t).view.writes (Elt F) (ms0_17 t).view.junk R.2.1),
      s.gs,
      scM0_2.view.read (Elt F) (scM0_2.view.writes (Elt F) scM0_2.view.junk R.2.2.2.2.1),
      scM0_3.view.read (Elt F) (scM0_3.view.writes (Elt F) scM0_3.view.junk R.2.2.2.2.2.1),
      s.dq,
      s.dza⟩, rfl, rfl, fun E K => ?_⟩
  iintro ⟨H0, H1, H2, H3, H4, H5, H6, H7, H8, H9, H10, H11, H12, H13, H14, H15, H16, H17, H18, H19, H20, H21, H22, H23, H24, Hk⟩
  iapply (R.2.2.2.2.2.2 E K)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  iintro ⟨H0, H1, H2, H3, H4, H5, H6, H7, H8, H9, H10, H11, H12, H13, H14, ⟨%e15, H15⟩, H16, ⟨%e17, H17⟩, H18, ⟨%e19, H19⟩, ⟨%e20, H20⟩, ⟨%e21, H21⟩, ⟨%e22, H22⟩, H23, H24⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]
  · unfold owns; iexists _; isplitr
    swap; · iexact H15
    ipureintro; exact View.read_writes_of_cover _ _ _ _ _ fun y => View.cover_of_tiledBy R.1 ![128, 256] (by sl_kernel_rfl) y
  isplitl [H16]; · iexact H16
  isplitl [H17]
  · unfold owns; iexists _; isplitr
    swap; · iexact H17
    ipureintro; dsimp only
    exact View.read_writes_of_cover _ _ _ _ _ fun y => View.cover_of_tiledL R.2.1 S1x128.size (by sl_kernel_rfl) y
  isplitl [H18]; · iexact H18
  isplitl [H19]
  · unfold owns; iexists _; iexists _; isplitr
    swap; · iexact H19
    ipureintro; rfl
  isplitl [H20]
  · unfold owns; iexists _; iexists _; isplitr
    swap; · iexact H20
    ipureintro; rfl
  isplitl [H21]
  · unfold owns; iexists _; isplitr
    swap; · iexact H21
    ipureintro; dsimp only
    exact View.read_writes_of_cover _ _ _ _ _ fun y => View.cover_of_tiledL R.2.2.2.2.1 S128x256.size (by sl_kernel_rfl) y
  isplitl [H22]
  · unfold owns; iexists _; isplitr
    swap; · iexact H22
    ipureintro; dsimp only
    exact View.read_writes_of_cover _ _ _ _ _ fun y => View.cover_of_tiledL R.2.2.2.2.2.1 S128x256.size (by sl_kernel_rfl) y
  isplitl [H23]; · iexact H23
  iexact H24

/-- The three conditions at point `t`, in terms of `t`. -/
theorem cond1_iff (t : Fin cfg0.N) : k0_cond1 (grid0.coords t) = 1#1 ↔ t.val = 0 := by
  revert t; decide +kernel
theorem cond2_iff (t : Fin cfg0.N) : cond2 (grid0.coords t) ↔ t.val = 32 := by
  unfold cond2; revert t; decide +kernel
theorem cond3_iff (t : Fin cfg0.N) : k0_cond3 (grid0.coords t) = 1#1 ↔ t.val < 32 := by
  revert t; decide +kernel

/-- At every point there is something the body leaves, given what the point before it left; at the last point the
    sums `gq` and `gs` stay. -/
theorem step_exists (c : Dev nD) (t : Fin cfg0.N) (s : St F) :
    ∃ p : Vec F S128x4608 .bf16 × St F, (t.val = 32 → p.2.gq = s.gq ∧ p.2.gs = s.gs) ∧
      ∀ b, (t.val ≠ 0 → b = s) → BodyAt m c t b p.1 p.2 := by
  have hN : t.val < 33 := lt_of_lt_of_eq t.isLt (show cfg0.N = 33 from N_0)
  by_cases h0 : t.val = 0
  · obtain ⟨y, s', h⟩ := caseA m c t ((cond1_iff t).mpr h0) (fun h => by have := (cond2_iff t).mp h; omega)
      ((cond3_iff t).mpr (by omega))
    exact ⟨(y, s'), fun h' => by omega, fun b _ => h b⟩
  · by_cases h1 : t.val = 32
    · obtain ⟨y, s', hq, hs, h⟩ := caseC m c t (fun h => h0 ((cond1_iff t).mp h)) ((cond2_iff t).mpr h1)
        (fun h => by have := (cond3_iff t).mp h; omega) s
      exact ⟨(y, s'), fun _ => ⟨hq, hs⟩, fun b hb => by rw [hb h0]; exact h⟩
    · obtain ⟨y, s', h⟩ := caseB m c t (fun h => h0 ((cond1_iff t).mp h)) (fun h => h1 ((cond2_iff t).mp h))
        ((cond3_iff t).mpr (by omega)) s
      exact ⟨(y, s'), fun h' => absurd h' h1, fun b hb => by rw [hb h0]; exact h⟩

end Cert.AttnBwdIdeal.Gen

end
-- ==== Proof.AttnIFrame.lean ====
/- The frame of the attention gradient: it runs to its end and leaves its arguments unchanged. -/
module

public import proofs.«01_k».proof.Proof.AttnIStep
public import Idealize.ShloMosaic.Lib.Claim

@[expose] public section

set_option maxRecDepth 16384

noncomputable section

namespace Cert.AttnBwdIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the points leave, one after the other -/

/-- What point `t` leaves when the point before it left `s`. -/
def stepOf (c : Dev nD) (t : Fin cfg0.N) (s : St F) : Vec F S128x4608 .bf16 × St F := (step_exists m c t s).choose

/-- Carried buffers before the first point; nothing reads them. -/
def st₀ : St F :=
  have h : ∀ e : EltTy, Nonempty (Elt F e) := fun e => inferInstance
  ⟨fun _ => Classical.choice (h _), fun _ => Classical.choice (h _), fun _ => Classical.choice (h _),
    fun _ => Classical.choice (h _), fun _ => Classical.choice (h _), fun _ => Classical.choice (h _),
    fun _ => Classical.choice (h _)⟩

/-- What point `n` leaves. -/
def leftAt (c : Dev nD) : (n : ℕ) → n < cfg0.N → Vec F S128x4608 .bf16 × St F
  | 0, h => stepOf m c ⟨0, h⟩ st₀
  | n + 1, h => stepOf m c ⟨n + 1, h⟩ (leftAt c n (Nat.lt_of_succ_lt h)).2

/-- What the point before `t` left in the carried buffers. -/
def prevAt (c : Dev nD) (t : Fin cfg0.N) : St F :=
  if h : t.val = 0 then st₀ else (leftAt m c (t.val - 1) (by omega)).2

theorem leftAt_eq (c : Dev nD) (t : Fin cfg0.N) : leftAt m c t.val t.isLt = stepOf m c t (prevAt m c t) := by
  obtain ⟨n, hn⟩ := t
  cases n with
  | zero => rfl
  | succ n => rfl

theorem left_keeps (c : Dev nD) (t : Fin cfg0.N) (h : t.val = 32) :
    (leftAt m c t.val t.isLt).2.gq = (prevAt m c t).gq ∧ (leftAt m c t.val t.isLt).2.gs = (prevAt m c t).gs := by
  rw [leftAt_eq]; exact (step_exists m c t (prevAt m c t)).choose_spec.1 h

theorem left_body (c : Dev nD) (t : Fin cfg0.N) (b : St F) (hb : t.val ≠ 0 → b = prevAt m c t) :
    BodyAt m c t b (leftAt m c t.val t.isLt).1 (leftAt m c t.val t.isLt).2 := by
  rw [leftAt_eq]; exact (step_exists m c t (prevAt m c t)).choose_spec.2 b hb

/-! ## The pipeline's proof data -/

theorem PhiA0_eq (c : Dev nD) :
    (Pipeline.ΦA spec0 c : sProp 𝕄) = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d)) ∗ (∃ r, prngReg c r)) := by
  unfold Pipeline.ΦA; rw [scopedRest0_eq]; simp only [scM0_0, scM0_1, scM0_2, scM0_3, scM0_4, scM0_5, owns_whole]; try rfl

/-- The invariant: before the first point every scratch buffer at anything; afterwards the four carried ones at what
    the point before left in them. -/
def PhiS (c : Dev nD) : (n : ℕ) → n ≤ cfg0.N → sProp 𝕄
  | 0, _ => Pipeline.ΦA spec0 c
  | n + 1, hn => iprop(iprop((∃ d, owns (c : Thread nD τ) scM0_0 fullShare d) ∗ (∃ d, owns (c : Thread nD τ) scM0_1 fullShare d) ∗ owns (c : Thread nD τ) scM0_2 fullShare (leftAt m c n hn).2.ck ∗ owns (c : Thread nD τ) scM0_3 fullShare (leftAt m c n hn).2.cv ∗ owns (c : Thread nD τ) scM0_4 fullShare (leftAt m c n hn).2.dq ∗ owns (c : Thread nD τ) scM0_5 fullShare (leftAt m c n hn).2.dza) ∗ (∃ r, prngReg c r))

theorem PhiS_succ (c : Dev nD) (n : ℕ) (hn : n < cfg0.N) : PhiS m c (n + 1) hn = iprop(iprop((∃ d, owns (c : Thread nD τ) scM0_0 fullShare d) ∗ (∃ d, owns (c : Thread nD τ) scM0_1 fullShare d) ∗ owns (c : Thread nD τ) scM0_2 fullShare (leftAt m c n hn).2.ck ∗ owns (c : Thread nD τ) scM0_3 fullShare (leftAt m c n hn).2.cv ∗ owns (c : Thread nD τ) scM0_4 fullShare (leftAt m c n hn).2.dq ∗ owns (c : Thread nD τ) scM0_5 fullShare (leftAt m c n hn).2.dza) ∗ (∃ r, prngReg c r)) := rfl

theorem PhiS_zero (c : Dev nD) (n : ℕ) (h : n ≤ cfg0.N) (hz : n = 0) : PhiS m c n h = Pipeline.ΦA spec0 c := by
  subst hz; rfl

theorem PhiS_pos (c : Dev nD) (n : ℕ) (h : n ≤ cfg0.N) (hz : n ≠ 0) : PhiS m c n h = iprop(iprop((∃ d, owns (c : Thread nD τ) scM0_0 fullShare d) ∗ (∃ d, owns (c : Thread nD τ) scM0_1 fullShare d) ∗ owns (c : Thread nD τ) scM0_2 fullShare (leftAt m c (n - 1) (by omega)).2.ck ∗ owns (c : Thread nD τ) scM0_3 fullShare (leftAt m c (n - 1) (by omega)).2.cv ∗ owns (c : Thread nD τ) scM0_4 fullShare (leftAt m c (n - 1) (by omega)).2.dq ∗ owns (c : Thread nD τ) scM0_5 fullShare (leftAt m c (n - 1) (by omega)).2.dza) ∗ (∃ r, prngReg c r)) := by
  cases n with
  | zero => exact absurd rfl hz
  | succ n => rfl

def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => (leftAt m c t.val t.isLt).1
    | ⟨16, _⟩ => (leftAt m c t.val t.isLt).2.gq
    | ⟨17, _⟩ => (leftAt m c t.val t.isLt).2.gk
    | ⟨18, _⟩ => (leftAt m c t.val t.isLt).2.gs
    | ⟨_ + 19, h⟩ => absurd h (Nat.not_lt.2 (Nat.le_add_left _ _))
  Φ t := PhiS m c t.val (Nat.le_of_lt_succ t.isLt)
  q w := Pipeline.shareOf spec0 w
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

theorem after0_0 (c : Dev nD) (t : Fin cfg0.N) : (dats m 0 c).after 0 t = X0_0 m c t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = (leftAt m c t.val t.isLt).1 := by dsimp only [dats]
theorem after0_16 (c : Dev nD) (t : Fin cfg0.N) : (dats m 0 c).after 16 t = (leftAt m c t.val t.isLt).2.gq := by dsimp only [dats]
theorem after0_17 (c : Dev nD) (t : Fin cfg0.N) : (dats m 0 c).after 17 t = (leftAt m c t.val t.isLt).2.gk := by dsimp only [dats]
theorem after0_18 (c : Dev nD) (t : Fin cfg0.N) : (dats m 0 c).after 18 t = (leftAt m c t.val t.isLt).2.gs := by dsimp only [dats]
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d

/-! ## The three sums are carried from point to point -/

/-- Whether a sum's buffer is unwritten before point `n`: at the first point only. -/
def freshTab : ℕ → Bool
  | 0 => true
  | n + 1 => (0x100000000 : ℕ).testBit n

theorem freshTab_step_16 : ∀ t : Fin cfg0.N,
    freshTab (t.val + 1) = ((cfg0.win 16).flush t || (cfg0.idle 16 (cfg0.grid.coords t) && freshTab t.val)) := by decide +kernel
theorem notFresh_16 (t : Fin cfg0.N) (h : t.val ≠ 0) : cfg0.fresh 16 t.val = false := by
  rw [Pipeline.Cfg.fresh_tab cfg0 16 freshTab rfl freshTab_step_16 t.val (Nat.le_of_lt t.isLt)]
  exact (by decide +kernel : ∀ t : Fin cfg0.N, t.val ≠ 0 → freshTab t.val = false) t h
theorem idle_16 : ∀ t : Fin cfg0.N, cfg0.idle 16 (cfg0.grid.coords t) = true → t.val = 32 := by decide +kernel
theorem carry_16 (c : Dev nD) (t : Fin cfg0.N) (h0 : t.val ≠ 0) (hi : cfg0.idle 16 (grid0.coords t) = true) (hf : cfg0.fresh 16 t.val = false) :
    (dats m 0 c).after 16 t = (dats m 0 c).after 16 ⟨t.val - 1, by omega⟩ := by
  rw [after0_16, after0_16, (left_keeps m c t (idle_16 t hi)).1]
  unfold prevAt; rw [dif_neg h0]
theorem before0_16 (c : Dev nD) (t : Fin cfg0.N) (h : t.val ≠ 0) (d) : (dats m 0 c).before 16 t d = (prevAt m c t).gq := by
  rw [Dat.before_out_traj _ 16 rfl (fun _ _ => rfl) (carry_16 m c) t.val t rfl d, if_neg (by rw [notFresh_16 t h]; exact Bool.false_ne_true)]
  rw [after0_16]; unfold prevAt; rw [dif_neg h]
theorem freshTab_step_17 : ∀ t : Fin cfg0.N,
    freshTab (t.val + 1) = ((cfg0.win 17).flush t || (cfg0.idle 17 (cfg0.grid.coords t) && freshTab t.val)) := by decide +kernel
theorem notFresh_17 (t : Fin cfg0.N) (h : t.val ≠ 0) : cfg0.fresh 17 t.val = false := by
  rw [Pipeline.Cfg.fresh_tab cfg0 17 freshTab rfl freshTab_step_17 t.val (Nat.le_of_lt t.isLt)]
  exact (by decide +kernel : ∀ t : Fin cfg0.N, t.val ≠ 0 → freshTab t.val = false) t h
theorem idle_17 : ∀ t : Fin cfg0.N, cfg0.idle 17 (cfg0.grid.coords t) = true → t.val = 32 := by decide +kernel
theorem carry_17 (c : Dev nD) (t : Fin cfg0.N) (h0 : t.val ≠ 0) (hi : cfg0.idle 17 (grid0.coords t) = true) (hf : cfg0.fresh 17 t.val = false) :
    (dats m 0 c).after 17 t = (dats m 0 c).after 17 ⟨t.val - 1, by omega⟩ := by
  exact absurd hi Bool.false_ne_true
theorem before0_17 (c : Dev nD) (t : Fin cfg0.N) (h : t.val ≠ 0) (d) : (dats m 0 c).before 17 t d = (prevAt m c t).gk := by
  rw [Dat.before_out_traj _ 17 rfl (fun _ _ => rfl) (carry_17 m c) t.val t rfl d, if_neg (by rw [notFresh_17 t h]; exact Bool.false_ne_true)]
  rw [after0_17]; unfold prevAt; rw [dif_neg h]
theorem freshTab_step_18 : ∀ t : Fin cfg0.N,
    freshTab (t.val + 1) = ((cfg0.win 18).flush t || (cfg0.idle 18 (cfg0.grid.coords t) && freshTab t.val)) := by decide +kernel
theorem notFresh_18 (t : Fin cfg0.N) (h : t.val ≠ 0) : cfg0.fresh 18 t.val = false := by
  rw [Pipeline.Cfg.fresh_tab cfg0 18 freshTab rfl freshTab_step_18 t.val (Nat.le_of_lt t.isLt)]
  exact (by decide +kernel : ∀ t : Fin cfg0.N, t.val ≠ 0 → freshTab t.val = false) t h
theorem idle_18 : ∀ t : Fin cfg0.N, cfg0.idle 18 (cfg0.grid.coords t) = true → t.val = 32 := by decide +kernel
theorem carry_18 (c : Dev nD) (t : Fin cfg0.N) (h0 : t.val ≠ 0) (hi : cfg0.idle 18 (grid0.coords t) = true) (hf : cfg0.fresh 18 t.val = false) :
    (dats m 0 c).after 18 t = (dats m 0 c).after 18 ⟨t.val - 1, by omega⟩ := by
  rw [after0_18, after0_18, (left_keeps m c t (idle_18 t hi)).2]
  unfold prevAt; rw [dif_neg h0]
theorem before0_18 (c : Dev nD) (t : Fin cfg0.N) (h : t.val ≠ 0) (d) : (dats m 0 c).before 18 t d = (prevAt m c t).gs := by
  rw [Dat.before_out_traj _ 18 rfl (fun _ _ => rfl) (carry_18 m c) t.val t rfl d, if_neg (by rw [notFresh_18 t h]; exact Bool.false_ne_true)]
  rw [after0_18]; unfold prevAt; rw [dif_neg h]
theorem leaves_16 (c : Dev nD) (t : Fin cfg0.N) :
    (dats m 0 c).leavesExact 16 t = owns (c : Thread nD τ) (ms0_16 t) fullShare (leftAt m c t.val t.isLt).2.gq := by
  have h : cfg0.idle 16 (cfg0.grid.coords t) = false ∨ (cfg0.win 16).flush t = true := by
    revert t; decide +kernel
  rw [← after0_16 m c t]
  unfold Dat.leavesExact
  rcases h with h | h
  · rw [h]
  · rw [h]; cases cfg0.idle 16 (cfg0.grid.coords t) <;> rfl
theorem leaves_18 (c : Dev nD) (t : Fin cfg0.N) :
    (dats m 0 c).leavesExact 18 t = owns (c : Thread nD τ) (ms0_18 t) fullShare (leftAt m c t.val t.isLt).2.gs := by
  have h : cfg0.idle 18 (cfg0.grid.coords t) = false ∨ (cfg0.win 18).flush t = true := by
    revert t; decide +kernel
  rw [← after0_18 m c t]
  unfold Dat.leavesExact
  rcases h with h | h
  · rw [h]
  · rw [h]; cases cfg0.idle 18 (cfg0.grid.coords t) <;> rfl

/-! ## The body's obligation -/

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d)))

def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t
    ∗ (dats m 0 c).leavesExact 11 t
    ∗ (dats m 0 c).leavesExact 12 t
    ∗ (dats m 0 c).leavesExact 13 t
    ∗ (dats m 0 c).leavesExact 14 t
    ∗ (dats m 0 c).leavesExact 15 t
    ∗ (dats m 0 c).leavesExact 16 t
    ∗ (dats m 0 c).leavesExact 17 t
    ∗ (dats m 0 c).leavesExact 18 t)

set_option maxHeartbeats 12800000 in
theorem sound_body (c : Dev nD) (t : Fin cfg0.N) :
    bodyPre m c t ⊢ wp frame (wpE (defs₀ (F := F)) Variants.none c none) Set.univ (bodyAt0 t) (fun _ => bodyPost m c t) := by
  unfold bodyPre bodyPost
  simp only [before0_0, before0_1, before0_2, before0_3, before0_4, before0_5, before0_6, before0_7, before0_8, before0_9, before0_10, before0_11, before0_12, before0_13, before0_14]
  rw [show (dats m 0 c).owesAt () t.succ = (dats m 0 c).owesAt () t.castSucc from rfl]
  rw [show (dats m 0 c).Φ t.succ = PhiS m c (t.val + 1) t.isLt from rfl, PhiS_succ, leaves_16, leaves_18]
  rw [show (dats m 0 c).leavesExact 0 t = owns (c : Thread nD τ) (ms0_0 t) fullShare ((dats m 0 c).after 0 t) from rfl, after0_0]
  rw [show (dats m 0 c).leavesExact 1 t = owns (c : Thread nD τ) (ms0_1 t) fullShare ((dats m 0 c).after 1 t) from rfl, after0_1]
  rw [show (dats m 0 c).leavesExact 2 t = owns (c : Thread nD τ) (ms0_2 t) fullShare ((dats m 0 c).after 2 t) from rfl, after0_2]
  rw [show (dats m 0 c).leavesExact 3 t = owns (c : Thread nD τ) (ms0_3 t) fullShare ((dats m 0 c).after 3 t) from rfl, after0_3]
  rw [show (dats m 0 c).leavesExact 4 t = owns (c : Thread nD τ) (ms0_4 t) fullShare ((dats m 0 c).after 4 t) from rfl, after0_4]
  rw [show (dats m 0 c).leavesExact 5 t = owns (c : Thread nD τ) (ms0_5 t) fullShare ((dats m 0 c).after 5 t) from rfl, after0_5]
  rw [show (dats m 0 c).leavesExact 6 t = owns (c : Thread nD τ) (ms0_6 t) fullShare ((dats m 0 c).after 6 t) from rfl, after0_6]
  rw [show (dats m 0 c).leavesExact 7 t = owns (c : Thread nD τ) (ms0_7 t) fullShare ((dats m 0 c).after 7 t) from rfl, after0_7]
  rw [show (dats m 0 c).leavesExact 8 t = owns (c : Thread nD τ) (ms0_8 t) fullShare ((dats m 0 c).after 8 t) from rfl, after0_8]
  rw [show (dats m 0 c).leavesExact 9 t = owns (c : Thread nD τ) (ms0_9 t) fullShare ((dats m 0 c).after 9 t) from rfl, after0_9]
  rw [show (dats m 0 c).leavesExact 10 t = owns (c : Thread nD τ) (ms0_10 t) fullShare ((dats m 0 c).after 10 t) from rfl, after0_10]
  rw [show (dats m 0 c).leavesExact 11 t = owns (c : Thread nD τ) (ms0_11 t) fullShare ((dats m 0 c).after 11 t) from rfl, after0_11]
  rw [show (dats m 0 c).leavesExact 12 t = owns (c : Thread nD τ) (ms0_12 t) fullShare ((dats m 0 c).after 12 t) from rfl, after0_12]
  rw [show (dats m 0 c).leavesExact 13 t = owns (c : Thread nD τ) (ms0_13 t) fullShare ((dats m 0 c).after 13 t) from rfl, after0_13]
  rw [show (dats m 0 c).leavesExact 14 t = owns (c : Thread nD τ) (ms0_14 t) fullShare ((dats m 0 c).after 14 t) from rfl, after0_14]
  rw [show (dats m 0 c).leavesExact 15 t = owns (c : Thread nD τ) (ms0_15 t) fullShare ((dats m 0 c).after 15 t) from rfl, after0_15]
  rw [show (dats m 0 c).leavesExact 17 t = owns (c : Thread nD τ) (ms0_17 t) fullShare ((dats m 0 c).after 17 t) from rfl, after0_17]
  by_cases hz : t.val = 0
  · rw [PhiS_castSucc m c t, PhiS_zero m c _ _ hz, PhiA0_eq]
    iintro ⟨⟨⟨HS0, HS1, ⟨%e2, HS2⟩, ⟨%e3, HS3⟩, ⟨%e4, HS4⟩, ⟨%e5, HS5⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (left_body m c t ⟨_, _, _, e2, e3, e4, e5⟩ (fun h => absurd hz h) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, H15, H16, H17, H18, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18
  · rw [PhiS_castSucc m c t, PhiS_pos m c _ _ hz]
    simp only [before0_16 m c t hz, before0_17 m c t hz, before0_18 m c t hz]
    have hp : (leftAt m c (t.val - 1) (Nat.lt_of_le_of_lt (Nat.sub_le _ _) t.isLt)).2 = prevAt m c t := by
      unfold prevAt; rw [dif_neg hz]
    simp only [hp]
    iintro ⟨⟨⟨HS0, HS1, HS2, HS3, HS4, HS5⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩⟩
    iapply (left_body m c t (prevAt m c t) (fun _ => rfl) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexists _; iexact H15
    isplitl [H16]; · iexact H16
    isplitl [H17]; · iexact H17
    isplitl [H18]; · iexact H18
    isplitl [HS0]; · iexact HS0
    isplitl [HS1]; · iexact HS1
    isplitl [HS2]; · iexact HS2
    isplitl [HS3]; · iexact HS3
    isplitl [HS4]; · iexact HS4
    isplitl [HS5]; · iexact HS5
    iintro ⟨H0, H1, H2, H3, H4, H5, H6, H7, H8, H9, H10, H11, H12, H13, H14, H15, H16, H17, H18, HS0, HS1, HS2, HS3, HS4, HS5⟩
    isplitl [HS0 HS1 HS2 HS3 HS4 HS5 Hg]
    · isplitl [HS0 HS1 HS2 HS3 HS4 HS5]
      · isplitl [HS0]; · iexact HS0
        isplitl [HS1]; · iexact HS1
        isplitl [HS2]; · iexact HS2
        isplitl [HS3]; · iexact HS3
        isplitl [HS4]; · iexact HS4
        iexact HS5
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    iexact H18

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl,
    PhiS_pos m c _ _ (by rw [Fin.val_last]; have : cfg0.N = 33 := N_0; omega), PhiA0_eq]
  iintro ⟨⟨HS0, HS1, HS2, HS3, HS4, HS5⟩, Hg⟩
  isplitl [HS0 HS1 HS2 HS3 HS4 HS5]
  · isplitl [HS0]; · iexact HS0
    isplitl [HS1]; · iexact HS1
    isplitl [HS2]; · iexists _; iexact HS2
    isplitl [HS3]; · iexists _; iexact HS3
    isplitl [HS4]; · iexists _; iexact HS4
    iexists _; iexact HS5
  iexact Hg

/-! ## The run and the frame -/

set_option backward.isDefEq.respectTransparency.types false in
/-- The program ends with its arrays at what the points leave, and every semaphore counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hin := hin m) (hout := hout m)

/-- The frame: the program runs to its end and leaves its arguments as they were. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (frame_of m ρ (dats m) (A_eq m) ((θ_run defs _ _).mono (fun _ h => h.1) (run_main_quiescent m ρ)))
    ((θ_run defs _ _).mono (fun _ h => h.2) (run_main_quiescent m ρ))

end Cert.AttnBwdIdeal.Gen

end
-- ==== Proof.AttnPBase.lean ====
/- What the three kinds of point of the attention gradient share. -/
module

public import proofs.«01_k».proof.Proof.Gen.AttnBwd.Frame
public import proofs.«01_k».proof.Proof.Gen.AttnBwd.Skeleton
public import Idealize.ShloMosaic.Lib.Pipeline.TableIdle

@[expose] public section

set_option maxRecDepth 16384

noncomputable section

namespace Cert.AttnBwd.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's second branch: the point is the last. -/
def cond2 (i : grid0.Coords) : Prop :=
  Scalar.cmpi .ne (Scalar.extui (Scalar.cmpi .eq (BitVec.ofNat 32 (i 0).val) (32#32 : BitVec 32)) : BitVec 32) 0#32 = 1#1

end Cert.AttnBwd.Gen

end
-- ==== Proof.GluMath.lean ====
module

public import proofs.«01_k».proof.Proof.Norm

@[expose] public section

set_option maxRecDepth 16384

noncomputable section

open Idealize.ShloMosaic Idealize.ShloMosaic.TcCoe Idealize.SL.Sem

/-! The scalar functions of the gated unit and their derivatives, on extended reals: the derivative written by hand
equals what differentiation gives, where the arguments are finite. -/

namespace GluGrad

abbrev half : EReal := Ideal.ofBits .f32 0x3F000000#32
abbrev rt : EReal := Ideal.ofBits .f32 0x3F4C422A#32
abbrev num : EReal := Ideal.ofBits .f32 0x460BBC00#32
abbrev den : EReal := Ideal.ofBits .f32 0x48435000#32
abbrev three : EReal := Ideal.ofBits .f32 0x40400000#32

theorem half_eq : half = ((1 / 2 : ℝ) : EReal) := by
  simp [half, Ideal.ofBits, Ideal.ieee, -EReal.coe_mul]; norm_num
theorem num_eq : num = ((8943 : ℝ) : EReal) := by
  simp [num, Ideal.ofBits, Ideal.ieee, -EReal.coe_mul]; norm_num
theorem den_eq : den = ((200000 : ℝ) : EReal) := by
  simp [den, Ideal.ofBits, Ideal.ieee, -EReal.coe_mul]; norm_num
theorem three_eq : three = ((3 : ℝ) : EReal) := by
  simp [three, Ideal.ofBits, Ideal.ieee, -EReal.coe_mul]; norm_num
theorem rt_eq : ∃ c : ℝ, rt = (c : EReal) := by
  refine ⟨(13386282 : ℝ) / 16777216, ?_⟩
  simp [rt, Ideal.ofBits, Ideal.ieee, -EReal.coe_mul]; norm_num

/-- The hyperbolic tangent in gelu. -/
def th (y : EReal) : EReal := Ideal.tanh (rt * (y + Ideal.div (y * y * y * num) den))
/-- The factor of gelu. -/
def cdf (y : EReal) : EReal := half * (1 + th y)
/-- The sigmoid. -/
def lgst (a : EReal) : EReal := Ideal.div 1 (1 + Ideal.exp (-a))

/-- A sigmoid is finite, whatever its argument. -/
theorem lgst_real (a : EReal) : ∃ s : ℝ, lgst a = (s : EReal) := by
  unfold lgst
  induction a using EReal.rec with
  | bot => exact ⟨0, by rw [EReal.neg_bot, show Ideal.exp ⊤ = ⊤ from rfl, show (1 : EReal) + ⊤ = ⊤ from rfl]; simp [Ideal.div]⟩
  | top => exact ⟨1, by rw [EReal.neg_top, show Ideal.exp ⊥ = 0 from rfl]; simp [Ideal.div]⟩
  | coe r =>
    refine ⟨1 / (1 + Real.exp (-r)), ?_⟩
    have h : (1 + Real.exp (-r)) ≠ 0 := by positivity
    rw [← EReal.coe_neg, show Ideal.exp ((-r : ℝ) : EReal) = ((Real.exp (-r) : ℝ) : EReal) from rfl, ← EReal.coe_one, ← EReal.coe_add,
      Ideal.div_coe h, EReal.coe_one, one_mul]

theorem th_real (y : ℝ) : ∃ t : ℝ, th y = (t : EReal) := by
  obtain ⟨c, hc⟩ := rt_eq
  refine ⟨Real.tanh (c * (y + y * y * y * 8943 * (1 / 200000))), ?_⟩
  unfold th
  rw [hc, num_eq, den_eq, Ideal.div_coe (by norm_num)]
  norm_cast

/-- The kernel's tangent, its constant named. -/
theorem kth_eq (y : ℝ) (cu : EReal) (hcu : cu = ((8943 / 200000 : ℝ) : EReal)) :
    Ideal.tanh (rt * ((y : EReal) + cu * y * y * y)) = th y := by
  unfold th
  congr 2
  rw [num_eq, den_eq, hcu, Ideal.div_coe (by norm_num)]
  norm_cast
  ring_nf

theorem gel_real (y : ℝ) : ∃ q : ℝ, (y : EReal) * cdf y = (q : EReal) := by
  obtain ⟨t, ht⟩ := th_real y
  refine ⟨y * (1 / 2 * (1 + t)), ?_⟩
  unfold cdf
  rw [ht, half_eq]
  norm_cast

theorem gel_eq (y : ℝ) (cu : EReal) (hcu : cu = ((8943 / 200000 : ℝ) : EReal)) :
    half * (y : EReal) * (1 + Ideal.tanh (rt * ((y : EReal) + cu * y * y * y))) = y * cdf y := by
  rw [kth_eq y cu hcu]
  obtain ⟨t, ht⟩ := th_real y
  unfold cdf
  rw [ht, half_eq]
  norm_cast
  ring

/-- The gradient of the outer gate's argument `z`. -/
def dzR (gel s g z : EReal) : EReal := gel * s * g * lgst z + z * (gel * s * g) * (lgst z * (1 - lgst z))

theorem dz_eq (q s g z : ℝ) :
    (g : EReal) * q * s * (lgst z * (1 + z * (1 - lgst z))) = dzR q s g z := by
  obtain ⟨t, ht⟩ := lgst_real z
  unfold dzR
  rw [ht]
  norm_cast
  ring

/-- The gradient of the inner gate's pre-activation. -/
def daR (gel s g z : EReal) : EReal := gel * (g * (z * lgst z)) * (s * (1 - s))

theorem da_eq (q s g z : ℝ) :
    (g : EReal) * (z * lgst z) * q * s * (1 - s) = daR q s g z := by
  obtain ⟨t, ht⟩ := lgst_real z
  unfold daR
  rw [ht]
  norm_cast
  ring

theorem da_real (q s g z : ℝ) : ∃ d : ℝ, daR q s g z = (d : EReal) := by
  obtain ⟨t, ht⟩ := lgst_real z
  refine ⟨q * (g * (z * t)) * (s * (1 - s)), ?_⟩
  unfold daR
  rw [ht]
  norm_cast

/-- The gradient of gelu's argument, from gelu's. -/
def dyR (d y : EReal) : EReal :=
  d * cdf y + rt * (half * (y * d) * ((1 + th y) * (1 - th y)))
    + Ideal.div (rt * (half * (y * d) * ((1 + th y) * (1 - th y)))) den * num * (three * (y * y))

theorem dy_eq (d y : ℝ) (cu cu3 : EReal) (hcu : cu = ((8943 / 200000 : ℝ) : EReal)) (hcu3 : cu3 = ((26829 / 200000 : ℝ) : EReal)) :
    (d : EReal) * (half * (1 + Ideal.tanh (rt * ((y : EReal) + cu * y * y * y)))
        + half * y * (1 - Ideal.tanh (rt * ((y : EReal) + cu * y * y * y)) * Ideal.tanh (rt * ((y : EReal) + cu * y * y * y))) * rt
            * (1 + cu3 * y * y)) = dyR d y := by
  rw [kth_eq y cu hcu]
  obtain ⟨t, ht⟩ := th_real y
  obtain ⟨c, hc⟩ := rt_eq
  unfold dyR cdf
  rw [ht, hc, half_eq, num_eq, den_eq, three_eq, hcu3, Ideal.div_coe (by norm_num)]
  norm_cast
  ring

theorem sum_real {ι : Type} [Fintype ι] (f : ι → EReal) (h : ∀ i, ∃ r : ℝ, f i = (r : EReal)) : ∃ r : ℝ, ∑ i, f i = (r : EReal) := by
  choose g hg using h
  refine ⟨∑ i, g i, ?_⟩
  simp only [hg]
  exact (map_sum (⟨⟨Real.toEReal, rfl⟩, EReal.coe_add⟩ : ℝ →+ EReal) g Finset.univ).symm

theorem d_real (q s g z : ℝ) : ∃ d : ℝ, (g : EReal) * (z * lgst z) * s = (d : EReal) := by
  obtain ⟨t, ht⟩ := lgst_real z
  refine ⟨g * (z * t) * s, ?_⟩
  rw [ht]
  norm_cast

end GluGrad
-- ==== Proof.GluPure.lean ====
module

public import proofs.«01_k».proof.Proof.Gen.GluBwdIdeal.Skeleton
public import proofs.«01_k».proof.Proof.Gen.GluBwdRefIdeal.Read
public import proofs.«01_k».proof.Proof.GluMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! What one block of the gated unit's gradient computes and what the reference computes, in the same functions of a row:
`Y` the recurrence's output, `Z` the outer gate's argument, `G` the cotangent, `W` the weight, `b` the bias. -/

namespace GluGrad

/-- The inner gate. -/
def gate (Y : Fin 1024 → EReal) (W : Fin 1024 → Fin 1024 → EReal) (b : EReal) (l : Fin 1024) : EReal :=
  lgst (∑ x, Y x * cdf (Y x) * W x l + b)

def dzRow (Y Z G : Fin 1024 → EReal) (W : Fin 1024 → Fin 1024 → EReal) (b : Fin 1024 → EReal) (l : Fin 1024) : EReal :=
  dzR (Y l * cdf (Y l)) (gate Y W (b l) l) (G l) (Z l)

def daRow (Y Z G : Fin 1024 → EReal) (W : Fin 1024 → Fin 1024 → EReal) (b : Fin 1024 → EReal) (l : Fin 1024) : EReal :=
  daR (Y l * cdf (Y l)) (gate Y W (b l) l) (G l) (Z l)

def dyRow (Y Z G : Fin 1024 → EReal) (W : Fin 1024 → Fin 1024 → EReal) (b : Fin 1024 → EReal) (l : Fin 1024) : EReal :=
  dyR (G l * (Z l * lgst (Z l)) * gate Y W (b l) l + ∑ x, daRow Y Z G W b x * W l x) (Y l)

/-- Every number of the row is finite; the bias may be anything. -/
def Fine (f : Fin 1024 → EReal) : Prop := ∀ l, ∃ r : ℝ, f l = (r : EReal)

section
open Cert.GluBwdIdeal Cert.GluBwdIdeal.Gen

theorem cube_eq : (Named.named κ "cube" 0x3D372713#32 : Ideal .f32) = ((8943 / 200000 : ℝ) : EReal) :=
  IdealRules.named_const.ideal_named_scalar _ _ _ _ rfl
theorem cube3_eq : (Named.named κ "cube3" 0x3E095D4F#32 : Ideal .f32) = ((26829 / 200000 : ℝ) : EReal) :=
  IdealRules.named_const.ideal_named_scalar _ _ _ _ rfl

variable (y g z : FVec Ideal S512x1024 .f32) (w : FVec Ideal S1024x1024 .bf16) (b : FVec Ideal S1x1024 .f32) (r : Fin 512) (l : Fin 1024)

theorem pay_gel (hy : ∃ q : ℝ, (y (ix2 r l) : EReal) = (q : EReal)) :
    k0_pay4 (F := Ideal) y (ix2 r l) = (y (ix2 r l) : EReal) * cdf (y (ix2 r l)) := by
  obtain ⟨q, hq⟩ := hy
  rw [hq, ← gel_eq q _ cube_eq]
  pointwise [k0_pay4]
  simp only [hq]

theorem pay_gate (hy : Fine fun x => y (ix2 r x)) :
    k0_pay5 (F := Ideal) y w b (ix2 r l) = gate (fun x => y (ix2 r x)) (fun x k => w (ix2 x k)) (b (ix2 0 l)) l := by
  unfold gate lgst
  simp only [← pay_gel y r _ (hy _), ← zero_sub]
  pointwise [k0_pay5]

theorem fine_gel (hy : ∃ q : ℝ, (y (ix2 r l) : EReal) = (q : EReal)) : ∃ q : ℝ, (k0_pay4 (F := Ideal) y (ix2 r l) : EReal) = (q : EReal) := by
  obtain ⟨a, ha⟩ := hy
  rw [pay_gel y r l ⟨a, ha⟩, ha]; exact gel_real a

theorem fine_gate (hy : Fine fun x => y (ix2 r x)) : ∃ s : ℝ, (k0_pay5 (F := Ideal) y w b (ix2 r l) : EReal) = (s : EReal) := by
  rw [pay_gate y w b r l hy]; exact lgst_real _

theorem pay_da (hy : Fine fun x => y (ix2 r x)) (hg : Fine fun x => g (ix2 r x)) (hz : Fine fun x => z (ix2 r x)) :
    k0_pay9 (F := Ideal) z g (k0_pay4 y) (k0_pay5 y w b) (ix2 r l)
      = daRow (fun x => y (ix2 r x)) (fun x => z (ix2 r x)) (fun x => g (ix2 r x)) (fun x k => w (ix2 x k)) (fun x => b (ix2 0 x)) l := by
  unfold daRow
  rw [← pay_gate y w b r l hy, ← pay_gel y r l (hy l)]
  obtain ⟨q, hq⟩ := fine_gel y r l (hy l)
  obtain ⟨s, hs⟩ := fine_gate y w b r l hy
  obtain ⟨a, ha⟩ := hg l
  obtain ⟨c, hc⟩ := hz l
  simp only [] at ha hc hq hs
  pointwise [k0_pay9, k0_pay8, k0_pay6]
  simp only [ha, hc, hq, hs, zero_sub]
  exact da_eq q s a c

theorem pay_dz (hy : Fine fun x => y (ix2 r x)) (hg : Fine fun x => g (ix2 r x)) (hz : Fine fun x => z (ix2 r x)) :
    k0_pay7 (F := Ideal) z g (k0_pay4 y) (k0_pay5 y w b) (ix2 r l)
      = dzRow (fun x => y (ix2 r x)) (fun x => z (ix2 r x)) (fun x => g (ix2 r x)) (fun x k => w (ix2 x k)) (fun x => b (ix2 0 x)) l := by
  unfold dzRow
  rw [← pay_gate y w b r l hy, ← pay_gel y r l (hy l)]
  obtain ⟨q, hq⟩ := fine_gel y r l (hy l)
  obtain ⟨s, hs⟩ := fine_gate y w b r l hy
  obtain ⟨a, ha⟩ := hg l
  obtain ⟨c, hc⟩ := hz l
  simp only [] at ha hc hq hs
  pointwise [k0_pay7]
  simp only [ha, hc, hq, hs, zero_sub]
  exact dz_eq q s a c

theorem pay_dy (hy : Fine fun x => y (ix2 r x)) (hg : Fine fun x => g (ix2 r x)) (hz : Fine fun x => z (ix2 r x))
    (hw : ∀ x k, ∃ q : ℝ, (w (ix2 x k) : EReal) = (q : EReal)) :
    k0_pay1 (F := Ideal) y (k0_pay5 y w b) (k0_pay6 z g) (k0_pay9 z g (k0_pay4 y) (k0_pay5 y w b)) w (ix2 r l)
      = dyRow (fun x => y (ix2 r x)) (fun x => z (ix2 r x)) (fun x => g (ix2 r x)) (fun x k => w (ix2 x k)) (fun x => b (ix2 0 x)) l := by
  unfold dyRow
  obtain ⟨s, hs⟩ := fine_gate y w b r l hy
  obtain ⟨q, hq⟩ := hy l
  obtain ⟨a, ha⟩ := hg l
  obtain ⟨c, hc⟩ := hz l
  have hda : ∀ x, ∃ d : ℝ, daRow (fun x => y (ix2 r x)) (fun x => z (ix2 r x)) (fun x => g (ix2 r x)) (fun x k => w (ix2 x k))
      (fun x => b (ix2 0 x)) x * w (ix2 l x) = (d : EReal) := by
    intro x
    obtain ⟨v, hv⟩ := hw l x
    obtain ⟨q, hq⟩ := hy x
    obtain ⟨q', hq'⟩ := gel_real q
    obtain ⟨a, ha⟩ := hg x
    obtain ⟨c, hc⟩ := hz x
    obtain ⟨s, hs⟩ := lgst_real (∑ k, (y (ix2 r k) : EReal) * cdf (y (ix2 r k)) * (w (ix2 k x) : EReal) + (b (ix2 0 x) : EReal))
    obtain ⟨d, hd⟩ := da_real q' s a c
    refine ⟨d * v, ?_⟩
    simp only [] at ha hc hq
    unfold daRow gate
    simp only [ha, hc, hq, hv, hs, hq', hd, EReal.coe_mul]
  obtain ⟨S, hS⟩ := sum_real _ hda
  obtain ⟨D, hD⟩ := d_real q s a c
  rw [hS, ← pay_gate y w b r l hy]
  simp only [] at ha hc hq hs
  have hsum : (∑ x, (k0_pay9 (F := Ideal) z g (k0_pay4 y) (k0_pay5 y w b) (ix2 r x) : EReal) * (w (ix2 l x) : EReal)) = (S : EReal) := by
    rw [← hS]
    exact Finset.sum_congr rfl fun x _ => by rw [pay_da y g z w b r x hy hg hz]
  pointwise [k0_pay1, k0_pay6]
  simp only [ha, hc, hq, hs, hsum, zero_sub]
  rw [show Ideal.div 1 (1 + Ideal.exp (-(c : EReal))) = lgst c from rfl, hD, ← EReal.coe_add]
  exact dy_eq (D + S) q _ _ cube_eq cube3_eq

/-- A block's part of the bias' gradient. -/
theorem pay_gb (acc : FVec Ideal S1x1024 .f32) (j : S1x1024.Idx) (h : ∀ r, (Fine fun x => y (ix2 r x)) ∧ (Fine fun x => g (ix2 r x)) ∧ Fine fun x => z (ix2 r x)) :
    k0_pay10 (F := Ideal) z g (k0_pay4 y) (k0_pay5 y w b) acc j = acc j + ∑ r : Fin 512,
      daRow (fun x => y (ix2 r x)) (fun x => z (ix2 r x)) (fun x => g (ix2 r x)) (fun x k => w (ix2 x k)) (fun x => b (ix2 0 x)) (j 1) := by
  simp only [← fun r => pay_da y g z w b r (j 1) (h r).1 (h r).2.1 (h r).2.2]
  idx_vars j
  pointwise [k0_pay10, k0_pay9]

theorem zero_b (j : S1x1024.Idx) : k0_pay2 (F := Ideal) j = (0 : EReal) := by pointwise [k0_pay2]

theorem pay_z (z0 z1 : FVec Ideal S512x512 .f32) : k0_pay3 (F := Ideal) z0 z1 (ix2 r l)
    = if h : l.val < 512 then (z0 (ix2 r ⟨l.val, h⟩) : EReal) else z1 (ix2 r ⟨l.val - 512, by omega⟩) := by
  pointwise [k0_pay3]
end

section
open Cert.GluBwdRefIdeal Cert.GluBwdRefIdeal.Gen

variable (x0 : (⟨S4096x1024, .f32⟩ : BufTy).Contents (Elt Ideal)) (x1 : (⟨S4096x4608, .f32⟩ : BufTy).Contents (Elt Ideal))
  (x2 : (⟨S1024x1024, .f32⟩ : BufTy).Contents (Elt Ideal)) (x3 : (⟨S1024, .f32⟩ : BufTy).Contents (Elt Ideal))
  (x4 : (⟨S4096x1024, .f32⟩ : BufTy).Contents (Elt Ideal)) (r : Fin 4096) (l : Fin 1024)

theorem ref_dy : Read.val_main_v66 (F := Ideal) x0 x1 x2 x3 x4 (ix2 r l)
      = dyRow (fun x => x0 (ix2 r x)) (fun x => x1 (ix2 r ⟨3584 + x.val, by omega⟩)) (fun x => x4 (ix2 r x)) (fun x k => x2 (ix2 x k)) (fun x => x3 (ix1 x)) l := by
  pointwise [Read.val_main_v66, Read.val_main_v65, Read.val_main_v64, Read.val_main_v62, Read.val_main_v61, Read.val_main_cst_15, Read.val_main_v59, Read.val_main_v58, Read.val_main_cst_14, Read.val_main_v57, Read.val_main_v19, Read.val_main_v18, Read.val_main_v14, Read.val_main_v13, Read.val_main_v11, Read.val_main_v10, Read.val_main_v9, Read.val_main_cst_2, Read.val_main_v8, Read.val_main_v3, Read.val_main_v2, Read.val_main_v7, Read.val_main_cst_1, Read.val_main_v12, Read.val_main_cst_3, Read.val_main_v17, Read.val_main_cst_5, Read.val_main_v16, Read.val_main_v15, Read.val_main_cst_4, Read.val_main_v56, Read.val_main_v53, Read.val_main_v52, Read.val_main_v51, Read.val_main_v47, Read.val_main_v45, Read.val_main_v43, Read.val_main_v40_0, Read.val_main_v0, Read.val_main_v40_2, Read.val_main_call0_v4, Read.val_main_call0_cst_0, Read.val_main_call0_v3, Read.val_main_call0_v1, Read.val_main_call0_v0, Read.val_main_call0_v2, Read.val_main_call0_cst, Read.val_main_v24, Read.val_main_v23, Read.val_main_v21, Read.val_main_v20, Read.val_main_cst_6, Read.val_main_v22, Read.val_main_cst_7, Read.val_main_v38, Read.val_main_v37, Read.val_main_v35, Read.val_main_v34, Read.val_main_cst_9, Read.val_main_v33, Read.val_main_v31, Read.val_main_v30, Read.val_main_v29, Read.val_main_v28, Read.val_main_v27, Read.val_main_v26, Read.val_main_v25, Read.val_main_v1, Read.val_main_cst, Read.val_main_v32, Read.val_main_cst_8, Read.val_main_v36, Read.val_main_cst_10, Read.val_main_v46, Read.val_main_v55, Read.val_main_cst_13, Read.val_main_v63, Read.val_main_cst_16, Read.val_main_v6, Read.val_main_v5, Read.val_main_cst_0, Read.val_main_v4, Read.val_main_v60, Read.val_main_v54]
  rfl

theorem ref_dz : Read.val_main_v67 (F := Ideal) x0 x1 x2 x3 x4 (ix2 r l)
      = dzRow (fun x => x0 (ix2 r x)) (fun x => x1 (ix2 r ⟨3584 + x.val, by omega⟩)) (fun x => x4 (ix2 r x)) (fun x k => x2 (ix2 x k)) (fun x => x3 (ix1 x)) l := by
  pointwise [Read.val_main_v67, Read.val_main_v44, Read.val_main_call1_v1, Read.val_main_v42, Read.val_main_v39, Read.val_main_v35, Read.val_main_v33, Read.val_main_v32, Read.val_main_cst_8, Read.val_main_v31, Read.val_main_v30, Read.val_main_v29, Read.val_main_v28, Read.val_main_v27, Read.val_main_v26, Read.val_main_v25, Read.val_main_v24, Read.val_main_v23, Read.val_main_v22, Read.val_main_cst_7, Read.val_main_v21, Read.val_main_v14, Read.val_main_v13, Read.val_main_v11, Read.val_main_v10, Read.val_main_v8, Read.val_main_v7, Read.val_main_cst_1, Read.val_main_v3, Read.val_main_v2, Read.val_main_v9, Read.val_main_cst_2, Read.val_main_v12, Read.val_main_cst_3, Read.val_main_v20, Read.val_main_cst_6, Read.val_main_v1, Read.val_main_cst, Read.val_main_v34, Read.val_main_cst_9, Read.val_main_v40_2, Read.val_main_call0_v4, Read.val_main_call0_cst_0, Read.val_main_call0_v3, Read.val_main_call0_v2, Read.val_main_call0_cst, Read.val_main_call0_v1, Read.val_main_call0_v0, Read.val_main_v0, Read.val_main_call1_v2, Read.val_main_v40_1, Read.val_main_call0_v7, Read.val_main_call0_v6, Read.val_main_call0_cst_1, Read.val_main_call1_v0]
  rfl

theorem ref_da : Read.val_main_v68 (F := Ideal) x0 x1 x2 x3 x4 (ix2 r l)
      = daRow (fun x => x0 (ix2 r x)) (fun x => x1 (ix2 r ⟨3584 + x.val, by omega⟩)) (fun x => x4 (ix2 r x)) (fun x k => x2 (ix2 x k)) (fun x => x3 (ix1 x)) l := by
  pointwise [Read.val_main_v68, Read.val_main_v47, Read.val_main_v45, Read.val_main_v43, Read.val_main_v40_0, Read.val_main_v0, Read.val_main_v40_2, Read.val_main_call0_v3, Read.val_main_call0_v2, Read.val_main_call0_cst, Read.val_main_call0_v1, Read.val_main_call0_v0, Read.val_main_call0_v4, Read.val_main_call0_cst_0, Read.val_main_v24, Read.val_main_v23, Read.val_main_v22, Read.val_main_cst_7, Read.val_main_v21, Read.val_main_v20, Read.val_main_cst_6, Read.val_main_v14, Read.val_main_v13, Read.val_main_v11, Read.val_main_v10, Read.val_main_v8, Read.val_main_v7, Read.val_main_cst_1, Read.val_main_v3, Read.val_main_v2, Read.val_main_v9, Read.val_main_cst_2, Read.val_main_v12, Read.val_main_cst_3, Read.val_main_v38, Read.val_main_v37, Read.val_main_v36, Read.val_main_cst_10, Read.val_main_v35, Read.val_main_v34, Read.val_main_cst_9, Read.val_main_v33, Read.val_main_v32, Read.val_main_cst_8, Read.val_main_v31, Read.val_main_v30, Read.val_main_v29, Read.val_main_v1, Read.val_main_cst, Read.val_main_v28, Read.val_main_v27, Read.val_main_v26, Read.val_main_v25]
  rfl

theorem ref_gb (j : S1x1024.Idx) : Read.val_main_v69 (F := Ideal) x0 x1 x2 x3 x4 j
      = ∑ r : Fin 4096, daRow (fun x => x0 (ix2 r x)) (fun x => x1 (ix2 r ⟨3584 + x.val, by omega⟩)) (fun x => x4 (ix2 r x)) (fun x k => x2 (ix2 x k)) (fun x => x3 (ix1 x)) (j 1) := by
  idx_vars j
  pointwise [Read.val_main_v69, Read.val_main_v50, Read.val_main_v49, Read.val_main_v48, Read.val_main_v47, Read.val_main_v45, Read.val_main_v24, Read.val_main_v23, Read.val_main_v22, Read.val_main_cst_7, Read.val_main_v21, Read.val_main_v14, Read.val_main_v13, Read.val_main_v11, Read.val_main_v10, Read.val_main_v8, Read.val_main_v3, Read.val_main_v2, Read.val_main_v7, Read.val_main_cst_1, Read.val_main_v9, Read.val_main_cst_2, Read.val_main_v12, Read.val_main_cst_3, Read.val_main_v20, Read.val_main_cst_6, Read.val_main_v43, Read.val_main_v40_0, Read.val_main_v0, Read.val_main_v40_2, Read.val_main_call0_v4, Read.val_main_call0_cst_0, Read.val_main_call0_v3, Read.val_main_call0_v1, Read.val_main_call0_v0, Read.val_main_call0_v2, Read.val_main_call0_cst, Read.val_main_v38, Read.val_main_v35, Read.val_main_v33, Read.val_main_v31, Read.val_main_v30, Read.val_main_v29, Read.val_main_v28, Read.val_main_v27, Read.val_main_v26, Read.val_main_v25, Read.val_main_v1, Read.val_main_cst, Read.val_main_v32, Read.val_main_cst_8, Read.val_main_v34, Read.val_main_cst_9, Read.val_main_v37, Read.val_main_v36, Read.val_main_cst_10, Read.val_main_cst_11, Read.val_main_cst_12]
  simp only [Finset.univ_unique, Finset.sum_singleton]
  rfl

end

end GluGrad
-- ==== Proof.Glu.lean ====
module

public import proofs.«01_k».proof.Defs
public import proofs.«01_k».proof.Proof.Gen.GluBwdIdeal
public import proofs.«01_k».proof.Proof.Gen.GluBwdIdeal.Frame
public import proofs.«01_k».proof.Proof.Gen.GluBwdIdeal.Value
public import proofs.«01_k».proof.Proof.Gen.GluBwdRefIdeal
public import proofs.«01_k».proof.Proof.Gen.GluBwdRefIdeal.Run
public import proofs.«01_k».proof.Proof.Gen.GluBwdRefIdeal.Read
public import proofs.«01_k».proof.Proof.Gen.Pre_glu_finite
public import proofs.«01_k».proof.Proof.GluPure
public import proofs.«01_k».proof.Proof.Finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace GluGrad

open Cert.GluBwdIdeal Cert.GluBwdIdeal.Gen

variable (m : (ℓ : Loc nD τ sig) → Buf (Elt Ideal) ℓ)

/-- Where each window's block sits, at every grid point. -/
theorem idx : ∀ t : Fin cfg0.N, win0_0.index t = ![t.val, 0] ∧ win0_1.index t = ![t.val, 7] ∧ win0_2.index t = ![t.val, 8]
    ∧ win0_3.index t = ![t.val, 0] ∧ win0_4.index t = ![0, 0] ∧ win0_5.index t = ![0, 0] ∧ win0_6.index t = ![t.val, 0]
    ∧ win0_7.index t = ![t.val, 0] ∧ win0_8.index t = ![t.val, 0] ∧ win0_9.index t = ![0, 0] :=
  (by decide +kernel : ∀ t : Fin grid0.N, _)

abbrev arg0 (c : Dev nD) : FVec Ideal S4096x1024 .f32 := m ((c : Thread nD τ).loc main_arg0)
abbrev arg1 (c : Dev nD) : FVec Ideal S4096x4608 .f32 := m ((c : Thread nD τ).loc main_arg1)
abbrev arg2 (c : Dev nD) : FVec Ideal S1024x1024 .f32 := m ((c : Thread nD τ).loc main_arg2)
abbrev arg3 (c : Dev nD) : FVec Ideal S1024 .f32 := m ((c : Thread nD τ).loc main_arg3)
abbrev arg4 (c : Dev nD) : FVec Ideal S4096x1024 .f32 := m ((c : Thread nD τ).loc main_arg4)

/-! ## The precondition -/

/-- The four arrays that must be finite hold real numbers. -/
def Reals (c : Dev nD) : Prop :=
  (∀ r l, ∃ q : ℝ, (arg0 m c (ix2 r l) : EReal) = (q : EReal)) ∧ (∀ r : Fin 4096, ∀ l : Fin 1024, ∃ q : ℝ, (arg1 m c (ix2 r ⟨3584 + l.val, by omega⟩) : EReal) = (q : EReal))
    ∧ (∀ r l, ∃ q : ℝ, (arg2 m c (ix2 r l) : EReal) = (q : EReal)) ∧ (∀ r l, ∃ q : ℝ, (arg4 m c (ix2 r l) : EReal) = (q : EReal))

theorem reals_of_pre (h : Cert.Pre_GluBwdIdeal_glu_finite m) (c : Dev nD) : Reals m c := by
  obtain ⟨h0, h1, h2, h4⟩ := h c
  refine ⟨fun r l => ?_, fun r l => ?_, fun r l => ?_, fun r l => ?_⟩
  · exact Finite.real_of_cmp ((show _ = _ by pointwise [Cert.Pre_glu_finite.fn]; rfl).trans (congrFun h0 (ix2 r l)))
  · exact Finite.real_of_cmp ((show _ = _ by pointwise [Cert.Pre_glu_finite.fn]; rfl).trans (congrFun h1 (ix2 r l)))
  · exact Finite.real_of_cmp ((show _ = _ by pointwise [Cert.Pre_glu_finite.fn]; rfl).trans (congrFun h2 (ix2 r l)))
  · exact Finite.real_of_cmp ((show _ = _ by pointwise [Cert.Pre_glu_finite.fn]; rfl).trans (congrFun h4 (ix2 r l)))

/-! ## The blocks read from the argument arrays -/

theorem rd0 (c : Dev nD) (t : Fin cfg0.N) (r : Fin 512) (k : Fin 1024) (i : S4096x1024.Idx) (h0 : (i 0 : ℕ) = t.val * 512 + r.val)
    (h1 : (i 1 : ℕ) = k.val) : (show EReal from iblk m c 0 t (ix2 r k)) = arg0 m c i := by
  blk_ext [iblk, V, idx t]

theorem rd1 (c : Dev nD) (t : Fin cfg0.N) (r k : Fin 512) (i : S4096x4608.Idx) (h0 : (i 0 : ℕ) = t.val * 512 + r.val)
    (h1 : (i 1 : ℕ) = 3584 + k.val) : (show EReal from iblk m c 1 t (ix2 r k)) = arg1 m c i := by
  blk_ext [iblk, V, idx t]

theorem rd2 (c : Dev nD) (t : Fin cfg0.N) (r k : Fin 512) (i : S4096x4608.Idx) (h0 : (i 0 : ℕ) = t.val * 512 + r.val)
    (h1 : (i 1 : ℕ) = 4096 + k.val) : (show EReal from iblk m c 2 t (ix2 r k)) = arg1 m c i := by
  blk_ext [iblk, V, idx t]

theorem rd3 (c : Dev nD) (t : Fin cfg0.N) (r : Fin 512) (k : Fin 1024) (i : S4096x1024.Idx) (h0 : (i 0 : ℕ) = t.val * 512 + r.val)
    (h1 : (i 1 : ℕ) = k.val) : (show EReal from iblk m c 3 t (ix2 r k)) = arg4 m c i := by
  blk_ext [iblk, V, idx t]

theorem rd4 (c : Dev nD) (t : Fin cfg0.N) (r e : Fin 1024) : (show EReal from iblk m c 4 t (ix2 r e)) = arg2 m c (ix2 r e) := by
  blk_point [iblk, V, idx t]

theorem rd5 (c : Dev nD) (t : Fin cfg0.N) (k : Fin 1024) : (show EReal from iblk m c 5 t (ix2 0 k)) = arg3 m c (ix1 k) := by
  blk_point [iblk, V, idx t]

/-- The outer gate's argument: the two halves of the block, side by side. -/
theorem rdz (c : Dev nD) (t : Fin cfg0.N) (r : Fin 512) (k : Fin 1024) (i : S4096x4608.Idx) (h0 : (i 0 : ℕ) = t.val * 512 + r.val)
    (h1 : (i 1 : ℕ) = 3584 + k.val) : (k0_pay3 (F := Ideal) (iblk m c 1 t) (iblk m c 2 t) (ix2 r k) : EReal) = arg1 m c i := by
  rw [pay_z]
  by_cases h : k.val < 512
  · rw [dif_pos h]; exact rd1 m c t _ _ _ h0 (by simpa using h1)
  · rw [dif_neg h]; exact rd2 m c t _ _ _ h0 (by rw [h1]; simp only []; omega)

/-- The block's rows are the array's, at the rows of the block. -/
theorem row_lt (t : Fin cfg0.N) (r : Fin 512) : t.val * 512 + r.val < 4096 := by
  have := t.isLt.trans_eq N_0; omega

section
variable (c : Dev nD) (t : Fin cfg0.N) (r : Fin 512)

theorem rowY : (fun x => iblk m c 0 t (ix2 r x) : Fin 1024 → EReal) = fun x => arg0 m c (ix2 ⟨_, row_lt t r⟩ x) :=
  funext fun x => rd0 m c t _ _ _ rfl rfl
theorem rowG : (fun x => iblk m c 3 t (ix2 r x) : Fin 1024 → EReal) = fun x => arg4 m c (ix2 ⟨_, row_lt t r⟩ x) :=
  funext fun x => rd3 m c t _ _ _ rfl rfl
theorem rowZ : (fun x => k0_pay3 (F := Ideal) (iblk m c 1 t) (iblk m c 2 t) (ix2 r x) : Fin 1024 → EReal)
    = fun x => arg1 m c (ix2 ⟨_, row_lt t r⟩ ⟨3584 + x.val, by omega⟩) :=
  funext fun x => rdz m c t _ _ _ rfl rfl
theorem rowW : (fun x k => iblk m c 4 t (ix2 x k) : Fin 1024 → Fin 1024 → EReal) = fun x k => arg2 m c (ix2 x k) :=
  funext fun x => funext fun k => rd4 m c t _ _
theorem rowB : (fun x => iblk m c 5 t (ix2 0 x) : Fin 1024 → EReal) = fun x => arg3 m c (ix1 x) :=
  funext fun x => rd5 m c t _

theorem fineY (h : Reals m c) : Fine (fun x => iblk m c 0 t (ix2 r x)) := by rw [rowY]; exact fun l => h.1 _ _
theorem fineG (h : Reals m c) : Fine (fun x => iblk m c 3 t (ix2 r x)) := by rw [rowG]; exact fun l => h.2.2.2 _ _
theorem fineZ (h : Reals m c) : Fine (fun x => k0_pay3 (F := Ideal) (iblk m c 1 t) (iblk m c 2 t) (ix2 r x)) := by
  rw [rowZ]; exact fun l => h.2.1 _ _
theorem fineW (h : Reals m c) (x k : Fin 1024) : ∃ q : ℝ, (iblk m c 4 t (ix2 x k) : EReal) = (q : EReal) := by
  obtain ⟨q, hq⟩ := h.2.2.1 x k
  exact ⟨q, (rd4 m c t x k).trans hq⟩
end

/-- The gradient of the recurrence's output, a block of rows. -/
theorem point6 (c : Dev nD) (hR : Reals m c) (t : Fin cfg0.N) (y : S512x1024.Idx) :
    k0_pay1 (F := Ideal) (iblk m c 0 t) (k0_pay5 (iblk m c 0 t) (iblk m c 4 t) (iblk m c 5 t))
        (k0_pay6 (k0_pay3 (iblk m c 1 t) (iblk m c 2 t)) (iblk m c 3 t))
        (k0_pay9 (k0_pay3 (iblk m c 1 t) (iblk m c 2 t)) (iblk m c 3 t) (k0_pay4 (iblk m c 0 t))
          (k0_pay5 (iblk m c 0 t) (iblk m c 4 t) (iblk m c 5 t))) (iblk m c 4 t) y
      = Cert.GluBwdRefIdeal.Read.val_main_v66 (F := Ideal) (arg0 m c) (arg1 m c) (arg2 m c) (arg3 m c) (arg4 m c)
          (((cfg0.win 6).blk t).view.emb y) := by
  idx_vars y
  have e : ((cfg0.win 6).blk t).view.emb (ix2 y0 y1) = ix2 ⟨_, row_lt t y0⟩ y1 := by
    refine (eq_ix2 _).trans (congrArg₂ ix2 (Fin.ext ?_) (Fin.ext ?_)) <;> blk_simp [idx t]
  rw [e, ref_dy]
  refine (pay_dy _ _ _ _ _ _ _ (fineY m c t y0 hR) (fineG m c t y0 hR) (fineZ m c t y0 hR) (fineW m c t hR)).trans ?_
  rw [rowY, rowG, rowZ, rowW, rowB]

/-- The gradient of the outer gate's argument, a block of rows. -/
theorem point7 (c : Dev nD) (hR : Reals m c) (t : Fin cfg0.N) (y : S512x1024.Idx) :
    k0_pay7 (F := Ideal) (k0_pay3 (iblk m c 1 t) (iblk m c 2 t)) (iblk m c 3 t) (k0_pay4 (iblk m c 0 t))
          (k0_pay5 (iblk m c 0 t) (iblk m c 4 t) (iblk m c 5 t)) y
      = Cert.GluBwdRefIdeal.Read.val_main_v67 (F := Ideal) (arg0 m c) (arg1 m c) (arg2 m c) (arg3 m c) (arg4 m c)
          (((cfg0.win 7).blk t).view.emb y) := by
  idx_vars y
  have e : ((cfg0.win 7).blk t).view.emb (ix2 y0 y1) = ix2 ⟨_, row_lt t y0⟩ y1 := by
    refine (eq_ix2 _).trans (congrArg₂ ix2 (Fin.ext ?_) (Fin.ext ?_)) <;> blk_simp [idx t]
  rw [e, ref_dz]
  refine (pay_dz _ _ _ _ _ _ _ (fineY m c t y0 hR) (fineG m c t y0 hR) (fineZ m c t y0 hR)).trans ?_
  rw [rowY, rowG, rowZ, rowW, rowB]

/-- The gradient of the inner gate's argument, a block of rows. -/
theorem point8 (c : Dev nD) (hR : Reals m c) (t : Fin cfg0.N) (y : S512x1024.Idx) :
    k0_pay9 (F := Ideal) (k0_pay3 (iblk m c 1 t) (iblk m c 2 t)) (iblk m c 3 t) (k0_pay4 (iblk m c 0 t))
          (k0_pay5 (iblk m c 0 t) (iblk m c 4 t) (iblk m c 5 t)) y
      = Cert.GluBwdRefIdeal.Read.val_main_v68 (F := Ideal) (arg0 m c) (arg1 m c) (arg2 m c) (arg3 m c) (arg4 m c)
          (((cfg0.win 8).blk t).view.emb y) := by
  idx_vars y
  have e : ((cfg0.win 8).blk t).view.emb (ix2 y0 y1) = ix2 ⟨_, row_lt t y0⟩ y1 := by
    refine (eq_ix2 _).trans (congrArg₂ ix2 (Fin.ext ?_) (Fin.ext ?_)) <;> blk_simp [idx t]
  rw [e, ref_da]
  refine (pay_da _ _ _ _ _ _ _ (fineY m c t y0 hR) (fineG m c t y0 hR) (fineZ m c t y0 hR)).trans ?_
  rw [rowY, rowG, rowZ, rowW, rowB]

theorem final6 (c : Dev nD) (hR : Reals m c) : (dats m 0 c).arrAt 6 (cfgs 0).N
    = Cert.GluBwdRefIdeal.Read.val_main_v66 (F := Ideal) (arg0 m c) (arg1 m c) (arg2 m c) (arg3 m c) (arg4 m c) := by
  refine (dats m 0 c).arrAt_eq_of_covers 6 _ (by decide +kernel) fun t _ y => ?_
  blk_simp
  rw [after0_6]
  by_cases h : t.val % 8 = 0
  · rw [outsAt0_A m c t h]; dsimp only; frame_out
    exact point6 m c hR t y
  · rw [outsAt0_B m c t h]; dsimp only; frame_out
    exact point6 m c hR t y

theorem final7 (c : Dev nD) (hR : Reals m c) : (dats m 0 c).arrAt 7 (cfgs 0).N
    = Cert.GluBwdRefIdeal.Read.val_main_v67 (F := Ideal) (arg0 m c) (arg1 m c) (arg2 m c) (arg3 m c) (arg4 m c) := by
  refine (dats m 0 c).arrAt_eq_of_covers 7 _ (by decide +kernel) fun t _ y => ?_
  blk_simp
  rw [after0_7]
  by_cases h : t.val % 8 = 0
  · rw [outsAt0_A m c t h]; dsimp only; frame_out
    exact point7 m c hR t y
  · rw [outsAt0_B m c t h]; dsimp only; frame_out
    exact point7 m c hR t y

theorem final8 (c : Dev nD) (hR : Reals m c) : (dats m 0 c).arrAt 8 (cfgs 0).N
    = Cert.GluBwdRefIdeal.Read.val_main_v68 (F := Ideal) (arg0 m c) (arg1 m c) (arg2 m c) (arg3 m c) (arg4 m c) := by
  refine (dats m 0 c).arrAt_eq_of_covers 8 _ (by decide +kernel) fun t _ y => ?_
  blk_simp
  rw [after0_8]
  by_cases h : t.val % 8 = 0
  · rw [outsAt0_A m c t h]; dsimp only; frame_out
    exact point8 m c hR t y
  · rw [outsAt0_B m c t h]; dsimp only; frame_out
    exact point8 m c hR t y

theorem fines (c : Dev nD) (hR : Reals m c) (t : Fin cfg0.N) (r : Fin 512) : (Fine fun x => iblk m c 0 t (ix2 r x))
    ∧ (Fine fun x => iblk m c 3 t (ix2 r x)) ∧ Fine fun x => k0_pay3 (F := Ideal) (iblk m c 1 t) (iblk m c 2 t) (ix2 r x) :=
  ⟨fineY m c t r hR, fineG m c t r hR, fineZ m c t r hR⟩

/-- The gradient of the bias: the sum over all rows, a block at a time. -/
theorem final9 (c : Dev nD) (hR : Reals m c) : (dats m 0 c).arrAt 9 (cfgs 0).N
    = Cert.GluBwdRefIdeal.Read.val_main_v69 (F := Ideal) (arg0 m c) (arg1 m c) (arg2 m c) (arg3 m c) (arg4 m c) := by
  refine (dats m 0 c).arrAt_eq_of_after_last 9 t0_7 (by decide +kernel) _ fun j => ?_
  blk_simp
  rw [after0_9, Pipeline.eq_sum_fin_of_reset_step_apply_last (fun n h => (outsAt0 m c n h).2.2.2) 8 (fun _ => 0) _
    (fun t h j => by rw [outsAt0_A m c t h]; dsimp only; frame_out; rw [pay_gb _ _ _ _ _ _ _ (fines m c hR t), zero_b])
    (fun t h j => by rw [outsAt0_B m c t h]; dsimp only; frame_out; rw [pay_gb _ _ _ _ _ _ _ (fines m c hR t)])
    (le_of_eq N_0) t0_7 rfl j, zero_add, ref_gb]
  refine Fin.sum_mul_add_congr fun s k hl => ?_
  rw [rowY, rowG, rowZ, rowW, rowB]

/-- What the kernel leaves in its four results is what the reference computes. -/
theorem algebraic : Cert.algebraic_GluBwdIdeal_GluBwdRefIdeal_pre_glu_finite := by
  intro m g m' g' hpre hagree
  have hR := reals_of_pre m hpre
  refine ⟨fun c => Cert.GluBwdRefIdeal.Read.val_main_v66 (F := Ideal) (arg0 m c) (arg1 m c) (arg2 m c) (arg3 m c) (arg4 m c),
    fun c => Cert.GluBwdRefIdeal.Read.val_main_v67 (F := Ideal) (arg0 m c) (arg1 m c) (arg2 m c) (arg3 m c) (arg4 m c),
    fun c => Cert.GluBwdRefIdeal.Read.val_main_v68 (F := Ideal) (arg0 m c) (arg1 m c) (arg2 m c) (arg3 m c) (arg4 m c),
    fun c => Cert.GluBwdRefIdeal.Read.val_main_v69 (F := Ideal) (arg0 m c) (arg1 m c) (arg2 m c) (arg3 m c) (arg4 m c), ?_, ?_⟩
  · run_from Cert.GluBwdIdeal.Gen.run_main m g
    · exact final6 m c (hR c)
    · exact final7 m c (hR c)
    · exact final8 m c (hR c)
    · exact final9 m c (hR c)
  · refine (θ_run Cert.GluBwdRefIdeal.defs _ _).mono (fun r h c => ?_) (Cert.GluBwdRefIdeal.Value.run (F := Ideal) m' g')
    obtain ⟨h66, h67, h68, h69, hr⟩ := h c
    obtain ⟨e0, e1, e2, e3, e4⟩ := hagree c
    rw [Cert.GluBwdRefIdeal.Read.val_main_v66_eq, e0, e1, e2, e3, e4] at h66
    rw [Cert.GluBwdRefIdeal.Read.val_main_v67_eq, e0, e1, e2, e3, e4] at h67
    rw [Cert.GluBwdRefIdeal.Read.val_main_v68_eq, e0, e1, e2, e3, e4] at h68
    rw [Cert.GluBwdRefIdeal.Read.val_main_v69_eq, e0, e1, e2, e3, e4] at h69
    exact ⟨h66, h67, h68, h69, hr⟩

end GluGrad
-- ==== Proof.InPure.lean ====
module

public import proofs.«01_k».proof.Proof.Gen.InBwdIdeal.Skeleton
public import proofs.«01_k».proof.Proof.Gen.InBwdRefIdeal.Read
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The gradient of the layer's input, through its norm and its residual: what one block computes and what the reference
computes, in the same functions of a row. `dh` is the gradient of the normed row, `x` the row, `w` the norm's weight. -/

namespace InGrad

/-- The row's factor: one over the root of its mean square. -/
def fac (x : Fin 2048 → EReal) : EReal :=
  Ideal.rsqrt (Ideal.div (∑ k, x k * x k) (Ideal.ofBits .f32 0x45000000#32) + Ideal.ofBits .f32 0x358637BD#32)

/-- The mean over the row that both terms through the factor share. -/
def through (dh x w : Fin 2048 → EReal) : EReal :=
  Ideal.div ((∑ k, x k * (dh k * w k)) * (Ideal.ofBits .f32 0xBF000000#32
    * Ideal.div (fac x) (Ideal.div (∑ k, x k * x k) (Ideal.ofBits .f32 0x45000000#32) + Ideal.ofBits .f32 0x358637BD#32)))
    (Ideal.ofBits .f32 0x45000000#32)

/-- The row's gradient in the form that differentiation gives. -/
def rowGrad (dh x w : Fin 2048 → EReal) (l : Fin 2048) : EReal :=
  dh l * w l * fac x + x l * through dh x w + through dh x w * x l

/-- The row's gradient by hand. -/
theorem hand_eq (dh x w : Fin 2048 → EReal) (l : Fin 2048) :
    fac x * (dh l * w l - x l * fac x * Ideal.div (∑ k, dh k * w k * (x k * fac x)) (Ideal.ofBits .f32 0x45000000#32))
      = rowGrad dh x w l := by
  unfold rowGrad through fac
  obtain ⟨e, he, hE⟩ := NormGrad.ofBits_eps
  rw [hE, NormGrad.ofBits_2048, NormGrad.ofBits_neg_half]
  exact NormGrad.grad_eq 2048 e _ (by norm_num) he rfl x (fun k => dh k * w k) l _ _ rfl rfl

section
open Cert.InBwdIdeal Cert.InBwdIdeal.Gen

variable (x dh o : FVec Ideal S512x2048 .f32) (w : FVec Ideal S1x2048 .f32) (r : Fin 512) (l : Fin 2048)

theorem pay_gx : k0_pay6 (F := Ideal) x dh w o (ix2 r l)
    = (o (ix2 r l) : EReal) + rowGrad (fun k => dh (ix2 r k)) (fun k => x (ix2 r k)) (fun k => w (ix2 0 k)) l := by
  rw [← hand_eq]
  unfold fac
  pointwise [k0_pay6, k0_pay5, k0_pay4]

theorem pay_gw (acc : FVec Ideal S1x2048 .f32) (j : S1x2048.Idx) : k0_pay7 (F := Ideal) x dh acc j
    = acc j + ∑ r : Fin 512, dh (ix2 r (j 1)) * (x (ix2 r (j 1)) * fac fun k => x (ix2 r k)) := by
  unfold fac
  idx_vars j
  pointwise [k0_pay7, k0_pay5, k0_pay4]

theorem pay_acc (acc : FVec Ideal S512x2048 .f32) (d : FVec Ideal S512x1152 .bf16) (v : FVec Ideal S1x2048x1152 .bf16)
    (j : S512x2048.Idx) : k0_pay3 (F := Ideal) acc d v j
    = acc j + ∑ e : Fin 1152, (d (ix2 (j 0) e) : EReal) * v (ix3 0 (j 1) e) := by
  idx_vars j
  pointwise [k0_pay3]

theorem zero_w (j : S1x2048.Idx) : k0_pay1 (F := Ideal) j = (0 : EReal) := by pointwise [k0_pay1]
theorem zero_acc (j : S512x2048.Idx) : k0_pay2 (F := Ideal) j = (0 : EReal) := by pointwise [k0_pay2]
end

section
open Cert.InBwdRefIdeal

variable (x0 : FVec Ideal S4096x2048 .f32) (x1 : FVec Ideal S2048 .f32) (x2 : FVec Ideal S2048x4608 .f32)
  (x3 : FVec Ideal S4096x4608 .f32) (x4 : FVec Ideal S4096x2048 .f32)

theorem ref_gx (r : Fin 4096) (l : Fin 2048) : Read.val_main_v38 (F := Ideal) x0 x1 x2 x3 x4 (ix2 r l)
    = x4 (ix2 r l) + rowGrad (fun k => ∑ e : Fin 4608, x3 (ix2 r e) * x2 (ix2 k e)) (fun k => x0 (ix2 r k)) (fun k => x1 (ix1 k)) l := by
  unfold rowGrad through fac
  rw [← add_assoc, ← add_assoc]
  pointwise [Read.val_main_v38, Read.val_main_v36, Read.val_main_v35, Read.val_main_v34, Read.val_main_v33, Read.val_main_v32, Read.val_main_v30, Read.val_main_v10, Read.val_main_v8, Read.val_main_v6, Read.val_main_v5, Read.val_main_cst_1, Read.val_main_v4, Read.val_main_v3, Read.val_main_cst_0, Read.val_main_v2, Read.val_main_v1, Read.val_main_v0, Read.val_main_cst, Read.val_main_v7, Read.val_main_v9, Read.val_main_cst_2, Read.val_main_v26, Read.val_main_v25, Read.val_main_v24, Read.val_main_v22, Read.val_main_v21, Read.val_main_v13, Read.val_main_v17, Read.val_main_cst_5, Read.val_main_v31, Read.val_main_cst_6, Read.val_main_cst_7, Read.val_main_v29, Read.val_main_v28, Read.val_main_v27, Read.val_main_v37]
  simp only [Finset.univ_unique, Finset.sum_singleton]

theorem ref_gw (j : S1x2048.Idx) : Read.val_main_v39 (F := Ideal) x0 x2 x3 j
    = ∑ r : Fin 4096, (∑ e : Fin 4608, x3 (ix2 r e) * x2 (ix2 (j 1) e)) * (x0 (ix2 r (j 1)) * fac fun k => x0 (ix2 r k)) := by
  unfold fac
  idx_vars j
  pointwise [Read.val_main_v39, Read.val_main_v23, Read.val_main_cst_4, Read.val_main_v20, Read.val_main_v19, Read.val_main_v18, Read.val_main_v12, Read.val_main_v11, Read.val_main_v7, Read.val_main_v6, Read.val_main_v4, Read.val_main_v3, Read.val_main_cst_0, Read.val_main_v2, Read.val_main_v1, Read.val_main_cst, Read.val_main_v0, Read.val_main_v5, Read.val_main_cst_1, Read.val_main_v17, Read.val_main_cst_3]
  simp only [Finset.univ_unique, Finset.sum_singleton]
  exact Finset.sum_congr rfl fun _ _ => mul_comm _ _
end

end InGrad
-- ==== Proof.In.lean ====
module

public import proofs.«01_k».proof.Defs
public import proofs.«01_k».proof.Proof.Gen.InBwdIdeal
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Run
public import proofs.«01_k».proof.Proof.Gen.InBwdRefIdeal.Read
public import proofs.«01_k».proof.Proof.InPure
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace InGrad

open Cert.InBwdIdeal Cert.InBwdIdeal.Gen

variable (m : (ℓ : Loc nD τ sig) → Buf (Elt Ideal) ℓ)

/-- Where each window's block sits: point `t` is row block `t / 4`, column block `t % 4`. -/
theorem idx : ∀ t : Fin cfg0.N, win0_0.index t = ![t.val / 4, t.val % 4] ∧ win0_1.index t = ![t.val % 4, 0, 0] ∧ win0_2.index t = ![t.val / 4, 0]
    ∧ win0_3.index t = ![0, 0] ∧ win0_4.index t = ![t.val / 4, 0] ∧ win0_5.index t = ![t.val / 4, 0] ∧ win0_6.index t = ![0, 0] :=
  (by decide +kernel : ∀ t : Fin grid0.N, _)

abbrev arg0 (c : Dev nD) : FVec Ideal S4096x2048 .f32 := m ((c : Thread nD τ).loc main_arg0)
abbrev arg1 (c : Dev nD) : FVec Ideal S2048 .f32 := m ((c : Thread nD τ).loc main_arg1)
abbrev arg2 (c : Dev nD) : FVec Ideal S2048x4608 .f32 := m ((c : Thread nD τ).loc main_arg2)
abbrev arg3 (c : Dev nD) : FVec Ideal S4096x4608 .f32 := m ((c : Thread nD τ).loc main_arg3)
abbrev arg4 (c : Dev nD) : FVec Ideal S4096x2048 .f32 := m ((c : Thread nD τ).loc main_arg4)

/-! ## The blocks read from the argument arrays -/

theorem rd0 (c : Dev nD) (t : Fin cfg0.N) (r : Fin 512) (k : Fin 1152) (i : S4096x4608.Idx) (h0 : (i 0 : ℕ) = t.val / 4 * 512 + r.val)
    (h1 : (i 1 : ℕ) = t.val % 4 * 1152 + k.val) : (show EReal from iblk m c 0 t (ix2 r k)) = arg3 m c i := by
  blk_point [iblk, V, idx t]

theorem rd1 (c : Dev nD) (t : Fin cfg0.N) (d : Fin 2048) (k : Fin 1152) (i : S2048x4608.Idx) (h0 : (i 0 : ℕ) = d.val)
    (h1 : (i 1 : ℕ) = t.val % 4 * 1152 + k.val) : (show EReal from iblk m c 1 t (ix3 0 d k)) = arg2 m c i := by
  blk_point [iblk, V, idx t]

theorem rd2 (c : Dev nD) (t : Fin cfg0.N) (r : Fin 512) (k : Fin 2048) (i : S4096x2048.Idx) (h0 : (i 0 : ℕ) = t.val / 4 * 512 + r.val)
    (h1 : (i 1 : ℕ) = k.val) : (show EReal from iblk m c 2 t (ix2 r k)) = arg0 m c i := by
  blk_ext [iblk, V, idx t]

theorem rd3 (c : Dev nD) (t : Fin cfg0.N) (k : Fin 2048) : (show EReal from iblk m c 3 t (ix2 0 k)) = arg1 m c (ix1 k) := by
  blk_point [iblk, V, idx t]

theorem rd4 (c : Dev nD) (t : Fin cfg0.N) (r : Fin 512) (k : Fin 2048) (i : S4096x2048.Idx) (h0 : (i 0 : ℕ) = t.val / 4 * 512 + r.val)
    (h1 : (i 1 : ℕ) = k.val) : (show EReal from iblk m c 4 t (ix2 r k)) = arg4 m c i := by
  blk_ext [iblk, V, idx t]

theorem row_lt (t : Fin cfg0.N) (r : Fin 512) : t.val / 4 * 512 + r.val < 4096 := by
  have := t.isLt.trans_eq N_0; omega

/-! ## The scratch: the gradient of the normed row, a column block of the projection at a time -/

/-- What the scratch held is what it is read as. -/
theorem held (v : Vec Ideal S512x2048 .f32) : View.read (Elt Ideal) (View.whole cc0_scratch0) ((Memref.isWhole_whole cc0_scratch0).unread v) = v :=
  Memref.IsWhole.read_unread _ _

/-- At a row block's last point the scratch holds the whole contraction. -/
theorem scr (c : Dev nD) (t : Fin cfg0.N) (h : t.val % 4 = 3) (r : Fin 512) (d : Fin 2048) :
    ((outsAt0 m c t.val t.isLt).2.2 (ix2 r d) : EReal)
      = ∑ e : Fin 4608, arg3 m c (ix2 ⟨_, row_lt t r⟩ e) * arg2 m c (ix2 d e) := by
  rw [Pipeline.eq_sum_fin_of_reset_step_apply_of_flush (fun n h => (outsAt0 m c n h).2.2) 4 (fun _ => 0) _
    (fun t h j => by
      by_cases h0 : t.val % 32 = 0
      · rw [outsAt0_A m c t h0 h (by omega)]; dsimp only; frame_out; rw [pay_acc, zero_acc]
      · rw [outsAt0_D m c t h0 h (by omega)]; dsimp only; frame_out; rw [pay_acc, zero_acc])
    (fun t h j => by
      by_cases h2 : t.val % 4 = 3
      · rw [outsAt0_C m c t (by omega) h h2]; dsimp only; frame_out; rw [pay_acc]; rw [held]
      · rw [outsAt0_B m c t (by omega) h h2]; dsimp only; frame_out; rw [pay_acc]; rw [held])
    t h _, zero_add]
  refine Fin.sum_mul_add_congr fun s k hl => ?_
  have hp := Pipeline.run_point_lt_of_flush t h s
  have e0 : (Pipeline.run_point_lt_of_flush t h s : _) = hp := rfl
  refine congrArg₂ (· * ·) (rd0 m c _ _ _ _ ?_ ?_) (rd1 m c _ _ _ _ rfl ?_)
  · show t.val / 4 * 512 + r.val = (4 * (t.val / 4) + s.val) / 4 * 512 + r.val
    omega
  · show s.val * 1152 + k.val = (4 * (t.val / 4) + s.val) % 4 * 1152 + k.val
    omega
  · show s.val * 1152 + k.val = (4 * (t.val / 4) + s.val) % 4 * 1152 + k.val
    omega

/-- A row block's last point: what it writes, over the scratch it leaves. -/
theorem last (c : Dev nD) (t : Fin cfg0.N) (h : t.val % 4 = 3) :
    (outsAt0 m c t.val t.isLt).1 = k0_pay6 (F := Ideal) (iblk m c 2 t) (outsAt0 m c t.val t.isLt).2.2 (iblk m c 3 t) (iblk m c 4 t)
    ∧ (outsAt0 m c t.val t.isLt).2.1 = k0_pay7 (F := Ideal) (iblk m c 2 t) (outsAt0 m c t.val t.isLt).2.2
        (outsAt0 m c (t.val - 1) (Nat.lt_of_le_of_lt (Nat.sub_le _ _) t.isLt)).2.1 := by
  rw [outsAt0_C m c t (by omega) (by omega) h]
  constructor
  · funext y; dsimp only; frame_out
  · funext y; dsimp only; frame_out

/-- The rows of the block, read from the arrays. -/
theorem rowX (c : Dev nD) (t : Fin cfg0.N) (r : Fin 512) : (fun k => iblk m c 2 t (ix2 r k) : Fin 2048 → EReal)
    = fun k => arg0 m c (ix2 ⟨_, row_lt t r⟩ k) := funext fun k => rd2 m c t _ _ _ rfl rfl
theorem rowW (c : Dev nD) (t : Fin cfg0.N) : (fun k => iblk m c 3 t (ix2 0 k) : Fin 2048 → EReal)
    = fun k => arg1 m c (ix1 k) := funext fun k => rd3 m c t _

/-- The gradient of the input, a block of rows. -/
theorem final5 (c : Dev nD) : (dats m 0 c).arrAt 5 (cfgs 0).N
    = Cert.InBwdRefIdeal.Read.val_main_v38 (F := Ideal) (arg0 m c) (arg1 m c) (arg2 m c) (arg3 m c) (arg4 m c) := by
  refine (dats m 0 c).arrAt_eq_of_covers 5 _ (by decide +kernel) fun t hf y => ?_
  have h : t.val % 4 = 3 := (flush0_5 t).mp hf
  blk_simp
  rw [after0_5, (last m c t h).1]
  idx_vars y
  have e : ((cfg0.win 5).blk t).view.emb (ix2 y0 y1) = ix2 ⟨_, row_lt t y0⟩ y1 := by
    refine (eq_ix2 _).trans (congrArg₂ ix2 (Fin.ext ?_) (Fin.ext ?_)) <;> blk_simp [idx t]
  rw [e, ref_gx]
  refine (pay_gx _ _ _ _ _ _).trans ?_
  rw [rowX, rowW, funext fun k => scr m c t h y0 k]
  exact congrArg (· + _) (rd4 m c t _ _ _ rfl rfl)

/-- A row block's part of the gradient of the norm's weight. -/
def part (c : Dev nD) (t : Fin cfg0.N) (j : S1x2048.Idx) : EReal :=
  if h : t.val % 4 = 3 then ∑ r : Fin 512, (∑ e : Fin 4608, arg3 m c (ix2 ⟨_, row_lt t r⟩ e) * arg2 m c (ix2 (j 1) e))
    * (arg0 m c (ix2 ⟨_, row_lt t r⟩ (j 1)) * fac fun k => arg0 m c (ix2 ⟨_, row_lt t r⟩ k)) else 0

theorem part_last (c : Dev nD) (t : Fin cfg0.N) (h : t.val % 4 = 3) (x dh : FVec Ideal S512x2048 .f32) (j : S1x2048.Idx)
    (hx : ∀ r k, (x (ix2 r k) : EReal) = arg0 m c (ix2 ⟨_, row_lt t r⟩ k))
    (hd : ∀ r k, (dh (ix2 r k) : EReal) = ∑ e : Fin 4608, arg3 m c (ix2 ⟨_, row_lt t r⟩ e) * arg2 m c (ix2 k e)) :
    (∑ r : Fin 512, dh (ix2 r (j 1)) * (x (ix2 r (j 1)) * fac fun k => x (ix2 r k)) : EReal) = part m c t j := by
  unfold part
  rw [dif_pos h]
  refine Finset.sum_congr rfl fun r _ => ?_
  exact congrArg₂ (· * ·) (hd r (j 1)) (congrArg₂ (· * ·) (hx r (j 1)) (congrArg fac (funext (hx r))))

theorem part_other (c : Dev nD) (t : Fin cfg0.N) (h : ¬t.val % 4 = 3) (j : S1x2048.Idx) : part m c t j = 0 := dif_neg h

/-- The points' parts add up to the sum over all rows. -/
theorem parts_sum (c : Dev nD) (j : S1x2048.Idx) (g : Fin 32 → Fin cfg0.N) (hg : ∀ s, (g s).val = s.val) :
    ∑ s : Fin 32, part m c (g s) j = ∑ r : Fin 4096, (∑ e : Fin 4608, arg3 m c (ix2 r e) * arg2 m c (ix2 (j 1) e))
      * (arg0 m c (ix2 r (j 1)) * fac fun k => arg0 m c (ix2 r k)) := by
  refine (Fin.sum_divmod_congr (A := 8) (S := 4) (f := fun a s => part m c (g ⟨4 * a.val + s.val, by omega⟩) j) fun t ha hs => ?_).trans ?_
  · congr 2
    exact Fin.ext (show t.val = 4 * (t.val / 4) + t.val % 4 by omega)
  · refine Eq.trans ?_ (Fin.sum_mul_add_fin 8 512 _)
    refine Fin.sum_fin_congr fun a => ?_
    rw [Fin.sum_univ_four, part_other, part_other, part_other, zero_add, zero_add, zero_add]
    · have h3 : (g ⟨4 * a.val + 3, by omega⟩).val = 4 * a.val + 3 := hg _
      refine (dif_pos (show (g ⟨4 * a.val + 3, by omega⟩).val % 4 = 3 by omega)).trans ?_
      refine Finset.sum_congr rfl fun r _ => ?_
      have e : (⟨(g ⟨4 * a.val + 3, by omega⟩).val / 4 * 512 + r.val, row_lt _ r⟩ : Fin 4096) = ⟨a.val * 512 + r.val, by omega⟩ :=
        Fin.ext (show (g ⟨4 * a.val + 3, by omega⟩).val / 4 * 512 + r.val = a.val * 512 + r.val by omega)
      exact congrArg (fun i => (∑ e : Fin 4608, arg3 m c (ix2 i e) * arg2 m c (ix2 (j 1) e))
        * (arg0 m c (ix2 i (j 1)) * fac fun k => arg0 m c (ix2 i k))) e
    all_goals (rw [hg]; simp only [Fin.val_zero, Fin.val_one, Fin.val_two]; omega)

/-- The gradient of the norm's weight: the sum over all rows. -/
theorem final6 (c : Dev nD) : (dats m 0 c).arrAt 6 (cfgs 0).N
    = Cert.InBwdRefIdeal.Read.val_main_v39 (F := Ideal) (arg0 m c) (arg2 m c) (arg3 m c) := by
  refine (dats m 0 c).arrAt_eq_of_covers 6 _ (by decide +kernel) fun t hf y => ?_
  have ht : t.val % 32 = 31 := (flush0_6 t).mp hf
  blk_simp
  rw [after0_6, Pipeline.eq_sum_fin_of_reset_step_apply_of_flush (fun n h => (outsAt0 m c n h).2.1) 32 (fun _ => 0) (fun t j => part m c t j)
    (fun t h j => by
      rw [outsAt0_A m c t h (by omega) (by omega)]; dsimp only; frame_out
      rw [zero_w, part_other m c t (by omega), add_zero])
    (fun t h j => by
      by_cases h3 : t.val % 4 = 3
      · show (outsAt0 m c t.val t.isLt).2.1 j = _
        rw [(last m c t h3).2, pay_gw]
        exact congrArg _ (part_last m c t h3 _ _ j (fun r k => rd2 m c t _ _ _ rfl rfl) (fun r k => scr m c t h3 r k))
      · rw [part_other m c t h3, add_zero]
        by_cases h0 : t.val % 4 = 0
        · rw [outsAt0_D m c t h h0 h3]; rfl
        · rw [outsAt0_B m c t h h0 h3]; rfl)
    t ht _, zero_add]
  have e : ((cfg0.win 6).blk t).view.emb y = y := by
    idx_vars y
    refine (eq_ix2 _).trans (congrArg₂ ix2 (Fin.ext ?_) (Fin.ext ?_)) <;> blk_simp [idx t]
  refine Eq.trans ?_ (congrArg _ e).symm
  rw [ref_gw]
  exact parts_sum m c y (fun s => ⟨32 * (t.val / 32) + s.val, Pipeline.run_point_lt_of_flush t ht s⟩) fun s => show 32 * (t.val / 32) + s.val = s.val by have := t.isLt.trans_eq N_0; omega

/-- What the kernel leaves in its two results is what the reference computes. -/
theorem algebraic : Cert.algebraic_InBwdIdeal_InBwdRefIdeal := by
  intro m g m' g' hpre hagree
  refine ⟨fun c => Cert.InBwdRefIdeal.Read.val_main_v38 (F := Ideal) (arg0 m c) (arg1 m c) (arg2 m c) (arg3 m c) (arg4 m c),
    fun c => Cert.InBwdRefIdeal.Read.val_main_v39 (F := Ideal) (arg0 m c) (arg2 m c) (arg3 m c), ?_, ?_⟩
  · run_from Cert.InBwdIdeal.Gen.run_main m g
    · exact final5 m c
    · exact final6 m c
  · refine (θ_run Cert.InBwdRefIdeal.defs _ _).mono (fun r h c => ?_) (Cert.InBwdRefIdeal.Value.run (F := Ideal) m' g')
    obtain ⟨h38, h39, hr⟩ := h c
    obtain ⟨e0, e1, e2, e3, e4⟩ := hagree c
    rw [Cert.InBwdRefIdeal.Read.val_main_v38_eq, e0, e1, e2, e3, e4] at h38
    rw [Cert.InBwdRefIdeal.Read.val_main_v39_eq, e0, e2, e3] at h39
    exact ⟨h38, h39, hr⟩

end InGrad
-- ==== Proof.LossPure.lean ====
module

public import proofs.«01_k».proof.Proof.Gen.LossIdeal.Skeleton
public import proofs.«01_k».proof.Proof.Gen.LossRefIdeal.Read
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! What one block of the output projection and the loss computes and what the reference computes, in the same functions of
a row: `A` and `S` the rows of the two groups, `wa` and `ws` their norm weights, `W` the projection, `x` the input, `y` the target. -/

namespace LossGrad

/-- A row of a group after its norm. -/
def normed (x w : Fin 1024 → EReal) (l : Fin 1024) : EReal :=
  x l * Ideal.rsqrt (Ideal.div (∑ k, x k * x k) (Ideal.ofBits .f32 0x44800000#32) + Ideal.ofBits .f32 0x358637BD#32) * w l

/-- The two groups' rows, side by side. -/
def merged (A S wa ws : Fin 1024 → EReal) (l : Fin 2048) : EReal :=
  if h : l.val < 1024 then normed A wa ⟨l.val, h⟩ else normed S ws ⟨l.val - 1024, by omega⟩

/-- The error of the prediction. -/
def err (A S wa ws : Fin 1024 → EReal) (W : Fin 2048 → Fin 2048 → EReal) (x y : Fin 2048 → EReal) (e : Fin 2048) : EReal :=
  x e + ∑ k, merged A S wa ws k * W k e - y e

section
open Cert.LossIdeal Cert.LossIdeal.Gen

variable (a s : FVec Ideal S256x1024 .f32) (wa ws : FVec Ideal S1x1024 .f32) (w : FVec Ideal S2048x2048 .bf16)
  (x y : FVec Ideal S256x2048 .f32) (r : Fin 256) (l : Fin 2048)

theorem pay_merged : k0_pay5 (F := Ideal) a s wa ws (ix2 r l)
    = merged (fun k => a (ix2 r k)) (fun k => s (ix2 r k)) (fun k => wa (ix2 0 k)) (fun k => ws (ix2 0 k)) l := by
  unfold merged normed
  pointwise [k0_pay5]

theorem pay_err : k0_pay1 (F := Ideal) (k0_pay5 a s wa ws) x w y (ix2 r l)
    = err (fun k => a (ix2 r k)) (fun k => s (ix2 r k)) (fun k => wa (ix2 0 k)) (fun k => ws (ix2 0 k)) (fun k e => w (ix2 k e))
        (fun e => x (ix2 r e)) (fun e => y (ix2 r e)) l := by
  unfold err
  simp only [← pay_merged]
  pointwise [k0_pay1]

theorem pay_dout : k0_pay2 (F := Ideal) (k0_pay5 a s wa ws) x w y (ix2 r l)
    = err (fun k => a (ix2 r k)) (fun k => s (ix2 r k)) (fun k => wa (ix2 0 k)) (fun k => ws (ix2 0 k)) (fun k e => w (ix2 k e))
        (fun e => x (ix2 r e)) (fun e => y (ix2 r e)) l * Ideal.ofBits .f32 0x3A000000#32 := by
  rw [← pay_err]
  pointwise [k0_pay2]

theorem pay_loss (acc : FVec Ideal S8x128 .f32) (j : S8x128.Idx) : k0_pay3 (F := Ideal) (k0_pay5 a s wa ws) x w y acc j
    = acc j + ∑ r : Fin 256, ∑ l : Fin 2048, (fun v => v * v) (err (fun k => a (ix2 r k)) (fun k => s (ix2 r k)) (fun k => wa (ix2 0 k)) (fun k => ws (ix2 0 k))
        (fun k e => w (ix2 k e)) (fun e => x (ix2 r e)) (fun e => y (ix2 r e)) l) := by
  simp only [← pay_err]
  idx_vars j
  pointwise [k0_pay3]

theorem zero_loss (j : S8x128.Idx) : k0_pay4 (F := Ideal) j = (0 : EReal) := by pointwise [k0_pay4]

end

section
open Cert.LossRefIdeal

variable (x0 x1 : (⟨S4096x1024, .f32⟩ : BufTy).Contents (Elt Ideal)) (x2 x3 : (⟨S1024, .f32⟩ : BufTy).Contents (Elt Ideal))
  (x4 : (⟨S2048x2048, .f32⟩ : BufTy).Contents (Elt Ideal)) (x5 x6 : (⟨S4096x2048, .f32⟩ : BufTy).Contents (Elt Ideal))
  (r : Fin 4096) (l : Fin 2048)

/-- The error at a position, from the arrays. -/
def errAt (r : Fin 4096) (l : Fin 2048) : EReal :=
  err (fun k => x0 (ix2 r k)) (fun k => x1 (ix2 r k)) (fun k => x2 (ix1 k)) (fun k => x3 (ix1 k)) (fun k e => x4 (ix2 k e))
    (fun e => x5 (ix2 r e)) (fun e => x6 (ix2 r e)) l

theorem ref_merged : Read.val_main_v26 (F := Ideal) x0 x1 x2 x3 (ix2 r l)
    = merged (fun k => x0 (ix2 r k)) (fun k => x1 (ix2 r k)) (fun k => x2 (ix1 k)) (fun k => x3 (ix1 k)) l := by
  unfold merged normed
  pointwise [Read.val_main_v26, Read.val_main_v12, Read.val_main_v9, Read.val_main_v8, Read.val_main_v7, Read.val_main_v6, Read.val_main_v4, Read.val_main_v2, Read.val_main_v1, Read.val_main_v0, Read.val_main_cst, Read.val_main_v3, Read.val_main_cst_0, Read.val_main_v5, Read.val_main_cst_1, Read.val_main_v11, Read.val_main_v10, Read.val_main_v25, Read.val_main_v22, Read.val_main_v21, Read.val_main_v20, Read.val_main_v19, Read.val_main_v17, Read.val_main_v15, Read.val_main_v14, Read.val_main_v13, Read.val_main_cst_2, Read.val_main_v16, Read.val_main_cst_3, Read.val_main_v18, Read.val_main_cst_4, Read.val_main_v24, Read.val_main_v23]

theorem ref_out : Read.val_main_v44 (F := Ideal) x0 x1 x2 x3 (ix2 r l)
    = merged (fun k => x0 (ix2 r k)) (fun k => x1 (ix2 r k)) (fun k => x2 (ix1 k)) (fun k => x3 (ix1 k)) l := by
  rw [← ref_merged]
  pointwise [Read.val_main_v44]

theorem ref_err : Read.val_main_v28 (F := Ideal) x0 x1 x2 x3 x4 x5 (ix2 r l) - x6 (ix2 r l) = errAt x0 x1 x2 x3 x4 x5 x6 r l := by
  unfold errAt err
  simp only [← ref_merged]
  pointwise [Read.val_main_v28, Read.val_main_v27]

/-- One over the model's width, as the kernel writes it and as the derivative of the mean gives it. -/
theorem scale_eq (v : EReal) : Ideal.div (Ideal.ofBits .f32 0x3F000000#32 * Ideal.ofBits .f32 0x3F800000#32) (Ideal.ofBits .f32 0x45000000#32)
    * (Ideal.ofBits .f32 0x40000000#32 * v) = v * Ideal.ofBits .f32 0x3A000000#32 := by
  have h1 : Ideal.ofBits .f32 0x3F000000#32 = ((1 / 2 : ℝ) : EReal) := by simp [Ideal.ofBits, Ideal.ieee, -EReal.coe_mul]; norm_num
  have h2 : Ideal.ofBits .f32 0x3F800000#32 = ((1 : ℝ) : EReal) := by simp [Ideal.ofBits, Ideal.ieee, -EReal.coe_mul]; norm_num
  have h3 : Ideal.ofBits .f32 0x40000000#32 = ((2 : ℝ) : EReal) := by simp [Ideal.ofBits, Ideal.ieee, -EReal.coe_mul]; norm_num
  have h4 : Ideal.ofBits .f32 0x3A000000#32 = ((1 / 2048 : ℝ) : EReal) := by simp [Ideal.ofBits, Ideal.ieee, -EReal.coe_mul]; norm_num
  rw [h1, h2, h3, h4, NormGrad.ofBits_2048, Ideal.div_coe (by norm_num), mul_comm v, ← mul_assoc, ← EReal.coe_mul, ← EReal.coe_mul, ← EReal.coe_mul]
  norm_num

theorem ref_dout : Read.val_main_v43 (F := Ideal) x0 x1 x2 x3 x4 x5 x6 (ix2 r l)
    = errAt x0 x1 x2 x3 x4 x5 x6 r l * Ideal.ofBits .f32 0x3A000000#32 := by
  rw [← ref_err, ← scale_eq]
  pointwise [Read.val_main_v43, Read.val_main_v42, Read.val_main_v41, Read.val_main_v39, Read.val_main_v38, Read.val_main_cst_10, Read.val_main_cst_11, Read.val_main_v40, Read.val_main_cst_12, Read.val_main_v32, Read.val_main_v31, Read.val_main_cst_5, Read.val_main_v29]

theorem ref_loss (j : S8x128.Idx) : Read.val_main_v48 (F := Ideal) x0 x1 x2 x3 x4 x5 x6 j
    = ∑ r : Fin 4096, ∑ l : Fin 2048, (fun v => v * v) (errAt x0 x1 x2 x3 x4 x5 x6 r l) := by
  simp only [← ref_err]
  idx_vars j
  pointwise [Read.val_main_v48, Read.val_main_v47, Read.val_main_v46, Read.val_main_v45, Read.val_main_cst_13]

end

end LossGrad
-- ==== Proof.Loss.lean ====
module

public import proofs.«01_k».proof.Defs
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Run
public import proofs.«01_k».proof.Proof.Gen.LossRefIdeal.Read
public import proofs.«01_k».proof.Proof.LossPure
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The output projection with the loss and its gradient: what the kernel leaves in its three results is what the reference computes. -/

namespace LossGrad

open Cert.LossIdeal Cert.LossIdeal.Gen

variable (m : (ℓ : Loc nD τ sig) → Buf (Elt Ideal) ℓ)

/-- Where each window's block sits, at every grid point. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![0, 0] :=
  (by decide +kernel : ∀ t : Fin grid0.N, _)

abbrev arg0 (c : Dev nD) : FVec Ideal S4096x1024 .f32 := m ((c : Thread nD τ).loc main_arg0)
abbrev arg1 (c : Dev nD) : FVec Ideal S4096x1024 .f32 := m ((c : Thread nD τ).loc main_arg1)
abbrev arg2 (c : Dev nD) : FVec Ideal S1024 .f32 := m ((c : Thread nD τ).loc main_arg2)
abbrev arg3 (c : Dev nD) : FVec Ideal S1024 .f32 := m ((c : Thread nD τ).loc main_arg3)
abbrev arg4 (c : Dev nD) : FVec Ideal S2048x2048 .f32 := m ((c : Thread nD τ).loc main_arg4)
abbrev arg5 (c : Dev nD) : FVec Ideal S4096x2048 .f32 := m ((c : Thread nD τ).loc main_arg5)
abbrev arg6 (c : Dev nD) : FVec Ideal S4096x2048 .f32 := m ((c : Thread nD τ).loc main_arg6)

/-! ## The blocks read from the argument arrays -/

/-- The block's rows are the array's, at the rows of the block. -/
theorem row_lt (t : Fin cfg0.N) (r : Fin 256) : t.val * 256 + r.val < 4096 := by
  have := t.isLt.trans_eq N_0; omega

section
variable (c : Dev nD) (t : Fin cfg0.N) (r : Fin 256)

theorem rowA : (fun k => iblk m c 0 t (ix2 r k) : Fin 1024 → EReal) = fun k => arg0 m c (ix2 ⟨_, row_lt t r⟩ k) := by
  funext k; blk_point [iblk, V, idx t]
theorem rowS : (fun k => iblk m c 1 t (ix2 r k) : Fin 1024 → EReal) = fun k => arg1 m c (ix2 ⟨_, row_lt t r⟩ k) := by
  funext k; blk_point [iblk, V, idx t]
theorem rowWa : (fun k => iblk m c 2 t (ix2 0 k) : Fin 1024 → EReal) = fun k => arg2 m c (ix1 k) := by
  funext k; blk_point [iblk, V, idx t]
theorem rowWs : (fun k => iblk m c 3 t (ix2 0 k) : Fin 1024 → EReal) = fun k => arg3 m c (ix1 k) := by
  funext k; blk_point [iblk, V, idx t]
theorem rowW : (fun k e => iblk m c 4 t (ix2 k e) : Fin 2048 → Fin 2048 → EReal) = fun k e => arg4 m c (ix2 k e) := by
  funext k e; blk_point [iblk, V, idx t]
theorem rowX : (fun e => iblk m c 5 t (ix2 r e) : Fin 2048 → EReal) = fun e => arg5 m c (ix2 ⟨_, row_lt t r⟩ e) := by
  funext e; blk_point [iblk, V, idx t]
theorem rowY : (fun e => iblk m c 6 t (ix2 r e) : Fin 2048 → EReal) = fun e => arg6 m c (ix2 ⟨_, row_lt t r⟩ e) := by
  funext e; blk_point [iblk, V, idx t]

/-- A block's error is the array's, at the rows of the block. -/
theorem err_at (l : Fin 2048) : err (fun k => iblk m c 0 t (ix2 r k)) (fun k => iblk m c 1 t (ix2 r k)) (fun k => iblk m c 2 t (ix2 0 k))
      (fun k => iblk m c 3 t (ix2 0 k)) (fun k e => iblk m c 4 t (ix2 k e)) (fun e => iblk m c 5 t (ix2 r e)) (fun e => iblk m c 6 t (ix2 r e)) l
    = errAt (arg0 m c) (arg1 m c) (arg2 m c) (arg3 m c) (arg4 m c) (arg5 m c) (arg6 m c) ⟨_, row_lt t r⟩ l := by
  unfold errAt
  rw [rowA, rowS, rowWa, rowWs, rowW, rowX, rowY]
end

/-- The merged groups, a block of rows. -/
theorem point7 (c : Dev nD) (t : Fin cfg0.N) (y : S256x2048.Idx) :
    k0_pay5 (F := Ideal) (iblk m c 0 t) (iblk m c 1 t) (iblk m c 2 t) (iblk m c 3 t) y
      = Cert.LossRefIdeal.Read.val_main_v44 (F := Ideal) (arg0 m c) (arg1 m c) (arg2 m c) (arg3 m c) (((cfg0.win 7).blk t).view.emb y) := by
  idx_vars y
  have e : ((cfg0.win 7).blk t).view.emb (ix2 y0 y1) = ix2 ⟨_, row_lt t y0⟩ y1 := by
    refine (eq_ix2 _).trans (congrArg₂ ix2 (Fin.ext ?_) (Fin.ext ?_)) <;> blk_simp [idx t]
  rw [e, ref_out]
  refine (pay_merged _ _ _ _ _ _).trans ?_
  rw [rowA, rowS, rowWa, rowWs]

/-- The gradient of the loss, a block of rows. -/
theorem point8 (c : Dev nD) (t : Fin cfg0.N) (y : S256x2048.Idx) :
    k0_pay2 (F := Ideal) (k0_pay5 (iblk m c 0 t) (iblk m c 1 t) (iblk m c 2 t) (iblk m c 3 t)) (iblk m c 5 t) (iblk m c 4 t) (iblk m c 6 t) y
      = Cert.LossRefIdeal.Read.val_main_v43 (F := Ideal) (arg0 m c) (arg1 m c) (arg2 m c) (arg3 m c) (arg4 m c) (arg5 m c) (arg6 m c) (((cfg0.win 8).blk t).view.emb y) := by
  idx_vars y
  have e : ((cfg0.win 8).blk t).view.emb (ix2 y0 y1) = ix2 ⟨_, row_lt t y0⟩ y1 := by
    refine (eq_ix2 _).trans (congrArg₂ ix2 (Fin.ext ?_) (Fin.ext ?_)) <;> blk_simp [idx t]
  rw [e, ref_dout]
  exact (pay_dout _ _ _ _ _ _ _ _ _).trans (congrArg (· * _) (err_at m c t y0 y1))

theorem final7 (c : Dev nD) : (dats m 0 c).arrAt 7 (cfgs 0).N
    = Cert.LossRefIdeal.Read.val_main_v44 (F := Ideal) (arg0 m c) (arg1 m c) (arg2 m c) (arg3 m c) := by
  refine (dats m 0 c).arrAt_eq_of_covers 7 _ (by decide +kernel) fun t _ y => ?_
  blk_simp
  rw [after0_7]
  by_cases h : t.val % 16 = 0
  · rw [outsAt0_A m c t h]; dsimp only; frame_out
    exact point7 m c t y
  · rw [outsAt0_B m c t h]; dsimp only; frame_out
    exact point7 m c t y

theorem final8 (c : Dev nD) : (dats m 0 c).arrAt 8 (cfgs 0).N
    = Cert.LossRefIdeal.Read.val_main_v43 (F := Ideal) (arg0 m c) (arg1 m c) (arg2 m c) (arg3 m c) (arg4 m c) (arg5 m c) (arg6 m c) := by
  refine (dats m 0 c).arrAt_eq_of_covers 8 _ (by decide +kernel) fun t _ y => ?_
  blk_simp
  rw [after0_8]
  by_cases h : t.val % 16 = 0
  · rw [outsAt0_A m c t h]; dsimp only; frame_out
    exact point8 m c t y
  · rw [outsAt0_B m c t h]; dsimp only; frame_out
    exact point8 m c t y

/-- The sum of the squared errors over all rows, a block at a time. -/
theorem final9 (c : Dev nD) : (dats m 0 c).arrAt 9 (cfgs 0).N
    = Cert.LossRefIdeal.Read.val_main_v48 (F := Ideal) (arg0 m c) (arg1 m c) (arg2 m c) (arg3 m c) (arg4 m c) (arg5 m c) (arg6 m c) := by
  refine (dats m 0 c).arrAt_eq_of_after_last 9 t0_15 (by decide +kernel) _ fun j => ?_
  blk_simp
  rw [after0_9, Pipeline.eq_sum_fin_of_reset_step_apply_last (fun n h => (outsAt0 m c n h).2.2) 16 (fun _ => 0) _
    (fun t h j => by rw [outsAt0_A m c t h]; dsimp only; frame_out; rw [pay_loss, zero_loss])
    (fun t h j => by rw [outsAt0_B m c t h]; dsimp only; frame_out; rw [pay_loss])
    (le_of_eq N_0) t0_15 rfl j, zero_add, ref_loss]
  refine Fin.sum_mul_add_congr fun s k hl => ?_
  exact congrArg (fun f : Fin 2048 → EReal => ∑ l, f l * f l) (funext fun l => err_at m c s k l)

/-- What the kernel leaves in its three results is what the reference computes. -/
theorem algebraic : Cert.algebraic_LossIdeal_LossRefIdeal := by
  intro m g m' g' hpre hagree
  refine ⟨fun c => Cert.LossRefIdeal.Read.val_main_v44 (F := Ideal) (arg0 m c) (arg1 m c) (arg2 m c) (arg3 m c),
    fun c => Cert.LossRefIdeal.Read.val_main_v43 (F := Ideal) (arg0 m c) (arg1 m c) (arg2 m c) (arg3 m c) (arg4 m c) (arg5 m c) (arg6 m c),
    fun c => Cert.LossRefIdeal.Read.val_main_v48 (F := Ideal) (arg0 m c) (arg1 m c) (arg2 m c) (arg3 m c) (arg4 m c) (arg5 m c) (arg6 m c), ?_, ?_⟩
  · run_from Cert.LossIdeal.Gen.run_main m g
    · exact final7 m c
    · exact final8 m c
    · exact final9 m c
  · refine (θ_run Cert.LossRefIdeal.defs _ _).mono (fun r h c => ?_) (Cert.LossRefIdeal.Value.run (F := Ideal) m' g')
    obtain ⟨h44, h43, h48, hr⟩ := h c
    obtain ⟨e0, e1, e2, e3, e4, e5, e6⟩ := hagree c
    rw [Cert.LossRefIdeal.Read.val_main_v44_eq, e0, e1, e2, e3] at h44
    rw [Cert.LossRefIdeal.Read.val_main_v43_eq, e0, e1, e2, e3, e4, e5, e6] at h43
    rw [Cert.LossRefIdeal.Read.val_main_v48_eq, e0, e1, e2, e3, e4, e5, e6] at h48
    exact ⟨h44, h43, h48, hr⟩

end LossGrad
-- ==== Proof.OutPure.lean ====
module

public import proofs.«01_k».proof.Proof.Gen.OutBwdIdeal.Skeleton
public import proofs.«01_k».proof.Proof.Gen.OutBwdRefIdeal.Read
public import proofs.«01_k».proof.Proof.Norm
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace OutGrad

/-! ## What one block computes -/

section
open Cert.OutBwdIdeal Cert.OutBwdIdeal.Gen

/-- The two norms are one function of the row, so the statements are about the first; `col` places a column of the
    group among the projection's rows. Row `r` of the gradient of a group's input, in the form that differentiation
    gives. -/
def rowGrad (d : Fin 2048 → EReal) (wo : Fin 1024 → Fin 2048 → EReal) (x w : Fin 1024 → EReal) (l : Fin 1024) : EReal :=
  (∑ e, d e * wo l e) * w l
      * Ideal.rsqrt (Ideal.div (∑ k, x k * x k) (Ideal.ofBits .f32 0x44800000#32) + Ideal.ofBits .f32 0x358637BD#32)
    + x l * Ideal.div ((∑ k, x k * ((∑ e, d e * wo k e) * w k)) * (Ideal.ofBits .f32 0xBF000000#32
        * Ideal.div (Ideal.rsqrt (Ideal.div (∑ k, x k * x k) (Ideal.ofBits .f32 0x44800000#32) + Ideal.ofBits .f32 0x358637BD#32))
            (Ideal.div (∑ k, x k * x k) (Ideal.ofBits .f32 0x44800000#32) + Ideal.ofBits .f32 0x358637BD#32)))
        (Ideal.ofBits .f32 0x44800000#32)
    + Ideal.div ((∑ k, x k * ((∑ e, d e * wo k e) * w k)) * (Ideal.ofBits .f32 0xBF000000#32
        * Ideal.div (Ideal.rsqrt (Ideal.div (∑ k, x k * x k) (Ideal.ofBits .f32 0x44800000#32) + Ideal.ofBits .f32 0x358637BD#32))
            (Ideal.div (∑ k, x k * x k) (Ideal.ofBits .f32 0x44800000#32) + Ideal.ofBits .f32 0x358637BD#32)))
        (Ideal.ofBits .f32 0x44800000#32) * x l

theorem rowGrad_congr {d d' : Fin 2048 → EReal} {wo wo' : Fin 1024 → Fin 2048 → EReal} {x x' w w' : Fin 1024 → EReal} {l l' : Fin 1024}
    (hd : ∀ e, d e = d' e) (hwo : ∀ k e, wo k e = wo' k e) (hx : ∀ k, x k = x' k) (hw : ∀ k, w k = w' k) (hl : l = l') :
    rowGrad d wo x w l = rowGrad d' wo' x' w' l' := by
  obtain rfl := funext hd
  obtain rfl := funext fun k => funext (hwo k)
  obtain rfl := funext hx
  obtain rfl := funext hw
  rw [hl]

theorem term_congr {d d' wo wo' : Fin 2048 → EReal} {x x' : Fin 1024 → EReal} {p p' c e : EReal}
    (hd : ∀ e, d e = d' e) (hwo : ∀ e, wo e = wo' e) (hp : p = p') (hx : ∀ k, x k = x' k) :
    (∑ e, d e * wo e) * (p * Ideal.rsqrt (Ideal.div (∑ k, x k * x k) c + e))
      = (∑ e, d' e * wo' e) * (p' * Ideal.rsqrt (Ideal.div (∑ k, x' k * x' k) c + e)) := by
  obtain rfl := funext hd
  obtain rfl := funext hwo
  obtain rfl := funext hx
  rw [hp]

/-- The same row by hand. -/
theorem hand_eq (d : Fin 2048 → EReal) (wo : Fin 1024 → Fin 2048 → EReal) (x w : Fin 1024 → EReal) (l : Fin 1024) :
    Ideal.rsqrt (Ideal.div (∑ k, x k * x k) (Ideal.ofBits .f32 0x44800000#32) + Ideal.ofBits .f32 0x358637BD#32)
      * ((∑ e, d e * wo l e) * w l
        - x l * Ideal.rsqrt (Ideal.div (∑ k, x k * x k) (Ideal.ofBits .f32 0x44800000#32) + Ideal.ofBits .f32 0x358637BD#32)
          * Ideal.div (∑ k, (∑ e, d e * wo k e) * w k
              * (x k * Ideal.rsqrt (Ideal.div (∑ k, x k * x k) (Ideal.ofBits .f32 0x44800000#32) + Ideal.ofBits .f32 0x358637BD#32)))
            (Ideal.ofBits .f32 0x44800000#32))
      = rowGrad d wo x w l := by
  unfold rowGrad
  obtain ⟨e, he, hE⟩ := NormGrad.ofBits_eps
  rw [hE, NormGrad.ofBits_1024, NormGrad.ofBits_neg_half]
  exact NormGrad.grad_eq 1024 e _ (by norm_num) he rfl x (fun k => (∑ e, d e * wo k e) * w k) l _ _ rfl rfl

theorem pay_da (d : FVec Ideal S256x2048 .f32) (wo : FVec Ideal S2048x2048 .bf16) (x : FVec Ideal S256x1024 .f32)
    (w : FVec Ideal S1x1024 .f32) (r : Fin 256) (l : Fin 1024) :
    k0_pay7 (F := Ideal) d wo x w (ix2 r l)
      = rowGrad (fun e => d (ix2 r e)) (fun k e => wo (ix2 ⟨k.val, by omega⟩ e)) (fun k => x (ix2 r k)) (fun k => w (ix2 0 k)) l := by
  rw [← hand_eq]
  pointwise [k0_pay7, k0_pay6, k0_pay5, k0_pay4, k0_pay3]

theorem pay_ds (d : FVec Ideal S256x2048 .f32) (wo : FVec Ideal S2048x2048 .bf16) (x : FVec Ideal S256x1024 .f32)
    (w : FVec Ideal S1x1024 .f32) (r : Fin 256) (l : Fin 1024) :
    k0_pay12 (F := Ideal) (k0_pay3 d wo) x w (ix2 r l)
      = rowGrad (fun e => d (ix2 r e)) (fun k e => wo (ix2 ⟨1024 + k.val, by omega⟩ e)) (fun k => x (ix2 r k)) (fun k => w (ix2 0 k)) l := by
  rw [← hand_eq]
  pointwise [k0_pay12, k0_pay11, k0_pay10, k0_pay9, k0_pay3]

/-- A block's part of the gradient of a norm's weight: the sum over the block's rows. -/
theorem pay_ga (d : FVec Ideal S256x2048 .f32) (wo : FVec Ideal S2048x2048 .bf16) (x : FVec Ideal S256x1024 .f32)
    (acc : FVec Ideal S1x1024 .f32) (j : S1x1024.Idx) :
    k0_pay13 (F := Ideal) (k0_pay8 d wo x) acc j = acc j + ∑ r : Fin 256, (∑ e : Fin 2048, d (ix2 r e) * wo (ix2 ⟨(j 1).val, (j 1).isLt.trans (by decide)⟩ e))
      * (x (ix2 r (j 1)) * Ideal.rsqrt (Ideal.div (∑ k : Fin 1024, x (ix2 r k) * x (ix2 r k)) (Ideal.ofBits .f32 0x44800000#32)
          + Ideal.ofBits .f32 0x358637BD#32)) := by
  idx_vars j
  pointwise [k0_pay13, k0_pay8, k0_pay6, k0_pay5, k0_pay4, k0_pay3]

theorem pay_gs (d : FVec Ideal S256x2048 .f32) (wo : FVec Ideal S2048x2048 .bf16) (x : FVec Ideal S256x1024 .f32)
    (acc : FVec Ideal S1x1024 .f32) (j : S1x1024.Idx) :
    k0_pay14 (F := Ideal) (k0_pay3 d wo) x acc j = acc j + ∑ r : Fin 256, (∑ e : Fin 2048, d (ix2 r e) * wo (ix2 ⟨1024 + (j 1).val, Nat.add_lt_add_left (j 1).isLt 1024⟩ e))
      * (x (ix2 r (j 1)) * Ideal.rsqrt (Ideal.div (∑ k : Fin 1024, x (ix2 r k) * x (ix2 r k)) (Ideal.ofBits .f32 0x44800000#32)
          + Ideal.ofBits .f32 0x358637BD#32)) := by
  idx_vars j
  pointwise [k0_pay14, k0_pay11, k0_pay10, k0_pay9, k0_pay3]

theorem zero_a (j : S1x1024.Idx) : k0_pay1 (F := Ideal) j = 0 := by pointwise [k0_pay1]
theorem zero_s (j : S1x1024.Idx) : k0_pay2 (F := Ideal) j = 0 := by pointwise [k0_pay2]

end

/-! ## What the reference computes -/

section
open Cert.OutBwdRefIdeal

theorem ref_da (x : FVec Ideal S4096x1024 .f32) (w : FVec Ideal S1024 .f32) (wo : FVec Ideal S2048x2048 .f32)
    (d : FVec Ideal S4096x2048 .f32) (r : Fin 4096) (l : Fin 1024) :
    Read.val_main_v76 (F := Ideal) x w wo d (ix2 r l)
      = rowGrad (fun e => d (ix2 r e)) (fun k e => wo (ix2 ⟨k.val, by omega⟩ e)) (fun k => x (ix2 r k)) (fun k => w (ix1 k)) l := by
  unfold rowGrad
  pointwise [Read.val_main_v76, Read.val_main_v75, Read.val_main_v72, Read.val_main_v71, Read.val_main_cst_16, Read.val_main_v70, Read.val_main_v69, Read.val_main_cst_15, Read.val_main_v68, Read.val_main_v10, Read.val_main_v8, Read.val_main_v6, Read.val_main_v4, Read.val_main_v3, Read.val_main_cst_0, Read.val_main_v2, Read.val_main_v1, Read.val_main_cst, Read.val_main_v0, Read.val_main_v5, Read.val_main_cst_1, Read.val_main_v7, Read.val_main_v9, Read.val_main_cst_2, Read.val_main_v65, Read.val_main_v64, Read.val_main_v63, Read.val_main_v61, Read.val_main_v35, Read.val_main_v34, Read.val_main_v60, Read.val_main_v13, Read.val_main_cst_14, Read.val_main_v74, Read.val_main_v67, Read.val_main_v66, Read.val_main_v73]
  simp only [Finset.univ_unique, Finset.sum_singleton]

theorem ref_ds (x : FVec Ideal S4096x1024 .f32) (w : FVec Ideal S1024 .f32) (wo : FVec Ideal S2048x2048 .f32)
    (d : FVec Ideal S4096x2048 .f32) (r : Fin 4096) (l : Fin 1024) :
    Read.val_main_v56 (F := Ideal) x w wo d (ix2 r l)
      = rowGrad (fun e => d (ix2 r e)) (fun k e => wo (ix2 ⟨1024 + k.val, by omega⟩ e)) (fun k => x (ix2 r k)) (fun k => w (ix1 k)) l := by
  unfold rowGrad
  pointwise [Read.val_main_v56, Read.val_main_v54, Read.val_main_v47, Read.val_main_v46, Read.val_main_v23, Read.val_main_v22, Read.val_main_v21, Read.val_main_cst_5, Read.val_main_v20, Read.val_main_v19, Read.val_main_cst_4, Read.val_main_v18, Read.val_main_v17, Read.val_main_v16, Read.val_main_cst_3, Read.val_main_v41, Read.val_main_v40, Read.val_main_v29, Read.val_main_v36, Read.val_main_v34, Read.val_main_v53, Read.val_main_v52, Read.val_main_v51, Read.val_main_cst_11, Read.val_main_v50, Read.val_main_v48, Read.val_main_v45, Read.val_main_v44, Read.val_main_v43, Read.val_main_cst_9, Read.val_main_v26, Read.val_main_v24, Read.val_main_v25, Read.val_main_cst_6, Read.val_main_v49, Read.val_main_cst_10, Read.val_main_v55]
  simp only [Finset.univ_unique, Finset.sum_singleton]

theorem ref_ga (x : FVec Ideal S4096x1024 .f32) (wo : FVec Ideal S2048x2048 .f32) (d : FVec Ideal S4096x2048 .f32)
    (j : S1x1024.Idx) :
    Read.val_main_v77 (F := Ideal) x wo d j = ∑ r : Fin 4096, (∑ e : Fin 2048, d (ix2 r e) * wo (ix2 ⟨(j 1).val, (j 1).isLt.trans (by decide)⟩ e))
      * (x (ix2 r (j 1)) * Ideal.rsqrt (Ideal.div (∑ k : Fin 1024, x (ix2 r k) * x (ix2 r k)) (Ideal.ofBits .f32 0x44800000#32)
          + Ideal.ofBits .f32 0x358637BD#32)) := by
  idx_vars j
  pointwise [Read.val_main_v77, Read.val_main_v62, Read.val_main_cst_13, Read.val_main_v59, Read.val_main_v58, Read.val_main_v57, Read.val_main_v35, Read.val_main_v34, Read.val_main_v12, Read.val_main_v11, Read.val_main_v7, Read.val_main_v6, Read.val_main_v4, Read.val_main_v2, Read.val_main_v1, Read.val_main_v0, Read.val_main_cst, Read.val_main_v3, Read.val_main_cst_0, Read.val_main_v5, Read.val_main_cst_1, Read.val_main_cst_12]
  simp only [Finset.univ_unique, Finset.sum_singleton]
  exact Finset.sum_congr rfl fun _ _ => mul_comm _ _

theorem ref_gs (x : FVec Ideal S4096x1024 .f32) (wo : FVec Ideal S2048x2048 .f32) (d : FVec Ideal S4096x2048 .f32)
    (j : S1x1024.Idx) :
    Read.val_main_v78 (F := Ideal) x wo d j = ∑ r : Fin 4096, (∑ e : Fin 2048, d (ix2 r e) * wo (ix2 ⟨1024 + (j 1).val, Nat.add_lt_add_left (j 1).isLt 1024⟩ e))
      * (x (ix2 r (j 1)) * Ideal.rsqrt (Ideal.div (∑ k : Fin 1024, x (ix2 r k) * x (ix2 r k)) (Ideal.ofBits .f32 0x44800000#32)
          + Ideal.ofBits .f32 0x358637BD#32)) := by
  idx_vars j
  pointwise [Read.val_main_v78, Read.val_main_v42, Read.val_main_cst_8, Read.val_main_v39, Read.val_main_v38, Read.val_main_v37, Read.val_main_v28, Read.val_main_v27, Read.val_main_v23, Read.val_main_v22, Read.val_main_v20, Read.val_main_v18, Read.val_main_v17, Read.val_main_cst_3, Read.val_main_v16, Read.val_main_v19, Read.val_main_cst_4, Read.val_main_v21, Read.val_main_cst_5, Read.val_main_v36, Read.val_main_v34, Read.val_main_cst_7]
  simp only [Finset.univ_unique, Finset.sum_singleton]
  exact Finset.sum_congr rfl fun _ _ => mul_comm _ _

end

end OutGrad
-- ==== Proof.Out.lean ====
module

public import proofs.«01_k».proof.Defs
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Run
public import proofs.«01_k».proof.Proof.Gen.OutBwdRefIdeal.Read
public import proofs.«01_k».proof.Proof.OutPure
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace OutGrad

open Cert.OutBwdIdeal Cert.OutBwdIdeal.Gen

variable (m : (ℓ : Loc nD τ sig) → Buf (Elt Ideal) ℓ)

/-- Where each window's block sits, at every grid point. -/
theorem idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![t.val, 0]
    ∧ win0_7.index t = ![t.val, 0] ∧ win0_8.index t = ![0, 0] ∧ win0_9.index t = ![0, 0] :=
  (by decide +kernel : ∀ t : Fin grid0.N, _)

abbrev arg0 (c : Dev nD) : FVec Ideal S4096x1024 .f32 := m ((c : Thread nD τ).loc main_arg0)
abbrev arg1 (c : Dev nD) : FVec Ideal S4096x1024 .f32 := m ((c : Thread nD τ).loc main_arg1)
abbrev arg2 (c : Dev nD) : FVec Ideal S1024 .f32 := m ((c : Thread nD τ).loc main_arg2)
abbrev arg3 (c : Dev nD) : FVec Ideal S1024 .f32 := m ((c : Thread nD τ).loc main_arg3)
abbrev arg4 (c : Dev nD) : FVec Ideal S2048x2048 .f32 := m ((c : Thread nD τ).loc main_arg4)
abbrev arg5 (c : Dev nD) : FVec Ideal S4096x2048 .f32 := m ((c : Thread nD τ).loc main_arg5)

/-! ## The blocks read from the argument arrays -/

theorem rd0 (c : Dev nD) (t : Fin cfg0.N) (r : Fin 256) (e : Fin 2048) (i : S4096x2048.Idx) (h0 : (i 0 : ℕ) = t.val * 256 + r.val)
    (h1 : (i 1 : ℕ) = e.val) : (show EReal from iblk m c 0 t (ix2 r e)) = arg5 m c i := by
  blk_ext [iblk, V, idx t]

theorem rd1 (c : Dev nD) (t : Fin cfg0.N) (r : Fin 256) (k : Fin 1024) (i : S4096x1024.Idx) (h0 : (i 0 : ℕ) = t.val * 256 + r.val)
    (h1 : (i 1 : ℕ) = k.val) : (show EReal from iblk m c 1 t (ix2 r k)) = arg0 m c i := by
  blk_ext [iblk, V, idx t]

theorem rd2 (c : Dev nD) (t : Fin cfg0.N) (r : Fin 256) (k : Fin 1024) (i : S4096x1024.Idx) (h0 : (i 0 : ℕ) = t.val * 256 + r.val)
    (h1 : (i 1 : ℕ) = k.val) : (show EReal from iblk m c 2 t (ix2 r k)) = arg1 m c i := by
  blk_ext [iblk, V, idx t]

theorem rd3 (c : Dev nD) (t : Fin cfg0.N) (k : Fin 1024) : (show EReal from iblk m c 3 t (ix2 0 k)) = arg2 m c (ix1 k) := by
  blk_point [iblk, V, idx t]

theorem rd4 (c : Dev nD) (t : Fin cfg0.N) (k : Fin 1024) : (show EReal from iblk m c 4 t (ix2 0 k)) = arg3 m c (ix1 k) := by
  blk_point [iblk, V, idx t]

theorem rd5 (c : Dev nD) (t : Fin cfg0.N) (r e : Fin 2048) : (show EReal from iblk m c 5 t (ix2 r e)) = arg4 m c (ix2 r e) := by
  blk_point [iblk, V, idx t]

/-- The gradient of the attention group's output, a block of rows. -/
theorem point6 (c : Dev nD) (t : Fin cfg0.N) (y : S256x1024.Idx) :
    k0_pay7 (F := Ideal) (iblk m c 0 t) (iblk m c 5 t) (iblk m c 1 t) (iblk m c 3 t) y
      = Cert.OutBwdRefIdeal.Read.val_main_v76 (F := Ideal) (arg0 m c) (arg2 m c) (arg4 m c) (arg5 m c) (((cfg0.win 6).blk t).view.emb y) := by
  idx_vars y
  refine (pay_da _ _ _ _ _ _).trans (Eq.trans ?_ (congrArg _ (eq_ix2 (((cfg0.win 6).blk t).view.emb (ix2 y0 y1)))).symm)
  refine Eq.trans ?_ (ref_da _ _ _ _ _ _).symm
  refine rowGrad_congr (fun e => rd0 m c t _ _ _ ?_ rfl) (fun k e => rd5 m c t _ _) (fun k => rd1 m c t _ _ _ ?_ rfl) (fun k => rd3 m c t _) (Fin.ext ?_)
  all_goals blk_simp [idx t]

/-- The gradient of the state-space group's output, a block of rows. -/
theorem point7 (c : Dev nD) (t : Fin cfg0.N) (y : S256x1024.Idx) :
    k0_pay12 (F := Ideal) (k0_pay3 (iblk m c 0 t) (iblk m c 5 t)) (iblk m c 2 t) (iblk m c 4 t) y
      = Cert.OutBwdRefIdeal.Read.val_main_v56 (F := Ideal) (arg1 m c) (arg3 m c) (arg4 m c) (arg5 m c) (((cfg0.win 7).blk t).view.emb y) := by
  idx_vars y
  refine (pay_ds _ _ _ _ _ _).trans (Eq.trans ?_ (congrArg _ (eq_ix2 (((cfg0.win 7).blk t).view.emb (ix2 y0 y1)))).symm)
  refine Eq.trans ?_ (ref_ds _ _ _ _ _ _).symm
  refine rowGrad_congr (fun e => rd0 m c t _ _ _ ?_ rfl) (fun k e => rd5 m c t _ _) (fun k => rd2 m c t _ _ _ ?_ rfl) (fun k => rd4 m c t _) (Fin.ext ?_)
  all_goals blk_simp [idx t]

theorem final6 (c : Dev nD) : (dats m 0 c).arrAt 6 (cfgs 0).N
    = Cert.OutBwdRefIdeal.Read.val_main_v76 (F := Ideal) (arg0 m c) (arg2 m c) (arg4 m c) (arg5 m c) := by
  refine (dats m 0 c).arrAt_eq_of_covers 6 _ (by decide +kernel) fun t _ y => ?_
  blk_simp
  rw [after0_6]
  by_cases h : t.val % 16 = 0
  · rw [outsAt0_A m c t h]; dsimp only; frame_out
    exact point6 m c t y
  · rw [outsAt0_B m c t h]; dsimp only; frame_out
    exact point6 m c t y

theorem final7 (c : Dev nD) : (dats m 0 c).arrAt 7 (cfgs 0).N
    = Cert.OutBwdRefIdeal.Read.val_main_v56 (F := Ideal) (arg1 m c) (arg3 m c) (arg4 m c) (arg5 m c) := by
  refine (dats m 0 c).arrAt_eq_of_covers 7 _ (by decide +kernel) fun t _ y => ?_
  blk_simp
  rw [after0_7]
  by_cases h : t.val % 16 = 0
  · rw [outsAt0_A m c t h]; dsimp only; frame_out
    exact point7 m c t y
  · rw [outsAt0_B m c t h]; dsimp only; frame_out
    exact point7 m c t y

theorem final8 (c : Dev nD) : (dats m 0 c).arrAt 8 (cfgs 0).N
    = Cert.OutBwdRefIdeal.Read.val_main_v77 (F := Ideal) (arg0 m c) (arg4 m c) (arg5 m c) := by
  refine (dats m 0 c).arrAt_eq_of_after_last 8 t0_15 (by decide +kernel) _ fun j => ?_
  blk_simp
  rw [after0_8, Pipeline.eq_sum_fin_of_reset_step_apply_last (fun n h => (outsAt0 m c n h).2.2.1) 16 (fun _ => 0) _
    (fun t h j => by rw [outsAt0_A m c t h]; dsimp only; frame_out; rw [pay_ga, zero_a])
    (fun t h j => by rw [outsAt0_B m c t h]; dsimp only; frame_out; rw [pay_ga])
    (le_of_eq N_0) t0_15 rfl j, zero_add, ref_ga]
  refine Fin.sum_mul_add_congr fun s k hl => ?_
  exact term_congr (fun e => rd0 m c s _ _ _ rfl rfl) (fun e => rd5 m c s _ _) (rd1 m c s _ _ _ rfl rfl) (fun k => rd1 m c s _ _ _ rfl rfl)

/-- The gradient of the state-space group's norm weight: the sum over all rows. -/
theorem final9 (c : Dev nD) : (dats m 0 c).arrAt 9 (cfgs 0).N
    = Cert.OutBwdRefIdeal.Read.val_main_v78 (F := Ideal) (arg1 m c) (arg4 m c) (arg5 m c) := by
  refine (dats m 0 c).arrAt_eq_of_after_last 9 t0_15 (by decide +kernel) _ fun j => ?_
  blk_simp
  rw [after0_9, Pipeline.eq_sum_fin_of_reset_step_apply_last (fun n h => (outsAt0 m c n h).2.2.2) 16 (fun _ => 0) _
    (fun t h j => by rw [outsAt0_A m c t h]; dsimp only; frame_out; rw [pay_gs, zero_s])
    (fun t h j => by rw [outsAt0_B m c t h]; dsimp only; frame_out; rw [pay_gs])
    (le_of_eq N_0) t0_15 rfl j, zero_add, ref_gs]
  refine Fin.sum_mul_add_congr fun s k hl => ?_
  exact term_congr (fun e => rd0 m c s _ _ _ rfl rfl) (fun e => rd5 m c s _ _) (rd2 m c s _ _ _ rfl rfl) (fun k => rd2 m c s _ _ _ rfl rfl)

/-- What the kernel leaves in its four results is what the reference computes. -/
theorem algebraic : Cert.algebraic_OutBwdIdeal_OutBwdRefIdeal := by
  intro m g m' g' hpre hagree
  refine ⟨fun c => Cert.OutBwdRefIdeal.Read.val_main_v76 (F := Ideal) (arg0 m c) (arg2 m c) (arg4 m c) (arg5 m c),
    fun c => Cert.OutBwdRefIdeal.Read.val_main_v56 (F := Ideal) (arg1 m c) (arg3 m c) (arg4 m c) (arg5 m c),
    fun c => Cert.OutBwdRefIdeal.Read.val_main_v77 (F := Ideal) (arg0 m c) (arg4 m c) (arg5 m c),
    fun c => Cert.OutBwdRefIdeal.Read.val_main_v78 (F := Ideal) (arg1 m c) (arg4 m c) (arg5 m c), ?_, ?_⟩
  · run_from Cert.OutBwdIdeal.Gen.run_main m g
    · exact final6 m c
    · exact final7 m c
    · exact final8 m c
    · exact final9 m c
  · refine (θ_run Cert.OutBwdRefIdeal.defs _ _).mono (fun r h c => ?_) (Cert.OutBwdRefIdeal.Value.run (F := Ideal) m' g')
    obtain ⟨h76, h56, h77, h78, hr⟩ := h c
    obtain ⟨e0, e1, e2, e3, e4, e5⟩ := hagree c
    rw [Cert.OutBwdRefIdeal.Read.val_main_v76_eq, e0, e2, e4, e5] at h76
    rw [Cert.OutBwdRefIdeal.Read.val_main_v56_eq, e1, e3, e4, e5] at h56
    rw [Cert.OutBwdRefIdeal.Read.val_main_v77_eq, e0, e4, e5] at h77
    rw [Cert.OutBwdRefIdeal.Read.val_main_v78_eq, e1, e4, e5] at h78
    exact ⟨h76, h56, h77, h78, hr⟩

end OutGrad
-- ==== Proof.ParamPure.lean ====
module

public import proofs.«01_k».proof.Proof.Gen.ParamBwdIdeal.Frame
public import proofs.«01_k».proof.Proof.Gen.ParamBwdRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The gradient of the state space's discretisation, in real numbers: `a + b i` is the continuous eigenvalue, `s` the
logarithm of the step, `u + v i` the gradient of the discrete eigenvalue, `x + y i` that of the input's factor. -/

namespace ParamGrad

/-- The discrete eigenvalue. -/
def lr (a b s : ℝ) : ℝ := Real.exp (a * Real.exp s) * Real.cos (b * Real.exp s)
def li (a b s : ℝ) : ℝ := Real.exp (a * Real.exp s) * Real.sin (b * Real.exp s)
/-- The input's factor: the discrete eigenvalue less one, over the continuous one. -/
def fr (a b s : ℝ) : ℝ := ((lr a b s - 1) * a + li a b s * b) / (a * a + b * b)
def fi (a b s : ℝ) : ℝ := (li a b s * a - (lr a b s - 1) * b) / (a * a + b * b)
/-- The whole gradient of the discrete eigenvalue. -/
def lamR (a b x y u : ℝ) : ℝ := u + (x * a - y * b) / (a * a + b * b)
def lamI (a b x y v : ℝ) : ℝ := v + (x * b + y * a) / (a * a + b * b)
/-- The gradient of the exponent. -/
def zR (a b s x y u v : ℝ) : ℝ := lamR a b x y u * lr a b s + lamI a b x y v * li a b s
def zI (a b s x y u v : ℝ) : ℝ := lamI a b x y v * lr a b s - lamR a b x y u * li a b s
/-- The input factor over the continuous eigenvalue. -/
def qR (a b s : ℝ) : ℝ := (fr a b s * a + fi a b s * b) / (a * a + b * b)
def qI (a b s : ℝ) : ℝ := (fi a b s * a - fr a b s * b) / (a * a + b * b)
/-- The gradients of the two parts of the continuous eigenvalue, and a state's term of the step's. -/
def gA (a b s x y u v : ℝ) : ℝ := zR a b s x y u v * Real.exp s - (x * qR a b s + y * qI a b s)
def gB (a b s x y u v : ℝ) : ℝ := zI a b s x y u v * Real.exp s - (y * qR a b s - x * qI a b s)
def gS (a b s x y u v : ℝ) : ℝ := zR a b s x y u v * a + zI a b s x y u v * b

theorem coe_sum {ι : Type} [Fintype ι] (f : ι → ℝ) : ∑ i, ((f i : ℝ) : EReal) = ((∑ i, f i : ℝ) : EReal) :=
  (map_sum (⟨⟨Real.toEReal, rfl⟩, EReal.coe_add⟩ : ℝ →+ EReal) f Finset.univ).symm

section
open Cert.ParamBwdIdeal Cert.ParamBwdIdeal.Gen

/-- The quotient by sixteen, rounded down, as the kernel writes it. -/
theorem quot_at (k : Fin 1024) : (Scalar.select
      (IntOp.andi
        (IntOp.cmpi CmpIPredicate.ne
          (IntOp.subi (BitVec.setWidth 32 (IntOp.cmpi CmpIPredicate.sgt (BitVec.ofNat 32 k.val) 0#32))
            (BitVec.setWidth 32 (IntOp.cmpi CmpIPredicate.slt (BitVec.ofNat 32 k.val) 0#32)))
          (Scalar.subi (Scalar.extui (Scalar.cmpi CmpIPredicate.sgt 16#32 0#32))
            (Scalar.extui (Scalar.cmpi CmpIPredicate.slt 16#32 0#32))))
        (IntOp.cmpi CmpIPredicate.ne (IntOp.remsi ArithUnit.vector (BitVec.ofNat 32 k.val) 16#32) 0#32))
      (IntOp.subi (IntOp.divsi ArithUnit.vector (BitVec.ofNat 32 k.val) 16#32) 1#32)
      (IntOp.divsi ArithUnit.vector (BitVec.ofNat 32 k.val) 16#32)) = BitVec.ofNat 32 (k.val / 16) := by
  revert k
  decide +kernel

/-- Folding the lanes of a state: lane `k` belongs to state `k / 16`. -/
theorem fold_at (k : Fin 1024) (p : Fin 64) : k0_pay31 (F := Ideal) (ix2 k p) = if k.val / 16 = p.val then (1 : EReal) else 0 := by
  pointwise [k0_pay31]
  rw [quot_at k]
  have e : IntOp.cmpi CmpIPredicate.eq (BitVec.ofNat 32 (k.val / 16)) (BitVec.ofNat 32 p.val)
      = BitVec.ofBool (decide (k.val / 16 = p.val)) := by
    revert p; revert k; decide +kernel
  rw [e]
  by_cases h : k.val / 16 = p.val
  · rw [if_pos h, decide_eq_true h]
    show ((((1 : ℤ) : ℝ)) : EReal) = 1
    norm_num
  · rw [if_neg h, decide_eq_false h]
    show ((((0 : ℤ) : ℝ)) : EReal) = 0
    norm_num

/-- The sum over a state's sixteen lanes. -/
theorem fold_sum (f : Fin 1024 → EReal) (p : Fin 64) :
    (∑ k : Fin 1024, f k * (if k.val / 16 = p.val then (1 : EReal) else 0)) = ∑ h : Fin 16, f ⟨p.val * 16 + h.val, by omega⟩ := by
  rw [← Fin.sum_mul_add_fin 64 16]
  rw [Finset.sum_eq_single p]
  · refine Finset.sum_congr rfl fun h _ => ?_
    rw [if_pos (by show (p.val * 16 + h.val) / 16 = p.val; omega), mul_one]
  · intro q _ hq
    refine Finset.sum_eq_zero fun h _ => ?_
    rw [if_neg (by show ¬ (q.val * 16 + h.val) / 16 = p.val; intro e; exact hq (Fin.ext (by omega))), mul_zero]
  · intro h; exact absurd (Finset.mem_univ p) h

variable (v0 : FVec Ideal S64x1 .f32) (va vb vu vv v11 v15 v29 v32 v120 v121 v127 v130 v132 v135 : FVec Ideal S64x64 .f32)
  (v2 : FVec Ideal S64x1 .f32) (g p : Fin 64) (a b s x y u v : ℝ) (hn : a * a + b * b ≠ 0)

theorem step_at (hs : v0 (ix2 g 0) = (s : EReal)) :
    k0_pay2 (F := Ideal) v0 (ix2 g 0) = ((Real.exp s : ℝ) : EReal) := by
  pointwise [k0_pay2]
  simp only [hs, ← EReal.coe_mul, ← EReal.coe_add, ← EReal.coe_sub, ← EReal.coe_neg, ← EReal.coe_one, ← EReal.coe_zero, Ideal.exp_coe, Ideal.cos_coe, Ideal.sin_coe] <;>
  refine congrArg Real.toEReal ?_ <;>
  first | done | ring1 | (have hq : a ^ 2 + b ^ 2 ≠ 0 := (by simpa [pow_two] using hn); field_simp; ring1)

theorem lamR_at (hs : v0 (ix2 g 0) = (s : EReal)) (ha : va (ix2 g p) = (a : EReal)) (hb : vb (ix2 g p) = (b : EReal)) :
    k0_pay4 (F := Ideal) v0 va vb (ix2 g p) = ((lr a b s : ℝ) : EReal) := by
  pointwise [k0_pay2, k0_pay3, k0_pay4]
  simp only [hs, ha, hb, ← EReal.coe_mul, ← EReal.coe_add, ← EReal.coe_sub, ← EReal.coe_neg, ← EReal.coe_one, ← EReal.coe_zero, Ideal.exp_coe, Ideal.cos_coe, Ideal.sin_coe]
  refine congrArg Real.toEReal ?_
  simp only [lr]
  first | done | ring1 | (have hq : a ^ 2 + b ^ 2 ≠ 0 := (by simpa [pow_two] using hn); field_simp; ring1)

theorem lamI_at (hs : v0 (ix2 g 0) = (s : EReal)) (ha : va (ix2 g p) = (a : EReal)) (hb : vb (ix2 g p) = (b : EReal)) :
    k0_pay5 (F := Ideal) v0 va vb (ix2 g p) = ((li a b s : ℝ) : EReal) := by
  pointwise [k0_pay2, k0_pay3, k0_pay5]
  simp only [hs, ha, hb, ← EReal.coe_mul, ← EReal.coe_add, ← EReal.coe_sub, ← EReal.coe_neg, ← EReal.coe_one, ← EReal.coe_zero, Ideal.exp_coe, Ideal.cos_coe, Ideal.sin_coe]
  refine congrArg Real.toEReal ?_
  simp only [li]
  first | done | ring1 | (have hq : a ^ 2 + b ^ 2 ≠ 0 := (by simpa [pow_two] using hn); field_simp; ring1)

theorem facR_at (hs : v0 (ix2 g 0) = (s : EReal)) (ha : va (ix2 g p) = (a : EReal)) (hb : vb (ix2 g p) = (b : EReal)) (hn : a * a + b * b ≠ 0) :
    k0_pay10 (F := Ideal) v0 va vb (ix2 g p) = ((fr a b s : ℝ) : EReal) := by
  pointwise [k0_pay2, k0_pay3, k0_pay4, k0_pay5, k0_pay6, k0_pay7, k0_pay8, k0_pay9, k0_pay10]
  simp only [hs, ha, hb, ← EReal.coe_mul, ← EReal.coe_add, ← EReal.coe_sub, ← EReal.coe_neg, ← EReal.coe_one, ← EReal.coe_zero, Ideal.exp_coe, Ideal.cos_coe, Ideal.sin_coe, Ideal.div_coe hn]
  refine congrArg Real.toEReal ?_
  simp only [fr, lr, li]
  first | done | ring1 | (have hq : a ^ 2 + b ^ 2 ≠ 0 := (by simpa [pow_two] using hn); field_simp; ring1)

theorem facI_at (hs : v0 (ix2 g 0) = (s : EReal)) (ha : va (ix2 g p) = (a : EReal)) (hb : vb (ix2 g p) = (b : EReal)) (hn : a * a + b * b ≠ 0) :
    k0_pay11 (F := Ideal) v0 va vb (ix2 g p) = ((fi a b s : ℝ) : EReal) := by
  pointwise [k0_pay2, k0_pay3, k0_pay4, k0_pay5, k0_pay6, k0_pay7, k0_pay8, k0_pay9, k0_pay11]
  simp only [hs, ha, hb, ← EReal.coe_mul, ← EReal.coe_add, ← EReal.coe_sub, ← EReal.coe_neg, ← EReal.coe_one, ← EReal.coe_zero, Ideal.exp_coe, Ideal.cos_coe, Ideal.sin_coe, Ideal.div_coe hn]
  refine congrArg Real.toEReal ?_
  simp only [fi, lr, li]
  first | done | ring1 | (have hq : a ^ 2 + b ^ 2 ≠ 0 := (by simpa [pow_two] using hn); field_simp; ring1)

theorem invR_at (ha : va (ix2 g p) = (a : EReal)) (hb : vb (ix2 g p) = (b : EReal)) (hn : a * a + b * b ≠ 0) :
    k0_pay35 (F := Ideal) va vb (ix2 g p) = ((a / (a * a + b * b) : ℝ) : EReal) := by
  pointwise [k0_pay34, k0_pay35]
  simp only [ha, hb, ← EReal.coe_mul, ← EReal.coe_add, ← EReal.coe_sub, ← EReal.coe_neg, ← EReal.coe_one, ← EReal.coe_zero, Ideal.exp_coe, Ideal.cos_coe, Ideal.sin_coe, Ideal.div_coe hn] <;>
  refine congrArg Real.toEReal ?_ <;>
  first | done | ring1 | (have hq : a ^ 2 + b ^ 2 ≠ 0 := (by simpa [pow_two] using hn); field_simp; ring1)

theorem invI_at (ha : va (ix2 g p) = (a : EReal)) (hb : vb (ix2 g p) = (b : EReal)) (hn : a * a + b * b ≠ 0) :
    k0_pay36 (F := Ideal) va vb (ix2 g p) = ((-b / (a * a + b * b) : ℝ) : EReal) := by
  pointwise [k0_pay34, k0_pay36]
  simp only [ha, hb, ← EReal.coe_mul, ← EReal.coe_add, ← EReal.coe_sub, ← EReal.coe_neg, ← EReal.coe_one, ← EReal.coe_zero, Ideal.exp_coe, Ideal.cos_coe, Ideal.sin_coe, Ideal.div_coe hn] <;>
  refine congrArg Real.toEReal ?_ <;>
  first | done | ring1 | (have hq : a ^ 2 + b ^ 2 ≠ 0 := (by simpa [pow_two] using hn); field_simp; ring1)

theorem invN_at (ha : va (ix2 g p) = (a : EReal)) (hb : vb (ix2 g p) = (b : EReal)) (hn : a * a + b * b ≠ 0) :
    k0_pay37 (F := Ideal) va vb (ix2 g p) = ((b / (a * a + b * b) : ℝ) : EReal) := by
  pointwise [k0_pay34, k0_pay36, k0_pay37]
  simp only [ha, hb, ← EReal.coe_mul, ← EReal.coe_add, ← EReal.coe_sub, ← EReal.coe_neg, ← EReal.coe_one, ← EReal.coe_zero, Ideal.exp_coe, Ideal.cos_coe, Ideal.sin_coe, Ideal.div_coe hn] <;>
  refine congrArg Real.toEReal ?_ <;>
  first | done | ring1 | (have hq : a ^ 2 + b ^ 2 ≠ 0 := (by simpa [pow_two] using hn); field_simp; ring1)

theorem grad_a (h2 : v2 (ix2 g 0) = ((Real.exp s : ℝ) : EReal)) (h11 : v11 (ix2 g p) = ((lr a b s : ℝ) : EReal)) (h15 : v15 (ix2 g p) = ((li a b s : ℝ) : EReal)) (h29 : v29 (ix2 g p) = ((fr a b s : ℝ) : EReal)) (h32 : v32 (ix2 g p) = ((fi a b s : ℝ) : EReal)) (hx : v120 (ix2 g p) = ((x : ℝ) : EReal)) (hy : v121 (ix2 g p) = ((y : ℝ) : EReal)) (h127 : v127 (ix2 g p) = ((a / (a * a + b * b) : ℝ) : EReal)) (h130 : v130 (ix2 g p) = ((-b / (a * a + b * b) : ℝ) : EReal)) (h132 : v132 (ix2 g p) = ((b / (a * a + b * b) : ℝ) : EReal)) (h135 : v135 (ix2 g p) = (((x * a - y * b) / (a * a + b * b) : ℝ) : EReal)) (hu : vu (ix2 g p) = ((u : ℝ) : EReal)) (hv : vv (ix2 g p) = ((v : ℝ) : EReal)) :
    k0_pay46 (F := Ideal) v2 v11 v15 v29 v32 v120 v121 v127 v130 v132 v135 vu vv (ix2 g p) = ((gA a b s x y u v : ℝ) : EReal) := by
  pointwise [k0_pay39, k0_pay40, k0_pay41, k0_pay42, k0_pay43, k0_pay44, k0_pay45, k0_pay46]
  simp only [h2, h11, h15, h29, h32, hx, hy, h127, h130, h132, h135, hu, hv, ← EReal.coe_mul, ← EReal.coe_add, ← EReal.coe_sub, ← EReal.coe_neg, ← EReal.coe_one, ← EReal.coe_zero, Ideal.exp_coe, Ideal.cos_coe, Ideal.sin_coe]
  refine congrArg Real.toEReal ?_
  simp only [gA, zR, lamR, lamI, qR, qI]
  first | done | ring1 | (have hq : a ^ 2 + b ^ 2 ≠ 0 := (by simpa [pow_two] using hn); field_simp; ring1)

theorem grad_b (h2 : v2 (ix2 g 0) = ((Real.exp s : ℝ) : EReal)) (h11 : v11 (ix2 g p) = ((lr a b s : ℝ) : EReal)) (h15 : v15 (ix2 g p) = ((li a b s : ℝ) : EReal)) (h29 : v29 (ix2 g p) = ((fr a b s : ℝ) : EReal)) (h32 : v32 (ix2 g p) = ((fi a b s : ℝ) : EReal)) (hx : v120 (ix2 g p) = ((x : ℝ) : EReal)) (hy : v121 (ix2 g p) = ((y : ℝ) : EReal)) (h127 : v127 (ix2 g p) = ((a / (a * a + b * b) : ℝ) : EReal)) (h130 : v130 (ix2 g p) = ((-b / (a * a + b * b) : ℝ) : EReal)) (h132 : v132 (ix2 g p) = ((b / (a * a + b * b) : ℝ) : EReal)) (h135 : v135 (ix2 g p) = (((x * a - y * b) / (a * a + b * b) : ℝ) : EReal)) (hu : vu (ix2 g p) = ((u : ℝ) : EReal)) (hv : vv (ix2 g p) = ((v : ℝ) : EReal)) :
    k0_pay47 (F := Ideal) v2 v11 v15 v29 v32 v120 v121 v127 v130 v132 v135 vu vv (ix2 g p) = ((gB a b s x y u v : ℝ) : EReal) := by
  pointwise [k0_pay39, k0_pay40, k0_pay41, k0_pay42, k0_pay43, k0_pay44, k0_pay45, k0_pay47]
  simp only [h2, h11, h15, h29, h32, hx, hy, h127, h130, h132, h135, hu, hv, ← EReal.coe_mul, ← EReal.coe_add, ← EReal.coe_sub, ← EReal.coe_neg, ← EReal.coe_one, ← EReal.coe_zero, Ideal.exp_coe, Ideal.cos_coe, Ideal.sin_coe]
  refine congrArg Real.toEReal ?_
  simp only [gB, zI, lamR, lamI, qR, qI]
  first | done | ring1 | (have hq : a ^ 2 + b ^ 2 ≠ 0 := (by simpa [pow_two] using hn); field_simp; ring1)

/-- The step's gradient: a sum over the states. -/
theorem grad_s (A B U W X Y : Fin 64 → ℝ) (ha : ∀ p, va (ix2 g p) = ((A p : ℝ) : EReal)) (hb : ∀ p, vb (ix2 g p) = ((B p : ℝ) : EReal))
  (h2 : v2 (ix2 g 0) = ((Real.exp s : ℝ) : EReal))
  (h11 : ∀ p, v11 (ix2 g p) = ((lr (A p) (B p) s : ℝ) : EReal)) (h15 : ∀ p, v15 (ix2 g p) = ((li (A p) (B p) s : ℝ) : EReal))
  (hx : ∀ p, v120 (ix2 g p) = ((X p : ℝ) : EReal)) (hy : ∀ p, v121 (ix2 g p) = ((Y p : ℝ) : EReal))
  (h127 : ∀ p, v127 (ix2 g p) = ((A p / (A p * A p + B p * B p) : ℝ) : EReal))
  (h132 : ∀ p, v132 (ix2 g p) = ((B p / (A p * A p + B p * B p) : ℝ) : EReal))
  (h135 : ∀ p, v135 (ix2 g p) = (((X p * A p - Y p * B p) / (A p * A p + B p * B p) : ℝ) : EReal))
  (hu : ∀ p, vu (ix2 g p) = ((U p : ℝ) : EReal)) (hv : ∀ p, vv (ix2 g p) = ((W p : ℝ) : EReal)) :
    k0_pay1 (F := Ideal) v2 (k0_pay48 (F := Ideal) va vb v11 v15 v120 v121 v127 v132 v135 vu vv) (ix2 g 0)
      = (((∑ p, gS (A p) (B p) s (X p) (Y p) (U p) (W p)) * Real.exp s : ℝ) : EReal) := by
  pointwise [k0_pay1, k0_pay48, k0_pay39, k0_pay40, k0_pay43, k0_pay44, k0_pay45]
  simp only [ha, hb, h2, h11, h15, hx, hy, h127, h132, h135, hu, hv, ← EReal.coe_mul, ← EReal.coe_add, ← EReal.coe_sub, ← EReal.coe_neg, ← EReal.coe_one, ← EReal.coe_zero, Ideal.exp_coe, Ideal.cos_coe, Ideal.sin_coe, coe_sum, zero_add]
  refine congrArg Real.toEReal (congrArg (· * Real.exp s) (Finset.sum_congr rfl fun p _ => ?_))
  simp only [gS, zR, zI, lamR, lamI]
  ring

variable (wa wb w5 w6 w9 w10 : FVec Ideal S64x1024 .f32) (k : Fin 1024)

/-- The gradient of the real part of the input matrix. -/
theorem grad_br (dr di : ℝ) (hs : v0 (ix2 g 0) = (s : EReal)) (ha : wa (ix2 g k) = (a : EReal)) (hb : wb (ix2 g k) = (b : EReal))
  (hn : a * a + b * b ≠ 0) (h9 : w9 (ix2 g k) = (dr : EReal)) (h10 : w10 (ix2 g k) = (di : EReal)) :
    k0_pay27 (F := Ideal) (k0_pay12 (F := Ideal) wa) (k0_pay13 (F := Ideal) wb) (k0_pay14 (F := Ideal) v0 wa) (k0_pay15 (F := Ideal) v0 wa wb)
      (k0_pay16 (F := Ideal) v0 wb) w9 w10 (ix2 g k) = ((fr a b s * dr + fi a b s * di : ℝ) : EReal) := by
  pointwise [k0_pay2, k0_pay12, k0_pay13, k0_pay14, k0_pay15, k0_pay16, k0_pay17, k0_pay18, k0_pay19, k0_pay20, k0_pay21, k0_pay22, k0_pay23, k0_pay24, k0_pay26, k0_pay27]
  simp only [hs, ha, hb, h9, h10, ← EReal.coe_mul, ← EReal.coe_add, ← EReal.coe_sub, ← EReal.coe_neg, ← EReal.coe_one, ← EReal.coe_zero, Ideal.exp_coe, Ideal.cos_coe, Ideal.sin_coe, Ideal.div_coe hn]
  refine congrArg Real.toEReal ?_
  simp only [fr, fi, lr, li]
  first | done | ring1 | (have hq : a ^ 2 + b ^ 2 ≠ 0 := (by simpa [pow_two] using hn); field_simp; ring1)

/-- The gradient of its imaginary part. -/
theorem grad_bi (dr di : ℝ) (hs : v0 (ix2 g 0) = (s : EReal)) (ha : wa (ix2 g k) = (a : EReal)) (hb : wb (ix2 g k) = (b : EReal))
  (hn : a * a + b * b ≠ 0) (h9 : w9 (ix2 g k) = (dr : EReal)) (h10 : w10 (ix2 g k) = (di : EReal)) :
    k0_pay28 (F := Ideal) (k0_pay12 (F := Ideal) wa) (k0_pay13 (F := Ideal) wb) (k0_pay14 (F := Ideal) v0 wa) (k0_pay15 (F := Ideal) v0 wa wb)
      (k0_pay16 (F := Ideal) v0 wb) w9 w10 (ix2 g k) = ((fr a b s * di - fi a b s * dr : ℝ) : EReal) := by
  pointwise [k0_pay2, k0_pay12, k0_pay13, k0_pay14, k0_pay15, k0_pay16, k0_pay17, k0_pay18, k0_pay19, k0_pay20, k0_pay21, k0_pay22, k0_pay23, k0_pay24, k0_pay26, k0_pay28]
  simp only [hs, ha, hb, h9, h10, ← EReal.coe_mul, ← EReal.coe_add, ← EReal.coe_sub, ← EReal.coe_neg, ← EReal.coe_one, ← EReal.coe_zero, Ideal.exp_coe, Ideal.cos_coe, Ideal.sin_coe, Ideal.div_coe hn]
  refine congrArg Real.toEReal ?_
  simp only [fr, fi, lr, li]
  first | done | ring1 | (have hq : a ^ 2 + b ^ 2 ≠ 0 := (by simpa [pow_two] using hn); field_simp; ring1)

/-- The gradient of the input's factor: sums over the lanes of a state. -/
theorem facGR_at (br bi dr di : Fin 16 → ℝ) (h5 : ∀ h : Fin 16, w5 (ix2 g ⟨p.val * 16 + h.val, by omega⟩) = (br h : EReal))
  (h6 : ∀ h : Fin 16, w6 (ix2 g ⟨p.val * 16 + h.val, by omega⟩) = (bi h : EReal))
  (h9 : ∀ h : Fin 16, w9 (ix2 g ⟨p.val * 16 + h.val, by omega⟩) = (dr h : EReal))
  (h10 : ∀ h : Fin 16, w10 (ix2 g ⟨p.val * 16 + h.val, by omega⟩) = (di h : EReal)) :
    k0_pay32 (F := Ideal) (k0_pay30 (F := Ideal) w9 w10 w5 w6) (ix2 g p) = ((∑ h, (br h * dr h + bi h * di h) : ℝ) : EReal) := by
  pointwise [k0_pay32]
  simp only [fold_at, fold_sum]
  pointwise [k0_pay23, k0_pay24, k0_pay25, k0_pay29, k0_pay30]
  simp only [h5, h6, h9, h10, ← EReal.coe_mul, ← EReal.coe_add, ← EReal.coe_sub, ← EReal.coe_neg, ← EReal.coe_one, ← EReal.coe_zero, Ideal.exp_coe, Ideal.cos_coe, Ideal.sin_coe, coe_sum, zero_add]
  refine congrArg Real.toEReal ?_
  first | done | exact Finset.sum_congr rfl fun h _ => by ring

theorem facGI_at (br bi dr di : Fin 16 → ℝ) (h5 : ∀ h : Fin 16, w5 (ix2 g ⟨p.val * 16 + h.val, by omega⟩) = (br h : EReal))
  (h6 : ∀ h : Fin 16, w6 (ix2 g ⟨p.val * 16 + h.val, by omega⟩) = (bi h : EReal))
  (h9 : ∀ h : Fin 16, w9 (ix2 g ⟨p.val * 16 + h.val, by omega⟩) = (dr h : EReal))
  (h10 : ∀ h : Fin 16, w10 (ix2 g ⟨p.val * 16 + h.val, by omega⟩) = (di h : EReal)) :
    k0_pay33 (F := Ideal) (k0_pay23 (F := Ideal) w9) (k0_pay24 (F := Ideal) w10) (k0_pay25 (F := Ideal) w5) (k0_pay29 (F := Ideal) w6) (ix2 g p)
      = ((∑ h, (br h * di h - bi h * dr h) : ℝ) : EReal) := by
  pointwise [k0_pay33]
  simp only [fold_at, fold_sum]
  pointwise [k0_pay23, k0_pay24, k0_pay25, k0_pay29, k0_pay30]
  simp only [h5, h6, h9, h10, ← EReal.coe_mul, ← EReal.coe_add, ← EReal.coe_sub, ← EReal.coe_neg, ← EReal.coe_one, ← EReal.coe_zero, Ideal.exp_coe, Ideal.cos_coe, Ideal.sin_coe, coe_sum, zero_add]
  refine congrArg Real.toEReal ?_
  first | done | exact Finset.sum_congr rfl fun h _ => by ring

/-- A product of the factor's gradient with the inverse. -/
theorem lamG_at (hx : k0_pay32 (F := Ideal) w9 (ix2 g p) = (x : EReal))
  (hy : k0_pay33 (F := Ideal) w10 w5 w6 wa (ix2 g p) = (y : EReal))
  (h127 : k0_pay35 (F := Ideal) va vb (ix2 g p) = ((a / (a * a + b * b) : ℝ) : EReal))
  (h132 : k0_pay37 (F := Ideal) va vb (ix2 g p) = ((b / (a * a + b * b) : ℝ) : EReal)) :
    k0_pay38 (F := Ideal) va vb w10 w5 w6 wa w9 (ix2 g p) = (((x * a - y * b) / (a * a + b * b) : ℝ) : EReal) := by
  pointwise [k0_pay38]
  simp only [hx, hy, h127, h132, ← EReal.coe_mul, ← EReal.coe_add, ← EReal.coe_sub, ← EReal.coe_neg, ← EReal.coe_one, ← EReal.coe_zero, Ideal.exp_coe, Ideal.cos_coe, Ideal.sin_coe]
  refine congrArg Real.toEReal ?_
  ring

end

/-! The reference's stages. -/
section
open Cert.ParamBwdRefIdeal

variable (x0 x1 : FVec Ideal S64x64 .f32) (x2 : FVec Ideal S64 .f32) (x3 x4 : FVec Ideal S64x64x16 .f32) (x5 x6 : FVec Ideal S64x64 .f32)
  (x7 x8 : FVec Ideal S64x64x16 .f32) (g p : Fin 64) (a b s x y u v : ℝ)

theorem ref_v17 (h0 : x0 (ix2 g p) = (a : EReal)) (h1 : x1 (ix2 g p) = (b : EReal)) :
    Read.val_main_v17 (F := Ideal) x0 x1 (ix2 g p) = ((a * a + b * b : ℝ) : EReal) := by
  pointwise [Read.val_main_v17, Read.val_main_v15, Read.val_main_v16]
  simp only [h0, h1, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   first | done | ring1 | (have hq : a ^ 2 + b ^ 2 ≠ 0 := (by simpa [pow_two] using hn); field_simp; ring1))

theorem ref_v9 (h0 : x0 (ix2 g p) = (a : EReal)) (h1 : x1 (ix2 g p) = (b : EReal)) (h2 : x2 (ix1 g) = (s : EReal)) :
    Read.val_main_v9 (F := Ideal) x0 x1 x2 (ix2 g p) = ((lr a b s : ℝ) : EReal) := by
  pointwise [Read.val_main_v9, Read.val_main_v4, Read.val_main_v3, Read.val_main_v2, Read.val_main_v1, Read.val_main_v0, Read.val_main_v7, Read.val_main_v6, Read.val_main_v5]
  simp only [h0, h1, h2, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   simp only [lr]
   first | done | ring1 | (have hq : a ^ 2 + b ^ 2 ≠ 0 := (by simpa [pow_two] using hn); field_simp; ring1))

theorem ref_v14 (h0 : x0 (ix2 g p) = (a : EReal)) (h1 : x1 (ix2 g p) = (b : EReal)) (h2 : x2 (ix1 g) = (s : EReal)) :
    Read.val_main_v14 (F := Ideal) x0 x1 x2 (ix2 g p) = ((li a b s : ℝ) : EReal) := by
  pointwise [Read.val_main_v14, Read.val_main_v4, Read.val_main_v3, Read.val_main_v2, Read.val_main_v1, Read.val_main_v0, Read.val_main_v12, Read.val_main_v11, Read.val_main_v10]
  simp only [h0, h1, h2, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   simp only [li]
   first | done | ring1 | (have hq : a ^ 2 + b ^ 2 ≠ 0 := (by simpa [pow_two] using hn); field_simp; ring1))

theorem ref_v22 (h0 : x0 (ix2 g p) = (a : EReal)) (h1 : x1 (ix2 g p) = (b : EReal)) (hv9 : Read.val_main_v9 (F := Ideal) x0 x1 x2 (ix2 g p) = ((lr a b s : ℝ) : EReal)) (hv14 : Read.val_main_v14 (F := Ideal) x0 x1 x2 (ix2 g p) = ((li a b s : ℝ) : EReal)) :
    Read.val_main_v22 (F := Ideal) x0 x1 x2 (ix2 g p) = (((lr a b s - 1) * a + li a b s * b : ℝ) : EReal) := by
  pointwise [Read.val_main_v22, Read.val_main_v20, Read.val_main_v19, Read.val_main_v18, Read.val_main_cst, Read.val_main_v21]
  simp only [h0, h1, hv9, hv14, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   first | done | ring1 | (have hq : a ^ 2 + b ^ 2 ≠ 0 := (by simpa [pow_two] using hn); field_simp; ring1))

theorem ref_v32 (h0 : x0 (ix2 g p) = (a : EReal)) (h1 : x1 (ix2 g p) = (b : EReal)) (hv9 : Read.val_main_v9 (F := Ideal) x0 x1 x2 (ix2 g p) = ((lr a b s : ℝ) : EReal)) (hv14 : Read.val_main_v14 (F := Ideal) x0 x1 x2 (ix2 g p) = ((li a b s : ℝ) : EReal)) :
    Read.val_main_v32 (F := Ideal) x0 x1 x2 (ix2 g p) = ((li a b s * a - (lr a b s - 1) * b : ℝ) : EReal) := by
  pointwise [Read.val_main_v32, Read.val_main_v31, Read.val_main_v30, Read.val_main_v29, Read.val_main_cst_1, Read.val_main_v28]
  simp only [h0, h1, hv9, hv14, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   first | done | ring1 | (have hq : a ^ 2 + b ^ 2 ≠ 0 := (by simpa [pow_two] using hn); field_simp; ring1))

theorem ref_v23 (hn : a * a + b * b ≠ 0) (hv22 : Read.val_main_v22 (F := Ideal) x0 x1 x2 (ix2 g p) = (((lr a b s - 1) * a + li a b s * b : ℝ) : EReal)) (hv17 : Read.val_main_v17 (F := Ideal) x0 x1 (ix2 g p) = ((a * a + b * b : ℝ) : EReal)) :
    Read.val_main_v23 (F := Ideal) x0 x1 x2 (ix2 g p) = ((fr a b s : ℝ) : EReal) := by
  pointwise [Read.val_main_v23]
  simp only [hv22, hv17, ← EReal.coe_mul, ← EReal.coe_add, ← EReal.coe_sub, ← EReal.coe_neg, ← EReal.coe_one, ← EReal.coe_zero, Ideal.exp_coe, Ideal.cos_coe, Ideal.sin_coe, Ideal.div_coe hn] <;>
  (refine congrArg Real.toEReal ?_
   simp only [fr]
   first | done | ring1 | (have hq : a ^ 2 + b ^ 2 ≠ 0 := (by simpa [pow_two] using hn); field_simp; ring1))

theorem ref_v33 (hn : a * a + b * b ≠ 0) (hv32 : Read.val_main_v32 (F := Ideal) x0 x1 x2 (ix2 g p) = ((li a b s * a - (lr a b s - 1) * b : ℝ) : EReal)) (hv17 : Read.val_main_v17 (F := Ideal) x0 x1 (ix2 g p) = ((a * a + b * b : ℝ) : EReal)) :
    Read.val_main_v33 (F := Ideal) x0 x1 x2 (ix2 g p) = ((fi a b s : ℝ) : EReal) := by
  pointwise [Read.val_main_v33]
  simp only [hv32, hv17, ← EReal.coe_mul, ← EReal.coe_add, ← EReal.coe_sub, ← EReal.coe_neg, ← EReal.coe_one, ← EReal.coe_zero, Ideal.exp_coe, Ideal.cos_coe, Ideal.sin_coe, Ideal.div_coe hn] <;>
  (refine congrArg Real.toEReal ?_
   simp only [fi]
   first | done | ring1 | (have hq : a ^ 2 + b ^ 2 ≠ 0 := (by simpa [pow_two] using hn); field_simp; ring1))

theorem ref_v80 (hn : a * a + b * b ≠ 0) (hv76 : Read.val_main_v76 (F := Ideal) x3 x4 x7 x8 (ix2 g p) = ((y : ℝ) : EReal)) (hv17 : Read.val_main_v17 (F := Ideal) x0 x1 (ix2 g p) = ((a * a + b * b : ℝ) : EReal)) :
    Read.val_main_v80 (F := Ideal) x0 x1 x3 x4 x7 x8 (ix2 g p) = ((y / (a * a + b * b) : ℝ) : EReal) := by
  pointwise [Read.val_main_v80]
  simp only [hv76, hv17, ← EReal.coe_mul, ← EReal.coe_add, ← EReal.coe_sub, ← EReal.coe_neg, ← EReal.coe_one, ← EReal.coe_zero, Ideal.exp_coe, Ideal.cos_coe, Ideal.sin_coe, Ideal.div_coe hn] <;>
  (refine congrArg Real.toEReal ?_
   first | done | ring1 | (have hq : a ^ 2 + b ^ 2 ≠ 0 := (by simpa [pow_two] using hn); field_simp; ring1))

theorem ref_v93 (hn : a * a + b * b ≠ 0) (hv88 : Read.val_main_v88 (F := Ideal) x3 x4 x7 x8 (ix2 g p) = ((x : ℝ) : EReal)) (hv17 : Read.val_main_v17 (F := Ideal) x0 x1 (ix2 g p) = ((a * a + b * b : ℝ) : EReal)) :
    Read.val_main_v93 (F := Ideal) x0 x1 x3 x4 x7 x8 (ix2 g p) = ((x / (a * a + b * b) : ℝ) : EReal) := by
  pointwise [Read.val_main_v93]
  simp only [hv88, hv17, ← EReal.coe_mul, ← EReal.coe_add, ← EReal.coe_sub, ← EReal.coe_neg, ← EReal.coe_one, ← EReal.coe_zero, Ideal.exp_coe, Ideal.cos_coe, Ideal.sin_coe, Ideal.div_coe hn] <;>
  (refine congrArg Real.toEReal ?_
   first | done | ring1 | (have hq : a ^ 2 + b ^ 2 ≠ 0 := (by simpa [pow_two] using hn); field_simp; ring1))

theorem ref_v92 (hn : a * a + b * b ≠ 0) (hn2 : (a * a + b * b) * (a * a + b * b) ≠ 0) (hv76 : Read.val_main_v76 (F := Ideal) x3 x4 x7 x8 (ix2 g p) = ((y : ℝ) : EReal)) (hv88 : Read.val_main_v88 (F := Ideal) x3 x4 x7 x8 (ix2 g p) = ((x : ℝ) : EReal)) (hv17 : Read.val_main_v17 (F := Ideal) x0 x1 (ix2 g p) = ((a * a + b * b : ℝ) : EReal)) (hv22 : Read.val_main_v22 (F := Ideal) x0 x1 x2 (ix2 g p) = (((lr a b s - 1) * a + li a b s * b : ℝ) : EReal)) (hv32 : Read.val_main_v32 (F := Ideal) x0 x1 x2 (ix2 g p) = ((li a b s * a - (lr a b s - 1) * b : ℝ) : EReal)) :
    Read.val_main_v92 (F := Ideal) x0 x1 x2 x3 x4 x7 x8 (ix2 g p) = ((-(y * fi a b s + x * fr a b s) / (a * a + b * b) : ℝ) : EReal) := by
  pointwise [Read.val_main_v92, Read.val_main_v91, Read.val_main_v90, Read.val_main_v89, Read.val_main_v26, Read.val_main_v25, Read.val_main_cst_0, Read.val_main_v24, Read.val_main_v79, Read.val_main_v78, Read.val_main_v77, Read.val_main_v36, Read.val_main_v34, Read.val_main_v35, Read.val_main_cst_2]
  simp only [hv76, hv88, hv17, hv22, hv32, ← EReal.coe_mul, ← EReal.coe_add, ← EReal.coe_sub, ← EReal.coe_neg, ← EReal.coe_one, ← EReal.coe_zero, Ideal.exp_coe, Ideal.cos_coe, Ideal.sin_coe, Ideal.div_coe hn, Ideal.div_coe hn2] <;>
  (refine congrArg Real.toEReal ?_
   simp only [fr, fi]
   first | done | ring1 | (have hq : a ^ 2 + b ^ 2 ≠ 0 := (by simpa [pow_two] using hn); field_simp; ring1))

theorem ref_v101 (h0 : x0 (ix2 g p) = (a : EReal)) (h1 : x1 (ix2 g p) = (b : EReal)) (h5 : x5 (ix2 g p) = (u : EReal)) (hv80 : Read.val_main_v80 (F := Ideal) x0 x1 x3 x4 x7 x8 (ix2 g p) = ((y / (a * a + b * b) : ℝ) : EReal)) (hv93 : Read.val_main_v93 (F := Ideal) x0 x1 x3 x4 x7 x8 (ix2 g p) = ((x / (a * a + b * b) : ℝ) : EReal)) :
    Read.val_main_v101 (F := Ideal) x0 x1 x3 x4 x5 x7 x8 (ix2 g p) = ((lamR a b x y u : ℝ) : EReal) := by
  pointwise [Read.val_main_v101, Read.val_main_v100, Read.val_main_v84, Read.val_main_v83, Read.val_main_v81]
  simp only [h0, h1, h5, hv80, hv93, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   simp only [lamR]
   first | done | ring1 | (have hq : a ^ 2 + b ^ 2 ≠ 0 := (by simpa [pow_two] using hn); field_simp; ring1))

theorem ref_v97 (h0 : x0 (ix2 g p) = (a : EReal)) (h1 : x1 (ix2 g p) = (b : EReal)) (h6 : x6 (ix2 g p) = (v : EReal)) (hv80 : Read.val_main_v80 (F := Ideal) x0 x1 x3 x4 x7 x8 (ix2 g p) = ((y / (a * a + b * b) : ℝ) : EReal)) (hv93 : Read.val_main_v93 (F := Ideal) x0 x1 x3 x4 x7 x8 (ix2 g p) = ((x / (a * a + b * b) : ℝ) : EReal)) :
    Read.val_main_v97 (F := Ideal) x0 x1 x3 x4 x6 x7 x8 (ix2 g p) = ((lamI a b x y v : ℝ) : EReal) := by
  pointwise [Read.val_main_v97, Read.val_main_v87, Read.val_main_v86, Read.val_main_v96]
  simp only [h0, h1, h6, hv80, hv93, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   simp only [lamI]
   first | done | ring1 | (have hq : a ^ 2 + b ^ 2 ≠ 0 := (by simpa [pow_two] using hn); field_simp; ring1))

theorem ref_v112 (h0 : x0 (ix2 g p) = (a : EReal)) (h1 : x1 (ix2 g p) = (b : EReal)) (h2 : x2 (ix1 g) = (s : EReal)) (hv97 : Read.val_main_v97 (F := Ideal) x0 x1 x3 x4 x6 x7 x8 (ix2 g p) = ((lamI a b x y v : ℝ) : EReal)) :
    Read.val_main_v112 (F := Ideal) x0 x1 x2 x3 x4 x6 x7 x8 (ix2 g p) = ((lamI a b x y v * Real.exp (a * Real.exp s) * Real.cos (b * Real.exp s) : ℝ) : EReal) := by
  pointwise [Read.val_main_v112, Read.val_main_v110, Read.val_main_v4, Read.val_main_v3, Read.val_main_v2, Read.val_main_v1, Read.val_main_v0, Read.val_main_v13, Read.val_main_v11, Read.val_main_v10]
  simp only [h0, h1, h2, hv97, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   first | done | ring1 | (have hq : a ^ 2 + b ^ 2 ≠ 0 := (by simpa [pow_two] using hn); field_simp; ring1))

theorem ref_v123 (h0 : x0 (ix2 g p) = (a : EReal)) (h1 : x1 (ix2 g p) = (b : EReal)) (h2 : x2 (ix1 g) = (s : EReal)) (hv101 : Read.val_main_v101 (F := Ideal) x0 x1 x3 x4 x5 x7 x8 (ix2 g p) = ((lamR a b x y u : ℝ) : EReal)) :
    Read.val_main_v123 (F := Ideal) x0 x1 x2 x3 x4 x5 x7 x8 (ix2 g p) = ((-(lamR a b x y u * Real.exp (a * Real.exp s)) * Real.sin (b * Real.exp s) : ℝ) : EReal) := by
  pointwise [Read.val_main_v123, Read.val_main_v8, Read.val_main_v6, Read.val_main_v5, Read.val_main_v1, Read.val_main_v0, Read.val_main_v122, Read.val_main_v119, Read.val_main_v4, Read.val_main_v3, Read.val_main_v2]
  simp only [h0, h1, h2, hv101, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   first | done | ring1 | (have hq : a ^ 2 + b ^ 2 ≠ 0 := (by simpa [pow_two] using hn); field_simp; ring1))

theorem ref_v131 (h0 : x0 (ix2 g p) = (a : EReal)) (h1 : x1 (ix2 g p) = (b : EReal)) (h2 : x2 (ix1 g) = (s : EReal)) (hv97 : Read.val_main_v97 (F := Ideal) x0 x1 x3 x4 x6 x7 x8 (ix2 g p) = ((lamI a b x y v : ℝ) : EReal)) (hv101 : Read.val_main_v101 (F := Ideal) x0 x1 x3 x4 x5 x7 x8 (ix2 g p) = ((lamR a b x y u : ℝ) : EReal)) :
    Read.val_main_v131 (F := Ideal) x0 x1 x2 x3 x4 x5 x6 x7 x8 (ix2 g p) = (((lamI a b x y v * Real.sin (b * Real.exp s) + lamR a b x y u * Real.cos (b * Real.exp s)) * Real.exp (a * Real.exp s) : ℝ) : EReal) := by
  pointwise [Read.val_main_v131, Read.val_main_v4, Read.val_main_v3, Read.val_main_v2, Read.val_main_v1, Read.val_main_v0, Read.val_main_v121, Read.val_main_v120, Read.val_main_v7, Read.val_main_v6, Read.val_main_v5, Read.val_main_v111, Read.val_main_v12, Read.val_main_v11, Read.val_main_v10]
  simp only [h0, h1, h2, hv97, hv101, ← EReal.coe_mul, ← EReal.coe_add, ← EReal.coe_sub, ← EReal.coe_neg, ← EReal.coe_one, ← EReal.coe_zero, Ideal.exp_coe, Ideal.cos_coe, Ideal.sin_coe] <;>
  (refine congrArg Real.toEReal ?_
   first | done | ring1 | (have hq : a ^ 2 + b ^ 2 ≠ 0 := (by simpa [pow_two] using hn); field_simp; ring1))

theorem ref_v138 (hn : a * a + b * b ≠ 0) (h0 : x0 (ix2 g p) = (a : EReal)) (h1 : x1 (ix2 g p) = (b : EReal)) (h2 : x2 (ix1 g) = (s : EReal)) (hv131 : Read.val_main_v131 (F := Ideal) x0 x1 x2 x3 x4 x5 x6 x7 x8 (ix2 g p) = (((lamI a b x y v * Real.sin (b * Real.exp s) + lamR a b x y u * Real.cos (b * Real.exp s)) * Real.exp (a * Real.exp s) : ℝ) : EReal)) (hv9 : Read.val_main_v9 (F := Ideal) x0 x1 x2 (ix2 g p) = ((lr a b s : ℝ) : EReal)) (hv14 : Read.val_main_v14 (F := Ideal) x0 x1 x2 (ix2 g p) = ((li a b s : ℝ) : EReal)) (hv80 : Read.val_main_v80 (F := Ideal) x0 x1 x3 x4 x7 x8 (ix2 g p) = ((y / (a * a + b * b) : ℝ) : EReal)) (hv93 : Read.val_main_v93 (F := Ideal) x0 x1 x3 x4 x7 x8 (ix2 g p) = ((x / (a * a + b * b) : ℝ) : EReal)) (hv92 : Read.val_main_v92 (F := Ideal) x0 x1 x2 x3 x4 x7 x8 (ix2 g p) = ((-(y * fi a b s + x * fr a b s) / (a * a + b * b) : ℝ) : EReal)) :
    Read.val_main_v138 (F := Ideal) x0 x1 x2 x3 x4 x5 x6 x7 x8 (ix2 g p) = ((gA a b s x y u v : ℝ) : EReal) := by
  pointwise [Read.val_main_v138, Read.val_main_v137, Read.val_main_v136, Read.val_main_v1, Read.val_main_v0, Read.val_main_v109, Read.val_main_v107, Read.val_main_v99, Read.val_main_v85, Read.val_main_v98, Read.val_main_v19, Read.val_main_v18, Read.val_main_cst, Read.val_main_v106, Read.val_main_v108]
  simp only [h0, h1, h2, hv131, hv9, hv14, hv80, hv93, hv92, ← EReal.coe_mul, ← EReal.coe_add, ← EReal.coe_sub, ← EReal.coe_neg, ← EReal.coe_one, ← EReal.coe_zero, Ideal.exp_coe, Ideal.cos_coe, Ideal.sin_coe, Ideal.div_coe hn] <;>
  (refine congrArg Real.toEReal ?_
   simp only [gA, zR, qR, qI, fr, fi, lr, li]
   first | done | ring1 | (have hq : a ^ 2 + b ^ 2 ≠ 0 := (by simpa [pow_two] using hn); field_simp; ring1))

theorem ref_v130 (hn : a * a + b * b ≠ 0) (h0 : x0 (ix2 g p) = (a : EReal)) (h1 : x1 (ix2 g p) = (b : EReal)) (h2 : x2 (ix1 g) = (s : EReal)) (hv112 : Read.val_main_v112 (F := Ideal) x0 x1 x2 x3 x4 x6 x7 x8 (ix2 g p) = ((lamI a b x y v * Real.exp (a * Real.exp s) * Real.cos (b * Real.exp s) : ℝ) : EReal)) (hv123 : Read.val_main_v123 (F := Ideal) x0 x1 x2 x3 x4 x5 x7 x8 (ix2 g p) = ((-(lamR a b x y u * Real.exp (a * Real.exp s)) * Real.sin (b * Real.exp s) : ℝ) : EReal)) (hv9 : Read.val_main_v9 (F := Ideal) x0 x1 x2 (ix2 g p) = ((lr a b s : ℝ) : EReal)) (hv14 : Read.val_main_v14 (F := Ideal) x0 x1 x2 (ix2 g p) = ((li a b s : ℝ) : EReal)) (hv80 : Read.val_main_v80 (F := Ideal) x0 x1 x3 x4 x7 x8 (ix2 g p) = ((y / (a * a + b * b) : ℝ) : EReal)) (hv93 : Read.val_main_v93 (F := Ideal) x0 x1 x3 x4 x7 x8 (ix2 g p) = ((x / (a * a + b * b) : ℝ) : EReal)) (hv92 : Read.val_main_v92 (F := Ideal) x0 x1 x2 x3 x4 x7 x8 (ix2 g p) = ((-(y * fi a b s + x * fr a b s) / (a * a + b * b) : ℝ) : EReal)) :
    Read.val_main_v130 (F := Ideal) x0 x1 x2 x3 x4 x5 x6 x7 x8 (ix2 g p) = ((gB a b s x y u v : ℝ) : EReal) := by
  pointwise [Read.val_main_v130, Read.val_main_v118, Read.val_main_v105, Read.val_main_v104, Read.val_main_v103, Read.val_main_v95, Read.val_main_v94, Read.val_main_v82, Read.val_main_v30, Read.val_main_v29, Read.val_main_cst_1, Read.val_main_v81, Read.val_main_v102, Read.val_main_v117, Read.val_main_v116, Read.val_main_v1, Read.val_main_v0, Read.val_main_v129, Read.val_main_v128]
  simp only [h0, h1, h2, hv112, hv123, hv9, hv14, hv80, hv93, hv92, ← EReal.coe_mul, ← EReal.coe_add, ← EReal.coe_sub, ← EReal.coe_neg, ← EReal.coe_one, ← EReal.coe_zero, Ideal.exp_coe, Ideal.cos_coe, Ideal.sin_coe, Ideal.div_coe hn] <;>
  (refine congrArg Real.toEReal ?_
   simp only [gB, zI, qR, qI, fr, fi, lr, li]
   first | done | ring1 | (have hq : a ^ 2 + b ^ 2 ≠ 0 := (by simpa [pow_two] using hn); field_simp; ring1))

/-- The gradient of the input's factor: sums over the lanes. -/
theorem ref_v88 (br bi dr di : Fin 16 → ℝ) (h3 : ∀ h, x3 (ix3 g p h) = (br h : EReal)) (h4 : ∀ h, x4 (ix3 g p h) = (bi h : EReal))
  (h7 : ∀ h, x7 (ix3 g p h) = (dr h : EReal)) (h8 : ∀ h, x8 (ix3 g p h) = (di h : EReal)) :
    Read.val_main_v88 (F := Ideal) x3 x4 x7 x8 (ix2 g p) = ((∑ h, (br h * dr h + bi h * di h) : ℝ) : EReal) := by
  pointwise [Read.val_main_v88, Read.val_main_cst_8, Read.val_main_v75, Read.val_main_v59, Read.val_main_v58, Read.val_main_cst_4, Read.val_main_v57, Read.val_main_v48, Read.val_main_v74, Read.val_main_v73, Read.val_main_cst_6, Read.val_main_v72, Read.val_main_v60]
  simp only [h3, h4, h7, h8, ← EReal.coe_mul, ← EReal.coe_add, ← EReal.coe_sub, ← EReal.coe_neg, ← EReal.coe_one, ← EReal.coe_zero, Ideal.exp_coe, Ideal.cos_coe, Ideal.sin_coe, coe_sum, zero_add, Finset.sum_add_distrib, Finset.univ_unique, Finset.sum_singleton]
  refine congrArg Real.toEReal ?_
  rw [add_comm]
  exact congrArg₂ (· + ·) (Finset.sum_congr rfl fun h _ => by ring) (Finset.sum_congr rfl fun h _ => by ring)

theorem ref_v76 (br bi dr di : Fin 16 → ℝ) (h3 : ∀ h, x3 (ix3 g p h) = (br h : EReal)) (h4 : ∀ h, x4 (ix3 g p h) = (bi h : EReal))
  (h7 : ∀ h, x7 (ix3 g p h) = (dr h : EReal)) (h8 : ∀ h, x8 (ix3 g p h) = (di h : EReal)) :
    Read.val_main_v76 (F := Ideal) x3 x4 x7 x8 (ix2 g p) = ((∑ h, (br h * di h - bi h * dr h) : ℝ) : EReal) := by
  pointwise [Read.val_main_v76, Read.val_main_cst_7, Read.val_main_v68, Read.val_main_v67, Read.val_main_v66, Read.val_main_v65, Read.val_main_v61, Read.val_main_cst_5, Read.val_main_v54, Read.val_main_v53, Read.val_main_cst_3, Read.val_main_v52, Read.val_main_v49]
  simp only [h3, h4, h7, h8, ← EReal.coe_mul, ← EReal.coe_add, ← EReal.coe_sub, ← EReal.coe_neg, ← EReal.coe_one, ← EReal.coe_zero, Ideal.exp_coe, Ideal.cos_coe, Ideal.sin_coe, coe_sum, zero_add, Finset.sum_sub_distrib, Finset.univ_unique, Finset.sum_singleton]
  refine congrArg Real.toEReal ?_
  rw [sub_eq_add_neg, ← Finset.sum_neg_distrib]
  exact congrArg₂ (· + ·) (Finset.sum_congr rfl fun h _ => by ring) (Finset.sum_congr rfl fun h _ => by ring)

/-- The step's gradient. -/
theorem ref_v141 (A B U W X Y : Fin 64 → ℝ) (h0 : ∀ p, x0 (ix2 g p) = ((A p : ℝ) : EReal)) (h1 : ∀ p, x1 (ix2 g p) = ((B p : ℝ) : EReal))
  (h2 : x2 (ix1 g) = (s : EReal))
  (h112 : ∀ p, Read.val_main_v112 (F := Ideal) x0 x1 x2 x3 x4 x6 x7 x8 (ix2 g p) = ((lamI (A p) (B p) (X p) (Y p) (W p) * Real.exp (A p * Real.exp s) * Real.cos (B p * Real.exp s) : ℝ) : EReal))
  (h123 : ∀ p, Read.val_main_v123 (F := Ideal) x0 x1 x2 x3 x4 x5 x7 x8 (ix2 g p) = ((-(lamR (A p) (B p) (X p) (Y p) (U p) * Real.exp (A p * Real.exp s)) * Real.sin (B p * Real.exp s) : ℝ) : EReal))
  (h131 : ∀ p, Read.val_main_v131 (F := Ideal) x0 x1 x2 x3 x4 x5 x6 x7 x8 (ix2 g p) = (((lamI (A p) (B p) (X p) (Y p) (W p) * Real.sin (B p * Real.exp s)
      + lamR (A p) (B p) (X p) (Y p) (U p) * Real.cos (B p * Real.exp s)) * Real.exp (A p * Real.exp s) : ℝ) : EReal)) :
    Read.val_main_v141 (F := Ideal) x0 x1 x2 x3 x4 x5 x6 x7 x8 (ix2 g 0) = (((∑ p, gS (A p) (B p) s (X p) (Y p) (U p) (W p)) * Real.exp s : ℝ) : EReal) := by
  pointwise [Read.val_main_v141, Read.val_main_v140, Read.val_main_v0, Read.val_main_v139, Read.val_main_cst_12, Read.val_main_v135, Read.val_main_v134, Read.val_main_v133, Read.val_main_cst_11, Read.val_main_v132, Read.val_main_v127, Read.val_main_v115, Read.val_main_v114, Read.val_main_v113, Read.val_main_cst_9, Read.val_main_v126, Read.val_main_v125, Read.val_main_v124, Read.val_main_cst_10]
  simp only [h0, h1, h2, h112, h123, h131, ← EReal.coe_mul, ← EReal.coe_add, ← EReal.coe_sub, ← EReal.coe_neg, ← EReal.coe_one, ← EReal.coe_zero, Ideal.exp_coe, Ideal.cos_coe, Ideal.sin_coe, coe_sum, zero_add, Finset.univ_unique, Finset.sum_singleton]
  refine congrArg Real.toEReal (congrArg (· * Real.exp s) ?_)
  rw [← Finset.sum_add_distrib, ← Finset.sum_add_distrib]
  refine Finset.sum_congr rfl fun p _ => ?_
  simp only [gS, zR, zI, lr, li]
  ring

/-- The gradient of the input matrix. -/
theorem ref_v142 (k : Fin 1024) (hp : p.val = k.val / 16) (dr di : ℝ) (h23 : Read.val_main_v23 (F := Ideal) x0 x1 x2 (ix2 g p) = ((fr a b s : ℝ) : EReal)) (h33 : Read.val_main_v33 (F := Ideal) x0 x1 x2 (ix2 g p) = ((fi a b s : ℝ) : EReal))
  (h7 : x7 (ix3 g p ⟨k.val % 16, by omega⟩) = (dr : EReal)) (h8 : x8 (ix3 g p ⟨k.val % 16, by omega⟩) = (di : EReal)) :
    Read.val_main_v142 (F := Ideal) x0 x1 x2 x7 x8 (ix2 g k) = ((fr a b s * dr + fi a b s * di : ℝ) : EReal) := by
  obtain rfl : p = ⟨k.val / 16, Nat.div_lt_of_lt_mul k.isLt⟩ := Fin.ext hp
  pointwise [Read.val_main_v142, Read.val_main_v71, Read.val_main_v70, Read.val_main_v69, Read.val_main_v27, Read.val_main_v60, Read.val_main_v51, Read.val_main_v50, Read.val_main_v37, Read.val_main_v49]
  simp only [h23, h33, h7, h8, ← EReal.coe_mul, ← EReal.coe_add, ← EReal.coe_sub, ← EReal.coe_neg, ← EReal.coe_one, ← EReal.coe_zero, Ideal.exp_coe, Ideal.cos_coe, Ideal.sin_coe]
  refine congrArg Real.toEReal ?_
  ring

theorem ref_v143 (k : Fin 1024) (hp : p.val = k.val / 16) (dr di : ℝ) (h23 : Read.val_main_v23 (F := Ideal) x0 x1 x2 (ix2 g p) = ((fr a b s : ℝ) : EReal)) (h33 : Read.val_main_v33 (F := Ideal) x0 x1 x2 (ix2 g p) = ((fi a b s : ℝ) : EReal))
  (h7 : x7 (ix3 g p ⟨k.val % 16, by omega⟩) = (dr : EReal)) (h8 : x8 (ix3 g p ⟨k.val % 16, by omega⟩) = (di : EReal)) :
    Read.val_main_v143 (F := Ideal) x0 x1 x2 x7 x8 (ix2 g k) = ((fr a b s * di - fi a b s * dr : ℝ) : EReal) := by
  obtain rfl : p = ⟨k.val / 16, Nat.div_lt_of_lt_mul k.isLt⟩ := Fin.ext hp
  pointwise [Read.val_main_v143, Read.val_main_v64, Read.val_main_v63, Read.val_main_v61, Read.val_main_v62, Read.val_main_v37, Read.val_main_v56, Read.val_main_v48, Read.val_main_v55, Read.val_main_v27]
  simp only [h23, h33, h7, h8, ← EReal.coe_mul, ← EReal.coe_add, ← EReal.coe_sub, ← EReal.coe_neg, ← EReal.coe_one, ← EReal.coe_zero, Ideal.exp_coe, Ideal.cos_coe, Ideal.sin_coe]
  refine congrArg Real.toEReal ?_
  ring

end

section
open Cert.ParamBwdIdeal Cert.ParamBwdIdeal.Gen

/-- One group of a block's operands, as real numbers. -/
structure Row (x0 x1 : FVec Ideal S64x64 .f32) (x2 : FVec Ideal S64x1 .f32) (x5 x6 : FVec Ideal S64x1024 .f32) (x7 x8 : FVec Ideal S64x64 .f32)
    (x9 x10 : FVec Ideal S64x1024 .f32) (g : Fin 64) (A B : Fin 64 → ℝ) (s : ℝ) (P Q D E : Fin 64 → Fin 16 → ℝ) (U W : Fin 64 → ℝ) : Prop where
  hn : ∀ p, A p * A p + B p * B p ≠ 0
  h0 : ∀ p, x0 (ix2 g p) = ((A p : ℝ) : EReal)
  h1 : ∀ p, x1 (ix2 g p) = ((B p : ℝ) : EReal)
  h2 : x2 (ix2 g 0) = (s : EReal)
  h5 : ∀ p (h : Fin 16), x5 (ix2 g ⟨p.val * 16 + h.val, by omega⟩) = ((P p h : ℝ) : EReal)
  h6 : ∀ p (h : Fin 16), x6 (ix2 g ⟨p.val * 16 + h.val, by omega⟩) = ((Q p h : ℝ) : EReal)
  h7 : ∀ p, x7 (ix2 g p) = ((U p : ℝ) : EReal)
  h8 : ∀ p, x8 (ix2 g p) = ((W p : ℝ) : EReal)
  h9 : ∀ p (h : Fin 16), x9 (ix2 g ⟨p.val * 16 + h.val, by omega⟩) = ((D p h : ℝ) : EReal)
  h10 : ∀ p (h : Fin 16), x10 (ix2 g ⟨p.val * 16 + h.val, by omega⟩) = ((E p h : ℝ) : EReal)

/-- The gradient of the input's factor, of one state. -/
def facR (P Q D E : Fin 64 → Fin 16 → ℝ) (p : Fin 64) : ℝ := ∑ h, (P p h * D p h + Q p h * E p h)
def facI (P Q D E : Fin 64 → Fin 16 → ℝ) (p : Fin 64) : ℝ := ∑ h, (P p h * E p h - Q p h * D p h)

section
variable {x0 x1 : FVec Ideal S64x64 .f32} {x2 : FVec Ideal S64x1 .f32} {x5 x6 : FVec Ideal S64x1024 .f32} {x7 x8 : FVec Ideal S64x64 .f32}
    {x9 x10 : FVec Ideal S64x1024 .f32} {g : Fin 64} {A B : Fin 64 → ℝ} {s : ℝ} {P Q D E : Fin 64 → Fin 16 → ℝ} {U W : Fin 64 → ℝ}
  (H : Row x0 x1 x2 x5 x6 x7 x8 x9 x10 g A B s P Q D E U W) (p : Fin 64)
include H

theorem Row.x : k0_pay32 (F := Ideal) (k0_pay30 (F := Ideal) x9 x10 x5 x6) (ix2 g p) = ((facR P Q D E p : ℝ) : EReal) :=
  facGR_at (h5 := H.h5 p) (h6 := H.h6 p) (h9 := H.h9 p) (h10 := H.h10 p)
theorem Row.y : k0_pay33 (F := Ideal) (k0_pay23 (F := Ideal) x9) (k0_pay24 (F := Ideal) x10) (k0_pay25 (F := Ideal) x5) (k0_pay29 (F := Ideal) x6) (ix2 g p)
    = ((facI P Q D E p : ℝ) : EReal) :=
  facGI_at (h5 := H.h5 p) (h6 := H.h6 p) (h9 := H.h9 p) (h10 := H.h10 p)

/-- The kernel's gradient of the real part of the eigenvalue, of its imaginary part, and of the step's logarithm. -/
theorem Row.a : k0_pay46 (F := Ideal) (k0_pay2 (F := Ideal) x2) (k0_pay4 (F := Ideal) x2 x0 x1) (k0_pay5 (F := Ideal) x2 x0 x1) (k0_pay10 (F := Ideal) x2 x0 x1)
      (k0_pay11 (F := Ideal) x2 x0 x1) (k0_pay32 (F := Ideal) (k0_pay30 (F := Ideal) x9 x10 x5 x6))
      (k0_pay33 (F := Ideal) (k0_pay23 (F := Ideal) x9) (k0_pay24 (F := Ideal) x10) (k0_pay25 (F := Ideal) x5) (k0_pay29 (F := Ideal) x6))
      (k0_pay35 (F := Ideal) x0 x1) (k0_pay36 (F := Ideal) x0 x1) (k0_pay37 (F := Ideal) x0 x1)
      (k0_pay38 (F := Ideal) x0 x1 (k0_pay23 (F := Ideal) x9) (k0_pay24 (F := Ideal) x10) (k0_pay25 (F := Ideal) x5) (k0_pay29 (F := Ideal) x6) (k0_pay30 (F := Ideal) x9 x10 x5 x6))
      x7 x8 (ix2 g p)
    = ((gA (A p) (B p) s (facR P Q D E p) (facI P Q D E p) (U p) (W p) : ℝ) : EReal) :=
  grad_a (h2 := step_at (hs := H.h2)) (h11 := lamR_at (hs := H.h2) (ha := H.h0 p) (hb := H.h1 p)) (h15 := lamI_at (hs := H.h2) (ha := H.h0 p) (hb := H.h1 p))
    (h29 := facR_at (hs := H.h2) (ha := H.h0 p) (hb := H.h1 p) (hn := H.hn p)) (h32 := facI_at (hs := H.h2) (ha := H.h0 p) (hb := H.h1 p) (hn := H.hn p))
    (hx := H.x p) (hy := H.y p) (h127 := invR_at (ha := H.h0 p) (hb := H.h1 p) (hn := H.hn p)) (h130 := invI_at (ha := H.h0 p) (hb := H.h1 p) (hn := H.hn p))
    (h132 := invN_at (ha := H.h0 p) (hb := H.h1 p) (hn := H.hn p))
    (h135 := lamG_at (hx := H.x p) (hy := H.y p) (h127 := invR_at (ha := H.h0 p) (hb := H.h1 p) (hn := H.hn p)) (h132 := invN_at (ha := H.h0 p) (hb := H.h1 p) (hn := H.hn p)))
    (hu := H.h7 p) (hv := H.h8 p)

theorem Row.b : k0_pay47 (F := Ideal) (k0_pay2 (F := Ideal) x2) (k0_pay4 (F := Ideal) x2 x0 x1) (k0_pay5 (F := Ideal) x2 x0 x1) (k0_pay10 (F := Ideal) x2 x0 x1)
      (k0_pay11 (F := Ideal) x2 x0 x1) (k0_pay32 (F := Ideal) (k0_pay30 (F := Ideal) x9 x10 x5 x6))
      (k0_pay33 (F := Ideal) (k0_pay23 (F := Ideal) x9) (k0_pay24 (F := Ideal) x10) (k0_pay25 (F := Ideal) x5) (k0_pay29 (F := Ideal) x6))
      (k0_pay35 (F := Ideal) x0 x1) (k0_pay36 (F := Ideal) x0 x1) (k0_pay37 (F := Ideal) x0 x1)
      (k0_pay38 (F := Ideal) x0 x1 (k0_pay23 (F := Ideal) x9) (k0_pay24 (F := Ideal) x10) (k0_pay25 (F := Ideal) x5) (k0_pay29 (F := Ideal) x6) (k0_pay30 (F := Ideal) x9 x10 x5 x6))
      x7 x8 (ix2 g p)
    = ((gB (A p) (B p) s (facR P Q D E p) (facI P Q D E p) (U p) (W p) : ℝ) : EReal) :=
  grad_b (h2 := step_at (hs := H.h2)) (h11 := lamR_at (hs := H.h2) (ha := H.h0 p) (hb := H.h1 p)) (h15 := lamI_at (hs := H.h2) (ha := H.h0 p) (hb := H.h1 p))
    (h29 := facR_at (hs := H.h2) (ha := H.h0 p) (hb := H.h1 p) (hn := H.hn p)) (h32 := facI_at (hs := H.h2) (ha := H.h0 p) (hb := H.h1 p) (hn := H.hn p))
    (hx := H.x p) (hy := H.y p) (h127 := invR_at (ha := H.h0 p) (hb := H.h1 p) (hn := H.hn p)) (h130 := invI_at (ha := H.h0 p) (hb := H.h1 p) (hn := H.hn p))
    (h132 := invN_at (ha := H.h0 p) (hb := H.h1 p) (hn := H.hn p))
    (h135 := lamG_at (hx := H.x p) (hy := H.y p) (h127 := invR_at (ha := H.h0 p) (hb := H.h1 p) (hn := H.hn p)) (h132 := invN_at (ha := H.h0 p) (hb := H.h1 p) (hn := H.hn p)))
    (hu := H.h7 p) (hv := H.h8 p)

theorem Row.l : k0_pay1 (F := Ideal) (k0_pay2 (F := Ideal) x2) (k0_pay48 (F := Ideal) x0 x1 (k0_pay4 (F := Ideal) x2 x0 x1) (k0_pay5 (F := Ideal) x2 x0 x1)
      (k0_pay32 (F := Ideal) (k0_pay30 (F := Ideal) x9 x10 x5 x6))
      (k0_pay33 (F := Ideal) (k0_pay23 (F := Ideal) x9) (k0_pay24 (F := Ideal) x10) (k0_pay25 (F := Ideal) x5) (k0_pay29 (F := Ideal) x6))
      (k0_pay35 (F := Ideal) x0 x1) (k0_pay37 (F := Ideal) x0 x1)
      (k0_pay38 (F := Ideal) x0 x1 (k0_pay23 (F := Ideal) x9) (k0_pay24 (F := Ideal) x10) (k0_pay25 (F := Ideal) x5) (k0_pay29 (F := Ideal) x6) (k0_pay30 (F := Ideal) x9 x10 x5 x6))
      x7 x8) (ix2 g 0)
    = (((∑ p, gS (A p) (B p) s (facR P Q D E p) (facI P Q D E p) (U p) (W p)) * Real.exp s : ℝ) : EReal) :=
  grad_s (ha := H.h0) (hb := H.h1) (h2 := step_at (hs := H.h2)) (h11 := fun p => lamR_at (hs := H.h2) (ha := H.h0 p) (hb := H.h1 p))
    (h15 := fun p => lamI_at (hs := H.h2) (ha := H.h0 p) (hb := H.h1 p)) (hx := H.x) (hy := H.y)
    (h127 := fun p => invR_at (ha := H.h0 p) (hb := H.h1 p) (hn := H.hn p)) (h132 := fun p => invN_at (ha := H.h0 p) (hb := H.h1 p) (hn := H.hn p))
    (h135 := fun p => lamG_at (hx := H.x p) (hy := H.y p) (h127 := invR_at (ha := H.h0 p) (hb := H.h1 p) (hn := H.hn p)) (h132 := invN_at (ha := H.h0 p) (hb := H.h1 p) (hn := H.hn p)))
    (hu := H.h7) (hv := H.h8)
end

end

/-! The reference, of the same real numbers. -/
section
open Cert.ParamBwdRefIdeal

structure RefRow (x0 x1 : FVec Ideal S64x64 .f32) (x2 : FVec Ideal S64 .f32) (x3 x4 : FVec Ideal S64x64x16 .f32) (x5 x6 : FVec Ideal S64x64 .f32)
    (x7 x8 : FVec Ideal S64x64x16 .f32) (g : Fin 64) (A B : Fin 64 → ℝ) (s : ℝ) (P Q D E : Fin 64 → Fin 16 → ℝ) (U W : Fin 64 → ℝ) : Prop where
  hn : ∀ p, A p * A p + B p * B p ≠ 0
  h0 : ∀ p, x0 (ix2 g p) = ((A p : ℝ) : EReal)
  h1 : ∀ p, x1 (ix2 g p) = ((B p : ℝ) : EReal)
  h2 : x2 (ix1 g) = (s : EReal)
  h3 : ∀ p h, x3 (ix3 g p h) = ((P p h : ℝ) : EReal)
  h4 : ∀ p h, x4 (ix3 g p h) = ((Q p h : ℝ) : EReal)
  h5 : ∀ p, x5 (ix2 g p) = ((U p : ℝ) : EReal)
  h6 : ∀ p, x6 (ix2 g p) = ((W p : ℝ) : EReal)
  h7 : ∀ p h, x7 (ix3 g p h) = ((D p h : ℝ) : EReal)
  h8 : ∀ p h, x8 (ix3 g p h) = ((E p h : ℝ) : EReal)

variable {x0 x1 : FVec Ideal S64x64 .f32} {x2 : FVec Ideal S64 .f32} {x3 x4 : FVec Ideal S64x64x16 .f32} {x5 x6 : FVec Ideal S64x64 .f32}
    {x7 x8 : FVec Ideal S64x64x16 .f32} {g : Fin 64} {A B : Fin 64 → ℝ} {s : ℝ} {P Q D E : Fin 64 → Fin 16 → ℝ} {U W : Fin 64 → ℝ}
  (H : RefRow x0 x1 x2 x3 x4 x5 x6 x7 x8 g A B s P Q D E U W) (p : Fin 64)
include H

theorem RefRow.r88 : Read.val_main_v88 (F := Ideal) x3 x4 x7 x8 (ix2 g p) = (((facR P Q D E p) : ℝ) : EReal) :=
  ref_v88 (h3 := H.h3 p) (h4 := H.h4 p) (h7 := H.h7 p) (h8 := H.h8 p)
theorem RefRow.r76 : Read.val_main_v76 (F := Ideal) x3 x4 x7 x8 (ix2 g p) = (((facI P Q D E p) : ℝ) : EReal) :=
  ref_v76 (h3 := H.h3 p) (h4 := H.h4 p) (h7 := H.h7 p) (h8 := H.h8 p)
theorem RefRow.r17 : Read.val_main_v17 (F := Ideal) x0 x1 (ix2 g p) = (((A p) * (A p) + (B p) * (B p) : ℝ) : EReal) :=
  ref_v17 (h0 := H.h0 p) (h1 := H.h1 p)
theorem RefRow.r9 : Read.val_main_v9 (F := Ideal) x0 x1 x2 (ix2 g p) = ((lr (A p) (B p) s : ℝ) : EReal) :=
  ref_v9 (h0 := H.h0 p) (h1 := H.h1 p) (h2 := H.h2)
theorem RefRow.r14 : Read.val_main_v14 (F := Ideal) x0 x1 x2 (ix2 g p) = ((li (A p) (B p) s : ℝ) : EReal) :=
  ref_v14 (h0 := H.h0 p) (h1 := H.h1 p) (h2 := H.h2)
theorem RefRow.r22 : Read.val_main_v22 (F := Ideal) x0 x1 x2 (ix2 g p) = (((lr (A p) (B p) s - 1) * (A p) + li (A p) (B p) s * (B p) : ℝ) : EReal) :=
  ref_v22 (h0 := H.h0 p) (h1 := H.h1 p) (hv9 := H.r9 p) (hv14 := H.r14 p)
theorem RefRow.r32 : Read.val_main_v32 (F := Ideal) x0 x1 x2 (ix2 g p) = ((li (A p) (B p) s * (A p) - (lr (A p) (B p) s - 1) * (B p) : ℝ) : EReal) :=
  ref_v32 (h0 := H.h0 p) (h1 := H.h1 p) (hv9 := H.r9 p) (hv14 := H.r14 p)
theorem RefRow.r23 : Read.val_main_v23 (F := Ideal) x0 x1 x2 (ix2 g p) = ((fr (A p) (B p) s : ℝ) : EReal) :=
  ref_v23 (hv22 := H.r22 p) (hv17 := H.r17 p) (hn := H.hn p)
theorem RefRow.r33 : Read.val_main_v33 (F := Ideal) x0 x1 x2 (ix2 g p) = ((fi (A p) (B p) s : ℝ) : EReal) :=
  ref_v33 (hv32 := H.r32 p) (hv17 := H.r17 p) (hn := H.hn p)
theorem RefRow.r80 : Read.val_main_v80 (F := Ideal) x0 x1 x3 x4 x7 x8 (ix2 g p) = (((facI P Q D E p) / ((A p) * (A p) + (B p) * (B p)) : ℝ) : EReal) :=
  ref_v80 (hv76 := H.r76 p) (hv17 := H.r17 p) (hn := H.hn p)
theorem RefRow.r93 : Read.val_main_v93 (F := Ideal) x0 x1 x3 x4 x7 x8 (ix2 g p) = (((facR P Q D E p) / ((A p) * (A p) + (B p) * (B p)) : ℝ) : EReal) :=
  ref_v93 (hv88 := H.r88 p) (hv17 := H.r17 p) (hn := H.hn p)
theorem RefRow.r92 : Read.val_main_v92 (F := Ideal) x0 x1 x2 x3 x4 x7 x8 (ix2 g p) = ((-((facI P Q D E p) * fi (A p) (B p) s + (facR P Q D E p) * fr (A p) (B p) s) / ((A p) * (A p) + (B p) * (B p)) : ℝ) : EReal) :=
  ref_v92 (hv76 := H.r76 p) (hv88 := H.r88 p) (hv17 := H.r17 p) (hv22 := H.r22 p) (hv32 := H.r32 p) (hn := H.hn p) (hn2 := mul_ne_zero (H.hn p) (H.hn p))
theorem RefRow.r101 : Read.val_main_v101 (F := Ideal) x0 x1 x3 x4 x5 x7 x8 (ix2 g p) = ((lamR (A p) (B p) (facR P Q D E p) (facI P Q D E p) (U p) : ℝ) : EReal) :=
  ref_v101 (h0 := H.h0 p) (h1 := H.h1 p) (h5 := H.h5 p) (hv80 := H.r80 p) (hv93 := H.r93 p)
theorem RefRow.r97 : Read.val_main_v97 (F := Ideal) x0 x1 x3 x4 x6 x7 x8 (ix2 g p) = ((lamI (A p) (B p) (facR P Q D E p) (facI P Q D E p) (W p) : ℝ) : EReal) :=
  ref_v97 (h0 := H.h0 p) (h1 := H.h1 p) (h6 := H.h6 p) (hv80 := H.r80 p) (hv93 := H.r93 p)
theorem RefRow.r112 : Read.val_main_v112 (F := Ideal) x0 x1 x2 x3 x4 x6 x7 x8 (ix2 g p) = ((lamI (A p) (B p) (facR P Q D E p) (facI P Q D E p) (W p) * Real.exp ((A p) * Real.exp s) * Real.cos ((B p) * Real.exp s) : ℝ) : EReal) :=
  ref_v112 (h0 := H.h0 p) (h1 := H.h1 p) (h2 := H.h2) (hv97 := H.r97 p)
theorem RefRow.r123 : Read.val_main_v123 (F := Ideal) x0 x1 x2 x3 x4 x5 x7 x8 (ix2 g p) = ((-(lamR (A p) (B p) (facR P Q D E p) (facI P Q D E p) (U p) * Real.exp ((A p) * Real.exp s)) * Real.sin ((B p) * Real.exp s) : ℝ) : EReal) :=
  ref_v123 (h0 := H.h0 p) (h1 := H.h1 p) (h2 := H.h2) (hv101 := H.r101 p)
theorem RefRow.r131 : Read.val_main_v131 (F := Ideal) x0 x1 x2 x3 x4 x5 x6 x7 x8 (ix2 g p) = (((lamI (A p) (B p) (facR P Q D E p) (facI P Q D E p) (W p) * Real.sin ((B p) * Real.exp s) + lamR (A p) (B p) (facR P Q D E p) (facI P Q D E p) (U p) * Real.cos ((B p) * Real.exp s)) * Real.exp ((A p) * Real.exp s) : ℝ) : EReal) :=
  ref_v131 (h0 := H.h0 p) (h1 := H.h1 p) (h2 := H.h2) (hv97 := H.r97 p) (hv101 := H.r101 p)
theorem RefRow.r138 : Read.val_main_v138 (F := Ideal) x0 x1 x2 x3 x4 x5 x6 x7 x8 (ix2 g p) = ((gA (A p) (B p) s (facR P Q D E p) (facI P Q D E p) (U p) (W p) : ℝ) : EReal) :=
  ref_v138 (h0 := H.h0 p) (h1 := H.h1 p) (h2 := H.h2) (hv131 := H.r131 p) (hv9 := H.r9 p) (hv14 := H.r14 p) (hv80 := H.r80 p) (hv93 := H.r93 p) (hv92 := H.r92 p) (hn := H.hn p)
theorem RefRow.r130 : Read.val_main_v130 (F := Ideal) x0 x1 x2 x3 x4 x5 x6 x7 x8 (ix2 g p) = ((gB (A p) (B p) s (facR P Q D E p) (facI P Q D E p) (U p) (W p) : ℝ) : EReal) :=
  ref_v130 (h0 := H.h0 p) (h1 := H.h1 p) (h2 := H.h2) (hv112 := H.r112 p) (hv123 := H.r123 p) (hv9 := H.r9 p) (hv14 := H.r14 p) (hv80 := H.r80 p) (hv93 := H.r93 p) (hv92 := H.r92 p) (hn := H.hn p)
theorem RefRow.r141 : Read.val_main_v141 (F := Ideal) x0 x1 x2 x3 x4 x5 x6 x7 x8 (ix2 g 0) = (((∑ p, gS (A p) (B p) s (facR P Q D E p) (facI P Q D E p) (U p) (W p)) * Real.exp s : ℝ) : EReal) :=
  ref_v141 (h0 := H.h0) (h1 := H.h1) (h2 := H.h2) (h112 := H.r112) (h123 := H.r123) (h131 := H.r131)
end

end ParamGrad

end
-- ==== Proof.Param.lean ====
module

public import proofs.«01_k».proof.Defs
public import proofs.«01_k».proof.Proof.Gen.ParamBwdIdeal
public import proofs.«01_k».proof.Proof.Gen.ParamBwdIdeal.Frame
public import proofs.«01_k».proof.Proof.Gen.ParamBwdIdeal.Value
public import proofs.«01_k».proof.Proof.Gen.ParamBwdRefIdeal
public import proofs.«01_k».proof.Proof.Gen.ParamBwdRefIdeal.Run
public import proofs.«01_k».proof.Proof.Gen.ParamBwdRefIdeal.Read
public import proofs.«01_k».proof.Proof.Gen.Pre_param_finite
public import proofs.«01_k».proof.Proof.ParamPure
public import proofs.«01_k».proof.Proof.Finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace ParamGrad

open Cert.ParamBwdIdeal Cert.ParamBwdIdeal.Gen

variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] :=
  (by decide +kernel : ∀ t : Fin grid0.N, _)

abbrev arg0 (c : Dev nD) : FVec Ideal S64x64 .f32 := m ((c : Thread nD τ).loc main_arg0)
abbrev arg1 (c : Dev nD) : FVec Ideal S64x64 .f32 := m ((c : Thread nD τ).loc main_arg1)
abbrev arg2 (c : Dev nD) : FVec Ideal S64 .f32 := m ((c : Thread nD τ).loc main_arg2)
abbrev arg3 (c : Dev nD) : FVec Ideal S64x64x16 .f32 := m ((c : Thread nD τ).loc main_arg3)
abbrev arg4 (c : Dev nD) : FVec Ideal S64x64x16 .f32 := m ((c : Thread nD τ).loc main_arg4)
abbrev arg5 (c : Dev nD) : FVec Ideal S64x64 .f32 := m ((c : Thread nD τ).loc main_arg5)
abbrev arg6 (c : Dev nD) : FVec Ideal S64x64 .f32 := m ((c : Thread nD τ).loc main_arg6)
abbrev arg7 (c : Dev nD) : FVec Ideal S64x64x16 .f32 := m ((c : Thread nD τ).loc main_arg7)
abbrev arg8 (c : Dev nD) : FVec Ideal S64x64x16 .f32 := m ((c : Thread nD τ).loc main_arg8)

/-! ## The precondition -/

/-- Every argument's elements are real, and no continuous eigenvalue is zero. -/
def Reals (c : Dev nD) : Prop :=
  (∀ g p, ∃ q : ℝ, (arg0 m c (ix2 g p) : EReal) = (q : EReal)) ∧ (∀ g p, ∃ q : ℝ, (arg1 m c (ix2 g p) : EReal) = (q : EReal))
    ∧ (∀ g, ∃ q : ℝ, (arg2 m c (ix1 g) : EReal) = (q : EReal)) ∧ (∀ g p h, ∃ q : ℝ, (arg3 m c (ix3 g p h) : EReal) = (q : EReal))
    ∧ (∀ g p h, ∃ q : ℝ, (arg4 m c (ix3 g p h) : EReal) = (q : EReal)) ∧ (∀ g p, ∃ q : ℝ, (arg5 m c (ix2 g p) : EReal) = (q : EReal))
    ∧ (∀ g p, ∃ q : ℝ, (arg6 m c (ix2 g p) : EReal) = (q : EReal)) ∧ (∀ g p h, ∃ q : ℝ, (arg7 m c (ix3 g p h) : EReal) = (q : EReal))
    ∧ (∀ g p h, ∃ q : ℝ, (arg8 m c (ix3 g p h) : EReal) = (q : EReal))
    ∧ ∀ g p, (0 : EReal) < arg0 m c (ix2 g p) * arg0 m c (ix2 g p) + arg1 m c (ix2 g p) * arg1 m c (ix2 g p)

theorem reals_of_pre (h : Cert.Pre_ParamBwdIdeal_param_finite m) (c : Dev nD) : Reals m c := by
  obtain ⟨h0, h1, h2, h3, h4, h5, h6, h7, h8, h9⟩ := h c
  refine ⟨fun g p => ?_, fun g p => ?_, fun g => ?_, fun g p e => ?_, fun g p e => ?_, fun g p => ?_, fun g p => ?_, fun g p e => ?_, fun g p e => ?_, fun g p => ?_⟩
  · exact Finite.real_of_cmp ((show _ = _ by pointwise [Cert.Pre_param_finite.fn, Cert.Pre_param_finite.fn_part1]; rfl).trans (congrFun h0 (ix2 g p)))
  · exact Finite.real_of_cmp ((show _ = _ by pointwise [Cert.Pre_param_finite.fn, Cert.Pre_param_finite.fn_part1]; rfl).trans (congrFun h1 (ix2 g p)))
  · exact Finite.real_of_cmp ((show _ = _ by pointwise [Cert.Pre_param_finite.fn, Cert.Pre_param_finite.fn_part1]; rfl).trans (congrFun h2 (ix1 g)))
  · exact Finite.real_of_cmp ((show _ = _ by pointwise [Cert.Pre_param_finite.fn, Cert.Pre_param_finite.fn_part1]; rfl).trans (congrFun h3 (ix3 g p e)))
  · exact Finite.real_of_cmp ((show _ = _ by pointwise [Cert.Pre_param_finite.fn, Cert.Pre_param_finite.fn_part1]; rfl).trans (congrFun h4 (ix3 g p e)))
  · exact Finite.real_of_cmp ((show _ = _ by pointwise [Cert.Pre_param_finite.fn, Cert.Pre_param_finite.fn_part1]; rfl).trans (congrFun h5 (ix2 g p)))
  · exact Finite.real_of_cmp ((show _ = _ by pointwise [Cert.Pre_param_finite.fn, Cert.Pre_param_finite.fn_part1]; rfl).trans (congrFun h6 (ix2 g p)))
  · exact Finite.real_of_cmp ((show _ = _ by pointwise [Cert.Pre_param_finite.fn, Cert.Pre_param_finite.fn_part1]; rfl).trans (congrFun h7 (ix3 g p e)))
  · exact Finite.real_of_cmp ((show _ = _ by pointwise [Cert.Pre_param_finite.fn, Cert.Pre_param_finite.fn_part1]; rfl).trans (congrFun h8 (ix3 g p e)))
  · have e : Ideal.cmp .ogt (arg0 m c (ix2 g p) * arg0 m c (ix2 g p) + arg1 m c (ix2 g p) * arg1 m c (ix2 g p)) 0 = 1#1 :=
      (show _ = _ by pointwise [Cert.Pre_param_finite.fn, Cert.Pre_param_finite.fn_part1]).trans (congrFun h9 (ix2 g p))
    rw [show (1#1 : BitVec 1) = 1 from rfl, Ideal.cmp_ogt_eq_one] at e
    exact e

/-- The real numbers that the arguments hold. -/
def rA (c : Dev nD) (g p : Fin 64) : ℝ := EReal.toReal (arg0 m c (ix2 g p))
def rB (c : Dev nD) (g p : Fin 64) : ℝ := EReal.toReal (arg1 m c (ix2 g p))
def rS (c : Dev nD) (g : Fin 64) : ℝ := EReal.toReal (arg2 m c (ix1 g))
def rP (c : Dev nD) (g p : Fin 64) (h : Fin 16) : ℝ := EReal.toReal (arg3 m c (ix3 g p h))
def rQ (c : Dev nD) (g p : Fin 64) (h : Fin 16) : ℝ := EReal.toReal (arg4 m c (ix3 g p h))
def rU (c : Dev nD) (g p : Fin 64) : ℝ := EReal.toReal (arg5 m c (ix2 g p))
def rV (c : Dev nD) (g p : Fin 64) : ℝ := EReal.toReal (arg6 m c (ix2 g p))
def rD (c : Dev nD) (g p : Fin 64) (h : Fin 16) : ℝ := EReal.toReal (arg7 m c (ix3 g p h))
def rE (c : Dev nD) (g p : Fin 64) (h : Fin 16) : ℝ := EReal.toReal (arg8 m c (ix3 g p h))
/-- The gradient of the input's factor. -/
def rX (c : Dev nD) (g p : Fin 64) : ℝ := ∑ h, (rP m c g p h * rD m c g p h + rQ m c g p h * rE m c g p h)
def rY (c : Dev nD) (g p : Fin 64) : ℝ := ∑ h, (rP m c g p h * rE m c g p h - rQ m c g p h * rD m c g p h)

theorem coe_of {x : EReal} (h : ∃ q : ℝ, x = (q : EReal)) : x = ((EReal.toReal x : ℝ) : EReal) := by
  obtain ⟨q, rfl⟩ := h
  rfl

section
variable {m} {c : Dev nD} (hR : Reals m c) (g p : Fin 64) (h : Fin 16)
include hR
theorem eA : (arg0 m c (ix2 g p) : EReal) = (rA m c g p : EReal) := coe_of (hR.1 g p)
theorem eB : (arg1 m c (ix2 g p) : EReal) = (rB m c g p : EReal) := coe_of (hR.2.1 g p)
theorem eS : (arg2 m c (ix1 g) : EReal) = (rS m c g : EReal) := coe_of (hR.2.2.1 g)
theorem eP : (arg3 m c (ix3 g p h) : EReal) = (rP m c g p h : EReal) := coe_of (hR.2.2.2.1 g p h)
theorem eQ : (arg4 m c (ix3 g p h) : EReal) = (rQ m c g p h : EReal) := coe_of (hR.2.2.2.2.1 g p h)
theorem eU : (arg5 m c (ix2 g p) : EReal) = (rU m c g p : EReal) := coe_of (hR.2.2.2.2.2.1 g p)
theorem eV : (arg6 m c (ix2 g p) : EReal) = (rV m c g p : EReal) := coe_of (hR.2.2.2.2.2.2.1 g p)
theorem eD : (arg7 m c (ix3 g p h) : EReal) = (rD m c g p h : EReal) := coe_of (hR.2.2.2.2.2.2.2.1 g p h)
theorem eE : (arg8 m c (ix3 g p h) : EReal) = (rE m c g p h : EReal) := coe_of (hR.2.2.2.2.2.2.2.2.1 g p h)
theorem norm_ne : rA m c g p * rA m c g p + rB m c g p * rB m c g p ≠ 0 := by
  have := hR.2.2.2.2.2.2.2.2.2 g p
  rw [eA hR g p, eB hR g p, ← EReal.coe_mul, ← EReal.coe_mul, ← EReal.coe_add, ← EReal.coe_zero, EReal.coe_lt_coe_iff] at this
  exact this.ne'
end

/-! ## The blocks read from the argument arrays -/

section
variable {m} {c : Dev nD} (hR : Reals m c) (t : Fin cfg0.N) (g p : Fin 64) (h : Fin 16) (k : Fin 1024)

theorem rd0 : (show EReal from iblk m c 0 t (ix2 g p)) = arg0 m c (ix2 g p) := by blk_point [iblk, V, idx t]
theorem rd1 : (show EReal from iblk m c 1 t (ix2 g p)) = arg1 m c (ix2 g p) := by blk_point [iblk, V, idx t]
theorem rd2 : (show EReal from iblk m c 2 t (ix2 g 0)) = arg2 m c (ix1 g) := by blk_point [iblk, V, idx t]
theorem rd3 : (show EReal from iblk m c 3 t (ix2 g k)) = arg0 m c (ix2 g ⟨k.val / 16, by omega⟩) := by blk_point [iblk, V, idx t]
theorem rd4 : (show EReal from iblk m c 4 t (ix2 g k)) = arg1 m c (ix2 g ⟨k.val / 16, by omega⟩) := by blk_point [iblk, V, idx t]
theorem rd5 : (show EReal from iblk m c 5 t (ix2 g k)) = arg3 m c (ix3 g ⟨k.val / 16, by omega⟩ ⟨k.val % 16, by omega⟩) := by
  blk_point [iblk, V, idx t]
theorem rd6 : (show EReal from iblk m c 6 t (ix2 g k)) = arg4 m c (ix3 g ⟨k.val / 16, by omega⟩ ⟨k.val % 16, by omega⟩) := by
  blk_point [iblk, V, idx t]
theorem rd7 : (show EReal from iblk m c 7 t (ix2 g p)) = arg5 m c (ix2 g p) := by blk_point [iblk, V, idx t]
theorem rd8 : (show EReal from iblk m c 8 t (ix2 g p)) = arg6 m c (ix2 g p) := by blk_point [iblk, V, idx t]
theorem rd9 : (show EReal from iblk m c 9 t (ix2 g k)) = arg7 m c (ix3 g ⟨k.val / 16, by omega⟩ ⟨k.val % 16, by omega⟩) := by
  blk_point [iblk, V, idx t]
theorem rd10 : (show EReal from iblk m c 10 t (ix2 g k)) = arg8 m c (ix3 g ⟨k.val / 16, by omega⟩ ⟨k.val % 16, by omega⟩) := by
  blk_point [iblk, V, idx t]

/-- Lane `h` of state `p`. -/
theorem lane (f : Fin 64 → Fin 16 → EReal) :
    f ⟨(⟨p.val * 16 + h.val, by omega⟩ : Fin 1024).val / 16, by show (p.val * 16 + h.val) / 16 < 64; omega⟩
      ⟨(⟨p.val * 16 + h.val, by omega⟩ : Fin 1024).val % 16, by omega⟩ = f p h :=
  congrArg₂ f (Fin.ext (by show (p.val * 16 + h.val) / 16 = p.val; omega)) (Fin.ext (by show (p.val * 16 + h.val) % 16 = h.val; omega))

theorem rd5l : (show EReal from iblk m c 5 t (ix2 g ⟨p.val * 16 + h.val, by omega⟩)) = arg3 m c (ix3 g p h) :=
  (rd5 t g _).trans (lane p h fun p h => arg3 m c (ix3 g p h))
theorem rd6l : (show EReal from iblk m c 6 t (ix2 g ⟨p.val * 16 + h.val, by omega⟩)) = arg4 m c (ix3 g p h) :=
  (rd6 t g _).trans (lane p h fun p h => arg4 m c (ix3 g p h))
theorem rd9l : (show EReal from iblk m c 9 t (ix2 g ⟨p.val * 16 + h.val, by omega⟩)) = arg7 m c (ix3 g p h) :=
  (rd9 t g _).trans (lane p h fun p h => arg7 m c (ix3 g p h))
theorem rd10l : (show EReal from iblk m c 10 t (ix2 g ⟨p.val * 16 + h.val, by omega⟩)) = arg8 m c (ix3 g p h) :=
  (rd10 t g _).trans (lane p h fun p h => arg8 m c (ix3 g p h))

include hR
theorem bA : (iblk m c 0 t (ix2 g p) : EReal) = (rA m c g p : EReal) := (rd0 t g p).trans (eA hR g p)
theorem bB : (iblk m c 1 t (ix2 g p) : EReal) = (rB m c g p : EReal) := (rd1 t g p).trans (eB hR g p)
theorem bS : (iblk m c 2 t (ix2 g 0) : EReal) = (rS m c g : EReal) := (rd2 t g).trans (eS hR g)
theorem bU : (iblk m c 7 t (ix2 g p) : EReal) = (rU m c g p : EReal) := (rd7 t g p).trans (eU hR g p)
theorem bV : (iblk m c 8 t (ix2 g p) : EReal) = (rV m c g p : EReal) := (rd8 t g p).trans (eV hR g p)

/-- A group's row of the blocks. -/
theorem row : Row (iblk m c 0 t) (iblk m c 1 t) (iblk m c 2 t) (iblk m c 5 t) (iblk m c 6 t) (iblk m c 7 t) (iblk m c 8 t) (iblk m c 9 t) (iblk m c 10 t)
    g (rA m c g) (rB m c g) (rS m c g) (rP m c g) (rQ m c g) (rD m c g) (rE m c g) (rU m c g) (rV m c g) where
  hn := norm_ne hR g
  h0 := fun p => bA hR t g p
  h1 := fun p => bB hR t g p
  h2 := bS hR t g
  h5 := fun p h => (rd5l t g p h).trans (eP hR g p h)
  h6 := fun p h => (rd6l t g p h).trans (eQ hR g p h)
  h7 := fun p => bU hR t g p
  h8 := fun p => bV hR t g p
  h9 := fun p h => (rd9l t g p h).trans (eD hR g p h)
  h10 := fun p h => (rd10l t g p h).trans (eE hR g p h)

omit t in
/-- A group's row of the arguments. -/
theorem refRow : RefRow (arg0 m c) (arg1 m c) (arg2 m c) (arg3 m c) (arg4 m c) (arg5 m c) (arg6 m c) (arg7 m c) (arg8 m c)
    g (rA m c g) (rB m c g) (rS m c g) (rP m c g) (rQ m c g) (rD m c g) (rE m c g) (rU m c g) (rV m c g) where
  hn := norm_ne hR g
  h0 := eA hR g
  h1 := eB hR g
  h2 := eS hR g
  h3 := eP hR g
  h4 := eQ hR g
  h5 := eU hR g
  h6 := eV hR g
  h7 := eD hR g
  h8 := eE hR g
end

/-! ## The five results -/

theorem final11 (c : Dev nD) (hR : Reals m c) : (dats m 0 c).arrAt 11 (cfgs 0).N = Cert.ParamBwdRefIdeal.Read.val_main_v138 (F := Ideal) (arg0 m c) (arg1 m c) (arg2 m c) (arg3 m c) (arg4 m c) (arg5 m c) (arg6 m c) (arg7 m c) (arg8 m c) := by
  refine (dats m 0 c).arrAt_eq_of_covers 11 _ (by decide +kernel) fun t _ y => ?_
  blk_simp
  rw [after0_11]
  unfold_out out0_11
  frame_out
  idx_vars y
  have e : ((cfg0.win 11).blk t).view.emb (ix2 y0 y1) = ix2 y0 y1 := by
    refine (eq_ix2 _).trans (congrArg₂ ix2 (Fin.ext ?_) (Fin.ext ?_)) <;> blk_simp [idx t]
  rw [e]
  exact ((row hR t y0).a y1).trans ((refRow hR y0).r138 y1).symm

theorem final12 (c : Dev nD) (hR : Reals m c) : (dats m 0 c).arrAt 12 (cfgs 0).N = Cert.ParamBwdRefIdeal.Read.val_main_v130 (F := Ideal) (arg0 m c) (arg1 m c) (arg2 m c) (arg3 m c) (arg4 m c) (arg5 m c) (arg6 m c) (arg7 m c) (arg8 m c) := by
  refine (dats m 0 c).arrAt_eq_of_covers 12 _ (by decide +kernel) fun t _ y => ?_
  blk_simp
  rw [after0_12]
  unfold_out out0_12
  frame_out
  idx_vars y
  have e : ((cfg0.win 12).blk t).view.emb (ix2 y0 y1) = ix2 y0 y1 := by
    refine (eq_ix2 _).trans (congrArg₂ ix2 (Fin.ext ?_) (Fin.ext ?_)) <;> blk_simp [idx t]
  rw [e]
  exact ((row hR t y0).b y1).trans ((refRow hR y0).r130 y1).symm

theorem final13 (c : Dev nD) (hR : Reals m c) : (dats m 0 c).arrAt 13 (cfgs 0).N = Cert.ParamBwdRefIdeal.Read.val_main_v141 (F := Ideal) (arg0 m c) (arg1 m c) (arg2 m c) (arg3 m c) (arg4 m c) (arg5 m c) (arg6 m c) (arg7 m c) (arg8 m c) := by
  refine (dats m 0 c).arrAt_eq_of_covers 13 _ (by decide +kernel) fun t _ y => ?_
  blk_simp
  rw [after0_13]
  unfold_out out0_13
  frame_out
  idx_vars y
  obtain rfl : y1 = 0 := Subsingleton.elim _ _
  have e : ((cfg0.win 13).blk t).view.emb (ix2 y0 0) = ix2 y0 0 := by
    refine (eq_ix2 _).trans (congrArg₂ ix2 (Fin.ext ?_) (Fin.ext ?_)) <;> blk_simp [idx t]
  rw [e]
  exact (row hR t y0).l.trans (refRow hR y0).r141.symm

section
variable {m} {c : Dev nD} (hR : Reals m c) (t : Fin cfg0.N) (g : Fin 64) (k : Fin 1024)
include hR

theorem final14 : (dats m 0 c).arrAt 14 (cfgs 0).N = Cert.ParamBwdRefIdeal.Read.val_main_v142 (F := Ideal) (arg0 m c) (arg1 m c) (arg2 m c) (arg7 m c) (arg8 m c) := by
  refine (dats m 0 c).arrAt_eq_of_covers 14 _ (by decide +kernel) fun t _ y => ?_
  blk_simp
  rw [after0_14]
  unfold_out out0_14
  frame_out
  idx_vars y
  have e : ((cfg0.win 14).blk t).view.emb (ix2 y0 y1) = ix2 y0 y1 := by
    refine (eq_ix2 _).trans (congrArg₂ ix2 (Fin.ext ?_) (Fin.ext ?_)) <;> blk_simp [idx t]
  rw [e]
  exact (grad_br (hs := bS hR t y0) (ha := (rd3 t y0 y1).trans (eA hR _ _)) (hb := (rd4 t y0 y1).trans (eB hR _ _)) (hn := norm_ne hR _ _)
      (h9 := (rd9 t y0 y1).trans (eD hR _ _ _)) (h10 := (rd10 t y0 y1).trans (eE hR _ _ _))).trans
    (ref_v142 (k := y1) (hp := rfl) (h23 := (refRow hR y0).r23 _) (h33 := (refRow hR y0).r33 _) (h7 := eD hR _ _ _) (h8 := eE hR _ _ _)).symm

theorem final15 : (dats m 0 c).arrAt 15 (cfgs 0).N = Cert.ParamBwdRefIdeal.Read.val_main_v143 (F := Ideal) (arg0 m c) (arg1 m c) (arg2 m c) (arg7 m c) (arg8 m c) := by
  refine (dats m 0 c).arrAt_eq_of_covers 15 _ (by decide +kernel) fun t _ y => ?_
  blk_simp
  rw [after0_15]
  unfold_out out0_15
  frame_out
  idx_vars y
  have e : ((cfg0.win 15).blk t).view.emb (ix2 y0 y1) = ix2 y0 y1 := by
    refine (eq_ix2 _).trans (congrArg₂ ix2 (Fin.ext ?_) (Fin.ext ?_)) <;> blk_simp [idx t]
  rw [e]
  exact (grad_bi (hs := bS hR t y0) (ha := (rd3 t y0 y1).trans (eA hR _ _)) (hb := (rd4 t y0 y1).trans (eB hR _ _)) (hn := norm_ne hR _ _)
      (h9 := (rd9 t y0 y1).trans (eD hR _ _ _)) (h10 := (rd10 t y0 y1).trans (eE hR _ _ _))).trans
    (ref_v143 (k := y1) (hp := rfl) (h23 := (refRow hR y0).r23 _) (h33 := (refRow hR y0).r33 _) (h7 := eD hR _ _ _) (h8 := eE hR _ _ _)).symm
end

/-- What the kernel leaves in its five results is what the reference computes. -/
theorem algebraic : Cert.algebraic_ParamBwdIdeal_ParamBwdRefIdeal_pre_param_finite := by
  intro m g m' g' hpre hagree
  have hR := reals_of_pre m hpre
  refine ⟨fun c => Cert.ParamBwdRefIdeal.Read.val_main_v138 (F := Ideal) (arg0 m c) (arg1 m c) (arg2 m c) (arg3 m c) (arg4 m c) (arg5 m c) (arg6 m c) (arg7 m c) (arg8 m c), fun c => Cert.ParamBwdRefIdeal.Read.val_main_v130 (F := Ideal) (arg0 m c) (arg1 m c) (arg2 m c) (arg3 m c) (arg4 m c) (arg5 m c) (arg6 m c) (arg7 m c) (arg8 m c), fun c => Cert.ParamBwdRefIdeal.Read.val_main_v141 (F := Ideal) (arg0 m c) (arg1 m c) (arg2 m c) (arg3 m c) (arg4 m c) (arg5 m c) (arg6 m c) (arg7 m c) (arg8 m c), fun c => Cert.ParamBwdRefIdeal.Read.val_main_v142 (F := Ideal) (arg0 m c) (arg1 m c) (arg2 m c) (arg7 m c) (arg8 m c), fun c => Cert.ParamBwdRefIdeal.Read.val_main_v143 (F := Ideal) (arg0 m c) (arg1 m c) (arg2 m c) (arg7 m c) (arg8 m c), ?_, ?_⟩
  · refine (θ_run Cert.ParamBwdIdeal.defs _ _).mono (fun r h c => ?_) (Cert.ParamBwdIdeal.Value.run_blocks m g)
    obtain ⟨h138, h130, h141, h142, h143, hr⟩ := h c
    exact ⟨h138.trans (final11 m c (hR c)), h130.trans (final12 m c (hR c)), h141.trans (final13 m c (hR c)), h142.trans (final14 (hR c)),
      h143.trans (final15 (hR c)), hr⟩
  · refine (θ_run Cert.ParamBwdRefIdeal.defs _ _).mono (fun r h c => ?_) (Cert.ParamBwdRefIdeal.Value.run (F := Ideal) m' g')
    obtain ⟨h138, h130, h141, h142, h143, hr⟩ := h c
    obtain ⟨e0, e1, e2, e3, e4, e5, e6, e7, e8⟩ := hagree c
    rw [Cert.ParamBwdRefIdeal.Read.val_main_v138_eq, e0, e1, e2, e3, e4, e5, e6, e7, e8] at h138
    rw [Cert.ParamBwdRefIdeal.Read.val_main_v130_eq, e0, e1, e2, e3, e4, e5, e6, e7, e8] at h130
    rw [Cert.ParamBwdRefIdeal.Read.val_main_v141_eq, e0, e1, e2, e3, e4, e5, e6, e7, e8] at h141
    rw [Cert.ParamBwdRefIdeal.Read.val_main_v142_eq, e0, e1, e2, e7, e8] at h142
    rw [Cert.ParamBwdRefIdeal.Read.val_main_v143_eq, e0, e1, e2, e7, e8] at h143
    exact ⟨h138, h130, h141, h142, h143, hr⟩

end ParamGrad

end
-- ==== Proof.GatePure.lean ====
module

public import proofs.«01_k».proof.Proof.Gen.GateIdeal.Skeleton
public import proofs.«01_k».proof.Proof.Gen.GateRefIdeal.Read
public import proofs.«01_k».proof.Proof.GluMath
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! What one block of the gated unit computes and what the reference computes, in the same functions of a row:
`Y` the recurrence's output, `Z` the outer gate's argument, `W` the weight, `b` the bias. -/

namespace GateFwd

open GluGrad (half rt num den cdf lgst)

/-- The gated unit's row. -/
def out (Y Z : Fin 1024 → EReal) (W : Fin 1024 → Fin 1024 → EReal) (b : Fin 1024 → EReal) (l : Fin 1024) : EReal :=
  Y l * cdf (Y l) * lgst (∑ x, Y x * cdf (Y x) * W x l + b l) * (Z l * lgst (Z l))

/-- The kernel's gelu is the reference's, at every number, finite or not. -/
theorem gelu_eq (y cu : EReal) (hcu : cu = ((8943 / 200000 : ℝ) : EReal)) :
    half * y * (1 + Ideal.tanh (rt * (y + cu * y * y * y))) = y * cdf y := by
  have e : cu * y * y * y = Ideal.div (y * y * y * num) den := by
    rw [GluGrad.den_eq, Ideal.div_coe (by norm_num), mul_assoc (y * y * y), GluGrad.num_eq, ← EReal.coe_mul, hcu,
      show (8943 : ℝ) * (1 / 200000) = 8943 / 200000 by norm_num]
    ac_rfl
  unfold cdf GluGrad.th
  rw [e, mul_comm half y, mul_assoc]

section
open Cert.GateIdeal Cert.GateIdeal.Gen

theorem cube_eq : (Named.named κ "cube" 0x3D372713#32 : Ideal .f32) = ((8943 / 200000 : ℝ) : EReal) :=
  IdealRules.named_const.ideal_named_scalar _ _ _ _ rfl

variable (y : FVec Ideal S512x1024 .f32) (z0 z1 : FVec Ideal S512x512 .f32) (w : FVec Ideal S1024x1024 .bf16) (b : FVec Ideal S1x1024 .f32)
  (r : Fin 512) (l : Fin 1024)

theorem pay_gel : k0_pay2 (F := Ideal) y (ix2 r l) = (y (ix2 r l) : EReal) * cdf (y (ix2 r l)) := by
  rw [← gelu_eq _ _ cube_eq]
  pointwise [k0_pay2]

theorem pay_yg : k0_pay3 (F := Ideal) y (ix2 r l) = (y (ix2 r l) : EReal) * cdf (y (ix2 r l)) := by
  rw [← pay_gel]
  pointwise [k0_pay3]

theorem pay_out : k0_pay1 (F := Ideal) (k0_pay4 z0 z1) (k0_pay5 y w b) (k0_pay6 z0 z1) (Scalar.ofBits .f32 0x3F800000#32) (ix2 r l)
    = out (fun x => y (ix2 r x)) (fun x => k0_pay4 (F := Ideal) z0 z1 (ix2 r x)) (fun x k => w (ix2 x k)) (fun x => b (ix2 0 x)) l := by
  unfold out lgst
  simp only [← pay_yg]
  rw [show (k0_pay3 (F := Ideal) y (ix2 r l) : EReal) = k0_pay2 (F := Ideal) y (ix2 r l) from (pay_yg y r l).trans (pay_gel y r l).symm]
  simp only [← zero_sub]
  pointwise [k0_pay1, k0_pay5, k0_pay6]

theorem pay_z : k0_pay4 (F := Ideal) z0 z1 (ix2 r l)
    = if h : l.val < 512 then (z0 (ix2 r ⟨l.val, h⟩) : EReal) else z1 (ix2 r ⟨l.val - 512, by omega⟩) := by
  pointwise [k0_pay4]
end

section
open Cert.GateRefIdeal

variable (x0 : (⟨S4096x1024, .f32⟩ : BufTy).Contents (Elt Ideal)) (x1 : (⟨S4096x4608, .f32⟩ : BufTy).Contents (Elt Ideal))
  (x2 : (⟨S1024x1024, .f32⟩ : BufTy).Contents (Elt Ideal)) (x3 : (⟨S1024, .f32⟩ : BufTy).Contents (Elt Ideal))
  (r : Fin 4096) (l : Fin 1024)

theorem ref_out : Read.val_main_v28 (F := Ideal) x0 x1 x2 x3 (ix2 r l)
    = out (fun x => x0 (ix2 r x)) (fun x => x1 (ix2 r ⟨3584 + x.val, by omega⟩)) (fun x k => x2 (ix2 x k)) (fun x => x3 (ix1 x)) l := by
  pointwise [Read.val_main_v28, Read.val_main_v27, Read.val_main_call0_v5, Read.val_main_call0_v4, Read.val_main_call0_cst_0, Read.val_main_call0_v3, Read.val_main_call0_v2, Read.val_main_call0_cst, Read.val_main_call0_v1, Read.val_main_call0_v0, Read.val_main_v26, Read.val_main_v25, Read.val_main_v24, Read.val_main_v23, Read.val_main_cst_5, Read.val_main_v22, Read.val_main_v21, Read.val_main_cst_4, Read.val_main_v20, Read.val_main_v19, Read.val_main_v18, Read.val_main_v17, Read.val_main_v16, Read.val_main_v15, Read.val_main_v14, Read.val_main_v13, Read.val_main_v12, Read.val_main_cst_3, Read.val_main_v11, Read.val_main_v10, Read.val_main_cst_2, Read.val_main_v9, Read.val_main_v8, Read.val_main_v7, Read.val_main_cst_1, Read.val_main_v6, Read.val_main_v5, Read.val_main_v4, Read.val_main_cst_0, Read.val_main_v3, Read.val_main_v2, Read.val_main_cst, Read.val_main_v1, Read.val_main_v0]
  rfl

theorem ref_yg : Read.val_main_v29 (F := Ideal) x0 (ix2 r l) = (x0 (ix2 r l) : EReal) * cdf (x0 (ix2 r l)) := by
  pointwise [Read.val_main_v29, Read.val_main_v14, Read.val_main_v13, Read.val_main_v12, Read.val_main_cst_3, Read.val_main_v11, Read.val_main_v10, Read.val_main_cst_2, Read.val_main_v9, Read.val_main_v8, Read.val_main_v7, Read.val_main_cst_1, Read.val_main_v6, Read.val_main_v5, Read.val_main_v4, Read.val_main_cst_0, Read.val_main_v3, Read.val_main_v2, Read.val_main_cst, Read.val_main_v1, Read.val_main_v0]
  rfl
end

end GateFwd
-- ==== Proof.Gate.lean ====
module

public import proofs.«01_k».proof.Defs
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Run
public import proofs.«01_k».proof.Proof.Gen.GateRefIdeal.Read
public import proofs.«01_k».proof.Proof.GatePure
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The gated unit: what the kernel leaves in its two results is what the reference computes. -/

namespace GateFwd

open Cert.GateIdeal Cert.GateIdeal.Gen

variable (m : (ℓ : Loc nD τ sig) → Buf (Elt Ideal) ℓ)

/-- Where each window's block sits, at every grid point. -/
theorem idx : ∀ t : Fin cfg0.N, win0_0.index t = ![t.val, 0] ∧ win0_1.index t = ![t.val, 7] ∧ win0_2.index t = ![t.val, 8]
    ∧ win0_3.index t = ![0, 0] ∧ win0_4.index t = ![0, 0] ∧ win0_5.index t = ![t.val, 0] ∧ win0_6.index t = ![t.val, 0] :=
  (by decide +kernel : ∀ t : Fin grid0.N, _)

abbrev arg0 (c : Dev nD) : FVec Ideal S4096x1024 .f32 := m ((c : Thread nD τ).loc main_arg0)
abbrev arg1 (c : Dev nD) : FVec Ideal S4096x4608 .f32 := m ((c : Thread nD τ).loc main_arg1)
abbrev arg2 (c : Dev nD) : FVec Ideal S1024x1024 .f32 := m ((c : Thread nD τ).loc main_arg2)
abbrev arg3 (c : Dev nD) : FVec Ideal S1024 .f32 := m ((c : Thread nD τ).loc main_arg3)

/-! ## The blocks read from the argument arrays -/

/-- The block's rows are the array's, at the rows of the block. -/
theorem row_lt (t : Fin cfg0.N) (r : Fin 512) : t.val * 512 + r.val < 4096 := by
  have := t.isLt.trans_eq N_0; omega

section
variable (c : Dev nD) (t : Fin cfg0.N) (r : Fin 512)

theorem rd1 (k : Fin 512) (i : S4096x4608.Idx) (h0 : (i 0 : ℕ) = t.val * 512 + r.val) (h1 : (i 1 : ℕ) = 3584 + k.val) :
    (show EReal from iblk m c 1 t (ix2 r k)) = arg1 m c i := by
  blk_ext [iblk, V, idx t]
theorem rd2 (k : Fin 512) (i : S4096x4608.Idx) (h0 : (i 0 : ℕ) = t.val * 512 + r.val) (h1 : (i 1 : ℕ) = 4096 + k.val) :
    (show EReal from iblk m c 2 t (ix2 r k)) = arg1 m c i := by
  blk_ext [iblk, V, idx t]

theorem rowY : (fun x => iblk m c 0 t (ix2 r x) : Fin 1024 → EReal) = fun x => arg0 m c (ix2 ⟨_, row_lt t r⟩ x) := by
  funext x; blk_point [iblk, V, idx t]
/-- The outer gate's argument: the two halves of the block, side by side. -/
theorem rowZ : (fun x => k0_pay4 (F := Ideal) (iblk m c 1 t) (iblk m c 2 t) (ix2 r x) : Fin 1024 → EReal)
    = fun x => arg1 m c (ix2 ⟨_, row_lt t r⟩ ⟨3584 + x.val, by omega⟩) := by
  funext x
  rw [pay_z]
  by_cases h : x.val < 512
  · rw [dif_pos h]; exact rd1 m c t r _ _ rfl rfl
  · rw [dif_neg h]; exact rd2 m c t r _ _ rfl (by simp only []; show 3584 + x.val = 4096 + (x.val - 512); omega)
theorem rowW : (fun x k => iblk m c 3 t (ix2 x k) : Fin 1024 → Fin 1024 → EReal) = fun x k => arg2 m c (ix2 x k) := by
  funext x k; blk_point [iblk, V, idx t]
theorem rowB : (fun x => iblk m c 4 t (ix2 0 x) : Fin 1024 → EReal) = fun x => arg3 m c (ix1 x) := by
  funext x; blk_point [iblk, V, idx t]
end

theorem final5 (c : Dev nD) : (dats m 0 c).arrAt 5 (cfgs 0).N
    = Cert.GateRefIdeal.Read.val_main_v28 (F := Ideal) (arg0 m c) (arg1 m c) (arg2 m c) (arg3 m c) := by
  refine (dats m 0 c).arrAt_eq_of_covers 5 _ (by decide +kernel) fun t _ y => ?_
  blk_simp
  rw [after0_5]
  unfold out0_5
  frame_out
  idx_vars y
  have e : ((cfg0.win 5).blk t).view.emb (ix2 y0 y1) = ix2 ⟨_, row_lt t y0⟩ y1 := by
    refine (eq_ix2 _).trans (congrArg₂ ix2 (Fin.ext ?_) (Fin.ext ?_)) <;> blk_simp [idx t]
  rw [e, ref_out]
  refine (pay_out _ _ _ _ _ _ _).trans ?_
  rw [rowY, rowZ, rowW, rowB]

theorem final6 (c : Dev nD) : (dats m 0 c).arrAt 6 (cfgs 0).N
    = Cert.GateRefIdeal.Read.val_main_v29 (F := Ideal) (arg0 m c) := by
  refine (dats m 0 c).arrAt_eq_of_covers 6 _ (by decide +kernel) fun t _ y => ?_
  blk_simp
  rw [after0_6]
  unfold out0_6
  frame_out
  idx_vars y
  have e : ((cfg0.win 6).blk t).view.emb (ix2 y0 y1) = ix2 ⟨_, row_lt t y0⟩ y1 := by
    refine (eq_ix2 _).trans (congrArg₂ ix2 (Fin.ext ?_) (Fin.ext ?_)) <;> blk_simp [idx t]
  rw [e, ref_yg]
  exact (pay_yg _ _ _).trans (congrArg (fun f : Fin 1024 → EReal => f y1 * GluGrad.cdf (f y1)) (rowY m c t y0))

/-- What the kernel leaves in its two results is what the reference computes. -/
theorem algebraic : Cert.algebraic_GateIdeal_GateRefIdeal := by
  intro m g m' g' hpre hagree
  refine ⟨fun c => Cert.GateRefIdeal.Read.val_main_v28 (F := Ideal) (arg0 m c) (arg1 m c) (arg2 m c) (arg3 m c),
    fun c => Cert.GateRefIdeal.Read.val_main_v29 (F := Ideal) (arg0 m c), ?_, ?_⟩
  · run_from Cert.GateIdeal.Gen.run_main m g
    · exact final5 m c
    · exact final6 m c
  · refine (θ_run Cert.GateRefIdeal.defs _ _).mono (fun r h c => ?_) (Cert.GateRefIdeal.Value.run (F := Ideal) m' g')
    obtain ⟨h28, h29, hr⟩ := h c
    obtain ⟨e0, e1, e2, e3⟩ := hagree c
    rw [Cert.GateRefIdeal.Read.val_main_v28_eq, e0, e1, e2, e3] at h28
    rw [Cert.GateRefIdeal.Read.val_main_v29_eq, e0] at h29
    exact ⟨h28, h29, hr⟩

end GateFwd
-- ==== Proof.PrepPure.lean ====
module

public import proofs.«01_k».proof.Proof.Gen.PrepIdeal.Skeleton
public import proofs.«01_k».proof.Proof.Gen.PrepIdeal.Frame
public import proofs.«01_k».proof.Proof.Gen.PrepRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The state space's discretisation: `a + b i` is the continuous eigenvalue and `s` the logarithm of the step. The kernel
squares the discrete eigenvalue nine times; the reference takes the exponential of 512 steps. -/

namespace Prep

/-- The exponential of `n` steps. -/
def er (a b s n : ℝ) : ℝ := Real.exp (a * Real.exp s * n) * Real.cos (b * Real.exp s * n)
def ei (a b s n : ℝ) : ℝ := Real.exp (a * Real.exp s * n) * Real.sin (b * Real.exp s * n)
/-- The input's factor: the discrete eigenvalue less one, over the continuous one. -/
def fr (a b s : ℝ) : ℝ := ((er a b s 1 - 1) * a + ei a b s 1 * b) / (a * a + b * b)
def fi (a b s : ℝ) : ℝ := (ei a b s 1 * a - (er a b s 1 - 1) * b) / (a * a + b * b)

/-- The square of an exponential is that of twice as many steps. -/
theorem square_re (a b s n : ℝ) (x y : EReal) (hx : x = (er a b s n : EReal)) (hy : y = (ei a b s n : EReal)) :
    x * x - y * y = (er a b s (2 * n) : EReal) := by
  rw [hx, hy, ← EReal.coe_mul, ← EReal.coe_mul, ← EReal.coe_sub]
  refine congrArg Real.toEReal ?_
  rw [er, ei, er, show a * Real.exp s * (2 * n) = a * Real.exp s * n + a * Real.exp s * n by ring,
    show b * Real.exp s * (2 * n) = 2 * (b * Real.exp s * n) by ring, Real.exp_add, Real.cos_two_mul']
  ring

theorem square_im (a b s n : ℝ) (x y : EReal) (hx : x = (er a b s n : EReal)) (hy : y = (ei a b s n : EReal)) :
    x * y + y * x = (ei a b s (2 * n) : EReal) := by
  rw [hx, hy, ← EReal.coe_mul, ← EReal.coe_mul, ← EReal.coe_add]
  refine congrArg Real.toEReal ?_
  rw [er, ei, ei, show a * Real.exp s * (2 * n) = a * Real.exp s * n + a * Real.exp s * n by ring,
    show b * Real.exp s * (2 * n) = 2 * (b * Real.exp s * n) by ring, Real.exp_add, Real.sin_two_mul]
  ring

section
open Cert.PrepIdeal Cert.PrepIdeal.Gen

variable (v0 : FVec Ideal S64x1 .f32) (va vb x y : FVec Ideal S64x64 .f32) (wa wb w5 w6 : FVec Ideal S64x1024 .f32)
  (g p : Fin 64) (k : Fin 1024) (a b s n : ℝ)

section
variable (hs : v0 (ix2 g 0) = (s : EReal)) (ha : va (ix2 g p) = (a : EReal)) (hb : vb (ix2 g p) = (b : EReal))
include hs ha hb
theorem lam_re : k0_pay11 (F := Ideal) v0 va vb (ix2 g p) = (er a b s 1 : EReal) := by
  pointwise [k0_pay9, k0_pay10, k0_pay11]
  simp only [hs, ha, hb, er, mul_one, ← EReal.coe_mul, Ideal.exp_coe, Ideal.cos_coe, Ideal.sin_coe]
theorem lam_im : k0_pay12 (F := Ideal) v0 va vb (ix2 g p) = (ei a b s 1 : EReal) := by
  pointwise [k0_pay9, k0_pay10, k0_pay12]
  simp only [hs, ha, hb, ei, mul_one, ← EReal.coe_mul, Ideal.exp_coe, Ideal.cos_coe, Ideal.sin_coe]
theorem first1_re : k0_pay13 (F := Ideal) v0 va vb (ix2 g p) = (er a b s (2) : EReal) := by
  pointwise [k0_pay13]
  exact (square_re a b s _ _ _ (lam_re v0 va vb g p a b s hs ha hb) (lam_im v0 va vb g p a b s hs ha hb)).trans (by ring_nf)
theorem first1_im : k0_pay14 (F := Ideal) v0 va vb (ix2 g p) = (ei a b s (2) : EReal) := by
  pointwise [k0_pay14]
  exact (square_im a b s _ _ _ (lam_re v0 va vb g p a b s hs ha hb) (lam_im v0 va vb g p a b s hs ha hb)).trans (by ring_nf)
theorem first2_re : k0_pay15 (F := Ideal) v0 va vb (ix2 g p) = (er a b s (4) : EReal) := by
  pointwise [k0_pay15]
  exact (square_re a b s _ _ _ (first1_re v0 va vb g p a b s hs ha hb) (first1_im v0 va vb g p a b s hs ha hb)).trans (by ring_nf)
theorem first2_im : k0_pay16 (F := Ideal) v0 va vb (ix2 g p) = (ei a b s (4) : EReal) := by
  pointwise [k0_pay16]
  exact (square_im a b s _ _ _ (first1_re v0 va vb g p a b s hs ha hb) (first1_im v0 va vb g p a b s hs ha hb)).trans (by ring_nf)
theorem first3_re : k0_pay17 (F := Ideal) v0 va vb (ix2 g p) = (er a b s (8) : EReal) := by
  pointwise [k0_pay17]
  exact (square_re a b s _ _ _ (first2_re v0 va vb g p a b s hs ha hb) (first2_im v0 va vb g p a b s hs ha hb)).trans (by ring_nf)
theorem first3_im : k0_pay18 (F := Ideal) v0 va vb (ix2 g p) = (ei a b s (8) : EReal) := by
  pointwise [k0_pay18]
  exact (square_im a b s _ _ _ (first2_re v0 va vb g p a b s hs ha hb) (first2_im v0 va vb g p a b s hs ha hb)).trans (by ring_nf)
theorem first4_re : k0_pay19 (F := Ideal) v0 va vb (ix2 g p) = (er a b s (16) : EReal) := by
  pointwise [k0_pay19]
  exact (square_re a b s _ _ _ (first3_re v0 va vb g p a b s hs ha hb) (first3_im v0 va vb g p a b s hs ha hb)).trans (by ring_nf)
theorem first4_im : k0_pay20 (F := Ideal) v0 va vb (ix2 g p) = (ei a b s (16) : EReal) := by
  pointwise [k0_pay20]
  exact (square_im a b s _ _ _ (first3_re v0 va vb g p a b s hs ha hb) (first3_im v0 va vb g p a b s hs ha hb)).trans (by ring_nf)
theorem first5_re : k0_pay21 (F := Ideal) v0 va vb (ix2 g p) = (er a b s (32) : EReal) := by
  pointwise [k0_pay21]
  exact (square_re a b s _ _ _ (first4_re v0 va vb g p a b s hs ha hb) (first4_im v0 va vb g p a b s hs ha hb)).trans (by ring_nf)
theorem first5_im : k0_pay22 (F := Ideal) v0 va vb (ix2 g p) = (ei a b s (32) : EReal) := by
  pointwise [k0_pay22]
  exact (square_im a b s _ _ _ (first4_re v0 va vb g p a b s hs ha hb) (first4_im v0 va vb g p a b s hs ha hb)).trans (by ring_nf)
end

section
variable (hx : x (ix2 g p) = (er a b s n : EReal)) (hy : y (ix2 g p) = (ei a b s n : EReal))
include hx hy
theorem then1_re : k0_pay23 (F := Ideal) x y (ix2 g p) = (er a b s (2 * n) : EReal) := by
  pointwise [k0_pay23]
  exact (square_re a b s _ _ _ hx hy).trans (by ring_nf)
theorem then1_im : k0_pay24 (F := Ideal) x y (ix2 g p) = (ei a b s (2 * n) : EReal) := by
  pointwise [k0_pay24]
  exact (square_im a b s _ _ _ hx hy).trans (by ring_nf)
theorem then2_re : k0_pay25 (F := Ideal) x y (ix2 g p) = (er a b s (4 * n) : EReal) := by
  pointwise [k0_pay25]
  exact (square_re a b s _ _ _ (then1_re x y g p a b s n hx hy) (then1_im x y g p a b s n hx hy)).trans (by ring_nf)
theorem then2_im : k0_pay26 (F := Ideal) x y (ix2 g p) = (ei a b s (4 * n) : EReal) := by
  pointwise [k0_pay26]
  exact (square_im a b s _ _ _ (then1_re x y g p a b s n hx hy) (then1_im x y g p a b s n hx hy)).trans (by ring_nf)
theorem then3_re : k0_pay27 (F := Ideal) x y (ix2 g p) = (er a b s (8 * n) : EReal) := by
  pointwise [k0_pay27]
  exact (square_re a b s _ _ _ (then2_re x y g p a b s n hx hy) (then2_im x y g p a b s n hx hy)).trans (by ring_nf)
theorem then3_im : k0_pay28 (F := Ideal) x y (ix2 g p) = (ei a b s (8 * n) : EReal) := by
  pointwise [k0_pay28]
  exact (square_im a b s _ _ _ (then2_re x y g p a b s n hx hy) (then2_im x y g p a b s n hx hy)).trans (by ring_nf)
theorem then4_re : k0_pay29 (F := Ideal) x y (ix2 g p) = (er a b s (16 * n) : EReal) := by
  pointwise [k0_pay29]
  exact (square_re a b s _ _ _ (then3_re x y g p a b s n hx hy) (then3_im x y g p a b s n hx hy)).trans (by ring_nf)
theorem then4_im : k0_pay30 (F := Ideal) x y (ix2 g p) = (ei a b s (16 * n) : EReal) := by
  pointwise [k0_pay30]
  exact (square_im a b s _ _ _ (then3_re x y g p a b s n hx hy) (then3_im x y g p a b s n hx hy)).trans (by ring_nf)
end

section
variable (hs : v0 (ix2 g 0) = (s : EReal)) (ha : wa (ix2 g k) = (a : EReal)) (hb : wb (ix2 g k) = (b : EReal)) (hn : a * a + b * b ≠ 0)
include hs ha hb hn
theorem fac_fr : k0_pay3 (F := Ideal) (k0_pay31 wa) (k0_pay32 wb) (k0_pay34 (k0_pay9 v0) wa wb) (k0_pay35 wa wb) (k0_pay36 (k0_pay9 v0) wa wb) (ix2 g k)
    = (fr a b s : EReal) := by
  pointwise [k0_pay3, k0_pay1, k0_pay2, k0_pay9, k0_pay31, k0_pay32, k0_pay33, k0_pay34, k0_pay35, k0_pay36]
  simp only [hs, ha, hb, ← EReal.coe_mul, ← EReal.coe_add, ← EReal.coe_sub, ← EReal.coe_neg, ← EReal.coe_one, ← EReal.coe_zero, Ideal.exp_coe, Ideal.cos_coe, Ideal.sin_coe, Ideal.div_coe hn]
  refine congrArg Real.toEReal ?_
  simp only [fr, er, ei, mul_one]
  have hq : a ^ 2 + b ^ 2 ≠ 0 := by simpa [pow_two] using hn
  field_simp
  ring1
theorem fac_fi : k0_pay4 (F := Ideal) (k0_pay31 wa) (k0_pay32 wb) (k0_pay34 (k0_pay9 v0) wa wb) (k0_pay35 wa wb) (k0_pay36 (k0_pay9 v0) wa wb) (ix2 g k)
    = (fi a b s : EReal) := by
  pointwise [k0_pay4, k0_pay1, k0_pay2, k0_pay9, k0_pay31, k0_pay32, k0_pay33, k0_pay34, k0_pay35, k0_pay36]
  simp only [hs, ha, hb, ← EReal.coe_mul, ← EReal.coe_add, ← EReal.coe_sub, ← EReal.coe_neg, ← EReal.coe_one, ← EReal.coe_zero, Ideal.exp_coe, Ideal.cos_coe, Ideal.sin_coe, Ideal.div_coe hn]
  refine congrArg Real.toEReal ?_
  simp only [fi, er, ei, mul_one]
  have hq : a ^ 2 + b ^ 2 ≠ 0 := by simpa [pow_two] using hn
  field_simp
  ring1
theorem input_re : k0_pay7 (F := Ideal) (k0_pay31 wa) (k0_pay32 wb) (k0_pay34 (k0_pay9 v0) wa wb) (k0_pay35 wa wb) (k0_pay36 (k0_pay9 v0) wa wb) w5 w6 (ix2 g k)
    = (fr a b s : EReal) * w5 (ix2 g k) - (fi a b s : EReal) * w6 (ix2 g k) := by
  pointwise [k0_pay7, k0_pay5, k0_pay6]
  rw [fac_fr v0 wa wb g k a b s hs ha hb hn, fac_fi v0 wa wb g k a b s hs ha hb hn]
theorem input_im : k0_pay8 (F := Ideal) (k0_pay31 wa) (k0_pay32 wb) (k0_pay34 (k0_pay9 v0) wa wb) (k0_pay35 wa wb) (k0_pay36 (k0_pay9 v0) wa wb) w5 w6 (ix2 g k)
    = (fr a b s : EReal) * w6 (ix2 g k) + (fi a b s : EReal) * w5 (ix2 g k) := by
  pointwise [k0_pay8, k0_pay5, k0_pay6]
  rw [fac_fr v0 wa wb g k a b s hs ha hb hn, fac_fi v0 wa wb g k a b s hs ha hb hn]
end
end

/-! The reference's stages. -/
section
open Cert.PrepRefIdeal

variable (x0 x1 : FVec Ideal S64x64 .f32) (x2 : FVec Ideal S64 .f32) (x3 x4 : FVec Ideal S64x64x16 .f32) (g : Fin 64) (a b s : ℝ)

theorem steps : (Ideal.ofBits .f32 0x44000000#32 : EReal) = ((512 : ℝ) : EReal) := by
  simp [Ideal.ofBits, Ideal.ieee]
  rw [← EReal.coe_mul]
  exact congrArg Real.toEReal (by norm_num)

section
variable (p : Fin 64) (h0 : x0 (ix2 g p) = (a : EReal)) (h1 : x1 (ix2 g p) = (b : EReal)) (h2 : x2 (ix1 g) = (s : EReal)) (hn : a * a + b * b ≠ 0)
include h0 h1 h2
theorem ref_v12 : Read.val_main_v12 (F := Ideal) x0 x1 x2 (ix2 g p) = (er a b s 1 : EReal) := by
  pointwise [Read.val_main_v12, Read.val_main_v6, Read.val_main_v5, Read.val_main_v4, Read.val_main_cst, Read.val_main_v3, Read.val_main_v2, Read.val_main_v1, Read.val_main_v0, Read.val_main_v11, Read.val_main_v10, Read.val_main_v9, Read.val_main_cst_0, Read.val_main_v8, Read.val_main_v7]
  simp only [h0, h1, h2, er, mul_one, ← EReal.coe_mul, Ideal.exp_coe, Ideal.cos_coe, Ideal.sin_coe]
theorem ref_v18 : Read.val_main_v18 (F := Ideal) x0 x1 x2 (ix2 g p) = (ei a b s 1 : EReal) := by
  pointwise [Read.val_main_v18, Read.val_main_v6, Read.val_main_v5, Read.val_main_v4, Read.val_main_cst, Read.val_main_v3, Read.val_main_v2, Read.val_main_v1, Read.val_main_v0, Read.val_main_v17, Read.val_main_v16, Read.val_main_v15, Read.val_main_cst_1, Read.val_main_v14, Read.val_main_v13]
  simp only [h0, h1, h2, ei, mul_one, ← EReal.coe_mul, Ideal.exp_coe, Ideal.cos_coe, Ideal.sin_coe]
theorem ref_v56 : Read.val_main_v56 (F := Ideal) x0 x1 x2 (ix2 g p) = (er a b s 512 : EReal) := by
  pointwise [Read.val_main_v56, Read.val_main_v50, Read.val_main_v49, Read.val_main_v48, Read.val_main_cst_4, Read.val_main_v47, Read.val_main_v46, Read.val_main_v1, Read.val_main_v0, Read.val_main_v55, Read.val_main_v54, Read.val_main_v53, Read.val_main_cst_5, Read.val_main_v52, Read.val_main_v51]
  simp only [h0, h1, h2, steps, er, mul_one, ← EReal.coe_mul, Ideal.exp_coe, Ideal.cos_coe, Ideal.sin_coe]
theorem ref_v62 : Read.val_main_v62 (F := Ideal) x0 x1 x2 (ix2 g p) = (ei a b s 512 : EReal) := by
  pointwise [Read.val_main_v62, Read.val_main_v50, Read.val_main_v49, Read.val_main_v48, Read.val_main_cst_4, Read.val_main_v47, Read.val_main_v46, Read.val_main_v1, Read.val_main_v0, Read.val_main_v61, Read.val_main_v60, Read.val_main_v59, Read.val_main_cst_6, Read.val_main_v58, Read.val_main_v57]
  simp only [h0, h1, h2, steps, ei, mul_one, ← EReal.coe_mul, Ideal.exp_coe, Ideal.cos_coe, Ideal.sin_coe]
include hn
theorem ref_v27 : Read.val_main_v27 (F := Ideal) x0 x1 x2 (ix2 g p) = (fr a b s : EReal) := by
  have e12 := ref_v12 x0 x1 x2 g a b s p h0 h1 h2
  have e18 := ref_v18 x0 x1 x2 g a b s p h0 h1 h2
  pointwise [Read.val_main_v27, Read.val_main_v26, Read.val_main_v24, Read.val_main_v23, Read.val_main_v22, Read.val_main_cst_2, Read.val_main_v25, Read.val_main_v21, Read.val_main_v19, Read.val_main_v20]
  simp only [h0, h1, e12, e18, ← EReal.coe_mul, ← EReal.coe_add, ← EReal.coe_sub, ← EReal.coe_one, Ideal.div_coe hn]
  refine congrArg Real.toEReal ?_
  rw [fr, mul_one_div]
theorem ref_v34 : Read.val_main_v34 (F := Ideal) x0 x1 x2 (ix2 g p) = (fi a b s : EReal) := by
  have e12 := ref_v12 x0 x1 x2 g a b s p h0 h1 h2
  have e18 := ref_v18 x0 x1 x2 g a b s p h0 h1 h2
  pointwise [Read.val_main_v34, Read.val_main_v33, Read.val_main_v29, Read.val_main_v32, Read.val_main_v31, Read.val_main_v30, Read.val_main_cst_3, Read.val_main_v21, Read.val_main_v19, Read.val_main_v20]
  simp only [h0, h1, e12, e18, ← EReal.coe_mul, ← EReal.coe_add, ← EReal.coe_sub, ← EReal.coe_one, Ideal.div_coe hn]
  refine congrArg Real.toEReal ?_
  rw [fi, mul_one_div]
end

section
variable (k : Fin 1024) (h0 : x0 (ix2 g ⟨k.val / 16, Nat.div_lt_of_lt_mul k.isLt⟩) = (a : EReal)) (h1 : x1 (ix2 g ⟨k.val / 16, Nat.div_lt_of_lt_mul k.isLt⟩) = (b : EReal))
  (h2 : x2 (ix1 g) = (s : EReal)) (hn : a * a + b * b ≠ 0)
include h0 h1 h2 hn
theorem ref_v63 : Read.val_main_v63 (F := Ideal) x0 x1 x2 x3 x4 (ix2 g k)
    = (fr a b s : EReal) * x3 (ix3 g ⟨k.val / 16, Nat.div_lt_of_lt_mul k.isLt⟩ ⟨k.val % 16, Nat.mod_lt _ (Nat.succ_pos 15)⟩) - (fi a b s : EReal) * x4 (ix3 g ⟨k.val / 16, Nat.div_lt_of_lt_mul k.isLt⟩ ⟨k.val % 16, Nat.mod_lt _ (Nat.succ_pos 15)⟩) := by
  have e27 := ref_v27 x0 x1 x2 g a b s _ h0 h1 h2 hn
  have e34 := ref_v34 x0 x1 x2 g a b s _ h0 h1 h2 hn
  pointwise [Read.val_main_v63, Read.val_main_v40, Read.val_main_v37, Read.val_main_v36, Read.val_main_v28, Read.val_main_v39, Read.val_main_v38, Read.val_main_v35]
  rw [e27, e34]
theorem ref_v64 : Read.val_main_v64 (F := Ideal) x0 x1 x2 x3 x4 (ix2 g k)
    = (fr a b s : EReal) * x4 (ix3 g ⟨k.val / 16, Nat.div_lt_of_lt_mul k.isLt⟩ ⟨k.val % 16, Nat.mod_lt _ (Nat.succ_pos 15)⟩) + (fi a b s : EReal) * x3 (ix3 g ⟨k.val / 16, Nat.div_lt_of_lt_mul k.isLt⟩ ⟨k.val % 16, Nat.mod_lt _ (Nat.succ_pos 15)⟩) := by
  have e27 := ref_v27 x0 x1 x2 g a b s _ h0 h1 h2 hn
  have e34 := ref_v34 x0 x1 x2 g a b s _ h0 h1 h2 hn
  pointwise [Read.val_main_v64, Read.val_main_v45, Read.val_main_v42, Read.val_main_v41, Read.val_main_v28, Read.val_main_v44, Read.val_main_v43, Read.val_main_v35]
  rw [e27, e34]
end
end

end Prep

end
-- ==== Proof.Prep.lean ====
module

public import proofs.«01_k».proof.Defs
public import proofs.«01_k».proof.Proof.Gen.PrepIdeal
public import proofs.«01_k».proof.Proof.Gen.PrepIdeal.Frame
public import proofs.«01_k».proof.Proof.Gen.PrepRefIdeal
public import proofs.«01_k».proof.Proof.Gen.PrepRefIdeal.Run
public import proofs.«01_k».proof.Proof.Gen.PrepRefIdeal.Read
public import proofs.«01_k».proof.Proof.Gen.Pre_prep_finite
public import proofs.«01_k».proof.Proof.PrepPure
public import proofs.«01_k».proof.Proof.Finite
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Prep

open Cert.PrepIdeal Cert.PrepIdeal.Gen

variable (m : (ℓ : Loc nD τ sig) → Buf (Elt Ideal) ℓ)

/-- Every window is its whole array. -/
theorem idx : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] :=
  (by decide +kernel : ∀ t : Fin grid0.N, _)

abbrev arg0 (c : Dev nD) : FVec Ideal S64x64 .f32 := m ((c : Thread nD τ).loc main_arg0)
abbrev arg1 (c : Dev nD) : FVec Ideal S64x64 .f32 := m ((c : Thread nD τ).loc main_arg1)
abbrev arg2 (c : Dev nD) : FVec Ideal S64 .f32 := m ((c : Thread nD τ).loc main_arg2)
abbrev arg3 (c : Dev nD) : FVec Ideal S64x64x16 .f32 := m ((c : Thread nD τ).loc main_arg3)
abbrev arg4 (c : Dev nD) : FVec Ideal S64x64x16 .f32 := m ((c : Thread nD τ).loc main_arg4)

/-! ## The precondition -/

/-- The eigenvalue of state `p` of group `g` and the step's logarithm are real, and the eigenvalue is not zero. -/
def Reals (c : Dev nD) : Prop :=
  ∀ g p, ∃ a b s : ℝ, arg0 m c (ix2 g p) = (a : EReal) ∧ arg1 m c (ix2 g p) = (b : EReal) ∧ arg2 m c (ix1 g) = (s : EReal)
    ∧ a * a + b * b ≠ 0

theorem reals_of_pre (h : Cert.Pre_PrepIdeal_prep_finite m) (c : Dev nD) : Reals m c := by
  obtain ⟨h0, h1, h2, h3⟩ := h c
  intro g p
  obtain ⟨a, ea⟩ := Finite.real_of_cmp ((show _ = _ by pointwise [Cert.Pre_prep_finite.fn]; rfl).trans (congrFun h0 (ix2 g p)))
  obtain ⟨b, eb⟩ := Finite.real_of_cmp ((show _ = _ by pointwise [Cert.Pre_prep_finite.fn]; rfl).trans (congrFun h1 (ix2 g p)))
  obtain ⟨s, es⟩ := Finite.real_of_cmp ((show _ = _ by pointwise [Cert.Pre_prep_finite.fn]; rfl).trans (congrFun h2 (ix1 g)))
  have e : Ideal.cmp .ogt (arg0 m c (ix2 g p) * arg0 m c (ix2 g p) + arg1 m c (ix2 g p) * arg1 m c (ix2 g p)) 0 = 1#1 :=
    (show _ = _ by pointwise [Cert.Pre_prep_finite.fn]).trans (congrFun h3 (ix2 g p))
  rw [show (1#1 : BitVec 1) = 1 from rfl, Ideal.cmp_ogt_eq_one] at e
  refine ⟨a, b, s, ea, eb, es, ?_⟩
  rw [show arg0 m c (ix2 g p) = (a : EReal) from ea, show arg1 m c (ix2 g p) = (b : EReal) from eb, ← EReal.coe_mul, ← EReal.coe_mul,
    ← EReal.coe_add, ← EReal.coe_zero, EReal.coe_lt_coe_iff] at e
  exact e.ne'

/-! ## The blocks read from the argument arrays -/

section
variable {m} {c : Dev nD} (t : Fin cfg0.N) (g p : Fin 64) (k : Fin 1024)

theorem rd0 : (show EReal from iblk m c 0 t (ix2 g p)) = arg0 m c (ix2 g p) := by blk_point [iblk, V, idx t]
theorem rd1 : (show EReal from iblk m c 1 t (ix2 g p)) = arg1 m c (ix2 g p) := by blk_point [iblk, V, idx t]
theorem rd2 : (show EReal from iblk m c 2 t (ix2 g 0)) = arg2 m c (ix1 g) := by blk_point [iblk, V, idx t]
theorem rd3 : (show EReal from iblk m c 3 t (ix2 g k)) = arg0 m c (ix2 g ⟨k.val / 16, Nat.div_lt_of_lt_mul k.isLt⟩) := by blk_point [iblk, V, idx t]
theorem rd4 : (show EReal from iblk m c 4 t (ix2 g k)) = arg1 m c (ix2 g ⟨k.val / 16, Nat.div_lt_of_lt_mul k.isLt⟩) := by blk_point [iblk, V, idx t]
theorem rd5 : (show EReal from iblk m c 5 t (ix2 g k)) = arg3 m c (ix3 g ⟨k.val / 16, Nat.div_lt_of_lt_mul k.isLt⟩ ⟨k.val % 16, Nat.mod_lt _ (Nat.succ_pos 15)⟩) := by
  blk_point [iblk, V, idx t]
theorem rd6 : (show EReal from iblk m c 6 t (ix2 g k)) = arg4 m c (ix3 g ⟨k.val / 16, Nat.div_lt_of_lt_mul k.isLt⟩ ⟨k.val % 16, Nat.mod_lt _ (Nat.succ_pos 15)⟩) := by
  blk_point [iblk, V, idx t]
end

/-! ## The results -/

section
variable {m} {c : Dev nD} (hR : Reals m c)
include hR

theorem final7 : (dats m 0 c).arrAt 7 (cfgs 0).N = Cert.PrepRefIdeal.Read.val_main_v12 (F := Ideal) (arg0 m c) (arg1 m c) (arg2 m c) := by
  refine (dats m 0 c).arrAt_eq_of_covers 7 _ (by decide +kernel) fun t _ y => ?_
  blk_simp
  rw [after0_7]
  unfold_out out0_7
  frame_out
  idx_vars y
  have e : ((cfg0.win 7).blk t).view.emb (ix2 y0 y1) = ix2 y0 y1 := by
    refine (eq_ix2 _).trans (congrArg₂ ix2 (Fin.ext ?_) (Fin.ext ?_)) <;> blk_simp [idx t]
  rw [e]
  obtain ⟨a, b, s, ha, hb, hs, hn⟩ := hR y0 y1
  exact (lam_re (iblk m c 2 t) (iblk m c 0 t) (iblk m c 1 t) y0 y1 a b s ((rd2 t y0).trans hs) ((rd0 t y0 y1).trans ha) ((rd1 t y0 y1).trans hb)).trans
    (ref_v12 (arg0 m c) (arg1 m c) (arg2 m c) y0 a b s y1 ha hb hs).symm
theorem final8 : (dats m 0 c).arrAt 8 (cfgs 0).N = Cert.PrepRefIdeal.Read.val_main_v18 (F := Ideal) (arg0 m c) (arg1 m c) (arg2 m c) := by
  refine (dats m 0 c).arrAt_eq_of_covers 8 _ (by decide +kernel) fun t _ y => ?_
  blk_simp
  rw [after0_8]
  unfold_out out0_8
  frame_out
  idx_vars y
  have e : ((cfg0.win 8).blk t).view.emb (ix2 y0 y1) = ix2 y0 y1 := by
    refine (eq_ix2 _).trans (congrArg₂ ix2 (Fin.ext ?_) (Fin.ext ?_)) <;> blk_simp [idx t]
  rw [e]
  obtain ⟨a, b, s, ha, hb, hs, hn⟩ := hR y0 y1
  exact (lam_im (iblk m c 2 t) (iblk m c 0 t) (iblk m c 1 t) y0 y1 a b s ((rd2 t y0).trans hs) ((rd0 t y0 y1).trans ha) ((rd1 t y0 y1).trans hb)).trans
    (ref_v18 (arg0 m c) (arg1 m c) (arg2 m c) y0 a b s y1 ha hb hs).symm
theorem final9 : (dats m 0 c).arrAt 9 (cfgs 0).N = Cert.PrepRefIdeal.Read.val_main_v56 (F := Ideal) (arg0 m c) (arg1 m c) (arg2 m c) := by
  refine (dats m 0 c).arrAt_eq_of_covers 9 _ (by decide +kernel) fun t _ y => ?_
  blk_simp
  rw [after0_9]
  unfold_out out0_9
  frame_out
  idx_vars y
  have e : ((cfg0.win 9).blk t).view.emb (ix2 y0 y1) = ix2 y0 y1 := by
    refine (eq_ix2 _).trans (congrArg₂ ix2 (Fin.ext ?_) (Fin.ext ?_)) <;> blk_simp [idx t]
  rw [e]
  obtain ⟨a, b, s, ha, hb, hs, hn⟩ := hR y0 y1
  exact ((then4_re _ _ y0 y1 a b s 32 (first5_re (iblk m c 2 t) (iblk m c 0 t) (iblk m c 1 t) y0 y1 a b s ((rd2 t y0).trans hs) ((rd0 t y0 y1).trans ha) ((rd1 t y0 y1).trans hb))
      (first5_im (iblk m c 2 t) (iblk m c 0 t) (iblk m c 1 t) y0 y1 a b s ((rd2 t y0).trans hs) ((rd0 t y0 y1).trans ha) ((rd1 t y0 y1).trans hb))).trans (by norm_num)).trans
    (ref_v56 (arg0 m c) (arg1 m c) (arg2 m c) y0 a b s y1 ha hb hs).symm
theorem final10 : (dats m 0 c).arrAt 10 (cfgs 0).N = Cert.PrepRefIdeal.Read.val_main_v62 (F := Ideal) (arg0 m c) (arg1 m c) (arg2 m c) := by
  refine (dats m 0 c).arrAt_eq_of_covers 10 _ (by decide +kernel) fun t _ y => ?_
  blk_simp
  rw [after0_10]
  unfold_out out0_10
  frame_out
  idx_vars y
  have e : ((cfg0.win 10).blk t).view.emb (ix2 y0 y1) = ix2 y0 y1 := by
    refine (eq_ix2 _).trans (congrArg₂ ix2 (Fin.ext ?_) (Fin.ext ?_)) <;> blk_simp [idx t]
  rw [e]
  obtain ⟨a, b, s, ha, hb, hs, hn⟩ := hR y0 y1
  exact ((then4_im _ _ y0 y1 a b s 32 (first5_re (iblk m c 2 t) (iblk m c 0 t) (iblk m c 1 t) y0 y1 a b s ((rd2 t y0).trans hs) ((rd0 t y0 y1).trans ha) ((rd1 t y0 y1).trans hb))
      (first5_im (iblk m c 2 t) (iblk m c 0 t) (iblk m c 1 t) y0 y1 a b s ((rd2 t y0).trans hs) ((rd0 t y0 y1).trans ha) ((rd1 t y0 y1).trans hb))).trans (by norm_num)).trans
    (ref_v62 (arg0 m c) (arg1 m c) (arg2 m c) y0 a b s y1 ha hb hs).symm
theorem final11 : (dats m 0 c).arrAt 11 (cfgs 0).N = Cert.PrepRefIdeal.Read.val_main_v63 (F := Ideal) (arg0 m c) (arg1 m c) (arg2 m c) (arg3 m c) (arg4 m c) := by
  refine (dats m 0 c).arrAt_eq_of_covers 11 _ (by decide +kernel) fun t _ y => ?_
  blk_simp
  rw [after0_11]
  unfold_out out0_11
  frame_out
  idx_vars y
  have e : ((cfg0.win 11).blk t).view.emb (ix2 y0 y1) = ix2 y0 y1 := by
    refine (eq_ix2 _).trans (congrArg₂ ix2 (Fin.ext ?_) (Fin.ext ?_)) <;> blk_simp [idx t]
  rw [e]
  obtain ⟨a, b, s, ha, hb, hs, hn⟩ := hR y0 ⟨y1.val / 16, Nat.div_lt_of_lt_mul y1.isLt⟩
  refine (input_re (iblk m c 2 t) (iblk m c 3 t) (iblk m c 4 t) (iblk m c 5 t) (iblk m c 6 t) y0 y1 a b s ((rd2 t y0).trans hs)
    ((rd3 t y0 y1).trans ha) ((rd4 t y0 y1).trans hb) hn).trans ?_
  exact (congrArg₂ (fun u w : EReal => (fr a b s : EReal) * u - (fi a b s : EReal) * w) (rd5 t y0 y1) (rd6 t y0 y1)).trans
    (ref_v63 (arg0 m c) (arg1 m c) (arg2 m c) (arg3 m c) (arg4 m c) y0 a b s y1 ha hb hs hn).symm
theorem final12 : (dats m 0 c).arrAt 12 (cfgs 0).N = Cert.PrepRefIdeal.Read.val_main_v64 (F := Ideal) (arg0 m c) (arg1 m c) (arg2 m c) (arg3 m c) (arg4 m c) := by
  refine (dats m 0 c).arrAt_eq_of_covers 12 _ (by decide +kernel) fun t _ y => ?_
  blk_simp
  rw [after0_12]
  unfold_out out0_12
  frame_out
  idx_vars y
  have e : ((cfg0.win 12).blk t).view.emb (ix2 y0 y1) = ix2 y0 y1 := by
    refine (eq_ix2 _).trans (congrArg₂ ix2 (Fin.ext ?_) (Fin.ext ?_)) <;> blk_simp [idx t]
  rw [e]
  obtain ⟨a, b, s, ha, hb, hs, hn⟩ := hR y0 ⟨y1.val / 16, Nat.div_lt_of_lt_mul y1.isLt⟩
  refine (input_im (iblk m c 2 t) (iblk m c 3 t) (iblk m c 4 t) (iblk m c 5 t) (iblk m c 6 t) y0 y1 a b s ((rd2 t y0).trans hs)
    ((rd3 t y0 y1).trans ha) ((rd4 t y0 y1).trans hb) hn).trans ?_
  exact (congrArg₂ (fun u w : EReal => (fr a b s : EReal) * u + (fi a b s : EReal) * w) (rd6 t y0 y1) (rd5 t y0 y1)).trans
    (ref_v64 (arg0 m c) (arg1 m c) (arg2 m c) (arg3 m c) (arg4 m c) y0 a b s y1 ha hb hs hn).symm
end

set_option maxHeartbeats 4000000 in
/-- What the kernel leaves in its six results is what the reference computes. -/
theorem algebraic : Cert.algebraic_PrepIdeal_PrepRefIdeal_pre_prep_finite := by
  intro m g m' g' hpre hagree
  have hR := reals_of_pre m hpre
  refine ⟨fun c => Cert.PrepRefIdeal.Read.val_main_v12 (F := Ideal) (arg0 m c) (arg1 m c) (arg2 m c), fun c => Cert.PrepRefIdeal.Read.val_main_v18 (F := Ideal) (arg0 m c) (arg1 m c) (arg2 m c), fun c => Cert.PrepRefIdeal.Read.val_main_v56 (F := Ideal) (arg0 m c) (arg1 m c) (arg2 m c), fun c => Cert.PrepRefIdeal.Read.val_main_v62 (F := Ideal) (arg0 m c) (arg1 m c) (arg2 m c),
    fun c => Cert.PrepRefIdeal.Read.val_main_v63 (F := Ideal) (arg0 m c) (arg1 m c) (arg2 m c) (arg3 m c) (arg4 m c), fun c => Cert.PrepRefIdeal.Read.val_main_v64 (F := Ideal) (arg0 m c) (arg1 m c) (arg2 m c) (arg3 m c) (arg4 m c), ?_, ?_⟩
  · run_from Cert.PrepIdeal.Gen.run_main m g
    · exact final7 (hR c)
    · exact final8 (hR c)
    · exact final9 (hR c)
    · exact final10 (hR c)
    · exact final11 (hR c)
    · exact final12 (hR c)
  · refine (θ_run Cert.PrepRefIdeal.defs _ _).mono (fun r h c => ?_) (Cert.PrepRefIdeal.Value.run (F := Ideal) m' g')
    obtain ⟨h12, h18, h56, h62, h63, h64, hr⟩ := h c
    obtain ⟨e0, e1, e2, e3, e4⟩ := hagree c
    rw [Cert.PrepRefIdeal.Read.val_main_v12_eq, e0, e1, e2] at h12
    rw [Cert.PrepRefIdeal.Read.val_main_v18_eq, e0, e1, e2] at h18
    rw [Cert.PrepRefIdeal.Read.val_main_v56_eq, e0, e1, e2] at h56
    rw [Cert.PrepRefIdeal.Read.val_main_v62_eq, e0, e1, e2] at h62
    rw [Cert.PrepRefIdeal.Read.val_main_v63_eq, e0, e1, e2, e3, e4] at h63
    rw [Cert.PrepRefIdeal.Read.val_main_v64_eq, e0, e1, e2, e3, e4] at h64
    exact ⟨h12, h18, h56, h62, h63, h64, hr⟩

end Prep

end
-- ==== Proof.Rope.lean ====
module

public import proofs.«01_k».proof.Defs
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Run
public import proofs.«01_k».proof.Proof.Gen.RopeRefIdeal.Read
public import Idealize.ShloMosaic.Lib.Pipeline.ValueKit
public import Idealize.ShloMosaic.Lib.Pointwise
public import Idealize.ShloMosaic.Lib.StableHlo.ReadAt

@[expose] public section

set_option maxRecDepth 16384

noncomputable section

open Idealize.ShloMosaic Idealize.ShloMosaic.TcCoe Idealize.SL.Sem
open Idealize.ShloMosaic.Pipeline (Dat)

/-! The rotary table: what the kernel leaves in its result is what the reference computes. -/

namespace RopeTab

section
open Cert.RopeRefIdeal

variable (x0 : (⟨S4096, .i32⟩ : BufTy).Contents (Elt Ideal))

/-- The angle of a row, at a frequency. -/
def ang (r : Fin 4096) (i : Fin 32) : EReal := Read.val_main_v10 (F := Ideal) x0 (ix1 r) * Read.val_main_v9 (F := Ideal) (ix1 i)

theorem ref_tab (r : Fin 4096) (l : Fin 256) : Read.val_main_v24 (F := Ideal) x0 (ix2 r l)
    = if l.val < 128 then Ideal.cos (ang x0 r ⟨l.val % 32, by omega⟩) else Ideal.sin (ang x0 r ⟨(l.val - 128) % 32, by omega⟩) := by
  unfold ang
  pointwise [Read.val_main_v24, Read.val_main_v23, Read.val_main_v22, Read.val_main_v21, Read.val_main_v20, Read.val_main_v19, Read.val_main_v18, Read.val_main_v17, Read.val_main_v16, Read.val_main_v15, Read.val_main_v14, Read.val_main_v13, Read.val_main_v12, Read.val_main_v11]
  by_cases h : l.val < 128
  · rw [dif_pos h, if_pos h]
  · rw [dif_neg h, if_neg h]
end

section
open Cert.RopeIdeal Cert.RopeIdeal.Gen

variable (m : (ℓ : Loc nD τ sig) → Buf (Elt Ideal) ℓ)

theorem pay_tab (p : FVec Ideal S512x1 .f32) (f : FVec Ideal S1x128 .f32) (r : Fin 512) (l : Fin 256) : k0_pay1 (F := Ideal) p f (ix2 r l)
    = if h : l.val < 128 then Ideal.cos (p (ix2 r 0) * f (ix2 0 ⟨l.val, h⟩) : EReal)
      else Ideal.sin (p (ix2 r 0) * f (ix2 0 ⟨l.val - 128, by omega⟩) : EReal) := by
  pointwise [k0_pay1]

/-- Where each window's block sits, at every grid point. -/
theorem idx : ∀ t : Fin cfg0.N, win0_0.index t = ![t.val, 0] ∧ win0_1.index t = ![0, 0] ∧ win0_2.index t = ![t.val, 0] :=
  (by decide +kernel : ∀ t : Fin grid0.N, _)

abbrev arg0 (c : Dev nD) : IVec S4096 32 := m ((c : Thread nD τ).loc main_arg0)

/-- The block's rows are the array's, at the rows of the block. -/
theorem row_lt (t : Fin cfg0.N) (r : Fin 512) : t.val * 512 + r.val < 4096 := by
  have := t.isLt.trans_eq N_0; omega

theorem host_pos (c : Dev nD) (r : Fin 4096) : (V m c main_v11 : FVec Ideal S4096x1 .f32) (ix2 r 0)
    = Cert.RopeRefIdeal.Read.val_main_v10 (F := Ideal) (arg0 m c) (ix1 r) := by
  unfold V
  after_reads_at
  rfl

theorem host_freq (c : Dev nD) (l : Fin 128) : (V m c main_v15 : FVec Ideal S1x128 .f32) (ix2 0 l)
    = Cert.RopeRefIdeal.Read.val_main_v9 (F := Ideal) (ix1 ⟨l.val % 32, by omega⟩) := by
  unfold V
  after_reads_at
  pointwise [Cert.RopeRefIdeal.Read.val_main_v9, Cert.RopeRefIdeal.Read.val_main_v8, Cert.RopeRefIdeal.Read.val_main_cst_2, Cert.RopeRefIdeal.Read.val_main_v7, Cert.RopeRefIdeal.Read.val_main_v6, Cert.RopeRefIdeal.Read.val_main_cst_1, Cert.RopeRefIdeal.Read.val_main_v5, Cert.RopeRefIdeal.Read.val_main_v4, Cert.RopeRefIdeal.Read.val_main_v3, Cert.RopeRefIdeal.Read.val_main_cst_0, Cert.RopeRefIdeal.Read.val_main_v2, Cert.RopeRefIdeal.Read.val_main_v1, Cert.RopeRefIdeal.Read.val_main_cst, Cert.RopeRefIdeal.Read.val_main_v0]

theorem blk_pos (c : Dev nD) (t : Fin cfg0.N) (r : Fin 512) : (show EReal from iblk m c 0 t (ix2 r 0))
    = Cert.RopeRefIdeal.Read.val_main_v10 (F := Ideal) (arg0 m c) (ix1 ⟨_, row_lt t r⟩) := by
  rw [← host_pos]
  blk_ext [iblk, idx t]

theorem blk_freq (c : Dev nD) (t : Fin cfg0.N) (l : Fin 128) : (show EReal from iblk m c 1 t (ix2 0 l))
    = Cert.RopeRefIdeal.Read.val_main_v9 (F := Ideal) (ix1 ⟨l.val % 32, by omega⟩) := by
  rw [← host_freq]
  blk_ext [iblk, idx t]

theorem final2 (c : Dev nD) : (dats m 0 c).arrAt 2 (cfgs 0).N = Cert.RopeRefIdeal.Read.val_main_v24 (F := Ideal) (arg0 m c) := by
  refine (dats m 0 c).arrAt_eq_of_covers 2 _ (by decide +kernel) fun t _ y => ?_
  blk_simp
  rw [after0_2]
  unfold out0_2
  frame_out
  idx_vars y
  have e : ((cfg0.win 2).blk t).view.emb (ix2 y0 y1) = ix2 ⟨_, row_lt t y0⟩ y1 := by
    refine (eq_ix2 _).trans (congrArg₂ ix2 (Fin.ext ?_) (Fin.ext ?_)) <;> blk_simp [idx t]
  rw [e, ref_tab]
  refine (pay_tab _ _ _ _).trans ?_
  unfold ang
  by_cases h : y1.val < 128
  · rw [dif_pos h, if_pos h]
    exact congrArg Ideal.cos (congrArg₂ (· * ·) (blk_pos m c t y0) (blk_freq m c t _))
  · rw [dif_neg h, if_neg h]
    exact congrArg Ideal.sin (congrArg₂ (· * ·) (blk_pos m c t y0) (blk_freq m c t _))

/-- What the kernel leaves in its result is what the reference computes. -/
theorem algebraic : Cert.algebraic_RopeIdeal_RopeRefIdeal := by
  intro m g m' g' hpre hagree
  refine ⟨fun c => Cert.RopeRefIdeal.Read.val_main_v24 (F := Ideal) (arg0 m c), ?_, ?_⟩
  · run_from Cert.RopeIdeal.Gen.run_main m g
    · exact final2 m c
  · refine (θ_run Cert.RopeRefIdeal.defs _ _).mono (fun r h c => ?_) (Cert.RopeRefIdeal.Value.run (F := Ideal) m' g')
    obtain ⟨h24, hr⟩ := h c
    rw [Cert.RopeRefIdeal.Read.val_main_v24_eq, hagree c] at h24
    exact ⟨h24, hr⟩
end

end RopeTab
-- ==== Proof.GradIn.lean ====
module

public import proofs.«01_k».proof.Defs
public import proofs.«01_k».proof.Proof.Gen.GradInIdeal
public import proofs.«01_k».proof.Proof.Gen.GradInIdeal.Skeleton
public import proofs.«01_k».proof.Proof.Gen.GradInIdeal.Frame
public import proofs.«01_k».proof.Proof.Gen.GradInIdeal.Value
public import proofs.«01_k».proof.Proof.Gen.GradInRefIdeal
public import proofs.«01_k».proof.Proof.Gen.GradInRefIdeal.Run
public import proofs.«01_k».proof.Proof.Gen.GradInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The gradient of the input weight, in four slabs of columns: the blocks of the product of the saved rows,
transposed, with the cotangent. -/

namespace GradIn

section
open Cert.GradInRefIdeal

theorem ref_prod (x : FVec Ideal S4096x2048 .bf16) (y : FVec Ideal S4096x4608 .bf16) (s : Fin 4) (k : Fin 2048) (l : Fin 1152) :
    Read.val_main_v7 (F := Ideal) x y (ix3 s k l) = ∑ r : Fin 4096, x (ix2 r k) * y (ix2 r ⟨s.val * 1152 + l.val, by omega⟩) := by
  pointwise [Read.val_main_v7, Read.val_main_v6, Read.val_main_v5, Read.val_main_v4, Read.val_main_v3, Read.val_main_v1]
  exact Finset.sum_congr rfl fun _ _ => mul_comm _ _

end

section
open Cert.GradInIdeal Cert.GradInIdeal.Gen

variable (m : (ℓ : Loc nD τ sig) → Buf (Elt Ideal) ℓ)

theorem pay_prod (x : FVec Ideal S4096x512 .bf16) (y : FVec Ideal S4096x1152 .bf16) (z : Fin 1) (k : Fin 512) (l : Fin 1152) :
    k0_pay2 (F := Ideal) x y (ix3 z k l) = ∑ r : Fin 4096, x (ix2 r k) * y (ix2 r l) := by
  pointwise [k0_pay2, k0_pay1]

/-- Where each window's block sits, at every grid point. -/
theorem idx : ∀ t : Fin cfg0.N, win0_0.index t = ![0, t.val % 4] ∧ win0_1.index t = ![0, t.val / 4]
    ∧ win0_2.index t = ![t.val / 4, t.val % 4, 0] ∧ win0_3.index t = ![t.val / 4, t.val % 4, 0] :=
  (by decide +kernel : ∀ t : Fin grid0.N, _)

theorem slab_lt (t : Fin cfg0.N) : t.val / 4 < 4 := by
  have := t.isLt.trans_eq N_0; omega

theorem left_lt (t : Fin cfg0.N) (k : Fin 512) : t.val % 4 * 512 + k.val < 2048 := by omega

theorem right_lt (t : Fin cfg0.N) (l : Fin 1152) : t.val / 4 * 1152 + l.val < 4608 := by
  have := slab_lt t; omega

abbrev arg0 (c : Dev nD) : FVec Ideal S4096x2048 .bf16 := m ((c : Thread nD τ).loc main_arg0)
abbrev arg1 (c : Dev nD) : FVec Ideal S4096x4608 .bf16 := m ((c : Thread nD τ).loc main_arg1)

theorem blk_left (c : Dev nD) (t : Fin cfg0.N) (r : Fin 4096) (k : Fin 512) : (show EReal from iblk m c 0 t (ix2 r k))
    = arg0 m c (ix2 r ⟨_, left_lt t k⟩) := by
  blk_ext [iblk, V, idx t]

theorem blk_right (c : Dev nD) (t : Fin cfg0.N) (r : Fin 4096) (l : Fin 1152) : (show EReal from iblk m c 1 t (ix2 r l))
    = arg1 m c (ix2 r ⟨_, right_lt t l⟩) := by
  blk_ext [iblk, V, idx t]

/-- The block a grid point writes is the reference's, slab and rows at the point. -/
theorem point (c : Dev nD) (t : Fin cfg0.N) (y0 : Fin 1) (y1 : Fin 512) (y2 : Fin 1152) :
    k0_pay2 (F := Ideal) (iblk m c 0 t) (iblk m c 1 t) (ix3 y0 y1 y2)
      = Cert.GradInRefIdeal.Read.val_main_v7 (F := Ideal) (arg0 m c) (arg1 m c) (ix3 ⟨_, slab_lt t⟩ ⟨_, left_lt t y1⟩ y2) := by
  rw [ref_prod]
  exact (pay_prod _ _ _ _ _).trans (Finset.sum_congr rfl fun r _ => congrArg₂ (· * ·) (blk_left m c t r y1) (blk_right m c t r y2))

theorem final2 (c : Dev nD) : (dats m 0 c).arrAt 2 (cfgs 0).N
    = Cert.GradInRefIdeal.Read.val_main_v7 (F := Ideal) (arg0 m c) (arg1 m c) := by
  refine (dats m 0 c).arrAt_eq_of_covers 2 _ (by decide +kernel) fun t _ y => ?_
  blk_simp
  rw [after0_2]
  unfold out0_2
  frame_out
  idx_vars y
  have e : ((cfg0.win 2).blk t).view.emb (ix3 y0 y1 y2) = ix3 ⟨_, slab_lt t⟩ ⟨_, left_lt t y1⟩ y2 := by
    refine (eq_ix3 _).trans (congr (congrArg₂ ix3 (Fin.ext ?_) (Fin.ext ?_)) (Fin.ext ?_)) <;> blk_simp [idx t]
  rw [e]
  exact point m c t y0 y1 y2

theorem final3 (c : Dev nD) : (dats m 0 c).arrAt 3 (cfgs 0).N
    = Cert.GradInRefIdeal.Read.val_main_v8 (F := Ideal) (arg0 m c) (arg1 m c) := by
  refine (dats m 0 c).arrAt_eq_of_covers 3 _ (by decide +kernel) fun t _ y => ?_
  blk_simp
  rw [after0_3]
  unfold out0_3
  frame_out
  idx_vars y
  have e : ((cfg0.win 3).blk t).view.emb (ix3 y0 y1 y2) = ix3 ⟨_, slab_lt t⟩ ⟨_, left_lt t y1⟩ y2 := by
    refine (eq_ix3 _).trans (congr (congrArg₂ ix3 (Fin.ext ?_) (Fin.ext ?_)) (Fin.ext ?_)) <;> blk_simp [idx t]
  rw [e]
  exact point m c t y0 y1 y2

/-- What the kernel leaves in its two results is what the reference computes. -/
theorem algebraic : Cert.algebraic_GradInIdeal_GradInRefIdeal := by
  intro m g m' g' hpre hagree
  refine ⟨fun c => Cert.GradInRefIdeal.Read.val_main_v7 (F := Ideal) (arg0 m c) (arg1 m c),
    fun c => Cert.GradInRefIdeal.Read.val_main_v8 (F := Ideal) (arg0 m c) (arg1 m c), ?_, ?_⟩
  · run_from Cert.GradInIdeal.Gen.run_main m g
    · exact final2 m c
    · exact final3 m c
  · refine (θ_run Cert.GradInRefIdeal.defs _ _).mono (fun r h c => ?_) (Cert.GradInRefIdeal.Value.run (F := Ideal) m' g')
    obtain ⟨h0, h1, hr⟩ := h c
    obtain ⟨e0, e1⟩ := hagree c
    rw [Cert.GradInRefIdeal.Read.val_main_v7_eq, e0, e1] at h0
    rw [Cert.GradInRefIdeal.Read.val_main_v8_eq, e0, e1] at h1
    exact ⟨h0, h1, hr⟩
end

end GradIn
-- ==== Proof.Adam.lean ====
module

public import proofs.«01_k».proof.Defs
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Run
public import proofs.«01_k».proof.Proof.Gen.AdamSmallRefIdeal.Read
public import proofs.«01_k».proof.Proof.Gen.AdamBIdeal
public import proofs.«01_k».proof.Proof.Gen.AdamBIdeal.Frame
public import proofs.«01_k».proof.Proof.Gen.AdamBIdeal.Value
public import proofs.«01_k».proof.Proof.Gen.AdamBRefIdeal
public import proofs.«01_k».proof.Proof.Gen.AdamBRefIdeal.Run
public import proofs.«01_k».proof.Proof.Gen.AdamBRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! One step of the optimiser, entry by entry, on two shapes: what the kernel leaves in its three
results is what the reference computes. -/

namespace AdamSmall
open Cert.AdamSmallIdeal

theorem algebraic : Cert.algebraic_AdamSmallIdeal_AdamSmallRefIdeal := by
  intro m g m' g' hpre hagree
  refine ⟨fun c => Cert.AdamSmallRefIdeal.Read.val_main_v23 (F := Ideal) (m ((c : Thread Cert.AdamSmallIdeal.nD Cert.AdamSmallIdeal.τ).loc Cert.AdamSmallIdeal.main_arg0)) (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg2)) (m ((c : Thread Cert.AdamSmallIdeal.nD Cert.AdamSmallIdeal.τ).loc Cert.AdamSmallIdeal.main_arg3)),
    fun c => Cert.AdamSmallRefIdeal.Read.val_main_v4 (F := Ideal) (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg2)),
    fun c => Cert.AdamSmallRefIdeal.Read.val_main_v10 (F := Ideal) (m ((c : Thread Cert.AdamSmallIdeal.nD Cert.AdamSmallIdeal.τ).loc Cert.AdamSmallIdeal.main_arg1)) (m ((c : Thread Cert.AdamSmallIdeal.nD Cert.AdamSmallIdeal.τ).loc Cert.AdamSmallIdeal.main_arg3)), ?_, ?_⟩
  · refine (θ_run Cert.AdamSmallIdeal.defs _ _).mono (fun r h c => ?_) (Cert.AdamSmallIdeal.Value.run (F := Ideal) m g)
    obtain ⟨h0, h1, h2, hr⟩ := h c
    exact ⟨h0.trans rfl, h1.trans rfl, h2.trans rfl, hr⟩
  · refine (θ_run Cert.AdamSmallRefIdeal.defs _ _).mono (fun r h c => ?_) (Cert.AdamSmallRefIdeal.Value.run (F := Ideal) m' g')
    obtain ⟨h0, h1, h2, hr⟩ := h c
    obtain ⟨e0, e1, e2, e3⟩ := hagree c
    rw [Cert.AdamSmallRefIdeal.Read.val_main_v23_eq, e0, e1, e2, e3] at h0
    rw [Cert.AdamSmallRefIdeal.Read.val_main_v4_eq, e1, e2] at h1
    rw [Cert.AdamSmallRefIdeal.Read.val_main_v10_eq, e1, e3] at h2
    exact ⟨h0, h1, h2, hr⟩

end AdamSmall

namespace AdamB
open Cert.AdamBIdeal

theorem algebraic : Cert.algebraic_AdamBIdeal_AdamBRefIdeal := by
  intro m g m' g' hpre hagree
  refine ⟨fun c => Cert.AdamBRefIdeal.Read.val_main_v23 (F := Ideal) (m ((c : Thread Cert.AdamBIdeal.nD Cert.AdamBIdeal.τ).loc Cert.AdamBIdeal.main_arg0)) (m ((c : Thread Cert.AdamBIdeal.nD Cert.AdamBIdeal.τ).loc Cert.AdamBIdeal.main_arg1)) (m ((c : Thread Cert.AdamBIdeal.nD Cert.AdamBIdeal.τ).loc Cert.AdamBIdeal.main_arg2)) (m ((c : Thread Cert.AdamBIdeal.nD Cert.AdamBIdeal.τ).loc Cert.AdamBIdeal.main_arg3)),
    fun c => Cert.AdamBRefIdeal.Read.val_main_v4 (F := Ideal) (m ((c : Thread Cert.AdamBIdeal.nD Cert.AdamBIdeal.τ).loc Cert.AdamBIdeal.main_arg1)) (m ((c : Thread Cert.AdamBIdeal.nD Cert.AdamBIdeal.τ).loc Cert.AdamBIdeal.main_arg2)),
    fun c => Cert.AdamBRefIdeal.Read.val_main_v10 (F := Ideal) (m ((c : Thread Cert.AdamBIdeal.nD Cert.AdamBIdeal.τ).loc Cert.AdamBIdeal.main_arg1)) (m ((c : Thread Cert.AdamBIdeal.nD Cert.AdamBIdeal.τ).loc Cert.AdamBIdeal.main_arg3)), ?_, ?_⟩
  · refine (θ_run Cert.AdamBIdeal.defs _ _).mono (fun r h c => ?_) (Cert.AdamBIdeal.Value.run (F := Ideal) m g)
    obtain ⟨h0, h1, h2, hr⟩ := h c
    exact ⟨h0.trans rfl, h1.trans rfl, h2.trans rfl, hr⟩
  · refine (θ_run Cert.AdamBRefIdeal.defs _ _).mono (fun r h c => ?_) (Cert.AdamBRefIdeal.Value.run (F := Ideal) m' g')
    obtain ⟨h0, h1, h2, hr⟩ := h c
    obtain ⟨e0, e1, e2, e3⟩ := hagree c
    rw [Cert.AdamBRefIdeal.Read.val_main_v23_eq, e0, e1, e2, e3] at h0
    rw [Cert.AdamBRefIdeal.Read.val_main_v4_eq, e1, e2] at h1
    rw [Cert.AdamBRefIdeal.Read.val_main_v10_eq, e1, e3] at h2
    exact ⟨h0, h1, h2, hr⟩

end AdamB
-- ==== Proof.AdamIn.lean ====
module

public import proofs.«01_k».proof.Defs
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamInRefIdeal.Run
public import proofs.«01_k».proof.Proof.Gen.AdamInRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! One step of the optimiser where the gradient comes as two halves, a device's own half named by an index. -/

namespace AdamIn
open Cert.AdamInIdeal Cert.AdamInIdeal.Gen

variable (m : (ℓ : Loc nD τ sig) → Buf (Elt Ideal) ℓ)

theorem ok : Ok m := trivial

/-- The index, as the program finds it. -/
abbrev word (c : Dev nD) : BitVec 32 := m ((c : Thread nD τ).loc main_arg0) (ix1 (0 : Fin 1))

/-- The kernel's read of the index. -/
theorem word_eq (c : Dev nD) : View.readAt (Elt Ideal) (View.whole main_arg0) (Rect.unit ![0] ![1] inb_S1_S1_0).toLoadRect
    (tbl m 0) (Shape.Idx.first (by decide)) = word m c := by
  obtain rfl : c = 0 := Subsingleton.elim _ _
  exact congrArg (m (((0 : Dev nD) : Thread nD τ).loc main_arg0)) (funext fun a => by
    match a with
    | ⟨0, _⟩ => exact Fin.ext rfl)

/-- The block of the gradient the kernel takes up. -/
abbrev pick (c : Dev nD) (t : Fin (cfgM m (ok m)).N) : Vec Ideal S256x1152 .f32 :=
  k0_pay2 (F := Ideal) (grid0.coords t) (word m c) (iblk m (ok m) c 1 t) (iblk m (ok m) c 2 t)

theorem pick_of (c : Dev nD) (t : Fin (cfgM m (ok m)).N) {w : BitVec 32} {A B : Vec Ideal S256x1152 .f32} (hw : w = word m c)
    (hA : A = iblk m (ok m) c 1 t) (hB : B = iblk m (ok m) c 2 t) : k0_pay2 (F := Ideal) (grid0.coords t) w A B = pick m c t := by
  rw [hw, hA, hB]

theorem after5 (c : Dev nD) (t : Fin (cfgM m (ok m)).N) : (dats m (ok m) 0 c).after 5 t = pick m c t := by
  rw [after0_5]
  unfold outsAt0
  dsimp only
  unfold out0_A_5
  frame_out
  exact pick_of m c t (word_eq m c) (Memref.IsWhole.read_unread _ _) (Memref.IsWhole.read_unread _ _)

theorem after6 (c : Dev nD) (t : Fin (cfgM m (ok m)).N) : (dats m (ok m) 0 c).after 6 t
    = k0_pay1 (F := Ideal) (k0_pay6 (F := Ideal) (pick m c t) (iblk m (ok m) c 3 t) (iblk m (ok m) c 4 t) (iblk m (ok m) c 0 t))
        (Scalar.ofBits .f32 0xBA83126F#32) := by
  rw [after0_6]
  unfold outsAt0
  dsimp only
  unfold out0_A_6
  frame_out
  exact congrArg (fun X => k0_pay1 (F := Ideal) X (Scalar.ofBits .f32 0xBA83126F#32))
    (congr (congr (congr (congrArg (k0_pay6 (F := Ideal))
      (pick_of m c t (word_eq m c) (Memref.IsWhole.read_unread _ _) (Memref.IsWhole.read_unread _ _)))
      (Memref.IsWhole.read_unread _ _)) (Memref.IsWhole.read_unread _ _)) (Memref.IsWhole.read_unread _ _))

theorem after7 (c : Dev nD) (t : Fin (cfgM m (ok m)).N) : (dats m (ok m) 0 c).after 7 t
    = k0_pay4 (F := Ideal) (pick m c t) (iblk m (ok m) c 3 t) := by
  rw [after0_7]
  unfold outsAt0
  dsimp only
  unfold out0_A_7
  frame_out
  exact congrArg₂ (k0_pay4 (F := Ideal)) (pick_of m c t (word_eq m c) (Memref.IsWhole.read_unread _ _) (Memref.IsWhole.read_unread _ _))
    (Memref.IsWhole.read_unread _ _)

theorem after8 (c : Dev nD) (t : Fin (cfgM m (ok m)).N) : (dats m (ok m) 0 c).after 8 t
    = k0_pay5 (F := Ideal) (pick m c t) (iblk m (ok m) c 4 t) := by
  rw [after0_8]
  unfold outsAt0
  dsimp only
  unfold out0_A_8
  frame_out
  exact congrArg₂ (k0_pay5 (F := Ideal)) (pick_of m c t (word_eq m c) (Memref.IsWhole.read_unread _ _) (Memref.IsWhole.read_unread _ _))
    (Memref.IsWhole.read_unread _ _)

/-- One gradient or the other, by the index. -/
theorem sel_eq (u w : BitVec 32) (a b : EReal) : Scalar.select (IntOp.cmpi .eq u w) a b = if u = w then a else b := by
  by_cases h : u = w
  · subst h; simp [Scalar.select, IntOp.cmpi]
  · rw [if_neg h]
    have e : (u == w) = false := beq_eq_false_iff_ne.mpr h
    simp [Scalar.select, IntOp.cmpi, e]

/-- The reference's gradient, entry by entry. -/
theorem ref_g (x0 : Vec Ideal Cert.AdamInRefIdeal.S1 .i32) (x2 x3 : Vec Ideal Cert.AdamInRefIdeal.S1024x1152 .f32)
    (r : Fin 2048) (j : Fin 1152) : Cert.AdamInRefIdeal.Read.val_main_v6 (F := Ideal) x0 x2 x3 (ix2 r j)
      = if BitVec.ofNat 32 (r.val / 1024) = x0 (ix1 (0 : Fin 1))
        then x2 (ix2 ⟨r.val % 1024, Nat.mod_lt _ (Nat.succ_pos 1023)⟩ j) else x3 (ix2 ⟨r.val % 1024, Nat.mod_lt _ (Nat.succ_pos 1023)⟩ j) := by
  unfold Cert.AdamInRefIdeal.Read.val_main_v6
  pointwise [Cert.AdamInRefIdeal.Read.val_main_v2, Cert.AdamInRefIdeal.Read.val_main_v5, Cert.AdamInRefIdeal.Read.val_main_v1, Cert.AdamInRefIdeal.Read.val_main_v0, Cert.AdamInRefIdeal.Read.val_main_v3, Cert.AdamInRefIdeal.Read.val_main_v4]
  by_cases h : r.val < 1024
  · rw [dif_pos h, sel_eq]
    have e : r.val / 1024 = 0 := by omega
    have e' : r.val % 1024 = r.val := by omega
    simp only [e, e']
    exact if_congr eq_comm rfl rfl
  · rw [dif_neg h, sel_eq]
    have e : r.val / 1024 = 1 := by omega
    have e' : r.val % 1024 = r.val - 1024 := by omega
    simp only [e, e']
    exact if_congr eq_comm rfl rfl

theorem coord (t : Fin (cfgM m (ok m)).N) : ((grid0.coords t) 0).val = t.val / 4 :=
  (by decide +kernel : ∀ t : Fin grid0.N, ((grid0.coords t) 0).val = t.val / 4) t

theorem idx (t : Fin (cfgM m (ok m)).N) : ((cfgM m (ok m)).win 0).index t = ![t.val, 0] ∧ ((cfgM m (ok m)).win 1).index t = ![t.val % 4, 0]
    ∧ ((cfgM m (ok m)).win 2).index t = ![t.val % 4, 0] ∧ ((cfgM m (ok m)).win 3).index t = ![t.val, 0] ∧ ((cfgM m (ok m)).win 4).index t = ![t.val, 0]
    ∧ ((cfgM m (ok m)).win 5).index t = ![t.val, 0] ∧ ((cfgM m (ok m)).win 6).index t = ![t.val, 0]
    ∧ ((cfgM m (ok m)).win 7).index t = ![t.val, 0] ∧ ((cfgM m (ok m)).win 8).index t = ![t.val, 0] :=
  (by decide +kernel : ∀ t : Fin grid0.N, cc0_transform_0 (grid0.coords t) = ![t.val, 0] ∧ cc0_transform_1 (grid0.coords t) = ![t.val % 4, 0]
    ∧ cc0_transform_2 (grid0.coords t) = ![t.val % 4, 0] ∧ cc0_transform_3 (grid0.coords t) = ![t.val, 0] ∧ cc0_transform_4 (grid0.coords t) = ![t.val, 0]
    ∧ cc0_transform_5 (grid0.coords t) = ![t.val, 0] ∧ cc0_transform_6 (grid0.coords t) = ![t.val, 0]
    ∧ cc0_transform_7 (grid0.coords t) = ![t.val, 0] ∧ cc0_transform_8 (grid0.coords t) = ![t.val, 0]) t

theorem row_lt (t : Fin (cfgM m (ok m)).N) (r : Fin 256) : t.val * 256 + r.val < 2048 := by
  have h : t.val < 8 := t.isLt
  omega

theorem pick_eq (c : Dev nD) (t : Fin (cfgM m (ok m)).N) (r : Fin 256) (j : Fin 1152) : pick m c t (ix2 r j)
    = Cert.AdamInRefIdeal.Read.val_main_v6 (F := Ideal) (m ((c : Thread nD τ).loc main_arg0))
        (m ((c : Thread nD τ).loc main_arg2)) (m ((c : Thread nD τ).loc main_arg3)) (ix2 ⟨_, row_lt m t r⟩ j) := by
  rw [ref_g]
  unfold pick
  pointwise [k0_pay2]
  show Scalar.select (IntOp.cmpi .eq (BitVec.ofNat 32 ((grid0.coords t) 0).val) (word m c)) _ _ = _
  have ht : t.val < 8 := t.isLt
  refine (sel_eq _ _ _ _).trans ?_
  rw [coord m t, show (t.val * 256 + r.val) / 1024 = t.val / 4 by omega]
  refine if_congr Iff.rfl ?_ ?_
  · blk_point [iblk, V, idx m t]
  · blk_point [iblk, V, idx m t]

theorem rd0 (c : Dev nD) (t : Fin (cfgM m (ok m)).N) (r : Fin 256) (j : Fin 1152) : (iblk m (ok m) c 0 t : Vec Ideal S256x1152 .f32) (ix2 r j)
    = m ((c : Thread nD τ).loc main_arg1) (ix2 ⟨_, row_lt m t r⟩ j) := by blk_point [iblk, V, idx m t]
theorem rd3 (c : Dev nD) (t : Fin (cfgM m (ok m)).N) (r : Fin 256) (j : Fin 1152) : (iblk m (ok m) c 3 t : Vec Ideal S256x1152 .f32) (ix2 r j)
    = m ((c : Thread nD τ).loc main_arg4) (ix2 ⟨_, row_lt m t r⟩ j) := by blk_point [iblk, V, idx m t]
theorem rd4 (c : Dev nD) (t : Fin (cfgM m (ok m)).N) (r : Fin 256) (j : Fin 1152) : (iblk m (ok m) c 4 t : Vec Ideal S256x1152 .f32) (ix2 r j)
    = m ((c : Thread nD τ).loc main_arg5) (ix2 ⟨_, row_lt m t r⟩ j) := by blk_point [iblk, V, idx m t]

section
variable (x0 : Vec Ideal Cert.AdamInRefIdeal.S1 .i32) (x1 x4 x5 : Vec Ideal Cert.AdamInRefIdeal.S2048x1152 .f32)
  (x2 x3 : Vec Ideal Cert.AdamInRefIdeal.S1024x1152 .f32) (P M V W : Vec Ideal S256x1152 .f32) (y : S256x1152.Idx)
  (i : Cert.AdamInRefIdeal.S2048x1152.Idx) (hp : P y = Cert.AdamInRefIdeal.Read.val_main_v6 (F := Ideal) x0 x2 x3 i)
include hp

/-- The first moment. -/
theorem pay_m (hm : M y = x4 i) : k0_pay4 (F := Ideal) P M y = Cert.AdamInRefIdeal.Read.val_main_v11 (F := Ideal) x0 x2 x3 x4 i := by
  simp only [Cert.AdamInRefIdeal.Read.val_main_v11_apply, Cert.AdamInRefIdeal.Read.val_main_v8_apply, Cert.AdamInRefIdeal.Read.val_main_v10_apply, Cert.AdamInRefIdeal.Read.val_main_v7_apply, Cert.AdamInRefIdeal.Read.val_main_v9_apply, Cert.AdamInRefIdeal.Read.val_main_cst_apply, Cert.AdamInRefIdeal.Read.val_main_cst_1_apply, ← hp, ← hm]
  pointwise [k0_pay4, k0_pay3]

/-- The second moment. -/
theorem pay_v (hv : V y = x5 i) : k0_pay5 (F := Ideal) P V y = Cert.AdamInRefIdeal.Read.val_main_v17 (F := Ideal) x0 x2 x3 x5 i := by
  simp only [Cert.AdamInRefIdeal.Read.val_main_v17_apply, Cert.AdamInRefIdeal.Read.val_main_v13_apply, Cert.AdamInRefIdeal.Read.val_main_v16_apply, Cert.AdamInRefIdeal.Read.val_main_v14_apply, Cert.AdamInRefIdeal.Read.val_main_v12_apply, Cert.AdamInRefIdeal.Read.val_main_v15_apply, Cert.AdamInRefIdeal.Read.val_main_cst_2_apply, Cert.AdamInRefIdeal.Read.val_main_cst_3_apply, ← hp, ← hv]
  pointwise [k0_pay5, k0_pay3]

/-- The step. -/
theorem pay_d (hm : M y = x4 i) (hv : V y = x5 i) (hw : W y = x1 i) :
    k0_pay1 (F := Ideal) (k0_pay6 (F := Ideal) P M V W) (Scalar.ofBits .f32 0xBA83126F#32) y
      = Cert.AdamInRefIdeal.Read.val_main_v30 (F := Ideal) x0 x1 x2 x3 x4 x5 i := by
  simp only [Cert.AdamInRefIdeal.Read.val_main_v30_apply, Cert.AdamInRefIdeal.Read.val_main_v28_apply, Cert.AdamInRefIdeal.Read.val_main_v25_apply, Cert.AdamInRefIdeal.Read.val_main_v19_apply, Cert.AdamInRefIdeal.Read.val_main_v24_apply, Cert.AdamInRefIdeal.Read.val_main_v22_apply, Cert.AdamInRefIdeal.Read.val_main_v21_apply, Cert.AdamInRefIdeal.Read.val_main_v27_apply, Cert.AdamInRefIdeal.Read.val_main_v18_apply, Cert.AdamInRefIdeal.Read.val_main_v20_apply, Cert.AdamInRefIdeal.Read.val_main_v23_apply, Cert.AdamInRefIdeal.Read.val_main_v26_apply, Cert.AdamInRefIdeal.Read.val_main_v29_apply, Cert.AdamInRefIdeal.Read.val_main_cst_4_apply, Cert.AdamInRefIdeal.Read.val_main_cst_5_apply, Cert.AdamInRefIdeal.Read.val_main_cst_6_apply, Cert.AdamInRefIdeal.Read.val_main_cst_7_apply, Cert.AdamInRefIdeal.Read.val_main_cst_8_apply, ← pay_m x0 x4 x2 x3 P M y i hp hm, ← pay_v x0 x5 x2 x3 P V y i hp hv, ← hw]
  pointwise [k0_pay1, k0_pay6]
end

theorem final5 (c : Dev nD) : (dats m (ok m) 0 c).arrAt 5 (cfgM m (ok m)).N
    = Cert.AdamInRefIdeal.Read.val_main_v6 (F := Ideal) (m ((c : Thread nD τ).loc main_arg0)) (m ((c : Thread nD τ).loc main_arg2)) (m ((c : Thread nD τ).loc main_arg3)) := by
  refine (dats m (ok m) 0 c).arrAt_eq_of_covers 5 _ (of_decide_eq_true (by sl_kernel_rfl)) fun t _ => ?_
  show ∀ y : S256x1152.Idx, _
  intro y
  blk_simp
  rw [after5]
  idx_vars y
  have e : (((cfgM m (ok m)).win 5).blk t).view.emb (ix2 y0 y1) = ix2 ⟨_, row_lt m t y0⟩ y1 := by
    refine (eq_ix2 _).trans (congrArg₂ ix2 (Fin.ext ?_) (Fin.ext ?_)) <;> blk_simp [idx m t]
  rw [e]
  exact pick_eq m c t y0 y1

theorem final6 (c : Dev nD) : (dats m (ok m) 0 c).arrAt 6 (cfgM m (ok m)).N
    = Cert.AdamInRefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m (ok m) 0 c).arrAt_eq_of_covers 6 _ (of_decide_eq_true (by sl_kernel_rfl)) fun t _ => ?_
  show ∀ y : S256x1152.Idx, _
  intro y
  blk_simp
  rw [after6]
  idx_vars y
  have e : (((cfgM m (ok m)).win 6).blk t).view.emb (ix2 y0 y1) = ix2 ⟨_, row_lt m t y0⟩ y1 := by
    refine (eq_ix2 _).trans (congrArg₂ ix2 (Fin.ext ?_) (Fin.ext ?_)) <;> blk_simp [idx m t]
  rw [e]
  exact pay_d _ _ _ _ _ _ _ _ _ _ _ _ (pick_eq m c t y0 y1) (rd3 m c t y0 y1) (rd4 m c t y0 y1) (rd0 m c t y0 y1)

theorem final7 (c : Dev nD) : (dats m (ok m) 0 c).arrAt 7 (cfgM m (ok m)).N
    = Cert.AdamInRefIdeal.Read.val_main_v11 (F := Ideal) (m ((c : Thread nD τ).loc main_arg0)) (m ((c : Thread nD τ).loc main_arg2)) (m ((c : Thread nD τ).loc main_arg3)) (m ((c : Thread nD τ).loc main_arg4)) := by
  refine (dats m (ok m) 0 c).arrAt_eq_of_covers 7 _ (of_decide_eq_true (by sl_kernel_rfl)) fun t _ => ?_
  show ∀ y : S256x1152.Idx, _
  intro y
  blk_simp
  rw [after7]
  idx_vars y
  have e : (((cfgM m (ok m)).win 7).blk t).view.emb (ix2 y0 y1) = ix2 ⟨_, row_lt m t y0⟩ y1 := by
    refine (eq_ix2 _).trans (congrArg₂ ix2 (Fin.ext ?_) (Fin.ext ?_)) <;> blk_simp [idx m t]
  rw [e]
  exact pay_m _ _ _ _ _ _ _ _ (pick_eq m c t y0 y1) (rd3 m c t y0 y1)

theorem final8 (c : Dev nD) : (dats m (ok m) 0 c).arrAt 8 (cfgM m (ok m)).N
    = Cert.AdamInRefIdeal.Read.val_main_v17 (F := Ideal) (m ((c : Thread nD τ).loc main_arg0)) (m ((c : Thread nD τ).loc main_arg2)) (m ((c : Thread nD τ).loc main_arg3)) (m ((c : Thread nD τ).loc main_arg5)) := by
  refine (dats m (ok m) 0 c).arrAt_eq_of_covers 8 _ (of_decide_eq_true (by sl_kernel_rfl)) fun t _ => ?_
  show ∀ y : S256x1152.Idx, _
  intro y
  blk_simp
  rw [after8]
  idx_vars y
  have e : (((cfgM m (ok m)).win 8).blk t).view.emb (ix2 y0 y1) = ix2 ⟨_, row_lt m t y0⟩ y1 := by
    refine (eq_ix2 _).trans (congrArg₂ ix2 (Fin.ext ?_) (Fin.ext ?_)) <;> blk_simp [idx m t]
  rw [e]
  exact pay_v _ _ _ _ _ _ _ _ (pick_eq m c t y0 y1) (rd4 m c t y0 y1)

theorem algebraic : Cert.algebraic_AdamInIdeal_AdamInRefIdeal := by
  intro m g m' g' hpre hagree
  refine ⟨fun c => Cert.AdamInRefIdeal.Read.val_main_v6 (F := Ideal) (m ((c : Thread nD τ).loc main_arg0)) (m ((c : Thread nD τ).loc main_arg2)) (m ((c : Thread nD τ).loc main_arg3)),
    fun c => Cert.AdamInRefIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)),
    fun c => Cert.AdamInRefIdeal.Read.val_main_v11 (F := Ideal) (m ((c : Thread nD τ).loc main_arg0)) (m ((c : Thread nD τ).loc main_arg2)) (m ((c : Thread nD τ).loc main_arg3)) (m ((c : Thread nD τ).loc main_arg4)),
    fun c => Cert.AdamInRefIdeal.Read.val_main_v17 (F := Ideal) (m ((c : Thread nD τ).loc main_arg0)) (m ((c : Thread nD τ).loc main_arg2)) (m ((c : Thread nD τ).loc main_arg3)) (m ((c : Thread nD τ).loc main_arg5)), ?_, ?_⟩
  · exact (θ_run defs _ _).mono (fun r h c => ⟨((h.1 c).1 5).trans (final5 m c), ((h.1 c).1 6).trans (final6 m c),
      ((h.1 c).1 7).trans (final7 m c), ((h.1 c).1 8).trans (final8 m c), h.2 c⟩)
      (θ_run_and (run_main m g (ok m)) (unchanged m g (ok m)))
  · refine (θ_run Cert.AdamInRefIdeal.defs _ _).mono (fun r h c => ?_) (Cert.AdamInRefIdeal.Value.run (F := Ideal) m' g')
    obtain ⟨h0, h1, h2, h3, hr⟩ := h c
    obtain ⟨e0, e1, e2, e3, e4, e5⟩ := hagree c
    rw [Cert.AdamInRefIdeal.Read.val_main_v6_eq, e0, e2, e3] at h0
    rw [Cert.AdamInRefIdeal.Read.val_main_v30_eq, e0, e1, e2, e3, e4, e5] at h1
    rw [Cert.AdamInRefIdeal.Read.val_main_v11_eq, e0, e2, e3, e4] at h2
    rw [Cert.AdamInRefIdeal.Read.val_main_v17_eq, e0, e2, e3, e5] at h3
    exact ⟨h0, h1, h2, h3, hr⟩

end AdamIn
-- ==== Proof.PairSum.lean ====
module

public import proofs.«01_k».proof.Defs
public import proofs.«01_k».proof.Proof.Gen.Pre_a_half
public import proofs.«01_k».proof.Proof.Gen.PairSum
public import proofs.«01_k».proof.Proof.Gen.PairSum.Frame
public import proofs.«01_k».proof.Proof.Gen.PairSumIdeal
public import proofs.«01_k».proof.Proof.Gen.PairSumIdeal.Frame
public import proofs.«01_k».proof.Proof.Gen.PairSumRefIdeal
public import proofs.«01_k».proof.Proof.Gen.PairSumRefIdeal.Run
public import proofs.«01_k».proof.Proof.Gen.PairSumRefIdeal.Read
public import Idealize.ShloMosaic.Lib.Pipeline.ValueKit
public import Idealize.ShloMosaic.Lib.Pointwise
public import proofs.«01_k».proof.Proof.AdamIn

@[expose] public section

set_option maxRecDepth 16384

noncomputable section

open Idealize.ShloMosaic Idealize.ShloMosaic.TcCoe Idealize.SL.Sem
open Idealize.ShloMosaic.Pipeline (Dat)

/-! The sum of a device's half of a gradient with the same half received from its partner. -/

namespace PairSum

/-- A word the precondition holds of is 0 or 1. -/
theorem half_lt {v : BitVec 32} (e : IntOp.andi (IntOp.cmpi .sge v 0#32) (IntOp.cmpi .slt v 2#32) = 1#1) : v.toNat < 2 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- A coordinate as a word is no larger than itself. -/
theorem word_lt {n k : Nat} (h : n < k) : (BitVec.ofNat 32 n).toNat < k := by
  rw [BitVec.toNat_ofNat]; exact lt_of_le_of_lt (Nat.mod_le _ _) h

/-- A block named by coordinates in range is inside its array. -/
theorem inside {a b c : Nat} (ha : a < 4) (hb : b < 2) (hc : c < 2) : ∀ k : Fin 4,
    ((![a, b, c, 0] : Fin 4 → Nat) k + 1) * (![1, 1, 512, 1152] : Fin 4 → Nat) k ≤ (![4, 2, 1024, 1152] : Fin 4 → Nat) k := by
  intro k
  match k with
  | 0 => show (a + 1) * 1 ≤ 4; omega
  | 1 => show (b + 1) * 1 ≤ 2; omega
  | 2 => show (c + 1) * 512 ≤ 1024; omega
  | 3 => exact le_refl 1152

section
open Cert.PairSum Cert.PairSum.Gen

/-- The block named by the index is inside its array, where the precondition holds. -/
theorem ok_bits (m : (ℓ : Loc nD τ sig) → Buf (Elt Bits) ℓ) (h : Cert.Pre_PairSum m) : Ok m := by
  have hw : (m (((0 : Dev nD) : Thread nD τ).loc main_arg0) (ix1 (0 : Fin 1))).toNat < 2 := by
    have e := congrFun (h 0) (ix1 (0 : Fin 1))
    simp only [Cert.Pre_a_half.fn, andi, cmpi, broadcastInDim, constantI] at e
    exact half_lt e
  have e0 : ((tbl m).at 0 (Rect.unit (s := S1) ![0] S1.size inb_S1_S1_0) numel1_S1 : BitVec 32)
      = m (((0 : Dev nD) : Thread nD τ).loc main_arg0) (ix1 (0 : Fin 1)) :=
    congrArg (m (((0 : Dev nD) : Thread nD τ).loc main_arg0)) (funext fun a => by
      match a with
      | ⟨0, _⟩ => exact Fin.ext rfl)
  exact fun i => ⟨inside (word_lt (i 0).isLt) (lt_of_eq_of_lt (congrArg BitVec.toNat e0) hw) (word_lt (i 1).isLt), Or.inl rfl⟩
end

open Cert.PairSumIdeal Cert.PairSumIdeal.Gen

variable (m : (ℓ : Loc nD τ sig) → Buf (Elt Ideal) ℓ)

/-- The index, as the program finds it. -/
abbrev word (c : Dev nD) : BitVec 32 := m ((c : Thread nD τ).loc main_arg0) (ix1 (0 : Fin 1))

theorem at_eq : ((tbl m).at 0 (Rect.unit (s := S1) ![0] S1.size inb_S1_S1_0) numel1_S1 : BitVec 32) = word m 0 :=
  congrArg (m (((0 : Dev nD) : Thread nD τ).loc main_arg0)) (funext fun a => by
    match a with
    | ⟨0, _⟩ => exact Fin.ext rfl)

theorem word_half (h : Cert.Pre_PairSumIdeal m) (c : Dev nD) : (word m c).toNat < 2 := by
  have e := congrFun (h c) (ix1 (0 : Fin 1))
  simp only [Cert.Pre_a_half.fn, andi, cmpi, broadcastInDim, constantI] at e
  exact half_lt e

/-- The same of the idealised program. -/
theorem ok (h : Cert.Pre_PairSumIdeal m) : Ok m := fun i =>
  ⟨inside (word_lt (i 0).isLt) (lt_of_eq_of_lt (congrArg BitVec.toNat (at_eq m)) (word_half m h 0)) (word_lt (i 1).isLt), Or.inl rfl⟩

variable (hO : Ok m)

theorem after2 (c : Dev nD) (t : Fin (cfgM m hO).N) : (dats m hO 0 c).after 2 t
    = k0_pay1 (F := Ideal) (iblk m hO c 0 t) (iblk m hO c 1 t) := by
  rw [after0_2]
  unfold outsAt0
  dsimp only
  unfold out0_A_2
  frame_out
  exact congrArg₂ (k0_pay1 (F := Ideal)) (Memref.IsWhole.read_unread _ _) (Memref.IsWhole.read_unread _ _)

theorem idx (t : Fin (cfgM m hO).N) : ((cfgM m hO).win 0).index t = ![t.val / 2, (word m 0).toNat, t.val % 2, 0]
    ∧ ((cfgM m hO).win 1).index t = ![t.val / 2, t.val % 2, 0] ∧ ((cfgM m hO).win 2).index t = ![t.val / 2, t.val % 2, 0] := by
  have e : ∀ t : Fin grid0.N, (BitVec.ofNat 32 ((grid0.coords t) 0).val).toNat = t.val / 2 ∧ (BitVec.ofNat 32 ((grid0.coords t) 1).val).toNat = t.val % 2
      ∧ cc0_transform_1 (grid0.coords t) = ![t.val / 2, t.val % 2, 0] ∧ cc0_transform_2 (grid0.coords t) = ![t.val / 2, t.val % 2, 0] := by
    decide +kernel
  refine ⟨?_, (e t).2.2⟩
  show ![(BitVec.ofNat 32 ((grid0.coords t) 0).val).toNat, ((tbl m).at 0 (Rect.unit (s := S1) ![0] S1.size inb_S1_S1_0) numel1_S1 : BitVec 32).toNat, (BitVec.ofNat 32 ((grid0.coords t) 1).val).toNat, 0] = _
  rw [(e t).1, (e t).2.1, at_eq]

theorem row_lt (t : Fin (cfgM m hO).N) (r : Fin 512) : t.val % 2 * 512 + r.val < 1024 := by omega

theorem grp_lt (t : Fin (cfgM m hO).N) : t.val / 2 < 4 := by
  have h : t.val < 8 := t.isLt
  omega

theorem rd0 (h : (word m 0).toNat < 2) (t : Fin (cfgM m hO).N) (r : Fin 512) (j : Fin 1152) :
    (iblk m hO 0 0 t : Vec Ideal S1x1x512x1152 .f32) (ix4 0 0 r j)
      = m (((0 : Dev nD) : Thread nD τ).loc main_arg1) (ix4 ⟨_, grp_lt m hO t⟩ ⟨_, h⟩ ⟨_, row_lt m hO t r⟩ j) := by
  blk_point [iblk, V, idx m hO t]

theorem rd1 (t : Fin (cfgM m hO).N) (r : Fin 512) (j : Fin 1152) :
    (iblk m hO 0 1 t : Vec Ideal S1x512x1152 .bf16) (ix3 0 r j)
      = m (((0 : Dev nD) : Thread nD τ).loc main_arg2) (ix3 ⟨_, grp_lt m hO t⟩ ⟨_, row_lt m hO t r⟩ j) := by
  blk_point [iblk, V, idx m hO t]

/-- The reference, entry by entry. -/
theorem ref_at (x0 : Vec Ideal Cert.PairSumRefIdeal.S1 .i32) (x1 : Vec Ideal Cert.PairSumRefIdeal.S4x2x1024x1152 .f32)
    (x2 : Vec Ideal Cert.PairSumRefIdeal.S4x1024x1152 .bf16) (h : (x0 (ix1 (0 : Fin 1)) : BitVec 32).toNat < 2) (k : Fin 4) (r : Fin 1024) (j : Fin 1152) :
    (Cert.PairSumRefIdeal.Read.val_main_v9 (F := Ideal) x0 x1 x2 (ix3 k r j) : EReal)
      = x1 (ix4 k ⟨_, h⟩ r j) + x2 (ix3 k r j) := by
  unfold Cert.PairSumRefIdeal.Read.val_main_v9
  pointwise [Cert.PairSumRefIdeal.Read.val_main_v8, Cert.PairSumRefIdeal.Read.val_main_v7, Cert.PairSumRefIdeal.Read.val_main_v6, Cert.PairSumRefIdeal.Read.val_main_v5, Cert.PairSumRefIdeal.Read.val_main_v4, Cert.PairSumRefIdeal.Read.val_main_v3, Cert.PairSumRefIdeal.Read.val_main_v2, Cert.PairSumRefIdeal.Read.val_main_v1, Cert.PairSumRefIdeal.Read.val_main_v0, Cert.PairSumRefIdeal.Read.val_main_c]
  rw [AdamIn.sel_eq]
  refine congrArg (· + (x2 (ix3 k r j) : EReal)) ?_
  by_cases hz : (x0 (ix1 (0 : Fin 1)) : BitVec 32) = 0#32
  · rw [if_pos hz]
    exact congrArg (fun q => x1 (ix4 k q r j)) (Fin.ext (congrArg BitVec.toNat hz).symm)
  · rw [if_neg hz]
    have h1 : (x0 (ix1 (0 : Fin 1)) : BitVec 32).toNat ≠ 0 := fun e => hz (BitVec.eq_of_toNat_eq e)
    exact congrArg (fun q => x1 (ix4 k q r j)) (Fin.ext (Nat.le_antisymm (Nat.pos_of_ne_zero h1) (Nat.le_of_lt_succ h)))

theorem pay_at (A : Vec Ideal S1x1x512x1152 .f32) (B : Vec Ideal S1x512x1152 .bf16) (z : Fin 1) (r : Fin 512) (j : Fin 1152) :
    (k0_pay1 (F := Ideal) A B (ix3 z r j) : EReal) = A (ix4 0 0 r j) + B (ix3 0 r j) := by
  obtain rfl : z = 0 := Subsingleton.elim _ _
  unfold k0_pay1
  pointwise []

theorem final2 (h : (word m 0).toNat < 2) (c : Dev nD) : (dats m hO 0 c).arrAt 2 (cfgM m hO).N
    = Cert.PairSumRefIdeal.Read.val_main_v9 (F := Ideal) (m ((c : Thread nD τ).loc main_arg0)) (m ((c : Thread nD τ).loc main_arg1)) (m ((c : Thread nD τ).loc main_arg2)) := by
  obtain rfl : c = 0 := Subsingleton.elim _ _
  refine (dats m hO 0 0).arrAt_eq_of_covers 2 _ (of_decide_eq_true (by sl_kernel_rfl)) fun t _ => ?_
  show ∀ y : S1x512x1152.Idx, _
  intro y
  blk_simp
  rw [after2]
  idx_vars y
  have e : (((cfgM m hO).win 2).blk t).view.emb (ix3 y0 y1 y2) = ix3 ⟨_, grp_lt m hO t⟩ ⟨_, row_lt m hO t y1⟩ y2 := by
    refine (eq_ix3 _).trans (congr (congrArg₂ ix3 (Fin.ext ?_) (Fin.ext ?_)) (Fin.ext ?_)) <;> blk_simp [idx m hO t]
  rw [e]
  refine (pay_at _ _ _ _ _).trans (Eq.trans ?_ (ref_at _ _ _ h _ _ _).symm)
  exact congrArg₂ (· + · : EReal → EReal → EReal) (rd0 m hO h t y1 y2) (rd1 m hO t y1 y2)

theorem algebraic : Cert.algebraic_PairSumIdeal_PairSumRefIdeal := by
  intro m g m' g' hpre hagree
  refine ⟨fun c => Cert.PairSumRefIdeal.Read.val_main_v9 (F := Ideal) (m ((c : Thread nD τ).loc main_arg0)) (m ((c : Thread nD τ).loc main_arg1)) (m ((c : Thread nD τ).loc main_arg2)), ?_, ?_⟩
  · exact (θ_run defs _ _).mono (fun r h c => ⟨((h.1 c).1 2).trans (final2 m (ok m hpre) (word_half m hpre 0) c), h.2 c⟩)
      (θ_run_and (run_main m g (ok m hpre)) (unchanged m g (ok m hpre)))
  · refine (θ_run Cert.PairSumRefIdeal.defs _ _).mono (fun r h c => ?_) (Cert.PairSumRefIdeal.Value.run (F := Ideal) m' g')
    obtain ⟨h0, hr⟩ := h c
    obtain ⟨e0, e1, e2⟩ := hagree c
    rw [Cert.PairSumRefIdeal.Read.val_main_v9_eq, e0, e1, e2] at h0
    exact ⟨h0, hr⟩

end PairSum
-- ==== Proof.PeerSum.lean ====
module

public import proofs.«01_k».proof.Defs
public import proofs.«01_k».proof.Proof.Gen.Pre_a_chip
public import proofs.«01_k».proof.Proof.Gen.PeerSum
public import proofs.«01_k».proof.Proof.Gen.PeerSum.Frame
public import proofs.«01_k».proof.Proof.Gen.PeerSumIdeal
public import proofs.«01_k».proof.Proof.Gen.PeerSumIdeal.Frame
public import proofs.«01_k».proof.Proof.Gen.PeerSumRefIdeal
public import proofs.«01_k».proof.Proof.Gen.PeerSumRefIdeal.Run
public import proofs.«01_k».proof.Proof.Gen.PeerSumRefIdeal.Read
public import Idealize.ShloMosaic.Lib.Pipeline.ValueKit
public import Idealize.ShloMosaic.Lib.Pointwise
public import proofs.«01_k».proof.Proof.PairSum

@[expose] public section

set_option maxRecDepth 16384

noncomputable section

open Idealize.ShloMosaic Idealize.ShloMosaic.TcCoe Idealize.SL.Sem
open Idealize.ShloMosaic.Pipeline (Dat)

/-! The sum over the four chips of a part of a gradient: a chip's own part, and what it received from the others. -/

namespace PeerSum

/-- A word the precondition holds of is one of the four chips. -/
theorem chip_lt {v : BitVec 32} (e : IntOp.andi (IntOp.cmpi .sge v 0#32) (IntOp.cmpi .slt v 4#32) = 1#1) : v.toNat < 4 := by
  have andi_ofBool (p q : Bool) : IntOp.andi (BitVec.ofBool p) (BitVec.ofBool q) = BitVec.ofBool (p && q) := by
    cases p <;> cases q <;> decide
  have ofBool_eq_one (p : Bool) : (BitVec.ofBool p = 1#1) ↔ p = true := by cases p <;> decide
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- Of the slots only those of other chips are taken up: a chip's own index is replaced by the next. -/
theorem pick_lt {w a b : BitVec 32} (ha : a.toNat < 4) (hb : b.toNat < 4) (k : BitVec 32) :
    (Scalar.select (Scalar.cmpi .eq w k) a b : BitVec 32).toNat < 4 := by
  unfold Scalar.select
  split
  · exact ha
  · exact hb

/-- A block named by coordinates in range is inside its array, and made of whole words. -/
theorem inside {a b : Nat} (ha : a < 4) (hb : b < 2) :
    ∃ h : ∀ k, ((![a, b, 0] : Fin 3 → Nat) k + 1) * Cert.PeerSumIdeal.S1x512x1152.size k ≤ Cert.PeerSumIdeal.S4x1024x1152.size k,
      EltTy.bits .bf16 = 32 ∨ (Rect.block (s := Cert.PeerSumIdeal.S4x1024x1152) Cert.PeerSumIdeal.S1x512x1152.size ![a, b, 0] h).WholeWords (EltTy.packing .bf16) :=
  (by decide +kernel : ∀ (a : Fin 4) (b : Fin 2), ∃ h : ∀ k, ((![a.val, b.val, 0] : Fin 3 → Nat) k + 1) * Cert.PeerSumIdeal.S1x512x1152.size k ≤ Cert.PeerSumIdeal.S4x1024x1152.size k,
      EltTy.bits .bf16 = 32 ∨ (Rect.block (s := Cert.PeerSumIdeal.S4x1024x1152) Cert.PeerSumIdeal.S1x512x1152.size ![a.val, b.val, 0] h).WholeWords (EltTy.packing .bf16)) ⟨a, ha⟩ ⟨b, hb⟩

section
open Cert.PeerSum Cert.PeerSum.Gen

/-- The blocks named by the index are inside their arrays, where the precondition holds. -/
theorem ok_bits (m : (ℓ : Loc nD τ sig) → Buf (Elt Bits) ℓ) (h : Cert.Pre_PeerSum m) : Ok m := by
  have hw : (m (((0 : Dev nD) : Thread nD τ).loc main_arg0) (ix1 (0 : Fin 1))).toNat < 4 := by
    have e := congrFun (h 0) (ix1 (0 : Fin 1))
    simp only [Cert.Pre_a_chip.fn, andi, cmpi, broadcastInDim, constantI] at e
    exact chip_lt e
  have e0 : ((tbl m).at 0 (Rect.unit (s := S1) ![0] S1.size inb_S1_S1_0) numel1_S1 : BitVec 32)
      = m (((0 : Dev nD) : Thread nD τ).loc main_arg0) (ix1 (0 : Fin 1)) :=
    congrArg (m (((0 : Dev nD) : Thread nD τ).loc main_arg0)) (funext fun a => by
      match a with
      | ⟨0, _⟩ => exact Fin.ext rfl)
  exact ⟨fun i => inside (pick_lt (by decide) (by decide) _) (PairSum.word_lt (i 0).isLt), fun i => inside (pick_lt (by decide) (by decide) _) (PairSum.word_lt (i 0).isLt),
    fun i => inside (pick_lt (by decide) (by decide) _) (PairSum.word_lt (i 0).isLt), fun i => inside (pick_lt (by decide) (by decide) _) (PairSum.word_lt (i 0).isLt),
    fun i => inside (lt_of_eq_of_lt (congrArg BitVec.toNat e0) hw) (PairSum.word_lt (i 0).isLt)⟩
end

open Cert.PeerSumIdeal Cert.PeerSumIdeal.Gen

variable (m : (ℓ : Loc nD τ sig) → Buf (Elt Ideal) ℓ)

/-- The index, as the program finds it. -/
abbrev word (c : Dev nD) : BitVec 32 := m ((c : Thread nD τ).loc main_arg0) (ix1 (0 : Fin 1))

theorem at_eq : ((tbl m).at 0 (Rect.unit (s := S1) ![0] S1.size inb_S1_S1_0) numel1_S1 : BitVec 32) = word m 0 :=
  congrArg (m (((0 : Dev nD) : Thread nD τ).loc main_arg0)) (funext fun a => by
    match a with
    | ⟨0, _⟩ => exact Fin.ext rfl)

theorem word_chip (h : Cert.Pre_PeerSumIdeal m) (c : Dev nD) : (word m c).toNat < 4 := by
  have e := congrFun (h c) (ix1 (0 : Fin 1))
  simp only [Cert.Pre_a_chip.fn, andi, cmpi, broadcastInDim, constantI] at e
  exact chip_lt e

/-- The same of the idealised program. -/
theorem ok (h : Cert.Pre_PeerSumIdeal m) : Ok m :=
  ⟨fun i => inside (pick_lt (by decide) (by decide) _) (PairSum.word_lt (i 0).isLt), fun i => inside (pick_lt (by decide) (by decide) _) (PairSum.word_lt (i 0).isLt),
    fun i => inside (pick_lt (by decide) (by decide) _) (PairSum.word_lt (i 0).isLt), fun i => inside (pick_lt (by decide) (by decide) _) (PairSum.word_lt (i 0).isLt),
    fun i => inside (lt_of_eq_of_lt (congrArg BitVec.toNat (at_eq m)) (word_chip m h 0)) (PairSum.word_lt (i 0).isLt)⟩

variable (hO : Ok m)

/-- The kernel's read of the index. -/
theorem word_eq : View.readAt (Elt Ideal) (View.whole main_arg0) (Rect.unit ![0] ![1] inb_S1_S1_0).toLoadRect
    (tbl m 0) (Shape.Idx.first (by decide)) = word m 0 :=
  congrArg (m (((0 : Dev nD) : Thread nD τ).loc main_arg0)) (funext fun a => by
    match a with
    | ⟨0, _⟩ => exact Fin.ext rfl)

theorem after5 (t : Fin (cfgM m hO).N) : (dats m hO 0 0).after 5 t
    = k0_pay1 (F := Ideal) (word m 0) (iblk m hO 0 4 t) (iblk m hO 0 0 t) (iblk m hO 0 1 t) (iblk m hO 0 2 t) (iblk m hO 0 3 t) := by
  rw [after0_5]
  unfold outsAt0
  dsimp only
  unfold out0_A_5
  frame_out
  exact congr (congr (congr (congr (congr (congrArg (k0_pay1 (F := Ideal)) (word_eq m)) (Memref.IsWhole.read_unread _ _)) (Memref.IsWhole.read_unread _ _))
    (Memref.IsWhole.read_unread _ _)) (Memref.IsWhole.read_unread _ _)) (Memref.IsWhole.read_unread _ _)

theorem pt (t : Fin grid0.N) : (BitVec.ofNat 32 ((grid0.coords t) 0).val).toNat = t.val ∧ cc0_transform_5 (grid0.coords t) = ![t.val, 0] :=
  (by decide +kernel : ∀ t : Fin grid0.N, (BitVec.ofNat 32 ((grid0.coords t) 0).val).toNat = t.val ∧ cc0_transform_5 (grid0.coords t) = ![t.val, 0]) t

/-- The slot a window takes up, where the chip is another. -/
theorem pick_ne {w k : BitVec 32} (h : w ≠ k) (a b : BitVec 32) : (Scalar.select (Scalar.cmpi .eq w k) a b : BitVec 32) = b := by
  have e : (w == k) = false := beq_eq_false_iff_ne.mpr h
  simp [Scalar.select, Scalar.cmpi, IntOp.cmpi, e]

theorem idx0 (h : word m 0 ≠ 0#32) (t : Fin (cfgM m hO).N) : ((cfgM m hO).win 0).index t = ![0, t.val, 0] := by
  have e := pick_ne h 1#32 0#32
  rw [← at_eq m] at e
  exact congrArg₂ (fun a b : Nat => (![a, b, 0] : Fin 3 → Nat)) (congrArg BitVec.toNat e) (pt t).1
theorem idx1 (h : word m 0 ≠ 1#32) (t : Fin (cfgM m hO).N) : ((cfgM m hO).win 1).index t = ![1, t.val, 0] := by
  have e := pick_ne h 2#32 1#32
  rw [← at_eq m] at e
  exact congrArg₂ (fun a b : Nat => (![a, b, 0] : Fin 3 → Nat)) (congrArg BitVec.toNat e) (pt t).1
theorem idx2 (h : word m 0 ≠ 2#32) (t : Fin (cfgM m hO).N) : ((cfgM m hO).win 2).index t = ![2, t.val, 0] := by
  have e := pick_ne h 3#32 2#32
  rw [← at_eq m] at e
  exact congrArg₂ (fun a b : Nat => (![a, b, 0] : Fin 3 → Nat)) (congrArg BitVec.toNat e) (pt t).1
theorem idx3 (h : word m 0 ≠ 3#32) (t : Fin (cfgM m hO).N) : ((cfgM m hO).win 3).index t = ![3, t.val, 0] := by
  have e := pick_ne h 0#32 3#32
  rw [← at_eq m] at e
  exact congrArg₂ (fun a b : Nat => (![a, b, 0] : Fin 3 → Nat)) (congrArg BitVec.toNat e) (pt t).1
theorem idx4 (t : Fin (cfgM m hO).N) : ((cfgM m hO).win 4).index t = ![(word m 0).toNat, t.val, 0] :=
  congrArg₂ (fun a b : Nat => (![a, b, 0] : Fin 3 → Nat)) (congrArg BitVec.toNat (at_eq m)) (pt t).1
theorem idx5 (t : Fin (cfgM m hO).N) : ((cfgM m hO).win 5).index t = ![t.val, 0] := (pt t).2

theorem row_lt (t : Fin (cfgM m hO).N) (r : Fin 512) : t.val * 512 + r.val < 1024 := by
  have h : t.val < 2 := t.isLt
  omega

abbrev slots : Vec Ideal S4x1024x1152 .bf16 := m (((0 : Dev nD) : Thread nD τ).loc main_arg1)
abbrev own : Vec Ideal S4x1024x1152 .bf16 := m (((0 : Dev nD) : Thread nD τ).loc main_arg2)

section
variable (t : Fin (cfgM m hO).N) (r : Fin 512) (j : Fin 1152)
theorem rd0 (h : word m 0 ≠ 0#32) : (iblk m hO 0 0 t : Vec Ideal S1x512x1152 .bf16) (ix3 0 r j) = slots m (ix3 0 ⟨_, row_lt m hO t r⟩ j) := by
  blk_point [iblk, V, idx0 m hO h t]
theorem rd1 (h : word m 0 ≠ 1#32) : (iblk m hO 0 1 t : Vec Ideal S1x512x1152 .bf16) (ix3 0 r j) = slots m (ix3 1 ⟨_, row_lt m hO t r⟩ j) := by
  blk_point [iblk, V, idx1 m hO h t]
theorem rd2 (h : word m 0 ≠ 2#32) : (iblk m hO 0 2 t : Vec Ideal S1x512x1152 .bf16) (ix3 0 r j) = slots m (ix3 2 ⟨_, row_lt m hO t r⟩ j) := by
  blk_point [iblk, V, idx2 m hO h t]
theorem rd3 (h : word m 0 ≠ 3#32) : (iblk m hO 0 3 t : Vec Ideal S1x512x1152 .bf16) (ix3 0 r j) = slots m (ix3 3 ⟨_, row_lt m hO t r⟩ j) := by
  blk_point [iblk, V, idx3 m hO h t]
theorem rd4 (h : (word m 0).toNat < 4) : (iblk m hO 0 4 t : Vec Ideal S1x512x1152 .bf16) (ix3 0 r j)
    = own m (ix3 ⟨_, h⟩ ⟨_, row_lt m hO t r⟩ j) := by
  blk_point [iblk, V, idx4 m hO t]
end

theorem pay_at (w : BitVec 32) (O A B C D : Vec Ideal S1x512x1152 .bf16) (r : Fin 512) (j : Fin 1152) :
    (k0_pay1 (F := Ideal) w O A B C D (ix2 r j) : EReal)
      = (if w = 0#32 then (O (ix3 0 r j) : EReal) else A (ix3 0 r j)) + (if w = 1#32 then (O (ix3 0 r j) : EReal) else B (ix3 0 r j))
        + (if w = 2#32 then (O (ix3 0 r j) : EReal) else C (ix3 0 r j)) + (if w = 3#32 then (O (ix3 0 r j) : EReal) else D (ix3 0 r j)) := by
  simp only [← AdamIn.sel_eq]
  unfold k0_pay1
  pointwise []
  rfl

/-- Two choices by one condition agree where each arm does. -/
theorem ite_both {p : Prop} [Decidable p] {a b c d : EReal} (h : p → a = c) (h' : ¬p → b = d) : (if p then a else b) = if p then c else d := by
  by_cases hp : p
  · rw [if_pos hp, if_pos hp, h hp]
  · rw [if_neg hp, if_neg hp, h' hp]

/-- The reference's summand, entry by entry. -/
theorem ref_term (x0 : Vec Ideal Cert.PeerSumRefIdeal.S1 .i32) (x1 x2 : Vec Ideal Cert.PeerSumRefIdeal.S4x1024x1152 .bf16) (k : Fin 4) (r : Fin 1024) (j : Fin 1152) :
    (Cert.PeerSumRefIdeal.Read.val_main_v6 (F := Ideal) x0 x1 x2 (ix3 k r j) : EReal)
      = if (x0 (ix1 (0 : Fin 1)) : BitVec 32) = BitVec.ofNat 32 k.val then x2 (ix3 k r j) else x1 (ix3 k r j) := by
  rw [← AdamIn.sel_eq]
  unfold Cert.PeerSumRefIdeal.Read.val_main_v6
  pointwise [Cert.PeerSumRefIdeal.Read.val_main_v5, Cert.PeerSumRefIdeal.Read.val_main_call0_v0, Cert.PeerSumRefIdeal.Read.val_main_v4, Cert.PeerSumRefIdeal.Read.val_main_v3, Cert.PeerSumRefIdeal.Read.val_main_v2, Cert.PeerSumRefIdeal.Read.val_main_v1, Cert.PeerSumRefIdeal.Read.val_main_v0]

theorem final5 (h : (word m 0).toNat < 4) (c : Dev nD) : (dats m hO 0 c).arrAt 5 (cfgM m hO).N
    = Cert.PeerSumRefIdeal.Read.val_main_v7 (F := Ideal) (m ((c : Thread nD τ).loc main_arg0)) (m ((c : Thread nD τ).loc main_arg1)) (m ((c : Thread nD τ).loc main_arg2)) := by
  obtain rfl : c = 0 := Subsingleton.elim _ _
  refine (dats m hO 0 0).arrAt_eq_of_covers 5 _ (of_decide_eq_true (by sl_kernel_rfl)) fun t _ => ?_
  show ∀ y : S512x1152.Idx, _
  intro y
  blk_simp
  rw [after5]
  idx_vars y
  have e : (((cfgM m hO).win 5).blk t).view.emb (ix2 y0 y1) = ix2 ⟨_, row_lt m hO t y0⟩ y1 := by
    refine (eq_ix2 _).trans (congrArg₂ ix2 (Fin.ext ?_) (Fin.ext ?_)) <;> blk_simp [idx5 m hO t]
  rw [e, Cert.PeerSumRefIdeal.Read.val_main_v7_apply, Fin.sum_univ_four, Cert.PeerSumRefIdeal.Read.val_main_cst_apply]
  have z : (FloatOps.ofBits .f32 0x00000000#32 : Ideal .f32) = 0 := by
    show Ideal.ofBits .f32 0x00000000#32 = 0
    simp [Ideal.ofBits, Ideal.ieee]
  rw [z]
  refine (pay_at _ _ _ _ _ _ _ _).trans (Eq.trans ?_ (zero_add _).symm)
  have hk (k : Fin 4) : Cert.PeerSumRefIdeal.Read.idx_main_v7 (ix2 ⟨_, row_lt m hO t y0⟩ y1) k = ix3 k ⟨_, row_lt m hO t y0⟩ y1 :=
    eq_ix3 _
  have hw (k : Fin 4) (e : word m 0 = BitVec.ofNat 32 k.val) : (iblk m hO 0 4 t : Vec Ideal S1x512x1152 .bf16) (ix3 0 y0 y1) = own m (ix3 k ⟨_, row_lt m hO t y0⟩ y1) :=
    (rd4 m hO t y0 y1 h).trans (congrArg (fun q => own m (ix3 q ⟨_, row_lt m hO t y0⟩ y1)) (Fin.ext ((congrArg BitVec.toNat e).trans (by fin_cases k <;> rfl))))
  simp only [hk]
  refine congrArg₂ (· + · : EReal → EReal → EReal) (congrArg₂ (· + · : EReal → EReal → EReal) (congrArg₂ (· + · : EReal → EReal → EReal) ?_ ?_) ?_) ?_
  · exact (ite_both (hw 0) (rd0 m hO t y0 y1)).trans (ref_term _ _ _ 0 _ _).symm
  · exact (ite_both (hw 1) (rd1 m hO t y0 y1)).trans (ref_term _ _ _ 1 _ _).symm
  · exact (ite_both (hw 2) (rd2 m hO t y0 y1)).trans (ref_term _ _ _ 2 _ _).symm
  · exact (ite_both (hw 3) (rd3 m hO t y0 y1)).trans (ref_term _ _ _ 3 _ _).symm

theorem algebraic : Cert.algebraic_PeerSumIdeal_PeerSumRefIdeal := by
  intro m g m' g' hpre hagree
  refine ⟨fun c => Cert.PeerSumRefIdeal.Read.val_main_v7 (F := Ideal) (m ((c : Thread nD τ).loc main_arg0)) (m ((c : Thread nD τ).loc main_arg1)) (m ((c : Thread nD τ).loc main_arg2)), ?_, ?_⟩
  · exact (θ_run defs _ _).mono (fun r h c => ⟨((h.1 c).1 5).trans (final5 m (ok m hpre) (word_chip m hpre 0) c), h.2 c⟩)
      (θ_run_and (run_main m g (ok m hpre)) (unchanged m g (ok m hpre)))
  · refine (θ_run Cert.PeerSumRefIdeal.defs _ _).mono (fun r h c => ?_) (Cert.PeerSumRefIdeal.Value.run (F := Ideal) m' g')
    obtain ⟨h0, hr⟩ := h c
    obtain ⟨e0, e1, e2⟩ := hagree c
    rw [Cert.PeerSumRefIdeal.Read.val_main_v7_eq, e0, e1, e2] at h0
    exact ⟨h0, hr⟩

end PeerSum
-- ==== Proof.Sums.lean ====
module

public import proofs.«01_k».proof.Defs
public import proofs.«01_k».proof.Proof.Gen.SlotSumIdeal
public import proofs.«01_k».proof.Proof.Gen.SlotSumIdeal.Frame
public import proofs.«01_k».proof.Proof.Gen.SlotSumIdeal.Value
public import proofs.«01_k».proof.Proof.Gen.SlotSumRefIdeal
public import proofs.«01_k».proof.Proof.Gen.SlotSumRefIdeal.Run
public import proofs.«01_k».proof.Proof.Gen.SlotSumRefIdeal.Read
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

/-! The sum of the eight received slots, entry by entry. -/

namespace SlotSum
open Cert.SlotSumIdeal Cert.SlotSumIdeal.Gen

/-- Slot `k` read through the kernel's load is the array at `k`. -/
theorem slot (x : Vec Ideal S8x272x128 .f32) (k : Fin 8) (r : Rect S8x272x128) (j : r.shape.Idx)
    (i : S272x128.Idx) (h0 : (r.idx j 0).val = k.val) (h1 : (r.idx j 1).val = (i 0).val)
    (h2 : (r.idx j 2).val = (i 1).val) :
    View.ld x r j = x (Cert.SlotSumRefIdeal.Read.idx_main_v0 i k) :=
  congrArg x (funext fun a => Fin.ext (by
    match a with
    | ⟨0, _⟩ => exact h0
    | ⟨1, _⟩ => exact h1
    | ⟨2, _⟩ => exact h2))

/-- The eight slots added one after the other are their sum. -/
theorem sum_eq (x : Vec Ideal S8x272x128 .f32) :
    Value.G1 (F := Ideal) x = Cert.SlotSumRefIdeal.Read.val_main_v0 (F := Ideal) x := by
  funext y
  rw [Cert.SlotSumRefIdeal.Read.val_main_v0_apply, Fin.sum_univ_eight,
    Cert.SlotSumRefIdeal.Read.val_main_cst_apply]
  refine (Value.piece1_0 (F := Ideal) _ _ _ _ _ _ _ _ y).trans ?_
  have h8 : r0_8.idx y = y := funext fun a => Fin.ext (by
    match a with
    | ⟨0, _⟩ => show 0 + 1 * (y 0).val = (y 0).val; omega
    | ⟨1, _⟩ => show 0 + 1 * (y 1).val = (y 1).val; omega)
  rw [h8]
  show ((((((_ + _) + _) + _) + _) + _) + _) + _ = _
  rw [slot x 0 r0_0 (Value.ix1_0 y) y rfl (by show 0 + 1 * (y 0).val = _; omega) (by show 0 + 1 * (y 1).val = _; omega),
    slot x 1 r0_1 (Value.ix1_1 y) y rfl (by show 0 + 1 * (y 0).val = _; omega) (by show 0 + 1 * (y 1).val = _; omega),
    slot x 2 r0_2 (Value.ix1_2 y) y rfl (by show 0 + 1 * (y 0).val = _; omega) (by show 0 + 1 * (y 1).val = _; omega),
    slot x 3 r0_3 (Value.ix1_3 y) y rfl (by show 0 + 1 * (y 0).val = _; omega) (by show 0 + 1 * (y 1).val = _; omega),
    slot x 4 r0_4 (Value.ix1_4 y) y rfl (by show 0 + 1 * (y 0).val = _; omega) (by show 0 + 1 * (y 1).val = _; omega),
    slot x 5 r0_5 (Value.ix1_5 y) y rfl (by show 0 + 1 * (y 0).val = _; omega) (by show 0 + 1 * (y 1).val = _; omega),
    slot x 6 r0_6 (Value.ix1_6 y) y rfl (by show 0 + 1 * (y 0).val = _; omega) (by show 0 + 1 * (y 1).val = _; omega),
    slot x 7 r0_7 (Value.ix1_7 y) y rfl (by show 0 + 1 * (y 0).val = _; omega) (by show 0 + 1 * (y 1).val = _; omega)]
  have z : (FloatOps.ofBits .f32 0x00000000#32 : Ideal .f32) = 0 := by
    show Ideal.ofBits .f32 0x00000000#32 = 0
    simp [Ideal.ofBits, Ideal.ieee]
  rw [z]
  exact (zero_add _).symm

theorem algebraic : Cert.algebraic_SlotSumIdeal_SlotSumRefIdeal := by
  intro m g m' g' hpre hagree
  refine ⟨fun c => Cert.SlotSumRefIdeal.Read.val_main_v0 (F := Ideal) (m ((c : Thread nD τ).loc main_arg0)), ?_, ?_⟩
  · refine (θ_run defs _ _).mono (fun r h c => ?_) (Value.run (F := Ideal) m g)
    obtain ⟨h0, hr⟩ := h c
    exact ⟨h0.trans (sum_eq _), hr⟩
  · refine (θ_run Cert.SlotSumRefIdeal.defs _ _).mono (fun r h c => ?_) (Cert.SlotSumRefIdeal.Value.run (F := Ideal) m' g')
    obtain ⟨h0, hr⟩ := h c
    rw [Cert.SlotSumRefIdeal.Read.val_main_v0_eq, hagree c] at h0
    exact ⟨h0, hr⟩

end SlotSum
-- ==== Proof.Pack.lean ====
module

public import proofs.«01_k».proof.Defs
public import proofs.«01_k».proof.Proof.Gen.PackIdeal
public import proofs.«01_k».proof.Proof.Gen.PackIdeal.Run
public import proofs.«01_k».proof.Proof.Gen.PackIdeal.Read
public import proofs.«01_k».proof.Proof.Gen.PackRefIdeal
public import proofs.«01_k».proof.Proof.Gen.PackRefIdeal.Run
public import proofs.«01_k».proof.Proof.Gen.PackRefIdeal.Read
public import Idealize.ShloMosaic.Lib.Pipeline.ValueKit
public import Idealize.ShloMosaic.Lib.KernelVsHost

@[expose] public section

set_option maxRecDepth 16384

noncomputable section

open Idealize.ShloMosaic Idealize.ShloMosaic.TcCoe Idealize.SL.Sem

/-! The small gradients packed end to end into rows of 128, the rest of the rows zero. -/

namespace Pack

/-- The piece of a row of pieces that a position falls in. -/
theorem find : ∀ (ns : List Nat) (p : Nat), p < ns.sum → ∃ k, ∃ hk : k < ns.length, (ns.take k).sum ≤ p ∧ p < (ns.take k).sum + ns[k]
  | [], p, h => absurd h (Nat.not_lt_zero p)
  | n :: ns, p, h => by
    by_cases hp : p < n
    · exact ⟨0, Nat.succ_pos _, Nat.zero_le _, by simpa using hp⟩
    · obtain ⟨k, hk, h1, h2⟩ := find ns (p - n) (by rw [List.sum_cons] at h; omega)
      refine ⟨k + 1, Nat.succ_lt_succ hk, ?_, ?_⟩
      · rw [List.take_succ_cons, List.sum_cons]; omega
      · rw [List.take_succ_cons, List.sum_cons, List.getElem_cons_succ]; omega

/-- Arrays end to end are, before a last one, the same without it. -/
theorem snoc {α : Type} {N M : Nat} (xs : List ((s : Shape) × (s.Idx → α))) (z : (s : Shape) × (s.Idx → α))
    (h : Shape.Concatenates (xs.map (·.1)) ⟨1, ![N]⟩ 0) (h' : Shape.Concatenates ((xs ++ [z]).map (·.1)) ⟨1, ![M]⟩ 0)
    (p : Nat) (hp : p < N) (hq : p < M) :
    concatenate ⟨1, ![N]⟩ 0 xs h (ix1 ⟨p, hp⟩) = concatenate ⟨1, ![M]⟩ 0 (xs ++ [z]) h' (ix1 ⟨p, hq⟩) := by
  obtain ⟨k, hk, h1, h2⟩ := find _ p (lt_of_lt_of_eq (b := ((⟨1, ![N]⟩ : Shape).size 0)) hp h.2.2.symm)
  have hk' : k < xs.length := by simpa using hk
  have hr : xs[k].1.rank = 1 := (h.2.1 _ (List.mem_map.2 ⟨_, List.getElem_mem hk', rfl⟩)).1
  rw [List.getElem_map, List.getElem_map, dif_pos hr] at h2
  rw [← List.map_take, ← List.map_take] at h1 h2
  obtain ⟨o, ho⟩ : ∃ o, (((xs.take k).map (·.1)).map fun s => if h : s.rank = (⟨1, ![N]⟩ : Shape).rank
      then s.size ((0 : Fin (⟨1, ![N]⟩ : Shape).rank).cast h.symm) else 0).sum = o := ⟨_, rfl⟩
  rw [ho] at h1 h2
  have hlt (b : Fin xs[k].1.rank) : p - o < xs[k].1.size b := by
    have e : b = Fin.cast hr.symm (0 : Fin 1) := Fin.ext (by have hb := b.isLt; show b.val = 0; omega)
    rw [e]
    omega
  have c := concatenate_apply_piece (t := ⟨1, ![N]⟩) 0 xs h (ix1 ⟨p, hp⟩) k hk' xs[k].1 xs[k].2 rfl hr o ho
    (fun b => ⟨p - o, hlt b⟩) (fun b hb => absurd (Subsingleton.elim _ _) hb) (Nat.add_sub_cancel' h1)
  have c' := concatenate_apply_piece (t := ⟨1, ![M]⟩) 0 (xs ++ [z]) h' (ix1 ⟨p, hq⟩) k (by rw [List.length_append]; exact Nat.lt_add_right _ hk')
    xs[k].1 xs[k].2 (List.getElem_append_left hk') hr o (by rw [List.take_append_of_le_length hk'.le]; exact ho)
    (fun b => ⟨p - o, hlt b⟩) (fun b hb => absurd (Subsingleton.elim _ _) hb) (Nat.add_sub_cancel' h1)
  exact c.trans c'.symm

/-- The last of the arrays end to end. -/
theorem last {α : Type} {N M n : Nat} (xs : List ((s : Shape) × (s.Idx → α))) (z : (⟨1, ![n]⟩ : Shape).Idx → α)
    (h : Shape.Concatenates (xs.map (·.1)) ⟨1, ![N]⟩ 0) (h' : Shape.Concatenates ((xs ++ [(⟨⟨1, ![n]⟩, z⟩ : (s : Shape) × (s.Idx → α))]).map (·.1)) ⟨1, ![M]⟩ 0)
    (p : Nat) (hp : N ≤ p) (hq : p < M) (hr : p - N < n) :
    concatenate ⟨1, ![M]⟩ 0 (xs ++ [(⟨⟨1, ![n]⟩, z⟩ : (s : Shape) × (s.Idx → α))]) h' (ix1 ⟨p, hq⟩) = z (ix1 ⟨p - N, hr⟩) :=
  concatenate_apply_piece (t := ⟨1, ![M]⟩) 0 _ h' (ix1 ⟨p, hq⟩) xs.length (by rw [List.length_append]; exact Nat.lt_succ_self _) ⟨1, ![n]⟩ z
    (List.getElem_concat_length rfl _) rfl N (by rw [List.take_left]; exact h.2.2) (ix1 ⟨p - N, hr⟩) (fun b hb => absurd (Subsingleton.elim _ _) hb)
    (Nat.add_sub_cancel' hp)

open Cert.PackIdeal.Read (val_main_v6 val_main_v7 val_main_v8 val_main_v8_apply)

variable (x0 x1 : (⟨Cert.PackIdeal.S64x64x16, .f32⟩ : BufTy).Contents (Elt Ideal)) (x2 x3 : (⟨Cert.PackIdeal.S64x16x64, .f32⟩ : BufTy).Contents (Elt Ideal))
  (x4 : (⟨Cert.PackIdeal.S2048, .f32⟩ : BufTy).Contents (Elt Ideal)) (x5 x6 : (⟨Cert.PackIdeal.S64, .f32⟩ : BufTy).Contents (Elt Ideal))
  (x7 : (⟨Cert.PackIdeal.S16, .f32⟩ : BufTy).Contents (Elt Ideal)) (x8 x9 : (⟨Cert.PackIdeal.S64x64, .f32⟩ : BufTy).Contents (Elt Ideal))
  (x10 : (⟨Cert.PackIdeal.S64, .f32⟩ : BufTy).Contents (Elt Ideal)) (x11 x12 x13 x14 : (⟨Cert.PackIdeal.S1024, .f32⟩ : BufTy).Contents (Elt Ideal))

/-- The flat array: zeros added at the end by padding, or as a last piece. -/
theorem flat_eq : val_main_v7 (F := Ideal) x0 x1 x2 x3 x4 x5 x6 x7 x8 x9 x10 x11 x12 x13 x14
    = Cert.PackRefIdeal.Read.val_main_v7 (F := Ideal) x0 x1 x2 x3 x4 x5 x6 x7 x8 x9 x10 x11 x12 x13 x14 := by
  funext y
  rw [show y = ix1 (y 0) from eq_ix1 y]
  generalize hp : y 0 = q
  obtain ⟨p, hq⟩ := q
  unfold val_main_v7 Cert.PackRefIdeal.Read.val_main_v7
  by_cases h : p < 276688
  · refine (pad_apply_of_inside _ _ _ _ _ _ _ (ix1 ⟨p, hq⟩) (ix1 (⟨p, h⟩ : Fin 276688)) fun a => ?_).trans ?_
    · obtain rfl : a = 0 := Subsingleton.elim _ _
      show p = 0 + p * (0 + 1)
      omega
    · unfold val_main_v6
      exact snoc _ _ _ _ p h hq
  · refine (pad_apply_of_not_inside _ _ _ _ _ _ _ (ix1 ⟨p, hq⟩) 0 fun a => h ?_).trans ?_
    · have a := a.2.2
      change (p - 0) / (0 + 1) < 276688 at a
      omega
    · have hq' : p - 276688 < 1840 := by
        have hq0 : p < 278528 := hq
        omega
      refine Eq.trans ?_ (last [⟨Cert.PackIdeal.S65536, _⟩, ⟨Cert.PackIdeal.S65536, _⟩, ⟨Cert.PackIdeal.S65536, _⟩, ⟨Cert.PackIdeal.S65536, _⟩,
        ⟨Cert.PackIdeal.S2048, _⟩, ⟨Cert.PackIdeal.S64, _⟩, ⟨Cert.PackIdeal.S64, _⟩, ⟨Cert.PackIdeal.S16, _⟩, ⟨Cert.PackIdeal.S4096, _⟩, ⟨Cert.PackIdeal.S4096, _⟩,
        ⟨Cert.PackIdeal.S64, _⟩, ⟨Cert.PackIdeal.S1024, _⟩, ⟨Cert.PackIdeal.S1024, _⟩, ⟨Cert.PackIdeal.S1024, _⟩, ⟨Cert.PackIdeal.S1024, _⟩]
        _ Cert.PackIdeal.Gen.concatenates_S65536_S65536_S65536_S65536_S2048_S64_S64_S16_S4096_S4096_S64_S1024_S1024_S1024_S1024_S276688_d0 _ p (Nat.le_of_not_lt h) hq hq').symm
      rw [Cert.PackRefIdeal.Read.val_main_v6_apply, Cert.PackRefIdeal.Read.val_main_cst_apply]
      show (((0#32 : BitVec 32).toInt : ℝ) : EReal) = Ideal.ofBits .f32 0x00000000#32
      simp [Ideal.ofBits, Ideal.ieee]

/-- The packed array. -/
theorem rows_eq : val_main_v8 (F := Ideal) x0 x1 x2 x3 x4 x5 x6 x7 x8 x9 x10 x11 x12 x13 x14
    = Cert.PackRefIdeal.Read.val_main_v8 (F := Ideal) x0 x1 x2 x3 x4 x5 x6 x7 x8 x9 x10 x11 x12 x13 x14 := by
  unfold val_main_v8 Cert.PackRefIdeal.Read.val_main_v8
  rw [flat_eq]

open Cert.PackIdeal in
theorem algebraic : Cert.algebraic_PackIdeal_PackRefIdeal := by
  intro m g m' g' hpre hagree
  refine ⟨fun c => val_main_v8 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)), ?_, ?_⟩
  · refine (θ_run defs _ _).mono (fun r h c => ?_) (Cert.PackIdeal.Value.run (F := Ideal) m g)
    obtain ⟨h0, hr⟩ := h c
    rw [Cert.PackIdeal.Read.val_main_v8_eq] at h0
    exact ⟨h0, hr⟩
  · refine (θ_run Cert.PackRefIdeal.defs _ _).mono (fun r h c => ?_) (Cert.PackRefIdeal.Value.run (F := Ideal) m' g')
    obtain ⟨h0, hr⟩ := h c
    obtain ⟨e0, e1, e2, e3, e4, e5, e6, e7, e8, e9, e10, e11, e12, e13, e14⟩ := hagree c
    rw [Cert.PackRefIdeal.Read.val_main_v8_eq, e0, e1, e2, e3, e4, e5, e6, e7, e8, e9, e10, e11, e12, e13, e14, ← rows_eq] at h0
    exact ⟨h0, hr⟩

end Pack
-- ==== Proof.Unpack.lean ====
module

public import proofs.«01_k».proof.Defs
public import proofs.«01_k».proof.Proof.Gen.UnpackIdeal
public import proofs.«01_k».proof.Proof.Gen.UnpackIdeal.Run
public import proofs.«01_k».proof.Proof.Gen.UnpackIdeal.Read
public import proofs.«01_k».proof.Proof.Gen.UnpackRefIdeal
public import proofs.«01_k».proof.Proof.Gen.UnpackRefIdeal.Run
public import proofs.«01_k».proof.Proof.Gen.UnpackRefIdeal.Read

/-! The unpacking of the small parameters.

Every result is one stretch of the flattened array, reshaped. The reference cuts the array at all ends at once and
drops what is left over; a stretch starts and ends at the same place in both. -/

@[expose] public section

open Idealize.ShloMosaic Idealize.ShloMosaic.TcCoe Idealize.SL.Sem

namespace Unpack

open Cert.UnpackIdeal Cert.UnpackIdeal.Read in
/-- The kernel's unpacking and the reference's return the same parts. -/
theorem algebraic : Cert.algebraic_UnpackIdeal_UnpackRefIdeal := by
  intro m g m' g' _ hagree
  refine ⟨fun c => val_main_v2 (F := Ideal) (m ((c : Thread nD τ).loc main_arg0)),
    fun c => val_main_v4 (F := Ideal) (m ((c : Thread nD τ).loc main_arg0)),
    fun c => val_main_v6 (F := Ideal) (m ((c : Thread nD τ).loc main_arg0)),
    fun c => val_main_v8 (F := Ideal) (m ((c : Thread nD τ).loc main_arg0)),
    fun c => val_main_v9 (F := Ideal) (m ((c : Thread nD τ).loc main_arg0)),
    fun c => val_main_v10 (F := Ideal) (m ((c : Thread nD τ).loc main_arg0)),
    fun c => val_main_v11 (F := Ideal) (m ((c : Thread nD τ).loc main_arg0)),
    fun c => val_main_v12 (F := Ideal) (m ((c : Thread nD τ).loc main_arg0)),
    fun c => val_main_v14 (F := Ideal) (m ((c : Thread nD τ).loc main_arg0)),
    fun c => val_main_v16 (F := Ideal) (m ((c : Thread nD τ).loc main_arg0)),
    fun c => val_main_v17 (F := Ideal) (m ((c : Thread nD τ).loc main_arg0)),
    fun c => val_main_v18 (F := Ideal) (m ((c : Thread nD τ).loc main_arg0)),
    fun c => val_main_v19 (F := Ideal) (m ((c : Thread nD τ).loc main_arg0)),
    fun c => val_main_v20 (F := Ideal) (m ((c : Thread nD τ).loc main_arg0)),
    fun c => val_main_v21 (F := Ideal) (m ((c : Thread nD τ).loc main_arg0)), ?_, ?_⟩
  · exact (θ_run defs _ _).mono (fun r h c => h c) (Cert.UnpackIdeal.Value.run (F := Ideal) m g)
  · refine (θ_run Cert.UnpackRefIdeal.defs _ _).mono (fun r h c => ?_) (Cert.UnpackRefIdeal.Value.run (F := Ideal) m' g')
    have h := h c
    rw [hagree c] at h
    exact (hagree c).symm ▸ h

end Unpack
-- ==== Proof.lean ====
module

public import proofs.«01_k».proof.Defs
public import proofs.«01_k».proof.Proof.Gen.AttnBwd
public import proofs.«01_k».proof.Proof.Gen.AttnBwdIdeal
public import proofs.«01_k».proof.Proof.Gen.AttnBwdRefIdeal
public import proofs.«01_k».proof.Proof.Gen.AttnBwdRefIdeal.Read
public import proofs.«01_k».proof.Proof.Gen.AttnBwdRefIdeal.Run
public import proofs.«01_k».proof.Proof.Gen.AttnFwd
public import proofs.«01_k».proof.Proof.Gen.AttnFwd.Frame
public import proofs.«01_k».proof.Proof.Gen.AttnFwdIdeal
public import proofs.«01_k».proof.Proof.Gen.AttnFwdIdeal.Frame
public import proofs.«01_k».proof.Proof.Gen.AttnFwdIdeal.Value
public import proofs.«01_k».proof.Proof.Gen.AttnFwdRefIdeal
public import proofs.«01_k».proof.Proof.Gen.AttnFwdRefIdeal.Read
public import proofs.«01_k».proof.Proof.Gen.AttnFwdRefIdeal.Run
public import proofs.«01_k».proof.Proof.Gen.GluBwd
public import proofs.«01_k».proof.Proof.Gen.GluBwd.Frame
public import proofs.«01_k».proof.Proof.Gen.GluBwdIdeal
public import proofs.«01_k».proof.Proof.Gen.GluBwdIdeal.Frame
public import proofs.«01_k».proof.Proof.Gen.GluBwdIdeal.Value
public import proofs.«01_k».proof.Proof.Gen.GluBwdRefIdeal
public import proofs.«01_k».proof.Proof.Gen.GluBwdRefIdeal.Read
public import proofs.«01_k».proof.Proof.Gen.GluBwdRefIdeal.Run
public import proofs.«01_k».proof.Proof.Gen.InBwd
public import proofs.«01_k».proof.Proof.Gen.InBwd.Frame
public import proofs.«01_k».proof.Proof.Gen.InBwdIdeal
public import proofs.«01_k».proof.Proof.Gen.InBwdIdeal.Frame
public import proofs.«01_k».proof.Proof.Gen.InBwdIdeal.Value
public import proofs.«01_k».proof.Proof.Gen.InBwdRefIdeal
public import proofs.«01_k».proof.Proof.Gen.InBwdRefIdeal.Read
public import proofs.«01_k».proof.Proof.Gen.InBwdRefIdeal.Run
public import proofs.«01_k».proof.Proof.Gen.Loss
public import proofs.«01_k».proof.Proof.Gen.Loss.Frame
public import proofs.«01_k».proof.Proof.Gen.LossIdeal
public import proofs.«01_k».proof.Proof.Gen.LossIdeal.Frame
public import proofs.«01_k».proof.Proof.Gen.LossIdeal.Value
public import proofs.«01_k».proof.Proof.Gen.LossRefIdeal
public import proofs.«01_k».proof.Proof.Gen.LossRefIdeal.Read
public import proofs.«01_k».proof.Proof.Gen.LossRefIdeal.Run
public import proofs.«01_k».proof.Proof.Gen.OutBwd
public import proofs.«01_k».proof.Proof.Gen.OutBwd.Frame
public import proofs.«01_k».proof.Proof.Gen.OutBwdIdeal
public import proofs.«01_k».proof.Proof.Gen.OutBwdIdeal.Frame
public import proofs.«01_k».proof.Proof.Gen.OutBwdIdeal.Value
public import proofs.«01_k».proof.Proof.Gen.OutBwdRefIdeal
public import proofs.«01_k».proof.Proof.Gen.OutBwdRefIdeal.Read
public import proofs.«01_k».proof.Proof.Gen.OutBwdRefIdeal.Run
public import proofs.«01_k».proof.Proof.Gen.ParamBwd
public import proofs.«01_k».proof.Proof.Gen.ParamBwd.Frame
public import proofs.«01_k».proof.Proof.Gen.ParamBwdIdeal
public import proofs.«01_k».proof.Proof.Gen.ParamBwdIdeal.Frame
public import proofs.«01_k».proof.Proof.Gen.ParamBwdIdeal.Value
public import proofs.«01_k».proof.Proof.Gen.ParamBwdRefIdeal
public import proofs.«01_k».proof.Proof.Gen.ParamBwdRefIdeal.Read
public import proofs.«01_k».proof.Proof.Gen.ParamBwdRefIdeal.Run
public import proofs.«01_k».proof.Proof.Gen.Pre_attn_fwd_finite
public import proofs.«01_k».proof.Proof.Gen.Pre_glu_finite
public import proofs.«01_k».proof.Proof.Gen.Pre_param_finite
public import proofs.«01_k».proof.Proof.AttnFwd
public import proofs.«01_k».proof.Proof.AttnIFrame
public import proofs.«01_k».proof.Proof.AttnPFrame
public import proofs.«01_k».proof.Proof.Glu
public import proofs.«01_k».proof.Proof.In
public import proofs.«01_k».proof.Proof.Loss
public import proofs.«01_k».proof.Proof.Out
public import proofs.«01_k».proof.Proof.Param
public import proofs.«01_k».proof.Proof.Gen.Gate
public import proofs.«01_k».proof.Proof.Gen.Gate.Frame
public import proofs.«01_k».proof.Proof.Gen.GateIdeal
public import proofs.«01_k».proof.Proof.Gen.GateIdeal.Frame
public import proofs.«01_k».proof.Proof.Gen.GateIdeal.Value
public import proofs.«01_k».proof.Proof.Gen.GateRefIdeal
public import proofs.«01_k».proof.Proof.Gen.GateRefIdeal.Read
public import proofs.«01_k».proof.Proof.Gen.GateRefIdeal.Run
public import proofs.«01_k».proof.Proof.Gen.Prep
public import proofs.«01_k».proof.Proof.Gen.Prep.Frame
public import proofs.«01_k».proof.Proof.Gen.PrepIdeal
public import proofs.«01_k».proof.Proof.Gen.PrepIdeal.Frame
public import proofs.«01_k».proof.Proof.Gen.PrepRefIdeal
public import proofs.«01_k».proof.Proof.Gen.PrepRefIdeal.Read
public import proofs.«01_k».proof.Proof.Gen.PrepRefIdeal.Run
public import proofs.«01_k».proof.Proof.Gen.Pre_prep_finite
public import proofs.«01_k».proof.Proof.Gen.Rope
public import proofs.«01_k».proof.Proof.Gen.Rope.Frame
public import proofs.«01_k».proof.Proof.Gen.RopeIdeal
public import proofs.«01_k».proof.Proof.Gen.RopeIdeal.Frame
public import proofs.«01_k».proof.Proof.Gen.RopeIdeal.Value
public import proofs.«01_k».proof.Proof.Gen.RopeRefIdeal
public import proofs.«01_k».proof.Proof.Gen.RopeRefIdeal.Read
public import proofs.«01_k».proof.Proof.Gen.RopeRefIdeal.Run
public import proofs.«01_k».proof.Proof.Gen.GradIn
public import proofs.«01_k».proof.Proof.Gen.GradIn.Frame
public import proofs.«01_k».proof.Proof.Gen.GradInIdeal
public import proofs.«01_k».proof.Proof.Gen.GradInIdeal.Frame
public import proofs.«01_k».proof.Proof.Gen.GradInIdeal.Value
public import proofs.«01_k».proof.Proof.Gen.GradInRefIdeal
public import proofs.«01_k».proof.Proof.Gen.GradInRefIdeal.Read
public import proofs.«01_k».proof.Proof.Gen.GradInRefIdeal.Run
public import proofs.«01_k».proof.Proof.Gen.AdamSmall
public import proofs.«01_k».proof.Proof.Gen.AdamSmall.Frame
public import proofs.«01_k».proof.Proof.Gen.AdamSmallIdeal
public import proofs.«01_k».proof.Proof.Gen.AdamSmallIdeal.Frame
public import proofs.«01_k».proof.Proof.Gen.AdamSmallIdeal.Value
public import proofs.«01_k».proof.Proof.Gen.AdamSmallRefIdeal
public import proofs.«01_k».proof.Proof.Gen.AdamSmallRefIdeal.Read
public import proofs.«01_k».proof.Proof.Gen.AdamSmallRefIdeal.Run
public import proofs.«01_k».proof.Proof.Gen.AdamB
public import proofs.«01_k».proof.Proof.Gen.AdamB.Frame
public import proofs.«01_k».proof.Proof.Gen.AdamBIdeal
public import proofs.«01_k».proof.Proof.Gen.AdamBIdeal.Frame
public import proofs.«01_k».proof.Proof.Gen.AdamBIdeal.Value
public import proofs.«01_k».proof.Proof.Gen.AdamBRefIdeal
public import proofs.«01_k».proof.Proof.Gen.AdamBRefIdeal.Read
public import proofs.«01_k».proof.Proof.Gen.AdamBRefIdeal.Run
public import proofs.«01_k».proof.Proof.Gen.AdamIn
public import proofs.«01_k».proof.Proof.Gen.AdamIn.Frame
public import proofs.«01_k».proof.Proof.Gen.AdamInIdeal
public import proofs.«01_k».proof.Proof.Gen.AdamInIdeal.Frame
public import proofs.«01_k».proof.Proof.Gen.AdamInRefIdeal
public import proofs.«01_k».proof.Proof.Gen.AdamInRefIdeal.Read
public import proofs.«01_k».proof.Proof.Gen.AdamInRefIdeal.Run
public import proofs.«01_k».proof.Proof.Gen.PairSum
public import proofs.«01_k».proof.Proof.Gen.PairSum.Frame
public import proofs.«01_k».proof.Proof.Gen.PairSumIdeal
public import proofs.«01_k».proof.Proof.Gen.PairSumIdeal.Frame
public import proofs.«01_k».proof.Proof.Gen.PairSumRefIdeal
public import proofs.«01_k».proof.Proof.Gen.PairSumRefIdeal.Read
public import proofs.«01_k».proof.Proof.Gen.PairSumRefIdeal.Run
public import proofs.«01_k».proof.Proof.Gen.PeerSum
public import proofs.«01_k».proof.Proof.Gen.PeerSum.Frame
public import proofs.«01_k».proof.Proof.Gen.PeerSumIdeal
public import proofs.«01_k».proof.Proof.Gen.PeerSumIdeal.Frame
public import proofs.«01_k».proof.Proof.Gen.PeerSumRefIdeal
public import proofs.«01_k».proof.Proof.Gen.PeerSumRefIdeal.Read
public import proofs.«01_k».proof.Proof.Gen.PeerSumRefIdeal.Run
public import proofs.«01_k».proof.Proof.Gen.SlotSum
public import proofs.«01_k».proof.Proof.Gen.SlotSum.Frame
public import proofs.«01_k».proof.Proof.Gen.SlotSumIdeal
public import proofs.«01_k».proof.Proof.Gen.SlotSumIdeal.Frame
public import proofs.«01_k».proof.Proof.Gen.SlotSumIdeal.Value
public import proofs.«01_k».proof.Proof.Gen.SlotSumRefIdeal
public import proofs.«01_k».proof.Proof.Gen.SlotSumRefIdeal.Read
public import proofs.«01_k».proof.Proof.Gen.SlotSumRefIdeal.Run
public import proofs.«01_k».proof.Proof.Gen.Pack
public import proofs.«01_k».proof.Proof.Gen.Pack.Run
public import proofs.«01_k».proof.Proof.Gen.PackIdeal
public import proofs.«01_k».proof.Proof.Gen.PackIdeal.Read
public import proofs.«01_k».proof.Proof.Gen.PackIdeal.Run
public import proofs.«01_k».proof.Proof.Gen.PackRefIdeal
public import proofs.«01_k».proof.Proof.Gen.PackRefIdeal.Read
public import proofs.«01_k».proof.Proof.Gen.PackRefIdeal.Run
public import proofs.«01_k».proof.Proof.Gen.Unpack
public import proofs.«01_k».proof.Proof.Gen.Unpack.Run
public import proofs.«01_k».proof.Proof.Gen.UnpackIdeal
public import proofs.«01_k».proof.Proof.Gen.UnpackIdeal.Read
public import proofs.«01_k».proof.Proof.Gen.UnpackIdeal.Run
public import proofs.«01_k».proof.Proof.Gen.UnpackRefIdeal
public import proofs.«01_k».proof.Proof.Gen.UnpackRefIdeal.Read
public import proofs.«01_k».proof.Proof.Gen.UnpackRefIdeal.Run
public import proofs.«01_k».proof.Proof.Gen.Pre_a_half
public import proofs.«01_k».proof.Proof.Gen.Pre_a_chip
public import proofs.«01_k».proof.Proof.Gate
public import proofs.«01_k».proof.Proof.Prep
public import proofs.«01_k».proof.Proof.Rope
public import proofs.«01_k».proof.Proof.GradIn
public import proofs.«01_k».proof.Proof.Adam
public import proofs.«01_k».proof.Proof.AdamIn
public import proofs.«01_k».proof.Proof.PairSum
public import proofs.«01_k».proof.Proof.PeerSum
public import proofs.«01_k».proof.Proof.Sums
public import proofs.«01_k».proof.Proof.Pack
public import proofs.«01_k».proof.Proof.Unpack
public import Idealize.ShloMosaic.Adequacy
public import Idealize.ShloMosaic.Init

@[expose] public section

set_option maxRecDepth 16384

namespace Cert.Proof

open Idealize.ShloMosaic Idealize.SL.Sem

/-- The reference `OutBwdRefIdeal` terminates, leaves its arguments unchanged and has no semaphore. -/
theorem frame_OutBwdRefIdeal : Cert.quiescent_OutBwdRefIdeal := fun m g _ =>
  (θ_run Cert.OutBwdRefIdeal.defs _ _).mono (fun r h => And.intro (fun c => (h c).2.2.2.2) (sem_eq_zero_of_no_sems (by decide) r.2))
    (Cert.OutBwdRefIdeal.Value.run (F := Ideal) m g)

/-- The reference `GluBwdRefIdeal` terminates, leaves its arguments unchanged and has no semaphore. -/
theorem frame_GluBwdRefIdeal : Cert.quiescent_GluBwdRefIdeal := fun m g _ =>
  (θ_run Cert.GluBwdRefIdeal.defs _ _).mono (fun r h => And.intro (fun c => (h c).2.2.2.2) (sem_eq_zero_of_no_sems (by decide) r.2))
    (Cert.GluBwdRefIdeal.Value.run (F := Ideal) m g)

/-- The reference `ParamBwdRefIdeal` terminates, leaves its arguments unchanged and has no semaphore. -/
theorem frame_ParamBwdRefIdeal : Cert.quiescent_ParamBwdRefIdeal := fun m g _ =>
  (θ_run Cert.ParamBwdRefIdeal.defs _ _).mono (fun r h => And.intro (fun c => (h c).2.2.2.2.2) (sem_eq_zero_of_no_sems (by decide) r.2))
    (Cert.ParamBwdRefIdeal.Value.run (F := Ideal) m g)

/-- The reference `InBwdRefIdeal` terminates, leaves its arguments unchanged and has no semaphore. -/
theorem frame_InBwdRefIdeal : Cert.quiescent_InBwdRefIdeal := fun m g _ =>
  (θ_run Cert.InBwdRefIdeal.defs _ _).mono (fun r h => And.intro (fun c => (h c).2.2) (sem_eq_zero_of_no_sems (by decide) r.2))
    (Cert.InBwdRefIdeal.Value.run (F := Ideal) m g)

/-- The reference `AttnBwdRefIdeal` terminates, leaves its arguments unchanged and has no semaphore. -/
theorem frame_AttnBwdRefIdeal : Cert.quiescent_AttnBwdRefIdeal := fun m g _ =>
  (θ_run Cert.AttnBwdRefIdeal.defs _ _).mono (fun r h => And.intro (fun c => (h c).2.2.2.2) (sem_eq_zero_of_no_sems (by decide) r.2))
    (Cert.AttnBwdRefIdeal.Value.run (F := Ideal) m g)

/-- The reference `LossRefIdeal` terminates, leaves its arguments unchanged and has no semaphore. -/
theorem frame_LossRefIdeal : Cert.quiescent_LossRefIdeal := fun m g _ =>
  (θ_run Cert.LossRefIdeal.defs _ _).mono (fun r h => And.intro (fun c => (h c).2.2.2) (sem_eq_zero_of_no_sems (by decide) r.2))
    (Cert.LossRefIdeal.Value.run (F := Ideal) m g)

/-- The reference `AttnFwdRefIdeal` terminates, leaves its arguments unchanged and has no semaphore. -/
theorem frame_AttnFwdRefIdeal : Cert.quiescent_AttnFwdRefIdeal := fun m g _ =>
  (θ_run Cert.AttnFwdRefIdeal.defs _ _).mono (fun r h => And.intro (fun c => (h c).2) (sem_eq_zero_of_no_sems (by decide) r.2))
    (Cert.AttnFwdRefIdeal.Value.run (F := Ideal) m g)

/-- The reference `GateRefIdeal` terminates, leaves its arguments unchanged and has no semaphore. -/
theorem frame_GateRefIdeal : Cert.quiescent_GateRefIdeal := fun m g _ =>
  (θ_run Cert.GateRefIdeal.defs _ _).mono (fun r h => And.intro (fun c => (h c).2.2) (sem_eq_zero_of_no_sems (by decide) r.2))
    (Cert.GateRefIdeal.Value.run (F := Ideal) m g)

/-- The reference `PrepRefIdeal` terminates, leaves its arguments unchanged and has no semaphore. -/
theorem frame_PrepRefIdeal : Cert.quiescent_PrepRefIdeal := fun m g _ =>
  (θ_run Cert.PrepRefIdeal.defs _ _).mono (fun r h => And.intro (fun c => (h c).2.2.2.2.2.2) (sem_eq_zero_of_no_sems (by decide) r.2))
    (Cert.PrepRefIdeal.Value.run (F := Ideal) m g)

/-- The reference `RopeRefIdeal` terminates, leaves its arguments unchanged and has no semaphore. -/
theorem frame_RopeRefIdeal : Cert.quiescent_RopeRefIdeal := fun m g _ =>
  (θ_run Cert.RopeRefIdeal.defs _ _).mono (fun r h => And.intro (fun c => (h c).2) (sem_eq_zero_of_no_sems (by decide) r.2))
    (Cert.RopeRefIdeal.Value.run (F := Ideal) m g)

/-- The reference `GradInRefIdeal` terminates, leaves its arguments unchanged and has no semaphore. -/
theorem frame_GradInRefIdeal : Cert.quiescent_GradInRefIdeal := fun m g _ =>
  (θ_run Cert.GradInRefIdeal.defs _ _).mono (fun r h => And.intro (fun c => (h c).2.2) (sem_eq_zero_of_no_sems (by decide) r.2))
    (Cert.GradInRefIdeal.Value.run (F := Ideal) m g)

/-- The reference `AdamSmallRefIdeal` terminates, leaves its arguments unchanged and has no semaphore. -/
theorem frame_AdamSmallRefIdeal : Cert.quiescent_AdamSmallRefIdeal := fun m g _ =>
  (θ_run Cert.AdamSmallRefIdeal.defs _ _).mono (fun r h => And.intro (fun c => (h c).2.2.2) (sem_eq_zero_of_no_sems (by decide) r.2))
    (Cert.AdamSmallRefIdeal.Value.run (F := Ideal) m g)

/-- The reference `AdamBRefIdeal` terminates, leaves its arguments unchanged and has no semaphore. -/
theorem frame_AdamBRefIdeal : Cert.quiescent_AdamBRefIdeal := fun m g _ =>
  (θ_run Cert.AdamBRefIdeal.defs _ _).mono (fun r h => And.intro (fun c => (h c).2.2.2) (sem_eq_zero_of_no_sems (by decide) r.2))
    (Cert.AdamBRefIdeal.Value.run (F := Ideal) m g)

/-- The reference `AdamInRefIdeal` terminates, leaves its arguments unchanged and has no semaphore. -/
theorem frame_AdamInRefIdeal : Cert.quiescent_AdamInRefIdeal := fun m g _ =>
  (θ_run Cert.AdamInRefIdeal.defs _ _).mono (fun r h => And.intro (fun c => (h c).2.2.2.2) (sem_eq_zero_of_no_sems (by decide) r.2))
    (Cert.AdamInRefIdeal.Value.run (F := Ideal) m g)

/-- The reference `PairSumRefIdeal` terminates, leaves its arguments unchanged and has no semaphore. -/
theorem frame_PairSumRefIdeal : Cert.quiescent_PairSumRefIdeal := fun m g _ =>
  (θ_run Cert.PairSumRefIdeal.defs _ _).mono (fun r h => And.intro (fun c => (h c).2) (sem_eq_zero_of_no_sems (by decide) r.2))
    (Cert.PairSumRefIdeal.Value.run (F := Ideal) m g)

/-- The reference `PeerSumRefIdeal` terminates, leaves its arguments unchanged and has no semaphore. -/
theorem frame_PeerSumRefIdeal : Cert.quiescent_PeerSumRefIdeal := fun m g _ =>
  (θ_run Cert.PeerSumRefIdeal.defs _ _).mono (fun r h => And.intro (fun c => (h c).2) (sem_eq_zero_of_no_sems (by decide) r.2))
    (Cert.PeerSumRefIdeal.Value.run (F := Ideal) m g)

/-- The reference `SlotSumRefIdeal` terminates, leaves its arguments unchanged and has no semaphore. -/
theorem frame_SlotSumRefIdeal : Cert.quiescent_SlotSumRefIdeal := fun m g _ =>
  (θ_run Cert.SlotSumRefIdeal.defs _ _).mono (fun r h => And.intro (fun c => (h c).2) (sem_eq_zero_of_no_sems (by decide) r.2))
    (Cert.SlotSumRefIdeal.Value.run (F := Ideal) m g)

/-- The packing `Pack` terminates, leaves its arguments unchanged and has no semaphore. -/
theorem frame_Pack : Cert.quiescent_Pack := fun m g _ =>
  (θ_run Cert.Pack.defs _ _).mono (fun r h => And.intro (fun c => (h c).2) (sem_eq_zero_of_no_sems (by decide) r.2))
    (Cert.Pack.Value.run (F := Bits) m g)

/-- The packing `PackIdeal` terminates, leaves its arguments unchanged and has no semaphore. -/
theorem frame_PackIdeal : Cert.quiescent_PackIdeal := fun m g _ =>
  (θ_run Cert.PackIdeal.defs _ _).mono (fun r h => And.intro (fun c => (h c).2) (sem_eq_zero_of_no_sems (by decide) r.2))
    (Cert.PackIdeal.Value.run (F := Ideal) m g)

/-- The reference `PackRefIdeal` terminates, leaves its arguments unchanged and has no semaphore. -/
theorem frame_PackRefIdeal : Cert.quiescent_PackRefIdeal := fun m g _ =>
  (θ_run Cert.PackRefIdeal.defs _ _).mono (fun r h => And.intro (fun c => (h c).2) (sem_eq_zero_of_no_sems (by decide) r.2))
    (Cert.PackRefIdeal.Value.run (F := Ideal) m g)

/-- The unpacking `Unpack` terminates, leaves its argument unchanged and has no semaphore. -/
theorem frame_Unpack : Cert.quiescent_Unpack := fun m g _ =>
  (θ_run Cert.Unpack.defs _ _).mono (fun r h => And.intro (fun c => (h c).2.2.2.2.2.2.2.2.2.2.2.2.2.2.2) (sem_eq_zero_of_no_sems (by decide) r.2))
    (Cert.Unpack.Value.run (F := Bits) m g)

/-- The unpacking `UnpackIdeal` terminates, leaves its argument unchanged and has no semaphore. -/
theorem frame_UnpackIdeal : Cert.quiescent_UnpackIdeal := fun m g _ =>
  (θ_run Cert.UnpackIdeal.defs _ _).mono (fun r h => And.intro (fun c => (h c).2.2.2.2.2.2.2.2.2.2.2.2.2.2.2) (sem_eq_zero_of_no_sems (by decide) r.2))
    (Cert.UnpackIdeal.Value.run (F := Ideal) m g)

/-- The reference `UnpackRefIdeal` terminates, leaves its argument unchanged and has no semaphore. -/
theorem frame_UnpackRefIdeal : Cert.quiescent_UnpackRefIdeal := fun m g _ =>
  (θ_run Cert.UnpackRefIdeal.defs _ _).mono (fun r h => And.intro (fun c => (h c).2.2.2.2.2.2.2.2.2.2.2.2.2.2.2) (sem_eq_zero_of_no_sems (by decide) r.2))
    (Cert.UnpackRefIdeal.Value.run (F := Ideal) m g)

/-- Every claim of the certificate, in the order of `Cert.Claim`. -/
theorem claim : Cert.Claim :=
  ⟨Cert.OutBwd.Gen.facts,
    Cert.OutBwdIdeal.Gen.facts,
    Cert.OutBwdRefIdeal.Gen.facts,
    Cert.GluBwd.Gen.facts,
    Cert.GluBwdIdeal.Gen.facts,
    Cert.GluBwdRefIdeal.Gen.facts,
    Cert.ParamBwd.Gen.facts,
    Cert.ParamBwdIdeal.Gen.facts,
    Cert.ParamBwdRefIdeal.Gen.facts,
    Cert.InBwd.Gen.facts,
    Cert.InBwdIdeal.Gen.facts,
    Cert.InBwdRefIdeal.Gen.facts,
    Cert.Loss.Gen.facts,
    Cert.LossIdeal.Gen.facts,
    Cert.LossRefIdeal.Gen.facts,
    Cert.AttnFwd.Gen.facts,
    Cert.AttnFwdIdeal.Gen.facts,
    Cert.AttnFwdRefIdeal.Gen.facts,
    Cert.Gate.Gen.facts,
    Cert.GateIdeal.Gen.facts,
    Cert.GateRefIdeal.Gen.facts,
    Cert.Prep.Gen.facts,
    Cert.PrepIdeal.Gen.facts,
    Cert.PrepRefIdeal.Gen.facts,
    Cert.Rope.Gen.facts,
    Cert.RopeIdeal.Gen.facts,
    Cert.RopeRefIdeal.Gen.facts,
    Cert.GradIn.Gen.facts,
    Cert.GradInIdeal.Gen.facts,
    Cert.GradInRefIdeal.Gen.facts,
    Cert.AdamSmall.Gen.facts,
    Cert.AdamSmallIdeal.Gen.facts,
    Cert.AdamSmallRefIdeal.Gen.facts,
    Cert.AdamB.Gen.facts,
    Cert.AdamBIdeal.Gen.facts,
    Cert.AdamBRefIdeal.Gen.facts,
    Cert.AdamIn.Gen.facts,
    Cert.AdamInIdeal.Gen.facts,
    Cert.AdamInRefIdeal.Gen.facts,
    Cert.PairSum.Gen.facts,
    Cert.PairSumIdeal.Gen.facts,
    Cert.PairSumRefIdeal.Gen.facts,
    Cert.PeerSum.Gen.facts,
    Cert.PeerSumIdeal.Gen.facts,
    Cert.PeerSumRefIdeal.Gen.facts,
    Cert.SlotSum.Gen.facts,
    Cert.SlotSumIdeal.Gen.facts,
    Cert.SlotSumRefIdeal.Gen.facts,
    Cert.Pack.Gen.facts,
    Cert.PackIdeal.Gen.facts,
    Cert.PackRefIdeal.Gen.facts,
    Cert.Unpack.Gen.facts,
    Cert.UnpackIdeal.Gen.facts,
    Cert.UnpackRefIdeal.Gen.facts,
    Cert.AttnBwd.Gen.facts,
    Cert.AttnBwdIdeal.Gen.facts,
    Cert.AttnBwdRefIdeal.Gen.facts,
    Cert.Pre_glu_finite.Gen.facts,
    Cert.Pre_param_finite.Gen.facts,
    Cert.Pre_attn_fwd_finite.Gen.facts,
    Cert.Pre_prep_finite.Gen.facts,
    Cert.Pre_a_half.Gen.facts,
    Cert.Pre_a_chip.Gen.facts,
    fun m g _ => Cert.OutBwd.Gen.frame m g,
    fun m g _ => Cert.OutBwdIdeal.Gen.frame m g,
    frame_OutBwdRefIdeal,
    fun m g _ => Cert.GluBwd.Gen.frame m g,
    fun m g _ => Cert.GluBwdIdeal.Gen.frame m g,
    fun m g _ => Cert.GluBwdIdeal.Gen.frame m g,
    frame_GluBwdRefIdeal,
    fun m g _ => frame_GluBwdRefIdeal m g trivial,
    fun m g _ => Cert.ParamBwd.Gen.frame m g,
    fun m g _ => Cert.ParamBwdIdeal.Gen.frame m g,
    fun m g _ => Cert.ParamBwdIdeal.Gen.frame m g,
    frame_ParamBwdRefIdeal,
    fun m g _ => frame_ParamBwdRefIdeal m g trivial,
    fun m g _ => Cert.InBwd.Gen.frame m g,
    fun m g _ => Cert.InBwdIdeal.Gen.frame m g,
    frame_InBwdRefIdeal,
    fun m g _ => Cert.Loss.Gen.frame m g,
    fun m g _ => Cert.LossIdeal.Gen.frame m g,
    frame_LossRefIdeal,
    fun m g _ => Cert.AttnFwd.Gen.frame m g,
    fun m g _ => Cert.AttnFwdIdeal.Gen.frame m g,
    fun m g _ => Cert.AttnFwdIdeal.Gen.frame m g,
    frame_AttnFwdRefIdeal,
    fun m g _ => frame_AttnFwdRefIdeal m g trivial,
    fun m g _ => Cert.Gate.Gen.frame m g,
    fun m g _ => Cert.GateIdeal.Gen.frame m g,
    frame_GateRefIdeal,
    fun m g _ => Cert.Prep.Gen.frame m g,
    fun m g _ => Cert.PrepIdeal.Gen.frame m g,
    fun m g _ => Cert.PrepIdeal.Gen.frame m g,
    frame_PrepRefIdeal,
    fun m g _ => frame_PrepRefIdeal m g trivial,
    fun m g _ => Cert.Rope.Gen.frame m g,
    fun m g _ => Cert.RopeIdeal.Gen.frame m g,
    frame_RopeRefIdeal,
    fun m g _ => Cert.GradIn.Gen.frame m g,
    fun m g _ => Cert.GradInIdeal.Gen.frame m g,
    frame_GradInRefIdeal,
    fun m g _ => Cert.AdamSmall.Gen.frame m g,
    fun m g _ => Cert.AdamSmallIdeal.Gen.frame m g,
    frame_AdamSmallRefIdeal,
    fun m g _ => Cert.AdamB.Gen.frame m g,
    fun m g _ => Cert.AdamBIdeal.Gen.frame m g,
    frame_AdamBRefIdeal,
    fun m g _ => Cert.AdamIn.Gen.frame m g trivial,
    fun m g _ => Cert.AdamInIdeal.Gen.frame m g trivial,
    frame_AdamInRefIdeal,
    fun m g h => Cert.PairSum.Gen.frame m g (PairSum.ok_bits m h),
    fun m g h => Cert.PairSumIdeal.Gen.frame m g (PairSum.ok m h),
    frame_PairSumRefIdeal,
    fun m g _ => frame_PairSumRefIdeal m g trivial,
    fun m g h => Cert.PeerSum.Gen.frame m g (PeerSum.ok_bits m h),
    fun m g h => Cert.PeerSumIdeal.Gen.frame m g (PeerSum.ok m h),
    frame_PeerSumRefIdeal,
    fun m g _ => frame_PeerSumRefIdeal m g trivial,
    fun m g _ => Cert.SlotSum.Gen.frame m g,
    fun m g _ => Cert.SlotSumIdeal.Gen.frame m g,
    frame_SlotSumRefIdeal,
    frame_Pack,
    frame_PackIdeal,
    frame_PackRefIdeal,
    frame_Unpack,
    frame_UnpackIdeal,
    frame_UnpackRefIdeal,
    fun m g _ => Cert.AttnBwd.Gen.frame m g,
    fun m g _ => Cert.AttnBwdIdeal.Gen.frame m g,
    frame_AttnBwdRefIdeal,
    trivial,
    OutGrad.algebraic,
    ⟨IdealRules.named_const.statement Cert.GluBwdIdeal.κ "cube" .f32 0x3D372713#32 ((8943 / 200000 : ℝ) : EReal) rfl,
      IdealRules.named_const.statement Cert.GluBwdIdeal.κ "cube3" .f32 0x3E095D4F#32 ((26829 / 200000 : ℝ) : EReal) rfl⟩,
    GluGrad.algebraic,
    trivial,
    ParamGrad.algebraic,
    trivial,
    InGrad.algebraic,
    trivial,
    LossGrad.algebraic,
    IdealRules.named_const.statement Cert.AttnFwdIdeal.κ "mask" .f32 0xF149F2CA#32 ⊥ rfl,
    AttnFwd.algebraic,
    IdealRules.named_const.statement Cert.GateIdeal.κ "cube" .f32 0x3D372713#32 ((8943 / 200000 : ℝ) : EReal) rfl,
    GateFwd.algebraic,
    trivial,
    Prep.algebraic,
    trivial,
    RopeTab.algebraic,
    trivial,
    GradIn.algebraic,
    trivial,
    AdamSmall.algebraic,
    trivial,
    AdamB.algebraic,
    trivial,
    AdamIn.algebraic,
    trivial,
    PairSum.algebraic,
    trivial,
    PeerSum.algebraic,
    trivial,
    SlotSum.algebraic,
    trivial,
    Pack.algebraic,
    trivial,
    Unpack.algebraic,
    IdealRules.named_const.statement Cert.AttnBwdIdeal.κ "mask" .f32 0xF149F2CA#32 ⊥ rfl⟩

end Cert.Proof

end
